-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_KernelHidden (m : (ℓ : Loc Cert.KernelHidden.nD Cert.KernelHidden.τ Cert.KernelHidden.sig) → Buf (Elt Bits) ℓ) : Prop :=
  True

def Pre_KernelHiddenIdeal (m : (ℓ : Loc Cert.KernelHiddenIdeal.nD Cert.KernelHiddenIdeal.τ Cert.KernelHiddenIdeal.sig) → Buf (Elt Ideal) ℓ) : Prop :=
  True

def Pre_ReferenceHiddenIdeal (m : (ℓ : Loc Cert.ReferenceHiddenIdeal.nD Cert.ReferenceHiddenIdeal.τ Cert.ReferenceHiddenIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelDout (m : (ℓ : Loc Cert.KernelDout.nD Cert.KernelDout.τ Cert.KernelDout.sig) → Buf (Elt Bits) ℓ) : Prop :=
  True

def Pre_KernelDoutIdeal (m : (ℓ : Loc Cert.KernelDoutIdeal.nD Cert.KernelDoutIdeal.τ Cert.KernelDoutIdeal.sig) → Buf (Elt Ideal) ℓ) : Prop :=
  True

def Pre_ReferenceDoutIdeal (m : (ℓ : Loc Cert.ReferenceDoutIdeal.nD Cert.ReferenceDoutIdeal.τ Cert.ReferenceDoutIdeal.sig) → Buf (Elt Ideal) ℓ) : Prop :=
  True

def Pre_KernelDy (m : (ℓ : Loc Cert.KernelDy.nD Cert.KernelDy.τ Cert.KernelDy.sig) → Buf (Elt Bits) ℓ) : Prop :=
  True

def Pre_KernelDyIdeal (m : (ℓ : Loc Cert.KernelDyIdeal.nD Cert.KernelDyIdeal.τ Cert.KernelDyIdeal.sig) → Buf (Elt Ideal) ℓ) : Prop :=
  True

def Pre_ReferenceDyIdeal (m : (ℓ : Loc Cert.ReferenceDyIdeal.nD Cert.ReferenceDyIdeal.τ Cert.ReferenceDyIdeal.sig) → Buf (Elt Ideal) ℓ) : Prop :=
  True

def Pre_KernelNormIn (m : (ℓ : Loc Cert.KernelNormIn.nD Cert.KernelNormIn.τ Cert.KernelNormIn.sig) → Buf (Elt Bits) ℓ) : Prop :=
  True

def Pre_KernelNormInIdeal (m : (ℓ : Loc Cert.KernelNormInIdeal.nD Cert.KernelNormInIdeal.τ Cert.KernelNormInIdeal.sig) → Buf (Elt Ideal) ℓ) : Prop :=
  True

def Pre_ReferenceNormInIdeal (m : (ℓ : Loc Cert.ReferenceNormInIdeal.nD Cert.ReferenceNormInIdeal.τ Cert.ReferenceNormInIdeal.sig) → Buf (Elt Ideal) ℓ) : Prop :=
  True

def Pre_KernelFUp (m : (ℓ : Loc Cert.KernelFUp.nD Cert.KernelFUp.τ Cert.KernelFUp.sig) → Buf (Elt Bits) ℓ) : Prop :=
  True

def Pre_KernelFUpIdeal (m : (ℓ : Loc Cert.KernelFUpIdeal.nD Cert.KernelFUpIdeal.τ Cert.KernelFUpIdeal.sig) → Buf (Elt Ideal) ℓ) : Prop :=
  True

def Pre_ReferenceFUpIdeal (m : (ℓ : Loc Cert.ReferenceFUpIdeal.nD Cert.ReferenceFUpIdeal.τ Cert.ReferenceFUpIdeal.sig) → Buf (Elt Ideal) ℓ) : Prop :=
  True

def Pre_KernelFDown (m : (ℓ : Loc Cert.KernelFDown.nD Cert.KernelFDown.τ Cert.KernelFDown.sig) → Buf (Elt Bits) ℓ) : Prop :=
  True

def Pre_KernelFDownIdeal (m : (ℓ : Loc Cert.KernelFDownIdeal.nD Cert.KernelFDownIdeal.τ Cert.KernelFDownIdeal.sig) → Buf (Elt Ideal) ℓ) : Prop :=
  True

def Pre_ReferenceFDownIdeal (m : (ℓ : Loc Cert.ReferenceFDownIdeal.nD Cert.ReferenceFDownIdeal.τ Cert.ReferenceFDownIdeal.sig) → Buf (Elt Ideal) ℓ) : Prop :=
  True

def Pre_KernelFOut (m : (ℓ : Loc Cert.KernelFOut.nD Cert.KernelFOut.τ Cert.KernelFOut.sig) → Buf (Elt Bits) ℓ) : Prop :=
  True

def Pre_KernelFOutIdeal (m : (ℓ : Loc Cert.KernelFOutIdeal.nD Cert.KernelFOutIdeal.τ Cert.KernelFOutIdeal.sig) → Buf (Elt Ideal) ℓ) : Prop :=
  True

def Pre_ReferenceFOutIdeal (m : (ℓ : Loc Cert.ReferenceFOutIdeal.nD Cert.ReferenceFOutIdeal.τ Cert.ReferenceFOutIdeal.sig) → Buf (Elt Ideal) ℓ) : Prop :=
  True

def Pre_KernelFIn (m : (ℓ : Loc Cert.KernelFIn.nD Cert.KernelFIn.τ Cert.KernelFIn.sig) → Buf (Elt Bits) ℓ) : Prop :=
  True

def Pre_KernelFInIdeal (m : (ℓ : Loc Cert.KernelFInIdeal.nD Cert.KernelFInIdeal.τ Cert.KernelFInIdeal.sig) → Buf (Elt Ideal) ℓ) : Prop :=
  True

def Pre_ReferenceFInIdeal (m : (ℓ : Loc Cert.ReferenceFInIdeal.nD Cert.ReferenceFInIdeal.τ Cert.ReferenceFInIdeal.sig) → Buf (Elt Ideal) ℓ) : Prop :=
  True

def Pre_KernelFQ (m : (ℓ : Loc Cert.KernelFQ.nD Cert.KernelFQ.τ Cert.KernelFQ.sig) → Buf (Elt Bits) ℓ) : Prop :=
  True

def Pre_KernelFQIdeal (m : (ℓ : Loc Cert.KernelFQIdeal.nD Cert.KernelFQIdeal.τ Cert.KernelFQIdeal.sig) → Buf (Elt Ideal) ℓ) : Prop :=
  True

def Pre_ReferenceFQIdeal (m : (ℓ : Loc Cert.ReferenceFQIdeal.nD Cert.ReferenceFQIdeal.τ Cert.ReferenceFQIdeal.sig) → Buf (Elt Ideal) ℓ) : Prop :=
  True

def Pre_KernelNormQ (m : (ℓ : Loc Cert.KernelNormQ.nD Cert.KernelNormQ.τ Cert.KernelNormQ.sig) → Buf (Elt Bits) ℓ) : Prop :=
  True

def Pre_KernelNormQIdeal (m : (ℓ : Loc Cert.KernelNormQIdeal.nD Cert.KernelNormQIdeal.τ Cert.KernelNormQIdeal.sig) → Buf (Elt Ideal) ℓ) : Prop :=
  True

def Pre_ReferenceNormQIdeal (m : (ℓ : Loc Cert.ReferenceNormQIdeal.nD Cert.ReferenceNormQIdeal.τ Cert.ReferenceNormQIdeal.sig) → Buf (Elt Ideal) ℓ) : Prop :=
  True

def Pre_KernelFLast (m : (ℓ : Loc Cert.KernelFLast.nD Cert.KernelFLast.τ Cert.KernelFLast.sig) → Buf (Elt Bits) ℓ) : Prop :=
  True

def Pre_KernelFLastIdeal (m : (ℓ : Loc Cert.KernelFLastIdeal.nD Cert.KernelFLastIdeal.τ Cert.KernelFLastIdeal.sig) → Buf (Elt Ideal) ℓ) : Prop :=
  True

def Pre_ReferenceFLastIdeal (m : (ℓ : Loc Cert.ReferenceFLastIdeal.nD Cert.ReferenceFLastIdeal.τ Cert.ReferenceFLastIdeal.sig) → Buf (Elt Ideal) ℓ) : Prop :=
  True

def Pre_KernelFAttn (m : (ℓ : Loc Cert.KernelFAttn.nD Cert.KernelFAttn.τ Cert.KernelFAttn.sig) → Buf (Elt Bits) ℓ) : Prop :=
  True

def Pre_KernelFAttnIdeal (m : (ℓ : Loc Cert.KernelFAttnIdeal.nD Cert.KernelFAttnIdeal.τ Cert.KernelFAttnIdeal.sig) → Buf (Elt Ideal) ℓ) : Prop :=
  True

def Pre_ReferenceFAttnIdeal (m : (ℓ : Loc Cert.ReferenceFAttnIdeal.nD Cert.ReferenceFAttnIdeal.τ Cert.ReferenceFAttnIdeal.sig) → Buf (Elt Ideal) ℓ) : Prop :=
  True

def Pre_KernelFKv (m : (ℓ : Loc Cert.KernelFKv.nD Cert.KernelFKv.τ Cert.KernelFKv.sig) → Buf (Elt Bits) ℓ) : Prop :=
  True

def Pre_KernelFKvIdeal (m : (ℓ : Loc Cert.KernelFKvIdeal.nD Cert.KernelFKvIdeal.τ Cert.KernelFKvIdeal.sig) → Buf (Elt Ideal) ℓ) : Prop :=
  True

def Pre_ReferenceFKvIdeal (m : (ℓ : Loc Cert.ReferenceFKvIdeal.nD Cert.ReferenceFKvIdeal.τ Cert.ReferenceFKvIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelNormMem (m : (ℓ : Loc Cert.KernelNormMem.nD Cert.KernelNormMem.τ Cert.KernelNormMem.sig) → Buf (Elt Bits) ℓ) : Prop :=
  True

def Pre_KernelNormMemIdeal (m : (ℓ : Loc Cert.KernelNormMemIdeal.nD Cert.KernelNormMemIdeal.τ Cert.KernelNormMemIdeal.sig) → Buf (Elt Ideal) ℓ) : Prop :=
  True

def Pre_ReferenceNormMemIdeal (m : (ℓ : Loc Cert.ReferenceNormMemIdeal.nD Cert.ReferenceNormMemIdeal.τ Cert.ReferenceNormMemIdeal.sig) → Buf (Elt Ideal) ℓ) : Prop :=
  True

def Pre_KernelFNorm (m : (ℓ : Loc Cert.KernelFNorm.nD Cert.KernelFNorm.τ Cert.KernelFNorm.sig) → Buf (Elt Bits) ℓ) : Prop :=
  True

def Pre_KernelFNormIdeal (m : (ℓ : Loc Cert.KernelFNormIdeal.nD Cert.KernelFNormIdeal.τ Cert.KernelFNormIdeal.sig) → Buf (Elt Ideal) ℓ) : Prop :=
  True

def Pre_ReferenceFNormIdeal (m : (ℓ : Loc Cert.ReferenceFNormIdeal.nD Cert.ReferenceFNormIdeal.τ Cert.ReferenceFNormIdeal.sig) → Buf (Elt Ideal) ℓ) : Prop :=
  True

def Pre_KernelFNormMem (m : (ℓ : Loc Cert.KernelFNormMem.nD Cert.KernelFNormMem.τ Cert.KernelFNormMem.sig) → Buf (Elt Bits) ℓ) : Prop :=
  True

def Pre_KernelFNormMemIdeal (m : (ℓ : Loc Cert.KernelFNormMemIdeal.nD Cert.KernelFNormMemIdeal.τ Cert.KernelFNormMemIdeal.sig) → Buf (Elt Ideal) ℓ) : Prop :=
  True

def Pre_ReferenceFNormMemIdeal (m : (ℓ : Loc Cert.ReferenceFNormMemIdeal.nD Cert.ReferenceFNormMemIdeal.τ Cert.ReferenceFNormMemIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamSq (m : (ℓ : Loc Cert.KernelAdamSq.nD Cert.KernelAdamSq.τ Cert.KernelAdamSq.sig) → Buf (Elt Bits) ℓ) : Prop :=
  True

def Pre_KernelAdamSqIdeal (m : (ℓ : Loc Cert.KernelAdamSqIdeal.nD Cert.KernelAdamSqIdeal.τ Cert.KernelAdamSqIdeal.sig) → Buf (Elt Ideal) ℓ) : Prop :=
  True

def Pre_ReferenceAdamSqIdeal (m : (ℓ : Loc Cert.ReferenceAdamSqIdeal.nD Cert.ReferenceAdamSqIdeal.τ Cert.ReferenceAdamSqIdeal.sig) → Buf (Elt Ideal) ℓ) : Prop :=
  True

def Pre_KernelAdamKv (m : (ℓ : Loc Cert.KernelAdamKv.nD Cert.KernelAdamKv.τ Cert.KernelAdamKv.sig) → Buf (Elt Bits) ℓ) : Prop :=
  True

def Pre_KernelAdamKvIdeal (m : (ℓ : Loc Cert.KernelAdamKvIdeal.nD Cert.KernelAdamKvIdeal.τ Cert.KernelAdamKvIdeal.sig) → Buf (Elt Ideal) ℓ) : Prop :=
  True

def Pre_ReferenceAdamKvIdeal (m : (ℓ : Loc Cert.ReferenceAdamKvIdeal.nD Cert.ReferenceAdamKvIdeal.τ Cert.ReferenceAdamKvIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelSum (m : (ℓ : Loc Cert.KernelSum.nD Cert.KernelSum.τ Cert.KernelSum.sig) → Buf (Elt Bits) ℓ) : Prop :=
  True

def Pre_KernelSumIdeal (m : (ℓ : Loc Cert.KernelSumIdeal.nD Cert.KernelSumIdeal.τ Cert.KernelSumIdeal.sig) → Buf (Elt Ideal) ℓ) : Prop :=
  True

def Pre_ReferenceSumIdeal (m : (ℓ : Loc Cert.ReferenceSumIdeal.nD Cert.ReferenceSumIdeal.τ Cert.ReferenceSumIdeal.sig) → Buf (Elt Ideal) ℓ) : Prop :=
  True

def Pre_KernelLnF (m : (ℓ : Loc Cert.KernelLnF.nD Cert.KernelLnF.τ Cert.KernelLnF.sig) → Buf (Elt Bits) ℓ) : Prop :=
  True

def Pre_KernelLnFIdeal (m : (ℓ : Loc Cert.KernelLnFIdeal.nD Cert.KernelLnFIdeal.τ Cert.KernelLnFIdeal.sig) → Buf (Elt Ideal) ℓ) : Prop :=
  True

def Pre_ReferenceLnFIdeal (m : (ℓ : Loc Cert.ReferenceLnFIdeal.nD Cert.ReferenceLnFIdeal.τ Cert.ReferenceLnFIdeal.sig) → Buf (Elt Ideal) ℓ) : Prop :=
  True

def Pre_KernelMixBF (m : (ℓ : Loc Cert.KernelMixBF.nD Cert.KernelMixBF.τ Cert.KernelMixBF.sig) → Buf (Elt Bits) ℓ) : Prop :=
  True

def Pre_KernelMixBFIdeal (m : (ℓ : Loc Cert.KernelMixBFIdeal.nD Cert.KernelMixBFIdeal.τ Cert.KernelMixBFIdeal.sig) → Buf (Elt Ideal) ℓ) : Prop :=
  True

def Pre_ReferenceMixBFIdeal (m : (ℓ : Loc Cert.ReferenceMixBFIdeal.nD Cert.ReferenceMixBFIdeal.τ Cert.ReferenceMixBFIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelHidden [hKernelHidden : Cert.KernelHidden.Facts] : Prop :=
  ∀ (m : (ℓ : Loc Cert.KernelHidden.nD Cert.KernelHidden.τ Cert.KernelHidden.sig) → Buf (Elt Bits) ℓ) (g : Dev Cert.KernelHidden.nD → PrngReg), Pre_KernelHidden m →
    θ_run (Cert.KernelHidden.defs (F := Bits)) (onTc (τ := Cert.KernelHidden.τ) (Cert.KernelHidden.main (F := Bits))) ⟨m, fun _ => 0, g⟩ (fun r => (∀ c : Dev Cert.KernelHidden.nD,
      r.2.mem ((c.tc : Thread Cert.KernelHidden.nD Cert.KernelHidden.τ).loc Cert.KernelHidden.main_arg0) = m ((c.tc : Thread Cert.KernelHidden.nD Cert.KernelHidden.τ).loc Cert.KernelHidden.main_arg0)
      ∧ r.2.mem ((c.tc : Thread Cert.KernelHidden.nD Cert.KernelHidden.τ).loc Cert.KernelHidden.main_arg1) = m ((c.tc : Thread Cert.KernelHidden.nD Cert.KernelHidden.τ).loc Cert.KernelHidden.main_arg1)
      ∧ r.2.mem ((c.tc : Thread Cert.KernelHidden.nD Cert.KernelHidden.τ).loc Cert.KernelHidden.main_arg2) = m ((c.tc : Thread Cert.KernelHidden.nD Cert.KernelHidden.τ).loc Cert.KernelHidden.main_arg2))
      ∧ r.2.sem = fun _ => 0)

def quiescent_KernelHiddenIdeal [hKernelHiddenIdeal : Cert.KernelHiddenIdeal.Facts] : Prop :=
  ∀ (m : (ℓ : Loc Cert.KernelHiddenIdeal.nD Cert.KernelHiddenIdeal.τ Cert.KernelHiddenIdeal.sig) → Buf (Elt Ideal) ℓ) (g : Dev Cert.KernelHiddenIdeal.nD → PrngReg), Pre_KernelHiddenIdeal m →
    θ_run (Cert.KernelHiddenIdeal.defs (F := Ideal)) (onTc (τ := Cert.KernelHiddenIdeal.τ) (Cert.KernelHiddenIdeal.main (F := Ideal))) ⟨m, fun _ => 0, g⟩ (fun r => (∀ c : Dev Cert.KernelHiddenIdeal.nD,
      r.2.mem ((c.tc : Thread Cert.KernelHiddenIdeal.nD Cert.KernelHiddenIdeal.τ).loc Cert.KernelHiddenIdeal.main_arg0) = m ((c.tc : Thread Cert.KernelHiddenIdeal.nD Cert.KernelHiddenIdeal.τ).loc Cert.KernelHiddenIdeal.main_arg0)
      ∧ r.2.mem ((c.tc : Thread Cert.KernelHiddenIdeal.nD Cert.KernelHiddenIdeal.τ).loc Cert.KernelHiddenIdeal.main_arg1) = m ((c.tc : Thread Cert.KernelHiddenIdeal.nD Cert.KernelHiddenIdeal.τ).loc Cert.KernelHiddenIdeal.main_arg1)
      ∧ r.2.mem ((c.tc : Thread Cert.KernelHiddenIdeal.nD Cert.KernelHiddenIdeal.τ).loc Cert.KernelHiddenIdeal.main_arg2) = m ((c.tc : Thread Cert.KernelHiddenIdeal.nD Cert.KernelHiddenIdeal.τ).loc Cert.KernelHiddenIdeal.main_arg2))
      ∧ r.2.sem = fun _ => 0)

def quiescent_ReferenceHiddenIdeal [hReferenceHiddenIdeal : Cert.ReferenceHiddenIdeal.Facts] : Prop :=
  ∀ (m : (ℓ : Loc Cert.ReferenceHiddenIdeal.nD Cert.ReferenceHiddenIdeal.τ Cert.ReferenceHiddenIdeal.sig) → Buf (Elt Ideal) ℓ) (g : Dev Cert.ReferenceHiddenIdeal.nD → PrngReg), Pre_ReferenceHiddenIdeal m →
    θ_run (Cert.ReferenceHiddenIdeal.defs (F := Ideal)) (onTc (τ := Cert.ReferenceHiddenIdeal.τ) (Cert.ReferenceHiddenIdeal.main (F := Ideal))) ⟨m, fun _ => 0, g⟩ (fun r => (∀ c : Dev Cert.ReferenceHiddenIdeal.nD,
      r.2.mem ((c.tc : Thread Cert.ReferenceHiddenIdeal.nD Cert.ReferenceHiddenIdeal.τ).loc Cert.ReferenceHiddenIdeal.main_arg0) = m ((c.tc : Thread Cert.ReferenceHiddenIdeal.nD Cert.ReferenceHiddenIdeal.τ).loc Cert.ReferenceHiddenIdeal.main_arg0)
      ∧ r.2.mem ((c.tc : Thread Cert.ReferenceHiddenIdeal.nD Cert.ReferenceHiddenIdeal.τ).loc Cert.ReferenceHiddenIdeal.main_arg1) = m ((c.tc : Thread Cert.ReferenceHiddenIdeal.nD Cert.ReferenceHiddenIdeal.τ).loc Cert.ReferenceHiddenIdeal.main_arg1)
      ∧ r.2.mem ((c.tc : Thread Cert.ReferenceHiddenIdeal.nD Cert.ReferenceHiddenIdeal.τ).loc Cert.ReferenceHiddenIdeal.main_arg2) = m ((c.tc : Thread Cert.ReferenceHiddenIdeal.nD Cert.ReferenceHiddenIdeal.τ).loc Cert.ReferenceHiddenIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelDout [hKernelDout : Cert.KernelDout.Facts] : Prop :=
  ∀ (m : (ℓ : Loc Cert.KernelDout.nD Cert.KernelDout.τ Cert.KernelDout.sig) → Buf (Elt Bits) ℓ) (g : Dev Cert.KernelDout.nD → PrngReg), Pre_KernelDout m →
    θ_run (Cert.KernelDout.defs (F := Bits)) (onTc (τ := Cert.KernelDout.τ) (Cert.KernelDout.main (F := Bits))) ⟨m, fun _ => 0, g⟩ (fun r => (∀ c : Dev Cert.KernelDout.nD,
      r.2.mem ((c.tc : Thread Cert.KernelDout.nD Cert.KernelDout.τ).loc Cert.KernelDout.main_arg0) = m ((c.tc : Thread Cert.KernelDout.nD Cert.KernelDout.τ).loc Cert.KernelDout.main_arg0)
      ∧ r.2.mem ((c.tc : Thread Cert.KernelDout.nD Cert.KernelDout.τ).loc Cert.KernelDout.main_arg1) = m ((c.tc : Thread Cert.KernelDout.nD Cert.KernelDout.τ).loc Cert.KernelDout.main_arg1))
      ∧ r.2.sem = fun _ => 0)

def quiescent_KernelDoutIdeal [hKernelDoutIdeal : Cert.KernelDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg), Pre_KernelDoutIdeal m →
    θ_run (Cert.KernelDoutIdeal.defs (F := Ideal)) (onTc (τ := Cert.KernelDoutIdeal.τ) (Cert.KernelDoutIdeal.main (F := Ideal))) ⟨m, fun _ => 0, g⟩ (fun r => (∀ c : Dev Cert.KernelDoutIdeal.nD,
      r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
      ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1))
      ∧ r.2.sem = fun _ => 0)

def quiescent_ReferenceDoutIdeal [hReferenceDoutIdeal : Cert.ReferenceDoutIdeal.Facts] : Prop :=
  ∀ (m : (ℓ : Loc Cert.ReferenceDoutIdeal.nD Cert.ReferenceDoutIdeal.τ Cert.ReferenceDoutIdeal.sig) → Buf (Elt Ideal) ℓ) (g : Dev Cert.ReferenceDoutIdeal.nD → PrngReg), Pre_ReferenceDoutIdeal m →
    θ_run (Cert.ReferenceDoutIdeal.defs (F := Ideal)) (onTc (τ := Cert.ReferenceDoutIdeal.τ) (Cert.ReferenceDoutIdeal.main (F := Ideal))) ⟨m, fun _ => 0, g⟩ (fun r => (∀ c : Dev Cert.ReferenceDoutIdeal.nD,
      r.2.mem ((c.tc : Thread Cert.ReferenceDoutIdeal.nD Cert.ReferenceDoutIdeal.τ).loc Cert.ReferenceDoutIdeal.main_arg0) = m ((c.tc : Thread Cert.ReferenceDoutIdeal.nD Cert.ReferenceDoutIdeal.τ).loc Cert.ReferenceDoutIdeal.main_arg0)
      ∧ r.2.mem ((c.tc : Thread Cert.ReferenceDoutIdeal.nD Cert.ReferenceDoutIdeal.τ).loc Cert.ReferenceDoutIdeal.main_arg1) = m ((c.tc : Thread Cert.ReferenceDoutIdeal.nD Cert.ReferenceDoutIdeal.τ).loc Cert.ReferenceDoutIdeal.main_arg1))
      ∧ r.2.sem = fun _ => 0)

def quiescent_KernelDy [hKernelDy : Cert.KernelDy.Facts] : Prop :=
  ∀ (m : (ℓ : Loc Cert.KernelDy.nD Cert.KernelDy.τ Cert.KernelDy.sig) → Buf (Elt Bits) ℓ) (g : Dev Cert.KernelDy.nD → PrngReg), Pre_KernelDy m →
    θ_run (Cert.KernelDy.defs (F := Bits)) (onTc (τ := Cert.KernelDy.τ) (Cert.KernelDy.main (F := Bits))) ⟨m, fun _ => 0, g⟩ (fun r => (∀ c : Dev Cert.KernelDy.nD,
      r.2.mem ((c.tc : Thread Cert.KernelDy.nD Cert.KernelDy.τ).loc Cert.KernelDy.main_arg0) = m ((c.tc : Thread Cert.KernelDy.nD Cert.KernelDy.τ).loc Cert.KernelDy.main_arg0)
      ∧ r.2.mem ((c.tc : Thread Cert.KernelDy.nD Cert.KernelDy.τ).loc Cert.KernelDy.main_arg1) = m ((c.tc : Thread Cert.KernelDy.nD Cert.KernelDy.τ).loc Cert.KernelDy.main_arg1))
      ∧ r.2.sem = fun _ => 0)

def quiescent_KernelDyIdeal [hKernelDyIdeal : Cert.KernelDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg), Pre_KernelDyIdeal m →
    θ_run (Cert.KernelDyIdeal.defs (F := Ideal)) (onTc (τ := Cert.KernelDyIdeal.τ) (Cert.KernelDyIdeal.main (F := Ideal))) ⟨m, fun _ => 0, g⟩ (fun r => (∀ c : Dev Cert.KernelDyIdeal.nD,
      r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
      ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1))
      ∧ r.2.sem = fun _ => 0)

def quiescent_ReferenceDyIdeal [hReferenceDyIdeal : Cert.ReferenceDyIdeal.Facts] : Prop :=
  ∀ (m : (ℓ : Loc Cert.ReferenceDyIdeal.nD Cert.ReferenceDyIdeal.τ Cert.ReferenceDyIdeal.sig) → Buf (Elt Ideal) ℓ) (g : Dev Cert.ReferenceDyIdeal.nD → PrngReg), Pre_ReferenceDyIdeal m →
    θ_run (Cert.ReferenceDyIdeal.defs (F := Ideal)) (onTc (τ := Cert.ReferenceDyIdeal.τ) (Cert.ReferenceDyIdeal.main (F := Ideal))) ⟨m, fun _ => 0, g⟩ (fun r => (∀ c : Dev Cert.ReferenceDyIdeal.nD,
      r.2.mem ((c.tc : Thread Cert.ReferenceDyIdeal.nD Cert.ReferenceDyIdeal.τ).loc Cert.ReferenceDyIdeal.main_arg0) = m ((c.tc : Thread Cert.ReferenceDyIdeal.nD Cert.ReferenceDyIdeal.τ).loc Cert.ReferenceDyIdeal.main_arg0)
      ∧ r.2.mem ((c.tc : Thread Cert.ReferenceDyIdeal.nD Cert.ReferenceDyIdeal.τ).loc Cert.ReferenceDyIdeal.main_arg1) = m ((c.tc : Thread Cert.ReferenceDyIdeal.nD Cert.ReferenceDyIdeal.τ).loc Cert.ReferenceDyIdeal.main_arg1))
      ∧ r.2.sem = fun _ => 0)

def quiescent_KernelNormIn [hKernelNormIn : Cert.KernelNormIn.Facts] : Prop :=
  ∀ (m : (ℓ : Loc Cert.KernelNormIn.nD Cert.KernelNormIn.τ Cert.KernelNormIn.sig) → Buf (Elt Bits) ℓ) (g : Dev Cert.KernelNormIn.nD → PrngReg), Pre_KernelNormIn m →
    θ_run (Cert.KernelNormIn.defs (F := Bits)) (onTc (τ := Cert.KernelNormIn.τ) (Cert.KernelNormIn.main (F := Bits))) ⟨m, fun _ => 0, g⟩ (fun r => (∀ c : Dev Cert.KernelNormIn.nD,
      r.2.mem ((c.tc : Thread Cert.KernelNormIn.nD Cert.KernelNormIn.τ).loc Cert.KernelNormIn.main_arg0) = m ((c.tc : Thread Cert.KernelNormIn.nD Cert.KernelNormIn.τ).loc Cert.KernelNormIn.main_arg0)
      ∧ r.2.mem ((c.tc : Thread Cert.KernelNormIn.nD Cert.KernelNormIn.τ).loc Cert.KernelNormIn.main_arg1) = m ((c.tc : Thread Cert.KernelNormIn.nD Cert.KernelNormIn.τ).loc Cert.KernelNormIn.main_arg1)
      ∧ r.2.mem ((c.tc : Thread Cert.KernelNormIn.nD Cert.KernelNormIn.τ).loc Cert.KernelNormIn.main_arg2) = m ((c.tc : Thread Cert.KernelNormIn.nD Cert.KernelNormIn.τ).loc Cert.KernelNormIn.main_arg2)
      ∧ r.2.mem ((c.tc : Thread Cert.KernelNormIn.nD Cert.KernelNormIn.τ).loc Cert.KernelNormIn.main_arg3) = m ((c.tc : Thread Cert.KernelNormIn.nD Cert.KernelNormIn.τ).loc Cert.KernelNormIn.main_arg3)
      ∧ r.2.mem ((c.tc : Thread Cert.KernelNormIn.nD Cert.KernelNormIn.τ).loc Cert.KernelNormIn.main_arg4) = m ((c.tc : Thread Cert.KernelNormIn.nD Cert.KernelNormIn.τ).loc Cert.KernelNormIn.main_arg4))
      ∧ r.2.sem = fun _ => 0)

def quiescent_KernelNormInIdeal [hKernelNormInIdeal : Cert.KernelNormInIdeal.Facts] : Prop :=
  ∀ (m : (ℓ : Loc Cert.KernelNormInIdeal.nD Cert.KernelNormInIdeal.τ Cert.KernelNormInIdeal.sig) → Buf (Elt Ideal) ℓ) (g : Dev Cert.KernelNormInIdeal.nD → PrngReg), Pre_KernelNormInIdeal m →
    θ_run (Cert.KernelNormInIdeal.defs (F := Ideal)) (onTc (τ := Cert.KernelNormInIdeal.τ) (Cert.KernelNormInIdeal.main (F := Ideal))) ⟨m, fun _ => 0, g⟩ (fun r => (∀ c : Dev Cert.KernelNormInIdeal.nD,
      r.2.mem ((c.tc : Thread Cert.KernelNormInIdeal.nD Cert.KernelNormInIdeal.τ).loc Cert.KernelNormInIdeal.main_arg0) = m ((c.tc : Thread Cert.KernelNormInIdeal.nD Cert.KernelNormInIdeal.τ).loc Cert.KernelNormInIdeal.main_arg0)
      ∧ r.2.mem ((c.tc : Thread Cert.KernelNormInIdeal.nD Cert.KernelNormInIdeal.τ).loc Cert.KernelNormInIdeal.main_arg1) = m ((c.tc : Thread Cert.KernelNormInIdeal.nD Cert.KernelNormInIdeal.τ).loc Cert.KernelNormInIdeal.main_arg1)
      ∧ r.2.mem ((c.tc : Thread Cert.KernelNormInIdeal.nD Cert.KernelNormInIdeal.τ).loc Cert.KernelNormInIdeal.main_arg2) = m ((c.tc : Thread Cert.KernelNormInIdeal.nD Cert.KernelNormInIdeal.τ).loc Cert.KernelNormInIdeal.main_arg2)
      ∧ r.2.mem ((c.tc : Thread Cert.KernelNormInIdeal.nD Cert.KernelNormInIdeal.τ).loc Cert.KernelNormInIdeal.main_arg3) = m ((c.tc : Thread Cert.KernelNormInIdeal.nD Cert.KernelNormInIdeal.τ).loc Cert.KernelNormInIdeal.main_arg3)
      ∧ r.2.mem ((c.tc : Thread Cert.KernelNormInIdeal.nD Cert.KernelNormInIdeal.τ).loc Cert.KernelNormInIdeal.main_arg4) = m ((c.tc : Thread Cert.KernelNormInIdeal.nD Cert.KernelNormInIdeal.τ).loc Cert.KernelNormInIdeal.main_arg4))
      ∧ r.2.sem = fun _ => 0)

def quiescent_ReferenceNormInIdeal [hReferenceNormInIdeal : Cert.ReferenceNormInIdeal.Facts] : Prop :=
  ∀ (m : (ℓ : Loc Cert.ReferenceNormInIdeal.nD Cert.ReferenceNormInIdeal.τ Cert.ReferenceNormInIdeal.sig) → Buf (Elt Ideal) ℓ) (g : Dev Cert.ReferenceNormInIdeal.nD → PrngReg), Pre_ReferenceNormInIdeal m →
    θ_run (Cert.ReferenceNormInIdeal.defs (F := Ideal)) (onTc (τ := Cert.ReferenceNormInIdeal.τ) (Cert.ReferenceNormInIdeal.main (F := Ideal))) ⟨m, fun _ => 0, g⟩ (fun r => (∀ c : Dev Cert.ReferenceNormInIdeal.nD,
      r.2.mem ((c.tc : Thread Cert.ReferenceNormInIdeal.nD Cert.ReferenceNormInIdeal.τ).loc Cert.ReferenceNormInIdeal.main_arg0) = m ((c.tc : Thread Cert.ReferenceNormInIdeal.nD Cert.ReferenceNormInIdeal.τ).loc Cert.ReferenceNormInIdeal.main_arg0)
      ∧ r.2.mem ((c.tc : Thread Cert.ReferenceNormInIdeal.nD Cert.ReferenceNormInIdeal.τ).loc Cert.ReferenceNormInIdeal.main_arg1) = m ((c.tc : Thread Cert.ReferenceNormInIdeal.nD Cert.ReferenceNormInIdeal.τ).loc Cert.ReferenceNormInIdeal.main_arg1)
      ∧ r.2.mem ((c.tc : Thread Cert.ReferenceNormInIdeal.nD Cert.ReferenceNormInIdeal.τ).loc Cert.ReferenceNormInIdeal.main_arg2) = m ((c.tc : Thread Cert.ReferenceNormInIdeal.nD Cert.ReferenceNormInIdeal.τ).loc Cert.ReferenceNormInIdeal.main_arg2)
      ∧ r.2.mem ((c.tc : Thread Cert.ReferenceNormInIdeal.nD Cert.ReferenceNormInIdeal.τ).loc Cert.ReferenceNormInIdeal.main_arg3) = m ((c.tc : Thread Cert.ReferenceNormInIdeal.nD Cert.ReferenceNormInIdeal.τ).loc Cert.ReferenceNormInIdeal.main_arg3)
      ∧ r.2.mem ((c.tc : Thread Cert.ReferenceNormInIdeal.nD Cert.ReferenceNormInIdeal.τ).loc Cert.ReferenceNormInIdeal.main_arg4) = m ((c.tc : Thread Cert.ReferenceNormInIdeal.nD Cert.ReferenceNormInIdeal.τ).loc Cert.ReferenceNormInIdeal.main_arg4))
      ∧ r.2.sem = fun _ => 0)

def quiescent_KernelFUp [hKernelFUp : Cert.KernelFUp.Facts] : Prop :=
  ∀ (m : (ℓ : Loc Cert.KernelFUp.nD Cert.KernelFUp.τ Cert.KernelFUp.sig) → Buf (Elt Bits) ℓ) (g : Dev Cert.KernelFUp.nD → PrngReg), Pre_KernelFUp m →
    θ_run (Cert.KernelFUp.defs (F := Bits)) (onTc (τ := Cert.KernelFUp.τ) (Cert.KernelFUp.main (F := Bits))) ⟨m, fun _ => 0, g⟩ (fun r => (∀ c : Dev Cert.KernelFUp.nD,
      r.2.mem ((c.tc : Thread Cert.KernelFUp.nD Cert.KernelFUp.τ).loc Cert.KernelFUp.main_arg0) = m ((c.tc : Thread Cert.KernelFUp.nD Cert.KernelFUp.τ).loc Cert.KernelFUp.main_arg0)
      ∧ r.2.mem ((c.tc : Thread Cert.KernelFUp.nD Cert.KernelFUp.τ).loc Cert.KernelFUp.main_arg1) = m ((c.tc : Thread Cert.KernelFUp.nD Cert.KernelFUp.τ).loc Cert.KernelFUp.main_arg1))
      ∧ r.2.sem = fun _ => 0)

def quiescent_KernelFUpIdeal [hKernelFUpIdeal : Cert.KernelFUpIdeal.Facts] : Prop :=
  ∀ (m : (ℓ : Loc Cert.KernelFUpIdeal.nD Cert.KernelFUpIdeal.τ Cert.KernelFUpIdeal.sig) → Buf (Elt Ideal) ℓ) (g : Dev Cert.KernelFUpIdeal.nD → PrngReg), Pre_KernelFUpIdeal m →
    θ_run (Cert.KernelFUpIdeal.defs (F := Ideal)) (onTc (τ := Cert.KernelFUpIdeal.τ) (Cert.KernelFUpIdeal.main (F := Ideal))) ⟨m, fun _ => 0, g⟩ (fun r => (∀ c : Dev Cert.KernelFUpIdeal.nD,
      r.2.mem ((c.tc : Thread Cert.KernelFUpIdeal.nD Cert.KernelFUpIdeal.τ).loc Cert.KernelFUpIdeal.main_arg0) = m ((c.tc : Thread Cert.KernelFUpIdeal.nD Cert.KernelFUpIdeal.τ).loc Cert.KernelFUpIdeal.main_arg0)
      ∧ r.2.mem ((c.tc : Thread Cert.KernelFUpIdeal.nD Cert.KernelFUpIdeal.τ).loc Cert.KernelFUpIdeal.main_arg1) = m ((c.tc : Thread Cert.KernelFUpIdeal.nD Cert.KernelFUpIdeal.τ).loc Cert.KernelFUpIdeal.main_arg1))
      ∧ r.2.sem = fun _ => 0)

def quiescent_ReferenceFUpIdeal [hReferenceFUpIdeal : Cert.ReferenceFUpIdeal.Facts] : Prop :=
  ∀ (m : (ℓ : Loc Cert.ReferenceFUpIdeal.nD Cert.ReferenceFUpIdeal.τ Cert.ReferenceFUpIdeal.sig) → Buf (Elt Ideal) ℓ) (g : Dev Cert.ReferenceFUpIdeal.nD → PrngReg), Pre_ReferenceFUpIdeal m →
    θ_run (Cert.ReferenceFUpIdeal.defs (F := Ideal)) (onTc (τ := Cert.ReferenceFUpIdeal.τ) (Cert.ReferenceFUpIdeal.main (F := Ideal))) ⟨m, fun _ => 0, g⟩ (fun r => (∀ c : Dev Cert.ReferenceFUpIdeal.nD,
      r.2.mem ((c.tc : Thread Cert.ReferenceFUpIdeal.nD Cert.ReferenceFUpIdeal.τ).loc Cert.ReferenceFUpIdeal.main_arg0) = m ((c.tc : Thread Cert.ReferenceFUpIdeal.nD Cert.ReferenceFUpIdeal.τ).loc Cert.ReferenceFUpIdeal.main_arg0)
      ∧ r.2.mem ((c.tc : Thread Cert.ReferenceFUpIdeal.nD Cert.ReferenceFUpIdeal.τ).loc Cert.ReferenceFUpIdeal.main_arg1) = m ((c.tc : Thread Cert.ReferenceFUpIdeal.nD Cert.ReferenceFUpIdeal.τ).loc Cert.ReferenceFUpIdeal.main_arg1))
      ∧ r.2.sem = fun _ => 0)

def quiescent_KernelFDown [hKernelFDown : Cert.KernelFDown.Facts] : Prop :=
  ∀ (m : (ℓ : Loc Cert.KernelFDown.nD Cert.KernelFDown.τ Cert.KernelFDown.sig) → Buf (Elt Bits) ℓ) (g : Dev Cert.KernelFDown.nD → PrngReg), Pre_KernelFDown m →
    θ_run (Cert.KernelFDown.defs (F := Bits)) (onTc (τ := Cert.KernelFDown.τ) (Cert.KernelFDown.main (F := Bits))) ⟨m, fun _ => 0, g⟩ (fun r => (∀ c : Dev Cert.KernelFDown.nD,
      r.2.mem ((c.tc : Thread Cert.KernelFDown.nD Cert.KernelFDown.τ).loc Cert.KernelFDown.main_arg0) = m ((c.tc : Thread Cert.KernelFDown.nD Cert.KernelFDown.τ).loc Cert.KernelFDown.main_arg0)
      ∧ r.2.mem ((c.tc : Thread Cert.KernelFDown.nD Cert.KernelFDown.τ).loc Cert.KernelFDown.main_arg1) = m ((c.tc : Thread Cert.KernelFDown.nD Cert.KernelFDown.τ).loc Cert.KernelFDown.main_arg1)
      ∧ r.2.mem ((c.tc : Thread Cert.KernelFDown.nD Cert.KernelFDown.τ).loc Cert.KernelFDown.main_arg2) = m ((c.tc : Thread Cert.KernelFDown.nD Cert.KernelFDown.τ).loc Cert.KernelFDown.main_arg2)
      ∧ r.2.mem ((c.tc : Thread Cert.KernelFDown.nD Cert.KernelFDown.τ).loc Cert.KernelFDown.main_arg3) = m ((c.tc : Thread Cert.KernelFDown.nD Cert.KernelFDown.τ).loc Cert.KernelFDown.main_arg3))
      ∧ r.2.sem = fun _ => 0)

def quiescent_KernelFDownIdeal [hKernelFDownIdeal : Cert.KernelFDownIdeal.Facts] : Prop :=
  ∀ (m : (ℓ : Loc Cert.KernelFDownIdeal.nD Cert.KernelFDownIdeal.τ Cert.KernelFDownIdeal.sig) → Buf (Elt Ideal) ℓ) (g : Dev Cert.KernelFDownIdeal.nD → PrngReg), Pre_KernelFDownIdeal m →
    θ_run (Cert.KernelFDownIdeal.defs (F := Ideal)) (onTc (τ := Cert.KernelFDownIdeal.τ) (Cert.KernelFDownIdeal.main (F := Ideal))) ⟨m, fun _ => 0, g⟩ (fun r => (∀ c : Dev Cert.KernelFDownIdeal.nD,
      r.2.mem ((c.tc : Thread Cert.KernelFDownIdeal.nD Cert.KernelFDownIdeal.τ).loc Cert.KernelFDownIdeal.main_arg0) = m ((c.tc : Thread Cert.KernelFDownIdeal.nD Cert.KernelFDownIdeal.τ).loc Cert.KernelFDownIdeal.main_arg0)
      ∧ r.2.mem ((c.tc : Thread Cert.KernelFDownIdeal.nD Cert.KernelFDownIdeal.τ).loc Cert.KernelFDownIdeal.main_arg1) = m ((c.tc : Thread Cert.KernelFDownIdeal.nD Cert.KernelFDownIdeal.τ).loc Cert.KernelFDownIdeal.main_arg1)
      ∧ r.2.mem ((c.tc : Thread Cert.KernelFDownIdeal.nD Cert.KernelFDownIdeal.τ).loc Cert.KernelFDownIdeal.main_arg2) = m ((c.tc : Thread Cert.KernelFDownIdeal.nD Cert.KernelFDownIdeal.τ).loc Cert.KernelFDownIdeal.main_arg2)
      ∧ r.2.mem ((c.tc : Thread Cert.KernelFDownIdeal.nD Cert.KernelFDownIdeal.τ).loc Cert.KernelFDownIdeal.main_arg3) = m ((c.tc : Thread Cert.KernelFDownIdeal.nD Cert.KernelFDownIdeal.τ).loc Cert.KernelFDownIdeal.main_arg3))
      ∧ r.2.sem = fun _ => 0)

def quiescent_ReferenceFDownIdeal [hReferenceFDownIdeal : Cert.ReferenceFDownIdeal.Facts] : Prop :=
  ∀ (m : (ℓ : Loc Cert.ReferenceFDownIdeal.nD Cert.ReferenceFDownIdeal.τ Cert.ReferenceFDownIdeal.sig) → Buf (Elt Ideal) ℓ) (g : Dev Cert.ReferenceFDownIdeal.nD → PrngReg), Pre_ReferenceFDownIdeal m →
    θ_run (Cert.ReferenceFDownIdeal.defs (F := Ideal)) (onTc (τ := Cert.ReferenceFDownIdeal.τ) (Cert.ReferenceFDownIdeal.main (F := Ideal))) ⟨m, fun _ => 0, g⟩ (fun r => (∀ c : Dev Cert.ReferenceFDownIdeal.nD,
      r.2.mem ((c.tc : Thread Cert.ReferenceFDownIdeal.nD Cert.ReferenceFDownIdeal.τ).loc Cert.ReferenceFDownIdeal.main_arg0) = m ((c.tc : Thread Cert.ReferenceFDownIdeal.nD Cert.ReferenceFDownIdeal.τ).loc Cert.ReferenceFDownIdeal.main_arg0)
      ∧ r.2.mem ((c.tc : Thread Cert.ReferenceFDownIdeal.nD Cert.ReferenceFDownIdeal.τ).loc Cert.ReferenceFDownIdeal.main_arg1) = m ((c.tc : Thread Cert.ReferenceFDownIdeal.nD Cert.ReferenceFDownIdeal.τ).loc Cert.ReferenceFDownIdeal.main_arg1)
      ∧ r.2.mem ((c.tc : Thread Cert.ReferenceFDownIdeal.nD Cert.ReferenceFDownIdeal.τ).loc Cert.ReferenceFDownIdeal.main_arg2) = m ((c.tc : Thread Cert.ReferenceFDownIdeal.nD Cert.ReferenceFDownIdeal.τ).loc Cert.ReferenceFDownIdeal.main_arg2)
      ∧ r.2.mem ((c.tc : Thread Cert.ReferenceFDownIdeal.nD Cert.ReferenceFDownIdeal.τ).loc Cert.ReferenceFDownIdeal.main_arg3) = m ((c.tc : Thread Cert.ReferenceFDownIdeal.nD Cert.ReferenceFDownIdeal.τ).loc Cert.ReferenceFDownIdeal.main_arg3))
      ∧ r.2.sem = fun _ => 0)

def quiescent_KernelFOut [hKernelFOut : Cert.KernelFOut.Facts] : Prop :=
  ∀ (m : (ℓ : Loc Cert.KernelFOut.nD Cert.KernelFOut.τ Cert.KernelFOut.sig) → Buf (Elt Bits) ℓ) (g : Dev Cert.KernelFOut.nD → PrngReg), Pre_KernelFOut m →
    θ_run (Cert.KernelFOut.defs (F := Bits)) (onTc (τ := Cert.KernelFOut.τ) (Cert.KernelFOut.main (F := Bits))) ⟨m, fun _ => 0, g⟩ (fun r => (∀ c : Dev Cert.KernelFOut.nD,
      r.2.mem ((c.tc : Thread Cert.KernelFOut.nD Cert.KernelFOut.τ).loc Cert.KernelFOut.main_arg0) = m ((c.tc : Thread Cert.KernelFOut.nD Cert.KernelFOut.τ).loc Cert.KernelFOut.main_arg0)
      ∧ r.2.mem ((c.tc : Thread Cert.KernelFOut.nD Cert.KernelFOut.τ).loc Cert.KernelFOut.main_arg1) = m ((c.tc : Thread Cert.KernelFOut.nD Cert.KernelFOut.τ).loc Cert.KernelFOut.main_arg1)
      ∧ r.2.mem ((c.tc : Thread Cert.KernelFOut.nD Cert.KernelFOut.τ).loc Cert.KernelFOut.main_arg2) = m ((c.tc : Thread Cert.KernelFOut.nD Cert.KernelFOut.τ).loc Cert.KernelFOut.main_arg2)
      ∧ r.2.mem ((c.tc : Thread Cert.KernelFOut.nD Cert.KernelFOut.τ).loc Cert.KernelFOut.main_arg3) = m ((c.tc : Thread Cert.KernelFOut.nD Cert.KernelFOut.τ).loc Cert.KernelFOut.main_arg3))
      ∧ r.2.sem = fun _ => 0)

def quiescent_KernelFOutIdeal [hKernelFOutIdeal : Cert.KernelFOutIdeal.Facts] : Prop :=
  ∀ (m : (ℓ : Loc Cert.KernelFOutIdeal.nD Cert.KernelFOutIdeal.τ Cert.KernelFOutIdeal.sig) → Buf (Elt Ideal) ℓ) (g : Dev Cert.KernelFOutIdeal.nD → PrngReg), Pre_KernelFOutIdeal m →
    θ_run (Cert.KernelFOutIdeal.defs (F := Ideal)) (onTc (τ := Cert.KernelFOutIdeal.τ) (Cert.KernelFOutIdeal.main (F := Ideal))) ⟨m, fun _ => 0, g⟩ (fun r => (∀ c : Dev Cert.KernelFOutIdeal.nD,
      r.2.mem ((c.tc : Thread Cert.KernelFOutIdeal.nD Cert.KernelFOutIdeal.τ).loc Cert.KernelFOutIdeal.main_arg0) = m ((c.tc : Thread Cert.KernelFOutIdeal.nD Cert.KernelFOutIdeal.τ).loc Cert.KernelFOutIdeal.main_arg0)
      ∧ r.2.mem ((c.tc : Thread Cert.KernelFOutIdeal.nD Cert.KernelFOutIdeal.τ).loc Cert.KernelFOutIdeal.main_arg1) = m ((c.tc : Thread Cert.KernelFOutIdeal.nD Cert.KernelFOutIdeal.τ).loc Cert.KernelFOutIdeal.main_arg1)
      ∧ r.2.mem ((c.tc : Thread Cert.KernelFOutIdeal.nD Cert.KernelFOutIdeal.τ).loc Cert.KernelFOutIdeal.main_arg2) = m ((c.tc : Thread Cert.KernelFOutIdeal.nD Cert.KernelFOutIdeal.τ).loc Cert.KernelFOutIdeal.main_arg2)
      ∧ r.2.mem ((c.tc : Thread Cert.KernelFOutIdeal.nD Cert.KernelFOutIdeal.τ).loc Cert.KernelFOutIdeal.main_arg3) = m ((c.tc : Thread Cert.KernelFOutIdeal.nD Cert.KernelFOutIdeal.τ).loc Cert.KernelFOutIdeal.main_arg3))
      ∧ r.2.sem = fun _ => 0)

def quiescent_ReferenceFOutIdeal [hReferenceFOutIdeal : Cert.ReferenceFOutIdeal.Facts] : Prop :=
  ∀ (m : (ℓ : Loc Cert.ReferenceFOutIdeal.nD Cert.ReferenceFOutIdeal.τ Cert.ReferenceFOutIdeal.sig) → Buf (Elt Ideal) ℓ) (g : Dev Cert.ReferenceFOutIdeal.nD → PrngReg), Pre_ReferenceFOutIdeal m →
    θ_run (Cert.ReferenceFOutIdeal.defs (F := Ideal)) (onTc (τ := Cert.ReferenceFOutIdeal.τ) (Cert.ReferenceFOutIdeal.main (F := Ideal))) ⟨m, fun _ => 0, g⟩ (fun r => (∀ c : Dev Cert.ReferenceFOutIdeal.nD,
      r.2.mem ((c.tc : Thread Cert.ReferenceFOutIdeal.nD Cert.ReferenceFOutIdeal.τ).loc Cert.ReferenceFOutIdeal.main_arg0) = m ((c.tc : Thread Cert.ReferenceFOutIdeal.nD Cert.ReferenceFOutIdeal.τ).loc Cert.ReferenceFOutIdeal.main_arg0)
      ∧ r.2.mem ((c.tc : Thread Cert.ReferenceFOutIdeal.nD Cert.ReferenceFOutIdeal.τ).loc Cert.ReferenceFOutIdeal.main_arg1) = m ((c.tc : Thread Cert.ReferenceFOutIdeal.nD Cert.ReferenceFOutIdeal.τ).loc Cert.ReferenceFOutIdeal.main_arg1)
      ∧ r.2.mem ((c.tc : Thread Cert.ReferenceFOutIdeal.nD Cert.ReferenceFOutIdeal.τ).loc Cert.ReferenceFOutIdeal.main_arg2) = m ((c.tc : Thread Cert.ReferenceFOutIdeal.nD Cert.ReferenceFOutIdeal.τ).loc Cert.ReferenceFOutIdeal.main_arg2)
      ∧ r.2.mem ((c.tc : Thread Cert.ReferenceFOutIdeal.nD Cert.ReferenceFOutIdeal.τ).loc Cert.ReferenceFOutIdeal.main_arg3) = m ((c.tc : Thread Cert.ReferenceFOutIdeal.nD Cert.ReferenceFOutIdeal.τ).loc Cert.ReferenceFOutIdeal.main_arg3))
      ∧ r.2.sem = fun _ => 0)

def quiescent_KernelFIn [hKernelFIn : Cert.KernelFIn.Facts] : Prop :=
  ∀ (m : (ℓ : Loc Cert.KernelFIn.nD Cert.KernelFIn.τ Cert.KernelFIn.sig) → Buf (Elt Bits) ℓ) (g : Dev Cert.KernelFIn.nD → PrngReg), Pre_KernelFIn m →
    θ_run (Cert.KernelFIn.defs (F := Bits)) (onTc (τ := Cert.KernelFIn.τ) (Cert.KernelFIn.main (F := Bits))) ⟨m, fun _ => 0, g⟩ (fun r => (∀ c : Dev Cert.KernelFIn.nD,
      r.2.mem ((c.tc : Thread Cert.KernelFIn.nD Cert.KernelFIn.τ).loc Cert.KernelFIn.main_arg0) = m ((c.tc : Thread Cert.KernelFIn.nD Cert.KernelFIn.τ).loc Cert.KernelFIn.main_arg0)
      ∧ r.2.mem ((c.tc : Thread Cert.KernelFIn.nD Cert.KernelFIn.τ).loc Cert.KernelFIn.main_arg1) = m ((c.tc : Thread Cert.KernelFIn.nD Cert.KernelFIn.τ).loc Cert.KernelFIn.main_arg1))
      ∧ r.2.sem = fun _ => 0)

def quiescent_KernelFInIdeal [hKernelFInIdeal : Cert.KernelFInIdeal.Facts] : Prop :=
  ∀ (m : (ℓ : Loc Cert.KernelFInIdeal.nD Cert.KernelFInIdeal.τ Cert.KernelFInIdeal.sig) → Buf (Elt Ideal) ℓ) (g : Dev Cert.KernelFInIdeal.nD → PrngReg), Pre_KernelFInIdeal m →
    θ_run (Cert.KernelFInIdeal.defs (F := Ideal)) (onTc (τ := Cert.KernelFInIdeal.τ) (Cert.KernelFInIdeal.main (F := Ideal))) ⟨m, fun _ => 0, g⟩ (fun r => (∀ c : Dev Cert.KernelFInIdeal.nD,
      r.2.mem ((c.tc : Thread Cert.KernelFInIdeal.nD Cert.KernelFInIdeal.τ).loc Cert.KernelFInIdeal.main_arg0) = m ((c.tc : Thread Cert.KernelFInIdeal.nD Cert.KernelFInIdeal.τ).loc Cert.KernelFInIdeal.main_arg0)
      ∧ r.2.mem ((c.tc : Thread Cert.KernelFInIdeal.nD Cert.KernelFInIdeal.τ).loc Cert.KernelFInIdeal.main_arg1) = m ((c.tc : Thread Cert.KernelFInIdeal.nD Cert.KernelFInIdeal.τ).loc Cert.KernelFInIdeal.main_arg1))
      ∧ r.2.sem = fun _ => 0)

def quiescent_ReferenceFInIdeal [hReferenceFInIdeal : Cert.ReferenceFInIdeal.Facts] : Prop :=
  ∀ (m : (ℓ : Loc Cert.ReferenceFInIdeal.nD Cert.ReferenceFInIdeal.τ Cert.ReferenceFInIdeal.sig) → Buf (Elt Ideal) ℓ) (g : Dev Cert.ReferenceFInIdeal.nD → PrngReg), Pre_ReferenceFInIdeal m →
    θ_run (Cert.ReferenceFInIdeal.defs (F := Ideal)) (onTc (τ := Cert.ReferenceFInIdeal.τ) (Cert.ReferenceFInIdeal.main (F := Ideal))) ⟨m, fun _ => 0, g⟩ (fun r => (∀ c : Dev Cert.ReferenceFInIdeal.nD,
      r.2.mem ((c.tc : Thread Cert.ReferenceFInIdeal.nD Cert.ReferenceFInIdeal.τ).loc Cert.ReferenceFInIdeal.main_arg0) = m ((c.tc : Thread Cert.ReferenceFInIdeal.nD Cert.ReferenceFInIdeal.τ).loc Cert.ReferenceFInIdeal.main_arg0)
      ∧ r.2.mem ((c.tc : Thread Cert.ReferenceFInIdeal.nD Cert.ReferenceFInIdeal.τ).loc Cert.ReferenceFInIdeal.main_arg1) = m ((c.tc : Thread Cert.ReferenceFInIdeal.nD Cert.ReferenceFInIdeal.τ).loc Cert.ReferenceFInIdeal.main_arg1))
      ∧ r.2.sem = fun _ => 0)

def quiescent_KernelFQ [hKernelFQ : Cert.KernelFQ.Facts] : Prop :=
  ∀ (m : (ℓ : Loc Cert.KernelFQ.nD Cert.KernelFQ.τ Cert.KernelFQ.sig) → Buf (Elt Bits) ℓ) (g : Dev Cert.KernelFQ.nD → PrngReg), Pre_KernelFQ m →
    θ_run (Cert.KernelFQ.defs (F := Bits)) (onTc (τ := Cert.KernelFQ.τ) (Cert.KernelFQ.main (F := Bits))) ⟨m, fun _ => 0, g⟩ (fun r => (∀ c : Dev Cert.KernelFQ.nD,
      r.2.mem ((c.tc : Thread Cert.KernelFQ.nD Cert.KernelFQ.τ).loc Cert.KernelFQ.main_arg0) = m ((c.tc : Thread Cert.KernelFQ.nD Cert.KernelFQ.τ).loc Cert.KernelFQ.main_arg0)
      ∧ r.2.mem ((c.tc : Thread Cert.KernelFQ.nD Cert.KernelFQ.τ).loc Cert.KernelFQ.main_arg1) = m ((c.tc : Thread Cert.KernelFQ.nD Cert.KernelFQ.τ).loc Cert.KernelFQ.main_arg1))
      ∧ r.2.sem = fun _ => 0)

def quiescent_KernelFQIdeal [hKernelFQIdeal : Cert.KernelFQIdeal.Facts] : Prop :=
  ∀ (m : (ℓ : Loc Cert.KernelFQIdeal.nD Cert.KernelFQIdeal.τ Cert.KernelFQIdeal.sig) → Buf (Elt Ideal) ℓ) (g : Dev Cert.KernelFQIdeal.nD → PrngReg), Pre_KernelFQIdeal m →
    θ_run (Cert.KernelFQIdeal.defs (F := Ideal)) (onTc (τ := Cert.KernelFQIdeal.τ) (Cert.KernelFQIdeal.main (F := Ideal))) ⟨m, fun _ => 0, g⟩ (fun r => (∀ c : Dev Cert.KernelFQIdeal.nD,
      r.2.mem ((c.tc : Thread Cert.KernelFQIdeal.nD Cert.KernelFQIdeal.τ).loc Cert.KernelFQIdeal.main_arg0) = m ((c.tc : Thread Cert.KernelFQIdeal.nD Cert.KernelFQIdeal.τ).loc Cert.KernelFQIdeal.main_arg0)
      ∧ r.2.mem ((c.tc : Thread Cert.KernelFQIdeal.nD Cert.KernelFQIdeal.τ).loc Cert.KernelFQIdeal.main_arg1) = m ((c.tc : Thread Cert.KernelFQIdeal.nD Cert.KernelFQIdeal.τ).loc Cert.KernelFQIdeal.main_arg1))
      ∧ r.2.sem = fun _ => 0)

def quiescent_ReferenceFQIdeal [hReferenceFQIdeal : Cert.ReferenceFQIdeal.Facts] : Prop :=
  ∀ (m : (ℓ : Loc Cert.ReferenceFQIdeal.nD Cert.ReferenceFQIdeal.τ Cert.ReferenceFQIdeal.sig) → Buf (Elt Ideal) ℓ) (g : Dev Cert.ReferenceFQIdeal.nD → PrngReg), Pre_ReferenceFQIdeal m →
    θ_run (Cert.ReferenceFQIdeal.defs (F := Ideal)) (onTc (τ := Cert.ReferenceFQIdeal.τ) (Cert.ReferenceFQIdeal.main (F := Ideal))) ⟨m, fun _ => 0, g⟩ (fun r => (∀ c : Dev Cert.ReferenceFQIdeal.nD,
      r.2.mem ((c.tc : Thread Cert.ReferenceFQIdeal.nD Cert.ReferenceFQIdeal.τ).loc Cert.ReferenceFQIdeal.main_arg0) = m ((c.tc : Thread Cert.ReferenceFQIdeal.nD Cert.ReferenceFQIdeal.τ).loc Cert.ReferenceFQIdeal.main_arg0)
      ∧ r.2.mem ((c.tc : Thread Cert.ReferenceFQIdeal.nD Cert.ReferenceFQIdeal.τ).loc Cert.ReferenceFQIdeal.main_arg1) = m ((c.tc : Thread Cert.ReferenceFQIdeal.nD Cert.ReferenceFQIdeal.τ).loc Cert.ReferenceFQIdeal.main_arg1))
      ∧ r.2.sem = fun _ => 0)

def quiescent_KernelNormQ [hKernelNormQ : Cert.KernelNormQ.Facts] : Prop :=
  ∀ (m : (ℓ : Loc Cert.KernelNormQ.nD Cert.KernelNormQ.τ Cert.KernelNormQ.sig) → Buf (Elt Bits) ℓ) (g : Dev Cert.KernelNormQ.nD → PrngReg), Pre_KernelNormQ m →
    θ_run (Cert.KernelNormQ.defs (F := Bits)) (onTc (τ := Cert.KernelNormQ.τ) (Cert.KernelNormQ.main (F := Bits))) ⟨m, fun _ => 0, g⟩ (fun r => (∀ c : Dev Cert.KernelNormQ.nD,
      r.2.mem ((c.tc : Thread Cert.KernelNormQ.nD Cert.KernelNormQ.τ).loc Cert.KernelNormQ.main_arg0) = m ((c.tc : Thread Cert.KernelNormQ.nD Cert.KernelNormQ.τ).loc Cert.KernelNormQ.main_arg0)
      ∧ r.2.mem ((c.tc : Thread Cert.KernelNormQ.nD Cert.KernelNormQ.τ).loc Cert.KernelNormQ.main_arg1) = m ((c.tc : Thread Cert.KernelNormQ.nD Cert.KernelNormQ.τ).loc Cert.KernelNormQ.main_arg1)
      ∧ r.2.mem ((c.tc : Thread Cert.KernelNormQ.nD Cert.KernelNormQ.τ).loc Cert.KernelNormQ.main_arg2) = m ((c.tc : Thread Cert.KernelNormQ.nD Cert.KernelNormQ.τ).loc Cert.KernelNormQ.main_arg2)
      ∧ r.2.mem ((c.tc : Thread Cert.KernelNormQ.nD Cert.KernelNormQ.τ).loc Cert.KernelNormQ.main_arg3) = m ((c.tc : Thread Cert.KernelNormQ.nD Cert.KernelNormQ.τ).loc Cert.KernelNormQ.main_arg3)
      ∧ r.2.mem ((c.tc : Thread Cert.KernelNormQ.nD Cert.KernelNormQ.τ).loc Cert.KernelNormQ.main_arg4) = m ((c.tc : Thread Cert.KernelNormQ.nD Cert.KernelNormQ.τ).loc Cert.KernelNormQ.main_arg4))
      ∧ r.2.sem = fun _ => 0)

def quiescent_KernelNormQIdeal [hKernelNormQIdeal : Cert.KernelNormQIdeal.Facts] : Prop :=
  ∀ (m : (ℓ : Loc Cert.KernelNormQIdeal.nD Cert.KernelNormQIdeal.τ Cert.KernelNormQIdeal.sig) → Buf (Elt Ideal) ℓ) (g : Dev Cert.KernelNormQIdeal.nD → PrngReg), Pre_KernelNormQIdeal m →
    θ_run (Cert.KernelNormQIdeal.defs (F := Ideal)) (onTc (τ := Cert.KernelNormQIdeal.τ) (Cert.KernelNormQIdeal.main (F := Ideal))) ⟨m, fun _ => 0, g⟩ (fun r => (∀ c : Dev Cert.KernelNormQIdeal.nD,
      r.2.mem ((c.tc : Thread Cert.KernelNormQIdeal.nD Cert.KernelNormQIdeal.τ).loc Cert.KernelNormQIdeal.main_arg0) = m ((c.tc : Thread Cert.KernelNormQIdeal.nD Cert.KernelNormQIdeal.τ).loc Cert.KernelNormQIdeal.main_arg0)
      ∧ r.2.mem ((c.tc : Thread Cert.KernelNormQIdeal.nD Cert.KernelNormQIdeal.τ).loc Cert.KernelNormQIdeal.main_arg1) = m ((c.tc : Thread Cert.KernelNormQIdeal.nD Cert.KernelNormQIdeal.τ).loc Cert.KernelNormQIdeal.main_arg1)
      ∧ r.2.mem ((c.tc : Thread Cert.KernelNormQIdeal.nD Cert.KernelNormQIdeal.τ).loc Cert.KernelNormQIdeal.main_arg2) = m ((c.tc : Thread Cert.KernelNormQIdeal.nD Cert.KernelNormQIdeal.τ).loc Cert.KernelNormQIdeal.main_arg2)
      ∧ r.2.mem ((c.tc : Thread Cert.KernelNormQIdeal.nD Cert.KernelNormQIdeal.τ).loc Cert.KernelNormQIdeal.main_arg3) = m ((c.tc : Thread Cert.KernelNormQIdeal.nD Cert.KernelNormQIdeal.τ).loc Cert.KernelNormQIdeal.main_arg3)
      ∧ r.2.mem ((c.tc : Thread Cert.KernelNormQIdeal.nD Cert.KernelNormQIdeal.τ).loc Cert.KernelNormQIdeal.main_arg4) = m ((c.tc : Thread Cert.KernelNormQIdeal.nD Cert.KernelNormQIdeal.τ).loc Cert.KernelNormQIdeal.main_arg4))
      ∧ r.2.sem = fun _ => 0)

def quiescent_ReferenceNormQIdeal [hReferenceNormQIdeal : Cert.ReferenceNormQIdeal.Facts] : Prop :=
  ∀ (m : (ℓ : Loc Cert.ReferenceNormQIdeal.nD Cert.ReferenceNormQIdeal.τ Cert.ReferenceNormQIdeal.sig) → Buf (Elt Ideal) ℓ) (g : Dev Cert.ReferenceNormQIdeal.nD → PrngReg), Pre_ReferenceNormQIdeal m →
    θ_run (Cert.ReferenceNormQIdeal.defs (F := Ideal)) (onTc (τ := Cert.ReferenceNormQIdeal.τ) (Cert.ReferenceNormQIdeal.main (F := Ideal))) ⟨m, fun _ => 0, g⟩ (fun r => (∀ c : Dev Cert.ReferenceNormQIdeal.nD,
      r.2.mem ((c.tc : Thread Cert.ReferenceNormQIdeal.nD Cert.ReferenceNormQIdeal.τ).loc Cert.ReferenceNormQIdeal.main_arg0) = m ((c.tc : Thread Cert.ReferenceNormQIdeal.nD Cert.ReferenceNormQIdeal.τ).loc Cert.ReferenceNormQIdeal.main_arg0)
      ∧ r.2.mem ((c.tc : Thread Cert.ReferenceNormQIdeal.nD Cert.ReferenceNormQIdeal.τ).loc Cert.ReferenceNormQIdeal.main_arg1) = m ((c.tc : Thread Cert.ReferenceNormQIdeal.nD Cert.ReferenceNormQIdeal.τ).loc Cert.ReferenceNormQIdeal.main_arg1)
      ∧ r.2.mem ((c.tc : Thread Cert.ReferenceNormQIdeal.nD Cert.ReferenceNormQIdeal.τ).loc Cert.ReferenceNormQIdeal.main_arg2) = m ((c.tc : Thread Cert.ReferenceNormQIdeal.nD Cert.ReferenceNormQIdeal.τ).loc Cert.ReferenceNormQIdeal.main_arg2)
      ∧ r.2.mem ((c.tc : Thread Cert.ReferenceNormQIdeal.nD Cert.ReferenceNormQIdeal.τ).loc Cert.ReferenceNormQIdeal.main_arg3) = m ((c.tc : Thread Cert.ReferenceNormQIdeal.nD Cert.ReferenceNormQIdeal.τ).loc Cert.ReferenceNormQIdeal.main_arg3)
      ∧ r.2.mem ((c.tc : Thread Cert.ReferenceNormQIdeal.nD Cert.ReferenceNormQIdeal.τ).loc Cert.ReferenceNormQIdeal.main_arg4) = m ((c.tc : Thread Cert.ReferenceNormQIdeal.nD Cert.ReferenceNormQIdeal.τ).loc Cert.ReferenceNormQIdeal.main_arg4))
      ∧ r.2.sem = fun _ => 0)

def quiescent_KernelFLast [hKernelFLast : Cert.KernelFLast.Facts] : Prop :=
  ∀ (m : (ℓ : Loc Cert.KernelFLast.nD Cert.KernelFLast.τ Cert.KernelFLast.sig) → Buf (Elt Bits) ℓ) (g : Dev Cert.KernelFLast.nD → PrngReg), Pre_KernelFLast m →
    θ_run (Cert.KernelFLast.defs (F := Bits)) (onTc (τ := Cert.KernelFLast.τ) (Cert.KernelFLast.main (F := Bits))) ⟨m, fun _ => 0, g⟩ (fun r => (∀ c : Dev Cert.KernelFLast.nD,
      r.2.mem ((c.tc : Thread Cert.KernelFLast.nD Cert.KernelFLast.τ).loc Cert.KernelFLast.main_arg0) = m ((c.tc : Thread Cert.KernelFLast.nD Cert.KernelFLast.τ).loc Cert.KernelFLast.main_arg0)
      ∧ r.2.mem ((c.tc : Thread Cert.KernelFLast.nD Cert.KernelFLast.τ).loc Cert.KernelFLast.main_arg1) = m ((c.tc : Thread Cert.KernelFLast.nD Cert.KernelFLast.τ).loc Cert.KernelFLast.main_arg1)
      ∧ r.2.mem ((c.tc : Thread Cert.KernelFLast.nD Cert.KernelFLast.τ).loc Cert.KernelFLast.main_arg2) = m ((c.tc : Thread Cert.KernelFLast.nD Cert.KernelFLast.τ).loc Cert.KernelFLast.main_arg2))
      ∧ r.2.sem = fun _ => 0)

def quiescent_KernelFLastIdeal [hKernelFLastIdeal : Cert.KernelFLastIdeal.Facts] : Prop :=
  ∀ (m : (ℓ : Loc Cert.KernelFLastIdeal.nD Cert.KernelFLastIdeal.τ Cert.KernelFLastIdeal.sig) → Buf (Elt Ideal) ℓ) (g : Dev Cert.KernelFLastIdeal.nD → PrngReg), Pre_KernelFLastIdeal m →
    θ_run (Cert.KernelFLastIdeal.defs (F := Ideal)) (onTc (τ := Cert.KernelFLastIdeal.τ) (Cert.KernelFLastIdeal.main (F := Ideal))) ⟨m, fun _ => 0, g⟩ (fun r => (∀ c : Dev Cert.KernelFLastIdeal.nD,
      r.2.mem ((c.tc : Thread Cert.KernelFLastIdeal.nD Cert.KernelFLastIdeal.τ).loc Cert.KernelFLastIdeal.main_arg0) = m ((c.tc : Thread Cert.KernelFLastIdeal.nD Cert.KernelFLastIdeal.τ).loc Cert.KernelFLastIdeal.main_arg0)
      ∧ r.2.mem ((c.tc : Thread Cert.KernelFLastIdeal.nD Cert.KernelFLastIdeal.τ).loc Cert.KernelFLastIdeal.main_arg1) = m ((c.tc : Thread Cert.KernelFLastIdeal.nD Cert.KernelFLastIdeal.τ).loc Cert.KernelFLastIdeal.main_arg1)
      ∧ r.2.mem ((c.tc : Thread Cert.KernelFLastIdeal.nD Cert.KernelFLastIdeal.τ).loc Cert.KernelFLastIdeal.main_arg2) = m ((c.tc : Thread Cert.KernelFLastIdeal.nD Cert.KernelFLastIdeal.τ).loc Cert.KernelFLastIdeal.main_arg2))
      ∧ r.2.sem = fun _ => 0)

def quiescent_ReferenceFLastIdeal [hReferenceFLastIdeal : Cert.ReferenceFLastIdeal.Facts] : Prop :=
  ∀ (m : (ℓ : Loc Cert.ReferenceFLastIdeal.nD Cert.ReferenceFLastIdeal.τ Cert.ReferenceFLastIdeal.sig) → Buf (Elt Ideal) ℓ) (g : Dev Cert.ReferenceFLastIdeal.nD → PrngReg), Pre_ReferenceFLastIdeal m →
    θ_run (Cert.ReferenceFLastIdeal.defs (F := Ideal)) (onTc (τ := Cert.ReferenceFLastIdeal.τ) (Cert.ReferenceFLastIdeal.main (F := Ideal))) ⟨m, fun _ => 0, g⟩ (fun r => (∀ c : Dev Cert.ReferenceFLastIdeal.nD,
      r.2.mem ((c.tc : Thread Cert.ReferenceFLastIdeal.nD Cert.ReferenceFLastIdeal.τ).loc Cert.ReferenceFLastIdeal.main_arg0) = m ((c.tc : Thread Cert.ReferenceFLastIdeal.nD Cert.ReferenceFLastIdeal.τ).loc Cert.ReferenceFLastIdeal.main_arg0)
      ∧ r.2.mem ((c.tc : Thread Cert.ReferenceFLastIdeal.nD Cert.ReferenceFLastIdeal.τ).loc Cert.ReferenceFLastIdeal.main_arg1) = m ((c.tc : Thread Cert.ReferenceFLastIdeal.nD Cert.ReferenceFLastIdeal.τ).loc Cert.ReferenceFLastIdeal.main_arg1)
      ∧ r.2.mem ((c.tc : Thread Cert.ReferenceFLastIdeal.nD Cert.ReferenceFLastIdeal.τ).loc Cert.ReferenceFLastIdeal.main_arg2) = m ((c.tc : Thread Cert.ReferenceFLastIdeal.nD Cert.ReferenceFLastIdeal.τ).loc Cert.ReferenceFLastIdeal.main_arg2))
      ∧ r.2.sem = fun _ => 0)

def quiescent_KernelFAttn [hKernelFAttn : Cert.KernelFAttn.Facts] : Prop :=
  ∀ (m : (ℓ : Loc Cert.KernelFAttn.nD Cert.KernelFAttn.τ Cert.KernelFAttn.sig) → Buf (Elt Bits) ℓ) (g : Dev Cert.KernelFAttn.nD → PrngReg), Pre_KernelFAttn m →
    θ_run (Cert.KernelFAttn.defs (F := Bits)) (onTc (τ := Cert.KernelFAttn.τ) (Cert.KernelFAttn.main (F := Bits))) ⟨m, fun _ => 0, g⟩ (fun r => (∀ c : Dev Cert.KernelFAttn.nD,
      r.2.mem ((c.tc : Thread Cert.KernelFAttn.nD Cert.KernelFAttn.τ).loc Cert.KernelFAttn.main_arg0) = m ((c.tc : Thread Cert.KernelFAttn.nD Cert.KernelFAttn.τ).loc Cert.KernelFAttn.main_arg0)
      ∧ r.2.mem ((c.tc : Thread Cert.KernelFAttn.nD Cert.KernelFAttn.τ).loc Cert.KernelFAttn.main_arg1) = m ((c.tc : Thread Cert.KernelFAttn.nD Cert.KernelFAttn.τ).loc Cert.KernelFAttn.main_arg1))
      ∧ r.2.sem = fun _ => 0)

def quiescent_KernelFAttnIdeal [hKernelFAttnIdeal : Cert.KernelFAttnIdeal.Facts] : Prop :=
  ∀ (m : (ℓ : Loc Cert.KernelFAttnIdeal.nD Cert.KernelFAttnIdeal.τ Cert.KernelFAttnIdeal.sig) → Buf (Elt Ideal) ℓ) (g : Dev Cert.KernelFAttnIdeal.nD → PrngReg), Pre_KernelFAttnIdeal m →
    θ_run (Cert.KernelFAttnIdeal.defs (F := Ideal)) (onTc (τ := Cert.KernelFAttnIdeal.τ) (Cert.KernelFAttnIdeal.main (F := Ideal))) ⟨m, fun _ => 0, g⟩ (fun r => (∀ c : Dev Cert.KernelFAttnIdeal.nD,
      r.2.mem ((c.tc : Thread Cert.KernelFAttnIdeal.nD Cert.KernelFAttnIdeal.τ).loc Cert.KernelFAttnIdeal.main_arg0) = m ((c.tc : Thread Cert.KernelFAttnIdeal.nD Cert.KernelFAttnIdeal.τ).loc Cert.KernelFAttnIdeal.main_arg0)
      ∧ r.2.mem ((c.tc : Thread Cert.KernelFAttnIdeal.nD Cert.KernelFAttnIdeal.τ).loc Cert.KernelFAttnIdeal.main_arg1) = m ((c.tc : Thread Cert.KernelFAttnIdeal.nD Cert.KernelFAttnIdeal.τ).loc Cert.KernelFAttnIdeal.main_arg1))
      ∧ r.2.sem = fun _ => 0)

def quiescent_ReferenceFAttnIdeal [hReferenceFAttnIdeal : Cert.ReferenceFAttnIdeal.Facts] : Prop :=
  ∀ (m : (ℓ : Loc Cert.ReferenceFAttnIdeal.nD Cert.ReferenceFAttnIdeal.τ Cert.ReferenceFAttnIdeal.sig) → Buf (Elt Ideal) ℓ) (g : Dev Cert.ReferenceFAttnIdeal.nD → PrngReg), Pre_ReferenceFAttnIdeal m →
    θ_run (Cert.ReferenceFAttnIdeal.defs (F := Ideal)) (onTc (τ := Cert.ReferenceFAttnIdeal.τ) (Cert.ReferenceFAttnIdeal.main (F := Ideal))) ⟨m, fun _ => 0, g⟩ (fun r => (∀ c : Dev Cert.ReferenceFAttnIdeal.nD,
      r.2.mem ((c.tc : Thread Cert.ReferenceFAttnIdeal.nD Cert.ReferenceFAttnIdeal.τ).loc Cert.ReferenceFAttnIdeal.main_arg0) = m ((c.tc : Thread Cert.ReferenceFAttnIdeal.nD Cert.ReferenceFAttnIdeal.τ).loc Cert.ReferenceFAttnIdeal.main_arg0)
      ∧ r.2.mem ((c.tc : Thread Cert.ReferenceFAttnIdeal.nD Cert.ReferenceFAttnIdeal.τ).loc Cert.ReferenceFAttnIdeal.main_arg1) = m ((c.tc : Thread Cert.ReferenceFAttnIdeal.nD Cert.ReferenceFAttnIdeal.τ).loc Cert.ReferenceFAttnIdeal.main_arg1))
      ∧ r.2.sem = fun _ => 0)

def quiescent_KernelFKv [hKernelFKv : Cert.KernelFKv.Facts] : Prop :=
  ∀ (m : (ℓ : Loc Cert.KernelFKv.nD Cert.KernelFKv.τ Cert.KernelFKv.sig) → Buf (Elt Bits) ℓ) (g : Dev Cert.KernelFKv.nD → PrngReg), Pre_KernelFKv m →
    θ_run (Cert.KernelFKv.defs (F := Bits)) (onTc (τ := Cert.KernelFKv.τ) (Cert.KernelFKv.main (F := Bits))) ⟨m, fun _ => 0, g⟩ (fun r => (∀ c : Dev Cert.KernelFKv.nD,
      r.2.mem ((c.tc : Thread Cert.KernelFKv.nD Cert.KernelFKv.τ).loc Cert.KernelFKv.main_arg0) = m ((c.tc : Thread Cert.KernelFKv.nD Cert.KernelFKv.τ).loc Cert.KernelFKv.main_arg0)
      ∧ r.2.mem ((c.tc : Thread Cert.KernelFKv.nD Cert.KernelFKv.τ).loc Cert.KernelFKv.main_arg1) = m ((c.tc : Thread Cert.KernelFKv.nD Cert.KernelFKv.τ).loc Cert.KernelFKv.main_arg1))
      ∧ r.2.sem = fun _ => 0)

def quiescent_KernelFKvIdeal [hKernelFKvIdeal : Cert.KernelFKvIdeal.Facts] : Prop :=
  ∀ (m : (ℓ : Loc Cert.KernelFKvIdeal.nD Cert.KernelFKvIdeal.τ Cert.KernelFKvIdeal.sig) → Buf (Elt Ideal) ℓ) (g : Dev Cert.KernelFKvIdeal.nD → PrngReg), Pre_KernelFKvIdeal m →
    θ_run (Cert.KernelFKvIdeal.defs (F := Ideal)) (onTc (τ := Cert.KernelFKvIdeal.τ) (Cert.KernelFKvIdeal.main (F := Ideal))) ⟨m, fun _ => 0, g⟩ (fun r => (∀ c : Dev Cert.KernelFKvIdeal.nD,
      r.2.mem ((c.tc : Thread Cert.KernelFKvIdeal.nD Cert.KernelFKvIdeal.τ).loc Cert.KernelFKvIdeal.main_arg0) = m ((c.tc : Thread Cert.KernelFKvIdeal.nD Cert.KernelFKvIdeal.τ).loc Cert.KernelFKvIdeal.main_arg0)
      ∧ r.2.mem ((c.tc : Thread Cert.KernelFKvIdeal.nD Cert.KernelFKvIdeal.τ).loc Cert.KernelFKvIdeal.main_arg1) = m ((c.tc : Thread Cert.KernelFKvIdeal.nD Cert.KernelFKvIdeal.τ).loc Cert.KernelFKvIdeal.main_arg1))
      ∧ r.2.sem = fun _ => 0)

def quiescent_ReferenceFKvIdeal [hReferenceFKvIdeal : Cert.ReferenceFKvIdeal.Facts] : Prop :=
  ∀ (m : (ℓ : Loc Cert.ReferenceFKvIdeal.nD Cert.ReferenceFKvIdeal.τ Cert.ReferenceFKvIdeal.sig) → Buf (Elt Ideal) ℓ) (g : Dev Cert.ReferenceFKvIdeal.nD → PrngReg), Pre_ReferenceFKvIdeal m →
    θ_run (Cert.ReferenceFKvIdeal.defs (F := Ideal)) (onTc (τ := Cert.ReferenceFKvIdeal.τ) (Cert.ReferenceFKvIdeal.main (F := Ideal))) ⟨m, fun _ => 0, g⟩ (fun r => (∀ c : Dev Cert.ReferenceFKvIdeal.nD,
      r.2.mem ((c.tc : Thread Cert.ReferenceFKvIdeal.nD Cert.ReferenceFKvIdeal.τ).loc Cert.ReferenceFKvIdeal.main_arg0) = m ((c.tc : Thread Cert.ReferenceFKvIdeal.nD Cert.ReferenceFKvIdeal.τ).loc Cert.ReferenceFKvIdeal.main_arg0)
      ∧ r.2.mem ((c.tc : Thread Cert.ReferenceFKvIdeal.nD Cert.ReferenceFKvIdeal.τ).loc Cert.ReferenceFKvIdeal.main_arg1) = m ((c.tc : Thread Cert.ReferenceFKvIdeal.nD Cert.ReferenceFKvIdeal.τ).loc Cert.ReferenceFKvIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1))
      ∧ r.2.sem = fun _ => 0)

def quiescent_KernelNormMem [hKernelNormMem : Cert.KernelNormMem.Facts] : Prop :=
  ∀ (m : (ℓ : Loc Cert.KernelNormMem.nD Cert.KernelNormMem.τ Cert.KernelNormMem.sig) → Buf (Elt Bits) ℓ) (g : Dev Cert.KernelNormMem.nD → PrngReg), Pre_KernelNormMem m →
    θ_run (Cert.KernelNormMem.defs (F := Bits)) (onTc (τ := Cert.KernelNormMem.τ) (Cert.KernelNormMem.main (F := Bits))) ⟨m, fun _ => 0, g⟩ (fun r => (∀ c : Dev Cert.KernelNormMem.nD,
      r.2.mem ((c.tc : Thread Cert.KernelNormMem.nD Cert.KernelNormMem.τ).loc Cert.KernelNormMem.main_arg0) = m ((c.tc : Thread Cert.KernelNormMem.nD Cert.KernelNormMem.τ).loc Cert.KernelNormMem.main_arg0)
      ∧ r.2.mem ((c.tc : Thread Cert.KernelNormMem.nD Cert.KernelNormMem.τ).loc Cert.KernelNormMem.main_arg1) = m ((c.tc : Thread Cert.KernelNormMem.nD Cert.KernelNormMem.τ).loc Cert.KernelNormMem.main_arg1)
      ∧ r.2.mem ((c.tc : Thread Cert.KernelNormMem.nD Cert.KernelNormMem.τ).loc Cert.KernelNormMem.main_arg2) = m ((c.tc : Thread Cert.KernelNormMem.nD Cert.KernelNormMem.τ).loc Cert.KernelNormMem.main_arg2))
      ∧ r.2.sem = fun _ => 0)

def quiescent_KernelNormMemIdeal [hKernelNormMemIdeal : Cert.KernelNormMemIdeal.Facts] : Prop :=
  ∀ (m : (ℓ : Loc Cert.KernelNormMemIdeal.nD Cert.KernelNormMemIdeal.τ Cert.KernelNormMemIdeal.sig) → Buf (Elt Ideal) ℓ) (g : Dev Cert.KernelNormMemIdeal.nD → PrngReg), Pre_KernelNormMemIdeal m →
    θ_run (Cert.KernelNormMemIdeal.defs (F := Ideal)) (onTc (τ := Cert.KernelNormMemIdeal.τ) (Cert.KernelNormMemIdeal.main (F := Ideal))) ⟨m, fun _ => 0, g⟩ (fun r => (∀ c : Dev Cert.KernelNormMemIdeal.nD,
      r.2.mem ((c.tc : Thread Cert.KernelNormMemIdeal.nD Cert.KernelNormMemIdeal.τ).loc Cert.KernelNormMemIdeal.main_arg0) = m ((c.tc : Thread Cert.KernelNormMemIdeal.nD Cert.KernelNormMemIdeal.τ).loc Cert.KernelNormMemIdeal.main_arg0)
      ∧ r.2.mem ((c.tc : Thread Cert.KernelNormMemIdeal.nD Cert.KernelNormMemIdeal.τ).loc Cert.KernelNormMemIdeal.main_arg1) = m ((c.tc : Thread Cert.KernelNormMemIdeal.nD Cert.KernelNormMemIdeal.τ).loc Cert.KernelNormMemIdeal.main_arg1)
      ∧ r.2.mem ((c.tc : Thread Cert.KernelNormMemIdeal.nD Cert.KernelNormMemIdeal.τ).loc Cert.KernelNormMemIdeal.main_arg2) = m ((c.tc : Thread Cert.KernelNormMemIdeal.nD Cert.KernelNormMemIdeal.τ).loc Cert.KernelNormMemIdeal.main_arg2))
      ∧ r.2.sem = fun _ => 0)

def quiescent_ReferenceNormMemIdeal [hReferenceNormMemIdeal : Cert.ReferenceNormMemIdeal.Facts] : Prop :=
  ∀ (m : (ℓ : Loc Cert.ReferenceNormMemIdeal.nD Cert.ReferenceNormMemIdeal.τ Cert.ReferenceNormMemIdeal.sig) → Buf (Elt Ideal) ℓ) (g : Dev Cert.ReferenceNormMemIdeal.nD → PrngReg), Pre_ReferenceNormMemIdeal m →
    θ_run (Cert.ReferenceNormMemIdeal.defs (F := Ideal)) (onTc (τ := Cert.ReferenceNormMemIdeal.τ) (Cert.ReferenceNormMemIdeal.main (F := Ideal))) ⟨m, fun _ => 0, g⟩ (fun r => (∀ c : Dev Cert.ReferenceNormMemIdeal.nD,
      r.2.mem ((c.tc : Thread Cert.ReferenceNormMemIdeal.nD Cert.ReferenceNormMemIdeal.τ).loc Cert.ReferenceNormMemIdeal.main_arg0) = m ((c.tc : Thread Cert.ReferenceNormMemIdeal.nD Cert.ReferenceNormMemIdeal.τ).loc Cert.ReferenceNormMemIdeal.main_arg0)
      ∧ r.2.mem ((c.tc : Thread Cert.ReferenceNormMemIdeal.nD Cert.ReferenceNormMemIdeal.τ).loc Cert.ReferenceNormMemIdeal.main_arg1) = m ((c.tc : Thread Cert.ReferenceNormMemIdeal.nD Cert.ReferenceNormMemIdeal.τ).loc Cert.ReferenceNormMemIdeal.main_arg1)
      ∧ r.2.mem ((c.tc : Thread Cert.ReferenceNormMemIdeal.nD Cert.ReferenceNormMemIdeal.τ).loc Cert.ReferenceNormMemIdeal.main_arg2) = m ((c.tc : Thread Cert.ReferenceNormMemIdeal.nD Cert.ReferenceNormMemIdeal.τ).loc Cert.ReferenceNormMemIdeal.main_arg2))
      ∧ r.2.sem = fun _ => 0)

def quiescent_KernelFNorm [hKernelFNorm : Cert.KernelFNorm.Facts] : Prop :=
  ∀ (m : (ℓ : Loc Cert.KernelFNorm.nD Cert.KernelFNorm.τ Cert.KernelFNorm.sig) → Buf (Elt Bits) ℓ) (g : Dev Cert.KernelFNorm.nD → PrngReg), Pre_KernelFNorm m →
    θ_run (Cert.KernelFNorm.defs (F := Bits)) (onTc (τ := Cert.KernelFNorm.τ) (Cert.KernelFNorm.main (F := Bits))) ⟨m, fun _ => 0, g⟩ (fun r => (∀ c : Dev Cert.KernelFNorm.nD,
      r.2.mem ((c.tc : Thread Cert.KernelFNorm.nD Cert.KernelFNorm.τ).loc Cert.KernelFNorm.main_arg0) = m ((c.tc : Thread Cert.KernelFNorm.nD Cert.KernelFNorm.τ).loc Cert.KernelFNorm.main_arg0)
      ∧ r.2.mem ((c.tc : Thread Cert.KernelFNorm.nD Cert.KernelFNorm.τ).loc Cert.KernelFNorm.main_arg1) = m ((c.tc : Thread Cert.KernelFNorm.nD Cert.KernelFNorm.τ).loc Cert.KernelFNorm.main_arg1))
      ∧ r.2.sem = fun _ => 0)

def quiescent_KernelFNormIdeal [hKernelFNormIdeal : Cert.KernelFNormIdeal.Facts] : Prop :=
  ∀ (m : (ℓ : Loc Cert.KernelFNormIdeal.nD Cert.KernelFNormIdeal.τ Cert.KernelFNormIdeal.sig) → Buf (Elt Ideal) ℓ) (g : Dev Cert.KernelFNormIdeal.nD → PrngReg), Pre_KernelFNormIdeal m →
    θ_run (Cert.KernelFNormIdeal.defs (F := Ideal)) (onTc (τ := Cert.KernelFNormIdeal.τ) (Cert.KernelFNormIdeal.main (F := Ideal))) ⟨m, fun _ => 0, g⟩ (fun r => (∀ c : Dev Cert.KernelFNormIdeal.nD,
      r.2.mem ((c.tc : Thread Cert.KernelFNormIdeal.nD Cert.KernelFNormIdeal.τ).loc Cert.KernelFNormIdeal.main_arg0) = m ((c.tc : Thread Cert.KernelFNormIdeal.nD Cert.KernelFNormIdeal.τ).loc Cert.KernelFNormIdeal.main_arg0)
      ∧ r.2.mem ((c.tc : Thread Cert.KernelFNormIdeal.nD Cert.KernelFNormIdeal.τ).loc Cert.KernelFNormIdeal.main_arg1) = m ((c.tc : Thread Cert.KernelFNormIdeal.nD Cert.KernelFNormIdeal.τ).loc Cert.KernelFNormIdeal.main_arg1))
      ∧ r.2.sem = fun _ => 0)

def quiescent_ReferenceFNormIdeal [hReferenceFNormIdeal : Cert.ReferenceFNormIdeal.Facts] : Prop :=
  ∀ (m : (ℓ : Loc Cert.ReferenceFNormIdeal.nD Cert.ReferenceFNormIdeal.τ Cert.ReferenceFNormIdeal.sig) → Buf (Elt Ideal) ℓ) (g : Dev Cert.ReferenceFNormIdeal.nD → PrngReg), Pre_ReferenceFNormIdeal m →
    θ_run (Cert.ReferenceFNormIdeal.defs (F := Ideal)) (onTc (τ := Cert.ReferenceFNormIdeal.τ) (Cert.ReferenceFNormIdeal.main (F := Ideal))) ⟨m, fun _ => 0, g⟩ (fun r => (∀ c : Dev Cert.ReferenceFNormIdeal.nD,
      r.2.mem ((c.tc : Thread Cert.ReferenceFNormIdeal.nD Cert.ReferenceFNormIdeal.τ).loc Cert.ReferenceFNormIdeal.main_arg0) = m ((c.tc : Thread Cert.ReferenceFNormIdeal.nD Cert.ReferenceFNormIdeal.τ).loc Cert.ReferenceFNormIdeal.main_arg0)
      ∧ r.2.mem ((c.tc : Thread Cert.ReferenceFNormIdeal.nD Cert.ReferenceFNormIdeal.τ).loc Cert.ReferenceFNormIdeal.main_arg1) = m ((c.tc : Thread Cert.ReferenceFNormIdeal.nD Cert.ReferenceFNormIdeal.τ).loc Cert.ReferenceFNormIdeal.main_arg1))
      ∧ r.2.sem = fun _ => 0)

def quiescent_KernelFNormMem [hKernelFNormMem : Cert.KernelFNormMem.Facts] : Prop :=
  ∀ (m : (ℓ : Loc Cert.KernelFNormMem.nD Cert.KernelFNormMem.τ Cert.KernelFNormMem.sig) → Buf (Elt Bits) ℓ) (g : Dev Cert.KernelFNormMem.nD → PrngReg), Pre_KernelFNormMem m →
    θ_run (Cert.KernelFNormMem.defs (F := Bits)) (onTc (τ := Cert.KernelFNormMem.τ) (Cert.KernelFNormMem.main (F := Bits))) ⟨m, fun _ => 0, g⟩ (fun r => (∀ c : Dev Cert.KernelFNormMem.nD,
      r.2.mem ((c.tc : Thread Cert.KernelFNormMem.nD Cert.KernelFNormMem.τ).loc Cert.KernelFNormMem.main_arg0) = m ((c.tc : Thread Cert.KernelFNormMem.nD Cert.KernelFNormMem.τ).loc Cert.KernelFNormMem.main_arg0)
      ∧ r.2.mem ((c.tc : Thread Cert.KernelFNormMem.nD Cert.KernelFNormMem.τ).loc Cert.KernelFNormMem.main_arg1) = m ((c.tc : Thread Cert.KernelFNormMem.nD Cert.KernelFNormMem.τ).loc Cert.KernelFNormMem.main_arg1))
      ∧ r.2.sem = fun _ => 0)

def quiescent_KernelFNormMemIdeal [hKernelFNormMemIdeal : Cert.KernelFNormMemIdeal.Facts] : Prop :=
  ∀ (m : (ℓ : Loc Cert.KernelFNormMemIdeal.nD Cert.KernelFNormMemIdeal.τ Cert.KernelFNormMemIdeal.sig) → Buf (Elt Ideal) ℓ) (g : Dev Cert.KernelFNormMemIdeal.nD → PrngReg), Pre_KernelFNormMemIdeal m →
    θ_run (Cert.KernelFNormMemIdeal.defs (F := Ideal)) (onTc (τ := Cert.KernelFNormMemIdeal.τ) (Cert.KernelFNormMemIdeal.main (F := Ideal))) ⟨m, fun _ => 0, g⟩ (fun r => (∀ c : Dev Cert.KernelFNormMemIdeal.nD,
      r.2.mem ((c.tc : Thread Cert.KernelFNormMemIdeal.nD Cert.KernelFNormMemIdeal.τ).loc Cert.KernelFNormMemIdeal.main_arg0) = m ((c.tc : Thread Cert.KernelFNormMemIdeal.nD Cert.KernelFNormMemIdeal.τ).loc Cert.KernelFNormMemIdeal.main_arg0)
      ∧ r.2.mem ((c.tc : Thread Cert.KernelFNormMemIdeal.nD Cert.KernelFNormMemIdeal.τ).loc Cert.KernelFNormMemIdeal.main_arg1) = m ((c.tc : Thread Cert.KernelFNormMemIdeal.nD Cert.KernelFNormMemIdeal.τ).loc Cert.KernelFNormMemIdeal.main_arg1))
      ∧ r.2.sem = fun _ => 0)

def quiescent_ReferenceFNormMemIdeal [hReferenceFNormMemIdeal : Cert.ReferenceFNormMemIdeal.Facts] : Prop :=
  ∀ (m : (ℓ : Loc Cert.ReferenceFNormMemIdeal.nD Cert.ReferenceFNormMemIdeal.τ Cert.ReferenceFNormMemIdeal.sig) → Buf (Elt Ideal) ℓ) (g : Dev Cert.ReferenceFNormMemIdeal.nD → PrngReg), Pre_ReferenceFNormMemIdeal m →
    θ_run (Cert.ReferenceFNormMemIdeal.defs (F := Ideal)) (onTc (τ := Cert.ReferenceFNormMemIdeal.τ) (Cert.ReferenceFNormMemIdeal.main (F := Ideal))) ⟨m, fun _ => 0, g⟩ (fun r => (∀ c : Dev Cert.ReferenceFNormMemIdeal.nD,
      r.2.mem ((c.tc : Thread Cert.ReferenceFNormMemIdeal.nD Cert.ReferenceFNormMemIdeal.τ).loc Cert.ReferenceFNormMemIdeal.main_arg0) = m ((c.tc : Thread Cert.ReferenceFNormMemIdeal.nD Cert.ReferenceFNormMemIdeal.τ).loc Cert.ReferenceFNormMemIdeal.main_arg0)
      ∧ r.2.mem ((c.tc : Thread Cert.ReferenceFNormMemIdeal.nD Cert.ReferenceFNormMemIdeal.τ).loc Cert.ReferenceFNormMemIdeal.main_arg1) = m ((c.tc : Thread Cert.ReferenceFNormMemIdeal.nD Cert.ReferenceFNormMemIdeal.τ).loc Cert.ReferenceFNormMemIdeal.main_arg1))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3)
      ∧ r.2.mem ((c.tc : Thread Cert.KernelAdam.nD Cert.KernelAdam.τ).loc Cert.KernelAdam.main_arg4) = m ((c.tc : Thread Cert.KernelAdam.nD Cert.KernelAdam.τ).loc Cert.KernelAdam.main_arg4))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3)
      ∧ r.2.mem ((c.tc : Thread Cert.KernelAdamIdeal.nD Cert.KernelAdamIdeal.τ).loc Cert.KernelAdamIdeal.main_arg4) = m ((c.tc : Thread Cert.KernelAdamIdeal.nD Cert.KernelAdamIdeal.τ).loc Cert.KernelAdamIdeal.main_arg4))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3)
      ∧ r.2.mem ((c.tc : Thread Cert.ReferenceAdamIdeal.nD Cert.ReferenceAdamIdeal.τ).loc Cert.ReferenceAdamIdeal.main_arg4) = m ((c.tc : Thread Cert.ReferenceAdamIdeal.nD Cert.ReferenceAdamIdeal.τ).loc Cert.ReferenceAdamIdeal.main_arg4))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3)
      ∧ r.2.mem ((c.tc : Thread Cert.KernelAdamIn.nD Cert.KernelAdamIn.τ).loc Cert.KernelAdamIn.main_arg4) = m ((c.tc : Thread Cert.KernelAdamIn.nD Cert.KernelAdamIn.τ).loc Cert.KernelAdamIn.main_arg4))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
      ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3)
      ∧ r.2.mem ((c.tc : Thread Cert.ReferenceAdamInIdeal.nD Cert.ReferenceAdamInIdeal.τ).loc Cert.ReferenceAdamInIdeal.main_arg4) = m ((c.tc : Thread Cert.ReferenceAdamInIdeal.nD Cert.ReferenceAdamInIdeal.τ).loc Cert.ReferenceAdamInIdeal.main_arg4))
      ∧ r.2.sem = fun _ => 0)

def quiescent_KernelAdamSq [hKernelAdamSq : Cert.KernelAdamSq.Facts] : Prop :=
  ∀ (m : (ℓ : Loc Cert.KernelAdamSq.nD Cert.KernelAdamSq.τ Cert.KernelAdamSq.sig) → Buf (Elt Bits) ℓ) (g : Dev Cert.KernelAdamSq.nD → PrngReg), Pre_KernelAdamSq m →
    θ_run (Cert.KernelAdamSq.defs (F := Bits)) (onTc (τ := Cert.KernelAdamSq.τ) (Cert.KernelAdamSq.main (F := Bits))) ⟨m, fun _ => 0, g⟩ (fun r => (∀ c : Dev Cert.KernelAdamSq.nD,
      r.2.mem ((c.tc : Thread Cert.KernelAdamSq.nD Cert.KernelAdamSq.τ).loc Cert.KernelAdamSq.main_arg0) = m ((c.tc : Thread Cert.KernelAdamSq.nD Cert.KernelAdamSq.τ).loc Cert.KernelAdamSq.main_arg0)
      ∧ r.2.mem ((c.tc : Thread Cert.KernelAdamSq.nD Cert.KernelAdamSq.τ).loc Cert.KernelAdamSq.main_arg1) = m ((c.tc : Thread Cert.KernelAdamSq.nD Cert.KernelAdamSq.τ).loc Cert.KernelAdamSq.main_arg1)
      ∧ r.2.mem ((c.tc : Thread Cert.KernelAdamSq.nD Cert.KernelAdamSq.τ).loc Cert.KernelAdamSq.main_arg2) = m ((c.tc : Thread Cert.KernelAdamSq.nD Cert.KernelAdamSq.τ).loc Cert.KernelAdamSq.main_arg2)
      ∧ r.2.mem ((c.tc : Thread Cert.KernelAdamSq.nD Cert.KernelAdamSq.τ).loc Cert.KernelAdamSq.main_arg3) = m ((c.tc : Thread Cert.KernelAdamSq.nD Cert.KernelAdamSq.τ).loc Cert.KernelAdamSq.main_arg3)
      ∧ r.2.mem ((c.tc : Thread Cert.KernelAdamSq.nD Cert.KernelAdamSq.τ).loc Cert.KernelAdamSq.main_arg4) = m ((c.tc : Thread Cert.KernelAdamSq.nD Cert.KernelAdamSq.τ).loc Cert.KernelAdamSq.main_arg4))
      ∧ r.2.sem = fun _ => 0)

def quiescent_KernelAdamSqIdeal [hKernelAdamSqIdeal : Cert.KernelAdamSqIdeal.Facts] : Prop :=
  ∀ (m : (ℓ : Loc Cert.KernelAdamSqIdeal.nD Cert.KernelAdamSqIdeal.τ Cert.KernelAdamSqIdeal.sig) → Buf (Elt Ideal) ℓ) (g : Dev Cert.KernelAdamSqIdeal.nD → PrngReg), Pre_KernelAdamSqIdeal m →
    θ_run (Cert.KernelAdamSqIdeal.defs (F := Ideal)) (onTc (τ := Cert.KernelAdamSqIdeal.τ) (Cert.KernelAdamSqIdeal.main (F := Ideal))) ⟨m, fun _ => 0, g⟩ (fun r => (∀ c : Dev Cert.KernelAdamSqIdeal.nD,
      r.2.mem ((c.tc : Thread Cert.KernelAdamSqIdeal.nD Cert.KernelAdamSqIdeal.τ).loc Cert.KernelAdamSqIdeal.main_arg0) = m ((c.tc : Thread Cert.KernelAdamSqIdeal.nD Cert.KernelAdamSqIdeal.τ).loc Cert.KernelAdamSqIdeal.main_arg0)
      ∧ r.2.mem ((c.tc : Thread Cert.KernelAdamSqIdeal.nD Cert.KernelAdamSqIdeal.τ).loc Cert.KernelAdamSqIdeal.main_arg1) = m ((c.tc : Thread Cert.KernelAdamSqIdeal.nD Cert.KernelAdamSqIdeal.τ).loc Cert.KernelAdamSqIdeal.main_arg1)
      ∧ r.2.mem ((c.tc : Thread Cert.KernelAdamSqIdeal.nD Cert.KernelAdamSqIdeal.τ).loc Cert.KernelAdamSqIdeal.main_arg2) = m ((c.tc : Thread Cert.KernelAdamSqIdeal.nD Cert.KernelAdamSqIdeal.τ).loc Cert.KernelAdamSqIdeal.main_arg2)
      ∧ r.2.mem ((c.tc : Thread Cert.KernelAdamSqIdeal.nD Cert.KernelAdamSqIdeal.τ).loc Cert.KernelAdamSqIdeal.main_arg3) = m ((c.tc : Thread Cert.KernelAdamSqIdeal.nD Cert.KernelAdamSqIdeal.τ).loc Cert.KernelAdamSqIdeal.main_arg3)
      ∧ r.2.mem ((c.tc : Thread Cert.KernelAdamSqIdeal.nD Cert.KernelAdamSqIdeal.τ).loc Cert.KernelAdamSqIdeal.main_arg4) = m ((c.tc : Thread Cert.KernelAdamSqIdeal.nD Cert.KernelAdamSqIdeal.τ).loc Cert.KernelAdamSqIdeal.main_arg4))
      ∧ r.2.sem = fun _ => 0)

def quiescent_ReferenceAdamSqIdeal [hReferenceAdamSqIdeal : Cert.ReferenceAdamSqIdeal.Facts] : Prop :=
  ∀ (m : (ℓ : Loc Cert.ReferenceAdamSqIdeal.nD Cert.ReferenceAdamSqIdeal.τ Cert.ReferenceAdamSqIdeal.sig) → Buf (Elt Ideal) ℓ) (g : Dev Cert.ReferenceAdamSqIdeal.nD → PrngReg), Pre_ReferenceAdamSqIdeal m →
    θ_run (Cert.ReferenceAdamSqIdeal.defs (F := Ideal)) (onTc (τ := Cert.ReferenceAdamSqIdeal.τ) (Cert.ReferenceAdamSqIdeal.main (F := Ideal))) ⟨m, fun _ => 0, g⟩ (fun r => (∀ c : Dev Cert.ReferenceAdamSqIdeal.nD,
      r.2.mem ((c.tc : Thread Cert.ReferenceAdamSqIdeal.nD Cert.ReferenceAdamSqIdeal.τ).loc Cert.ReferenceAdamSqIdeal.main_arg0) = m ((c.tc : Thread Cert.ReferenceAdamSqIdeal.nD Cert.ReferenceAdamSqIdeal.τ).loc Cert.ReferenceAdamSqIdeal.main_arg0)
      ∧ r.2.mem ((c.tc : Thread Cert.ReferenceAdamSqIdeal.nD Cert.ReferenceAdamSqIdeal.τ).loc Cert.ReferenceAdamSqIdeal.main_arg1) = m ((c.tc : Thread Cert.ReferenceAdamSqIdeal.nD Cert.ReferenceAdamSqIdeal.τ).loc Cert.ReferenceAdamSqIdeal.main_arg1)
      ∧ r.2.mem ((c.tc : Thread Cert.ReferenceAdamSqIdeal.nD Cert.ReferenceAdamSqIdeal.τ).loc Cert.ReferenceAdamSqIdeal.main_arg2) = m ((c.tc : Thread Cert.ReferenceAdamSqIdeal.nD Cert.ReferenceAdamSqIdeal.τ).loc Cert.ReferenceAdamSqIdeal.main_arg2)
      ∧ r.2.mem ((c.tc : Thread Cert.ReferenceAdamSqIdeal.nD Cert.ReferenceAdamSqIdeal.τ).loc Cert.ReferenceAdamSqIdeal.main_arg3) = m ((c.tc : Thread Cert.ReferenceAdamSqIdeal.nD Cert.ReferenceAdamSqIdeal.τ).loc Cert.ReferenceAdamSqIdeal.main_arg3)
      ∧ r.2.mem ((c.tc : Thread Cert.ReferenceAdamSqIdeal.nD Cert.ReferenceAdamSqIdeal.τ).loc Cert.ReferenceAdamSqIdeal.main_arg4) = m ((c.tc : Thread Cert.ReferenceAdamSqIdeal.nD Cert.ReferenceAdamSqIdeal.τ).loc Cert.ReferenceAdamSqIdeal.main_arg4))
      ∧ r.2.sem = fun _ => 0)

def quiescent_KernelAdamKv [hKernelAdamKv : Cert.KernelAdamKv.Facts] : Prop :=
  ∀ (m : (ℓ : Loc Cert.KernelAdamKv.nD Cert.KernelAdamKv.τ Cert.KernelAdamKv.sig) → Buf (Elt Bits) ℓ) (g : Dev Cert.KernelAdamKv.nD → PrngReg), Pre_KernelAdamKv m →
    θ_run (Cert.KernelAdamKv.defs (F := Bits)) (onTc (τ := Cert.KernelAdamKv.τ) (Cert.KernelAdamKv.main (F := Bits))) ⟨m, fun _ => 0, g⟩ (fun r => (∀ c : Dev Cert.KernelAdamKv.nD,
      r.2.mem ((c.tc : Thread Cert.KernelAdamKv.nD Cert.KernelAdamKv.τ).loc Cert.KernelAdamKv.main_arg0) = m ((c.tc : Thread Cert.KernelAdamKv.nD Cert.KernelAdamKv.τ).loc Cert.KernelAdamKv.main_arg0)
      ∧ r.2.mem ((c.tc : Thread Cert.KernelAdamKv.nD Cert.KernelAdamKv.τ).loc Cert.KernelAdamKv.main_arg1) = m ((c.tc : Thread Cert.KernelAdamKv.nD Cert.KernelAdamKv.τ).loc Cert.KernelAdamKv.main_arg1)
      ∧ r.2.mem ((c.tc : Thread Cert.KernelAdamKv.nD Cert.KernelAdamKv.τ).loc Cert.KernelAdamKv.main_arg2) = m ((c.tc : Thread Cert.KernelAdamKv.nD Cert.KernelAdamKv.τ).loc Cert.KernelAdamKv.main_arg2)
      ∧ r.2.mem ((c.tc : Thread Cert.KernelAdamKv.nD Cert.KernelAdamKv.τ).loc Cert.KernelAdamKv.main_arg3) = m ((c.tc : Thread Cert.KernelAdamKv.nD Cert.KernelAdamKv.τ).loc Cert.KernelAdamKv.main_arg3)
      ∧ r.2.mem ((c.tc : Thread Cert.KernelAdamKv.nD Cert.KernelAdamKv.τ).loc Cert.KernelAdamKv.main_arg4) = m ((c.tc : Thread Cert.KernelAdamKv.nD Cert.KernelAdamKv.τ).loc Cert.KernelAdamKv.main_arg4))
      ∧ r.2.sem = fun _ => 0)

def quiescent_KernelAdamKvIdeal [hKernelAdamKvIdeal : Cert.KernelAdamKvIdeal.Facts] : Prop :=
  ∀ (m : (ℓ : Loc Cert.KernelAdamKvIdeal.nD Cert.KernelAdamKvIdeal.τ Cert.KernelAdamKvIdeal.sig) → Buf (Elt Ideal) ℓ) (g : Dev Cert.KernelAdamKvIdeal.nD → PrngReg), Pre_KernelAdamKvIdeal m →
    θ_run (Cert.KernelAdamKvIdeal.defs (F := Ideal)) (onTc (τ := Cert.KernelAdamKvIdeal.τ) (Cert.KernelAdamKvIdeal.main (F := Ideal))) ⟨m, fun _ => 0, g⟩ (fun r => (∀ c : Dev Cert.KernelAdamKvIdeal.nD,
      r.2.mem ((c.tc : Thread Cert.KernelAdamKvIdeal.nD Cert.KernelAdamKvIdeal.τ).loc Cert.KernelAdamKvIdeal.main_arg0) = m ((c.tc : Thread Cert.KernelAdamKvIdeal.nD Cert.KernelAdamKvIdeal.τ).loc Cert.KernelAdamKvIdeal.main_arg0)
      ∧ r.2.mem ((c.tc : Thread Cert.KernelAdamKvIdeal.nD Cert.KernelAdamKvIdeal.τ).loc Cert.KernelAdamKvIdeal.main_arg1) = m ((c.tc : Thread Cert.KernelAdamKvIdeal.nD Cert.KernelAdamKvIdeal.τ).loc Cert.KernelAdamKvIdeal.main_arg1)
      ∧ r.2.mem ((c.tc : Thread Cert.KernelAdamKvIdeal.nD Cert.KernelAdamKvIdeal.τ).loc Cert.KernelAdamKvIdeal.main_arg2) = m ((c.tc : Thread Cert.KernelAdamKvIdeal.nD Cert.KernelAdamKvIdeal.τ).loc Cert.KernelAdamKvIdeal.main_arg2)
      ∧ r.2.mem ((c.tc : Thread Cert.KernelAdamKvIdeal.nD Cert.KernelAdamKvIdeal.τ).loc Cert.KernelAdamKvIdeal.main_arg3) = m ((c.tc : Thread Cert.KernelAdamKvIdeal.nD Cert.KernelAdamKvIdeal.τ).loc Cert.KernelAdamKvIdeal.main_arg3)
      ∧ r.2.mem ((c.tc : Thread Cert.KernelAdamKvIdeal.nD Cert.KernelAdamKvIdeal.τ).loc Cert.KernelAdamKvIdeal.main_arg4) = m ((c.tc : Thread Cert.KernelAdamKvIdeal.nD Cert.KernelAdamKvIdeal.τ).loc Cert.KernelAdamKvIdeal.main_arg4))
      ∧ r.2.sem = fun _ => 0)

def quiescent_ReferenceAdamKvIdeal [hReferenceAdamKvIdeal : Cert.ReferenceAdamKvIdeal.Facts] : Prop :=
  ∀ (m : (ℓ : Loc Cert.ReferenceAdamKvIdeal.nD Cert.ReferenceAdamKvIdeal.τ Cert.ReferenceAdamKvIdeal.sig) → Buf (Elt Ideal) ℓ) (g : Dev Cert.ReferenceAdamKvIdeal.nD → PrngReg), Pre_ReferenceAdamKvIdeal m →
    θ_run (Cert.ReferenceAdamKvIdeal.defs (F := Ideal)) (onTc (τ := Cert.ReferenceAdamKvIdeal.τ) (Cert.ReferenceAdamKvIdeal.main (F := Ideal))) ⟨m, fun _ => 0, g⟩ (fun r => (∀ c : Dev Cert.ReferenceAdamKvIdeal.nD,
      r.2.mem ((c.tc : Thread Cert.ReferenceAdamKvIdeal.nD Cert.ReferenceAdamKvIdeal.τ).loc Cert.ReferenceAdamKvIdeal.main_arg0) = m ((c.tc : Thread Cert.ReferenceAdamKvIdeal.nD Cert.ReferenceAdamKvIdeal.τ).loc Cert.ReferenceAdamKvIdeal.main_arg0)
      ∧ r.2.mem ((c.tc : Thread Cert.ReferenceAdamKvIdeal.nD Cert.ReferenceAdamKvIdeal.τ).loc Cert.ReferenceAdamKvIdeal.main_arg1) = m ((c.tc : Thread Cert.ReferenceAdamKvIdeal.nD Cert.ReferenceAdamKvIdeal.τ).loc Cert.ReferenceAdamKvIdeal.main_arg1)
      ∧ r.2.mem ((c.tc : Thread Cert.ReferenceAdamKvIdeal.nD Cert.ReferenceAdamKvIdeal.τ).loc Cert.ReferenceAdamKvIdeal.main_arg2) = m ((c.tc : Thread Cert.ReferenceAdamKvIdeal.nD Cert.ReferenceAdamKvIdeal.τ).loc Cert.ReferenceAdamKvIdeal.main_arg2)
      ∧ r.2.mem ((c.tc : Thread Cert.ReferenceAdamKvIdeal.nD Cert.ReferenceAdamKvIdeal.τ).loc Cert.ReferenceAdamKvIdeal.main_arg3) = m ((c.tc : Thread Cert.ReferenceAdamKvIdeal.nD Cert.ReferenceAdamKvIdeal.τ).loc Cert.ReferenceAdamKvIdeal.main_arg3)
      ∧ r.2.mem ((c.tc : Thread Cert.ReferenceAdamKvIdeal.nD Cert.ReferenceAdamKvIdeal.τ).loc Cert.ReferenceAdamKvIdeal.main_arg4) = m ((c.tc : Thread Cert.ReferenceAdamKvIdeal.nD Cert.ReferenceAdamKvIdeal.τ).loc Cert.ReferenceAdamKvIdeal.main_arg4))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelSum [hKernelSum : Cert.KernelSum.Facts] : Prop :=
  ∀ (m : (ℓ : Loc Cert.KernelSum.nD Cert.KernelSum.τ Cert.KernelSum.sig) → Buf (Elt Bits) ℓ) (g : Dev Cert.KernelSum.nD → PrngReg), Pre_KernelSum m →
    θ_run (Cert.KernelSum.defs (F := Bits)) (onTc (τ := Cert.KernelSum.τ) (Cert.KernelSum.main (F := Bits))) ⟨m, fun _ => 0, g⟩ (fun r => (∀ c : Dev Cert.KernelSum.nD,
      r.2.mem ((c.tc : Thread Cert.KernelSum.nD Cert.KernelSum.τ).loc Cert.KernelSum.main_arg0) = m ((c.tc : Thread Cert.KernelSum.nD Cert.KernelSum.τ).loc Cert.KernelSum.main_arg0))
      ∧ r.2.sem = fun _ => 0)

def quiescent_KernelSumIdeal [hKernelSumIdeal : Cert.KernelSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg), Pre_KernelSumIdeal m →
    θ_run (Cert.KernelSumIdeal.defs (F := Ideal)) (onTc (τ := Cert.KernelSumIdeal.τ) (Cert.KernelSumIdeal.main (F := Ideal))) ⟨m, fun _ => 0, g⟩ (fun r => (∀ c : Dev Cert.KernelSumIdeal.nD,
      r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ r.2.sem = fun _ => 0)

def quiescent_ReferenceSumIdeal [hReferenceSumIdeal : Cert.ReferenceSumIdeal.Facts] : Prop :=
  ∀ (m : (ℓ : Loc Cert.ReferenceSumIdeal.nD Cert.ReferenceSumIdeal.τ Cert.ReferenceSumIdeal.sig) → Buf (Elt Ideal) ℓ) (g : Dev Cert.ReferenceSumIdeal.nD → PrngReg), Pre_ReferenceSumIdeal m →
    θ_run (Cert.ReferenceSumIdeal.defs (F := Ideal)) (onTc (τ := Cert.ReferenceSumIdeal.τ) (Cert.ReferenceSumIdeal.main (F := Ideal))) ⟨m, fun _ => 0, g⟩ (fun r => (∀ c : Dev Cert.ReferenceSumIdeal.nD,
      r.2.mem ((c.tc : Thread Cert.ReferenceSumIdeal.nD Cert.ReferenceSumIdeal.τ).loc Cert.ReferenceSumIdeal.main_arg0) = m ((c.tc : Thread Cert.ReferenceSumIdeal.nD Cert.ReferenceSumIdeal.τ).loc Cert.ReferenceSumIdeal.main_arg0))
      ∧ r.2.sem = fun _ => 0)

def quiescent_KernelLnF [hKernelLnF : Cert.KernelLnF.Facts] : Prop :=
  ∀ (m : (ℓ : Loc Cert.KernelLnF.nD Cert.KernelLnF.τ Cert.KernelLnF.sig) → Buf (Elt Bits) ℓ) (g : Dev Cert.KernelLnF.nD → PrngReg), Pre_KernelLnF m →
    θ_run (Cert.KernelLnF.defs (F := Bits)) (onTc (τ := Cert.KernelLnF.τ) (Cert.KernelLnF.main (F := Bits))) ⟨m, fun _ => 0, g⟩ (fun r => (∀ c : Dev Cert.KernelLnF.nD,
      r.2.mem ((c.tc : Thread Cert.KernelLnF.nD Cert.KernelLnF.τ).loc Cert.KernelLnF.main_arg0) = m ((c.tc : Thread Cert.KernelLnF.nD Cert.KernelLnF.τ).loc Cert.KernelLnF.main_arg0)
      ∧ r.2.mem ((c.tc : Thread Cert.KernelLnF.nD Cert.KernelLnF.τ).loc Cert.KernelLnF.main_arg1) = m ((c.tc : Thread Cert.KernelLnF.nD Cert.KernelLnF.τ).loc Cert.KernelLnF.main_arg1)
      ∧ r.2.mem ((c.tc : Thread Cert.KernelLnF.nD Cert.KernelLnF.τ).loc Cert.KernelLnF.main_arg2) = m ((c.tc : Thread Cert.KernelLnF.nD Cert.KernelLnF.τ).loc Cert.KernelLnF.main_arg2)
      ∧ r.2.mem ((c.tc : Thread Cert.KernelLnF.nD Cert.KernelLnF.τ).loc Cert.KernelLnF.main_arg3) = m ((c.tc : Thread Cert.KernelLnF.nD Cert.KernelLnF.τ).loc Cert.KernelLnF.main_arg3))
      ∧ r.2.sem = fun _ => 0)

def quiescent_KernelLnFIdeal [hKernelLnFIdeal : Cert.KernelLnFIdeal.Facts] : Prop :=
  ∀ (m : (ℓ : Loc Cert.KernelLnFIdeal.nD Cert.KernelLnFIdeal.τ Cert.KernelLnFIdeal.sig) → Buf (Elt Ideal) ℓ) (g : Dev Cert.KernelLnFIdeal.nD → PrngReg), Pre_KernelLnFIdeal m →
    θ_run (Cert.KernelLnFIdeal.defs (F := Ideal)) (onTc (τ := Cert.KernelLnFIdeal.τ) (Cert.KernelLnFIdeal.main (F := Ideal))) ⟨m, fun _ => 0, g⟩ (fun r => (∀ c : Dev Cert.KernelLnFIdeal.nD,
      r.2.mem ((c.tc : Thread Cert.KernelLnFIdeal.nD Cert.KernelLnFIdeal.τ).loc Cert.KernelLnFIdeal.main_arg0) = m ((c.tc : Thread Cert.KernelLnFIdeal.nD Cert.KernelLnFIdeal.τ).loc Cert.KernelLnFIdeal.main_arg0)
      ∧ r.2.mem ((c.tc : Thread Cert.KernelLnFIdeal.nD Cert.KernelLnFIdeal.τ).loc Cert.KernelLnFIdeal.main_arg1) = m ((c.tc : Thread Cert.KernelLnFIdeal.nD Cert.KernelLnFIdeal.τ).loc Cert.KernelLnFIdeal.main_arg1)
      ∧ r.2.mem ((c.tc : Thread Cert.KernelLnFIdeal.nD Cert.KernelLnFIdeal.τ).loc Cert.KernelLnFIdeal.main_arg2) = m ((c.tc : Thread Cert.KernelLnFIdeal.nD Cert.KernelLnFIdeal.τ).loc Cert.KernelLnFIdeal.main_arg2)
      ∧ r.2.mem ((c.tc : Thread Cert.KernelLnFIdeal.nD Cert.KernelLnFIdeal.τ).loc Cert.KernelLnFIdeal.main_arg3) = m ((c.tc : Thread Cert.KernelLnFIdeal.nD Cert.KernelLnFIdeal.τ).loc Cert.KernelLnFIdeal.main_arg3))
      ∧ r.2.sem = fun _ => 0)

def quiescent_ReferenceLnFIdeal [hReferenceLnFIdeal : Cert.ReferenceLnFIdeal.Facts] : Prop :=
  ∀ (m : (ℓ : Loc Cert.ReferenceLnFIdeal.nD Cert.ReferenceLnFIdeal.τ Cert.ReferenceLnFIdeal.sig) → Buf (Elt Ideal) ℓ) (g : Dev Cert.ReferenceLnFIdeal.nD → PrngReg), Pre_ReferenceLnFIdeal m →
    θ_run (Cert.ReferenceLnFIdeal.defs (F := Ideal)) (onTc (τ := Cert.ReferenceLnFIdeal.τ) (Cert.ReferenceLnFIdeal.main (F := Ideal))) ⟨m, fun _ => 0, g⟩ (fun r => (∀ c : Dev Cert.ReferenceLnFIdeal.nD,
      r.2.mem ((c.tc : Thread Cert.ReferenceLnFIdeal.nD Cert.ReferenceLnFIdeal.τ).loc Cert.ReferenceLnFIdeal.main_arg0) = m ((c.tc : Thread Cert.ReferenceLnFIdeal.nD Cert.ReferenceLnFIdeal.τ).loc Cert.ReferenceLnFIdeal.main_arg0)
      ∧ r.2.mem ((c.tc : Thread Cert.ReferenceLnFIdeal.nD Cert.ReferenceLnFIdeal.τ).loc Cert.ReferenceLnFIdeal.main_arg1) = m ((c.tc : Thread Cert.ReferenceLnFIdeal.nD Cert.ReferenceLnFIdeal.τ).loc Cert.ReferenceLnFIdeal.main_arg1)
      ∧ r.2.mem ((c.tc : Thread Cert.ReferenceLnFIdeal.nD Cert.ReferenceLnFIdeal.τ).loc Cert.ReferenceLnFIdeal.main_arg2) = m ((c.tc : Thread Cert.ReferenceLnFIdeal.nD Cert.ReferenceLnFIdeal.τ).loc Cert.ReferenceLnFIdeal.main_arg2)
      ∧ r.2.mem ((c.tc : Thread Cert.ReferenceLnFIdeal.nD Cert.ReferenceLnFIdeal.τ).loc Cert.ReferenceLnFIdeal.main_arg3) = m ((c.tc : Thread Cert.ReferenceLnFIdeal.nD Cert.ReferenceLnFIdeal.τ).loc Cert.ReferenceLnFIdeal.main_arg3))
      ∧ r.2.sem = fun _ => 0)

def quiescent_KernelMixBF [hKernelMixBF : Cert.KernelMixBF.Facts] : Prop :=
  ∀ (m : (ℓ : Loc Cert.KernelMixBF.nD Cert.KernelMixBF.τ Cert.KernelMixBF.sig) → Buf (Elt Bits) ℓ) (g : Dev Cert.KernelMixBF.nD → PrngReg), Pre_KernelMixBF m →
    θ_run (Cert.KernelMixBF.defs (F := Bits)) (onTc (τ := Cert.KernelMixBF.τ) (Cert.KernelMixBF.main (F := Bits))) ⟨m, fun _ => 0, g⟩ (fun r => (∀ c : Dev Cert.KernelMixBF.nD,
      r.2.mem ((c.tc : Thread Cert.KernelMixBF.nD Cert.KernelMixBF.τ).loc Cert.KernelMixBF.main_arg0) = m ((c.tc : Thread Cert.KernelMixBF.nD Cert.KernelMixBF.τ).loc Cert.KernelMixBF.main_arg0)
      ∧ r.2.mem ((c.tc : Thread Cert.KernelMixBF.nD Cert.KernelMixBF.τ).loc Cert.KernelMixBF.main_arg1) = m ((c.tc : Thread Cert.KernelMixBF.nD Cert.KernelMixBF.τ).loc Cert.KernelMixBF.main_arg1)
      ∧ r.2.mem ((c.tc : Thread Cert.KernelMixBF.nD Cert.KernelMixBF.τ).loc Cert.KernelMixBF.main_arg2) = m ((c.tc : Thread Cert.KernelMixBF.nD Cert.KernelMixBF.τ).loc Cert.KernelMixBF.main_arg2))
      ∧ r.2.sem = fun _ => 0)

def quiescent_KernelMixBFIdeal [hKernelMixBFIdeal : Cert.KernelMixBFIdeal.Facts] : Prop :=
  ∀ (m : (ℓ : Loc Cert.KernelMixBFIdeal.nD Cert.KernelMixBFIdeal.τ Cert.KernelMixBFIdeal.sig) → Buf (Elt Ideal) ℓ) (g : Dev Cert.KernelMixBFIdeal.nD → PrngReg), Pre_KernelMixBFIdeal m →
    θ_run (Cert.KernelMixBFIdeal.defs (F := Ideal)) (onTc (τ := Cert.KernelMixBFIdeal.τ) (Cert.KernelMixBFIdeal.main (F := Ideal))) ⟨m, fun _ => 0, g⟩ (fun r => (∀ c : Dev Cert.KernelMixBFIdeal.nD,
      r.2.mem ((c.tc : Thread Cert.KernelMixBFIdeal.nD Cert.KernelMixBFIdeal.τ).loc Cert.KernelMixBFIdeal.main_arg0) = m ((c.tc : Thread Cert.KernelMixBFIdeal.nD Cert.KernelMixBFIdeal.τ).loc Cert.KernelMixBFIdeal.main_arg0)
      ∧ r.2.mem ((c.tc : Thread Cert.KernelMixBFIdeal.nD Cert.KernelMixBFIdeal.τ).loc Cert.KernelMixBFIdeal.main_arg1) = m ((c.tc : Thread Cert.KernelMixBFIdeal.nD Cert.KernelMixBFIdeal.τ).loc Cert.KernelMixBFIdeal.main_arg1)
      ∧ r.2.mem ((c.tc : Thread Cert.KernelMixBFIdeal.nD Cert.KernelMixBFIdeal.τ).loc Cert.KernelMixBFIdeal.main_arg2) = m ((c.tc : Thread Cert.KernelMixBFIdeal.nD Cert.KernelMixBFIdeal.τ).loc Cert.KernelMixBFIdeal.main_arg2))
      ∧ r.2.sem = fun _ => 0)

def quiescent_ReferenceMixBFIdeal [hReferenceMixBFIdeal : Cert.ReferenceMixBFIdeal.Facts] : Prop :=
  ∀ (m : (ℓ : Loc Cert.ReferenceMixBFIdeal.nD Cert.ReferenceMixBFIdeal.τ Cert.ReferenceMixBFIdeal.sig) → Buf (Elt Ideal) ℓ) (g : Dev Cert.ReferenceMixBFIdeal.nD → PrngReg), Pre_ReferenceMixBFIdeal m →
    θ_run (Cert.ReferenceMixBFIdeal.defs (F := Ideal)) (onTc (τ := Cert.ReferenceMixBFIdeal.τ) (Cert.ReferenceMixBFIdeal.main (F := Ideal))) ⟨m, fun _ => 0, g⟩ (fun r => (∀ c : Dev Cert.ReferenceMixBFIdeal.nD,
      r.2.mem ((c.tc : Thread Cert.ReferenceMixBFIdeal.nD Cert.ReferenceMixBFIdeal.τ).loc Cert.ReferenceMixBFIdeal.main_arg0) = m ((c.tc : Thread Cert.ReferenceMixBFIdeal.nD Cert.ReferenceMixBFIdeal.τ).loc Cert.ReferenceMixBFIdeal.main_arg0)
      ∧ r.2.mem ((c.tc : Thread Cert.ReferenceMixBFIdeal.nD Cert.ReferenceMixBFIdeal.τ).loc Cert.ReferenceMixBFIdeal.main_arg1) = m ((c.tc : Thread Cert.ReferenceMixBFIdeal.nD Cert.ReferenceMixBFIdeal.τ).loc Cert.ReferenceMixBFIdeal.main_arg1)
      ∧ r.2.mem ((c.tc : Thread Cert.ReferenceMixBFIdeal.nD Cert.ReferenceMixBFIdeal.τ).loc Cert.ReferenceMixBFIdeal.main_arg2) = m ((c.tc : Thread Cert.ReferenceMixBFIdeal.nD Cert.ReferenceMixBFIdeal.τ).loc Cert.ReferenceMixBFIdeal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelHidden_KernelHiddenIdeal : Prop :=
  True

def algebraic_KernelHiddenIdeal_ReferenceHiddenIdeal [hKernelHiddenIdeal : Cert.KernelHiddenIdeal.Facts] [hReferenceHiddenIdeal : Cert.ReferenceHiddenIdeal.Facts] : Prop :=
  ∀ (m : (ℓ : Loc Cert.KernelHiddenIdeal.nD Cert.KernelHiddenIdeal.τ Cert.KernelHiddenIdeal.sig) → Buf (Elt Ideal) ℓ) (g : Dev Cert.KernelHiddenIdeal.nD → PrngReg)
    (m' : (ℓ : Loc Cert.ReferenceHiddenIdeal.nD Cert.ReferenceHiddenIdeal.τ Cert.ReferenceHiddenIdeal.sig) → Buf (Elt Ideal) ℓ) (g' : Dev Cert.ReferenceHiddenIdeal.nD → PrngReg), Pre_KernelHiddenIdeal m →
    (∀ c : Dev Cert.KernelHiddenIdeal.nD,
      m' ((c.tc : Thread Cert.ReferenceHiddenIdeal.nD Cert.ReferenceHiddenIdeal.τ).loc Cert.ReferenceHiddenIdeal.main_arg0) = m ((c.tc : Thread Cert.KernelHiddenIdeal.nD Cert.KernelHiddenIdeal.τ).loc Cert.KernelHiddenIdeal.main_arg0)
      ∧ m' ((c.tc : Thread Cert.ReferenceHiddenIdeal.nD Cert.ReferenceHiddenIdeal.τ).loc Cert.ReferenceHiddenIdeal.main_arg1) = m ((c.tc : Thread Cert.KernelHiddenIdeal.nD Cert.KernelHiddenIdeal.τ).loc Cert.KernelHiddenIdeal.main_arg1)
      ∧ m' ((c.tc : Thread Cert.ReferenceHiddenIdeal.nD Cert.ReferenceHiddenIdeal.τ).loc Cert.ReferenceHiddenIdeal.main_arg2) = m ((c.tc : Thread Cert.KernelHiddenIdeal.nD Cert.KernelHiddenIdeal.τ).loc Cert.KernelHiddenIdeal.main_arg2)) →
    ∃ (v0 : (c : Dev Cert.KernelHiddenIdeal.nD) → Buf (Elt Ideal) ((c.tc : Thread Cert.KernelHiddenIdeal.nD Cert.KernelHiddenIdeal.τ).loc Cert.KernelHiddenIdeal.main_v0)),
      θ_run (Cert.KernelHiddenIdeal.defs (F := Ideal)) (onTc (τ := Cert.KernelHiddenIdeal.τ) (Cert.KernelHiddenIdeal.main (F := Ideal))) ⟨m, fun _ => 0, g⟩ (fun r => ∀ c : Dev Cert.KernelHiddenIdeal.nD,
          r.2.mem ((c.tc : Thread Cert.KernelHiddenIdeal.nD Cert.KernelHiddenIdeal.τ).loc Cert.KernelHiddenIdeal.main_v0) = v0 c
          ∧ r.2.mem ((c.tc : Thread Cert.KernelHiddenIdeal.nD Cert.KernelHiddenIdeal.τ).loc Cert.KernelHiddenIdeal.main_arg0) = m ((c.tc : Thread Cert.KernelHiddenIdeal.nD Cert.KernelHiddenIdeal.τ).loc Cert.KernelHiddenIdeal.main_arg0)
          ∧ r.2.mem ((c.tc : Thread Cert.KernelHiddenIdeal.nD Cert.KernelHiddenIdeal.τ).loc Cert.KernelHiddenIdeal.main_arg1) = m ((c.tc : Thread Cert.KernelHiddenIdeal.nD Cert.KernelHiddenIdeal.τ).loc Cert.KernelHiddenIdeal.main_arg1)
          ∧ r.2.mem ((c.tc : Thread Cert.KernelHiddenIdeal.nD Cert.KernelHiddenIdeal.τ).loc Cert.KernelHiddenIdeal.main_arg2) = m ((c.tc : Thread Cert.KernelHiddenIdeal.nD Cert.KernelHiddenIdeal.τ).loc Cert.KernelHiddenIdeal.main_arg2))
      ∧ θ_run (Cert.ReferenceHiddenIdeal.defs (F := Ideal)) (onTc (τ := Cert.ReferenceHiddenIdeal.τ) (Cert.ReferenceHiddenIdeal.main (F := Ideal))) ⟨m', fun _ => 0, g'⟩ (fun r => ∀ c : Dev Cert.ReferenceHiddenIdeal.nD,
          r.2.mem ((c.tc : Thread Cert.ReferenceHiddenIdeal.nD Cert.ReferenceHiddenIdeal.τ).loc Cert.ReferenceHiddenIdeal.main_v15) = v0 c
          ∧ r.2.mem ((c.tc : Thread Cert.ReferenceHiddenIdeal.nD Cert.ReferenceHiddenIdeal.τ).loc Cert.ReferenceHiddenIdeal.main_arg0) = m' ((c.tc : Thread Cert.ReferenceHiddenIdeal.nD Cert.ReferenceHiddenIdeal.τ).loc Cert.ReferenceHiddenIdeal.main_arg0)
          ∧ r.2.mem ((c.tc : Thread Cert.ReferenceHiddenIdeal.nD Cert.ReferenceHiddenIdeal.τ).loc Cert.ReferenceHiddenIdeal.main_arg1) = m' ((c.tc : Thread Cert.ReferenceHiddenIdeal.nD Cert.ReferenceHiddenIdeal.τ).loc Cert.ReferenceHiddenIdeal.main_arg1)
          ∧ r.2.mem ((c.tc : Thread Cert.ReferenceHiddenIdeal.nD Cert.ReferenceHiddenIdeal.τ).loc Cert.ReferenceHiddenIdeal.main_arg2) = m' ((c.tc : Thread Cert.ReferenceHiddenIdeal.nD Cert.ReferenceHiddenIdeal.τ).loc Cert.ReferenceHiddenIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0_0)) (v1 : (c : Dev Cert.KernelDownIdeal.nD) → Buf (Elt Ideal) ((c.tc : Thread Cert.KernelDownIdeal.nD Cert.KernelDownIdeal.τ).loc Cert.KernelDownIdeal.main_v0_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0_0) = v0 c
          ∧ r.2.mem ((c.tc : Thread Cert.KernelDownIdeal.nD Cert.KernelDownIdeal.τ).loc Cert.KernelDownIdeal.main_v0_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_v6) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v14) = v0 c
          ∧ r.2.mem ((c.tc : Thread Cert.ReferenceUpIdeal.nD Cert.ReferenceUpIdeal.τ).loc Cert.ReferenceUpIdeal.main_v15) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v0_0)) (v1 : (c : Dev Cert.KernelNormIdeal.nD) → Buf (Elt Ideal) ((c.tc : Thread Cert.KernelNormIdeal.nD Cert.KernelNormIdeal.τ).loc Cert.KernelNormIdeal.main_v0_1)) (v2 : (c : Dev Cert.KernelNormIdeal.nD) → Buf (Elt Ideal) ((c.tc : Thread Cert.KernelNormIdeal.nD Cert.KernelNormIdeal.τ).loc Cert.KernelNormIdeal.main_v0_2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0_0) = v0 c
          ∧ r.2.mem ((c.tc : Thread Cert.KernelNormIdeal.nD Cert.KernelNormIdeal.τ).loc Cert.KernelNormIdeal.main_v0_1) = v1 c
          ∧ r.2.mem ((c.tc : Thread Cert.KernelNormIdeal.nD Cert.KernelNormIdeal.τ).loc Cert.KernelNormIdeal.main_v0_2) = v2 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v47) = v0 c
          ∧ r.2.mem ((c.tc : Thread Cert.ReferenceNormIdeal.nD Cert.ReferenceNormIdeal.τ).loc Cert.ReferenceNormIdeal.main_v48) = v1 c
          ∧ r.2.mem ((c.tc : Thread Cert.ReferenceNormIdeal.nD Cert.ReferenceNormIdeal.τ).loc Cert.ReferenceNormIdeal.main_v30) = v2 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v0_0)) (v1 : (c : Dev Cert.KernelProjIdeal.nD) → Buf (Elt Ideal) ((c.tc : Thread Cert.KernelProjIdeal.nD Cert.KernelProjIdeal.τ).loc Cert.KernelProjIdeal.main_v0_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0_0) = v0 c
          ∧ r.2.mem ((c.tc : Thread Cert.KernelProjIdeal.nD Cert.KernelProjIdeal.τ).loc Cert.KernelProjIdeal.main_v0_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v5) = v0 c
          ∧ r.2.mem ((c.tc : Thread Cert.ReferenceProjIdeal.nD Cert.ReferenceProjIdeal.τ).loc Cert.ReferenceProjIdeal.main_v6) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0_0)) (v1 : (c : Dev Cert.KernelInIdeal.nD) → Buf (Elt Ideal) ((c.tc : Thread Cert.KernelInIdeal.nD Cert.KernelInIdeal.τ).loc Cert.KernelInIdeal.main_v0_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0_0) = v0 c
          ∧ r.2.mem ((c.tc : Thread Cert.KernelInIdeal.nD Cert.KernelInIdeal.τ).loc Cert.KernelInIdeal.main_v0_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v14) = v0 c
          ∧ r.2.mem ((c.tc : Thread Cert.ReferenceInIdeal.nD Cert.ReferenceInIdeal.τ).loc Cert.ReferenceInIdeal.main_v15) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelDout_KernelDoutIdeal : Prop :=
  True

def algebraic_KernelDoutIdeal_ReferenceDoutIdeal [hKernelDoutIdeal : Cert.KernelDoutIdeal.Facts] [hReferenceDoutIdeal : Cert.ReferenceDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg)
    (m' : (ℓ : Loc Cert.ReferenceDoutIdeal.nD Cert.ReferenceDoutIdeal.τ Cert.ReferenceDoutIdeal.sig) → Buf (Elt Ideal) ℓ) (g' : Dev Cert.ReferenceDoutIdeal.nD → PrngReg), Pre_KernelDoutIdeal m →
    (∀ c : Dev Cert.KernelDoutIdeal.nD,
      m' ((c.tc : Thread Cert.ReferenceDoutIdeal.nD Cert.ReferenceDoutIdeal.τ).loc Cert.ReferenceDoutIdeal.main_arg0) = m ((c.tc : Thread Cert.KernelDoutIdeal.nD Cert.KernelDoutIdeal.τ).loc Cert.KernelDoutIdeal.main_arg0)
      ∧ m' ((c.tc : Thread Cert.ReferenceDoutIdeal.nD Cert.ReferenceDoutIdeal.τ).loc Cert.ReferenceDoutIdeal.main_arg1) = m ((c.tc : Thread Cert.KernelDoutIdeal.nD Cert.KernelDoutIdeal.τ).loc Cert.KernelDoutIdeal.main_arg1)) →
    ∃ (v0 : (c : Dev Cert.KernelDoutIdeal.nD) → Buf (Elt Ideal) ((c.tc : Thread Cert.KernelDoutIdeal.nD Cert.KernelDoutIdeal.τ).loc Cert.KernelDoutIdeal.main_v0)),
      θ_run (Cert.KernelDoutIdeal.defs (F := Ideal)) (onTc (τ := Cert.KernelDoutIdeal.τ) (Cert.KernelDoutIdeal.main (F := Ideal))) ⟨m, fun _ => 0, g⟩ (fun r => ∀ c : Dev Cert.KernelDoutIdeal.nD,
          r.2.mem ((c.tc : Thread Cert.KernelDoutIdeal.nD Cert.KernelDoutIdeal.τ).loc Cert.KernelDoutIdeal.main_v0) = v0 c
          ∧ r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
          ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1))
      ∧ θ_run (Cert.ReferenceDoutIdeal.defs (F := Ideal)) (onTc (τ := Cert.ReferenceDoutIdeal.τ) (Cert.ReferenceDoutIdeal.main (F := Ideal))) ⟨m', fun _ => 0, g'⟩ (fun r => ∀ c : Dev Cert.ReferenceDoutIdeal.nD,
          r.2.mem ((c.tc : Thread Cert.ReferenceDoutIdeal.nD Cert.ReferenceDoutIdeal.τ).loc Cert.ReferenceDoutIdeal.main_v5) = v0 c
          ∧ r.2.mem ((c.tc : Thread Cert.ReferenceDoutIdeal.nD Cert.ReferenceDoutIdeal.τ).loc Cert.ReferenceDoutIdeal.main_arg0) = m' ((c.tc : Thread Cert.ReferenceDoutIdeal.nD Cert.ReferenceDoutIdeal.τ).loc Cert.ReferenceDoutIdeal.main_arg0)
          ∧ r.2.mem ((c.tc : Thread Cert.ReferenceDoutIdeal.nD Cert.ReferenceDoutIdeal.τ).loc Cert.ReferenceDoutIdeal.main_arg1) = m' ((c.tc : Thread Cert.ReferenceDoutIdeal.nD Cert.ReferenceDoutIdeal.τ).loc Cert.ReferenceDoutIdeal.main_arg1))

def preserves_KernelDy_KernelDyIdeal : Prop :=
  True

def algebraic_KernelDyIdeal_ReferenceDyIdeal [hKernelDyIdeal : Cert.KernelDyIdeal.Facts] [hReferenceDyIdeal : Cert.ReferenceDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg)
    (m' : (ℓ : Loc Cert.ReferenceDyIdeal.nD Cert.ReferenceDyIdeal.τ Cert.ReferenceDyIdeal.sig) → Buf (Elt Ideal) ℓ) (g' : Dev Cert.ReferenceDyIdeal.nD → PrngReg), Pre_KernelDyIdeal m →
    (∀ c : Dev Cert.KernelDyIdeal.nD,
      m' ((c.tc : Thread Cert.ReferenceDyIdeal.nD Cert.ReferenceDyIdeal.τ).loc Cert.ReferenceDyIdeal.main_arg0) = m ((c.tc : Thread Cert.KernelDyIdeal.nD Cert.KernelDyIdeal.τ).loc Cert.KernelDyIdeal.main_arg0)
      ∧ m' ((c.tc : Thread Cert.ReferenceDyIdeal.nD Cert.ReferenceDyIdeal.τ).loc Cert.ReferenceDyIdeal.main_arg1) = m ((c.tc : Thread Cert.KernelDyIdeal.nD Cert.KernelDyIdeal.τ).loc Cert.KernelDyIdeal.main_arg1)) →
    ∃ (v0 : (c : Dev Cert.KernelDyIdeal.nD) → Buf (Elt Ideal) ((c.tc : Thread Cert.KernelDyIdeal.nD Cert.KernelDyIdeal.τ).loc Cert.KernelDyIdeal.main_v0)),
      θ_run (Cert.KernelDyIdeal.defs (F := Ideal)) (onTc (τ := Cert.KernelDyIdeal.τ) (Cert.KernelDyIdeal.main (F := Ideal))) ⟨m, fun _ => 0, g⟩ (fun r => ∀ c : Dev Cert.KernelDyIdeal.nD,
          r.2.mem ((c.tc : Thread Cert.KernelDyIdeal.nD Cert.KernelDyIdeal.τ).loc Cert.KernelDyIdeal.main_v0) = v0 c
          ∧ r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
          ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1))
      ∧ θ_run (Cert.ReferenceDyIdeal.defs (F := Ideal)) (onTc (τ := Cert.ReferenceDyIdeal.τ) (Cert.ReferenceDyIdeal.main (F := Ideal))) ⟨m', fun _ => 0, g'⟩ (fun r => ∀ c : Dev Cert.ReferenceDyIdeal.nD,
          r.2.mem ((c.tc : Thread Cert.ReferenceDyIdeal.nD Cert.ReferenceDyIdeal.τ).loc Cert.ReferenceDyIdeal.main_v4) = v0 c
          ∧ r.2.mem ((c.tc : Thread Cert.ReferenceDyIdeal.nD Cert.ReferenceDyIdeal.τ).loc Cert.ReferenceDyIdeal.main_arg0) = m' ((c.tc : Thread Cert.ReferenceDyIdeal.nD Cert.ReferenceDyIdeal.τ).loc Cert.ReferenceDyIdeal.main_arg0)
          ∧ r.2.mem ((c.tc : Thread Cert.ReferenceDyIdeal.nD Cert.ReferenceDyIdeal.τ).loc Cert.ReferenceDyIdeal.main_arg1) = m' ((c.tc : Thread Cert.ReferenceDyIdeal.nD Cert.ReferenceDyIdeal.τ).loc Cert.ReferenceDyIdeal.main_arg1))

def preserves_KernelNormIn_KernelNormInIdeal : Prop :=
  True

def algebraic_KernelNormInIdeal_ReferenceNormInIdeal [hKernelNormInIdeal : Cert.KernelNormInIdeal.Facts] [hReferenceNormInIdeal : Cert.ReferenceNormInIdeal.Facts] : Prop :=
  ∀ (m : (ℓ : Loc Cert.KernelNormInIdeal.nD Cert.KernelNormInIdeal.τ Cert.KernelNormInIdeal.sig) → Buf (Elt Ideal) ℓ) (g : Dev Cert.KernelNormInIdeal.nD → PrngReg)
    (m' : (ℓ : Loc Cert.ReferenceNormInIdeal.nD Cert.ReferenceNormInIdeal.τ Cert.ReferenceNormInIdeal.sig) → Buf (Elt Ideal) ℓ) (g' : Dev Cert.ReferenceNormInIdeal.nD → PrngReg), Pre_KernelNormInIdeal m →
    (∀ c : Dev Cert.KernelNormInIdeal.nD,
      m' ((c.tc : Thread Cert.ReferenceNormInIdeal.nD Cert.ReferenceNormInIdeal.τ).loc Cert.ReferenceNormInIdeal.main_arg0) = m ((c.tc : Thread Cert.KernelNormInIdeal.nD Cert.KernelNormInIdeal.τ).loc Cert.KernelNormInIdeal.main_arg0)
      ∧ m' ((c.tc : Thread Cert.ReferenceNormInIdeal.nD Cert.ReferenceNormInIdeal.τ).loc Cert.ReferenceNormInIdeal.main_arg1) = m ((c.tc : Thread Cert.KernelNormInIdeal.nD Cert.KernelNormInIdeal.τ).loc Cert.KernelNormInIdeal.main_arg1)
      ∧ m' ((c.tc : Thread Cert.ReferenceNormInIdeal.nD Cert.ReferenceNormInIdeal.τ).loc Cert.ReferenceNormInIdeal.main_arg2) = m ((c.tc : Thread Cert.KernelNormInIdeal.nD Cert.KernelNormInIdeal.τ).loc Cert.KernelNormInIdeal.main_arg2)
      ∧ m' ((c.tc : Thread Cert.ReferenceNormInIdeal.nD Cert.ReferenceNormInIdeal.τ).loc Cert.ReferenceNormInIdeal.main_arg3) = m ((c.tc : Thread Cert.KernelNormInIdeal.nD Cert.KernelNormInIdeal.τ).loc Cert.KernelNormInIdeal.main_arg3)
      ∧ m' ((c.tc : Thread Cert.ReferenceNormInIdeal.nD Cert.ReferenceNormInIdeal.τ).loc Cert.ReferenceNormInIdeal.main_arg4) = m ((c.tc : Thread Cert.KernelNormInIdeal.nD Cert.KernelNormInIdeal.τ).loc Cert.KernelNormInIdeal.main_arg4)) →
    ∃ (v0 : (c : Dev Cert.KernelNormInIdeal.nD) → Buf (Elt Ideal) ((c.tc : Thread Cert.KernelNormInIdeal.nD Cert.KernelNormInIdeal.τ).loc Cert.KernelNormInIdeal.main_v0_0)) (v1 : (c : Dev Cert.KernelNormInIdeal.nD) → Buf (Elt Ideal) ((c.tc : Thread Cert.KernelNormInIdeal.nD Cert.KernelNormInIdeal.τ).loc Cert.KernelNormInIdeal.main_v0_1)) (v2 : (c : Dev Cert.KernelNormInIdeal.nD) → Buf (Elt Ideal) ((c.tc : Thread Cert.KernelNormInIdeal.nD Cert.KernelNormInIdeal.τ).loc Cert.KernelNormInIdeal.main_v0_2)),
      θ_run (Cert.KernelNormInIdeal.defs (F := Ideal)) (onTc (τ := Cert.KernelNormInIdeal.τ) (Cert.KernelNormInIdeal.main (F := Ideal))) ⟨m, fun _ => 0, g⟩ (fun r => ∀ c : Dev Cert.KernelNormInIdeal.nD,
          r.2.mem ((c.tc : Thread Cert.KernelNormInIdeal.nD Cert.KernelNormInIdeal.τ).loc Cert.KernelNormInIdeal.main_v0_0) = v0 c
          ∧ r.2.mem ((c.tc : Thread Cert.KernelNormInIdeal.nD Cert.KernelNormInIdeal.τ).loc Cert.KernelNormInIdeal.main_v0_1) = v1 c
          ∧ r.2.mem ((c.tc : Thread Cert.KernelNormInIdeal.nD Cert.KernelNormInIdeal.τ).loc Cert.KernelNormInIdeal.main_v0_2) = v2 c
          ∧ r.2.mem ((c.tc : Thread Cert.KernelNormInIdeal.nD Cert.KernelNormInIdeal.τ).loc Cert.KernelNormInIdeal.main_arg0) = m ((c.tc : Thread Cert.KernelNormInIdeal.nD Cert.KernelNormInIdeal.τ).loc Cert.KernelNormInIdeal.main_arg0)
          ∧ r.2.mem ((c.tc : Thread Cert.KernelNormInIdeal.nD Cert.KernelNormInIdeal.τ).loc Cert.KernelNormInIdeal.main_arg1) = m ((c.tc : Thread Cert.KernelNormInIdeal.nD Cert.KernelNormInIdeal.τ).loc Cert.KernelNormInIdeal.main_arg1)
          ∧ r.2.mem ((c.tc : Thread Cert.KernelNormInIdeal.nD Cert.KernelNormInIdeal.τ).loc Cert.KernelNormInIdeal.main_arg2) = m ((c.tc : Thread Cert.KernelNormInIdeal.nD Cert.KernelNormInIdeal.τ).loc Cert.KernelNormInIdeal.main_arg2)
          ∧ r.2.mem ((c.tc : Thread Cert.KernelNormInIdeal.nD Cert.KernelNormInIdeal.τ).loc Cert.KernelNormInIdeal.main_arg3) = m ((c.tc : Thread Cert.KernelNormInIdeal.nD Cert.KernelNormInIdeal.τ).loc Cert.KernelNormInIdeal.main_arg3)
          ∧ r.2.mem ((c.tc : Thread Cert.KernelNormInIdeal.nD Cert.KernelNormInIdeal.τ).loc Cert.KernelNormInIdeal.main_arg4) = m ((c.tc : Thread Cert.KernelNormInIdeal.nD Cert.KernelNormInIdeal.τ).loc Cert.KernelNormInIdeal.main_arg4))
      ∧ θ_run (Cert.ReferenceNormInIdeal.defs (F := Ideal)) (onTc (τ := Cert.ReferenceNormInIdeal.τ) (Cert.ReferenceNormInIdeal.main (F := Ideal))) ⟨m', fun _ => 0, g'⟩ (fun r => ∀ c : Dev Cert.ReferenceNormInIdeal.nD,
          r.2.mem ((c.tc : Thread Cert.ReferenceNormInIdeal.nD Cert.ReferenceNormInIdeal.τ).loc Cert.ReferenceNormInIdeal.main_v47) = v0 c
          ∧ r.2.mem ((c.tc : Thread Cert.ReferenceNormInIdeal.nD Cert.ReferenceNormInIdeal.τ).loc Cert.ReferenceNormInIdeal.main_v48) = v1 c
          ∧ r.2.mem ((c.tc : Thread Cert.ReferenceNormInIdeal.nD Cert.ReferenceNormInIdeal.τ).loc Cert.ReferenceNormInIdeal.main_v30) = v2 c
          ∧ r.2.mem ((c.tc : Thread Cert.ReferenceNormInIdeal.nD Cert.ReferenceNormInIdeal.τ).loc Cert.ReferenceNormInIdeal.main_arg0) = m' ((c.tc : Thread Cert.ReferenceNormInIdeal.nD Cert.ReferenceNormInIdeal.τ).loc Cert.ReferenceNormInIdeal.main_arg0)
          ∧ r.2.mem ((c.tc : Thread Cert.ReferenceNormInIdeal.nD Cert.ReferenceNormInIdeal.τ).loc Cert.ReferenceNormInIdeal.main_arg1) = m' ((c.tc : Thread Cert.ReferenceNormInIdeal.nD Cert.ReferenceNormInIdeal.τ).loc Cert.ReferenceNormInIdeal.main_arg1)
          ∧ r.2.mem ((c.tc : Thread Cert.ReferenceNormInIdeal.nD Cert.ReferenceNormInIdeal.τ).loc Cert.ReferenceNormInIdeal.main_arg2) = m' ((c.tc : Thread Cert.ReferenceNormInIdeal.nD Cert.ReferenceNormInIdeal.τ).loc Cert.ReferenceNormInIdeal.main_arg2)
          ∧ r.2.mem ((c.tc : Thread Cert.ReferenceNormInIdeal.nD Cert.ReferenceNormInIdeal.τ).loc Cert.ReferenceNormInIdeal.main_arg3) = m' ((c.tc : Thread Cert.ReferenceNormInIdeal.nD Cert.ReferenceNormInIdeal.τ).loc Cert.ReferenceNormInIdeal.main_arg3)
          ∧ r.2.mem ((c.tc : Thread Cert.ReferenceNormInIdeal.nD Cert.ReferenceNormInIdeal.τ).loc Cert.ReferenceNormInIdeal.main_arg4) = m' ((c.tc : Thread Cert.ReferenceNormInIdeal.nD Cert.ReferenceNormInIdeal.τ).loc Cert.ReferenceNormInIdeal.main_arg4))

def preserves_KernelFUp_KernelFUpIdeal : Prop :=
  True

def algebraic_KernelFUpIdeal_ReferenceFUpIdeal [hKernelFUpIdeal : Cert.KernelFUpIdeal.Facts] [hReferenceFUpIdeal : Cert.ReferenceFUpIdeal.Facts] : Prop :=
  ∀ (m : (ℓ : Loc Cert.KernelFUpIdeal.nD Cert.KernelFUpIdeal.τ Cert.KernelFUpIdeal.sig) → Buf (Elt Ideal) ℓ) (g : Dev Cert.KernelFUpIdeal.nD → PrngReg)
    (m' : (ℓ : Loc Cert.ReferenceFUpIdeal.nD Cert.ReferenceFUpIdeal.τ Cert.ReferenceFUpIdeal.sig) → Buf (Elt Ideal) ℓ) (g' : Dev Cert.ReferenceFUpIdeal.nD → PrngReg), Pre_KernelFUpIdeal m →
    (∀ c : Dev Cert.KernelFUpIdeal.nD,
      m' ((c.tc : Thread Cert.ReferenceFUpIdeal.nD Cert.ReferenceFUpIdeal.τ).loc Cert.ReferenceFUpIdeal.main_arg0) = m ((c.tc : Thread Cert.KernelFUpIdeal.nD Cert.KernelFUpIdeal.τ).loc Cert.KernelFUpIdeal.main_arg0)
      ∧ m' ((c.tc : Thread Cert.ReferenceFUpIdeal.nD Cert.ReferenceFUpIdeal.τ).loc Cert.ReferenceFUpIdeal.main_arg1) = m ((c.tc : Thread Cert.KernelFUpIdeal.nD Cert.KernelFUpIdeal.τ).loc Cert.KernelFUpIdeal.main_arg1)) →
    ∃ (v0 : (c : Dev Cert.KernelFUpIdeal.nD) → Buf (Elt Ideal) ((c.tc : Thread Cert.KernelFUpIdeal.nD Cert.KernelFUpIdeal.τ).loc Cert.KernelFUpIdeal.main_v0_0)) (v1 : (c : Dev Cert.KernelFUpIdeal.nD) → Buf (Elt Ideal) ((c.tc : Thread Cert.KernelFUpIdeal.nD Cert.KernelFUpIdeal.τ).loc Cert.KernelFUpIdeal.main_v0_1)),
      θ_run (Cert.KernelFUpIdeal.defs (F := Ideal)) (onTc (τ := Cert.KernelFUpIdeal.τ) (Cert.KernelFUpIdeal.main (F := Ideal))) ⟨m, fun _ => 0, g⟩ (fun r => ∀ c : Dev Cert.KernelFUpIdeal.nD,
          r.2.mem ((c.tc : Thread Cert.KernelFUpIdeal.nD Cert.KernelFUpIdeal.τ).loc Cert.KernelFUpIdeal.main_v0_0) = v0 c
          ∧ r.2.mem ((c.tc : Thread Cert.KernelFUpIdeal.nD Cert.KernelFUpIdeal.τ).loc Cert.KernelFUpIdeal.main_v0_1) = v1 c
          ∧ r.2.mem ((c.tc : Thread Cert.KernelFUpIdeal.nD Cert.KernelFUpIdeal.τ).loc Cert.KernelFUpIdeal.main_arg0) = m ((c.tc : Thread Cert.KernelFUpIdeal.nD Cert.KernelFUpIdeal.τ).loc Cert.KernelFUpIdeal.main_arg0)
          ∧ r.2.mem ((c.tc : Thread Cert.KernelFUpIdeal.nD Cert.KernelFUpIdeal.τ).loc Cert.KernelFUpIdeal.main_arg1) = m ((c.tc : Thread Cert.KernelFUpIdeal.nD Cert.KernelFUpIdeal.τ).loc Cert.KernelFUpIdeal.main_arg1))
      ∧ θ_run (Cert.ReferenceFUpIdeal.defs (F := Ideal)) (onTc (τ := Cert.ReferenceFUpIdeal.τ) (Cert.ReferenceFUpIdeal.main (F := Ideal))) ⟨m', fun _ => 0, g'⟩ (fun r => ∀ c : Dev Cert.ReferenceFUpIdeal.nD,
          r.2.mem ((c.tc : Thread Cert.ReferenceFUpIdeal.nD Cert.ReferenceFUpIdeal.τ).loc Cert.ReferenceFUpIdeal.main_v12) = v0 c
          ∧ r.2.mem ((c.tc : Thread Cert.ReferenceFUpIdeal.nD Cert.ReferenceFUpIdeal.τ).loc Cert.ReferenceFUpIdeal.main_v15) = v1 c
          ∧ r.2.mem ((c.tc : Thread Cert.ReferenceFUpIdeal.nD Cert.ReferenceFUpIdeal.τ).loc Cert.ReferenceFUpIdeal.main_arg0) = m' ((c.tc : Thread Cert.ReferenceFUpIdeal.nD Cert.ReferenceFUpIdeal.τ).loc Cert.ReferenceFUpIdeal.main_arg0)
          ∧ r.2.mem ((c.tc : Thread Cert.ReferenceFUpIdeal.nD Cert.ReferenceFUpIdeal.τ).loc Cert.ReferenceFUpIdeal.main_arg1) = m' ((c.tc : Thread Cert.ReferenceFUpIdeal.nD Cert.ReferenceFUpIdeal.τ).loc Cert.ReferenceFUpIdeal.main_arg1))

def preserves_KernelFDown_KernelFDownIdeal : Prop :=
  True

def algebraic_KernelFDownIdeal_ReferenceFDownIdeal [hKernelFDownIdeal : Cert.KernelFDownIdeal.Facts] [hReferenceFDownIdeal : Cert.ReferenceFDownIdeal.Facts] : Prop :=
  ∀ (m : (ℓ : Loc Cert.KernelFDownIdeal.nD Cert.KernelFDownIdeal.τ Cert.KernelFDownIdeal.sig) → Buf (Elt Ideal) ℓ) (g : Dev Cert.KernelFDownIdeal.nD → PrngReg)
    (m' : (ℓ : Loc Cert.ReferenceFDownIdeal.nD Cert.ReferenceFDownIdeal.τ Cert.ReferenceFDownIdeal.sig) → Buf (Elt Ideal) ℓ) (g' : Dev Cert.ReferenceFDownIdeal.nD → PrngReg), Pre_KernelFDownIdeal m →
    (∀ c : Dev Cert.KernelFDownIdeal.nD,
      m' ((c.tc : Thread Cert.ReferenceFDownIdeal.nD Cert.ReferenceFDownIdeal.τ).loc Cert.ReferenceFDownIdeal.main_arg0) = m ((c.tc : Thread Cert.KernelFDownIdeal.nD Cert.KernelFDownIdeal.τ).loc Cert.KernelFDownIdeal.main_arg0)
      ∧ m' ((c.tc : Thread Cert.ReferenceFDownIdeal.nD Cert.ReferenceFDownIdeal.τ).loc Cert.ReferenceFDownIdeal.main_arg1) = m ((c.tc : Thread Cert.KernelFDownIdeal.nD Cert.KernelFDownIdeal.τ).loc Cert.KernelFDownIdeal.main_arg1)
      ∧ m' ((c.tc : Thread Cert.ReferenceFDownIdeal.nD Cert.ReferenceFDownIdeal.τ).loc Cert.ReferenceFDownIdeal.main_arg2) = m ((c.tc : Thread Cert.KernelFDownIdeal.nD Cert.KernelFDownIdeal.τ).loc Cert.KernelFDownIdeal.main_arg2)
      ∧ m' ((c.tc : Thread Cert.ReferenceFDownIdeal.nD Cert.ReferenceFDownIdeal.τ).loc Cert.ReferenceFDownIdeal.main_arg3) = m ((c.tc : Thread Cert.KernelFDownIdeal.nD Cert.KernelFDownIdeal.τ).loc Cert.KernelFDownIdeal.main_arg3)) →
    ∃ (v0 : (c : Dev Cert.KernelFDownIdeal.nD) → Buf (Elt Ideal) ((c.tc : Thread Cert.KernelFDownIdeal.nD Cert.KernelFDownIdeal.τ).loc Cert.KernelFDownIdeal.main_v0_0)) (v1 : (c : Dev Cert.KernelFDownIdeal.nD) → Buf (Elt Ideal) ((c.tc : Thread Cert.KernelFDownIdeal.nD Cert.KernelFDownIdeal.τ).loc Cert.KernelFDownIdeal.main_v0_1)),
      θ_run (Cert.KernelFDownIdeal.defs (F := Ideal)) (onTc (τ := Cert.KernelFDownIdeal.τ) (Cert.KernelFDownIdeal.main (F := Ideal))) ⟨m, fun _ => 0, g⟩ (fun r => ∀ c : Dev Cert.KernelFDownIdeal.nD,
          r.2.mem ((c.tc : Thread Cert.KernelFDownIdeal.nD Cert.KernelFDownIdeal.τ).loc Cert.KernelFDownIdeal.main_v0_0) = v0 c
          ∧ r.2.mem ((c.tc : Thread Cert.KernelFDownIdeal.nD Cert.KernelFDownIdeal.τ).loc Cert.KernelFDownIdeal.main_v0_1) = v1 c
          ∧ r.2.mem ((c.tc : Thread Cert.KernelFDownIdeal.nD Cert.KernelFDownIdeal.τ).loc Cert.KernelFDownIdeal.main_arg0) = m ((c.tc : Thread Cert.KernelFDownIdeal.nD Cert.KernelFDownIdeal.τ).loc Cert.KernelFDownIdeal.main_arg0)
          ∧ r.2.mem ((c.tc : Thread Cert.KernelFDownIdeal.nD Cert.KernelFDownIdeal.τ).loc Cert.KernelFDownIdeal.main_arg1) = m ((c.tc : Thread Cert.KernelFDownIdeal.nD Cert.KernelFDownIdeal.τ).loc Cert.KernelFDownIdeal.main_arg1)
          ∧ r.2.mem ((c.tc : Thread Cert.KernelFDownIdeal.nD Cert.KernelFDownIdeal.τ).loc Cert.KernelFDownIdeal.main_arg2) = m ((c.tc : Thread Cert.KernelFDownIdeal.nD Cert.KernelFDownIdeal.τ).loc Cert.KernelFDownIdeal.main_arg2)
          ∧ r.2.mem ((c.tc : Thread Cert.KernelFDownIdeal.nD Cert.KernelFDownIdeal.τ).loc Cert.KernelFDownIdeal.main_arg3) = m ((c.tc : Thread Cert.KernelFDownIdeal.nD Cert.KernelFDownIdeal.τ).loc Cert.KernelFDownIdeal.main_arg3))
      ∧ θ_run (Cert.ReferenceFDownIdeal.defs (F := Ideal)) (onTc (τ := Cert.ReferenceFDownIdeal.τ) (Cert.ReferenceFDownIdeal.main (F := Ideal))) ⟨m', fun _ => 0, g'⟩ (fun r => ∀ c : Dev Cert.ReferenceFDownIdeal.nD,
          r.2.mem ((c.tc : Thread Cert.ReferenceFDownIdeal.nD Cert.ReferenceFDownIdeal.τ).loc Cert.ReferenceFDownIdeal.main_v3) = v0 c
          ∧ r.2.mem ((c.tc : Thread Cert.ReferenceFDownIdeal.nD Cert.ReferenceFDownIdeal.τ).loc Cert.ReferenceFDownIdeal.main_v16) = v1 c
          ∧ r.2.mem ((c.tc : Thread Cert.ReferenceFDownIdeal.nD Cert.ReferenceFDownIdeal.τ).loc Cert.ReferenceFDownIdeal.main_arg0) = m' ((c.tc : Thread Cert.ReferenceFDownIdeal.nD Cert.ReferenceFDownIdeal.τ).loc Cert.ReferenceFDownIdeal.main_arg0)
          ∧ r.2.mem ((c.tc : Thread Cert.ReferenceFDownIdeal.nD Cert.ReferenceFDownIdeal.τ).loc Cert.ReferenceFDownIdeal.main_arg1) = m' ((c.tc : Thread Cert.ReferenceFDownIdeal.nD Cert.ReferenceFDownIdeal.τ).loc Cert.ReferenceFDownIdeal.main_arg1)
          ∧ r.2.mem ((c.tc : Thread Cert.ReferenceFDownIdeal.nD Cert.ReferenceFDownIdeal.τ).loc Cert.ReferenceFDownIdeal.main_arg2) = m' ((c.tc : Thread Cert.ReferenceFDownIdeal.nD Cert.ReferenceFDownIdeal.τ).loc Cert.ReferenceFDownIdeal.main_arg2)
          ∧ r.2.mem ((c.tc : Thread Cert.ReferenceFDownIdeal.nD Cert.ReferenceFDownIdeal.τ).loc Cert.ReferenceFDownIdeal.main_arg3) = m' ((c.tc : Thread Cert.ReferenceFDownIdeal.nD Cert.ReferenceFDownIdeal.τ).loc Cert.ReferenceFDownIdeal.main_arg3))

def preserves_KernelFOut_KernelFOutIdeal : Prop :=
  True

def algebraic_KernelFOutIdeal_ReferenceFOutIdeal [hKernelFOutIdeal : Cert.KernelFOutIdeal.Facts] [hReferenceFOutIdeal : Cert.ReferenceFOutIdeal.Facts] : Prop :=
  ∀ (m : (ℓ : Loc Cert.KernelFOutIdeal.nD Cert.KernelFOutIdeal.τ Cert.KernelFOutIdeal.sig) → Buf (Elt Ideal) ℓ) (g : Dev Cert.KernelFOutIdeal.nD → PrngReg)
    (m' : (ℓ : Loc Cert.ReferenceFOutIdeal.nD Cert.ReferenceFOutIdeal.τ Cert.ReferenceFOutIdeal.sig) → Buf (Elt Ideal) ℓ) (g' : Dev Cert.ReferenceFOutIdeal.nD → PrngReg), Pre_KernelFOutIdeal m →
    (∀ c : Dev Cert.KernelFOutIdeal.nD,
      m' ((c.tc : Thread Cert.ReferenceFOutIdeal.nD Cert.ReferenceFOutIdeal.τ).loc Cert.ReferenceFOutIdeal.main_arg0) = m ((c.tc : Thread Cert.KernelFOutIdeal.nD Cert.KernelFOutIdeal.τ).loc Cert.KernelFOutIdeal.main_arg0)
      ∧ m' ((c.tc : Thread Cert.ReferenceFOutIdeal.nD Cert.ReferenceFOutIdeal.τ).loc Cert.ReferenceFOutIdeal.main_arg1) = m ((c.tc : Thread Cert.KernelFOutIdeal.nD Cert.KernelFOutIdeal.τ).loc Cert.KernelFOutIdeal.main_arg1)
      ∧ m' ((c.tc : Thread Cert.ReferenceFOutIdeal.nD Cert.ReferenceFOutIdeal.τ).loc Cert.ReferenceFOutIdeal.main_arg2) = m ((c.tc : Thread Cert.KernelFOutIdeal.nD Cert.KernelFOutIdeal.τ).loc Cert.KernelFOutIdeal.main_arg2)
      ∧ m' ((c.tc : Thread Cert.ReferenceFOutIdeal.nD Cert.ReferenceFOutIdeal.τ).loc Cert.ReferenceFOutIdeal.main_arg3) = m ((c.tc : Thread Cert.KernelFOutIdeal.nD Cert.KernelFOutIdeal.τ).loc Cert.KernelFOutIdeal.main_arg3)) →
    ∃ (v0 : (c : Dev Cert.KernelFOutIdeal.nD) → Buf (Elt Ideal) ((c.tc : Thread Cert.KernelFOutIdeal.nD Cert.KernelFOutIdeal.τ).loc Cert.KernelFOutIdeal.main_v0_0)) (v1 : (c : Dev Cert.KernelFOutIdeal.nD) → Buf (Elt Ideal) ((c.tc : Thread Cert.KernelFOutIdeal.nD Cert.KernelFOutIdeal.τ).loc Cert.KernelFOutIdeal.main_v0_1)),
      θ_run (Cert.KernelFOutIdeal.defs (F := Ideal)) (onTc (τ := Cert.KernelFOutIdeal.τ) (Cert.KernelFOutIdeal.main (F := Ideal))) ⟨m, fun _ => 0, g⟩ (fun r => ∀ c : Dev Cert.KernelFOutIdeal.nD,
          r.2.mem ((c.tc : Thread Cert.KernelFOutIdeal.nD Cert.KernelFOutIdeal.τ).loc Cert.KernelFOutIdeal.main_v0_0) = v0 c
          ∧ r.2.mem ((c.tc : Thread Cert.KernelFOutIdeal.nD Cert.KernelFOutIdeal.τ).loc Cert.KernelFOutIdeal.main_v0_1) = v1 c
          ∧ r.2.mem ((c.tc : Thread Cert.KernelFOutIdeal.nD Cert.KernelFOutIdeal.τ).loc Cert.KernelFOutIdeal.main_arg0) = m ((c.tc : Thread Cert.KernelFOutIdeal.nD Cert.KernelFOutIdeal.τ).loc Cert.KernelFOutIdeal.main_arg0)
          ∧ r.2.mem ((c.tc : Thread Cert.KernelFOutIdeal.nD Cert.KernelFOutIdeal.τ).loc Cert.KernelFOutIdeal.main_arg1) = m ((c.tc : Thread Cert.KernelFOutIdeal.nD Cert.KernelFOutIdeal.τ).loc Cert.KernelFOutIdeal.main_arg1)
          ∧ r.2.mem ((c.tc : Thread Cert.KernelFOutIdeal.nD Cert.KernelFOutIdeal.τ).loc Cert.KernelFOutIdeal.main_arg2) = m ((c.tc : Thread Cert.KernelFOutIdeal.nD Cert.KernelFOutIdeal.τ).loc Cert.KernelFOutIdeal.main_arg2)
          ∧ r.2.mem ((c.tc : Thread Cert.KernelFOutIdeal.nD Cert.KernelFOutIdeal.τ).loc Cert.KernelFOutIdeal.main_arg3) = m ((c.tc : Thread Cert.KernelFOutIdeal.nD Cert.KernelFOutIdeal.τ).loc Cert.KernelFOutIdeal.main_arg3))
      ∧ θ_run (Cert.ReferenceFOutIdeal.defs (F := Ideal)) (onTc (τ := Cert.ReferenceFOutIdeal.τ) (Cert.ReferenceFOutIdeal.main (F := Ideal))) ⟨m', fun _ => 0, g'⟩ (fun r => ∀ c : Dev Cert.ReferenceFOutIdeal.nD,
          r.2.mem ((c.tc : Thread Cert.ReferenceFOutIdeal.nD Cert.ReferenceFOutIdeal.τ).loc Cert.ReferenceFOutIdeal.main_v3) = v0 c
          ∧ r.2.mem ((c.tc : Thread Cert.ReferenceFOutIdeal.nD Cert.ReferenceFOutIdeal.τ).loc Cert.ReferenceFOutIdeal.main_v16) = v1 c
          ∧ r.2.mem ((c.tc : Thread Cert.ReferenceFOutIdeal.nD Cert.ReferenceFOutIdeal.τ).loc Cert.ReferenceFOutIdeal.main_arg0) = m' ((c.tc : Thread Cert.ReferenceFOutIdeal.nD Cert.ReferenceFOutIdeal.τ).loc Cert.ReferenceFOutIdeal.main_arg0)
          ∧ r.2.mem ((c.tc : Thread Cert.ReferenceFOutIdeal.nD Cert.ReferenceFOutIdeal.τ).loc Cert.ReferenceFOutIdeal.main_arg1) = m' ((c.tc : Thread Cert.ReferenceFOutIdeal.nD Cert.ReferenceFOutIdeal.τ).loc Cert.ReferenceFOutIdeal.main_arg1)
          ∧ r.2.mem ((c.tc : Thread Cert.ReferenceFOutIdeal.nD Cert.ReferenceFOutIdeal.τ).loc Cert.ReferenceFOutIdeal.main_arg2) = m' ((c.tc : Thread Cert.ReferenceFOutIdeal.nD Cert.ReferenceFOutIdeal.τ).loc Cert.ReferenceFOutIdeal.main_arg2)
          ∧ r.2.mem ((c.tc : Thread Cert.ReferenceFOutIdeal.nD Cert.ReferenceFOutIdeal.τ).loc Cert.ReferenceFOutIdeal.main_arg3) = m' ((c.tc : Thread Cert.ReferenceFOutIdeal.nD Cert.ReferenceFOutIdeal.τ).loc Cert.ReferenceFOutIdeal.main_arg3))

def preserves_KernelFIn_KernelFInIdeal : Prop :=
  True

def algebraic_KernelFInIdeal_ReferenceFInIdeal [hKernelFInIdeal : Cert.KernelFInIdeal.Facts] [hReferenceFInIdeal : Cert.ReferenceFInIdeal.Facts] : Prop :=
  ∀ (m : (ℓ : Loc Cert.KernelFInIdeal.nD Cert.KernelFInIdeal.τ Cert.KernelFInIdeal.sig) → Buf (Elt Ideal) ℓ) (g : Dev Cert.KernelFInIdeal.nD → PrngReg)
    (m' : (ℓ : Loc Cert.ReferenceFInIdeal.nD Cert.ReferenceFInIdeal.τ Cert.ReferenceFInIdeal.sig) → Buf (Elt Ideal) ℓ) (g' : Dev Cert.ReferenceFInIdeal.nD → PrngReg), Pre_KernelFInIdeal m →
    (∀ c : Dev Cert.KernelFInIdeal.nD,
      m' ((c.tc : Thread Cert.ReferenceFInIdeal.nD Cert.ReferenceFInIdeal.τ).loc Cert.ReferenceFInIdeal.main_arg0) = m ((c.tc : Thread Cert.KernelFInIdeal.nD Cert.KernelFInIdeal.τ).loc Cert.KernelFInIdeal.main_arg0)
      ∧ m' ((c.tc : Thread Cert.ReferenceFInIdeal.nD Cert.ReferenceFInIdeal.τ).loc Cert.ReferenceFInIdeal.main_arg1) = m ((c.tc : Thread Cert.KernelFInIdeal.nD Cert.KernelFInIdeal.τ).loc Cert.KernelFInIdeal.main_arg1)) →
    ∃ (v0 : (c : Dev Cert.KernelFInIdeal.nD) → Buf (Elt Ideal) ((c.tc : Thread Cert.KernelFInIdeal.nD Cert.KernelFInIdeal.τ).loc Cert.KernelFInIdeal.main_v0)),
      θ_run (Cert.KernelFInIdeal.defs (F := Ideal)) (onTc (τ := Cert.KernelFInIdeal.τ) (Cert.KernelFInIdeal.main (F := Ideal))) ⟨m, fun _ => 0, g⟩ (fun r => ∀ c : Dev Cert.KernelFInIdeal.nD,
          r.2.mem ((c.tc : Thread Cert.KernelFInIdeal.nD Cert.KernelFInIdeal.τ).loc Cert.KernelFInIdeal.main_v0) = v0 c
          ∧ r.2.mem ((c.tc : Thread Cert.KernelFInIdeal.nD Cert.KernelFInIdeal.τ).loc Cert.KernelFInIdeal.main_arg0) = m ((c.tc : Thread Cert.KernelFInIdeal.nD Cert.KernelFInIdeal.τ).loc Cert.KernelFInIdeal.main_arg0)
          ∧ r.2.mem ((c.tc : Thread Cert.KernelFInIdeal.nD Cert.KernelFInIdeal.τ).loc Cert.KernelFInIdeal.main_arg1) = m ((c.tc : Thread Cert.KernelFInIdeal.nD Cert.KernelFInIdeal.τ).loc Cert.KernelFInIdeal.main_arg1))
      ∧ θ_run (Cert.ReferenceFInIdeal.defs (F := Ideal)) (onTc (τ := Cert.ReferenceFInIdeal.τ) (Cert.ReferenceFInIdeal.main (F := Ideal))) ⟨m', fun _ => 0, g'⟩ (fun r => ∀ c : Dev Cert.ReferenceFInIdeal.nD,
          r.2.mem ((c.tc : Thread Cert.ReferenceFInIdeal.nD Cert.ReferenceFInIdeal.τ).loc Cert.ReferenceFInIdeal.main_v11) = v0 c
          ∧ r.2.mem ((c.tc : Thread Cert.ReferenceFInIdeal.nD Cert.ReferenceFInIdeal.τ).loc Cert.ReferenceFInIdeal.main_arg0) = m' ((c.tc : Thread Cert.ReferenceFInIdeal.nD Cert.ReferenceFInIdeal.τ).loc Cert.ReferenceFInIdeal.main_arg0)
          ∧ r.2.mem ((c.tc : Thread Cert.ReferenceFInIdeal.nD Cert.ReferenceFInIdeal.τ).loc Cert.ReferenceFInIdeal.main_arg1) = m' ((c.tc : Thread Cert.ReferenceFInIdeal.nD Cert.ReferenceFInIdeal.τ).loc Cert.ReferenceFInIdeal.main_arg1))

def preserves_KernelFQ_KernelFQIdeal : Prop :=
  True

def algebraic_KernelFQIdeal_ReferenceFQIdeal [hKernelFQIdeal : Cert.KernelFQIdeal.Facts] [hReferenceFQIdeal : Cert.ReferenceFQIdeal.Facts] : Prop :=
  ∀ (m : (ℓ : Loc Cert.KernelFQIdeal.nD Cert.KernelFQIdeal.τ Cert.KernelFQIdeal.sig) → Buf (Elt Ideal) ℓ) (g : Dev Cert.KernelFQIdeal.nD → PrngReg)
    (m' : (ℓ : Loc Cert.ReferenceFQIdeal.nD Cert.ReferenceFQIdeal.τ Cert.ReferenceFQIdeal.sig) → Buf (Elt Ideal) ℓ) (g' : Dev Cert.ReferenceFQIdeal.nD → PrngReg), Pre_KernelFQIdeal m →
    (∀ c : Dev Cert.KernelFQIdeal.nD,
      m' ((c.tc : Thread Cert.ReferenceFQIdeal.nD Cert.ReferenceFQIdeal.τ).loc Cert.ReferenceFQIdeal.main_arg0) = m ((c.tc : Thread Cert.KernelFQIdeal.nD Cert.KernelFQIdeal.τ).loc Cert.KernelFQIdeal.main_arg0)
      ∧ m' ((c.tc : Thread Cert.ReferenceFQIdeal.nD Cert.ReferenceFQIdeal.τ).loc Cert.ReferenceFQIdeal.main_arg1) = m ((c.tc : Thread Cert.KernelFQIdeal.nD Cert.KernelFQIdeal.τ).loc Cert.KernelFQIdeal.main_arg1)) →
    ∃ (v0 : (c : Dev Cert.KernelFQIdeal.nD) → Buf (Elt Ideal) ((c.tc : Thread Cert.KernelFQIdeal.nD Cert.KernelFQIdeal.τ).loc Cert.KernelFQIdeal.main_v0)),
      θ_run (Cert.KernelFQIdeal.defs (F := Ideal)) (onTc (τ := Cert.KernelFQIdeal.τ) (Cert.KernelFQIdeal.main (F := Ideal))) ⟨m, fun _ => 0, g⟩ (fun r => ∀ c : Dev Cert.KernelFQIdeal.nD,
          r.2.mem ((c.tc : Thread Cert.KernelFQIdeal.nD Cert.KernelFQIdeal.τ).loc Cert.KernelFQIdeal.main_v0) = v0 c
          ∧ r.2.mem ((c.tc : Thread Cert.KernelFQIdeal.nD Cert.KernelFQIdeal.τ).loc Cert.KernelFQIdeal.main_arg0) = m ((c.tc : Thread Cert.KernelFQIdeal.nD Cert.KernelFQIdeal.τ).loc Cert.KernelFQIdeal.main_arg0)
          ∧ r.2.mem ((c.tc : Thread Cert.KernelFQIdeal.nD Cert.KernelFQIdeal.τ).loc Cert.KernelFQIdeal.main_arg1) = m ((c.tc : Thread Cert.KernelFQIdeal.nD Cert.KernelFQIdeal.τ).loc Cert.KernelFQIdeal.main_arg1))
      ∧ θ_run (Cert.ReferenceFQIdeal.defs (F := Ideal)) (onTc (τ := Cert.ReferenceFQIdeal.τ) (Cert.ReferenceFQIdeal.main (F := Ideal))) ⟨m', fun _ => 0, g'⟩ (fun r => ∀ c : Dev Cert.ReferenceFQIdeal.nD,
          r.2.mem ((c.tc : Thread Cert.ReferenceFQIdeal.nD Cert.ReferenceFQIdeal.τ).loc Cert.ReferenceFQIdeal.main_v3) = v0 c
          ∧ r.2.mem ((c.tc : Thread Cert.ReferenceFQIdeal.nD Cert.ReferenceFQIdeal.τ).loc Cert.ReferenceFQIdeal.main_arg0) = m' ((c.tc : Thread Cert.ReferenceFQIdeal.nD Cert.ReferenceFQIdeal.τ).loc Cert.ReferenceFQIdeal.main_arg0)
          ∧ r.2.mem ((c.tc : Thread Cert.ReferenceFQIdeal.nD Cert.ReferenceFQIdeal.τ).loc Cert.ReferenceFQIdeal.main_arg1) = m' ((c.tc : Thread Cert.ReferenceFQIdeal.nD Cert.ReferenceFQIdeal.τ).loc Cert.ReferenceFQIdeal.main_arg1))

def preserves_KernelNormQ_KernelNormQIdeal : Prop :=
  True

def algebraic_KernelNormQIdeal_ReferenceNormQIdeal [hKernelNormQIdeal : Cert.KernelNormQIdeal.Facts] [hReferenceNormQIdeal : Cert.ReferenceNormQIdeal.Facts] : Prop :=
  ∀ (m : (ℓ : Loc Cert.KernelNormQIdeal.nD Cert.KernelNormQIdeal.τ Cert.KernelNormQIdeal.sig) → Buf (Elt Ideal) ℓ) (g : Dev Cert.KernelNormQIdeal.nD → PrngReg)
    (m' : (ℓ : Loc Cert.ReferenceNormQIdeal.nD Cert.ReferenceNormQIdeal.τ Cert.ReferenceNormQIdeal.sig) → Buf (Elt Ideal) ℓ) (g' : Dev Cert.ReferenceNormQIdeal.nD → PrngReg), Pre_KernelNormQIdeal m →
    (∀ c : Dev Cert.KernelNormQIdeal.nD,
      m' ((c.tc : Thread Cert.ReferenceNormQIdeal.nD Cert.ReferenceNormQIdeal.τ).loc Cert.ReferenceNormQIdeal.main_arg0) = m ((c.tc : Thread Cert.KernelNormQIdeal.nD Cert.KernelNormQIdeal.τ).loc Cert.KernelNormQIdeal.main_arg0)
      ∧ m' ((c.tc : Thread Cert.ReferenceNormQIdeal.nD Cert.ReferenceNormQIdeal.τ).loc Cert.ReferenceNormQIdeal.main_arg1) = m ((c.tc : Thread Cert.KernelNormQIdeal.nD Cert.KernelNormQIdeal.τ).loc Cert.KernelNormQIdeal.main_arg1)
      ∧ m' ((c.tc : Thread Cert.ReferenceNormQIdeal.nD Cert.ReferenceNormQIdeal.τ).loc Cert.ReferenceNormQIdeal.main_arg2) = m ((c.tc : Thread Cert.KernelNormQIdeal.nD Cert.KernelNormQIdeal.τ).loc Cert.KernelNormQIdeal.main_arg2)
      ∧ m' ((c.tc : Thread Cert.ReferenceNormQIdeal.nD Cert.ReferenceNormQIdeal.τ).loc Cert.ReferenceNormQIdeal.main_arg3) = m ((c.tc : Thread Cert.KernelNormQIdeal.nD Cert.KernelNormQIdeal.τ).loc Cert.KernelNormQIdeal.main_arg3)
      ∧ m' ((c.tc : Thread Cert.ReferenceNormQIdeal.nD Cert.ReferenceNormQIdeal.τ).loc Cert.ReferenceNormQIdeal.main_arg4) = m ((c.tc : Thread Cert.KernelNormQIdeal.nD Cert.KernelNormQIdeal.τ).loc Cert.KernelNormQIdeal.main_arg4)) →
    ∃ (v0 : (c : Dev Cert.KernelNormQIdeal.nD) → Buf (Elt Ideal) ((c.tc : Thread Cert.KernelNormQIdeal.nD Cert.KernelNormQIdeal.τ).loc Cert.KernelNormQIdeal.main_v0_0)) (v1 : (c : Dev Cert.KernelNormQIdeal.nD) → Buf (Elt Ideal) ((c.tc : Thread Cert.KernelNormQIdeal.nD Cert.KernelNormQIdeal.τ).loc Cert.KernelNormQIdeal.main_v0_1)) (v2 : (c : Dev Cert.KernelNormQIdeal.nD) → Buf (Elt Ideal) ((c.tc : Thread Cert.KernelNormQIdeal.nD Cert.KernelNormQIdeal.τ).loc Cert.KernelNormQIdeal.main_v0_2)),
      θ_run (Cert.KernelNormQIdeal.defs (F := Ideal)) (onTc (τ := Cert.KernelNormQIdeal.τ) (Cert.KernelNormQIdeal.main (F := Ideal))) ⟨m, fun _ => 0, g⟩ (fun r => ∀ c : Dev Cert.KernelNormQIdeal.nD,
          r.2.mem ((c.tc : Thread Cert.KernelNormQIdeal.nD Cert.KernelNormQIdeal.τ).loc Cert.KernelNormQIdeal.main_v0_0) = v0 c
          ∧ r.2.mem ((c.tc : Thread Cert.KernelNormQIdeal.nD Cert.KernelNormQIdeal.τ).loc Cert.KernelNormQIdeal.main_v0_1) = v1 c
          ∧ r.2.mem ((c.tc : Thread Cert.KernelNormQIdeal.nD Cert.KernelNormQIdeal.τ).loc Cert.KernelNormQIdeal.main_v0_2) = v2 c
          ∧ r.2.mem ((c.tc : Thread Cert.KernelNormQIdeal.nD Cert.KernelNormQIdeal.τ).loc Cert.KernelNormQIdeal.main_arg0) = m ((c.tc : Thread Cert.KernelNormQIdeal.nD Cert.KernelNormQIdeal.τ).loc Cert.KernelNormQIdeal.main_arg0)
          ∧ r.2.mem ((c.tc : Thread Cert.KernelNormQIdeal.nD Cert.KernelNormQIdeal.τ).loc Cert.KernelNormQIdeal.main_arg1) = m ((c.tc : Thread Cert.KernelNormQIdeal.nD Cert.KernelNormQIdeal.τ).loc Cert.KernelNormQIdeal.main_arg1)
          ∧ r.2.mem ((c.tc : Thread Cert.KernelNormQIdeal.nD Cert.KernelNormQIdeal.τ).loc Cert.KernelNormQIdeal.main_arg2) = m ((c.tc : Thread Cert.KernelNormQIdeal.nD Cert.KernelNormQIdeal.τ).loc Cert.KernelNormQIdeal.main_arg2)
          ∧ r.2.mem ((c.tc : Thread Cert.KernelNormQIdeal.nD Cert.KernelNormQIdeal.τ).loc Cert.KernelNormQIdeal.main_arg3) = m ((c.tc : Thread Cert.KernelNormQIdeal.nD Cert.KernelNormQIdeal.τ).loc Cert.KernelNormQIdeal.main_arg3)
          ∧ r.2.mem ((c.tc : Thread Cert.KernelNormQIdeal.nD Cert.KernelNormQIdeal.τ).loc Cert.KernelNormQIdeal.main_arg4) = m ((c.tc : Thread Cert.KernelNormQIdeal.nD Cert.KernelNormQIdeal.τ).loc Cert.KernelNormQIdeal.main_arg4))
      ∧ θ_run (Cert.ReferenceNormQIdeal.defs (F := Ideal)) (onTc (τ := Cert.ReferenceNormQIdeal.τ) (Cert.ReferenceNormQIdeal.main (F := Ideal))) ⟨m', fun _ => 0, g'⟩ (fun r => ∀ c : Dev Cert.ReferenceNormQIdeal.nD,
          r.2.mem ((c.tc : Thread Cert.ReferenceNormQIdeal.nD Cert.ReferenceNormQIdeal.τ).loc Cert.ReferenceNormQIdeal.main_v38) = v0 c
          ∧ r.2.mem ((c.tc : Thread Cert.ReferenceNormQIdeal.nD Cert.ReferenceNormQIdeal.τ).loc Cert.ReferenceNormQIdeal.main_v39) = v1 c
          ∧ r.2.mem ((c.tc : Thread Cert.ReferenceNormQIdeal.nD Cert.ReferenceNormQIdeal.τ).loc Cert.ReferenceNormQIdeal.main_v21) = v2 c
          ∧ r.2.mem ((c.tc : Thread Cert.ReferenceNormQIdeal.nD Cert.ReferenceNormQIdeal.τ).loc Cert.ReferenceNormQIdeal.main_arg0) = m' ((c.tc : Thread Cert.ReferenceNormQIdeal.nD Cert.ReferenceNormQIdeal.τ).loc Cert.ReferenceNormQIdeal.main_arg0)
          ∧ r.2.mem ((c.tc : Thread Cert.ReferenceNormQIdeal.nD Cert.ReferenceNormQIdeal.τ).loc Cert.ReferenceNormQIdeal.main_arg1) = m' ((c.tc : Thread Cert.ReferenceNormQIdeal.nD Cert.ReferenceNormQIdeal.τ).loc Cert.ReferenceNormQIdeal.main_arg1)
          ∧ r.2.mem ((c.tc : Thread Cert.ReferenceNormQIdeal.nD Cert.ReferenceNormQIdeal.τ).loc Cert.ReferenceNormQIdeal.main_arg2) = m' ((c.tc : Thread Cert.ReferenceNormQIdeal.nD Cert.ReferenceNormQIdeal.τ).loc Cert.ReferenceNormQIdeal.main_arg2)
          ∧ r.2.mem ((c.tc : Thread Cert.ReferenceNormQIdeal.nD Cert.ReferenceNormQIdeal.τ).loc Cert.ReferenceNormQIdeal.main_arg3) = m' ((c.tc : Thread Cert.ReferenceNormQIdeal.nD Cert.ReferenceNormQIdeal.τ).loc Cert.ReferenceNormQIdeal.main_arg3)
          ∧ r.2.mem ((c.tc : Thread Cert.ReferenceNormQIdeal.nD Cert.ReferenceNormQIdeal.τ).loc Cert.ReferenceNormQIdeal.main_arg4) = m' ((c.tc : Thread Cert.ReferenceNormQIdeal.nD Cert.ReferenceNormQIdeal.τ).loc Cert.ReferenceNormQIdeal.main_arg4))

def preserves_KernelFLast_KernelFLastIdeal : Prop :=
  True

def algebraic_KernelFLastIdeal_ReferenceFLastIdeal [hKernelFLastIdeal : Cert.KernelFLastIdeal.Facts] [hReferenceFLastIdeal : Cert.ReferenceFLastIdeal.Facts] : Prop :=
  ∀ (m : (ℓ : Loc Cert.KernelFLastIdeal.nD Cert.KernelFLastIdeal.τ Cert.KernelFLastIdeal.sig) → Buf (Elt Ideal) ℓ) (g : Dev Cert.KernelFLastIdeal.nD → PrngReg)
    (m' : (ℓ : Loc Cert.ReferenceFLastIdeal.nD Cert.ReferenceFLastIdeal.τ Cert.ReferenceFLastIdeal.sig) → Buf (Elt Ideal) ℓ) (g' : Dev Cert.ReferenceFLastIdeal.nD → PrngReg), Pre_KernelFLastIdeal m →
    (∀ c : Dev Cert.KernelFLastIdeal.nD,
      m' ((c.tc : Thread Cert.ReferenceFLastIdeal.nD Cert.ReferenceFLastIdeal.τ).loc Cert.ReferenceFLastIdeal.main_arg0) = m ((c.tc : Thread Cert.KernelFLastIdeal.nD Cert.KernelFLastIdeal.τ).loc Cert.KernelFLastIdeal.main_arg0)
      ∧ m' ((c.tc : Thread Cert.ReferenceFLastIdeal.nD Cert.ReferenceFLastIdeal.τ).loc Cert.ReferenceFLastIdeal.main_arg1) = m ((c.tc : Thread Cert.KernelFLastIdeal.nD Cert.KernelFLastIdeal.τ).loc Cert.KernelFLastIdeal.main_arg1)
      ∧ m' ((c.tc : Thread Cert.ReferenceFLastIdeal.nD Cert.ReferenceFLastIdeal.τ).loc Cert.ReferenceFLastIdeal.main_arg2) = m ((c.tc : Thread Cert.KernelFLastIdeal.nD Cert.KernelFLastIdeal.τ).loc Cert.KernelFLastIdeal.main_arg2)) →
    ∃ (v0 : (c : Dev Cert.KernelFLastIdeal.nD) → Buf (Elt Ideal) ((c.tc : Thread Cert.KernelFLastIdeal.nD Cert.KernelFLastIdeal.τ).loc Cert.KernelFLastIdeal.main_v0)),
      θ_run (Cert.KernelFLastIdeal.defs (F := Ideal)) (onTc (τ := Cert.KernelFLastIdeal.τ) (Cert.KernelFLastIdeal.main (F := Ideal))) ⟨m, fun _ => 0, g⟩ (fun r => ∀ c : Dev Cert.KernelFLastIdeal.nD,
          r.2.mem ((c.tc : Thread Cert.KernelFLastIdeal.nD Cert.KernelFLastIdeal.τ).loc Cert.KernelFLastIdeal.main_v0) = v0 c
          ∧ r.2.mem ((c.tc : Thread Cert.KernelFLastIdeal.nD Cert.KernelFLastIdeal.τ).loc Cert.KernelFLastIdeal.main_arg0) = m ((c.tc : Thread Cert.KernelFLastIdeal.nD Cert.KernelFLastIdeal.τ).loc Cert.KernelFLastIdeal.main_arg0)
          ∧ r.2.mem ((c.tc : Thread Cert.KernelFLastIdeal.nD Cert.KernelFLastIdeal.τ).loc Cert.KernelFLastIdeal.main_arg1) = m ((c.tc : Thread Cert.KernelFLastIdeal.nD Cert.KernelFLastIdeal.τ).loc Cert.KernelFLastIdeal.main_arg1)
          ∧ r.2.mem ((c.tc : Thread Cert.KernelFLastIdeal.nD Cert.KernelFLastIdeal.τ).loc Cert.KernelFLastIdeal.main_arg2) = m ((c.tc : Thread Cert.KernelFLastIdeal.nD Cert.KernelFLastIdeal.τ).loc Cert.KernelFLastIdeal.main_arg2))
      ∧ θ_run (Cert.ReferenceFLastIdeal.defs (F := Ideal)) (onTc (τ := Cert.ReferenceFLastIdeal.τ) (Cert.ReferenceFLastIdeal.main (F := Ideal))) ⟨m', fun _ => 0, g'⟩ (fun r => ∀ c : Dev Cert.ReferenceFLastIdeal.nD,
          r.2.mem ((c.tc : Thread Cert.ReferenceFLastIdeal.nD Cert.ReferenceFLastIdeal.τ).loc Cert.ReferenceFLastIdeal.main_v3) = v0 c
          ∧ r.2.mem ((c.tc : Thread Cert.ReferenceFLastIdeal.nD Cert.ReferenceFLastIdeal.τ).loc Cert.ReferenceFLastIdeal.main_arg0) = m' ((c.tc : Thread Cert.ReferenceFLastIdeal.nD Cert.ReferenceFLastIdeal.τ).loc Cert.ReferenceFLastIdeal.main_arg0)
          ∧ r.2.mem ((c.tc : Thread Cert.ReferenceFLastIdeal.nD Cert.ReferenceFLastIdeal.τ).loc Cert.ReferenceFLastIdeal.main_arg1) = m' ((c.tc : Thread Cert.ReferenceFLastIdeal.nD Cert.ReferenceFLastIdeal.τ).loc Cert.ReferenceFLastIdeal.main_arg1)
          ∧ r.2.mem ((c.tc : Thread Cert.ReferenceFLastIdeal.nD Cert.ReferenceFLastIdeal.τ).loc Cert.ReferenceFLastIdeal.main_arg2) = m' ((c.tc : Thread Cert.ReferenceFLastIdeal.nD Cert.ReferenceFLastIdeal.τ).loc Cert.ReferenceFLastIdeal.main_arg2))

def preserves_KernelFAttn_KernelFAttnIdeal : Prop :=
  True

def algebraic_KernelFAttnIdeal_ReferenceFAttnIdeal [hKernelFAttnIdeal : Cert.KernelFAttnIdeal.Facts] [hReferenceFAttnIdeal : Cert.ReferenceFAttnIdeal.Facts] : Prop :=
  ∀ (m : (ℓ : Loc Cert.KernelFAttnIdeal.nD Cert.KernelFAttnIdeal.τ Cert.KernelFAttnIdeal.sig) → Buf (Elt Ideal) ℓ) (g : Dev Cert.KernelFAttnIdeal.nD → PrngReg)
    (m' : (ℓ : Loc Cert.ReferenceFAttnIdeal.nD Cert.ReferenceFAttnIdeal.τ Cert.ReferenceFAttnIdeal.sig) → Buf (Elt Ideal) ℓ) (g' : Dev Cert.ReferenceFAttnIdeal.nD → PrngReg), Pre_KernelFAttnIdeal m →
    (∀ c : Dev Cert.KernelFAttnIdeal.nD,
      m' ((c.tc : Thread Cert.ReferenceFAttnIdeal.nD Cert.ReferenceFAttnIdeal.τ).loc Cert.ReferenceFAttnIdeal.main_arg0) = m ((c.tc : Thread Cert.KernelFAttnIdeal.nD Cert.KernelFAttnIdeal.τ).loc Cert.KernelFAttnIdeal.main_arg0)
      ∧ m' ((c.tc : Thread Cert.ReferenceFAttnIdeal.nD Cert.ReferenceFAttnIdeal.τ).loc Cert.ReferenceFAttnIdeal.main_arg1) = m ((c.tc : Thread Cert.KernelFAttnIdeal.nD Cert.KernelFAttnIdeal.τ).loc Cert.KernelFAttnIdeal.main_arg1)) →
    ∃ (v0 : (c : Dev Cert.KernelFAttnIdeal.nD) → Buf (Elt Ideal) ((c.tc : Thread Cert.KernelFAttnIdeal.nD Cert.KernelFAttnIdeal.τ).loc Cert.KernelFAttnIdeal.main_v0)),
      θ_run (Cert.KernelFAttnIdeal.defs (F := Ideal)) (onTc (τ := Cert.KernelFAttnIdeal.τ) (Cert.KernelFAttnIdeal.main (F := Ideal))) ⟨m, fun _ => 0, g⟩ (fun r => ∀ c : Dev Cert.KernelFAttnIdeal.nD,
          r.2.mem ((c.tc : Thread Cert.KernelFAttnIdeal.nD Cert.KernelFAttnIdeal.τ).loc Cert.KernelFAttnIdeal.main_v0) = v0 c
          ∧ r.2.mem ((c.tc : Thread Cert.KernelFAttnIdeal.nD Cert.KernelFAttnIdeal.τ).loc Cert.KernelFAttnIdeal.main_arg0) = m ((c.tc : Thread Cert.KernelFAttnIdeal.nD Cert.KernelFAttnIdeal.τ).loc Cert.KernelFAttnIdeal.main_arg0)
          ∧ r.2.mem ((c.tc : Thread Cert.KernelFAttnIdeal.nD Cert.KernelFAttnIdeal.τ).loc Cert.KernelFAttnIdeal.main_arg1) = m ((c.tc : Thread Cert.KernelFAttnIdeal.nD Cert.KernelFAttnIdeal.τ).loc Cert.KernelFAttnIdeal.main_arg1))
      ∧ θ_run (Cert.ReferenceFAttnIdeal.defs (F := Ideal)) (onTc (τ := Cert.ReferenceFAttnIdeal.τ) (Cert.ReferenceFAttnIdeal.main (F := Ideal))) ⟨m', fun _ => 0, g'⟩ (fun r => ∀ c : Dev Cert.ReferenceFAttnIdeal.nD,
          r.2.mem ((c.tc : Thread Cert.ReferenceFAttnIdeal.nD Cert.ReferenceFAttnIdeal.τ).loc Cert.ReferenceFAttnIdeal.main_v24) = v0 c
          ∧ r.2.mem ((c.tc : Thread Cert.ReferenceFAttnIdeal.nD Cert.ReferenceFAttnIdeal.τ).loc Cert.ReferenceFAttnIdeal.main_arg0) = m' ((c.tc : Thread Cert.ReferenceFAttnIdeal.nD Cert.ReferenceFAttnIdeal.τ).loc Cert.ReferenceFAttnIdeal.main_arg0)
          ∧ r.2.mem ((c.tc : Thread Cert.ReferenceFAttnIdeal.nD Cert.ReferenceFAttnIdeal.τ).loc Cert.ReferenceFAttnIdeal.main_arg1) = m' ((c.tc : Thread Cert.ReferenceFAttnIdeal.nD Cert.ReferenceFAttnIdeal.τ).loc Cert.ReferenceFAttnIdeal.main_arg1))

def preserves_KernelFKv_KernelFKvIdeal : Prop :=
  True

def algebraic_KernelFKvIdeal_ReferenceFKvIdeal [hKernelFKvIdeal : Cert.KernelFKvIdeal.Facts] [hReferenceFKvIdeal : Cert.ReferenceFKvIdeal.Facts] : Prop :=
  ∀ (m : (ℓ : Loc Cert.KernelFKvIdeal.nD Cert.KernelFKvIdeal.τ Cert.KernelFKvIdeal.sig) → Buf (Elt Ideal) ℓ) (g : Dev Cert.KernelFKvIdeal.nD → PrngReg)
    (m' : (ℓ : Loc Cert.ReferenceFKvIdeal.nD Cert.ReferenceFKvIdeal.τ Cert.ReferenceFKvIdeal.sig) → Buf (Elt Ideal) ℓ) (g' : Dev Cert.ReferenceFKvIdeal.nD → PrngReg), Pre_KernelFKvIdeal m →
    (∀ c : Dev Cert.KernelFKvIdeal.nD,
      m' ((c.tc : Thread Cert.ReferenceFKvIdeal.nD Cert.ReferenceFKvIdeal.τ).loc Cert.ReferenceFKvIdeal.main_arg0) = m ((c.tc : Thread Cert.KernelFKvIdeal.nD Cert.KernelFKvIdeal.τ).loc Cert.KernelFKvIdeal.main_arg0)
      ∧ m' ((c.tc : Thread Cert.ReferenceFKvIdeal.nD Cert.ReferenceFKvIdeal.τ).loc Cert.ReferenceFKvIdeal.main_arg1) = m ((c.tc : Thread Cert.KernelFKvIdeal.nD Cert.KernelFKvIdeal.τ).loc Cert.KernelFKvIdeal.main_arg1)) →
    ∃ (v0 : (c : Dev Cert.KernelFKvIdeal.nD) → Buf (Elt Ideal) ((c.tc : Thread Cert.KernelFKvIdeal.nD Cert.KernelFKvIdeal.τ).loc Cert.KernelFKvIdeal.main_v0)),
      θ_run (Cert.KernelFKvIdeal.defs (F := Ideal)) (onTc (τ := Cert.KernelFKvIdeal.τ) (Cert.KernelFKvIdeal.main (F := Ideal))) ⟨m, fun _ => 0, g⟩ (fun r => ∀ c : Dev Cert.KernelFKvIdeal.nD,
          r.2.mem ((c.tc : Thread Cert.KernelFKvIdeal.nD Cert.KernelFKvIdeal.τ).loc Cert.KernelFKvIdeal.main_v0) = v0 c
          ∧ r.2.mem ((c.tc : Thread Cert.KernelFKvIdeal.nD Cert.KernelFKvIdeal.τ).loc Cert.KernelFKvIdeal.main_arg0) = m ((c.tc : Thread Cert.KernelFKvIdeal.nD Cert.KernelFKvIdeal.τ).loc Cert.KernelFKvIdeal.main_arg0)
          ∧ r.2.mem ((c.tc : Thread Cert.KernelFKvIdeal.nD Cert.KernelFKvIdeal.τ).loc Cert.KernelFKvIdeal.main_arg1) = m ((c.tc : Thread Cert.KernelFKvIdeal.nD Cert.KernelFKvIdeal.τ).loc Cert.KernelFKvIdeal.main_arg1))
      ∧ θ_run (Cert.ReferenceFKvIdeal.defs (F := Ideal)) (onTc (τ := Cert.ReferenceFKvIdeal.τ) (Cert.ReferenceFKvIdeal.main (F := Ideal))) ⟨m', fun _ => 0, g'⟩ (fun r => ∀ c : Dev Cert.ReferenceFKvIdeal.nD,
          r.2.mem ((c.tc : Thread Cert.ReferenceFKvIdeal.nD Cert.ReferenceFKvIdeal.τ).loc Cert.ReferenceFKvIdeal.main_v12) = v0 c
          ∧ r.2.mem ((c.tc : Thread Cert.ReferenceFKvIdeal.nD Cert.ReferenceFKvIdeal.τ).loc Cert.ReferenceFKvIdeal.main_arg0) = m' ((c.tc : Thread Cert.ReferenceFKvIdeal.nD Cert.ReferenceFKvIdeal.τ).loc Cert.ReferenceFKvIdeal.main_arg0)
          ∧ r.2.mem ((c.tc : Thread Cert.ReferenceFKvIdeal.nD Cert.ReferenceFKvIdeal.τ).loc Cert.ReferenceFKvIdeal.main_arg1) = m' ((c.tc : Thread Cert.ReferenceFKvIdeal.nD Cert.ReferenceFKvIdeal.τ).loc Cert.ReferenceFKvIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v0_0)) (v1 : (c : Dev Cert.KernelKvIdeal.nD) → Buf (Elt Ideal) ((c.tc : Thread Cert.KernelKvIdeal.nD Cert.KernelKvIdeal.τ).loc Cert.KernelKvIdeal.main_v0_1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v0_0) = v0 c
          ∧ r.2.mem ((c.tc : Thread Cert.KernelKvIdeal.nD Cert.KernelKvIdeal.τ).loc Cert.KernelKvIdeal.main_v0_1) = v1 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v14) = v0 c
          ∧ r.2.mem ((c.tc : Thread Cert.ReferenceKvIdeal.nD Cert.ReferenceKvIdeal.τ).loc Cert.ReferenceKvIdeal.main_v15) = v1 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)) →
    ∃ (v0 : (c : Dev Cert.KernelMemIdeal.nD) → Buf (Elt Ideal) ((c.tc : Thread Cert.KernelMemIdeal.nD Cert.KernelMemIdeal.τ).loc Cert.KernelMemIdeal.main_v0)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v0) = v0 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v13) = v0 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1))

def preserves_KernelNormMem_KernelNormMemIdeal : Prop :=
  True

def algebraic_KernelNormMemIdeal_ReferenceNormMemIdeal [hKernelNormMemIdeal : Cert.KernelNormMemIdeal.Facts] [hReferenceNormMemIdeal : Cert.ReferenceNormMemIdeal.Facts] : Prop :=
  ∀ (m : (ℓ : Loc Cert.KernelNormMemIdeal.nD Cert.KernelNormMemIdeal.τ Cert.KernelNormMemIdeal.sig) → Buf (Elt Ideal) ℓ) (g : Dev Cert.KernelNormMemIdeal.nD → PrngReg)
    (m' : (ℓ : Loc Cert.ReferenceNormMemIdeal.nD Cert.ReferenceNormMemIdeal.τ Cert.ReferenceNormMemIdeal.sig) → Buf (Elt Ideal) ℓ) (g' : Dev Cert.ReferenceNormMemIdeal.nD → PrngReg), Pre_KernelNormMemIdeal m →
    (∀ c : Dev Cert.KernelNormMemIdeal.nD,
      m' ((c.tc : Thread Cert.ReferenceNormMemIdeal.nD Cert.ReferenceNormMemIdeal.τ).loc Cert.ReferenceNormMemIdeal.main_arg0) = m ((c.tc : Thread Cert.KernelNormMemIdeal.nD Cert.KernelNormMemIdeal.τ).loc Cert.KernelNormMemIdeal.main_arg0)
      ∧ m' ((c.tc : Thread Cert.ReferenceNormMemIdeal.nD Cert.ReferenceNormMemIdeal.τ).loc Cert.ReferenceNormMemIdeal.main_arg1) = m ((c.tc : Thread Cert.KernelNormMemIdeal.nD Cert.KernelNormMemIdeal.τ).loc Cert.KernelNormMemIdeal.main_arg1)
      ∧ m' ((c.tc : Thread Cert.ReferenceNormMemIdeal.nD Cert.ReferenceNormMemIdeal.τ).loc Cert.ReferenceNormMemIdeal.main_arg2) = m ((c.tc : Thread Cert.KernelNormMemIdeal.nD Cert.KernelNormMemIdeal.τ).loc Cert.KernelNormMemIdeal.main_arg2)) →
    ∃ (v0 : (c : Dev Cert.KernelNormMemIdeal.nD) → Buf (Elt Ideal) ((c.tc : Thread Cert.KernelNormMemIdeal.nD Cert.KernelNormMemIdeal.τ).loc Cert.KernelNormMemIdeal.main_v0_0)) (v1 : (c : Dev Cert.KernelNormMemIdeal.nD) → Buf (Elt Ideal) ((c.tc : Thread Cert.KernelNormMemIdeal.nD Cert.KernelNormMemIdeal.τ).loc Cert.KernelNormMemIdeal.main_v0_1)) (v2 : (c : Dev Cert.KernelNormMemIdeal.nD) → Buf (Elt Ideal) ((c.tc : Thread Cert.KernelNormMemIdeal.nD Cert.KernelNormMemIdeal.τ).loc Cert.KernelNormMemIdeal.main_v0_2)),
      θ_run (Cert.KernelNormMemIdeal.defs (F := Ideal)) (onTc (τ := Cert.KernelNormMemIdeal.τ) (Cert.KernelNormMemIdeal.main (F := Ideal))) ⟨m, fun _ => 0, g⟩ (fun r => ∀ c : Dev Cert.KernelNormMemIdeal.nD,
          r.2.mem ((c.tc : Thread Cert.KernelNormMemIdeal.nD Cert.KernelNormMemIdeal.τ).loc Cert.KernelNormMemIdeal.main_v0_0) = v0 c
          ∧ r.2.mem ((c.tc : Thread Cert.KernelNormMemIdeal.nD Cert.KernelNormMemIdeal.τ).loc Cert.KernelNormMemIdeal.main_v0_1) = v1 c
          ∧ r.2.mem ((c.tc : Thread Cert.KernelNormMemIdeal.nD Cert.KernelNormMemIdeal.τ).loc Cert.KernelNormMemIdeal.main_v0_2) = v2 c
          ∧ r.2.mem ((c.tc : Thread Cert.KernelNormMemIdeal.nD Cert.KernelNormMemIdeal.τ).loc Cert.KernelNormMemIdeal.main_arg0) = m ((c.tc : Thread Cert.KernelNormMemIdeal.nD Cert.KernelNormMemIdeal.τ).loc Cert.KernelNormMemIdeal.main_arg0)
          ∧ r.2.mem ((c.tc : Thread Cert.KernelNormMemIdeal.nD Cert.KernelNormMemIdeal.τ).loc Cert.KernelNormMemIdeal.main_arg1) = m ((c.tc : Thread Cert.KernelNormMemIdeal.nD Cert.KernelNormMemIdeal.τ).loc Cert.KernelNormMemIdeal.main_arg1)
          ∧ r.2.mem ((c.tc : Thread Cert.KernelNormMemIdeal.nD Cert.KernelNormMemIdeal.τ).loc Cert.KernelNormMemIdeal.main_arg2) = m ((c.tc : Thread Cert.KernelNormMemIdeal.nD Cert.KernelNormMemIdeal.τ).loc Cert.KernelNormMemIdeal.main_arg2))
      ∧ θ_run (Cert.ReferenceNormMemIdeal.defs (F := Ideal)) (onTc (τ := Cert.ReferenceNormMemIdeal.τ) (Cert.ReferenceNormMemIdeal.main (F := Ideal))) ⟨m', fun _ => 0, g'⟩ (fun r => ∀ c : Dev Cert.ReferenceNormMemIdeal.nD,
          r.2.mem ((c.tc : Thread Cert.ReferenceNormMemIdeal.nD Cert.ReferenceNormMemIdeal.τ).loc Cert.ReferenceNormMemIdeal.main_v33) = v0 c
          ∧ r.2.mem ((c.tc : Thread Cert.ReferenceNormMemIdeal.nD Cert.ReferenceNormMemIdeal.τ).loc Cert.ReferenceNormMemIdeal.main_v34) = v1 c
          ∧ r.2.mem ((c.tc : Thread Cert.ReferenceNormMemIdeal.nD Cert.ReferenceNormMemIdeal.τ).loc Cert.ReferenceNormMemIdeal.main_v17) = v2 c
          ∧ r.2.mem ((c.tc : Thread Cert.ReferenceNormMemIdeal.nD Cert.ReferenceNormMemIdeal.τ).loc Cert.ReferenceNormMemIdeal.main_arg0) = m' ((c.tc : Thread Cert.ReferenceNormMemIdeal.nD Cert.ReferenceNormMemIdeal.τ).loc Cert.ReferenceNormMemIdeal.main_arg0)
          ∧ r.2.mem ((c.tc : Thread Cert.ReferenceNormMemIdeal.nD Cert.ReferenceNormMemIdeal.τ).loc Cert.ReferenceNormMemIdeal.main_arg1) = m' ((c.tc : Thread Cert.ReferenceNormMemIdeal.nD Cert.ReferenceNormMemIdeal.τ).loc Cert.ReferenceNormMemIdeal.main_arg1)
          ∧ r.2.mem ((c.tc : Thread Cert.ReferenceNormMemIdeal.nD Cert.ReferenceNormMemIdeal.τ).loc Cert.ReferenceNormMemIdeal.main_arg2) = m' ((c.tc : Thread Cert.ReferenceNormMemIdeal.nD Cert.ReferenceNormMemIdeal.τ).loc Cert.ReferenceNormMemIdeal.main_arg2))

def preserves_KernelFNorm_KernelFNormIdeal : Prop :=
  True

def algebraic_KernelFNormIdeal_ReferenceFNormIdeal [hKernelFNormIdeal : Cert.KernelFNormIdeal.Facts] [hReferenceFNormIdeal : Cert.ReferenceFNormIdeal.Facts] : Prop :=
  ∀ (m : (ℓ : Loc Cert.KernelFNormIdeal.nD Cert.KernelFNormIdeal.τ Cert.KernelFNormIdeal.sig) → Buf (Elt Ideal) ℓ) (g : Dev Cert.KernelFNormIdeal.nD → PrngReg)
    (m' : (ℓ : Loc Cert.ReferenceFNormIdeal.nD Cert.ReferenceFNormIdeal.τ Cert.ReferenceFNormIdeal.sig) → Buf (Elt Ideal) ℓ) (g' : Dev Cert.ReferenceFNormIdeal.nD → PrngReg), Pre_KernelFNormIdeal m →
    (∀ c : Dev Cert.KernelFNormIdeal.nD,
      m' ((c.tc : Thread Cert.ReferenceFNormIdeal.nD Cert.ReferenceFNormIdeal.τ).loc Cert.ReferenceFNormIdeal.main_arg0) = m ((c.tc : Thread Cert.KernelFNormIdeal.nD Cert.KernelFNormIdeal.τ).loc Cert.KernelFNormIdeal.main_arg0)
      ∧ m' ((c.tc : Thread Cert.ReferenceFNormIdeal.nD Cert.ReferenceFNormIdeal.τ).loc Cert.ReferenceFNormIdeal.main_arg1) = m ((c.tc : Thread Cert.KernelFNormIdeal.nD Cert.KernelFNormIdeal.τ).loc Cert.KernelFNormIdeal.main_arg1)) →
    ∃ (v0 : (c : Dev Cert.KernelFNormIdeal.nD) → Buf (Elt Ideal) ((c.tc : Thread Cert.KernelFNormIdeal.nD Cert.KernelFNormIdeal.τ).loc Cert.KernelFNormIdeal.main_v0)),
      θ_run (Cert.KernelFNormIdeal.defs (F := Ideal)) (onTc (τ := Cert.KernelFNormIdeal.τ) (Cert.KernelFNormIdeal.main (F := Ideal))) ⟨m, fun _ => 0, g⟩ (fun r => ∀ c : Dev Cert.KernelFNormIdeal.nD,
          r.2.mem ((c.tc : Thread Cert.KernelFNormIdeal.nD Cert.KernelFNormIdeal.τ).loc Cert.KernelFNormIdeal.main_v0) = v0 c
          ∧ r.2.mem ((c.tc : Thread Cert.KernelFNormIdeal.nD Cert.KernelFNormIdeal.τ).loc Cert.KernelFNormIdeal.main_arg0) = m ((c.tc : Thread Cert.KernelFNormIdeal.nD Cert.KernelFNormIdeal.τ).loc Cert.KernelFNormIdeal.main_arg0)
          ∧ r.2.mem ((c.tc : Thread Cert.KernelFNormIdeal.nD Cert.KernelFNormIdeal.τ).loc Cert.KernelFNormIdeal.main_arg1) = m ((c.tc : Thread Cert.KernelFNormIdeal.nD Cert.KernelFNormIdeal.τ).loc Cert.KernelFNormIdeal.main_arg1))
      ∧ θ_run (Cert.ReferenceFNormIdeal.defs (F := Ideal)) (onTc (τ := Cert.ReferenceFNormIdeal.τ) (Cert.ReferenceFNormIdeal.main (F := Ideal))) ⟨m', fun _ => 0, g'⟩ (fun r => ∀ c : Dev Cert.ReferenceFNormIdeal.nD,
          r.2.mem ((c.tc : Thread Cert.ReferenceFNormIdeal.nD Cert.ReferenceFNormIdeal.τ).loc Cert.ReferenceFNormIdeal.main_v12) = v0 c
          ∧ r.2.mem ((c.tc : Thread Cert.ReferenceFNormIdeal.nD Cert.ReferenceFNormIdeal.τ).loc Cert.ReferenceFNormIdeal.main_arg0) = m' ((c.tc : Thread Cert.ReferenceFNormIdeal.nD Cert.ReferenceFNormIdeal.τ).loc Cert.ReferenceFNormIdeal.main_arg0)
          ∧ r.2.mem ((c.tc : Thread Cert.ReferenceFNormIdeal.nD Cert.ReferenceFNormIdeal.τ).loc Cert.ReferenceFNormIdeal.main_arg1) = m' ((c.tc : Thread Cert.ReferenceFNormIdeal.nD Cert.ReferenceFNormIdeal.τ).loc Cert.ReferenceFNormIdeal.main_arg1))

def preserves_KernelFNormMem_KernelFNormMemIdeal : Prop :=
  True

def algebraic_KernelFNormMemIdeal_ReferenceFNormMemIdeal [hKernelFNormMemIdeal : Cert.KernelFNormMemIdeal.Facts] [hReferenceFNormMemIdeal : Cert.ReferenceFNormMemIdeal.Facts] : Prop :=
  ∀ (m : (ℓ : Loc Cert.KernelFNormMemIdeal.nD Cert.KernelFNormMemIdeal.τ Cert.KernelFNormMemIdeal.sig) → Buf (Elt Ideal) ℓ) (g : Dev Cert.KernelFNormMemIdeal.nD → PrngReg)
    (m' : (ℓ : Loc Cert.ReferenceFNormMemIdeal.nD Cert.ReferenceFNormMemIdeal.τ Cert.ReferenceFNormMemIdeal.sig) → Buf (Elt Ideal) ℓ) (g' : Dev Cert.ReferenceFNormMemIdeal.nD → PrngReg), Pre_KernelFNormMemIdeal m →
    (∀ c : Dev Cert.KernelFNormMemIdeal.nD,
      m' ((c.tc : Thread Cert.ReferenceFNormMemIdeal.nD Cert.ReferenceFNormMemIdeal.τ).loc Cert.ReferenceFNormMemIdeal.main_arg0) = m ((c.tc : Thread Cert.KernelFNormMemIdeal.nD Cert.KernelFNormMemIdeal.τ).loc Cert.KernelFNormMemIdeal.main_arg0)
      ∧ m' ((c.tc : Thread Cert.ReferenceFNormMemIdeal.nD Cert.ReferenceFNormMemIdeal.τ).loc Cert.ReferenceFNormMemIdeal.main_arg1) = m ((c.tc : Thread Cert.KernelFNormMemIdeal.nD Cert.KernelFNormMemIdeal.τ).loc Cert.KernelFNormMemIdeal.main_arg1)) →
    ∃ (v0 : (c : Dev Cert.KernelFNormMemIdeal.nD) → Buf (Elt Ideal) ((c.tc : Thread Cert.KernelFNormMemIdeal.nD Cert.KernelFNormMemIdeal.τ).loc Cert.KernelFNormMemIdeal.main_v0)),
      θ_run (Cert.KernelFNormMemIdeal.defs (F := Ideal)) (onTc (τ := Cert.KernelFNormMemIdeal.τ) (Cert.KernelFNormMemIdeal.main (F := Ideal))) ⟨m, fun _ => 0, g⟩ (fun r => ∀ c : Dev Cert.KernelFNormMemIdeal.nD,
          r.2.mem ((c.tc : Thread Cert.KernelFNormMemIdeal.nD Cert.KernelFNormMemIdeal.τ).loc Cert.KernelFNormMemIdeal.main_v0) = v0 c
          ∧ r.2.mem ((c.tc : Thread Cert.KernelFNormMemIdeal.nD Cert.KernelFNormMemIdeal.τ).loc Cert.KernelFNormMemIdeal.main_arg0) = m ((c.tc : Thread Cert.KernelFNormMemIdeal.nD Cert.KernelFNormMemIdeal.τ).loc Cert.KernelFNormMemIdeal.main_arg0)
          ∧ r.2.mem ((c.tc : Thread Cert.KernelFNormMemIdeal.nD Cert.KernelFNormMemIdeal.τ).loc Cert.KernelFNormMemIdeal.main_arg1) = m ((c.tc : Thread Cert.KernelFNormMemIdeal.nD Cert.KernelFNormMemIdeal.τ).loc Cert.KernelFNormMemIdeal.main_arg1))
      ∧ θ_run (Cert.ReferenceFNormMemIdeal.defs (F := Ideal)) (onTc (τ := Cert.ReferenceFNormMemIdeal.τ) (Cert.ReferenceFNormMemIdeal.main (F := Ideal))) ⟨m', fun _ => 0, g'⟩ (fun r => ∀ c : Dev Cert.ReferenceFNormMemIdeal.nD,
          r.2.mem ((c.tc : Thread Cert.ReferenceFNormMemIdeal.nD Cert.ReferenceFNormMemIdeal.τ).loc Cert.ReferenceFNormMemIdeal.main_v12) = v0 c
          ∧ r.2.mem ((c.tc : Thread Cert.ReferenceFNormMemIdeal.nD Cert.ReferenceFNormMemIdeal.τ).loc Cert.ReferenceFNormMemIdeal.main_arg0) = m' ((c.tc : Thread Cert.ReferenceFNormMemIdeal.nD Cert.ReferenceFNormMemIdeal.τ).loc Cert.ReferenceFNormMemIdeal.main_arg0)
          ∧ r.2.mem ((c.tc : Thread Cert.ReferenceFNormMemIdeal.nD Cert.ReferenceFNormMemIdeal.τ).loc Cert.ReferenceFNormMemIdeal.main_arg1) = m' ((c.tc : Thread Cert.ReferenceFNormMemIdeal.nD Cert.ReferenceFNormMemIdeal.τ).loc Cert.ReferenceFNormMemIdeal.main_arg1))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)) (v3 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v49) = v0 c
          ∧ r.2.mem ((c.tc : Thread Cert.ReferenceLossIdeal.nD Cert.ReferenceLossIdeal.τ).loc Cert.ReferenceLossIdeal.main_v48) = v1 c
          ∧ r.2.mem ((c.tc : Thread Cert.ReferenceLossIdeal.nD Cert.ReferenceLossIdeal.τ).loc Cert.ReferenceLossIdeal.main_v50) = v2 c
          ∧ r.2.mem ((c.tc : Thread Cert.ReferenceLossIdeal.nD Cert.ReferenceLossIdeal.τ).loc Cert.ReferenceLossIdeal.main_v32) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)
      ∧ m' ((c.tc : Thread Cert.ReferenceAdamIdeal.nD Cert.ReferenceAdamIdeal.τ).loc Cert.ReferenceAdamIdeal.main_arg4) = m ((c.tc : Thread Cert.KernelAdamIdeal.nD Cert.KernelAdamIdeal.τ).loc Cert.KernelAdamIdeal.main_arg4)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3)
          ∧ r.2.mem ((c.tc : Thread Cert.KernelAdamIdeal.nD Cert.KernelAdamIdeal.τ).loc Cert.KernelAdamIdeal.main_arg4) = m ((c.tc : Thread Cert.KernelAdamIdeal.nD Cert.KernelAdamIdeal.τ).loc Cert.KernelAdamIdeal.main_arg4))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v2) = v0 c
          ∧ r.2.mem ((c.tc : Thread Cert.ReferenceAdamIdeal.nD Cert.ReferenceAdamIdeal.τ).loc Cert.ReferenceAdamIdeal.main_v26) = v1 c
          ∧ r.2.mem ((c.tc : Thread Cert.ReferenceAdamIdeal.nD Cert.ReferenceAdamIdeal.τ).loc Cert.ReferenceAdamIdeal.main_v7) = v2 c
          ∧ r.2.mem ((c.tc : Thread Cert.ReferenceAdamIdeal.nD Cert.ReferenceAdamIdeal.τ).loc Cert.ReferenceAdamIdeal.main_v13) = v3 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3)
          ∧ r.2.mem ((c.tc : Thread Cert.ReferenceAdamIdeal.nD Cert.ReferenceAdamIdeal.τ).loc Cert.ReferenceAdamIdeal.main_arg4) = m' ((c.tc : Thread Cert.ReferenceAdamIdeal.nD Cert.ReferenceAdamIdeal.τ).loc Cert.ReferenceAdamIdeal.main_arg4))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)
      ∧ m' ((c.tc : Thread Cert.ReferenceAdamInIdeal.nD Cert.ReferenceAdamInIdeal.τ).loc Cert.ReferenceAdamInIdeal.main_arg4) = m ((c.tc : Thread Cert.KernelAdamInIdeal.nD Cert.KernelAdamInIdeal.τ).loc Cert.KernelAdamInIdeal.main_arg4)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
          ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v2) = v0 c
          ∧ r.2.mem ((c.tc : Thread Cert.ReferenceAdamInIdeal.nD Cert.ReferenceAdamInIdeal.τ).loc Cert.ReferenceAdamInIdeal.main_v26) = v1 c
          ∧ r.2.mem ((c.tc : Thread Cert.ReferenceAdamInIdeal.nD Cert.ReferenceAdamInIdeal.τ).loc Cert.ReferenceAdamInIdeal.main_v7) = v2 c
          ∧ r.2.mem ((c.tc : Thread Cert.ReferenceAdamInIdeal.nD Cert.ReferenceAdamInIdeal.τ).loc Cert.ReferenceAdamInIdeal.main_v13) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3)
          ∧ r.2.mem ((c.tc : Thread Cert.ReferenceAdamInIdeal.nD Cert.ReferenceAdamInIdeal.τ).loc Cert.ReferenceAdamInIdeal.main_arg4) = m' ((c.tc : Thread Cert.ReferenceAdamInIdeal.nD Cert.ReferenceAdamInIdeal.τ).loc Cert.ReferenceAdamInIdeal.main_arg4))

def preserves_KernelAdamSq_KernelAdamSqIdeal : Prop :=
  True

def algebraic_KernelAdamSqIdeal_ReferenceAdamSqIdeal [hKernelAdamSqIdeal : Cert.KernelAdamSqIdeal.Facts] [hReferenceAdamSqIdeal : Cert.ReferenceAdamSqIdeal.Facts] : Prop :=
  ∀ (m : (ℓ : Loc Cert.KernelAdamSqIdeal.nD Cert.KernelAdamSqIdeal.τ Cert.KernelAdamSqIdeal.sig) → Buf (Elt Ideal) ℓ) (g : Dev Cert.KernelAdamSqIdeal.nD → PrngReg)
    (m' : (ℓ : Loc Cert.ReferenceAdamSqIdeal.nD Cert.ReferenceAdamSqIdeal.τ Cert.ReferenceAdamSqIdeal.sig) → Buf (Elt Ideal) ℓ) (g' : Dev Cert.ReferenceAdamSqIdeal.nD → PrngReg), Pre_KernelAdamSqIdeal m →
    (∀ c : Dev Cert.KernelAdamSqIdeal.nD,
      m' ((c.tc : Thread Cert.ReferenceAdamSqIdeal.nD Cert.ReferenceAdamSqIdeal.τ).loc Cert.ReferenceAdamSqIdeal.main_arg0) = m ((c.tc : Thread Cert.KernelAdamSqIdeal.nD Cert.KernelAdamSqIdeal.τ).loc Cert.KernelAdamSqIdeal.main_arg0)
      ∧ m' ((c.tc : Thread Cert.ReferenceAdamSqIdeal.nD Cert.ReferenceAdamSqIdeal.τ).loc Cert.ReferenceAdamSqIdeal.main_arg1) = m ((c.tc : Thread Cert.KernelAdamSqIdeal.nD Cert.KernelAdamSqIdeal.τ).loc Cert.KernelAdamSqIdeal.main_arg1)
      ∧ m' ((c.tc : Thread Cert.ReferenceAdamSqIdeal.nD Cert.ReferenceAdamSqIdeal.τ).loc Cert.ReferenceAdamSqIdeal.main_arg2) = m ((c.tc : Thread Cert.KernelAdamSqIdeal.nD Cert.KernelAdamSqIdeal.τ).loc Cert.KernelAdamSqIdeal.main_arg2)
      ∧ m' ((c.tc : Thread Cert.ReferenceAdamSqIdeal.nD Cert.ReferenceAdamSqIdeal.τ).loc Cert.ReferenceAdamSqIdeal.main_arg3) = m ((c.tc : Thread Cert.KernelAdamSqIdeal.nD Cert.KernelAdamSqIdeal.τ).loc Cert.KernelAdamSqIdeal.main_arg3)
      ∧ m' ((c.tc : Thread Cert.ReferenceAdamSqIdeal.nD Cert.ReferenceAdamSqIdeal.τ).loc Cert.ReferenceAdamSqIdeal.main_arg4) = m ((c.tc : Thread Cert.KernelAdamSqIdeal.nD Cert.KernelAdamSqIdeal.τ).loc Cert.KernelAdamSqIdeal.main_arg4)) →
    ∃ (v0 : (c : Dev Cert.KernelAdamSqIdeal.nD) → Buf (Elt Ideal) ((c.tc : Thread Cert.KernelAdamSqIdeal.nD Cert.KernelAdamSqIdeal.τ).loc Cert.KernelAdamSqIdeal.main_v0_0)) (v1 : (c : Dev Cert.KernelAdamSqIdeal.nD) → Buf (Elt Ideal) ((c.tc : Thread Cert.KernelAdamSqIdeal.nD Cert.KernelAdamSqIdeal.τ).loc Cert.KernelAdamSqIdeal.main_v0_1)) (v2 : (c : Dev Cert.KernelAdamSqIdeal.nD) → Buf (Elt Ideal) ((c.tc : Thread Cert.KernelAdamSqIdeal.nD Cert.KernelAdamSqIdeal.τ).loc Cert.KernelAdamSqIdeal.main_v0_2)) (v3 : (c : Dev Cert.KernelAdamSqIdeal.nD) → Buf (Elt Ideal) ((c.tc : Thread Cert.KernelAdamSqIdeal.nD Cert.KernelAdamSqIdeal.τ).loc Cert.KernelAdamSqIdeal.main_v0_3)),
      θ_run (Cert.KernelAdamSqIdeal.defs (F := Ideal)) (onTc (τ := Cert.KernelAdamSqIdeal.τ) (Cert.KernelAdamSqIdeal.main (F := Ideal))) ⟨m, fun _ => 0, g⟩ (fun r => ∀ c : Dev Cert.KernelAdamSqIdeal.nD,
          r.2.mem ((c.tc : Thread Cert.KernelAdamSqIdeal.nD Cert.KernelAdamSqIdeal.τ).loc Cert.KernelAdamSqIdeal.main_v0_0) = v0 c
          ∧ r.2.mem ((c.tc : Thread Cert.KernelAdamSqIdeal.nD Cert.KernelAdamSqIdeal.τ).loc Cert.KernelAdamSqIdeal.main_v0_1) = v1 c
          ∧ r.2.mem ((c.tc : Thread Cert.KernelAdamSqIdeal.nD Cert.KernelAdamSqIdeal.τ).loc Cert.KernelAdamSqIdeal.main_v0_2) = v2 c
          ∧ r.2.mem ((c.tc : Thread Cert.KernelAdamSqIdeal.nD Cert.KernelAdamSqIdeal.τ).loc Cert.KernelAdamSqIdeal.main_v0_3) = v3 c
          ∧ r.2.mem ((c.tc : Thread Cert.KernelAdamSqIdeal.nD Cert.KernelAdamSqIdeal.τ).loc Cert.KernelAdamSqIdeal.main_arg0) = m ((c.tc : Thread Cert.KernelAdamSqIdeal.nD Cert.KernelAdamSqIdeal.τ).loc Cert.KernelAdamSqIdeal.main_arg0)
          ∧ r.2.mem ((c.tc : Thread Cert.KernelAdamSqIdeal.nD Cert.KernelAdamSqIdeal.τ).loc Cert.KernelAdamSqIdeal.main_arg1) = m ((c.tc : Thread Cert.KernelAdamSqIdeal.nD Cert.KernelAdamSqIdeal.τ).loc Cert.KernelAdamSqIdeal.main_arg1)
          ∧ r.2.mem ((c.tc : Thread Cert.KernelAdamSqIdeal.nD Cert.KernelAdamSqIdeal.τ).loc Cert.KernelAdamSqIdeal.main_arg2) = m ((c.tc : Thread Cert.KernelAdamSqIdeal.nD Cert.KernelAdamSqIdeal.τ).loc Cert.KernelAdamSqIdeal.main_arg2)
          ∧ r.2.mem ((c.tc : Thread Cert.KernelAdamSqIdeal.nD Cert.KernelAdamSqIdeal.τ).loc Cert.KernelAdamSqIdeal.main_arg3) = m ((c.tc : Thread Cert.KernelAdamSqIdeal.nD Cert.KernelAdamSqIdeal.τ).loc Cert.KernelAdamSqIdeal.main_arg3)
          ∧ r.2.mem ((c.tc : Thread Cert.KernelAdamSqIdeal.nD Cert.KernelAdamSqIdeal.τ).loc Cert.KernelAdamSqIdeal.main_arg4) = m ((c.tc : Thread Cert.KernelAdamSqIdeal.nD Cert.KernelAdamSqIdeal.τ).loc Cert.KernelAdamSqIdeal.main_arg4))
      ∧ θ_run (Cert.ReferenceAdamSqIdeal.defs (F := Ideal)) (onTc (τ := Cert.ReferenceAdamSqIdeal.τ) (Cert.ReferenceAdamSqIdeal.main (F := Ideal))) ⟨m', fun _ => 0, g'⟩ (fun r => ∀ c : Dev Cert.ReferenceAdamSqIdeal.nD,
          r.2.mem ((c.tc : Thread Cert.ReferenceAdamSqIdeal.nD Cert.ReferenceAdamSqIdeal.τ).loc Cert.ReferenceAdamSqIdeal.main_v2) = v0 c
          ∧ r.2.mem ((c.tc : Thread Cert.ReferenceAdamSqIdeal.nD Cert.ReferenceAdamSqIdeal.τ).loc Cert.ReferenceAdamSqIdeal.main_v26) = v1 c
          ∧ r.2.mem ((c.tc : Thread Cert.ReferenceAdamSqIdeal.nD Cert.ReferenceAdamSqIdeal.τ).loc Cert.ReferenceAdamSqIdeal.main_v7) = v2 c
          ∧ r.2.mem ((c.tc : Thread Cert.ReferenceAdamSqIdeal.nD Cert.ReferenceAdamSqIdeal.τ).loc Cert.ReferenceAdamSqIdeal.main_v13) = v3 c
          ∧ r.2.mem ((c.tc : Thread Cert.ReferenceAdamSqIdeal.nD Cert.ReferenceAdamSqIdeal.τ).loc Cert.ReferenceAdamSqIdeal.main_arg0) = m' ((c.tc : Thread Cert.ReferenceAdamSqIdeal.nD Cert.ReferenceAdamSqIdeal.τ).loc Cert.ReferenceAdamSqIdeal.main_arg0)
          ∧ r.2.mem ((c.tc : Thread Cert.ReferenceAdamSqIdeal.nD Cert.ReferenceAdamSqIdeal.τ).loc Cert.ReferenceAdamSqIdeal.main_arg1) = m' ((c.tc : Thread Cert.ReferenceAdamSqIdeal.nD Cert.ReferenceAdamSqIdeal.τ).loc Cert.ReferenceAdamSqIdeal.main_arg1)
          ∧ r.2.mem ((c.tc : Thread Cert.ReferenceAdamSqIdeal.nD Cert.ReferenceAdamSqIdeal.τ).loc Cert.ReferenceAdamSqIdeal.main_arg2) = m' ((c.tc : Thread Cert.ReferenceAdamSqIdeal.nD Cert.ReferenceAdamSqIdeal.τ).loc Cert.ReferenceAdamSqIdeal.main_arg2)
          ∧ r.2.mem ((c.tc : Thread Cert.ReferenceAdamSqIdeal.nD Cert.ReferenceAdamSqIdeal.τ).loc Cert.ReferenceAdamSqIdeal.main_arg3) = m' ((c.tc : Thread Cert.ReferenceAdamSqIdeal.nD Cert.ReferenceAdamSqIdeal.τ).loc Cert.ReferenceAdamSqIdeal.main_arg3)
          ∧ r.2.mem ((c.tc : Thread Cert.ReferenceAdamSqIdeal.nD Cert.ReferenceAdamSqIdeal.τ).loc Cert.ReferenceAdamSqIdeal.main_arg4) = m' ((c.tc : Thread Cert.ReferenceAdamSqIdeal.nD Cert.ReferenceAdamSqIdeal.τ).loc Cert.ReferenceAdamSqIdeal.main_arg4))

def preserves_KernelAdamKv_KernelAdamKvIdeal : Prop :=
  True

def algebraic_KernelAdamKvIdeal_ReferenceAdamKvIdeal [hKernelAdamKvIdeal : Cert.KernelAdamKvIdeal.Facts] [hReferenceAdamKvIdeal : Cert.ReferenceAdamKvIdeal.Facts] : Prop :=
  ∀ (m : (ℓ : Loc Cert.KernelAdamKvIdeal.nD Cert.KernelAdamKvIdeal.τ Cert.KernelAdamKvIdeal.sig) → Buf (Elt Ideal) ℓ) (g : Dev Cert.KernelAdamKvIdeal.nD → PrngReg)
    (m' : (ℓ : Loc Cert.ReferenceAdamKvIdeal.nD Cert.ReferenceAdamKvIdeal.τ Cert.ReferenceAdamKvIdeal.sig) → Buf (Elt Ideal) ℓ) (g' : Dev Cert.ReferenceAdamKvIdeal.nD → PrngReg), Pre_KernelAdamKvIdeal m →
    (∀ c : Dev Cert.KernelAdamKvIdeal.nD,
      m' ((c.tc : Thread Cert.ReferenceAdamKvIdeal.nD Cert.ReferenceAdamKvIdeal.τ).loc Cert.ReferenceAdamKvIdeal.main_arg0) = m ((c.tc : Thread Cert.KernelAdamKvIdeal.nD Cert.KernelAdamKvIdeal.τ).loc Cert.KernelAdamKvIdeal.main_arg0)
      ∧ m' ((c.tc : Thread Cert.ReferenceAdamKvIdeal.nD Cert.ReferenceAdamKvIdeal.τ).loc Cert.ReferenceAdamKvIdeal.main_arg1) = m ((c.tc : Thread Cert.KernelAdamKvIdeal.nD Cert.KernelAdamKvIdeal.τ).loc Cert.KernelAdamKvIdeal.main_arg1)
      ∧ m' ((c.tc : Thread Cert.ReferenceAdamKvIdeal.nD Cert.ReferenceAdamKvIdeal.τ).loc Cert.ReferenceAdamKvIdeal.main_arg2) = m ((c.tc : Thread Cert.KernelAdamKvIdeal.nD Cert.KernelAdamKvIdeal.τ).loc Cert.KernelAdamKvIdeal.main_arg2)
      ∧ m' ((c.tc : Thread Cert.ReferenceAdamKvIdeal.nD Cert.ReferenceAdamKvIdeal.τ).loc Cert.ReferenceAdamKvIdeal.main_arg3) = m ((c.tc : Thread Cert.KernelAdamKvIdeal.nD Cert.KernelAdamKvIdeal.τ).loc Cert.KernelAdamKvIdeal.main_arg3)
      ∧ m' ((c.tc : Thread Cert.ReferenceAdamKvIdeal.nD Cert.ReferenceAdamKvIdeal.τ).loc Cert.ReferenceAdamKvIdeal.main_arg4) = m ((c.tc : Thread Cert.KernelAdamKvIdeal.nD Cert.KernelAdamKvIdeal.τ).loc Cert.KernelAdamKvIdeal.main_arg4)) →
    ∃ (v0 : (c : Dev Cert.KernelAdamKvIdeal.nD) → Buf (Elt Ideal) ((c.tc : Thread Cert.KernelAdamKvIdeal.nD Cert.KernelAdamKvIdeal.τ).loc Cert.KernelAdamKvIdeal.main_v0_0)) (v1 : (c : Dev Cert.KernelAdamKvIdeal.nD) → Buf (Elt Ideal) ((c.tc : Thread Cert.KernelAdamKvIdeal.nD Cert.KernelAdamKvIdeal.τ).loc Cert.KernelAdamKvIdeal.main_v0_1)) (v2 : (c : Dev Cert.KernelAdamKvIdeal.nD) → Buf (Elt Ideal) ((c.tc : Thread Cert.KernelAdamKvIdeal.nD Cert.KernelAdamKvIdeal.τ).loc Cert.KernelAdamKvIdeal.main_v0_2)) (v3 : (c : Dev Cert.KernelAdamKvIdeal.nD) → Buf (Elt Ideal) ((c.tc : Thread Cert.KernelAdamKvIdeal.nD Cert.KernelAdamKvIdeal.τ).loc Cert.KernelAdamKvIdeal.main_v0_3)),
      θ_run (Cert.KernelAdamKvIdeal.defs (F := Ideal)) (onTc (τ := Cert.KernelAdamKvIdeal.τ) (Cert.KernelAdamKvIdeal.main (F := Ideal))) ⟨m, fun _ => 0, g⟩ (fun r => ∀ c : Dev Cert.KernelAdamKvIdeal.nD,
          r.2.mem ((c.tc : Thread Cert.KernelAdamKvIdeal.nD Cert.KernelAdamKvIdeal.τ).loc Cert.KernelAdamKvIdeal.main_v0_0) = v0 c
          ∧ r.2.mem ((c.tc : Thread Cert.KernelAdamKvIdeal.nD Cert.KernelAdamKvIdeal.τ).loc Cert.KernelAdamKvIdeal.main_v0_1) = v1 c
          ∧ r.2.mem ((c.tc : Thread Cert.KernelAdamKvIdeal.nD Cert.KernelAdamKvIdeal.τ).loc Cert.KernelAdamKvIdeal.main_v0_2) = v2 c
          ∧ r.2.mem ((c.tc : Thread Cert.KernelAdamKvIdeal.nD Cert.KernelAdamKvIdeal.τ).loc Cert.KernelAdamKvIdeal.main_v0_3) = v3 c
          ∧ r.2.mem ((c.tc : Thread Cert.KernelAdamKvIdeal.nD Cert.KernelAdamKvIdeal.τ).loc Cert.KernelAdamKvIdeal.main_arg0) = m ((c.tc : Thread Cert.KernelAdamKvIdeal.nD Cert.KernelAdamKvIdeal.τ).loc Cert.KernelAdamKvIdeal.main_arg0)
          ∧ r.2.mem ((c.tc : Thread Cert.KernelAdamKvIdeal.nD Cert.KernelAdamKvIdeal.τ).loc Cert.KernelAdamKvIdeal.main_arg1) = m ((c.tc : Thread Cert.KernelAdamKvIdeal.nD Cert.KernelAdamKvIdeal.τ).loc Cert.KernelAdamKvIdeal.main_arg1)
          ∧ r.2.mem ((c.tc : Thread Cert.KernelAdamKvIdeal.nD Cert.KernelAdamKvIdeal.τ).loc Cert.KernelAdamKvIdeal.main_arg2) = m ((c.tc : Thread Cert.KernelAdamKvIdeal.nD Cert.KernelAdamKvIdeal.τ).loc Cert.KernelAdamKvIdeal.main_arg2)
          ∧ r.2.mem ((c.tc : Thread Cert.KernelAdamKvIdeal.nD Cert.KernelAdamKvIdeal.τ).loc Cert.KernelAdamKvIdeal.main_arg3) = m ((c.tc : Thread Cert.KernelAdamKvIdeal.nD Cert.KernelAdamKvIdeal.τ).loc Cert.KernelAdamKvIdeal.main_arg3)
          ∧ r.2.mem ((c.tc : Thread Cert.KernelAdamKvIdeal.nD Cert.KernelAdamKvIdeal.τ).loc Cert.KernelAdamKvIdeal.main_arg4) = m ((c.tc : Thread Cert.KernelAdamKvIdeal.nD Cert.KernelAdamKvIdeal.τ).loc Cert.KernelAdamKvIdeal.main_arg4))
      ∧ θ_run (Cert.ReferenceAdamKvIdeal.defs (F := Ideal)) (onTc (τ := Cert.ReferenceAdamKvIdeal.τ) (Cert.ReferenceAdamKvIdeal.main (F := Ideal))) ⟨m', fun _ => 0, g'⟩ (fun r => ∀ c : Dev Cert.ReferenceAdamKvIdeal.nD,
          r.2.mem ((c.tc : Thread Cert.ReferenceAdamKvIdeal.nD Cert.ReferenceAdamKvIdeal.τ).loc Cert.ReferenceAdamKvIdeal.main_v2) = v0 c
          ∧ r.2.mem ((c.tc : Thread Cert.ReferenceAdamKvIdeal.nD Cert.ReferenceAdamKvIdeal.τ).loc Cert.ReferenceAdamKvIdeal.main_v26) = v1 c
          ∧ r.2.mem ((c.tc : Thread Cert.ReferenceAdamKvIdeal.nD Cert.ReferenceAdamKvIdeal.τ).loc Cert.ReferenceAdamKvIdeal.main_v7) = v2 c
          ∧ r.2.mem ((c.tc : Thread Cert.ReferenceAdamKvIdeal.nD Cert.ReferenceAdamKvIdeal.τ).loc Cert.ReferenceAdamKvIdeal.main_v13) = v3 c
          ∧ r.2.mem ((c.tc : Thread Cert.ReferenceAdamKvIdeal.nD Cert.ReferenceAdamKvIdeal.τ).loc Cert.ReferenceAdamKvIdeal.main_arg0) = m' ((c.tc : Thread Cert.ReferenceAdamKvIdeal.nD Cert.ReferenceAdamKvIdeal.τ).loc Cert.ReferenceAdamKvIdeal.main_arg0)
          ∧ r.2.mem ((c.tc : Thread Cert.ReferenceAdamKvIdeal.nD Cert.ReferenceAdamKvIdeal.τ).loc Cert.ReferenceAdamKvIdeal.main_arg1) = m' ((c.tc : Thread Cert.ReferenceAdamKvIdeal.nD Cert.ReferenceAdamKvIdeal.τ).loc Cert.ReferenceAdamKvIdeal.main_arg1)
          ∧ r.2.mem ((c.tc : Thread Cert.ReferenceAdamKvIdeal.nD Cert.ReferenceAdamKvIdeal.τ).loc Cert.ReferenceAdamKvIdeal.main_arg2) = m' ((c.tc : Thread Cert.ReferenceAdamKvIdeal.nD Cert.ReferenceAdamKvIdeal.τ).loc Cert.ReferenceAdamKvIdeal.main_arg2)
          ∧ r.2.mem ((c.tc : Thread Cert.ReferenceAdamKvIdeal.nD Cert.ReferenceAdamKvIdeal.τ).loc Cert.ReferenceAdamKvIdeal.main_arg3) = m' ((c.tc : Thread Cert.ReferenceAdamKvIdeal.nD Cert.ReferenceAdamKvIdeal.τ).loc Cert.ReferenceAdamKvIdeal.main_arg3)
          ∧ r.2.mem ((c.tc : Thread Cert.ReferenceAdamKvIdeal.nD Cert.ReferenceAdamKvIdeal.τ).loc Cert.ReferenceAdamKvIdeal.main_arg4) = m' ((c.tc : Thread Cert.ReferenceAdamKvIdeal.nD Cert.ReferenceAdamKvIdeal.τ).loc Cert.ReferenceAdamKvIdeal.main_arg4))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelSum_KernelSumIdeal : Prop :=
  True

def algebraic_KernelSumIdeal_ReferenceSumIdeal [hKernelSumIdeal : Cert.KernelSumIdeal.Facts] [hReferenceSumIdeal : Cert.ReferenceSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg)
    (m' : (ℓ : Loc Cert.ReferenceSumIdeal.nD Cert.ReferenceSumIdeal.τ Cert.ReferenceSumIdeal.sig) → Buf (Elt Ideal) ℓ) (g' : Dev Cert.ReferenceSumIdeal.nD → PrngReg), Pre_KernelSumIdeal m →
    (∀ c : Dev Cert.KernelSumIdeal.nD,
      m' ((c.tc : Thread Cert.ReferenceSumIdeal.nD Cert.ReferenceSumIdeal.τ).loc Cert.ReferenceSumIdeal.main_arg0) = m ((c.tc : Thread Cert.KernelSumIdeal.nD Cert.KernelSumIdeal.τ).loc Cert.KernelSumIdeal.main_arg0)) →
    ∃ (v0 : (c : Dev Cert.KernelSumIdeal.nD) → Buf (Elt Ideal) ((c.tc : Thread Cert.KernelSumIdeal.nD Cert.KernelSumIdeal.τ).loc Cert.KernelSumIdeal.main_v0)),
      θ_run (Cert.KernelSumIdeal.defs (F := Ideal)) (onTc (τ := Cert.KernelSumIdeal.τ) (Cert.KernelSumIdeal.main (F := Ideal))) ⟨m, fun _ => 0, g⟩ (fun r => ∀ c : Dev Cert.KernelSumIdeal.nD,
          r.2.mem ((c.tc : Thread Cert.KernelSumIdeal.nD Cert.KernelSumIdeal.τ).loc Cert.KernelSumIdeal.main_v0) = v0 c
          ∧ r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ θ_run (Cert.ReferenceSumIdeal.defs (F := Ideal)) (onTc (τ := Cert.ReferenceSumIdeal.τ) (Cert.ReferenceSumIdeal.main (F := Ideal))) ⟨m', fun _ => 0, g'⟩ (fun r => ∀ c : Dev Cert.ReferenceSumIdeal.nD,
          r.2.mem ((c.tc : Thread Cert.ReferenceSumIdeal.nD Cert.ReferenceSumIdeal.τ).loc Cert.ReferenceSumIdeal.main_v0) = v0 c
          ∧ r.2.mem ((c.tc : Thread Cert.ReferenceSumIdeal.nD Cert.ReferenceSumIdeal.τ).loc Cert.ReferenceSumIdeal.main_arg0) = m' ((c.tc : Thread Cert.ReferenceSumIdeal.nD Cert.ReferenceSumIdeal.τ).loc Cert.ReferenceSumIdeal.main_arg0))

def preserves_KernelLnF_KernelLnFIdeal : Prop :=
  True

def algebraic_KernelLnFIdeal_ReferenceLnFIdeal [hKernelLnFIdeal : Cert.KernelLnFIdeal.Facts] [hReferenceLnFIdeal : Cert.ReferenceLnFIdeal.Facts] : Prop :=
  ∀ (m : (ℓ : Loc Cert.KernelLnFIdeal.nD Cert.KernelLnFIdeal.τ Cert.KernelLnFIdeal.sig) → Buf (Elt Ideal) ℓ) (g : Dev Cert.KernelLnFIdeal.nD → PrngReg)
    (m' : (ℓ : Loc Cert.ReferenceLnFIdeal.nD Cert.ReferenceLnFIdeal.τ Cert.ReferenceLnFIdeal.sig) → Buf (Elt Ideal) ℓ) (g' : Dev Cert.ReferenceLnFIdeal.nD → PrngReg), Pre_KernelLnFIdeal m →
    (∀ c : Dev Cert.KernelLnFIdeal.nD,
      m' ((c.tc : Thread Cert.ReferenceLnFIdeal.nD Cert.ReferenceLnFIdeal.τ).loc Cert.ReferenceLnFIdeal.main_arg0) = m ((c.tc : Thread Cert.KernelLnFIdeal.nD Cert.KernelLnFIdeal.τ).loc Cert.KernelLnFIdeal.main_arg0)
      ∧ m' ((c.tc : Thread Cert.ReferenceLnFIdeal.nD Cert.ReferenceLnFIdeal.τ).loc Cert.ReferenceLnFIdeal.main_arg1) = m ((c.tc : Thread Cert.KernelLnFIdeal.nD Cert.KernelLnFIdeal.τ).loc Cert.KernelLnFIdeal.main_arg1)
      ∧ m' ((c.tc : Thread Cert.ReferenceLnFIdeal.nD Cert.ReferenceLnFIdeal.τ).loc Cert.ReferenceLnFIdeal.main_arg2) = m ((c.tc : Thread Cert.KernelLnFIdeal.nD Cert.KernelLnFIdeal.τ).loc Cert.KernelLnFIdeal.main_arg2)
      ∧ m' ((c.tc : Thread Cert.ReferenceLnFIdeal.nD Cert.ReferenceLnFIdeal.τ).loc Cert.ReferenceLnFIdeal.main_arg3) = m ((c.tc : Thread Cert.KernelLnFIdeal.nD Cert.KernelLnFIdeal.τ).loc Cert.KernelLnFIdeal.main_arg3)) →
    ∃ (v0 : (c : Dev Cert.KernelLnFIdeal.nD) → Buf (Elt Ideal) ((c.tc : Thread Cert.KernelLnFIdeal.nD Cert.KernelLnFIdeal.τ).loc Cert.KernelLnFIdeal.main_v0)),
      θ_run (Cert.KernelLnFIdeal.defs (F := Ideal)) (onTc (τ := Cert.KernelLnFIdeal.τ) (Cert.KernelLnFIdeal.main (F := Ideal))) ⟨m, fun _ => 0, g⟩ (fun r => ∀ c : Dev Cert.KernelLnFIdeal.nD,
          r.2.mem ((c.tc : Thread Cert.KernelLnFIdeal.nD Cert.KernelLnFIdeal.τ).loc Cert.KernelLnFIdeal.main_v0) = v0 c
          ∧ r.2.mem ((c.tc : Thread Cert.KernelLnFIdeal.nD Cert.KernelLnFIdeal.τ).loc Cert.KernelLnFIdeal.main_arg0) = m ((c.tc : Thread Cert.KernelLnFIdeal.nD Cert.KernelLnFIdeal.τ).loc Cert.KernelLnFIdeal.main_arg0)
          ∧ r.2.mem ((c.tc : Thread Cert.KernelLnFIdeal.nD Cert.KernelLnFIdeal.τ).loc Cert.KernelLnFIdeal.main_arg1) = m ((c.tc : Thread Cert.KernelLnFIdeal.nD Cert.KernelLnFIdeal.τ).loc Cert.KernelLnFIdeal.main_arg1)
          ∧ r.2.mem ((c.tc : Thread Cert.KernelLnFIdeal.nD Cert.KernelLnFIdeal.τ).loc Cert.KernelLnFIdeal.main_arg2) = m ((c.tc : Thread Cert.KernelLnFIdeal.nD Cert.KernelLnFIdeal.τ).loc Cert.KernelLnFIdeal.main_arg2)
          ∧ r.2.mem ((c.tc : Thread Cert.KernelLnFIdeal.nD Cert.KernelLnFIdeal.τ).loc Cert.KernelLnFIdeal.main_arg3) = m ((c.tc : Thread Cert.KernelLnFIdeal.nD Cert.KernelLnFIdeal.τ).loc Cert.KernelLnFIdeal.main_arg3))
      ∧ θ_run (Cert.ReferenceLnFIdeal.defs (F := Ideal)) (onTc (τ := Cert.ReferenceLnFIdeal.τ) (Cert.ReferenceLnFIdeal.main (F := Ideal))) ⟨m', fun _ => 0, g'⟩ (fun r => ∀ c : Dev Cert.ReferenceLnFIdeal.nD,
          r.2.mem ((c.tc : Thread Cert.ReferenceLnFIdeal.nD Cert.ReferenceLnFIdeal.τ).loc Cert.ReferenceLnFIdeal.main_v25) = v0 c
          ∧ r.2.mem ((c.tc : Thread Cert.ReferenceLnFIdeal.nD Cert.ReferenceLnFIdeal.τ).loc Cert.ReferenceLnFIdeal.main_arg0) = m' ((c.tc : Thread Cert.ReferenceLnFIdeal.nD Cert.ReferenceLnFIdeal.τ).loc Cert.ReferenceLnFIdeal.main_arg0)
          ∧ r.2.mem ((c.tc : Thread Cert.ReferenceLnFIdeal.nD Cert.ReferenceLnFIdeal.τ).loc Cert.ReferenceLnFIdeal.main_arg1) = m' ((c.tc : Thread Cert.ReferenceLnFIdeal.nD Cert.ReferenceLnFIdeal.τ).loc Cert.ReferenceLnFIdeal.main_arg1)
          ∧ r.2.mem ((c.tc : Thread Cert.ReferenceLnFIdeal.nD Cert.ReferenceLnFIdeal.τ).loc Cert.ReferenceLnFIdeal.main_arg2) = m' ((c.tc : Thread Cert.ReferenceLnFIdeal.nD Cert.ReferenceLnFIdeal.τ).loc Cert.ReferenceLnFIdeal.main_arg2)
          ∧ r.2.mem ((c.tc : Thread Cert.ReferenceLnFIdeal.nD Cert.ReferenceLnFIdeal.τ).loc Cert.ReferenceLnFIdeal.main_arg3) = m' ((c.tc : Thread Cert.ReferenceLnFIdeal.nD Cert.ReferenceLnFIdeal.τ).loc Cert.ReferenceLnFIdeal.main_arg3))

def preserves_KernelMixBF_KernelMixBFIdeal : Prop :=
  True

def algebraic_KernelMixBFIdeal_ReferenceMixBFIdeal [hKernelMixBFIdeal : Cert.KernelMixBFIdeal.Facts] [hReferenceMixBFIdeal : Cert.ReferenceMixBFIdeal.Facts] : Prop :=
  ∀ (m : (ℓ : Loc Cert.KernelMixBFIdeal.nD Cert.KernelMixBFIdeal.τ Cert.KernelMixBFIdeal.sig) → Buf (Elt Ideal) ℓ) (g : Dev Cert.KernelMixBFIdeal.nD → PrngReg)
    (m' : (ℓ : Loc Cert.ReferenceMixBFIdeal.nD Cert.ReferenceMixBFIdeal.τ Cert.ReferenceMixBFIdeal.sig) → Buf (Elt Ideal) ℓ) (g' : Dev Cert.ReferenceMixBFIdeal.nD → PrngReg), Pre_KernelMixBFIdeal m →
    (∀ c : Dev Cert.KernelMixBFIdeal.nD,
      m' ((c.tc : Thread Cert.ReferenceMixBFIdeal.nD Cert.ReferenceMixBFIdeal.τ).loc Cert.ReferenceMixBFIdeal.main_arg0) = m ((c.tc : Thread Cert.KernelMixBFIdeal.nD Cert.KernelMixBFIdeal.τ).loc Cert.KernelMixBFIdeal.main_arg0)
      ∧ m' ((c.tc : Thread Cert.ReferenceMixBFIdeal.nD Cert.ReferenceMixBFIdeal.τ).loc Cert.ReferenceMixBFIdeal.main_arg1) = m ((c.tc : Thread Cert.KernelMixBFIdeal.nD Cert.KernelMixBFIdeal.τ).loc Cert.KernelMixBFIdeal.main_arg1)
      ∧ m' ((c.tc : Thread Cert.ReferenceMixBFIdeal.nD Cert.ReferenceMixBFIdeal.τ).loc Cert.ReferenceMixBFIdeal.main_arg2) = m ((c.tc : Thread Cert.KernelMixBFIdeal.nD Cert.KernelMixBFIdeal.τ).loc Cert.KernelMixBFIdeal.main_arg2)) →
    ∃ (v0 : (c : Dev Cert.KernelMixBFIdeal.nD) → Buf (Elt Ideal) ((c.tc : Thread Cert.KernelMixBFIdeal.nD Cert.KernelMixBFIdeal.τ).loc Cert.KernelMixBFIdeal.main_v0)),
      θ_run (Cert.KernelMixBFIdeal.defs (F := Ideal)) (onTc (τ := Cert.KernelMixBFIdeal.τ) (Cert.KernelMixBFIdeal.main (F := Ideal))) ⟨m, fun _ => 0, g⟩ (fun r => ∀ c : Dev Cert.KernelMixBFIdeal.nD,
          r.2.mem ((c.tc : Thread Cert.KernelMixBFIdeal.nD Cert.KernelMixBFIdeal.τ).loc Cert.KernelMixBFIdeal.main_v0) = v0 c
          ∧ r.2.mem ((c.tc : Thread Cert.KernelMixBFIdeal.nD Cert.KernelMixBFIdeal.τ).loc Cert.KernelMixBFIdeal.main_arg0) = m ((c.tc : Thread Cert.KernelMixBFIdeal.nD Cert.KernelMixBFIdeal.τ).loc Cert.KernelMixBFIdeal.main_arg0)
          ∧ r.2.mem ((c.tc : Thread Cert.KernelMixBFIdeal.nD Cert.KernelMixBFIdeal.τ).loc Cert.KernelMixBFIdeal.main_arg1) = m ((c.tc : Thread Cert.KernelMixBFIdeal.nD Cert.KernelMixBFIdeal.τ).loc Cert.KernelMixBFIdeal.main_arg1)
          ∧ r.2.mem ((c.tc : Thread Cert.KernelMixBFIdeal.nD Cert.KernelMixBFIdeal.τ).loc Cert.KernelMixBFIdeal.main_arg2) = m ((c.tc : Thread Cert.KernelMixBFIdeal.nD Cert.KernelMixBFIdeal.τ).loc Cert.KernelMixBFIdeal.main_arg2))
      ∧ θ_run (Cert.ReferenceMixBFIdeal.defs (F := Ideal)) (onTc (τ := Cert.ReferenceMixBFIdeal.τ) (Cert.ReferenceMixBFIdeal.main (F := Ideal))) ⟨m', fun _ => 0, g'⟩ (fun r => ∀ c : Dev Cert.ReferenceMixBFIdeal.nD,
          r.2.mem ((c.tc : Thread Cert.ReferenceMixBFIdeal.nD Cert.ReferenceMixBFIdeal.τ).loc Cert.ReferenceMixBFIdeal.main_v229) = v0 c
          ∧ r.2.mem ((c.tc : Thread Cert.ReferenceMixBFIdeal.nD Cert.ReferenceMixBFIdeal.τ).loc Cert.ReferenceMixBFIdeal.main_arg0) = m' ((c.tc : Thread Cert.ReferenceMixBFIdeal.nD Cert.ReferenceMixBFIdeal.τ).loc Cert.ReferenceMixBFIdeal.main_arg0)
          ∧ r.2.mem ((c.tc : Thread Cert.ReferenceMixBFIdeal.nD Cert.ReferenceMixBFIdeal.τ).loc Cert.ReferenceMixBFIdeal.main_arg1) = m' ((c.tc : Thread Cert.ReferenceMixBFIdeal.nD Cert.ReferenceMixBFIdeal.τ).loc Cert.ReferenceMixBFIdeal.main_arg1)
          ∧ r.2.mem ((c.tc : Thread Cert.ReferenceMixBFIdeal.nD Cert.ReferenceMixBFIdeal.τ).loc Cert.ReferenceMixBFIdeal.main_arg2) = m' ((c.tc : Thread Cert.ReferenceMixBFIdeal.nD Cert.ReferenceMixBFIdeal.τ).loc Cert.ReferenceMixBFIdeal.main_arg2))

def Claim : Prop :=
  ∃ (hKernel : Cert.Kernel.Facts) (hKernelIdeal : Cert.KernelIdeal.Facts) (hReferenceIdeal : Cert.ReferenceIdeal.Facts) (hKernelHidden : Cert.KernelHidden.Facts) (hKernelHiddenIdeal : Cert.KernelHiddenIdeal.Facts) (hReferenceHiddenIdeal : Cert.ReferenceHiddenIdeal.Facts) (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelNorm : Cert.KernelNorm.Facts) (hKernelNormIdeal : Cert.KernelNormIdeal.Facts) (hReferenceNormIdeal : Cert.ReferenceNormIdeal.Facts) (hKernelProj : Cert.KernelProj.Facts) (hKernelProjIdeal : Cert.KernelProjIdeal.Facts) (hReferenceProjIdeal : Cert.ReferenceProjIdeal.Facts) (hKernelIn : Cert.KernelIn.Facts) (hKernelInIdeal : Cert.KernelInIdeal.Facts) (hReferenceInIdeal : Cert.ReferenceInIdeal.Facts) (hKernelDout : Cert.KernelDout.Facts) (hKernelDoutIdeal : Cert.KernelDoutIdeal.Facts) (hReferenceDoutIdeal : Cert.ReferenceDoutIdeal.Facts) (hKernelDy : Cert.KernelDy.Facts) (hKernelDyIdeal : Cert.KernelDyIdeal.Facts) (hReferenceDyIdeal : Cert.ReferenceDyIdeal.Facts) (hKernelNormIn : Cert.KernelNormIn.Facts) (hKernelNormInIdeal : Cert.KernelNormInIdeal.Facts) (hReferenceNormInIdeal : Cert.ReferenceNormInIdeal.Facts) (hKernelFUp : Cert.KernelFUp.Facts) (hKernelFUpIdeal : Cert.KernelFUpIdeal.Facts) (hReferenceFUpIdeal : Cert.ReferenceFUpIdeal.Facts) (hKernelFDown : Cert.KernelFDown.Facts) (hKernelFDownIdeal : Cert.KernelFDownIdeal.Facts) (hReferenceFDownIdeal : Cert.ReferenceFDownIdeal.Facts) (hKernelFOut : Cert.KernelFOut.Facts) (hKernelFOutIdeal : Cert.KernelFOutIdeal.Facts) (hReferenceFOutIdeal : Cert.ReferenceFOutIdeal.Facts) (hKernelFIn : Cert.KernelFIn.Facts) (hKernelFInIdeal : Cert.KernelFInIdeal.Facts) (hReferenceFInIdeal : Cert.ReferenceFInIdeal.Facts) (hKernelFQ : Cert.KernelFQ.Facts) (hKernelFQIdeal : Cert.KernelFQIdeal.Facts) (hReferenceFQIdeal : Cert.ReferenceFQIdeal.Facts) (hKernelNormQ : Cert.KernelNormQ.Facts) (hKernelNormQIdeal : Cert.KernelNormQIdeal.Facts) (hReferenceNormQIdeal : Cert.ReferenceNormQIdeal.Facts) (hKernelFLast : Cert.KernelFLast.Facts) (hKernelFLastIdeal : Cert.KernelFLastIdeal.Facts) (hReferenceFLastIdeal : Cert.ReferenceFLastIdeal.Facts) (hKernelFAttn : Cert.KernelFAttn.Facts) (hKernelFAttnIdeal : Cert.KernelFAttnIdeal.Facts) (hReferenceFAttnIdeal : Cert.ReferenceFAttnIdeal.Facts) (hKernelFKv : Cert.KernelFKv.Facts) (hKernelFKvIdeal : Cert.KernelFKvIdeal.Facts) (hReferenceFKvIdeal : Cert.ReferenceFKvIdeal.Facts) (hKernelKv : Cert.KernelKv.Facts) (hKernelKvIdeal : Cert.KernelKvIdeal.Facts) (hReferenceKvIdeal : Cert.ReferenceKvIdeal.Facts) (hKernelMem : Cert.KernelMem.Facts) (hKernelMemIdeal : Cert.KernelMemIdeal.Facts) (hReferenceMemIdeal : Cert.ReferenceMemIdeal.Facts) (hKernelNormMem : Cert.KernelNormMem.Facts) (hKernelNormMemIdeal : Cert.KernelNormMemIdeal.Facts) (hReferenceNormMemIdeal : Cert.ReferenceNormMemIdeal.Facts) (hKernelFNorm : Cert.KernelFNorm.Facts) (hKernelFNormIdeal : Cert.KernelFNormIdeal.Facts) (hReferenceFNormIdeal : Cert.ReferenceFNormIdeal.Facts) (hKernelFNormMem : Cert.KernelFNormMem.Facts) (hKernelFNormMemIdeal : Cert.KernelFNormMemIdeal.Facts) (hReferenceFNormMemIdeal : Cert.ReferenceFNormMemIdeal.Facts) (hKernelLoss : Cert.KernelLoss.Facts) (hKernelLossIdeal : Cert.KernelLossIdeal.Facts) (hReferenceLossIdeal : Cert.ReferenceLossIdeal.Facts) (hKernelAdam : Cert.KernelAdam.Facts) (hKernelAdamIdeal : Cert.KernelAdamIdeal.Facts) (hReferenceAdamIdeal : Cert.ReferenceAdamIdeal.Facts) (hKernelAdamIn : Cert.KernelAdamIn.Facts) (hKernelAdamInIdeal : Cert.KernelAdamInIdeal.Facts) (hReferenceAdamInIdeal : Cert.ReferenceAdamInIdeal.Facts) (hKernelAdamSq : Cert.KernelAdamSq.Facts) (hKernelAdamSqIdeal : Cert.KernelAdamSqIdeal.Facts) (hReferenceAdamSqIdeal : Cert.ReferenceAdamSqIdeal.Facts) (hKernelAdamKv : Cert.KernelAdamKv.Facts) (hKernelAdamKvIdeal : Cert.KernelAdamKvIdeal.Facts) (hReferenceAdamKvIdeal : Cert.ReferenceAdamKvIdeal.Facts) (hKernelAdamSmall : Cert.KernelAdamSmall.Facts) (hKernelAdamSmallIdeal : Cert.KernelAdamSmallIdeal.Facts) (hReferenceAdamSmallIdeal : Cert.ReferenceAdamSmallIdeal.Facts) (hKernelSum : Cert.KernelSum.Facts) (hKernelSumIdeal : Cert.KernelSumIdeal.Facts) (hReferenceSumIdeal : Cert.ReferenceSumIdeal.Facts) (hKernelLnF : Cert.KernelLnF.Facts) (hKernelLnFIdeal : Cert.KernelLnFIdeal.Facts) (hReferenceLnFIdeal : Cert.ReferenceLnFIdeal.Facts) (hKernelMixBF : Cert.KernelMixBF.Facts) (hKernelMixBFIdeal : Cert.KernelMixBFIdeal.Facts) (hReferenceMixBFIdeal : Cert.ReferenceMixBFIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_KernelHidden (hKernelHidden := hKernelHidden)
    ∧ quiescent_KernelHiddenIdeal (hKernelHiddenIdeal := hKernelHiddenIdeal)
    ∧ quiescent_ReferenceHiddenIdeal (hReferenceHiddenIdeal := hReferenceHiddenIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelDout (hKernelDout := hKernelDout)
    ∧ quiescent_KernelDoutIdeal (hKernelDoutIdeal := hKernelDoutIdeal)
    ∧ quiescent_ReferenceDoutIdeal (hReferenceDoutIdeal := hReferenceDoutIdeal)
    ∧ quiescent_KernelDy (hKernelDy := hKernelDy)
    ∧ quiescent_KernelDyIdeal (hKernelDyIdeal := hKernelDyIdeal)
    ∧ quiescent_ReferenceDyIdeal (hReferenceDyIdeal := hReferenceDyIdeal)
    ∧ quiescent_KernelNormIn (hKernelNormIn := hKernelNormIn)
    ∧ quiescent_KernelNormInIdeal (hKernelNormInIdeal := hKernelNormInIdeal)
    ∧ quiescent_ReferenceNormInIdeal (hReferenceNormInIdeal := hReferenceNormInIdeal)
    ∧ quiescent_KernelFUp (hKernelFUp := hKernelFUp)
    ∧ quiescent_KernelFUpIdeal (hKernelFUpIdeal := hKernelFUpIdeal)
    ∧ quiescent_ReferenceFUpIdeal (hReferenceFUpIdeal := hReferenceFUpIdeal)
    ∧ quiescent_KernelFDown (hKernelFDown := hKernelFDown)
    ∧ quiescent_KernelFDownIdeal (hKernelFDownIdeal := hKernelFDownIdeal)
    ∧ quiescent_ReferenceFDownIdeal (hReferenceFDownIdeal := hReferenceFDownIdeal)
    ∧ quiescent_KernelFOut (hKernelFOut := hKernelFOut)
    ∧ quiescent_KernelFOutIdeal (hKernelFOutIdeal := hKernelFOutIdeal)
    ∧ quiescent_ReferenceFOutIdeal (hReferenceFOutIdeal := hReferenceFOutIdeal)
    ∧ quiescent_KernelFIn (hKernelFIn := hKernelFIn)
    ∧ quiescent_KernelFInIdeal (hKernelFInIdeal := hKernelFInIdeal)
    ∧ quiescent_ReferenceFInIdeal (hReferenceFInIdeal := hReferenceFInIdeal)
    ∧ quiescent_KernelFQ (hKernelFQ := hKernelFQ)
    ∧ quiescent_KernelFQIdeal (hKernelFQIdeal := hKernelFQIdeal)
    ∧ quiescent_ReferenceFQIdeal (hReferenceFQIdeal := hReferenceFQIdeal)
    ∧ quiescent_KernelNormQ (hKernelNormQ := hKernelNormQ)
    ∧ quiescent_KernelNormQIdeal (hKernelNormQIdeal := hKernelNormQIdeal)
    ∧ quiescent_ReferenceNormQIdeal (hReferenceNormQIdeal := hReferenceNormQIdeal)
    ∧ quiescent_KernelFLast (hKernelFLast := hKernelFLast)
    ∧ quiescent_KernelFLastIdeal (hKernelFLastIdeal := hKernelFLastIdeal)
    ∧ quiescent_ReferenceFLastIdeal (hReferenceFLastIdeal := hReferenceFLastIdeal)
    ∧ quiescent_KernelFAttn (hKernelFAttn := hKernelFAttn)
    ∧ quiescent_KernelFAttnIdeal (hKernelFAttnIdeal := hKernelFAttnIdeal)
    ∧ quiescent_ReferenceFAttnIdeal (hReferenceFAttnIdeal := hReferenceFAttnIdeal)
    ∧ quiescent_KernelFKv (hKernelFKv := hKernelFKv)
    ∧ quiescent_KernelFKvIdeal (hKernelFKvIdeal := hKernelFKvIdeal)
    ∧ quiescent_ReferenceFKvIdeal (hReferenceFKvIdeal := hReferenceFKvIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelNormMem (hKernelNormMem := hKernelNormMem)
    ∧ quiescent_KernelNormMemIdeal (hKernelNormMemIdeal := hKernelNormMemIdeal)
    ∧ quiescent_ReferenceNormMemIdeal (hReferenceNormMemIdeal := hReferenceNormMemIdeal)
    ∧ quiescent_KernelFNorm (hKernelFNorm := hKernelFNorm)
    ∧ quiescent_KernelFNormIdeal (hKernelFNormIdeal := hKernelFNormIdeal)
    ∧ quiescent_ReferenceFNormIdeal (hReferenceFNormIdeal := hReferenceFNormIdeal)
    ∧ quiescent_KernelFNormMem (hKernelFNormMem := hKernelFNormMem)
    ∧ quiescent_KernelFNormMemIdeal (hKernelFNormMemIdeal := hKernelFNormMemIdeal)
    ∧ quiescent_ReferenceFNormMemIdeal (hReferenceFNormMemIdeal := hReferenceFNormMemIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamSq (hKernelAdamSq := hKernelAdamSq)
    ∧ quiescent_KernelAdamSqIdeal (hKernelAdamSqIdeal := hKernelAdamSqIdeal)
    ∧ quiescent_ReferenceAdamSqIdeal (hReferenceAdamSqIdeal := hReferenceAdamSqIdeal)
    ∧ quiescent_KernelAdamKv (hKernelAdamKv := hKernelAdamKv)
    ∧ quiescent_KernelAdamKvIdeal (hKernelAdamKvIdeal := hKernelAdamKvIdeal)
    ∧ quiescent_ReferenceAdamKvIdeal (hReferenceAdamKvIdeal := hReferenceAdamKvIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelSum (hKernelSum := hKernelSum)
    ∧ quiescent_KernelSumIdeal (hKernelSumIdeal := hKernelSumIdeal)
    ∧ quiescent_ReferenceSumIdeal (hReferenceSumIdeal := hReferenceSumIdeal)
    ∧ quiescent_KernelLnF (hKernelLnF := hKernelLnF)
    ∧ quiescent_KernelLnFIdeal (hKernelLnFIdeal := hKernelLnFIdeal)
    ∧ quiescent_ReferenceLnFIdeal (hReferenceLnFIdeal := hReferenceLnFIdeal)
    ∧ quiescent_KernelMixBF (hKernelMixBF := hKernelMixBF)
    ∧ quiescent_KernelMixBFIdeal (hKernelMixBFIdeal := hKernelMixBFIdeal)
    ∧ quiescent_ReferenceMixBFIdeal (hReferenceMixBFIdeal := hReferenceMixBFIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_KernelHidden_KernelHiddenIdeal
    ∧ algebraic_KernelHiddenIdeal_ReferenceHiddenIdeal (hKernelHiddenIdeal := hKernelHiddenIdeal) (hReferenceHiddenIdeal := hReferenceHiddenIdeal)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
    ∧ preserves_KernelNorm_KernelNormIdeal
    ∧ algebraic_KernelNormIdeal_ReferenceNormIdeal (hKernelNormIdeal := hKernelNormIdeal) (hReferenceNormIdeal := hReferenceNormIdeal)
    ∧ preserves_KernelProj_KernelProjIdeal
    ∧ algebraic_KernelProjIdeal_ReferenceProjIdeal (hKernelProjIdeal := hKernelProjIdeal) (hReferenceProjIdeal := hReferenceProjIdeal)
    ∧ preserves_KernelIn_KernelInIdeal
    ∧ algebraic_KernelInIdeal_ReferenceInIdeal (hKernelInIdeal := hKernelInIdeal) (hReferenceInIdeal := hReferenceInIdeal)
    ∧ preserves_KernelDout_KernelDoutIdeal
    ∧ algebraic_KernelDoutIdeal_ReferenceDoutIdeal (hKernelDoutIdeal := hKernelDoutIdeal) (hReferenceDoutIdeal := hReferenceDoutIdeal)
    ∧ preserves_KernelDy_KernelDyIdeal
    ∧ algebraic_KernelDyIdeal_ReferenceDyIdeal (hKernelDyIdeal := hKernelDyIdeal) (hReferenceDyIdeal := hReferenceDyIdeal)
    ∧ preserves_KernelNormIn_KernelNormInIdeal
    ∧ algebraic_KernelNormInIdeal_ReferenceNormInIdeal (hKernelNormInIdeal := hKernelNormInIdeal) (hReferenceNormInIdeal := hReferenceNormInIdeal)
    ∧ preserves_KernelFUp_KernelFUpIdeal
    ∧ algebraic_KernelFUpIdeal_ReferenceFUpIdeal (hKernelFUpIdeal := hKernelFUpIdeal) (hReferenceFUpIdeal := hReferenceFUpIdeal)
    ∧ preserves_KernelFDown_KernelFDownIdeal
    ∧ algebraic_KernelFDownIdeal_ReferenceFDownIdeal (hKernelFDownIdeal := hKernelFDownIdeal) (hReferenceFDownIdeal := hReferenceFDownIdeal)
    ∧ preserves_KernelFOut_KernelFOutIdeal
    ∧ algebraic_KernelFOutIdeal_ReferenceFOutIdeal (hKernelFOutIdeal := hKernelFOutIdeal) (hReferenceFOutIdeal := hReferenceFOutIdeal)
    ∧ preserves_KernelFIn_KernelFInIdeal
    ∧ algebraic_KernelFInIdeal_ReferenceFInIdeal (hKernelFInIdeal := hKernelFInIdeal) (hReferenceFInIdeal := hReferenceFInIdeal)
    ∧ preserves_KernelFQ_KernelFQIdeal
    ∧ algebraic_KernelFQIdeal_ReferenceFQIdeal (hKernelFQIdeal := hKernelFQIdeal) (hReferenceFQIdeal := hReferenceFQIdeal)
    ∧ preserves_KernelNormQ_KernelNormQIdeal
    ∧ algebraic_KernelNormQIdeal_ReferenceNormQIdeal (hKernelNormQIdeal := hKernelNormQIdeal) (hReferenceNormQIdeal := hReferenceNormQIdeal)
    ∧ preserves_KernelFLast_KernelFLastIdeal
    ∧ algebraic_KernelFLastIdeal_ReferenceFLastIdeal (hKernelFLastIdeal := hKernelFLastIdeal) (hReferenceFLastIdeal := hReferenceFLastIdeal)
    ∧ preserves_KernelFAttn_KernelFAttnIdeal
    ∧ algebraic_KernelFAttnIdeal_ReferenceFAttnIdeal (hKernelFAttnIdeal := hKernelFAttnIdeal) (hReferenceFAttnIdeal := hReferenceFAttnIdeal)
    ∧ preserves_KernelFKv_KernelFKvIdeal
    ∧ algebraic_KernelFKvIdeal_ReferenceFKvIdeal (hKernelFKvIdeal := hKernelFKvIdeal) (hReferenceFKvIdeal := hReferenceFKvIdeal)
    ∧ preserves_KernelKv_KernelKvIdeal
    ∧ algebraic_KernelKvIdeal_ReferenceKvIdeal (hKernelKvIdeal := hKernelKvIdeal) (hReferenceKvIdeal := hReferenceKvIdeal)
    ∧ preserves_KernelMem_KernelMemIdeal
    ∧ algebraic_KernelMemIdeal_ReferenceMemIdeal (hKernelMemIdeal := hKernelMemIdeal) (hReferenceMemIdeal := hReferenceMemIdeal)
    ∧ preserves_KernelNormMem_KernelNormMemIdeal
    ∧ algebraic_KernelNormMemIdeal_ReferenceNormMemIdeal (hKernelNormMemIdeal := hKernelNormMemIdeal) (hReferenceNormMemIdeal := hReferenceNormMemIdeal)
    ∧ preserves_KernelFNorm_KernelFNormIdeal
    ∧ algebraic_KernelFNormIdeal_ReferenceFNormIdeal (hKernelFNormIdeal := hKernelFNormIdeal) (hReferenceFNormIdeal := hReferenceFNormIdeal)
    ∧ preserves_KernelFNormMem_KernelFNormMemIdeal
    ∧ algebraic_KernelFNormMemIdeal_ReferenceFNormMemIdeal (hKernelFNormMemIdeal := hKernelFNormMemIdeal) (hReferenceFNormMemIdeal := hReferenceFNormMemIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamSq_KernelAdamSqIdeal
    ∧ algebraic_KernelAdamSqIdeal_ReferenceAdamSqIdeal (hKernelAdamSqIdeal := hKernelAdamSqIdeal) (hReferenceAdamSqIdeal := hReferenceAdamSqIdeal)
    ∧ preserves_KernelAdamKv_KernelAdamKvIdeal
    ∧ algebraic_KernelAdamKvIdeal_ReferenceAdamKvIdeal (hKernelAdamKvIdeal := hKernelAdamKvIdeal) (hReferenceAdamKvIdeal := hReferenceAdamKvIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelSum_KernelSumIdeal
    ∧ algebraic_KernelSumIdeal_ReferenceSumIdeal (hKernelSumIdeal := hKernelSumIdeal) (hReferenceSumIdeal := hReferenceSumIdeal)
    ∧ preserves_KernelLnF_KernelLnFIdeal
    ∧ algebraic_KernelLnFIdeal_ReferenceLnFIdeal (hKernelLnFIdeal := hKernelLnFIdeal) (hReferenceLnFIdeal := hReferenceLnFIdeal)
    ∧ preserves_KernelMixBF_KernelMixBFIdeal
    ∧ algebraic_KernelMixBFIdeal_ReferenceMixBFIdeal (hKernelMixBFIdeal := hKernelMixBFIdeal) (hReferenceMixBFIdeal := hReferenceMixBFIdeal)
-- ==== Pre_finite_qk.lean ====
abbrev S4096x1024 : Shape := ⟨2, ![4096, 1024]⟩
abbrev S256x2048 : Shape := ⟨2, ![256, 2048]⟩
abbrev S256x1024 : Shape := ⟨2, ![256, 1024]⟩
abbrev S_ : Shape := ⟨0, ![]⟩

class Facts : Prop where
  slices_S256x2048_S256x1024_0_0 : S256x2048.Slices ![0, 0] S256x1024
  bcast_S_S4096x1024 : S_.BroadcastsInDim S4096x1024 (![] : Fin 0 → Fin S4096x1024.rank)
  bcast_S_S256x1024 : S_.BroadcastsInDim S256x1024 (![] : Fin 0 → Fin S256x1024.rank)

variable [Facts]

def fn {F : FTy → Type} [FloatOps F] (main_arg0 : FVec F S4096x1024 .bf16) (main_arg1 : FVec F S256x2048 .bf16) (main_arg2 : FVec F S4096x1024 .bf16) : IVec S4096x1024 1 × IVec S256x1024 1 :=
  let main_v0 : FVec F S256x1024 .bf16 := (extractStridedSlice S256x1024 ![0, 0] · slices_S256x2048_S256x1024_0_0) main_arg1
  let main_cst : FVec F S_ .bf16 := constant S_ .bf16 0xFF80#16
  let main_v1 : FVec F S4096x1024 .bf16 := broadcastInDim S4096x1024 ![] bcast_S_S4096x1024 main_cst
  let main_v2 : IVec S4096x1024 1 := cmpf .ogt main_arg0 main_v1
  let main_cst_0 : FVec F S_ .bf16 := constant S_ .bf16 0x7F80#16
  let main_v3 : FVec F S4096x1024 .bf16 := broadcastInDim S4096x1024 ![] bcast_S_S4096x1024 main_cst_0
  let main_v4 : IVec S4096x1024 1 := cmpf .olt main_arg0 main_v3
  let main_v5 : IVec S4096x1024 1 := andi main_v2 main_v4
  let main_cst_1 : FVec F S_ .bf16 := constant S_ .bf16 0xFF80#16
  let main_v6 : FVec F S256x1024 .bf16 := broadcastInDim S256x1024 ![] bcast_S_S256x1024 main_cst_1
  let main_v7 : IVec S256x1024 1 := cmpf .ogt main_v0 main_v6
  let main_cst_2 : FVec F S_ .bf16 := constant S_ .bf16 0x7F80#16
  let main_v8 : FVec F S256x1024 .bf16 := broadcastInDim S256x1024 ![] bcast_S_S256x1024 main_cst_2
  let main_v9 : IVec S256x1024 1 := cmpf .olt main_v0 main_v8
  let main_v10 : IVec S256x1024 1 := andi main_v7 main_v9
  (main_v5, main_v10)
-- ==== Kernel.lean ====
abbrev S4096x1024 : Shape := ⟨2, ![4096, 1024]⟩
abbrev S256x2048 : Shape := ⟨2, ![256, 2048]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S4096x1024, .f32⟩
  | .hbm, ⟨6, _⟩ => ⟨S256x1024, .f32⟩
  | .hbm, ⟨7, _⟩ => ⟨S256x1024, .f32⟩
  | .hbm, ⟨8, _⟩ => ⟨S4096x4x256, .f32⟩
  | .hbm, ⟨9, _⟩ => ⟨S256x4x256, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x256x4096, .f32⟩
  | .hbm, ⟨54, _⟩ => ⟨S4096x4x256, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S256x1024, .f32⟩
  | .hbm, ⟨84, _⟩ => ⟨S4096x1024, .f32⟩
  | .hbm, ⟨85, _⟩ => ⟨S256x2048, .f32⟩
  | .hbm, ⟨86, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== KernelHidden.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceHiddenIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== KernelDown.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUp.lean ====
abbrev S4096x1024 : Shape := ⟨2, ![4096, 1024]⟩
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .hbm, ⟨3, _⟩ => ⟨S4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S4x1024x1024, .f32⟩
  | .hbm, ⟨18, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== KernelNorm.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_26 : BitVec 32 := 0#32
  let v46 : BitVec 1 := Scalar.cmpi .eq arg0 c0_i32_26
  let v47 : BitVec 32 := Scalar.extui v46
  let c0_i32_27 : BitVec 32 := 0#32
  let v48 : BitVec 1 := Scalar.cmpi .ne v47 c0_i32_27
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== ReferenceNormIdeal.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S1x1024x1024 : Shape := ⟨3, ![1, 1024, 1024]⟩
abbrev S1024x1024 : Shape := ⟨2, ![1024, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024x1024, .bf16⟩
  | .hbm, ⟨6, _⟩ => ⟨S1024x1024, .bf16⟩
  | .hbm, ⟨7, _⟩ => ⟨S1x1024x1024, .bf16⟩
  | .hbm, ⟨8, _⟩ => ⟨S1024x1024, .bf16⟩
  | .hbm, ⟨9, _⟩ => ⟨S1x1024x1024, .bf16⟩
  | .hbm, ⟨10, _⟩ => ⟨S1024x1024, .bf16⟩
  | .hbm, ⟨11, _⟩ => ⟨S1x1024x1024, .bf16⟩
  | .hbm, ⟨12, _⟩ => ⟨S1024x1024, .bf16⟩
  | .hbm, ⟨13, _⟩ => ⟨S1024x4096, .bf16⟩
  | .hbm, ⟨14, _⟩ => ⟨S1024x4096, .f32⟩
  | .hbm, ⟨15, _⟩ => ⟨S4096x4096, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x4096, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== KernelProj.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceProjIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelIn.lean ====
abbrev S4096x1024 : Shape := ⟨2, ![4096, 1024]⟩
abbrev S4096x2560 : Shape := ⟨2, ![4096, 2560]⟩
abbrev S4x1024x640 : Shape := ⟨3, ![4, 1024, 640]⟩
abbrev S1024x1024 : Shape := ⟨2, ![1024, 1024]⟩
abbrev S1024x640 : Shape := ⟨2, ![1024, 640]⟩
abbrev S1x1024x640 : Shape := ⟨3, ![1, 1024, 640]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S4x1024x640, .f32⟩
  | .hbm, ⟨3, _⟩ => ⟨S4x1024x640, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1x1024x640, .f32⟩
  | .local _ .vmem, ⟨5, _⟩ => ⟨S1x1024x640, .f32⟩
  | .local _ .vmem, ⟨6, _⟩ => ⟨S1x1024x640, .bf16⟩
  | .local _ .vmem, ⟨7, _⟩ => ⟨S1x1024x640, .bf16⟩
  | .local _ .vmem, ⟨8, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceInIdeal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩
abbrev S1024x640 : Shape := ⟨2, ![1024, 640]⟩
abbrev S1x1024x640 : Shape := ⟨3, ![1, 1024, 640]⟩
abbrev S4x1024x640 : Shape := ⟨3, ![4, 1024, 640]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S_, .f32⟩
  | .hbm, ⟨3, _⟩ => ⟨S1024x2560, .f32⟩
  | .hbm, ⟨4, _⟩ => ⟨S4096x1024, .f32⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S1024x640, .f32⟩
  | .hbm, ⟨10, _⟩ => ⟨S1024x640, .f32⟩
  | .hbm, ⟨11, _⟩ => ⟨S1024x640, .f32⟩
  | .hbm, ⟨12, _⟩ => ⟨S1024x640, .f32⟩
  | .hbm, ⟨13, _⟩ => ⟨S1x1024x640, .f32⟩
  | .hbm, ⟨14, _⟩ => ⟨S1x1024x640, .f32⟩
  | .hbm, ⟨15, _⟩ => ⟨S1x1024x640, .f32⟩
  | .hbm, ⟨16, _⟩ => ⟨S1x1024x640, .f32⟩
  | .hbm, ⟨17, _⟩ => ⟨S4x1024x640, .f32⟩
  | .hbm, ⟨18, _⟩ => ⟨S4x1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== KernelDout.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDoutIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDy.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDyIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelNormIn.lean ====
abbrev S4096x2560 : Shape := ⟨2, ![4096, 2560]⟩
abbrev S4x1024x640 : Shape := ⟨3, ![4, 1024, 640]⟩
abbrev S4096x1024 : Shape := ⟨2, ![4096, 1024]⟩
abbrev S1x1024 : Shape := ⟨2, ![1, 1024]⟩
abbrev S512x640 : Shape := ⟨2, ![512, 640]⟩
abbrev S1x1024x640 : Shape := ⟨3, ![1, 1024, 640]⟩
abbrev S512x1024 : Shape := ⟨2, ![512, 1024]⟩
abbrev S1024x640 : Shape := ⟨2, ![1024, 640]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x2560, .bf16⟩
  | .hbm, ⟨1, _⟩ => ⟨S4x1024x640, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x640, .bf16⟩
  | .local _ .vmem, ⟨1, _⟩ => ⟨S512x640, .bf16⟩
  | .local _ .vmem, ⟨2, _⟩ => ⟨S1x1024x640, .bf16⟩
  | .local _ .vmem, ⟨3, _⟩ => ⟨S1x1024x640, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_26 : BitVec 32 := 0#32
  let v46 : BitVec 1 := Scalar.cmpi .eq arg0 c0_i32_26
  let v47 : BitVec 32 := Scalar.extui v46
  let c0_i32_27 : BitVec 32 := 0#32
  let v48 : BitVec 1 := Scalar.cmpi .ne v47 c0_i32_27
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== ReferenceNormInIdeal.lean ====
abbrev S4096x2560 : Shape := ⟨2, ![4096, 2560]⟩
abbrev S4x1024x640 : Shape := ⟨3, ![4, 1024, 640]⟩
abbrev S4096x1024 : Shape := ⟨2, ![4096, 1024]⟩
abbrev S1x1024 : Shape := ⟨2, ![1, 1024]⟩
abbrev S1x1024x640 : Shape := ⟨3, ![1, 1024, 640]⟩
abbrev S1024x640 : Shape := ⟨2, ![1024, 640]⟩
abbrev S1024x2560 : Shape := ⟨2, ![1024, 2560]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4x1024x640, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024x640, .bf16⟩
  | .hbm, ⟨6, _⟩ => ⟨S1024x640, .bf16⟩
  | .hbm, ⟨7, _⟩ => ⟨S1x1024x640, .bf16⟩
  | .hbm, ⟨8, _⟩ => ⟨S1024x640, .bf16⟩
  | .hbm, ⟨9, _⟩ => ⟨S1x1024x640, .bf16⟩
  | .hbm, ⟨10, _⟩ => ⟨S1024x640, .bf16⟩
  | .hbm, ⟨11, _⟩ => ⟨S1x1024x640, .bf16⟩
  | .hbm, ⟨12, _⟩ => ⟨S1024x640, .bf16⟩
  | .hbm, ⟨13, _⟩ => ⟨S1024x2560, .bf16⟩
  | .hbm, ⟨14, _⟩ => ⟨S1024x2560, .f32⟩
  | .hbm, ⟨15, _⟩ => ⟨S4096x2560, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x2560, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== KernelFUp.lean ====
abbrev S4096x1024 : Shape := ⟨2, ![4096, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFUpIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S1x1024x1024, .bf16⟩
  | .hbm, ⟨3, _⟩ => ⟨S1024x1024, .bf16⟩
  | .hbm, ⟨4, _⟩ => ⟨S1x1024x1024, .bf16⟩
  | .hbm, ⟨5, _⟩ => ⟨S1024x1024, .bf16⟩
  | .hbm, ⟨6, _⟩ => ⟨S1x1024x1024, .bf16⟩
  | .hbm, ⟨7, _⟩ => ⟨S1024x1024, .bf16⟩
  | .hbm, ⟨8, _⟩ => ⟨S1x1024x1024, .bf16⟩
  | .hbm, ⟨9, _⟩ => ⟨S1024x1024, .bf16⟩
  | .hbm, ⟨10, _⟩ => ⟨S1024x4096, .bf16⟩
  | .hbm, ⟨11, _⟩ => ⟨S4096x1024, .f32⟩
  | .hbm, ⟨12, _⟩ => ⟨S1024x4096, .f32⟩
  | .hbm, ⟨13, _⟩ => ⟨S4096x4096, .f32⟩
  | .hbm, ⟨14, _⟩ => ⟨S4096x4096, .bf16⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_cst : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== KernelFDown.lean ====
abbrev S4096x4096 : Shape := ⟨2, ![4096, 4096]⟩
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceFDownIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelFOut.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceFOutIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelFIn.lean ====
abbrev S4096x1024 : Shape := ⟨2, ![4096, 1024]⟩
abbrev S4x1024x640 : Shape := ⟨3, ![4, 1024, 640]⟩
abbrev S4096x2560 : Shape := ⟨2, ![4096, 2560]⟩
abbrev S2048x1024 : Shape := ⟨2, ![2048, 1024]⟩
abbrev S1x1024x640 : Shape := ⟨3, ![1, 1024, 640]⟩
abbrev S2048x640 : Shape := ⟨2, ![2048, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x640, .bf16⟩
  | .hbm, ⟨2, _⟩ => ⟨S4096x2560, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x640, .bf16⟩
  | .local _ .vmem, ⟨3, _⟩ => ⟨S1x1024x640, .bf16⟩
  | .local _ .vmem, ⟨4, _⟩ => ⟨S2048x640, .f32⟩
  | .local _ .vmem, ⟨5, _⟩ => ⟨S2048x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFInIdeal.lean ====
abbrev S4096x1024 : Shape := ⟨2, ![4096, 1024]⟩
abbrev S4x1024x640 : Shape := ⟨3, ![4, 1024, 640]⟩
abbrev S1x1024x640 : Shape := ⟨3, ![1, 1024, 640]⟩
abbrev S1024x640 : Shape := ⟨2, ![1024, 640]⟩
abbrev S1024x2560 : Shape := ⟨2, ![1024, 2560]⟩
abbrev S4096x2560 : Shape := ⟨2, ![4096, 2560]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x640, .bf16⟩
  | .hbm, ⟨2, _⟩ => ⟨S1x1024x640, .bf16⟩
  | .hbm, ⟨3, _⟩ => ⟨S1024x640, .bf16⟩
  | .hbm, ⟨4, _⟩ => ⟨S1x1024x640, .bf16⟩
  | .hbm, ⟨5, _⟩ => ⟨S1024x640, .bf16⟩
  | .hbm, ⟨6, _⟩ => ⟨S1x1024x640, .bf16⟩
  | .hbm, ⟨7, _⟩ => ⟨S1024x640, .bf16⟩
  | .hbm, ⟨8, _⟩ => ⟨S1x1024x640, .bf16⟩
  | .hbm, ⟨9, _⟩ => ⟨S1024x640, .bf16⟩
  | .hbm, ⟨10, _⟩ => ⟨S1024x2560, .bf16⟩
  | .hbm, ⟨11, _⟩ => ⟨S4096x1024, .f32⟩
  | .hbm, ⟨12, _⟩ => ⟨S1024x2560, .f32⟩
  | .hbm, ⟨13, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== KernelFQ.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFQIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelNormQ.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== ReferenceNormQIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== KernelFLast.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFLastIdeal.lean ====
abbrev S4096x4096 : Shape := ⟨2, ![4096, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelFAttn.lean ====
abbrev S4096x1024 : Shape := ⟨2, ![4096, 1024]⟩
abbrev S256x2048 : Shape := ⟨2, ![256, 2048]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceFAttnIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S256x2048, .f32⟩
  | .hbm, ⟨4, _⟩ => ⟨S256x1024, .f32⟩
  | .hbm, ⟨5, _⟩ => ⟨S256x1024, .f32⟩
  | .hbm, ⟨6, _⟩ => ⟨S4096x4x256, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KernelFKv.lean ====
abbrev S256x1024 : Shape := ⟨2, ![256, 1024]⟩
abbrev S4x1024x512 : Shape := ⟨3, ![4, 1024, 512]⟩
abbrev S256x2048 : Shape := ⟨2, ![256, 2048]⟩
abbrev S1x1024x512 : Shape := ⟨3, ![1, 1024, 512]⟩
abbrev S256x512 : Shape := ⟨2, ![256, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S4x1024x512, .bf16⟩
  | .hbm, ⟨2, _⟩ => ⟨S256x2048, .bf16⟩
  | .local _ .vmem, ⟨0, _⟩ => ⟨S256x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S256x512, .bf16⟩
  | .local _ .vmem, ⟨4, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFKvIdeal.lean ====
abbrev S256x1024 : Shape := ⟨2, ![256, 1024]⟩
abbrev S4x1024x512 : Shape := ⟨3, ![4, 1024, 512]⟩
abbrev S1x1024x512 : Shape := ⟨3, ![1, 1024, 512]⟩
abbrev S1024x512 : Shape := ⟨2, ![1024, 512]⟩
abbrev S1024x2048 : Shape := ⟨2, ![1024, 2048]⟩
abbrev S256x2048 : Shape := ⟨2, ![256, 2048]⟩

abbrev nBuf : Space → Nat
  | .hbm => 15
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S4x1024x512, .bf16⟩
  | .hbm, ⟨2, _⟩ => ⟨S1x1024x512, .bf16⟩
  | .hbm, ⟨3, _⟩ => ⟨S1024x512, .bf16⟩
  | .hbm, ⟨4, _⟩ => ⟨S1x1024x512, .bf16⟩
  | .hbm, ⟨5, _⟩ => ⟨S1024x512, .bf16⟩
  | .hbm, ⟨6, _⟩ => ⟨S1x1024x512, .bf16⟩
  | .hbm, ⟨7, _⟩ => ⟨S1024x512, .bf16⟩
  | .hbm, ⟨8, _⟩ => ⟨S1x1024x512, .bf16⟩
  | .hbm, ⟨9, _⟩ => ⟨S1024x512, .bf16⟩
  | .hbm, ⟨10, _⟩ => ⟨S1024x2048, .bf16⟩
  | .hbm, ⟨11, _⟩ => ⟨S256x1024, .f32⟩
  | .hbm, ⟨12, _⟩ => ⟨S1024x2048, .f32⟩
  | .hbm, ⟨13, _⟩ => ⟨S256x2048, .f32⟩
  | .hbm, ⟨14, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== KernelKv.lean ====
abbrev S256x1024 : Shape := ⟨2, ![256, 1024]⟩
abbrev S256x2048 : Shape := ⟨2, ![256, 2048]⟩
abbrev S4x1024x512 : Shape := ⟨3, ![4, 1024, 512]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S4x1024x512, .f32⟩
  | .hbm, ⟨3, _⟩ => ⟨S4x1024x512, .bf16⟩
  | .local _ .vmem, ⟨0, _⟩ => ⟨S256x1024, .bf16⟩
  | .local _ .vmem, ⟨1, _⟩ => ⟨S256x512, .bf16⟩
  | .local _ .vmem, ⟨2, _⟩ => ⟨S256x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .bf16⟩
  | .local _ .vmem, ⟨6, _⟩ => ⟨S1x1024x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceKvIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S1x1024x512, .f32⟩
  | .hbm, ⟨17, _⟩ => ⟨S4x1024x512, .f32⟩
  | .hbm, ⟨18, _⟩ => ⟨S4x1024x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== KernelMem.lean ====
abbrev S256x2048 : Shape := ⟨2, ![256, 2048]⟩
abbrev S4x1024x512 : Shape := ⟨3, ![4, 1024, 512]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S4x1024x512, .bf16⟩
  | .hbm, ⟨2, _⟩ => ⟨S256x1024, .f32⟩
  | .local _ .vmem, ⟨0, _⟩ => ⟨S256x512, .bf16⟩
  | .local _ .vmem, ⟨1, _⟩ => ⟨S256x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S256x1024, .f32⟩
  | .local _ .vmem, ⟨5, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceMemIdeal.lean ====
abbrev S256x2048 : Shape := ⟨2, ![256, 2048]⟩
abbrev S4x1024x512 : Shape := ⟨3, ![4, 1024, 512]⟩
abbrev S1x1024x512 : Shape := ⟨3, ![1, 1024, 512]⟩
abbrev S1024x512 : Shape := ⟨2, ![1024, 512]⟩
abbrev S1024x2048 : Shape := ⟨2, ![1024, 2048]⟩
abbrev S_ : Shape := ⟨0, ![]⟩
abbrev S256x1024 : Shape := ⟨2, ![256, 1024]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x1024x512, .bf16⟩
  | .hbm, ⟨2, _⟩ => ⟨S1x1024x512, .bf16⟩
  | .hbm, ⟨3, _⟩ => ⟨S1024x512, .bf16⟩
  | .hbm, ⟨4, _⟩ => ⟨S1x1024x512, .bf16⟩
  | .hbm, ⟨5, _⟩ => ⟨S1024x512, .bf16⟩
  | .hbm, ⟨6, _⟩ => ⟨S1x1024x512, .bf16⟩
  | .hbm, ⟨7, _⟩ => ⟨S1024x512, .bf16⟩
  | .hbm, ⟨8, _⟩ => ⟨S1x1024x512, .bf16⟩
  | .hbm, ⟨9, _⟩ => ⟨S1024x512, .bf16⟩
  | .hbm, ⟨10, _⟩ => ⟨S1024x2048, .bf16⟩
  | .hbm, ⟨11, _⟩ => ⟨S1024x2048, .f32⟩
  | .hbm, ⟨12, _⟩ => ⟨S_, .f32⟩
  | .hbm, ⟨13, _⟩ => ⟨S256x1024, .f32⟩
  | .hbm, ⟨14, _⟩ => ⟨S256x2048, .f32⟩
  | .hbm, ⟨15, _⟩ => ⟨S256x2048, .f32⟩
  | .hbm, ⟨16, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== KernelNormMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S256x1024, .bf16⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceNormMemIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== KernelFNorm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceFNormIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelFNormMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceFNormMemIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelLoss.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x128, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceLossIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x128, .f32⟩
  | .hbm, ⟨69, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== KernelAdam.lean ====
abbrev S2x1024x1024 : Shape := ⟨3, ![2, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamIdeal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | .hbm, ⟨5, _⟩ => ⟨S1x1024x1024, .f32⟩
  | .hbm, ⟨6, _⟩ => ⟨S1x1024x1024, .f32⟩
  | .hbm, ⟨7, _⟩ => ⟨S2x1024x1024, .f32⟩
  | .hbm, ⟨8, _⟩ => ⟨S_, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S_, .f32⟩
  | .hbm, ⟨39, _⟩ => ⟨S2x1024x1024, .f32⟩
  | .hbm, ⟨40, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamIn.lean ====
abbrev S2x1024x640 : Shape := ⟨3, ![2, 1024, 640]⟩
abbrev S1024x640 : Shape := ⟨2, ![1024, 640]⟩
abbrev S1x512x640 : Shape := ⟨3, ![1, 512, 640]⟩
abbrev S512x640 : Shape := ⟨2, ![512, 640]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x640, .f32⟩
  | .hbm, ⟨1, _⟩ => ⟨S1024x640, .f32⟩
  | .hbm, ⟨2, _⟩ => ⟨S1024x640, .f32⟩
  | .hbm, ⟨3, _⟩ => ⟨S2x1024x640, .f32⟩
  | .hbm, ⟨4, _⟩ => ⟨S2x1024x640, .f32⟩
  | .hbm, ⟨5, _⟩ => ⟨S2x1024x640, .f32⟩
  | .hbm, ⟨6, _⟩ => ⟨S2x1024x640, .f32⟩
  | .hbm, ⟨7, _⟩ => ⟨S2x1024x640, .f32⟩
  | .hbm, ⟨8, _⟩ => ⟨S2x1024x640, .f32⟩
  | .local _ .vmem, ⟨0, _⟩ => ⟨S1x512x640, .f32⟩
  | .local _ .vmem, ⟨1, _⟩ => ⟨S1x512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S1x512x640, .f32⟩
  | .local _ .vmem, ⟨7, _⟩ => ⟨S1x512x640, .f32⟩
  | .local _ .vmem, ⟨8, _⟩ => ⟨S1x512x640, .f32⟩
  | .local _ .vmem, ⟨9, _⟩ => ⟨S1x512x640, .f32⟩
  | .local _ .vmem, ⟨10, _⟩ => ⟨S1x512x640, .f32⟩
  | .local _ .vmem, ⟨11, _⟩ => ⟨S1x512x640, .f32⟩
  | .local _ .vmem, ⟨12, _⟩ => ⟨S1x512x640, .f32⟩
  | .local _ .vmem, ⟨13, _⟩ => ⟨S1x512x640, .f32⟩
  | .local _ .vmem, ⟨14, _⟩ => ⟨S1x512x640, .f32⟩
  | .local _ .vmem, ⟨15, _⟩ => ⟨S1x512x640, .f32⟩
  | .local _ .vmem, ⟨16, _⟩ => ⟨S1x512x640, .f32⟩
  | .local _ .vmem, ⟨17, _⟩ => ⟨S1x512x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamInIdeal.lean ====
abbrev S2x1024x640 : Shape := ⟨3, ![2, 1024, 640]⟩
abbrev S1024x640 : Shape := ⟨2, ![1024, 640]⟩
abbrev S1x1024x640 : Shape := ⟨3, ![1, 1024, 640]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x640, .f32⟩
  | .hbm, ⟨1, _⟩ => ⟨S1024x640, .f32⟩
  | .hbm, ⟨2, _⟩ => ⟨S1024x640, .f32⟩
  | .hbm, ⟨3, _⟩ => ⟨S2x1024x640, .f32⟩
  | .hbm, ⟨4, _⟩ => ⟨S2x1024x640, .f32⟩
  | .hbm, ⟨5, _⟩ => ⟨S1x1024x640, .f32⟩
  | .hbm, ⟨6, _⟩ => ⟨S1x1024x640, .f32⟩
  | .hbm, ⟨7, _⟩ => ⟨S2x1024x640, .f32⟩
  | .hbm, ⟨8, _⟩ => ⟨S_, .f32⟩
  | .hbm, ⟨9, _⟩ => ⟨S2x1024x640, .f32⟩
  | .hbm, ⟨10, _⟩ => ⟨S2x1024x640, .f32⟩
  | .hbm, ⟨11, _⟩ => ⟨S_, .f32⟩
  | .hbm, ⟨12, _⟩ => ⟨S2x1024x640, .f32⟩
  | .hbm, ⟨13, _⟩ => ⟨S2x1024x640, .f32⟩
  | .hbm, ⟨14, _⟩ => ⟨S2x1024x640, .f32⟩
  | .hbm, ⟨15, _⟩ => ⟨S_, .f32⟩
  | .hbm, ⟨16, _⟩ => ⟨S2x1024x640, .f32⟩
  | .hbm, ⟨17, _⟩ => ⟨S2x1024x640, .f32⟩
  | .hbm, ⟨18, _⟩ => ⟨S2x1024x640, .f32⟩
  | .hbm, ⟨19, _⟩ => ⟨S_, .f32⟩
  | .hbm, ⟨20, _⟩ => ⟨S2x1024x640, .f32⟩
  | .hbm, ⟨21, _⟩ => ⟨S2x1024x640, .f32⟩
  | .hbm, ⟨22, _⟩ => ⟨S2x1024x640, .f32⟩
  | .hbm, ⟨23, _⟩ => ⟨S_, .f32⟩
  | .hbm, ⟨24, _⟩ => ⟨S2x1024x640, .f32⟩
  | .hbm, ⟨25, _⟩ => ⟨S2x1024x640, .f32⟩
  | .hbm, ⟨26, _⟩ => ⟨S_, .f32⟩
  | .hbm, ⟨27, _⟩ => ⟨S2x1024x640, .f32⟩
  | .hbm, ⟨28, _⟩ => ⟨S2x1024x640, .f32⟩
  | .hbm, ⟨29, _⟩ => ⟨S2x1024x640, .f32⟩
  | .hbm, ⟨30, _⟩ => ⟨S_, .f32⟩
  | .hbm, ⟨31, _⟩ => ⟨S2x1024x640, .f32⟩
  | .hbm, ⟨32, _⟩ => ⟨S2x1024x640, .f32⟩
  | .hbm, ⟨33, _⟩ => ⟨S2x1024x640, .f32⟩
  | .hbm, ⟨34, _⟩ => ⟨S_, .f32⟩
  | .hbm, ⟨35, _⟩ => ⟨S2x1024x640, .f32⟩
  | .hbm, ⟨36, _⟩ => ⟨S2x1024x640, .f32⟩
  | .hbm, ⟨37, _⟩ => ⟨S2x1024x640, .f32⟩
  | .hbm, ⟨38, _⟩ => ⟨S_, .f32⟩
  | .hbm, ⟨39, _⟩ => ⟨S2x1024x640, .f32⟩
  | .hbm, ⟨40, _⟩ => ⟨S2x1024x640, .f32⟩
  | _, _ => ⟨S2x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamSq.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamSqIdeal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamKv.lean ====
abbrev S2x1024x512 : Shape := ⟨3, ![2, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x512, .f32⟩
  | .hbm, ⟨1, _⟩ => ⟨S1024x512, .f32⟩
  | .hbm, ⟨2, _⟩ => ⟨S1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamKvIdeal.lean ====
abbrev S2x1024x512 : Shape := ⟨3, ![2, 1024, 512]⟩
abbrev S1024x512 : Shape := ⟨2, ![1024, 512]⟩
abbrev S1x1024x512 : Shape := ⟨3, ![1, 1024, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S1024x512, .f32⟩
  | .hbm, ⟨2, _⟩ => ⟨S1024x512, .f32⟩
  | .hbm, ⟨3, _⟩ => ⟨S2x1024x512, .f32⟩
  | .hbm, ⟨4, _⟩ => ⟨S2x1024x512, .f32⟩
  | .hbm, ⟨5, _⟩ => ⟨S1x1024x512, .f32⟩
  | .hbm, ⟨6, _⟩ => ⟨S1x1024x512, .f32⟩
  | .hbm, ⟨7, _⟩ => ⟨S2x1024x512, .f32⟩
  | .hbm, ⟨8, _⟩ => ⟨S_, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S2x1024x512, .f32⟩
  | .hbm, ⟨23, _⟩ => ⟨S_, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2x1024x512, .f32⟩
  | .hbm, ⟨38, _⟩ => ⟨S_, .f32⟩
  | .hbm, ⟨39, _⟩ => ⟨S2x1024x512, .f32⟩
  | .hbm, ⟨40, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamSmall.lean ====
abbrev S168x128 : Shape := ⟨2, ![168, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S168x128, .f32⟩
  | .hbm, ⟨5, _⟩ => ⟨S168x128, .f32⟩
  | .hbm, ⟨6, _⟩ => ⟨S168x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamSmallIdeal.lean ====
abbrev S168x128 : Shape := ⟨2, ![168, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S_, .f32⟩
  | .hbm, ⟨5, _⟩ => ⟨S168x128, .f32⟩
  | .hbm, ⟨6, _⟩ => ⟨S168x128, .f32⟩
  | .hbm, ⟨7, _⟩ => ⟨S_, .f32⟩
  | .hbm, ⟨8, _⟩ => ⟨S168x128, .f32⟩
  | .hbm, ⟨9, _⟩ => ⟨S168x128, .f32⟩
  | .hbm, ⟨10, _⟩ => ⟨S168x128, .f32⟩
  | .hbm, ⟨11, _⟩ => ⟨S_, .f32⟩
  | .hbm, ⟨12, _⟩ => ⟨S168x128, .f32⟩
  | .hbm, ⟨13, _⟩ => ⟨S168x128, .f32⟩
  | .hbm, ⟨14, _⟩ => ⟨S168x128, .f32⟩
  | .hbm, ⟨15, _⟩ => ⟨S_, .f32⟩
  | .hbm, ⟨16, _⟩ => ⟨S168x128, .f32⟩
  | .hbm, ⟨17, _⟩ => ⟨S168x128, .f32⟩
  | .hbm, ⟨18, _⟩ => ⟨S168x128, .f32⟩
  | .hbm, ⟨19, _⟩ => ⟨S_, .f32⟩
  | .hbm, ⟨20, _⟩ => ⟨S168x128, .f32⟩
  | .hbm, ⟨21, _⟩ => ⟨S168x128, .f32⟩
  | .hbm, ⟨22, _⟩ => ⟨S_, .f32⟩
  | .hbm, ⟨23, _⟩ => ⟨S168x128, .f32⟩
  | .hbm, ⟨24, _⟩ => ⟨S168x128, .f32⟩
  | .hbm, ⟨25, _⟩ => ⟨S168x128, .f32⟩
  | .hbm, ⟨26, _⟩ => ⟨S_, .f32⟩
  | .hbm, ⟨27, _⟩ => ⟨S168x128, .f32⟩
  | .hbm, ⟨28, _⟩ => ⟨S168x128, .f32⟩
  | .hbm, ⟨29, _⟩ => ⟨S168x128, .f32⟩
  | .hbm, ⟨30, _⟩ => ⟨S_, .f32⟩
  | .hbm, ⟨31, _⟩ => ⟨S168x128, .f32⟩
  | .hbm, ⟨32, _⟩ => ⟨S168x128, .f32⟩
  | .hbm, ⟨33, _⟩ => ⟨S168x128, .f32⟩
  | .hbm, ⟨34, _⟩ => ⟨S_, .f32⟩
  | .hbm, ⟨35, _⟩ => ⟨S168x128, .f32⟩
  | .hbm, ⟨36, _⟩ => ⟨S168x128, .f32⟩
  | _, _ => ⟨S168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelSum.lean ====
abbrev S8x48x1024 : Shape := ⟨3, ![8, 48, 1024]⟩
abbrev S48x1024 : Shape := ⟨2, ![48, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .local _ .vmem, ⟨0, _⟩ => ⟨S8x16x1024, .f32⟩
  | .local _ .vmem, ⟨1, _⟩ => ⟨S8x16x1024, .f32⟩
  | .local _ .vmem, ⟨2, _⟩ => ⟨S16x1024, .f32⟩
  | .local _ .vmem, ⟨3, _⟩ => ⟨S16x1024, .f32⟩
  | _, _ => ⟨S8x48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceSumIdeal.lean ====
abbrev S8x48x1024 : Shape := ⟨3, ![8, 48, 1024]⟩
abbrev S_ : Shape := ⟨0, ![]⟩
abbrev S48x1024 : Shape := ⟨2, ![48, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S_, .f32⟩
  | .hbm, ⟨2, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelLnF.lean ====
abbrev S4096x512 : Shape := ⟨2, ![4096, 512]⟩
abbrev S1x512 : Shape := ⟨2, ![1, 512]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x1024, .bf16⟩
  | .hbm, ⟨4, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceLnFIdeal.lean ====
abbrev S4096x512 : Shape := ⟨2, ![4096, 512]⟩
abbrev S1x512 : Shape := ⟨2, ![1, 512]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x1024, .bf16⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .bf16⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .bf16⟩
  | .hbm, ⟨42, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== KernelMixBF.lean ====
abbrev S4096x2560 : Shape := ⟨2, ![4096, 2560]⟩
abbrev S31x512 : Shape := ⟨2, ![31, 512]⟩
abbrev S1x512 : Shape := ⟨2, ![1, 512]⟩
abbrev S4096x512 : Shape := ⟨2, ![4096, 512]⟩
abbrev S4096x128 : Shape := ⟨2, ![4096, 128]⟩
abbrev S31x128 : Shape := ⟨2, ![31, 128]⟩
abbrev S1x128 : Shape := ⟨2, ![1, 128]⟩
abbrev S4128x128 : Shape := ⟨2, ![4128, 128]⟩
abbrev S32x128 : Shape := ⟨2, ![32, 128]⟩
abbrev S288x128 : Shape := ⟨2, ![288, 128]⟩
abbrev S256x128 : Shape := ⟨2, ![256, 128]⟩

abbrev nBuf : Space → Nat
  | .hbm => 4
  | .vmem => 11
  | .smem => 0
  | _ => 0

abbrev bufTy : (tb : Table) → Fin (tcTables nBuf tb) → BufTy
  | .hbm, ⟨0, _⟩ => ⟨S4096x2560, .f32⟩
  | .hbm, ⟨1, _⟩ => ⟨S31x512, .f32⟩
  | .hbm, ⟨2, _⟩ => ⟨S1x512, .f32⟩
  | .hbm, ⟨3, _⟩ => ⟨S4096x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S31x128, .f32⟩
  | .local _ .vmem, ⟨5, _⟩ => ⟨S31x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S4128x128, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v17 : BitVec 32 := Scalar.addi c0_i32 c16_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v18 : BitVec 32 := Scalar.muli arg7 c256_i32
  v18
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v18 : BitVec 32 := Scalar.muli arg7 c256_i32
  let v19 : BitVec 32 := v18
  let v20 : Index := Scalar.indexCast v19
  let c0_10 : Index := 0#32
  ![v20.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v18 : BitVec 32 := Scalar.muli arg7 c256_i32
  let v19 : BitVec 32 := v18
  let v209 : Index := Scalar.indexCast v19
  let c0_47 : Index := 0#32
  ![v209.toNat, 0]
def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMixBFIdeal.lean ====
abbrev S4096x2560 : Shape := ⟨2, ![4096, 2560]⟩
abbrev S31x512 : Shape := ⟨2, ![31, 512]⟩
abbrev S1x512 : Shape := ⟨2, ![1, 512]⟩
abbrev S4096x512 : Shape := ⟨2, ![4096, 512]⟩
abbrev S_ : Shape := ⟨0, ![]⟩
abbrev S4126x512 : Shape := ⟨2, ![4126, 512]⟩
abbrev S512 : Shape := ⟨1, ![512]⟩

abbrev nBuf : Space → Nat
  | .hbm => 238
  | .vmem => 0
  | .smem => 0
  | _ => 0

abbrev hbmTy0_0 (i : Nat) : BufTy := match i % 128 with
  | 0 => ⟨S4096x2560, .f32⟩
  | 1 => ⟨S31x512, .f32⟩
  | 2 => ⟨S1x512, .f32⟩
  | 3 => ⟨S4096x512, .f32⟩
  | 4 => ⟨S4096x512, .f32⟩
  | 5 => ⟨S4096x512, .f32⟩
  | 6 => ⟨S4096x512, .f32⟩
  | 7 => ⟨S_, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S4096x512, .f32⟩
  | 14 => ⟨S_, .i32⟩
  | 15 => ⟨S_, .f32⟩
  | 16 => ⟨S4126x512, .f32⟩
  | 17 => ⟨S4096x512, .f32⟩
  | 18 => ⟨S1x512, .f32⟩
  | 19 => ⟨S512, .f32⟩
  | 20 => ⟨S1x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S4096x512, .f32⟩
  | 27 => ⟨S1x512, .f32⟩
  | 28 => ⟨S512, .f32⟩
  | 29 => ⟨S1x512, .f32⟩
  | 30 => ⟨S4096x512, .f32⟩
  | 31 => ⟨S4096x512, .f32⟩
  | 32 => ⟨S4096x512, .f32⟩
  | 33 => ⟨S4096x512, .f32⟩
  | 34 => ⟨S1x512, .f32⟩
  | 35 => ⟨S512, .f32⟩
  | 36 => ⟨S1x512, .f32⟩
  | 37 => ⟨S4096x512, .f32⟩
  | 38 => ⟨S4096x512, .f32⟩
  | 39 => ⟨S4096x512, .f32⟩
  | 40 => ⟨S4096x512, .f32⟩
  | 41 => ⟨S1x512, .f32⟩
  | 42 => ⟨S512, .f32⟩
  | 43 => ⟨S1x512, .f32⟩
  | 44 => ⟨S4096x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S1x512, .f32⟩
  | 51 => ⟨S4096x512, .f32⟩
  | 52 => ⟨S4096x512, .f32⟩
  | 53 => ⟨S4096x512, .f32⟩
  | 54 => ⟨S4096x512, .f32⟩
  | 55 => ⟨S1x512, .f32⟩
  | 56 => ⟨S512, .f32⟩
  | 57 => ⟨S1x512, .f32⟩
  | 58 => ⟨S4096x512, .f32⟩
  | 59 => ⟨S4096x512, .f32⟩
  | 60 => ⟨S4096x512, .f32⟩
  | 61 => ⟨S4096x512, .f32⟩
  | 62 => ⟨S1x512, .f32⟩
  | 63 => ⟨S512, .f32⟩
  | 64 => ⟨S1x512, .f32⟩
  | 65 => ⟨S4096x512, .f32⟩
  | 66 => ⟨S4096x512, .f32⟩
  | 67 => ⟨S4096x512, .f32⟩
  | 68 => ⟨S4096x512, .f32⟩
  | 69 => ⟨S1x512, .f32⟩
  | 70 => ⟨S512, .f32⟩
  | 71 => ⟨S1x512, .f32⟩
  | 72 => ⟨S4096x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S1x512, .f32⟩
  | 79 => ⟨S4096x512, .f32⟩
  | 80 => ⟨S4096x512, .f32⟩
  | 81 => ⟨S4096x512, .f32⟩
  | 82 => ⟨S4096x512, .f32⟩
  | 83 => ⟨S1x512, .f32⟩
  | 84 => ⟨S512, .f32⟩
  | 85 => ⟨S1x512, .f32⟩
  | 86 => ⟨S4096x512, .f32⟩
  | 87 => ⟨S4096x512, .f32⟩
  | 88 => ⟨S4096x512, .f32⟩
  | 89 => ⟨S4096x512, .f32⟩
  | 90 => ⟨S1x512, .f32⟩
  | 91 => ⟨S512, .f32⟩
  | 92 => ⟨S1x512, .f32⟩
  | 93 => ⟨S4096x512, .f32⟩
  | 94 => ⟨S4096x512, .f32⟩
  | 95 => ⟨S4096x512, .f32⟩
  | 96 => ⟨S4096x512, .f32⟩
  | 97 => ⟨S1x512, .f32⟩
  | 98 => ⟨S512, .f32⟩
  | 99 => ⟨S1x512, .f32⟩
  | 100 => ⟨S4096x512, .f32⟩
  | 101 => ⟨S4096x512, .f32⟩
  | 102 => ⟨S4096x512, .f32⟩
  | 103 => ⟨S4096x512, .f32⟩
  | 104 => ⟨S1x512, .f32⟩
  | 105 => ⟨S512, .f32⟩
  | 106 => ⟨S1x512, .f32⟩
  | 107 => ⟨S4096x512, .f32⟩
  | 108 => ⟨S4096x512, .f32⟩
  | 109 => ⟨S4096x512, .f32⟩
  | 110 => ⟨S4096x512, .f32⟩
  | 111 => ⟨S1x512, .f32⟩
  | 112 => ⟨S512, .f32⟩
  | 113 => ⟨S1x512, .f32⟩
  | 114 => ⟨S4096x512, .f32⟩
  | 115 => ⟨S4096x512, .f32⟩
  | 116 => ⟨S4096x512, .f32⟩
  | 117 => ⟨S4096x512, .f32⟩
  | 118 => ⟨S1x512, .f32⟩
  | 119 => ⟨S512, .f32⟩
  | 120 => ⟨S1x512, .f32⟩
  | 121 => ⟨S4096x512, .f32⟩
  | 122 => ⟨S4096x512, .f32⟩
  | 123 => ⟨S4096x512, .f32⟩
  | 124 => ⟨S4096x512, .f32⟩
  | 125 => ⟨S1x512, .f32⟩
  | 126 => ⟨S512, .f32⟩
  | 127 => ⟨S1x512, .f32⟩
  | _ => ⟨S4096x2560, .f32⟩

abbrev hbmTy0_1 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S1x512, .f32⟩
  | 5 => ⟨S512, .f32⟩
  | 6 => ⟨S1x512, .f32⟩
  | 7 => ⟨S4096x512, .f32⟩
  | 8 => ⟨S4096x512, .f32⟩
  | 9 => ⟨S4096x512, .f32⟩
  | 10 => ⟨S4096x512, .f32⟩
  | 11 => ⟨S1x512, .f32⟩
  | 12 => ⟨S512, .f32⟩
  | 13 => ⟨S1x512, .f32⟩
  | 14 => ⟨S4096x512, .f32⟩
  | 15 => ⟨S4096x512, .f32⟩
  | 16 => ⟨S4096x512, .f32⟩
  | 17 => ⟨S4096x512, .f32⟩
  | 18 => ⟨S1x512, .f32⟩
  | 19 => ⟨S512, .f32⟩
  | 20 => ⟨S1x512, .f32⟩
  | 21 => ⟨S4096x512, .f32⟩
  | 22 => ⟨S4096x512, .f32⟩
  | 23 => ⟨S4096x512, .f32⟩
  | 24 => ⟨S4096x512, .f32⟩
  | 25 => ⟨S1x512, .f32⟩
  | 26 => ⟨S512, .f32⟩
  | 27 => ⟨S1x512, .f32⟩
  | 28 => ⟨S4096x512, .f32⟩
  | 29 => ⟨S4096x512, .f32⟩
  | 30 => ⟨S4096x512, .f32⟩
  | 31 => ⟨S4096x512, .f32⟩
  | 32 => ⟨S1x512, .f32⟩
  | 33 => ⟨S512, .f32⟩
  | 34 => ⟨S1x512, .f32⟩
  | 35 => ⟨S4096x512, .f32⟩
  | 36 => ⟨S4096x512, .f32⟩
  | 37 => ⟨S4096x512, .f32⟩
  | 38 => ⟨S4096x512, .f32⟩
  | 39 => ⟨S1x512, .f32⟩
  | 40 => ⟨S512, .f32⟩
  | 41 => ⟨S1x512, .f32⟩
  | 42 => ⟨S4096x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S1x512, .f32⟩
  | 49 => ⟨S4096x512, .f32⟩
  | 50 => ⟨S4096x512, .f32⟩
  | 51 => ⟨S4096x512, .f32⟩
  | 52 => ⟨S4096x512, .f32⟩
  | 53 => ⟨S1x512, .f32⟩
  | 54 => ⟨S512, .f32⟩
  | 55 => ⟨S1x512, .f32⟩
  | 56 => ⟨S4096x512, .f32⟩
  | 57 => ⟨S4096x512, .f32⟩
  | 58 => ⟨S4096x512, .f32⟩
  | 59 => ⟨S4096x512, .f32⟩
  | 60 => ⟨S1x512, .f32⟩
  | 61 => ⟨S512, .f32⟩
  | 62 => ⟨S1x512, .f32⟩
  | 63 => ⟨S4096x512, .f32⟩
  | 64 => ⟨S4096x512, .f32⟩
  | 65 => ⟨S4096x512, .f32⟩
  | 66 => ⟨S4096x512, .f32⟩
  | 67 => ⟨S1x512, .f32⟩
  | 68 => ⟨S512, .f32⟩
  | 69 => ⟨S1x512, .f32⟩
  | 70 => ⟨S4096x512, .f32⟩
  | 71 => ⟨S4096x512, .f32⟩
  | 72 => ⟨S4096x512, .f32⟩
  | 73 => ⟨S4096x512, .f32⟩
  | 74 => ⟨S1x512, .f32⟩
  | 75 => ⟨S512, .f32⟩
  | 76 => ⟨S1x512, .f32⟩
  | 77 => ⟨S4096x512, .f32⟩
  | 78 => ⟨S4096x512, .f32⟩
  | 79 => ⟨S4096x512, .f32⟩
  | 80 => ⟨S4096x512, .f32⟩
  | 81 => ⟨S1x512, .f32⟩
  | 82 => ⟨S512, .f32⟩
  | 83 => ⟨S1x512, .f32⟩
  | 84 => ⟨S4096x512, .f32⟩
  | 85 => ⟨S4096x512, .f32⟩
  | 86 => ⟨S4096x512, .f32⟩
  | 87 => ⟨S4096x512, .f32⟩
  | 88 => ⟨S1x512, .f32⟩
  | 89 => ⟨S512, .f32⟩
  | 90 => ⟨S1x512, .f32⟩
  | 91 => ⟨S4096x512, .f32⟩
  | 92 => ⟨S4096x512, .f32⟩
  | 93 => ⟨S4096x512, .f32⟩
  | 94 => ⟨S4096x512, .f32⟩
  | 95 => ⟨S1x512, .f32⟩
  | 96 => ⟨S512, .f32⟩
  | 97 => ⟨S1x512, .f32⟩
  | 98 => ⟨S4096x512, .f32⟩
  | 99 => ⟨S4096x512, .f32⟩
  | 100 => ⟨S4096x512, .f32⟩
  | 101 => ⟨S4096x512, .f32⟩
  | 102 => ⟨S1x512, .f32⟩
  | 103 => ⟨S512, .f32⟩
  | 104 => ⟨S1x512, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | _ => ⟨S4096x2560, .f32⟩

abbrev hbmTy (i : Nat) : BufTy := match i / 128 with
  | 0 => hbmTy0_0 i
  | 1 => hbmTy0_1 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩

abbrev nD : Nat := 1
abbrev τ : Topo := Topo.v7x

variable {F : FTy → Type} [FloatOps F]
-- ==== Proof.AttnMath.lean ====
module

public import Idealize.ShloMosaic.Lib.Pointwise
public import Mathlib.Data.EReal.Operations
public import Mathlib.Tactic.FieldSimp
public import Mathlib.Tactic.Positivity

@[expose] public section
noncomputable section

open Idealize.ShloMosaic

/-! The mathematics of one row of the gradient of softmax attention, on extended reals: the row's probabilities, the
gradient of its scores, and that the two orders in which the kernel and the reference compute the latter agree when the
scores are numbers. -/

namespace Cert.AttnMath

variable {n : ℕ}

/-- The largest score of a row. -/
def rowMax (s : Fin n → EReal) : EReal := Finset.univ.fold max ⊥ s

/-- The exponential of a score less the row's largest. -/
def ex (s : Fin n → EReal) (k : Fin n) : EReal := Ideal.exp (s k - rowMax s)

/-- The sum of a row's exponentials. -/
def tot (s : Fin n → EReal) : EReal := ∑ k, ex s k

/-- The probability of a row's `k`-th key. -/
def prob (s : Fin n → EReal) (k : Fin n) : EReal := Ideal.div (ex s k) (tot s)

/-- The gradient of a row's `k`-th score (before the scale), from the gradients `g` of its probabilities. -/
def dsc (s g : Fin n → EReal) (k : Fin n) : EReal := prob s k * (g k - ∑ j, g j * prob s j)

/-- Multiplication by a nonnegative number passes through a sum. -/
theorem sum_mul_coe {ι : Type*} (t : Finset ι) (f : ι → EReal) {c : ℝ} (hc : 0 ≤ c) :
    (∑ j ∈ t, f j) * (c : EReal) = ∑ j ∈ t, f j * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- A finite sum of numbers is a number. -/
theorem coe_sum {ι : Type*} (t : Finset ι) (f : ι → ℝ) : (∑ j ∈ t, (f j : EReal)) = ((∑ j ∈ t, f j : ℝ) : EReal) := by
  classical
  induction t using Finset.induction_on with
  | empty => simp
  | insert a t ha ih => rw [Finset.sum_insert ha, Finset.sum_insert ha, ih, EReal.coe_add]

/-- The largest of a nonempty row of numbers is one of them, and no other exceeds it. -/
theorem rowMax_coe [NeZero n] (s : Fin n → ℝ) :
    ∃ k, rowMax (fun j => (s j : EReal)) = (s k : EReal) ∧ ∀ j, s j ≤ s k := by
  obtain ⟨k, -, hk⟩ := Finset.exists_max_image Finset.univ s ⟨0, Finset.mem_univ _⟩
  refine ⟨k, le_antisymm ?_ ?_, fun j => hk j (Finset.mem_univ _)⟩
  · exact (Finset.fold_max_le _).mpr ⟨bot_le, fun j _ => EReal.coe_le_coe_iff.mpr (hk j (Finset.mem_univ _))⟩
  · exact (Finset.le_fold_max _).mpr (Or.inr ⟨k, Finset.mem_univ _, le_rfl⟩)

/-- For a row of numbers, the exponentials are positive numbers. -/
theorem ex_coe [NeZero n] (s : Fin n → ℝ) :
    ∃ r : Fin n → ℝ, (∀ k, 0 < r k) ∧ ∀ k, ex (fun j => (s j : EReal)) k = (r k : EReal) := by
  obtain ⟨k₀, h, -⟩ := rowMax_coe s
  refine ⟨fun k => Real.exp (s k - s k₀), fun k => Real.exp_pos _, fun k => ?_⟩
  unfold ex
  rw [h, ← EReal.coe_sub]
  rfl

/-- The reference's order of computing a score's gradient — both terms of the quotient's derivative, each divided
separately — gives the kernel's, for a row of numbers. -/
theorem ref_dsc [NeZero n] (s : Fin n → ℝ) (g : Fin n → EReal) (k : Fin n) :
    (Ideal.div (g k) (tot fun j => (s j : EReal))
        + -(∑ j, g j * Ideal.div 1 (tot (fun j => (s j : EReal)) * tot (fun j => (s j : EReal)))
            * ex (fun j => (s j : EReal)) j)) * ex (fun j => (s j : EReal)) k
      = dsc (fun j => (s j : EReal)) g k := by
  obtain ⟨r, hr, hex⟩ := ex_coe s
  have htot : tot (fun j => (s j : EReal)) = ((∑ j, r j : ℝ) : EReal) := by
    unfold tot
    rw [← coe_sum]
    exact Finset.sum_congr rfl fun j _ => hex j
  have hpos : 0 < ∑ j, r j := Finset.sum_pos (fun j _ => hr j) ⟨0, Finset.mem_univ _⟩
  generalize (∑ j, r j) = T at htot hpos
  have hT : T ≠ 0 := hpos.ne'
  have hinv : (0 : ℝ) ≤ 1 / T := by positivity
  have hp : ∀ j, prob (fun j => (s j : EReal)) j = (r j : EReal) * ((1 / T : ℝ) : EReal) := fun j => by
    unfold prob
    rw [hex, htot, Ideal.div_coe hT]
  have hsum : (∑ j, g j * Ideal.div 1 (tot (fun j => (s j : EReal)) * tot (fun j => (s j : EReal)))
      * ex (fun j => (s j : EReal)) j) = (∑ j, g j * prob (fun j => (s j : EReal)) j) * ((1 / T : ℝ) : EReal) := by
    rw [sum_mul_coe _ _ hinv]
    refine Finset.sum_congr rfl fun j _ => ?_
    rw [hex, htot, hp, ← EReal.coe_mul, Ideal.div_coe (mul_ne_zero hT hT), one_mul, mul_assoc, mul_assoc,
      ← EReal.coe_mul, ← EReal.coe_mul, ← EReal.coe_mul]
    congr 2
    field_simp
  rw [hsum, htot, Ideal.div_coe hT, hex]
  unfold dsc
  rw [hp, sub_eq_add_neg, ← EReal.neg_mul,
    ← EReal.right_distrib_of_nonneg_of_ne_top (EReal.coe_nonneg.mpr hinv) (EReal.coe_ne_top _)]
  rw [mul_assoc, mul_comm, mul_comm ((1 / T : ℝ) : EReal)]

/-- The scale of the scores, one sixteenth. -/
def sc : EReal := Ideal.ofBits .f32 0x3D800000#32

theorem sc_eq : sc = ((1 / 16 : ℝ) : EReal) := by
  simp [sc, Ideal.ofBits, Ideal.ieee, -EReal.coe_mul]
  norm_num

/-- The scores of one query against every key. -/
def srow {m : ℕ} (q : Fin m → EReal) (K : Fin n → Fin m → EReal) (k : Fin n) : EReal := (∑ d, q d * K k d) * sc

/-- The probabilities of one query. -/
def prow {m : ℕ} (q : Fin m → EReal) (K : Fin n → Fin m → EReal) (k : Fin n) : EReal := prob (srow q K) k

/-- The gradient of one query's products with the keys, from the gradient `g` of its output. -/
def drow {m : ℕ} (q : Fin m → EReal) (K V : Fin n → Fin m → EReal) (g : Fin m → EReal) (k : Fin n) : EReal :=
  dsc (srow q K) (fun j => ∑ d, g d * V j d) k * sc

/-- The scores of a query and keys that are numbers are numbers. -/
theorem srow_coe {m : ℕ} (q : Fin m → ℝ) (K : Fin n → Fin m → ℝ) :
    srow (fun d => (q d : EReal)) (fun k d => (K k d : EReal))
      = fun k => (((∑ d, q d * K k d) * (1 / 16) : ℝ) : EReal) := by
  funext k
  unfold srow
  rw [sc_eq, EReal.coe_mul, ← coe_sum]
  simp only [EReal.coe_mul]

/-- The column of a head's `d`-th feature among the 1024. -/
def col (h : Fin 4) (d : Fin 256) : Fin 1024 := ⟨256 * h.val + d.val, by omega⟩

/-- The head a column belongs to. -/
def hof (c : Fin 1024) : Fin 4 := ⟨c.val / 256, by omega⟩

/-- The feature a column is, within its head. -/
def dof (c : Fin 1024) : Fin 256 := ⟨c.val % 256, by omega⟩

/-- One head's columns of an array of 1024 columns. -/
def hd {r : ℕ} (x : (⟨2, ![r, 1024]⟩ : Shape).Idx → EReal) (h : Fin 4) (i : Fin r) (d : Fin 256) : EReal := x (ix2 i (col h d))

/-- The gradient of the queries at a row and column. -/
def dqAt {r : ℕ} (q : (⟨2, ![r, 1024]⟩ : Shape).Idx → EReal) (k v : (⟨2, ![256, 1024]⟩ : Shape).Idx → EReal)
    (g : (⟨2, ![r, 1024]⟩ : Shape).Idx → EReal) (i : Fin r) (h : Fin 4) (d : Fin 256) : EReal :=
  ∑ c, drow (hd q h i) (hd k h) (hd v h) (hd g h i) c * hd k h c d

/-- One row's part of the gradient of a key. -/
def dkTerm {r : ℕ} (q : (⟨2, ![r, 1024]⟩ : Shape).Idx → EReal) (k v : (⟨2, ![256, 1024]⟩ : Shape).Idx → EReal)
    (g : (⟨2, ![r, 1024]⟩ : Shape).Idx → EReal) (c : Fin 256) (h : Fin 4) (d : Fin 256) (i : Fin r) : EReal :=
  drow (hd q h i) (hd k h) (hd v h) (hd g h i) c * hd q h i d

/-- One row's part of the gradient of a value. -/
def dvTerm {r : ℕ} (q : (⟨2, ![r, 1024]⟩ : Shape).Idx → EReal) (k : (⟨2, ![256, 1024]⟩ : Shape).Idx → EReal)
    (g : (⟨2, ![r, 1024]⟩ : Shape).Idx → EReal) (c : Fin 256) (h : Fin 4) (d : Fin 256) (i : Fin r) : EReal :=
  prow (hd q h i) (hd k h) c * hd g h i d

/-- One row's part of the gradient of the joined keys and values: the keys' 1024 columns, then the values'. -/
def dkvTerm {r : ℕ} (q : (⟨2, ![r, 1024]⟩ : Shape).Idx → EReal) (k v : (⟨2, ![256, 1024]⟩ : Shape).Idx → EReal)
    (g : (⟨2, ![r, 1024]⟩ : Shape).Idx → EReal) (c : Fin 256) (e : Fin 2048) (i : Fin r) : EReal :=
  if h : e.val < 1024 then dkTerm q k v g c (hof ⟨e.val, h⟩) (dof ⟨e.val, h⟩) i
  else dvTerm q k g c (hof ⟨e.val - 1024, by omega⟩) (dof ⟨e.val - 1024, by omega⟩) i

theorem dkvTerm_k {r : ℕ} (q : (⟨2, ![r, 1024]⟩ : Shape).Idx → EReal) (k v : (⟨2, ![256, 1024]⟩ : Shape).Idx → EReal)
    (g : (⟨2, ![r, 1024]⟩ : Shape).Idx → EReal) (c : Fin 256) (e : Fin 2048) (h : Fin 4) (d : Fin 256)
    (he : e.val = 256 * h.val + d.val) : dkvTerm q k v g c e = dkTerm q k v g c h d := by
  funext i
  unfold dkvTerm
  rw [dif_pos (by omega)]
  congr 1 <;> apply Fin.ext <;> simp only [hof, dof] <;> omega

theorem dkvTerm_v {r : ℕ} (q : (⟨2, ![r, 1024]⟩ : Shape).Idx → EReal) (k v : (⟨2, ![256, 1024]⟩ : Shape).Idx → EReal)
    (g : (⟨2, ![r, 1024]⟩ : Shape).Idx → EReal) (c : Fin 256) (e : Fin 2048) (h : Fin 4) (d : Fin 256)
    (he : e.val = 1024 + 256 * h.val + d.val) : dkvTerm q k v g c e = dvTerm q k g c h d := by
  funext i
  unfold dkvTerm
  rw [dif_neg (by omega)]
  congr 1 <;> apply Fin.ext <;> simp only [hof, dof] <;> omega

theorem idx_lt1 {a b : ℕ} (j : (⟨2, ![a, b]⟩ : Shape).Idx) : (j 1).val < b := (j 1).isLt

/-- The keys: the first 1024 columns of the joined array. -/
def keysOf (kv : (⟨2, ![256, 2048]⟩ : Shape).Idx → EReal) : (⟨2, ![256, 1024]⟩ : Shape).Idx → EReal :=
  fun j => kv (ix2 (j 0) ⟨(j 1).val, by have := idx_lt1 j; omega⟩)

/-- The values: the last 1024 columns of the joined array. -/
def valsOf (kv : (⟨2, ![256, 2048]⟩ : Shape).Idx → EReal) : (⟨2, ![256, 1024]⟩ : Shape).Idx → EReal :=
  fun j => kv (ix2 (j 0) ⟨1024 + (j 1).val, by have := idx_lt1 j; omega⟩)

theorem hof_eq (c : Fin 1024) (h : Fin 4) (d : Fin 256) (hc : c.val = 256 * h.val + d.val) : hof c = h :=
  Fin.ext (by simp only [hof]; omega)

theorem dof_eq (c : Fin 1024) (h : Fin 4) (d : Fin 256) (hc : c.val = 256 * h.val + d.val) : dof c = d :=
  Fin.ext (by simp only [dof]; omega)

end Cert.AttnMath
-- ==== Proof.AttnRef.lean ====
module

public import proofs.«01_k».proof.Proof.Gen.ReferenceIdeal.Read
public import proofs.«01_k».proof.Proof.AttnMath
public import Idealize.ShloMosaic.Lib.Pointwise
public import Idealize.ShloMosaic.Lib.KernelVsHost

@[expose] public section
noncomputable section

open Idealize.ShloMosaic Idealize.ShloMosaic.TcCoe Idealize.SL.Sem
open Cert.AttnMath Cert.ReferenceIdeal.Gen

/-! The reference's two results read at an index, head by head: its stages are the same rows' scores, probabilities and
score gradients. -/

namespace Cert.ReferenceIdeal.Grad

open Cert.ReferenceIdeal Cert.ReferenceIdeal.Read

variable (x0 : (⟨S4096x1024, .bf16⟩ : BufTy).Contents (Elt Ideal)) (x1 : (⟨S256x2048, .bf16⟩ : BufTy).Contents (Elt Ideal))
  (x2 : (⟨S4096x1024, .bf16⟩ : BufTy).Contents (Elt Ideal))

/-- The word of minus infinity. -/
theorem ofBits_ninf : Ideal.ofBits .f32 0xFF800000#32 = ⊥ := by simp [Ideal.ofBits, Ideal.ieee]

/-- The word of one. -/
theorem ofBits_one : Ideal.ofBits .f32 0x3F800000#32 = 1 := by
  simp [Ideal.ofBits, Ideal.ieee, -EReal.coe_mul]
  norm_num

/-- The largest of each row of scores. -/
theorem rmax (y : FVec Ideal S4x4096x256 .f32) (h : Fin 4) (s : Fin 4096) :
    (Host.reduce FloatOps.maximumf y (constant S_ .f32 0xFF800000#32 : FVec Ideal S_ .f32)
        reducesTo_S4x4096x256_S4x4096_d2 h_S_ : FVec Ideal S4x4096 .f32) (ix2 h s)
      = rowMax (fun k => y (ix3 h s k)) := by
  rw [hostReduce_maximumf_eq_multiReduction (F := Ideal) (φ := .f32) y 0xFF800000#32 _ _ (by decide) (by decide) (by decide)]
  pointwise []
  unfold rowMax
  rw [ofBits_ninf]

theorem q_apply (s : Fin 4096) (h : Fin 4) (d : Fin 256) : val_main_v5 (F := Ideal) x0 (ix3 s h d) = hd x0 h s d := by
  pointwise [val_main_v5, val_main_v0]
  unfold hd col
  congr 2
  exact Fin.ext (by simp only []; omega)

theorem k_apply (s : Fin 256) (h : Fin 4) (d : Fin 256) : val_main_v6 (F := Ideal) x1 (ix3 s h d) = hd (keysOf x1) h s d := by
  pointwise [val_main_v6, val_main_v3, val_main_v1]
  unfold hd keysOf col
  congr 2
  exact Fin.ext (by simp only []; show h.val * 256 + d.val = 256 * h.val + d.val; omega)

theorem v_apply (s : Fin 256) (h : Fin 4) (d : Fin 256) : val_main_v7 (F := Ideal) x1 (ix3 s h d) = hd (valsOf x1) h s d := by
  pointwise [val_main_v7, val_main_v4, val_main_v1]
  unfold hd valsOf col
  congr 2
  exact Fin.ext (by simp only []; show 1024 + (h.val * 256 + d.val) = 1024 + (256 * h.val + d.val); omega)

theorem g_apply (s : Fin 4096) (h : Fin 4) (d : Fin 256) : val_main_v43 (F := Ideal) x2 (ix3 h d s) = hd x2 h s d := by
  pointwise [val_main_v43, val_main_v42, val_main_v2]
  unfold hd col
  congr 2
  exact Fin.ext (by simp only []; omega)

theorem s_apply (h : Fin 4) (s : Fin 4096) (k : Fin 256) :
    val_main_v10 (F := Ideal) x0 x1 (ix3 h s k) = srow (hd x0 h s) (hd (keysOf x1) h) k := by
  pointwise [val_main_v10, val_main_v9, val_main_cst, val_main_v8]
  simp only [q_apply, k_apply]
  rfl

/-- The largest score of a row, as the reduction gives it. -/
theorem max0_apply (h : Fin 4) (s : Fin 4096) :
    val_main_v11 (F := Ideal) x0 x1 (ix2 h s) = rowMax (srow (hd x0 h s) (hd (keysOf x1) h)) := by
  have e : (fun k => val_main_v10 (F := Ideal) x0 x1 (ix3 h s k)) = srow (hd x0 h s) (hd (keysOf x1) h) :=
    funext fun k => s_apply x0 x1 h s k
  rw [← e]
  unfold val_main_v11
  generalize val_main_v10 (F := Ideal) x0 x1 = y
  exact rmax y h s

theorem max_apply (h : Fin 4) (s : Fin 4096) :
    val_main_v18 (F := Ideal) x0 x1 (ix2 h s) = rowMax (srow (hd x0 h s) (hd (keysOf x1) h)) := by
  rw [val_main_v18_apply, val_main_v17_apply, val_main_cst_2_apply, max0_apply]
  generalize rowMax (srow (hd x0 h s) (hd (keysOf x1) h)) = r
  show max (Ideal.ofBits .f32 0xFF800000#32) r = r
  rw [ofBits_ninf, max_eq_right bot_le]

theorem e_apply (h : Fin 4) (s : Fin 4096) (k : Fin 256) :
    val_main_v31 (F := Ideal) x0 x1 (ix3 h s k) = ex (srow (hd x0 h s) (hd (keysOf x1) h)) k := by
  pointwise [val_main_v31, val_main_v30, val_main_v29, val_main_v28]
  rw [s_apply, max_apply]
  rfl

theorem l_apply (h : Fin 4) (s : Fin 4096) :
    val_main_v33 (F := Ideal) x0 x1 (ix3 h s 0) = tot (srow (hd x0 h s) (hd (keysOf x1) h)) := by
  pointwise [val_main_v33, val_main_v32]
  rw [val_main_cst_8_apply]
  simp only [e_apply]
  show Ideal.ofBits .f32 0#32 + _ = _
  rw [Ideal.ofBits_zero_f32, zero_add]
  rfl

theorem p_apply (h : Fin 4) (s : Fin 4096) (k : Fin 256) :
    val_main_v35 (F := Ideal) x0 x1 (ix3 h s k) = prow (hd x0 h s) (hd (keysOf x1) h) k := by
  pointwise [val_main_v35, val_main_v34]
  rw [e_apply, l_apply]
  rfl

theorem dp_apply (h : Fin 4) (s : Fin 4096) (k : Fin 256) :
    val_main_v44 (F := Ideal) x1 x2 (ix3 h s k) = ∑ d, hd x2 h s d * hd (valsOf x1) h k d := by
  pointwise [val_main_v44]
  simp only [g_apply, v_apply]

theorem dv_apply (h : Fin 4) (c : Fin 256) (d : Fin 256) :
    val_main_v46 (F := Ideal) x0 x1 x2 (ix3 c h d) = ∑ i, dvTerm x0 (keysOf x1) x2 c h d i := by
  pointwise [val_main_v46, val_main_v45]
  simp only [g_apply, p_apply]
  exact Finset.sum_congr rfl fun i _ => mul_comm _ _

theorem w_apply (h : Fin 4) (s : Fin 4096) (u : Fin 1) :
    val_main_v52 (F := Ideal) x0 x1 x2 (ix3 h s u)
      = -(∑ k, (∑ d, hd x2 h s d * hd (valsOf x1) h k d)
          * Ideal.div 1 (tot (srow (hd x0 h s) (hd (keysOf x1) h)) * tot (srow (hd x0 h s) (hd (keysOf x1) h)))
          * ex (srow (hd x0 h s) (hd (keysOf x1) h)) k) := by
  obtain rfl : u = 0 := Subsingleton.elim _ _
  pointwise [val_main_v52, val_main_v51, val_main_v50, val_main_v49, val_main_v48, val_main_v47, val_main_v38,
    val_main_v37, val_main_v36, val_main_cst_9]
  rw [val_main_cst_10_apply]
  simp only [e_apply, l_apply, dp_apply, ofBits_one]
  show -(Ideal.ofBits .f32 0#32 + _) = _
  rw [Ideal.ofBits_zero_f32, zero_add]

/-- The gradient of the scores, for rows whose queries and keys are numbers. -/
theorem ds_apply (h : Fin 4) (s : Fin 4096) (k : Fin 256) (q : Fin 256 → ℝ) (K : Fin 256 → Fin 256 → ℝ)
    (hq : hd x0 h s = fun d => (q d : EReal)) (hK : hd (keysOf x1) h = fun k d => (K k d : EReal)) :
    val_main_v60 (F := Ideal) x0 x1 x2 (ix3 h s k)
      = drow (hd x0 h s) (hd (keysOf x1) h) (hd (valsOf x1) h) (hd x2 h s) k := by
  pointwise [val_main_v60, val_main_v59, val_main_cst_12, val_main_v58, val_main_v57, val_main_v56, val_main_v55,
    val_main_v54, val_main_v53]
  rw [val_main_cst_11_apply]
  simp only [w_apply, e_apply, l_apply, dp_apply, Finset.univ_unique, Finset.sum_singleton]
  unfold drow
  rw [hq, hK, srow_coe]
  rw [← ref_dsc]
  show (_ + (Ideal.ofBits .f32 0#32 + _)) * _ * _ = _
  rw [Ideal.ofBits_zero_f32, zero_add]
  rfl
theorem dk_apply (h : Fin 4) (c : Fin 256) (d : Fin 256) (q : Fin 4096 → Fin 256 → ℝ) (K : Fin 256 → Fin 256 → ℝ)
    (hq : ∀ s, hd x0 h s = fun d => (q s d : EReal)) (hK : hd (keysOf x1) h = fun k d => (K k d : EReal)) :
    val_main_v62 (F := Ideal) x0 x1 x2 (ix3 c h d) = ∑ i, dkTerm x0 (keysOf x1) (valsOf x1) x2 c h d i := by
  pointwise [val_main_v62, val_main_v61]
  exact Finset.sum_congr rfl fun i _ => by rw [ds_apply x0 x1 x2 h i c (q i) K (hq i) hK, q_apply, dkTerm]

theorem dq_apply (h : Fin 4) (s : Fin 4096) (d : Fin 256) (q : Fin 256 → ℝ) (K : Fin 256 → Fin 256 → ℝ)
    (hq : hd x0 h s = fun d => (q d : EReal)) (hK : hd (keysOf x1) h = fun k d => (K k d : EReal)) :
    val_main_v64 (F := Ideal) x0 x1 x2 (ix3 s h d) = dqAt x0 (keysOf x1) (valsOf x1) x2 s h d := by
  pointwise [val_main_v64, val_main_v63]
  exact Finset.sum_congr rfl fun c _ => by rw [ds_apply x0 x1 x2 h s c q K hq hK, k_apply]

/-- The queries and the keys are numbers. -/
def Finite : Prop := (∀ i, ∃ r : ℝ, x0 i = (r : EReal)) ∧ ∀ i, ∃ r : ℝ, keysOf x1 i = (r : EReal)

variable {x0 x1} in
theorem Finite.q (hf : Finite x0 x1) : ∃ q : Fin 4 → Fin 4096 → Fin 256 → ℝ, ∀ h s, hd x0 h s = fun d => (q h s d : EReal) := by
  choose r hr using hf.1
  exact ⟨fun h s d => r (ix2 s (col h d)), fun h s => funext fun d => hr _⟩

variable {x0 x1} in
theorem Finite.k (hf : Finite x0 x1) :
    ∃ K : Fin 4 → Fin 256 → Fin 256 → ℝ, ∀ h, hd (keysOf x1) h = fun k d => (K h k d : EReal) := by
  choose r hr using hf.2
  exact ⟨fun h s d => r (ix2 s (col h d)), fun h => funext fun s => funext fun d => hr _⟩

theorem res0_ix (hf : Finite x0 x1) (s : Fin 4096) (d : Fin 1024) :
    val_main_v69 (F := Ideal) x0 x1 x2 (ix2 s d) = dqAt x0 (keysOf x1) (valsOf x1) x2 s (hof d) (dof d) := by
  obtain ⟨q, hq⟩ := hf.q
  obtain ⟨K, hK⟩ := hf.k
  rw [← dq_apply x0 x1 x2 _ _ _ _ _ (hq (hof d) s) (hK (hof d))]
  pointwise [val_main_v69, val_main_v67]
  rfl

/-- The reference's first result: the gradient of the queries. -/
theorem res0 (hf : Finite x0 x1) (y : S4096x1024.Idx) :
    val_main_v69 (F := Ideal) x0 x1 x2 y = dqAt x0 (keysOf x1) (valsOf x1) x2 (y 0) (hof (y 1)) (dof (y 1)) := by
  have h := res0_ix x0 x1 x2 hf (y 0) (y 1)
  rw [ix2_eta] at h
  exact h

theorem dk2_apply (hf : Finite x0 x1) (c : Fin 256) (d : Fin 1024) :
    val_main_v66 (F := Ideal) x0 x1 x2 (ix2 c d) = ∑ i, dkTerm x0 (keysOf x1) (valsOf x1) x2 c (hof d) (dof d) i := by
  obtain ⟨q, hq⟩ := hf.q
  obtain ⟨K, hK⟩ := hf.k
  rw [← dk_apply x0 x1 x2 _ _ _ _ _ (hq (hof d)) (hK (hof d))]
  pointwise [val_main_v66]
  rfl

theorem dv2_apply (c : Fin 256) (d : Fin 1024) :
    val_main_v65 (F := Ideal) x0 x1 x2 (ix2 c d) = ∑ i, dvTerm x0 (keysOf x1) x2 c (hof d) (dof d) i := by
  rw [← dv_apply x0 x1 x2]
  pointwise [val_main_v65]
  rfl

theorem res1_ix (hf : Finite x0 x1) (c : Fin 256) (e : Fin 2048) :
    val_main_v68 (F := Ideal) x0 x1 x2 (ix2 c e) = ∑ i, dkvTerm x0 (keysOf x1) (valsOf x1) x2 c e i := by
  unfold dkvTerm
  by_cases h : e.val < 1024
  · simp only [dif_pos h]
    rw [← dk2_apply x0 x1 x2 hf]
    unfold val_main_v68
    generalize val_main_v65 (F := Ideal) x0 x1 x2 = u
    generalize val_main_v66 (F := Ideal) x0 x1 x2 = w
    exact concatenate_pair_apply_left (t := S256x2048) (s₁ := S256x1024) (s₂ := S256x1024) 1 w u _ _ rfl _ (fun b => by
      match b with
      | ⟨0, _⟩ => rfl
      | ⟨1, _⟩ => rfl)
  · simp only [dif_neg h]
    rw [← dv2_apply x0 x1 x2]
    unfold val_main_v68
    generalize val_main_v65 (F := Ideal) x0 x1 x2 = u
    generalize val_main_v66 (F := Ideal) x0 x1 x2 = w
    exact concatenate_pair_apply_right (t := S256x2048) (s₁ := S256x1024) (s₂ := S256x1024) 1 w u _ _ rfl rfl _
      (fun b hb => by
        match b with
        | ⟨0, _⟩ => rfl
        | ⟨1, _⟩ => exact absurd rfl hb)
      (by show e.val - 1024 + 1024 = e.val; omega)

/-- The reference's second result: the gradient of the joined keys and values. -/
theorem res1 (hf : Finite x0 x1) (y : S256x2048.Idx) :
    val_main_v68 (F := Ideal) x0 x1 x2 y = ∑ i, dkvTerm x0 (keysOf x1) (valsOf x1) x2 (y 0) (y 1) i := by
  have h := res1_ix x0 x1 x2 hf (y 0) (y 1)
  rw [ix2_eta] at h
  exact h

end Cert.ReferenceIdeal.Grad
-- ==== Proof.AttnPre.lean ====
module

public import proofs.«01_k».proof.Defs
public import proofs.«01_k».proof.Proof.AttnRef

@[expose] public section
noncomputable section

open Idealize.ShloMosaic Idealize.ShloMosaic.TcCoe Idealize.SL.Sem
open Cert.AttnMath

/-! The precondition: the queries and the keys are numbers. -/

namespace Cert.Pre_finite_qk

/-- The side conditions that the predicate states. -/
theorem facts : Facts where
  slices_S256x2048_S256x1024_0_0 := by decide
  bcast_S_S4096x1024 := by decide
  bcast_S_S256x1024 := by decide

/-- The words of minus and plus infinity, in bf16. -/
theorem ofBits_ninf : Ideal.ofBits .bf16 0xFF80#16 = ⊥ := by simp [Ideal.ofBits, Ideal.ieee]
theorem ofBits_inf : Ideal.ofBits .bf16 0x7F80#16 = ⊤ := by simp [Ideal.ofBits, Ideal.ieee]

/-- A value strictly between the infinities is a number. -/
theorem real_of (x : EReal) (h : IntOp.andi (FloatOps.cmpf (F := Ideal) (φ := .bf16) .ogt x (Ideal.ofBits .bf16 0xFF80#16))
    (FloatOps.cmpf (F := Ideal) (φ := .bf16) .olt x (Ideal.ofBits .bf16 0x7F80#16)) = 1#1) : ∃ r : ℝ, x = (r : EReal) := by
  rw [ofBits_ninf, ofBits_inf] at h
  have hb : ∀ a b : BitVec 1, IntOp.andi a b = 1#1 → a = 1#1 ∧ b = 1#1 := by decide
  obtain ⟨ha, hb⟩ := hb _ _ h
  induction x with
  | bot => exact absurd ha (by simp [FloatOps.cmpf, Ideal.cmp])
  | top => exact absurd hb (by simp [FloatOps.cmpf, Ideal.cmp])
  | coe r => exact ⟨r, rfl⟩

variable [Facts]

/-- Under the precondition the queries and the keys are numbers. -/
theorem finite_of (x0 : FVec Ideal S4096x1024 .bf16) (x1 : FVec Ideal S256x2048 .bf16) (x2 : FVec Ideal S4096x1024 .bf16)
    (h0 : (fn (F := Ideal) x0 x1 x2).1 = fun _ => 1#1) (h1 : (fn (F := Ideal) x0 x1 x2).2 = fun _ => 1#1) :
    Cert.ReferenceIdeal.Grad.Finite x0 x1 := by
  refine ⟨fun i => real_of _ ?_, fun i => real_of _ ?_⟩
  · exact congrFun h0 i
  · have := congrFun h1 i
    rw [← this]
    have e : extractStridedSlice S256x1024 ![0, 0] x1 Facts.slices_S256x2048_S256x1024_0_0 i = keysOf x1 i := by
      pointwise []
      rfl
    rw [← e]
    rfl
end Cert.Pre_finite_qk
-- ==== Proof.AttnPay.lean ====
module

public import proofs.«01_k».proof.Proof.Gen.KernelIdeal.Value
public import proofs.«01_k».proof.Proof.AttnMath
public import Idealize.ShloMosaic.Lib.Pointwise

@[expose] public section
noncomputable section

open Idealize.ShloMosaic Idealize.ShloMosaic.TcCoe Idealize.SL.Sem
open Cert.AttnMath

/-! What one head's part of the kernel's body computes, read at an index: the four heads run the same text, so each is
first shown to be the first head's. -/

namespace Cert.KernelIdeal.Blocks

open Cert.KernelIdeal Cert.KernelIdeal.Gen

section Heads
variable {F : FTy → Type} [FloatOps F]
variable (q : Vec F S1024x256 .bf16) (k v : Vec F S256x256 .bf16) (g : Vec F S1024x256 .bf16) (acc : Vec F S256x256 .f32)

/-- The gradient of the queries, one head. -/
abbrev hdq : FVec F S1024x256 .bf16 := k0_pay10 q k v g
/-- The gradient of the keys, one head, added to what is there. -/
abbrev hdk : FVec F S256x256 .f32 := k0_pay12 q (k0_pay9 q k v g) (k0_pay11 acc)
/-- The gradient of the values, one head, added to what is there. -/
abbrev hdv : FVec F S256x256 .f32 := k0_pay13 g (k0_pay8 q k) acc

theorem dq1 : k0_pay17 k (k0_pay16 q k v g) = hdq q k v g := rfl
theorem dq2 : k0_pay24 k (k0_pay20 q k) (k0_pay22 v g) = hdq q k v g := rfl
theorem dq3 : k0_pay3 k v g (k0_pay27 q k) (k0_pay28 q k) = hdq q k v g := rfl
theorem dk1 : k0_pay18 q (k0_pay16 q k v g) acc = hdk q k v g acc := rfl
theorem dk2 : k0_pay25 q (k0_pay20 q k) (k0_pay22 v g) acc = hdk q k v g acc := rfl
theorem dk3 : k0_pay4 q v g (k0_pay27 q k) (k0_pay28 q k) acc = hdk q k v g acc := rfl
theorem dv1 : k0_pay19 g (k0_pay15 q k) acc = hdv q k g acc := rfl
theorem dv2 : k0_pay26 g (k0_pay21 q k) acc = hdv q k g acc := rfl
theorem dv3 : k0_pay5 g (k0_pay27 q k) (k0_pay28 q k) acc = hdv q k g acc := rfl

end Heads

theorem ofBits_ninf : Ideal.ofBits .f32 0xFF800000#32 = ⊥ := by simp [Ideal.ofBits, Ideal.ieee]

variable (q : Vec Ideal S1024x256 .bf16) (k v : Vec Ideal S256x256 .bf16) (g : Vec Ideal S1024x256 .bf16)
  (acc : Vec Ideal S256x256 .f32)

/-- The rows of an array of one head's columns. -/
abbrev rows {n m : ℕ} (x : (⟨2, ![n, m]⟩ : Shape).Idx → EReal) (r : Fin n) (d : Fin m) : EReal := x (ix2 r d)

theorem pay7_apply (j : S1024x256.Idx) : k0_pay7 (F := Ideal) q k j = prow (rows q (j 0)) (rows k) (j 1) := by
  pointwise [k0_pay7]
  rw [ofBits_ninf]
  rfl

theorem pay8_apply (j : S1024x256.Idx) : k0_pay8 (F := Ideal) q k j = prow (rows q (j 0)) (rows k) (j 1) :=
  pay7_apply q k j

theorem pay9_apply (j : S1024x256.Idx) :
    k0_pay9 (F := Ideal) q k v g j = drow (rows q (j 0)) (rows k) (rows v) (rows g (j 0)) (j 1) := by
  pointwise [k0_pay9]
  simp only [pay7_apply]
  rfl

theorem hdq_apply (j : S1024x256.Idx) :
    hdq (F := Ideal) q k v g j
      = ∑ c, drow (rows q (j 0)) (rows k) (rows v) (rows g (j 0)) c * rows k c (j 1) := by
  pointwise [hdq, k0_pay10]
  simp only [pay9_apply]
  rfl

theorem hdk_apply (j : S256x256.Idx) :
    hdk (F := Ideal) q k v g acc j
      = acc j + ∑ r, drow (rows q r) (rows k) (rows v) (rows g r) (j 0) * rows q r (j 1) := by
  pointwise [hdk, k0_pay12, k0_pay11]
  simp only [pay9_apply]
  rfl

theorem hdv_apply (j : S256x256.Idx) :
    hdv (F := Ideal) q k g acc j = acc j + ∑ r, prow (rows q r) (rows k) (j 0) * rows g r (j 1) := by
  pointwise [hdv, k0_pay13]
  simp only [pay8_apply]
  rfl

end Cert.KernelIdeal.Blocks
-- ==== Proof.AttnBlock.lean ====
module

public import proofs.«01_k».proof.Proof.AttnPay
public import Idealize.ShloMosaic.Lib.Pipeline.ValueKit.Tiles
public import Idealize.ShloMosaic.Lib.Pipeline.ReadBack

@[expose] public section
noncomputable section

open Idealize.ShloMosaic Idealize.ShloMosaic.TcCoe Idealize.SL.Sem
open Cert.AttnMath

/-! What one grid point leaves in the two output blocks, at an index: the queries' gradient of the point's rows, and the
keys' and values' gradient with the point's rows added. -/

namespace Cert.KernelIdeal.Blocks

open Cert.KernelIdeal Cert.KernelIdeal.Gen

theorem zero2 : ∀ a : Fin 2, (![0, 0] : Fin 2 → ℕ) a = 0 := by decide

/-- A load of 256 columns reads one head. -/
theorem rows_ld {n : ℕ} (x : Vec Ideal ⟨2, ![n, 1024]⟩ .bf16) (h : Fin 4) (o : ℕ) (ho : o = 256 * h.val)
    (inb : ∀ a : Fin 2, (![0, o] : Fin 2 → ℕ) a + (![n, 256] : Fin 2 → ℕ) a ≤ (⟨2, ![n, 1024]⟩ : Shape).size a) :
    rows (n := n) (m := 256) (View.ld x (Rect.unit (s := ⟨2, ![n, 1024]⟩) ![0, o] ![n, 256] inb)) = hd x h := by
  funext i d
  exact View.ld_unit_apply_of x _ _ inb (ix2 i d) (ix2 i (col h d)) (by intro a; fin_cases a <;> simp [col, ho, ix2])

variable (c : Dev nD) (i : grid0.Coords) (a1 : Memref sig .tc .vmem S1024x1024 .bf16) (h1 : a1.IsWhole)
  (a2 : Memref sig .tc .vmem S256x1024 .bf16) (h2 : a2.IsWhole) (a3 : Memref sig .tc .vmem S256x1024 .bf16) (h3 : a3.IsWhole)
  (a4 : Memref sig .tc .vmem S1024x1024 .bf16) (h4 : a4.IsWhole) (a5 : Memref sig .tc .vmem S1024x1024 .bf16) (h5 : a5.IsWhole)
  (a6 : Memref sig .tc .vmem S256x2048 .f32) (h6 : a6.IsWhole)
  (x0 : Vec Ideal S1024x1024 .bf16) (x1 : Vec Ideal S256x1024 .bf16) (x2 : Vec Ideal S256x1024 .bf16) (x3 : Vec Ideal S1024x1024 .bf16)
  (xo5 : Vec Ideal S256x2048 .f32)

section Pieces
variable (h : Fin 4) (o : ℕ) (ho : o = 256 * h.val)
  (inbL : ∀ a : Fin 2, (![0, o] : Fin 2 → ℕ) a + (![1024, 256] : Fin 2 → ℕ) a ≤ S1024x1024.size a)
  (inbS : ∀ a : Fin 2, (![0, o] : Fin 2 → ℕ) a + (![256, 256] : Fin 2 → ℕ) a ≤ S256x1024.size a)
  (e : ℕ) (inbO : ∀ a : Fin 2, (![0, e] : Fin 2 → ℕ) a + (![256, 256] : Fin 2 → ℕ) a ≤ S256x2048.size a)
include ho

/-- One head's store of the queries' gradient. -/
theorem piece_q (x : S1024x256.Idx) (y : S1024x1024.Idx) (hy0 : (y 0 : ℕ) = x 0) (hy1 : (y 1 : ℕ) = o + x 1) :
    hdq (F := Ideal) (View.ld x0 (Rect.unit ![0, o] ![1024, 256] inbL)) (View.ld x1 (Rect.unit ![0, o] ![256, 256] inbS))
        (View.ld x2 (Rect.unit ![0, o] ![256, 256] inbS)) (View.ld x3 (Rect.unit ![0, o] ![1024, 256] inbL)) x
      = dqAt x0 x1 x2 x3 (y 0) (hof (y 1)) (dof (y 1)) := by
  have e0 : y 0 = x 0 := Fin.ext hy0
  rw [hof_eq (y 1) h (x 1) (by omega), dof_eq (y 1) h (x 1) (by omega), e0]
  refine (hdq_apply _ _ _ _ x).trans ?_
  rw [rows_ld x0 h o ho inbL, rows_ld x1 h o ho inbS, rows_ld x2 h o ho inbS, rows_ld x3 h o ho inbL]
  rfl

/-- One head's store of the keys' gradient. -/
theorem piece_k (he : e = 256 * h.val) (x : S256x256.Idx) (y : S256x2048.Idx) (hy0 : (y 0 : ℕ) = x 0) (hy1 : (y 1 : ℕ) = e + x 1) :
    hdk (F := Ideal) (View.ld x0 (Rect.unit ![0, o] ![1024, 256] inbL)) (View.ld x1 (Rect.unit ![0, o] ![256, 256] inbS))
        (View.ld x2 (Rect.unit ![0, o] ![256, 256] inbS)) (View.ld x3 (Rect.unit ![0, o] ![1024, 256] inbL))
        (View.ld xo5 (Rect.unit ![0, e] ![256, 256] inbO)) x
      = xo5 y + ∑ r, dkvTerm x0 x1 x2 x3 (y 0) (y 1) r := by
  have e0 : y 0 = x 0 := Fin.ext hy0
  have hld : View.ld xo5 (Rect.unit ![0, e] ![256, 256] inbO) x = xo5 y :=
    View.ld_unit_apply_of xo5 _ _ inbO x y (by intro a; fin_cases a <;> simp [hy0, hy1])
  rw [dkvTerm_k x0 x1 x2 x3 (y 0) (y 1) h (x 1) (by omega), e0, ← hld]
  refine (hdk_apply _ _ _ _ _ x).trans ?_
  rw [rows_ld x0 h o ho inbL, rows_ld x1 h o ho inbS, rows_ld x2 h o ho inbS, rows_ld x3 h o ho inbL]
  rfl

/-- One head's store of the values' gradient. -/
theorem piece_v (he : e = 1024 + 256 * h.val) (x : S256x256.Idx) (y : S256x2048.Idx) (hy0 : (y 0 : ℕ) = x 0) (hy1 : (y 1 : ℕ) = e + x 1) :
    hdv (F := Ideal) (View.ld x0 (Rect.unit ![0, o] ![1024, 256] inbL)) (View.ld x1 (Rect.unit ![0, o] ![256, 256] inbS))
        (View.ld x3 (Rect.unit ![0, o] ![1024, 256] inbL)) (View.ld xo5 (Rect.unit ![0, e] ![256, 256] inbO)) x
      = xo5 y + ∑ r, dkvTerm x0 x1 x2 x3 (y 0) (y 1) r := by
  have e0 : y 0 = x 0 := Fin.ext hy0
  have hld : View.ld xo5 (Rect.unit ![0, e] ![256, 256] inbO) x = xo5 y :=
    View.ld_unit_apply_of xo5 _ _ inbO x y (by intro a; fin_cases a <;> simp [hy0, hy1])
  rw [dkvTerm_v x0 x1 x2 x3 (y 0) (y 1) h (x 1) (by omega), e0, ← hld]
  refine (hdv_apply _ _ _ _ x).trans ?_
  rw [rows_ld x0 h o ho inbL, rows_ld x1 h o ho inbS, rows_ld x3 h o ho inbL]
  rfl

end Pieces

theorem out_B5 (hc0 : ¬cond0_0 i) (y : S256x2048.Idx) :
    out0_B_5 (F := Ideal) c i a1 h1 a2 h2 a3 h3 a4 h4 a5 h5 a6 h6 hc0 x0 x1 x2 x3 xo5 y
      = xo5 y + ∑ r, dkvTerm x0 x1 x2 x3 (y 0) (y 1) r := by
  unfold out0_B_5
  rw [View.read_writes_eq_canon _ _ _ (cover0_B_5 c i a1 h1 a2 h2 a3 h3 a4 h4 a5 h5 a6 h6 hc0 x0 x1 x2 x3 xo5)]
  unfold kernelRun0_B
  dsimp only
  sl_unfold_words
  simp only [View.readAt_eq_ld, h1.read_unread, h2.read_unread, h3.read_unread, h4.read_unread, h6.read_unread]
  canon_tiles x hx
  · exact piece_v x0 x1 x2 x3 xo5 3 768 rfl _ _ 1792 _ rfl x y hx0 hx1
  · exact piece_k x0 x1 x2 x3 xo5 3 768 rfl _ _ 768 _ rfl x y hx0 hx1
  · exact piece_v x0 x1 x2 x3 xo5 2 512 rfl _ _ 1536 _ rfl x y hx0 hx1
  · exact piece_k x0 x1 x2 x3 xo5 2 512 rfl _ _ 512 _ rfl x y hx0 hx1
  · exact piece_v x0 x1 x2 x3 xo5 1 256 rfl _ _ 1280 _ rfl x y hx0 hx1
  · exact piece_k x0 x1 x2 x3 xo5 1 256 rfl _ _ 256 _ rfl x y hx0 hx1
  · exact piece_v x0 x1 x2 x3 xo5 0 0 rfl _ _ 1024 _ rfl x y hx0 hx1
  · exact piece_k x0 x1 x2 x3 xo5 0 0 rfl _ _ 0 _ rfl x y hx0 (by omega)

theorem out_B4 (hc0 : ¬cond0_0 i) (y : S1024x1024.Idx) :
    out0_B_4 (F := Ideal) c i a1 h1 a2 h2 a3 h3 a4 h4 a5 h5 a6 h6 hc0 x0 x1 x2 x3 xo5 y
      = dqAt x0 x1 x2 x3 (y 0) (hof (y 1)) (dof (y 1)) := by
  unfold out0_B_4
  rw [View.read_writes_eq_canon _ _ _ (cover0_B_4 c i a1 h1 a2 h2 a3 h3 a4 h4 a5 h5 a6 h6 hc0 x0 x1 x2 x3 xo5)]
  unfold kernelRun0_B
  dsimp only
  sl_unfold_words
  simp only [View.readAt_eq_ld, h1.read_unread, h2.read_unread, h3.read_unread, h4.read_unread, h6.read_unread]
  canon_tiles x hx
  · exact piece_q x0 x1 x2 x3 3 768 rfl _ _ x y hx0 hx1
  · exact piece_q x0 x1 x2 x3 2 512 rfl _ _ x y hx0 hx1
  · exact piece_q x0 x1 x2 x3 1 256 rfl _ _ x y hx0 hx1
  · exact piece_q x0 x1 x2 x3 0 0 rfl _ _ x y hx0 (by omega)

theorem out_A4 (hc0 : cond0_0 i) (y : S1024x1024.Idx) :
    out0_A_4 (F := Ideal) c i a1 h1 a2 h2 a3 h3 a4 h4 a5 h5 a6 h6 hc0 x0 x1 x2 x3 y
      = dqAt x0 x1 x2 x3 (y 0) (hof (y 1)) (dof (y 1)) := by
  unfold out0_A_4
  rw [View.read_writes_eq_canon _ _ _ (cover0_A_4 c i a1 h1 a2 h2 a3 h3 a4 h4 a5 h5 a6 h6 hc0 x0 x1 x2 x3)]
  unfold kernelRun0_A
  dsimp only
  sl_unfold_words
  simp only [View.readAt_eq_ld, h1.read_unread, h2.read_unread, h3.read_unread, h4.read_unread, h6.read_unread]
  canon_tiles x hx
  · exact piece_q x0 x1 x2 x3 3 768 rfl _ _ x y hx0 hx1
  · exact piece_q x0 x1 x2 x3 2 512 rfl _ _ x y hx0 hx1
  · exact piece_q x0 x1 x2 x3 1 256 rfl _ _ x y hx0 hx1
  · exact piece_q x0 x1 x2 x3 0 0 rfl _ _ x y hx0 (by omega)

theorem out_A5 (hc0 : cond0_0 i) (y : S256x2048.Idx) :
    out0_A_5 (F := Ideal) c i a1 h1 a2 h2 a3 h3 a4 h4 a5 h5 a6 h6 hc0 x0 x1 x2 x3 y
      = k0_pay6 (F := Ideal) y + ∑ r, dkvTerm x0 x1 x2 x3 (y 0) (y 1) r := by
  unfold out0_A_5
  rw [View.read_writes_eq_canon _ _ _ (cover0_A_5 c i a1 h1 a2 h2 a3 h3 a4 h4 a5 h5 a6 h6 hc0 x0 x1 x2 x3)]
  unfold kernelRun0_A
  dsimp only
  sl_unfold_words
  simp only [View.readAt_eq_ld, h1.read_unread, h2.read_unread, h3.read_unread, h4.read_unread, h6.read_unread]
  simp (disch := first | decide +kernel | exact zero2) only [↓View.readCov_skip, ↓View.readCov_fill]
  refine View.canon_append_of_piecesOf (Val := Elt Ideal) (s := S256x2048) (e := .f32)
    (fun y => k0_pay6 (F := Ideal) y + ∑ r, dkvTerm x0 x1 x2 x3 (y 0) (y 1) r) [_] [_, _, _, _, _, _, _, _] ?_ y ?_
  · refine ⟨?_, ?_, ?_, ?_, ?_, ?_, ?_, ?_, trivial⟩ <;> intro x
    · exact piece_v x0 x1 x2 x3 (k0_pay6 (F := Ideal)) 3 768 rfl _ _ 1792 inb_S256x2048_S256x256_0_1792 rfl x _ (by simp) (by simp)
    · exact piece_k x0 x1 x2 x3 (k0_pay6 (F := Ideal)) 3 768 rfl _ _ 768 inb_S256x2048_S256x256_0_768 rfl x _ (by simp) (by simp)
    · exact piece_v x0 x1 x2 x3 (k0_pay6 (F := Ideal)) 2 512 rfl _ _ 1536 inb_S256x2048_S256x256_0_1536 rfl x _ (by simp) (by simp)
    · exact piece_k x0 x1 x2 x3 (k0_pay6 (F := Ideal)) 2 512 rfl _ _ 512 inb_S256x2048_S256x256_0_512 rfl x _ (by simp) (by simp)
    · exact piece_v x0 x1 x2 x3 (k0_pay6 (F := Ideal)) 1 256 rfl _ _ 1280 inb_S256x2048_S256x256_0_1280 rfl x _ (by simp) (by simp)
    · exact piece_k x0 x1 x2 x3 (k0_pay6 (F := Ideal)) 1 256 rfl _ _ 256 inb_S256x2048_S256x256_0_256 rfl x _ (by simp) (by simp)
    · exact piece_v x0 x1 x2 x3 (k0_pay6 (F := Ideal)) 0 0 rfl _ _ 1024 inb_S256x2048_S256x256_0_1024 rfl x _ (by simp) (by simp)
    · exact piece_k x0 x1 x2 x3 (k0_pay6 (F := Ideal)) 0 0 rfl _ _ 0 inb_S256x2048_S256x256_0_0 rfl x _ (by simp) (by simp)
  · exact View.cover_of_tiled_head _ _ _ (by rfl) y

theorem pay6_apply (y : S256x2048.Idx) : k0_pay6 (F := Ideal) y = 0 := by
  pointwise [k0_pay6]

end Cert.KernelIdeal.Blocks
-- ==== Proof.AttnArray.lean ====
module

public import proofs.«01_k».proof.Proof.AttnBlock
public import Idealize.ShloMosaic.Lib.Pipeline.ValueKit

@[expose] public section
noncomputable section

open Idealize.ShloMosaic Idealize.ShloMosaic.TcCoe Idealize.SL.Sem
open Cert.AttnMath

/-! The kernel's two result arrays: every point's rows of the queries' gradient, and the keys' and values' gradient summed
over all rows. -/

namespace Cert.KernelIdeal.Blocks

open Cert.KernelIdeal Cert.KernelIdeal.Gen

variable (m : (ℓ : Loc nD τ sig) → Buf (Elt Ideal) ℓ) (c : Dev nD)

/-- The queries. -/
abbrev argQ : S4096x1024.Idx → EReal := m ((c : Thread nD τ).loc main_arg0)
/-- The joined keys and values. -/
abbrev argKV : S256x2048.Idx → EReal := m ((c : Thread nD τ).loc main_arg1)
/-- The gradient of the output. -/
abbrev argG : S4096x1024.Idx → EReal := m ((c : Thread nD τ).loc main_arg2)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 1] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)

/-- Row `r` of point `t`'s rows. -/
def rowOf (t : Fin cfg0.N) (r : Fin 1024) : Fin 4096 := ⟨t.val * 1024 + r.val, by have := t.isLt; have : cfg0.N = 4 := N_0; omega⟩

theorem hd_q (t : Fin cfg0.N) (h : Fin 4) (r : Fin 1024) : hd (iblk m c 0 t) h r = hd (argQ m c) h (rowOf t r) := by
  funext d
  unfold hd
  blk_simp [iblk]
  show V m c main_arg0 _ = V m c main_arg0 _
  congr 1
  blk_ext [index0 t]
  rfl

theorem hd_g (t : Fin cfg0.N) (h : Fin 4) (r : Fin 1024) : hd (iblk m c 3 t) h r = hd (argG m c) h (rowOf t r) := by
  funext d
  unfold hd
  blk_simp [iblk]
  show V m c main_arg2 _ = V m c main_arg2 _
  congr 1
  blk_ext [index3 t]
  rfl

theorem hd_k (t : Fin cfg0.N) (h : Fin 4) : hd (iblk m c 1 t) h = hd (keysOf (argKV m c)) h := by
  funext i d
  unfold hd keysOf
  blk_simp [iblk]
  show V m c main_arg1 _ = V m c main_arg1 _
  congr 1
  blk_ext [index1 t]

theorem hd_v (t : Fin cfg0.N) (h : Fin 4) : hd (iblk m c 2 t) h = hd (valsOf (argKV m c)) h := by
  funext i d
  unfold hd valsOf
  blk_simp [iblk]
  show V m c main_arg1 _ = V m c main_arg1 _
  congr 1
  blk_ext [index2 t]

/-- The gradient of the queries. -/
def dqArr : S4096x1024.Idx → EReal := fun y =>
  dqAt (argQ m c) (keysOf (argKV m c)) (valsOf (argKV m c)) (argG m c) (y 0) (hof (y 1)) (dof (y 1))

/-- One row's part of the gradient of the keys and values. -/
def dkvRow (a : Fin 256) (e : Fin 2048) (i : Fin 4096) : EReal :=
  dkvTerm (argQ m c) (keysOf (argKV m c)) (valsOf (argKV m c)) (argG m c) a e i

/-- The gradient of the keys and values. -/
def dkvArr : S256x2048.Idx → EReal := fun y => ∑ i, dkvRow m c (y 0) (y 1) i

/-- A point's rows of the queries' gradient, from its blocks. -/
theorem dq_blk (t : Fin cfg0.N) (r : Fin 1024) (h : Fin 4) (d : Fin 256) :
    dqAt (iblk m c 0 t) (iblk m c 1 t) (iblk m c 2 t) (iblk m c 3 t) r h d
      = dqAt (argQ m c) (keysOf (argKV m c)) (valsOf (argKV m c)) (argG m c) (rowOf t r) h d := by
  unfold dqAt
  rw [hd_q, hd_k, hd_v, hd_g]

/-- A point's row's part of the keys' and values' gradient, from its blocks. -/
theorem dkv_blk (t : Fin cfg0.N) (a : Fin 256) (e : Fin 2048) (r : Fin 1024) :
    dkvTerm (iblk m c 0 t) (iblk m c 1 t) (iblk m c 2 t) (iblk m c 3 t) a e r = dkvRow m c a e (rowOf t r) := by
  unfold dkvRow dkvTerm dkTerm dvTerm
  simp only [hd_q, hd_k, hd_v, hd_g]

/-- The first output block after a point. -/
theorem outs_q (t : Fin cfg0.N) (y : S1024x1024.Idx) :
    (outsAt0 m c t.val t.isLt).1 y
      = dqAt (argQ m c) (keysOf (argKV m c)) (valsOf (argKV m c)) (argG m c) (rowOf t (y 0)) (hof (y 1)) (dof (y 1)) := by
  by_cases h : t.val % 4 = 0
  · rw [outsAt0_A m c t h]
    dsimp only
    rw [out_A4]
    exact dq_blk m c t _ _ _
  · rw [outsAt0_B m c t h]
    dsimp only
    rw [out_B4]
    exact dq_blk m c t _ _ _

/-- What the rows of point `t` add. -/
def tileSum (y : S256x2048.Idx) (t : ℕ) : EReal :=
  if h : t < cfg0.N then ∑ r, dkvRow m c (y 0) (y 1) (rowOf ⟨t, h⟩ r) else 0

/-- The second output block after point `n`: what the rows up to it add up to. -/
theorem outs_kv : ∀ (n : ℕ) (h : n < cfg0.N) (y : S256x2048.Idx),
    (outsAt0 m c n h).2 y = ∑ t ∈ Finset.range (n + 1), tileSum m c y t
  | 0, h, y => by
    rw [outsAt0_A m c ⟨0, h⟩ rfl, Finset.sum_range_one, tileSum, dif_pos h]
    dsimp only
    rw [out_A5, pay6_apply, zero_add]
    exact Finset.sum_congr rfl fun r _ => dkv_blk m c _ _ _ _
  | n + 1, h, y => by
    have hN : cfg0.N = 4 := N_0
    have hB : ¬(⟨n + 1, h⟩ : Fin cfg0.N).val % 4 = 0 := by dsimp only; omega
    rw [outsAt0_B m c ⟨n + 1, h⟩ hB, Finset.sum_range_succ, ← outs_kv n (by omega) y, tileSum, dif_pos h]
    dsimp only
    rw [out_B5]
    exact congrArg₂ (· + ·) rfl (Finset.sum_congr rfl fun r _ => dkv_blk m c _ _ _ _)

theorem final_q : (dats m 0 c).arrAt 4 cfg0.N = dqArr m c := by
  refine (dats m 0 c).arrAt_eq_of_covers 4 _ (by decide +kernel) fun t hf y => ?_
  blk_simp
  rw [after0_4]
  refine (outs_q m c t _).trans ?_
  unfold dqArr
  have e0 : (win0_4.blk t).view.emb y 0 = rowOf t (y 0) := by
    apply Fin.ext
    blk_simp [index4 t]
    rfl
  have e1 : (win0_4.blk t).view.emb y 1 = y 1 := by
    apply Fin.ext
    blk_simp [index4 t]
  rw [e0, e1]

theorem final_kv : (dats m 0 c).arrAt 5 cfg0.N = dkvArr m c := by
  refine (dats m 0 c).arrAt_eq_of_covers 5 _ (by decide +kernel) fun t hf y => ?_
  blk_simp
  rw [after0_5]
  refine (outs_kv m c t.val t.isLt _).trans ?_
  have hN : cfg0.N = 4 := N_0
  have h3 : t.val = 3 := by have := (flush0_5 t).mp hf; have := t.isLt; omega
  have e0 : (win0_5.blk t).view.emb y 0 = y 0 := by
    apply Fin.ext
    blk_simp [index5 t]
  have e1 : (win0_5.blk t).view.emb y 1 = y 1 := by
    apply Fin.ext
    blk_simp [index5 t]
  unfold dkvArr
  rw [h3, e0, e1, Fin.sum_univ_tiles 4 1024 rfl, Finset.sum_range]
  refine Finset.sum_congr rfl fun j _ => ?_
  rw [tileSum, dif_pos (by omega)]
  rfl

end Cert.KernelIdeal.Blocks
-- ==== Proof.AttnClaim.lean ====
module

public import proofs.«01_k».proof.Proof.AttnPre
public import proofs.«01_k».proof.Proof.AttnArray
public import proofs.«01_k».proof.Proof.Gen.Kernel.Frame
public import proofs.«01_k».proof.Proof.Gen.KernelIdeal.Value
public import proofs.«01_k».proof.Proof.Gen.ReferenceIdeal.Run

@[expose] public section
noncomputable section

open Idealize.ShloMosaic Idealize.ShloMosaic.TcCoe Idealize.SL.Sem

/-! The attention's gradient: kernel and reference end with the same two arrays. -/

namespace Cert.AttnClaim

attribute [local instance] Cert.Pre_finite_qk.facts

/-- The kernel runs, and leaves its arguments and every counter as they were. -/
theorem frame_kernel : Cert.quiescent_Kernel := fun m ρ _ => Cert.Kernel.Gen.frame m ρ

/-- The same of its reading over the extended reals. -/
theorem frame_ideal : Cert.quiescent_KernelIdeal := fun m ρ _ => Cert.KernelIdeal.Gen.frame m ρ

/-- The same under the precondition. -/
theorem frame_ideal_pre : Cert.quiescent_KernelIdeal_pre_finite_qk := fun m ρ _ => Cert.KernelIdeal.Gen.frame m ρ

/-- The reference's run leaves its arguments and every counter as they were. -/
theorem frame_ref : Cert.quiescent_ReferenceIdeal := fun m ρ _ =>
  (θ_run _ _ _).mono (fun r h => ⟨fun c => (h c).2.2, sem_eq_zero_of_no_sems (by decide) r.2⟩)
    (Cert.ReferenceIdeal.Value.run m ρ)

/-- The same under the precondition. -/
theorem frame_ref_pre : Cert.quiescent_ReferenceIdeal_pre_finite_qk := fun m ρ _ => frame_ref m ρ trivial

/-- The kernel's two results are the reference's. -/
theorem algebraic : Cert.algebraic_KernelIdeal_ReferenceIdeal_pre_finite_qk := by
  intro m g m' g' hpre hargs
  refine ⟨fun c => Cert.KernelIdeal.Blocks.dqArr m c, fun c => Cert.KernelIdeal.Blocks.dkvArr m c,
    (θ_run _ _ _).mono (fun r h c => ?_) (Cert.KernelIdeal.Value.run_blocks m g),
    (θ_run _ _ _).mono (fun r h c => ?_) (Cert.ReferenceIdeal.Value.run m' g')⟩
  · obtain ⟨h0, h1, h2⟩ := h c
    exact ⟨h0.trans (Cert.KernelIdeal.Blocks.final_q m c), h1.trans (Cert.KernelIdeal.Blocks.final_kv m c), h2⟩
  · obtain ⟨h0, h1, h2⟩ := h c
    obtain ⟨a0, a1, a2⟩ := hargs c
    have hf := Cert.Pre_finite_qk.finite_of _ _ _ (hpre c).1 (hpre c).2
    refine ⟨h0.trans ?_, h1.trans ?_, h2⟩
    · rw [Cert.ReferenceIdeal.Read.val_main_v69_eq, a0, a1, a2]
      exact funext fun y => Cert.ReferenceIdeal.Grad.res0 _ _ _ hf y
    · rw [Cert.ReferenceIdeal.Read.val_main_v68_eq, a0, a1, a2]
      exact funext fun y => Cert.ReferenceIdeal.Grad.res1 _ _ _ hf y

end Cert.AttnClaim
-- ==== Proof.HiddenBlock.lean ====
module

public import proofs.«01_k».proof.Proof.Gen.KernelHiddenIdeal.Value
public import Idealize.ShloMosaic.Lib.Pointwise
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The gradient of the feed-forward's hidden units: the result array of the kernel, at an index. -/

namespace Cert.HiddenMath

/-- One entry: a row of the output's gradient against a row of the weights, times the activation's slope. -/
def cell (g w : Fin 1024 → EReal) (a : EReal) : EReal := (∑ k, g k * w k) * (Ideal.ofBits .f32 0x40000000#32 * max a 0)

end Cert.HiddenMath

namespace Cert.KernelHiddenIdeal.Blocks

open Cert.KernelHiddenIdeal Cert.KernelHiddenIdeal.Gen Cert.HiddenMath

theorem pay_apply (v0 v1 v3 : Vec Ideal S1024x1024 .bf16) (j : S1024x1024.Idx) :
    k0_pay1 (F := Ideal) v0 v1 v3 j = cell (fun k => v0 (ix2 (j 0) k)) (fun k => v1 (ix2 (j 1) k)) (v3 j) := by
  pointwise [k0_pay1]
  rfl

/-- What a point leaves in the output block. -/
theorem out_apply (x0 x1 x2 : Vec Ideal S1024x1024 .bf16) (y : S1024x1024.Idx) :
    out0_3 x0 x1 x2 y = cell (fun k => x0 (ix2 (y 0) k)) (fun k => x1 (ix2 (y 1) k)) (x2 y) := by
  unfold out0_3
  have e : ∀ x : Vec Ideal S1024x1024 .bf16, View.ld x r0_0 = x := fun x => View.ld_unit_lit inb_S1024x1024_S1024x1024_0_0 x (by decide)
  rw [e, e, e]
  canon_tiles x hx
  have e : x = y := funext fun a => by
    match a with
    | ⟨0, _⟩ => exact Fin.ext hx0.symm
    | ⟨1, _⟩ => exact Fin.ext hx1.symm
  rw [pay_apply, e]

variable (m : (ℓ : Loc nD τ sig) → Buf (Elt Ideal) ℓ) (c : Dev nD)

/-- The gradient of the feed-forward's output. -/
abbrev argG : S4096x1024.Idx → EReal := m ((c : Thread nD τ).loc main_arg0)
/-- The weights. -/
abbrev argW : S4096x1024.Idx → EReal := m ((c : Thread nD τ).loc main_arg1)
/-- The hidden units before the activation. -/
abbrev argA : S4096x4096.Idx → EReal := m ((c : Thread nD τ).loc main_arg2)

theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, t.val % 4] := (by decide +kernel : ∀ t : Fin grid0.N, _)
theorem index3 : ∀ t : Fin cfg0.N, win0_3.index t = ![t.val / 4, t.val % 4] := (by decide +kernel : ∀ t : Fin grid0.N, _)

/-- The result. -/
def arr : S4096x4096.Idx → EReal := fun y =>
  cell (fun k => argG m c (ix2 (y 0) k)) (fun k => argW m c (ix2 (y 1) k)) (argA m c y)

theorem final : (dats m 0 c).arrAt 3 cfg0.N = arr m c := by
  refine (dats m 0 c).arrAt_eq_of_covers 3 _ (by decide +kernel) fun t hf y => ?_
  blk_simp
  rw [after0_3]
  refine (out_apply _ _ _ _).trans ?_
  unfold arr
  congr 1
  · funext k
    blk_simp [iblk]
    show V m c main_arg0 _ = V m c main_arg0 _
    congr 1
    blk_ext [index0 t, index3 t]
  · funext k
    blk_simp [iblk]
    show V m c main_arg1 _ = V m c main_arg1 _
    congr 1
    blk_ext [index1 t, index3 t]

end Cert.KernelHiddenIdeal.Blocks
-- ==== Proof.HiddenClaim.lean ====
module

public import proofs.«01_k».proof.Defs
public import proofs.«01_k».proof.Proof.HiddenBlock
public import proofs.«01_k».proof.Proof.Gen.KernelHidden.Frame
public import proofs.«01_k».proof.Proof.Gen.ReferenceHiddenIdeal.Run
public import proofs.«01_k».proof.Proof.Gen.ReferenceHiddenIdeal.Read

@[expose] public section
noncomputable section

open Idealize.ShloMosaic Idealize.ShloMosaic.TcCoe Idealize.SL.Sem

/-! The gradient of the feed-forward's hidden units: kernel and reference end with the same array. -/

namespace Cert.ReferenceHiddenIdeal.Grad

open Cert.ReferenceHiddenIdeal Cert.ReferenceHiddenIdeal.Gen Cert.ReferenceHiddenIdeal.Read Cert.HiddenMath

variable (x0 x1 : (⟨S4096x1024, .bf16⟩ : BufTy).Contents (Elt Ideal)) (x2 : (⟨S4096x4096, .bf16⟩ : BufTy).Contents (Elt Ideal))

/-- The slope of the squared rectifier, taken where the unit is positive and zero elsewhere, is the rectifier doubled. -/
theorem slope (u t a : EReal) : (if 0 < a then u * (t * max a 0) else 0) = u * (t * max a 0) := by
  by_cases h : 0 < a
  · rw [if_pos h]
  · rw [if_neg h, max_eq_right (not_lt.mp h), mul_zero, mul_zero]

theorem res_ix (s : Fin 4096) (f : Fin 4096) :
    val_main_v15 (F := Ideal) x0 x1 x2 (ix2 s f)
      = cell (fun k => x0 (ix2 s k)) (fun k => x1 (ix2 f k)) (x2 (ix2 s f)) := by
  unfold cell
  rw [← slope]
  pointwise [val_main_v15, val_main_v14, val_main_v13, val_main_v12, val_main_v11, val_main_v9, val_main_v5, val_main_v3,
    val_main_v4, val_main_v8, val_main_v2, val_main_v0, val_main_v1, val_main_call0_v0, val_main_cst_2, val_main_cst,
    val_main_cst_1, val_main_call0_cst]

/-- The reference's result. -/
theorem res (y : S4096x4096.Idx) :
    val_main_v15 (F := Ideal) x0 x1 x2 y = cell (fun k => x0 (ix2 (y 0) k)) (fun k => x1 (ix2 (y 1) k)) (x2 y) := by
  have h := res_ix x0 x1 x2 (y 0) (y 1)
  rw [ix2_eta] at h
  exact h

end Cert.ReferenceHiddenIdeal.Grad

namespace Cert.HiddenClaim

/-- The kernel runs, and leaves its arguments and every counter as they were. -/
theorem frame_kernel (h : Cert.KernelHidden.Facts) : Cert.quiescent_KernelHidden (hKernelHidden := h) :=
  fun m ρ _ => Cert.KernelHidden.Gen.frame m ρ

/-- The same of its reading over the extended reals. -/
theorem frame_ideal (h : Cert.KernelHiddenIdeal.Facts) : Cert.quiescent_KernelHiddenIdeal (hKernelHiddenIdeal := h) :=
  fun m ρ _ => Cert.KernelHiddenIdeal.Gen.frame m ρ

/-- The reference's run leaves its arguments and every counter as they were. -/
theorem frame_ref (h : Cert.ReferenceHiddenIdeal.Facts) : Cert.quiescent_ReferenceHiddenIdeal (hReferenceHiddenIdeal := h) :=
  fun m ρ _ => (θ_run _ _ _).mono (fun r h => ⟨fun c => (h c).2, sem_eq_zero_of_no_sems (by decide) r.2⟩)
    (Cert.ReferenceHiddenIdeal.Value.run m ρ)

/-- The kernel's result is the reference's. -/
theorem algebraic (h : Cert.KernelHiddenIdeal.Facts) (h' : Cert.ReferenceHiddenIdeal.Facts) :
    Cert.algebraic_KernelHiddenIdeal_ReferenceHiddenIdeal (hKernelHiddenIdeal := h) (hReferenceHiddenIdeal := h') := by
  intro m g m' g' hpre hargs
  refine ⟨fun c => Cert.KernelHiddenIdeal.Blocks.arr m c,
    (θ_run _ _ _).mono (fun r h c => ?_) (Cert.KernelHiddenIdeal.Value.run_blocks m g),
    (θ_run _ _ _).mono (fun r h c => ?_) (Cert.ReferenceHiddenIdeal.Value.run m' g')⟩
  · obtain ⟨h0, h1⟩ := h c
    exact ⟨h0.trans (Cert.KernelHiddenIdeal.Blocks.final m c), h1⟩
  · obtain ⟨h0, h1⟩ := h c
    obtain ⟨a0, a1, a2⟩ := hargs c
    refine ⟨h0.trans ?_, h1⟩
    rw [Cert.ReferenceHiddenIdeal.Read.val_main_v15_eq, a0, a1, a2]
    exact funext fun y => Cert.ReferenceHiddenIdeal.Grad.res _ _ _ y

end Cert.HiddenClaim
-- ==== Proof.TileSum.lean ====
module

public import Mathlib.Data.EReal.Operations
public import Mathlib.Algebra.BigOperators.Fin

@[expose] public section
noncomputable section

/-! An accumulator over runs of four steps: it starts at a run's first part and each later step adds its part. -/

namespace Cert.TileSum

/-- After a step of a run but the last, the accumulator is the sum of the run's parts so far. -/
theorem acc_eq {N : ℕ} (f : (n : ℕ) → n < N → EReal) (p : ℕ → EReal)
    (first : ∀ n h, n % 4 = 0 → f n h = p n)
    (next : ∀ n h, (n + 1) % 4 ≠ 0 → (n + 1) % 4 ≠ 3 → f (n + 1) h = f n (Nat.lt_of_succ_lt h) + p (n + 1)) :
    ∀ (n : ℕ) (h : n < N), n % 4 ≠ 3 → f n h = ∑ j ∈ Finset.range (n % 4 + 1), p (n / 4 * 4 + j)
  | 0, h, _ => by simp [first 0 h rfl]
  | n + 1, h, hn => by
    by_cases h0 : (n + 1) % 4 = 0
    · have e : (n + 1) / 4 * 4 = n + 1 := by omega
      rw [first _ h h0, h0, Finset.sum_range_one, Nat.add_zero, e]
    · have e1 : (n + 1) / 4 * 4 + (n % 4 + 1) = n + 1 := by omega
      have e2 : (n + 1) / 4 = n / 4 := by omega
      have e3 : (n + 1) % 4 = n % 4 + 1 := by omega
      rw [next n h h0 hn, e3, Finset.sum_range_succ, e1, e2, ← acc_eq f p first next n (Nat.lt_of_succ_lt h) (by omega)]

/-- The accumulator before a run's last step, and that step's part, add up to the whole run. -/
theorem last_eq {N : ℕ} (f : (n : ℕ) → n < N → EReal) (p : ℕ → EReal)
    (first : ∀ n h, n % 4 = 0 → f n h = p n)
    (next : ∀ n h, (n + 1) % 4 ≠ 0 → (n + 1) % 4 ≠ 3 → f (n + 1) h = f n (Nat.lt_of_succ_lt h) + p (n + 1))
    (n : ℕ) (hn : n % 4 = 3) (h : n - 1 < N) : f (n - 1) h + p n = ∑ j ∈ Finset.range 4, p (n / 4 * 4 + j) := by
  have e1 : n / 4 * 4 + 3 = n := by omega
  have e2 : (n - 1) / 4 = n / 4 := by omega
  have e3 : (n - 1) % 4 + 1 = 3 := by omega
  rw [acc_eq f p first next (n - 1) h (by omega), e2, e3, Finset.sum_range_succ _ 3, e1]

/-- A value that only the last steps of runs change: the first of them sets it, each later one adds its part. -/
theorem runs_eq {N : ℕ} (f : (n : ℕ) → n < N → EReal) (p : ℕ → EReal) (first : ∀ h, f 3 h = p 3)
    (keep : ∀ n h, (n + 1) % 4 ≠ 3 → f (n + 1) h = f n (Nat.lt_of_succ_lt h))
    (add : ∀ n h, 3 ≤ n → (n + 1) % 4 = 3 → f (n + 1) h = f n (Nat.lt_of_succ_lt h) + p (n + 1)) :
    ∀ (n : ℕ) (h : n < N), 3 ≤ n → f n h = ∑ j ∈ Finset.range ((n + 1) / 4), p (j * 4 + 3)
  | 0, _, h3 => by omega
  | n + 1, h, h3 => by
    by_cases e : n + 1 = 3
    · obtain rfl : n = 2 := by omega
      simpa using first h
    · have h3' : 3 ≤ n := by omega
      by_cases h0 : (n + 1) % 4 = 3
      · have e1 : (n + 1 + 1) / 4 = (n + 1) / 4 + 1 := by omega
        have e2 : (n + 1) / 4 * 4 + 3 = n + 1 := by omega
        rw [add n h h3' h0, e1, Finset.sum_range_succ, e2, ← runs_eq f p first keep add n (Nat.lt_of_succ_lt h) h3']
      · have e1 : (n + 1 + 1) / 4 = (n + 1) / 4 := by omega
        rw [keep n h h0, e1, ← runs_eq f p first keep add n (Nat.lt_of_succ_lt h) h3']

end Cert.TileSum
-- ==== Proof.DownBlock.lean ====
module

public import proofs.«01_k».proof.Proof.Gen.KernelDownIdeal.Value
public import proofs.«01_k».proof.Proof.TileSum
public import Idealize.ShloMosaic.Lib.Pointwise
public import Idealize.ShloMosaic.Lib.Pipeline.ValueKit
public import Idealize.ShloMosaic.Lib.Pipeline.ValueKit.Tiles
public import Idealize.ShloMosaic.Lib.Pipeline.ReadBack

@[expose] public section
noncomputable section

open Idealize.ShloMosaic Idealize.ShloMosaic.TcCoe Idealize.SL.Sem

/-! The gradient of the feed-forward's second weights: the two result arrays of the kernel, at an index. -/

namespace Cert.KernelDownIdeal.Blocks

open Cert.KernelDownIdeal Cert.KernelDownIdeal.Gen

/-- An entry of the product of two blocks over their rows. -/
def prod (x0 x1 : Vec Ideal S1024x1024 .bf16) (y : S1024x1024.Idx) : EReal := ∑ k, x0 (ix2 k (y 0)) * x1 (ix2 k (y 1))

theorem pay1_apply (x0 x1 : Vec Ideal S1024x1024 .bf16) (y : S1024x1024.Idx) : k0_pay1 (F := Ideal) x0 x1 y = prod x0 x1 y := by
  pointwise [k0_pay1]
  rfl

theorem pay2_apply (v : Vec Ideal S1024x1024 .f32) (x0 x1 : Vec Ideal S1024x1024 .bf16) (y : S1024x1024.Idx) :
    k0_pay2 (F := Ideal) v x0 x1 y = v y + prod x0 x1 y := by
  pointwise [k0_pay2]
  rfl

theorem pay3_apply (v : Vec Ideal S1024x1024 .f32) (x0 x1 : Vec Ideal S1024x1024 .bf16) (y : S1024x1024.Idx) :
    k0_pay3 (F := Ideal) v x0 x1 y = v y + prod x0 x1 y := by
  pointwise [k0_pay3]
  rfl

theorem pay4_apply (v : Vec Ideal S1024x1024 .f32) (x0 x1 : Vec Ideal S1024x1024 .bf16) (y : S1024x1024.Idx) :
    k0_pay4 (F := Ideal) v x0 x1 y = v y + prod x0 x1 y := by
  pointwise [k0_pay4]
  exact pay3_apply v x0 x1 y

theorem ld_whole {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem same (x y : S1024x1024.Idx) (h0 : (y 0 : ℕ) = x 0) (h1 : (y 1 : ℕ) = x 1) : x = y := funext fun a => by
  match a with
  | ⟨0, _⟩ => exact Fin.ext h0.symm
  | ⟨1, _⟩ => exact Fin.ext h1.symm

section Points
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .bf16) (h6 : a6.IsWhole) (a7 : Memref sig .tc .vmem S1024x1024 .f32) (h7 : a7.IsWhole)
  (x0 x1 : Vec Ideal S1024x1024 .bf16) (xs : Vec Ideal S1024x1024 .f32) (y : S1024x1024.Idx)

/-- What the first point of a tile leaves in the accumulator. -/
theorem acc_A (hc0 : cond0_0 i) (hc1 : ¬cond0_1 i) (hc2 : ¬cond0_2 i) :
    sout0_A_0 (F := Ideal) c i a3 h3 a4 h4 a5 h5 a6 h6 a7 h7 hc0 hc1 hc2 x0 x1 y = prod x0 x1 y := by
  unfold sout0_A_0
  rw [View.read_writes_eq_canon _ _ _ (scover0_A_0 c i a3 h3 a4 h4 a5 h5 a6 h6 a7 h7 hc0 hc1 hc2 x0 x1)]
  unfold kernelRun0_A
  dsimp only
  sl_unfold_words
  simp only [View.readAt_eq_ld, h3.read_unread, h4.read_unread, ld_whole]
  canon_tiles x hx
  rw [same x y hx0 hx1, pay1_apply]

/-- What a middle point of a tile leaves in the accumulator. -/
theorem acc_B (hc0 : ¬cond0_0 i) (hc1 : cond0_1 i) (hc2 : ¬cond0_2 i) :
    sout0_B_0 (F := Ideal) c i a3 h3 a4 h4 a5 h5 a6 h6 a7 h7 hc0 hc1 hc2 x0 x1 xs y = xs y + prod x0 x1 y := by
  unfold sout0_B_0
  rw [View.read_writes_eq_canon _ _ _ (scover0_B_0 c i a3 h3 a4 h4 a5 h5 a6 h6 a7 h7 hc0 hc1 hc2 x0 x1 xs)]
  unfold kernelRun0_B
  dsimp only
  sl_unfold_words
  simp only [View.readAt_eq_ld, h3.read_unread, h4.read_unread, h7.read_unread, ld_whole]
  canon_tiles x hx
  rw [same x y hx0 hx1, pay2_apply]

/-- What the last point of a tile leaves in the first output. -/
theorem out_C2 (hc0 : ¬cond0_0 i) (hc1 : ¬cond0_1 i) (hc2 : cond0_2 i) :
    out0_C_2 (F := Ideal) c i a3 h3 a4 h4 a5 h5 a6 h6 a7 h7 hc0 hc1 hc2 x0 x1 xs y = xs y + prod x0 x1 y := by
  unfold out0_C_2
  rw [View.read_writes_eq_canon _ _ _ (cover0_C_2 c i a3 h3 a4 h4 a5 h5 a6 h6 a7 h7 hc0 hc1 hc2 x0 x1 xs)]
  unfold kernelRun0_C
  dsimp only
  sl_unfold_words
  simp only [View.readAt_eq_ld, h3.read_unread, h4.read_unread, h7.read_unread, ld_whole]
  canon_tiles x hx
  rw [same x y hx0 hx1, pay3_apply]

/-- What the last point of a tile leaves in the second output. -/
theorem out_C3 (hc0 : ¬cond0_0 i) (hc1 : ¬cond0_1 i) (hc2 : cond0_2 i) :
    out0_C_3 (F := Ideal) c i a3 h3 a4 h4 a5 h5 a6 h6 a7 h7 hc0 hc1 hc2 x0 x1 xs y = xs y + prod x0 x1 y := by
  unfold out0_C_3
  rw [View.read_writes_eq_canon _ _ _ (cover0_C_3 c i a3 h3 a4 h4 a5 h5 a6 h6 a7 h7 hc0 hc1 hc2 x0 x1 xs)]
  unfold kernelRun0_C
  dsimp only
  sl_unfold_words
  simp only [View.readAt_eq_ld, h3.read_unread, h4.read_unread, h7.read_unread, ld_whole]
  canon_tiles x hx
  rw [same x y hx0 hx1, pay4_apply]

end Points

variable (m : (ℓ : Loc nD τ sig) → Buf (Elt Ideal) ℓ) (c : Dev nD)

/-- The hidden units. -/
abbrev argH : S4096x4096.Idx → EReal := m ((c : Thread nD τ).loc main_arg0)
/-- The gradient of the output. -/
abbrev argG : S4096x1024.Idx → EReal := m ((c : Thread nD τ).loc main_arg1)

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![t.val / 4, 0] := (by decide +kernel : ∀ t : Fin grid0.N, _)

/-- The result. -/
def arr : S4096x1024.Idx → EReal := fun y => ∑ s, argH m c (ix2 s (y 0)) * argG m c (ix2 s (y 1))

/-- What point `n` adds. -/
def part (n : ℕ) (y : S1024x1024.Idx) : EReal :=
  if h : n < cfg0.N then prod (iblk m c 0 ⟨n, h⟩) (iblk m c 1 ⟨n, h⟩) y else 0

theorem part_eq (t : Fin cfg0.N) (y : S1024x1024.Idx) : part m c t.val y = prod (iblk m c 0 t) (iblk m c 1 t) y := dif_pos t.isLt

/-- A tile's first point starts the accumulator. -/
theorem step_A (y : S1024x1024.Idx) (n : ℕ) (h : n < cfg0.N) (h0 : n % 4 = 0) : (outsAt0 m c n h).2.2 y = part m c n y := by
  rw [part_eq m c ⟨n, h⟩, outsAt0_A m c ⟨n, h⟩ h0 (by dsimp only; omega) (by dsimp only; omega)]
  dsimp only
  rw [acc_A]

/-- A tile's middle points add to it. -/
theorem step_B (y : S1024x1024.Idx) (n : ℕ) (h : n + 1 < cfg0.N) (h0 : (n + 1) % 4 ≠ 0) (h3 : (n + 1) % 4 ≠ 3) :
    (outsAt0 m c (n + 1) h).2.2 y = (outsAt0 m c n (Nat.lt_of_succ_lt h)).2.2 y + part m c (n + 1) y := by
  rw [part_eq m c ⟨n + 1, h⟩, outsAt0_B m c ⟨n + 1, h⟩ h0 (by dsimp only; omega) h3]
  dsimp only
  rw [acc_B]
  rfl

/-- A tile's four parts are the result's entry. -/
theorem tile_sum (t : Fin cfg0.N) (ht : t.val % 4 = 3) (y : S1024x1024.Idx) (z : S4096x1024.Idx)
    (hz0 : (z 0 : ℕ) = t.val / 4 * 1024 + y 0) (hz1 : (z 1 : ℕ) = y 1) :
    ∑ j ∈ Finset.range 4, part m c (t.val / 4 * 4 + j) y = arr m c z := by
  have hN : cfg0.N = 16 := N_0
  have hl := t.isLt
  unfold arr
  rw [Fin.sum_univ_tiles 4 1024 rfl, Finset.sum_range]
  refine Finset.sum_congr rfl fun j _ => ?_
  have hb : t.val / 4 * 4 + j.val < cfg0.N := by omega
  rw [part_eq m c ⟨_, hb⟩, prod]
  refine Finset.sum_congr rfl fun k _ => ?_
  congr 1
  · blk_simp [iblk]
    show V m c main_arg0 _ = V m c main_arg0 _
    congr 1
    blk_ext [index0 ⟨_, hb⟩]
  · blk_simp [iblk]
    show V m c main_arg1 _ = V m c main_arg1 _
    congr 1
    blk_ext [index1 ⟨_, hb⟩]

/-- The two outputs after a tile's last point. -/
theorem outs_eq (t : Fin cfg0.N) (ht : t.val % 4 = 3) (y : S1024x1024.Idx) (z : S4096x1024.Idx)
    (hz0 : (z 0 : ℕ) = t.val / 4 * 1024 + y 0) (hz1 : (z 1 : ℕ) = y 1) :
    (outsAt0 m c t.val t.isLt).1 y = arr m c z ∧ (outsAt0 m c t.val t.isLt).2.1 y = arr m c z := by
  have hp : t.val - 1 < cfg0.N := by have := t.isLt; omega
  rw [← tile_sum m c t ht y z hz0 hz1,
    ← TileSum.last_eq (fun n h => (outsAt0 m c n h).2.2 y) (fun n => part m c n y) (step_A m c y) (step_B m c y) t.val ht hp,
    part_eq m c t, outsAt0_C m c t (by omega) (by omega) ht]
  dsimp only
  rw [out_C2, out_C3]
  exact ⟨rfl, rfl⟩

theorem final0 : (dats m 0 c).arrAt 2 cfg0.N = arr m c := by
  refine (dats m 0 c).arrAt_eq_of_covers 2 _ (by decide +kernel) fun t hf y => ?_
  blk_simp
  rw [after0_2]
  refine (outs_eq m c t ((flush0_2 t).mp hf) _ _ ?_ ?_).1
  · blk_simp [index2 t]
  · blk_simp [index2 t]

theorem final1 : (dats m 0 c).arrAt 3 cfg0.N = arr m c := by
  refine (dats m 0 c).arrAt_eq_of_covers 3 _ (by decide +kernel) fun t hf y => ?_
  blk_simp
  rw [after0_3]
  refine (outs_eq m c t ((flush0_3 t).mp hf) _ _ ?_ ?_).2
  · blk_simp [index3 t]
  · blk_simp [index3 t]

end Cert.KernelDownIdeal.Blocks
-- ==== Proof.DownClaim.lean ====
module

public import proofs.«01_k».proof.Defs
public import proofs.«01_k».proof.Proof.DownBlock
public import proofs.«01_k».proof.Proof.Gen.KernelDown.Frame
public import proofs.«01_k».proof.Proof.Gen.ReferenceDownIdeal.Run
public import proofs.«01_k».proof.Proof.Gen.ReferenceDownIdeal.Read

@[expose] public section
noncomputable section

open Idealize.ShloMosaic Idealize.ShloMosaic.TcCoe Idealize.SL.Sem

/-! The gradient of the feed-forward's second weights: kernel and reference end with the same two arrays. -/

namespace Cert.ReferenceDownIdeal.Grad

open Cert.ReferenceDownIdeal Cert.ReferenceDownIdeal.Gen Cert.ReferenceDownIdeal.Read

variable (x0 : (⟨S4096x4096, .bf16⟩ : BufTy).Contents (Elt Ideal)) (x1 : (⟨S4096x1024, .bf16⟩ : BufTy).Contents (Elt Ideal))

theorem res0_ix (f : Fin 4096) (d : Fin 1024) :
    val_main_v5 (F := Ideal) x0 x1 (ix2 f d) = ∑ s : Fin 4096, x0 (ix2 s f) * x1 (ix2 s d) := by
  pointwise [val_main_v5, val_main_v4]
  exact Finset.sum_congr rfl fun k _ => mul_comm _ _

theorem res1_ix (f : Fin 4096) (d : Fin 1024) :
    val_main_v6 (F := Ideal) x0 x1 (ix2 f d) = ∑ s : Fin 4096, x0 (ix2 s f) * x1 (ix2 s d) := by
  rw [← res0_ix]
  pointwise [val_main_v6]

/-- The reference's first result. -/
theorem res0 (y : S4096x1024.Idx) :
    val_main_v5 (F := Ideal) x0 x1 y = ∑ s : Fin 4096, x0 (ix2 s (y 0)) * x1 (ix2 s (y 1)) := by
  have h := res0_ix x0 x1 (y 0) (y 1)
  rw [ix2_eta] at h
  exact h

/-- The reference's second result. -/
theorem res1 (y : S4096x1024.Idx) :
    val_main_v6 (F := Ideal) x0 x1 y = ∑ s : Fin 4096, x0 (ix2 s (y 0)) * x1 (ix2 s (y 1)) := by
  have h := res1_ix x0 x1 (y 0) (y 1)
  rw [ix2_eta] at h
  exact h

end Cert.ReferenceDownIdeal.Grad

namespace Cert.DownClaim

/-- The kernel runs, and leaves its arguments and every counter as they were. -/
theorem frame_kernel (h : Cert.KernelDown.Facts) : Cert.quiescent_KernelDown (hKernelDown := h) :=
  fun m ρ _ => Cert.KernelDown.Gen.frame m ρ

/-- The same of its reading over the extended reals. -/
theorem frame_ideal (h : Cert.KernelDownIdeal.Facts) : Cert.quiescent_KernelDownIdeal (hKernelDownIdeal := h) :=
  fun m ρ _ => Cert.KernelDownIdeal.Gen.frame m ρ

/-- The reference's run leaves its arguments and every counter as they were. -/
theorem frame_ref (h : Cert.ReferenceDownIdeal.Facts) : Cert.quiescent_ReferenceDownIdeal (hReferenceDownIdeal := h) :=
  fun m ρ _ => (θ_run _ _ _).mono (fun r h => ⟨fun c => (h c).2.2, sem_eq_zero_of_no_sems (by decide) r.2⟩)
    (Cert.ReferenceDownIdeal.Value.run m ρ)

/-- The kernel's two results are the reference's. -/
theorem algebraic (h : Cert.KernelDownIdeal.Facts) (h' : Cert.ReferenceDownIdeal.Facts) :
    Cert.algebraic_KernelDownIdeal_ReferenceDownIdeal (hKernelDownIdeal := h) (hReferenceDownIdeal := h') := by
  intro m g m' g' hpre hargs
  refine ⟨fun c => Cert.KernelDownIdeal.Blocks.arr m c, fun c => Cert.KernelDownIdeal.Blocks.arr m c,
    (θ_run _ _ _).mono (fun r h c => ?_) (Cert.KernelDownIdeal.Value.run_blocks m g),
    (θ_run _ _ _).mono (fun r h c => ?_) (Cert.ReferenceDownIdeal.Value.run m' g')⟩
  · obtain ⟨h0, h1, h2⟩ := h c
    exact ⟨h0.trans (Cert.KernelDownIdeal.Blocks.final0 m c), h1.trans (Cert.KernelDownIdeal.Blocks.final1 m c), h2⟩
  · obtain ⟨h0, h1, h2⟩ := h c
    obtain ⟨a0, a1⟩ := hargs c
    refine ⟨h0.trans ?_, h1.trans ?_, h2⟩
    · rw [Cert.ReferenceDownIdeal.Read.val_main_v5_eq, a0, a1]
      exact funext fun y => Cert.ReferenceDownIdeal.Grad.res0 _ _ y
    · rw [Cert.ReferenceDownIdeal.Read.val_main_v6_eq, a0, a1]
      exact funext fun y => Cert.ReferenceDownIdeal.Grad.res1 _ _ y

end Cert.DownClaim
-- ==== Proof.UpBlock.lean ====
module

public import proofs.«01_k».proof.Proof.Gen.KernelUpIdeal.Value
public import proofs.«01_k».proof.Proof.TileSum
public import Idealize.ShloMosaic.Lib.Pointwise
public import Idealize.ShloMosaic.Lib.Pipeline.ValueKit
public import Idealize.ShloMosaic.Lib.Pipeline.ValueKit.Tiles
public import Idealize.ShloMosaic.Lib.Pipeline.ReadBack

@[expose] public section
noncomputable section

open Idealize.ShloMosaic Idealize.ShloMosaic.TcCoe Idealize.SL.Sem

/-! The gradient of the feed-forward's first weights: the two result arrays of the kernel, at an index. -/

namespace Cert.KernelUpIdeal.Blocks

open Cert.KernelUpIdeal Cert.KernelUpIdeal.Gen

/-- An entry of the product of two blocks over their rows. -/
def prod (x0 x1 : Vec Ideal S1024x1024 .bf16) (y : S1024x1024.Idx) : EReal := ∑ k, x0 (ix2 k (y 0)) * x1 (ix2 k (y 1))

theorem pay1_apply (x0 x1 : Vec Ideal S1024x1024 .bf16) (y : S1024x1024.Idx) : k0_pay1 (F := Ideal) x0 x1 y = prod x0 x1 y := by
  pointwise [k0_pay1]
  rfl

theorem pay2_apply (v : Vec Ideal S1024x1024 .f32) (x0 x1 : Vec Ideal S1024x1024 .bf16) (y : S1024x1024.Idx) :
    k0_pay2 (F := Ideal) v x0 x1 y = v y + prod x0 x1 y := by
  pointwise [k0_pay2]
  rfl

theorem pay3_apply (v : Vec Ideal S1024x1024 .f32) (x0 x1 : Vec Ideal S1024x1024 .bf16) (y : S1024x1024.Idx) :
    k0_pay3 (F := Ideal) v x0 x1 y = v y + prod x0 x1 y := by
  pointwise [k0_pay3]
  rfl

theorem pay4_apply (v : Vec Ideal S1024x1024 .f32) (x0 x1 : Vec Ideal S1024x1024 .bf16) (y : S1x1024x1024.Idx) :
    k0_pay4 (F := Ideal) v x0 x1 y = v (ix2 (y 1) (y 2)) + prod x0 x1 (ix2 (y 1) (y 2)) := by
  rw [← pay3_apply]
  pointwise [k0_pay4]

theorem pay5_apply (v : Vec Ideal S1024x1024 .f32) (x0 x1 : Vec Ideal S1024x1024 .bf16) (y : S1x1024x1024.Idx) :
    k0_pay5 (F := Ideal) v x0 x1 y = v (ix2 (y 1) (y 2)) + prod x0 x1 (ix2 (y 1) (y 2)) := by
  rw [← pay3_apply]
  pointwise [k0_pay5]

theorem ld_whole {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem same (x y : S1024x1024.Idx) (h0 : (y 0 : ℕ) = x 0) (h1 : (y 1 : ℕ) = x 1) : x = y := funext fun a => by
  match a with
  | ⟨0, _⟩ => exact Fin.ext h0.symm
  | ⟨1, _⟩ => exact Fin.ext h1.symm

theorem same3 (x y : S1x1024x1024.Idx) (h0 : (y 0 : ℕ) = x 0) (h1 : (y 1 : ℕ) = x 1) (h2 : (y 2 : ℕ) = x 2) : x = y :=
  funext fun a => by
    match a with
    | ⟨0, _⟩ => exact Fin.ext h0.symm
    | ⟨1, _⟩ => exact Fin.ext h1.symm
    | ⟨2, _⟩ => exact Fin.ext h2.symm

section Points
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1x1024x1024 .f32) (h5 : a5.IsWhole)
  (a6 : Memref sig .tc .vmem S1x1024x1024 .bf16) (h6 : a6.IsWhole) (a7 : Memref sig .tc .vmem S1024x1024 .f32) (h7 : a7.IsWhole)
  (x0 x1 : Vec Ideal S1024x1024 .bf16) (xs : Vec Ideal S1024x1024 .f32) (y : S1024x1024.Idx) (w : S1x1024x1024.Idx)

/-- What the first point of a tile leaves in the accumulator. -/
theorem acc_A (hc0 : cond0_0 i) (hc1 : ¬cond0_1 i) (hc2 : ¬cond0_2 i) :
    sout0_A_0 (F := Ideal) c i a3 h3 a4 h4 a5 h5 a6 h6 a7 h7 hc0 hc1 hc2 x0 x1 y = prod x0 x1 y := by
  unfold sout0_A_0
  rw [View.read_writes_eq_canon _ _ _ (scover0_A_0 c i a3 h3 a4 h4 a5 h5 a6 h6 a7 h7 hc0 hc1 hc2 x0 x1)]
  unfold kernelRun0_A
  dsimp only
  sl_unfold_words
  simp only [View.readAt_eq_ld, h3.read_unread, h4.read_unread, ld_whole]
  canon_tiles x hx
  rw [same x y hx0 hx1, pay1_apply]

/-- What a middle point of a tile leaves in the accumulator. -/
theorem acc_B (hc0 : ¬cond0_0 i) (hc1 : cond0_1 i) (hc2 : ¬cond0_2 i) :
    sout0_B_0 (F := Ideal) c i a3 h3 a4 h4 a5 h5 a6 h6 a7 h7 hc0 hc1 hc2 x0 x1 xs y = xs y + prod x0 x1 y := by
  unfold sout0_B_0
  rw [View.read_writes_eq_canon _ _ _ (scover0_B_0 c i a3 h3 a4 h4 a5 h5 a6 h6 a7 h7 hc0 hc1 hc2 x0 x1 xs)]
  unfold kernelRun0_B
  dsimp only
  sl_unfold_words
  simp only [View.readAt_eq_ld, h3.read_unread, h4.read_unread, h7.read_unread, ld_whole]
  canon_tiles x hx
  rw [same x y hx0 hx1, pay2_apply]

/-- What the last point of a tile leaves in the first output. -/
theorem out_C2 (hc0 : ¬cond0_0 i) (hc1 : ¬cond0_1 i) (hc2 : cond0_2 i) :
    out0_C_2 (F := Ideal) c i a3 h3 a4 h4 a5 h5 a6 h6 a7 h7 hc0 hc1 hc2 x0 x1 xs w
      = xs (ix2 (w 1) (w 2)) + prod x0 x1 (ix2 (w 1) (w 2)) := by
  unfold out0_C_2
  rw [View.read_writes_eq_canon _ _ _ (cover0_C_2 c i a3 h3 a4 h4 a5 h5 a6 h6 a7 h7 hc0 hc1 hc2 x0 x1 xs)]
  unfold kernelRun0_C
  dsimp only
  sl_unfold_words
  simp only [View.readAt_eq_ld, h3.read_unread, h4.read_unread, h7.read_unread, ld_whole]
  canon_tiles x hx
  rw [same3 x w hx0 hx1 hx2, pay4_apply]

/-- What the last point of a tile leaves in the second output. -/
theorem out_C3 (hc0 : ¬cond0_0 i) (hc1 : ¬cond0_1 i) (hc2 : cond0_2 i) :
    out0_C_3 (F := Ideal) c i a3 h3 a4 h4 a5 h5 a6 h6 a7 h7 hc0 hc1 hc2 x0 x1 xs w
      = xs (ix2 (w 1) (w 2)) + prod x0 x1 (ix2 (w 1) (w 2)) := by
  unfold out0_C_3
  rw [View.read_writes_eq_canon _ _ _ (cover0_C_3 c i a3 h3 a4 h4 a5 h5 a6 h6 a7 h7 hc0 hc1 hc2 x0 x1 xs)]
  unfold kernelRun0_C
  dsimp only
  sl_unfold_words
  simp only [View.readAt_eq_ld, h3.read_unread, h4.read_unread, h7.read_unread, ld_whole]
  canon_tiles x hx
  rw [same3 x w hx0 hx1 hx2, pay5_apply]

end Points

variable (m : (ℓ : Loc nD τ sig) → Buf (Elt Ideal) ℓ) (c : Dev nD)

/-- The feed-forward's input. -/
abbrev argU : S4096x1024.Idx → EReal := m ((c : Thread nD τ).loc main_arg0)
/-- The gradient of the hidden units. -/
abbrev argG : S4096x4096.Idx → EReal := m ((c : Thread nD τ).loc main_arg1)

theorem index0 : ∀ t : Fin cfg0.N, win0_0.index t = ![t.val % 4, 0] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![t.val / 4, 0, 0] := (by decide +kernel : ∀ t : Fin grid0.N, _)
theorem index3 : ∀ t : Fin cfg0.N, win0_3.index t = ![t.val / 4, 0, 0] := (by decide +kernel : ∀ t : Fin grid0.N, _)

/-- Column `d` of the weights' quarter `g`. -/
def colOf (g : Fin 4) (d : Fin 1024) : Fin 4096 := ⟨g.val * 1024 + d.val, by omega⟩

/-- The result. -/
def arr : S4x1024x1024.Idx → EReal := fun y => ∑ s, argU m c (ix2 s (y 1)) * argG m c (ix2 s (colOf (y 0) (y 2)))

/-- What point `n` adds. -/
def part (n : ℕ) (y : S1024x1024.Idx) : EReal :=
  if h : n < cfg0.N then prod (iblk m c 0 ⟨n, h⟩) (iblk m c 1 ⟨n, h⟩) y else 0

theorem part_eq (t : Fin cfg0.N) (y : S1024x1024.Idx) : part m c t.val y = prod (iblk m c 0 t) (iblk m c 1 t) y := dif_pos t.isLt

/-- A tile's first point starts the accumulator. -/
theorem step_A (y : S1024x1024.Idx) (n : ℕ) (h : n < cfg0.N) (h0 : n % 4 = 0) : (outsAt0 m c n h).2.2 y = part m c n y := by
  rw [part_eq m c ⟨n, h⟩, outsAt0_A m c ⟨n, h⟩ h0 (by dsimp only; omega) (by dsimp only; omega)]
  dsimp only
  rw [acc_A]

/-- A tile's middle points add to it. -/
theorem step_B (y : S1024x1024.Idx) (n : ℕ) (h : n + 1 < cfg0.N) (h0 : (n + 1) % 4 ≠ 0) (h3 : (n + 1) % 4 ≠ 3) :
    (outsAt0 m c (n + 1) h).2.2 y = (outsAt0 m c n (Nat.lt_of_succ_lt h)).2.2 y + part m c (n + 1) y := by
  rw [part_eq m c ⟨n + 1, h⟩, outsAt0_B m c ⟨n + 1, h⟩ h0 (by dsimp only; omega) h3]
  dsimp only
  rw [acc_B]
  rfl

/-- A tile's four parts are the result's entry. -/
theorem tile_sum (t : Fin cfg0.N) (ht : t.val % 4 = 3) (y : S1024x1024.Idx) (z : S4x1024x1024.Idx)
    (hz0 : (z 0 : ℕ) = t.val / 4) (hz1 : (z 1 : ℕ) = y 0) (hz2 : (z 2 : ℕ) = y 1) :
    ∑ j ∈ Finset.range 4, part m c (t.val / 4 * 4 + j) y = arr m c z := by
  have hN : cfg0.N = 16 := N_0
  have hl := t.isLt
  unfold arr colOf
  rw [Fin.sum_univ_tiles 4 1024 rfl, Finset.sum_range]
  refine Finset.sum_congr rfl fun j _ => ?_
  have hb : t.val / 4 * 4 + j.val < cfg0.N := by omega
  rw [part_eq m c ⟨_, hb⟩, prod]
  refine Finset.sum_congr rfl fun k _ => ?_
  congr 1
  · blk_simp [iblk]
    show V m c main_arg0 _ = V m c main_arg0 _
    congr 1
    blk_ext [index0 ⟨_, hb⟩]
  · blk_simp [iblk]
    show V m c main_arg1 _ = V m c main_arg1 _
    congr 1
    blk_ext [index1 ⟨_, hb⟩]

/-- The two outputs after a tile's last point. -/
theorem outs_eq (t : Fin cfg0.N) (ht : t.val % 4 = 3) (w : S1x1024x1024.Idx) (z : S4x1024x1024.Idx)
    (hz0 : (z 0 : ℕ) = t.val / 4) (hz1 : (z 1 : ℕ) = w 1) (hz2 : (z 2 : ℕ) = w 2) :
    (outsAt0 m c t.val t.isLt).1 w = arr m c z ∧ (outsAt0 m c t.val t.isLt).2.1 w = arr m c z := by
  have hp : t.val - 1 < cfg0.N := by have := t.isLt; omega
  rw [← tile_sum m c t ht (ix2 (w 1) (w 2)) z hz0 hz1 hz2,
    ← TileSum.last_eq (fun n h => (outsAt0 m c n h).2.2 (ix2 (w 1) (w 2))) (fun n => part m c n (ix2 (w 1) (w 2)))
      (step_A m c _) (step_B m c _) t.val ht hp,
    part_eq m c t, outsAt0_C m c t (by omega) (by omega) ht]
  dsimp only
  rw [out_C2, out_C3]
  exact ⟨rfl, rfl⟩

theorem final0 : (dats m 0 c).arrAt 2 cfg0.N = arr m c := by
  refine (dats m 0 c).arrAt_eq_of_covers 2 _ (by decide +kernel) fun t hf y => ?_
  blk_simp
  rw [after0_2]
  refine (outs_eq m c t ((flush0_2 t).mp hf) _ _ ?_ ?_ ?_).1
  · blk_simp [index2 t]
  · blk_simp [index2 t]
  · blk_simp [index2 t]

theorem final1 : (dats m 0 c).arrAt 3 cfg0.N = arr m c := by
  refine (dats m 0 c).arrAt_eq_of_covers 3 _ (by decide +kernel) fun t hf y => ?_
  blk_simp
  rw [after0_3]
  refine (outs_eq m c t ((flush0_3 t).mp hf) _ _ ?_ ?_ ?_).2
  · blk_simp [index3 t]
  · blk_simp [index3 t]
  · blk_simp [index3 t]

end Cert.KernelUpIdeal.Blocks
-- ==== Proof.UpClaim.lean ====
module

public import proofs.«01_k».proof.Defs
public import proofs.«01_k».proof.Proof.UpBlock
public import proofs.«01_k».proof.Proof.Gen.KernelUp.Frame
public import proofs.«01_k».proof.Proof.Gen.ReferenceUpIdeal.Run
public import proofs.«01_k».proof.Proof.Gen.ReferenceUpIdeal.Read

@[expose] public section
noncomputable section

open Idealize.ShloMosaic Idealize.ShloMosaic.TcCoe Idealize.SL.Sem

/-! The gradient of the feed-forward's first weights: kernel and reference end with the same two arrays. -/

namespace Cert.ReferenceUpIdeal.Grad

open Cert.ReferenceUpIdeal Cert.ReferenceUpIdeal.Gen Cert.ReferenceUpIdeal.Read

variable (x0 : (⟨S4096x1024, .bf16⟩ : BufTy).Contents (Elt Ideal)) (x1 : (⟨S4096x4096, .bf16⟩ : BufTy).Contents (Elt Ideal))

/-- Column `d` of the weights' quarter `g`. -/
def colOf (g : Fin 4) (d : Fin 1024) : Fin 4096 := ⟨g.val * 1024 + d.val, by omega⟩

theorem dw_ix (d : Fin 1024) (f : Fin 4096) :
    val_main_v5 (F := Ideal) x0 x1 (ix2 d f) = ∑ s : Fin 4096, x0 (ix2 s d) * x1 (ix2 s f) := by
  pointwise [val_main_v5, val_main_v4]
  exact Finset.sum_congr rfl fun k _ => mul_comm _ _

theorem res0_ix (g : Fin 4) (d e : Fin 1024) :
    val_main_v14 (F := Ideal) x0 x1 (ix3 g d e) = ∑ s : Fin 4096, x0 (ix2 s d) * x1 (ix2 s (colOf g e)) := by
  rw [← dw_ix]
  fin_cases g
  · pointwise [val_main_v14, val_main_v10, val_main_v6]
    exact congrArg _ (congrArg (ix2 d) (Fin.ext (by simp [colOf])))
  · pointwise [val_main_v14, val_main_v11, val_main_v7]
    exact congrArg _ (congrArg (ix2 d) (Fin.ext (by simp [colOf])))
  · pointwise [val_main_v14, val_main_v12, val_main_v8]
    exact congrArg _ (congrArg (ix2 d) (Fin.ext (by simp [colOf])))
  · pointwise [val_main_v14, val_main_v13, val_main_v9]
    exact congrArg _ (congrArg (ix2 d) (Fin.ext (by simp [colOf])))

theorem res1_ix (g : Fin 4) (d e : Fin 1024) :
    val_main_v15 (F := Ideal) x0 x1 (ix3 g d e) = ∑ s : Fin 4096, x0 (ix2 s d) * x1 (ix2 s (colOf g e)) := by
  rw [← res0_ix]
  pointwise [val_main_v15]

/-- The reference's first result. -/
theorem res0 (y : S4x1024x1024.Idx) :
    val_main_v14 (F := Ideal) x0 x1 y = ∑ s : Fin 4096, x0 (ix2 s (y 1)) * x1 (ix2 s (colOf (y 0) (y 2))) := by
  have h := res0_ix x0 x1 (y 0) (y 1) (y 2)
  rw [ix3_eta] at h
  exact h

/-- The reference's second result. -/
theorem res1 (y : S4x1024x1024.Idx) :
    val_main_v15 (F := Ideal) x0 x1 y = ∑ s : Fin 4096, x0 (ix2 s (y 1)) * x1 (ix2 s (colOf (y 0) (y 2))) := by
  have h := res1_ix x0 x1 (y 0) (y 1) (y 2)
  rw [ix3_eta] at h
  exact h

end Cert.ReferenceUpIdeal.Grad

namespace Cert.UpClaim

/-- The kernel runs, and leaves its arguments and every counter as they were. -/
theorem frame_kernel (h : Cert.KernelUp.Facts) : Cert.quiescent_KernelUp (hKernelUp := h) :=
  fun m ρ _ => Cert.KernelUp.Gen.frame m ρ

/-- The same of its reading over the extended reals. -/
theorem frame_ideal (h : Cert.KernelUpIdeal.Facts) : Cert.quiescent_KernelUpIdeal (hKernelUpIdeal := h) :=
  fun m ρ _ => Cert.KernelUpIdeal.Gen.frame m ρ

/-- The reference's run leaves its arguments and every counter as they were. -/
theorem frame_ref (h : Cert.ReferenceUpIdeal.Facts) : Cert.quiescent_ReferenceUpIdeal (hReferenceUpIdeal := h) :=
  fun m ρ _ => (θ_run _ _ _).mono (fun r h => ⟨fun c => (h c).2.2, sem_eq_zero_of_no_sems (by decide) r.2⟩)
    (Cert.ReferenceUpIdeal.Value.run m ρ)

/-- The kernel's two results are the reference's. -/
theorem algebraic (h : Cert.KernelUpIdeal.Facts) (h' : Cert.ReferenceUpIdeal.Facts) :
    Cert.algebraic_KernelUpIdeal_ReferenceUpIdeal (hKernelUpIdeal := h) (hReferenceUpIdeal := h') := by
  intro m g m' g' hpre hargs
  refine ⟨fun c => Cert.KernelUpIdeal.Blocks.arr m c, fun c => Cert.KernelUpIdeal.Blocks.arr m c,
    (θ_run _ _ _).mono (fun r h c => ?_) (Cert.KernelUpIdeal.Value.run_blocks m g),
    (θ_run _ _ _).mono (fun r h c => ?_) (Cert.ReferenceUpIdeal.Value.run m' g')⟩
  · obtain ⟨h0, h1, h2⟩ := h c
    exact ⟨h0.trans (Cert.KernelUpIdeal.Blocks.final0 m c), h1.trans (Cert.KernelUpIdeal.Blocks.final1 m c), h2⟩
  · obtain ⟨h0, h1, h2⟩ := h c
    obtain ⟨a0, a1⟩ := hargs c
    refine ⟨h0.trans ?_, h1.trans ?_, h2⟩
    · rw [Cert.ReferenceUpIdeal.Read.val_main_v14_eq, a0, a1]
      exact funext fun y => Cert.ReferenceUpIdeal.Grad.res0 _ _ y
    · rw [Cert.ReferenceUpIdeal.Read.val_main_v15_eq, a0, a1]
      exact funext fun y => Cert.ReferenceUpIdeal.Grad.res1 _ _ y

end Cert.UpClaim
-- ==== Proof.NormMath.lean ====
module

public import Mathlib.Data.EReal.Inv
public import Mathlib.Analysis.SpecialFunctions.Pow.NNReal
public import Idealize.ShloMosaic.Lib.Pointwise
public import proofs.«01_k».proof.Proof.AttnMath

@[expose] public section
noncomputable section

open Idealize.ShloMosaic

/-! The derivative of a row's division by its root mean square, in the kernel's form and in the reference's. -/

namespace Cert.NormMath

/-- The number of a row's entries, as the constant that the programs divide by. -/
def cnt : EReal := Ideal.ofBits FTy.f32 0x44800000#32
/-- The small number under the root. -/
def eps : EReal := Ideal.ofBits FTy.f32 0x358637BD#32
/-- Minus a half. -/
def mhalf : EReal := Ideal.ofBits FTy.f32 0xBF000000#32

theorem cnt_eq : cnt = ((1024 : ℝ) : EReal) := by
  simp [cnt, Ideal.ofBits, Ideal.ieee, -EReal.coe_mul]
  norm_num

theorem eps_eq : ∃ e : ℝ, 0 < e ∧ eps = (e : EReal) := by
  refine ⟨_, ?_, by simp [eps, Ideal.ofBits, Ideal.ieee, -EReal.coe_mul]; rfl⟩
  norm_num

theorem mhalf_eq : mhalf = ((-(1 / 2) : ℝ) : EReal) := by
  simp [mhalf, Ideal.ofBits, Ideal.ieee, -EReal.coe_mul]
  norm_num

/-- The mean square of a row, and the small number. -/
def msq {n : ℕ} (x : Fin n → EReal) : EReal := Ideal.div (∑ k, x k * x k) cnt + eps

/-- The reciprocal root mean square of a row. -/
def rms {n : ℕ} (x : Fin n → EReal) : EReal := Ideal.rsqrt (msq x)

theorem sq_nonneg' (a : EReal) : 0 ≤ a * a := by
  rcases le_total 0 a with h | h
  · exact EReal.mul_nonneg h h
  · have h' : 0 ≤ -a := by simpa using EReal.neg_le_neg_iff.mpr h
    have := EReal.mul_nonneg h' h'
    simpa using this

/-- The mean square is infinite, or a positive number. -/
theorem msq_cases {n : ℕ} (x : Fin n → EReal) : msq x = ⊤ ∨ ∃ v : ℝ, 0 < v ∧ msq x = (v : EReal) := by
  obtain ⟨e, he, hE⟩ := eps_eq
  have hs : 0 ≤ ∑ k, x k * x k := Finset.sum_nonneg fun k _ => sq_nonneg' (x k)
  unfold msq
  rw [cnt_eq, hE, Ideal.div_coe (by norm_num)]
  generalize (∑ k, x k * x k) = s at hs
  induction s with
  | bot => simp at hs
  | top =>
    left
    rw [EReal.top_mul_coe_of_pos (by norm_num)]
    rfl
  | coe s =>
    right
    refine ⟨s * (1 / 1024) + e, ?_, by norm_cast⟩
    have : 0 ≤ s := by exact_mod_cast hs
    positivity

/-- The reciprocal root is zero, or a positive number whose cube is its quotient by the mean square. -/
theorem rms_cases {n : ℕ} (x : Fin n → EReal) :
    (rms x = 0 ∧ Ideal.div (rms x) (msq x) = 0)
      ∨ ∃ r : ℝ, 0 < r ∧ rms x = (r : EReal) ∧ Ideal.div (rms x) (msq x) = ((r * r * r : ℝ) : EReal) := by
  rcases msq_cases x with h | ⟨v, hv, h⟩
  · left
    have h0 : rms x = 0 := by rw [rms, h]; rfl
    rw [h0, h]
    exact ⟨rfl, by simp [Ideal.div]⟩
  · right
    have h0 : rms x = (((Real.sqrt v)⁻¹ : ℝ) : EReal) := by
      rw [rms, h, Ideal.rsqrt_coe, if_neg (not_lt.mpr hv.le), if_neg hv.ne']
    refine ⟨(Real.sqrt v)⁻¹, by positivity, h0, ?_⟩
    rw [h0, h, Ideal.div_coe hv.ne', ← EReal.coe_mul]
    congr 1
    have hq : Real.sqrt v * Real.sqrt v = v := Real.mul_self_sqrt hv.le
    rw [mul_assoc, ← mul_inv, hq, one_div]

/-- The gradient at entry `d` of a row, as the kernel has it: `a` is the gradient times the scale, `h` the residual's. -/
def dx {n : ℕ} (x a : Fin n → EReal) (h : EReal) (d : Fin n) : EReal :=
  rms x * (a d - x d * rms x * Ideal.div (∑ k, a k * (x k * rms x)) cnt) + h

/-- The factor of the row's entries in the reference's gradient through the mean. -/
def coef {n : ℕ} (x a : Fin n → EReal) : EReal := Ideal.div ((∑ k, x k * a k) * (mhalf * Ideal.div (rms x) (msq x))) cnt

/-- The two forms agree. -/
theorem ref_dx {n : ℕ} (x a : Fin n → EReal) (h : EReal) (d : Fin n) :
    h + a d * rms x + x d * coef x a + coef x a * x d = dx x a h d := by
  unfold coef dx
  rw [mhalf_eq, cnt_eq, Ideal.div_coe (by norm_num), Ideal.div_coe (by norm_num)]
  rcases rms_cases x with ⟨h0, h1⟩ | ⟨r, hr, h0, h1⟩
  · rw [h1, h0]
    simp
  · rw [h1, h0]
    have hs : ∑ k, a k * (x k * (r : EReal)) = (∑ k, x k * a k) * (r : EReal) := by
      rw [AttnMath.sum_mul_coe _ _ hr.le]
      exact Finset.sum_congr rfl fun k _ => by rw [mul_comm (x k) (a k), mul_assoc]
    rw [hs]
    generalize (∑ k, x k * a k) = s
    have hl : x d * (s * (((-(1 / 2) : ℝ) : EReal) * ((r * r * r : ℝ) : EReal)) * ((1 / 1024 : ℝ) : EReal))
        = (x d * s) * ((-(r * r * r / 2048) : ℝ) : EReal) := by
      rw [mul_assoc s, ← EReal.coe_mul, ← EReal.coe_mul, ← mul_assoc]
      congr 2
      ring
    have hk : (r : EReal) * (x d * r * (s * r * ((1 / 1024 : ℝ) : EReal))) = (x d * s) * ((r * r * r / 1024 : ℝ) : EReal) := by
      have e : (r * r * r / 1024 : ℝ) = r * (r * (r * (1 / 1024))) := by ring
      rw [e, EReal.coe_mul, EReal.coe_mul, EReal.coe_mul]
      ac_rfl
    have h2 : ∀ z : EReal, z * ((-(r * r * r / 2048) : ℝ) : EReal) + z * ((-(r * r * r / 2048) : ℝ) : EReal)
        = -(z * ((r * r * r / 1024 : ℝ) : EReal)) := by
      intro z
      rw [← mul_neg, ← EReal.coe_neg]
      have := EReal.right_distrib_of_nonneg (a := 1) (b := 1) (c := z * ((-(r * r * r / 2048) : ℝ) : EReal)) (by simp) (by simp)
      rw [one_mul] at this
      rw [← this]
      have e2 : (1 + 1 : EReal) = ((2 : ℝ) : EReal) := one_add_one_eq_two.trans rfl
      rw [e2, mul_left_comm, ← EReal.coe_mul]
      congr 2
      ring
    rw [mul_comm _ (x d), hl, add_assoc, h2, ← hk, sub_eq_add_neg,
      EReal.left_distrib_of_nonneg_of_ne_top (by exact_mod_cast hr.le) (EReal.coe_ne_top r), mul_neg, mul_comm (a d)]
    generalize (r : EReal) * a d = p
    generalize -((r : EReal) * _) = q
    rw [add_assoc, add_comm]

end Cert.NormMath
-- ==== Proof.NormBlock.lean ====
module

public import proofs.«01_k».proof.Proof.Gen.KernelNormIdeal.Value
public import proofs.«01_k».proof.Proof.TileSum
public import proofs.«01_k».proof.Proof.NormMath
public import Idealize.ShloMosaic.Lib.Pointwise
public import Idealize.ShloMosaic.Lib.Pipeline.ValueKit
public import Idealize.ShloMosaic.Lib.Pipeline.ValueKit.Tiles
public import Idealize.ShloMosaic.Lib.Pipeline.ReadBack

@[expose] public section
noncomputable section

open Idealize.ShloMosaic Idealize.ShloMosaic.TcCoe Idealize.SL.Sem

/-! The gradient through the feed-forward's up product and norm: what the kernel's points leave in their blocks. -/

namespace Cert.KernelNormIdeal.Blocks

open Cert.KernelNormIdeal Cert.KernelNormIdeal.Gen Cert.NormMath

/-- An entry of the product of two blocks over their columns. -/
def prod (x0 : Vec Ideal S512x1024 .bf16) (x1 : Vec Ideal S1x1024x1024 .bf16) (r : Fin 512) (d : Fin 1024) : EReal :=
  ∑ k, x0 (ix2 r k) * x1 (ix3 0 d k)

/-- A row of a block. -/
def row (x : Vec Ideal S512x1024 .f32) (r : Fin 512) (d : Fin 1024) : EReal := x (ix2 r d)

theorem pay1_ix (x0 : Vec Ideal S512x1024 .bf16) (x1 : Vec Ideal S1x1024x1024 .bf16) (r : Fin 512) (d : Fin 1024) :
    k0_pay1 (F := Ideal) x0 x1 (ix2 r d) = prod x0 x1 r d := by
  pointwise [k0_pay1]
  rfl

theorem pay2_ix (v : Vec Ideal S512x1024 .f32) (x0 : Vec Ideal S512x1024 .bf16) (x1 : Vec Ideal S1x1024x1024 .bf16) (r : Fin 512) (d : Fin 1024) :
    k0_pay2 (F := Ideal) v x0 x1 (ix2 r d) = row v r d + prod x0 x1 r d := by
  pointwise [k0_pay2]
  rfl

theorem pay3_ix (d : Fin 1024) : k0_pay3 (F := Ideal) (ix2 0 d) = 0 := by
  pointwise [k0_pay3]

theorem pay5_ix (v : Vec Ideal S512x1024 .f32) (x0 : Vec Ideal S512x1024 .bf16) (x1 : Vec Ideal S1x1024x1024 .bf16) (r : Fin 512) (d : Fin 1024) :
    k0_pay5 (F := Ideal) v x0 x1 (ix2 r d) = row v r d + prod x0 x1 r d := by
  pointwise [k0_pay5]
  rfl

theorem pay6_ix (x : Vec Ideal S512x1024 .f32) (r : Fin 512) : k0_pay6 (F := Ideal) x (ix2 r 0) = rms (row x r) := by
  pointwise [k0_pay6]
  rfl

theorem pay7_ix (x : Vec Ideal S512x1024 .f32) (r : Fin 512) (d : Fin 1024) :
    k0_pay7 (F := Ideal) x (ix2 r d) = row x r d * rms (row x r) := by
  pointwise [k0_pay7]
  rw [pay6_ix]
  rfl

theorem pay4_ix (u v : FVec Ideal S512x1024 .f32) (o : Vec Ideal S1x1024 .f32) (d : Fin 1024) :
    k0_pay4 (F := Ideal) u v o (ix2 0 d) = o (ix2 0 d) + ∑ r : Fin 512, u (ix2 r d) * v (ix2 r d) := by
  pointwise [k0_pay4]

theorem pay8_ix (v : Vec Ideal S512x1024 .f32) (x0 : Vec Ideal S512x1024 .bf16) (x1 : Vec Ideal S1x1024x1024 .bf16)
    (x : Vec Ideal S512x1024 .f32) (g : Vec Ideal S1x1024 .f32) (h : Vec Ideal S512x1024 .f32) (r : Fin 512) (d : Fin 1024) :
    k0_pay8 (F := Ideal) v x0 x1 x g h (ix2 r d)
      = dx (row x r) (fun k => (row v r k + prod x0 x1 r k) * g (ix2 0 k)) (row h r d) d := by
  pointwise [k0_pay8, pay5_ix, pay6_ix, pay7_ix]
  rfl

theorem pay9_ix (v : Vec Ideal S512x1024 .f32) (x0 : Vec Ideal S512x1024 .bf16) (x1 : Vec Ideal S1x1024x1024 .bf16)
    (x : Vec Ideal S512x1024 .f32) (g : Vec Ideal S1x1024 .f32) (h : Vec Ideal S512x1024 .f32) (r : Fin 512) (d : Fin 1024) :
    k0_pay9 (F := Ideal) v x0 x1 x g h (ix2 r d)
      = dx (row x r) (fun k => (row v r k + prod x0 x1 r k) * g (ix2 0 k)) (row h r d) d := by
  rw [← pay8_ix]
  pointwise [k0_pay9]

theorem ld_512 {e : EltTy} (x : Vec Ideal S512x1024 e)
    (inb : ∀ a : Fin 2, (![0, 0] : Fin 2 → ℕ) a + (![512, 1024] : Fin 2 → ℕ) a ≤ S512x1024.size a) :
    View.ld x (Rect.unit ![0, 0] ![512, 1024] inb) = x := View.ld_unit_lit inb x (by decide)

theorem ld_1 {e : EltTy} (x : Vec Ideal S1x1024 e)
    (inb : ∀ a : Fin 2, (![0, 0] : Fin 2 → ℕ) a + (![1, 1024] : Fin 2 → ℕ) a ≤ S1x1024.size a) :
    View.ld x (Rect.unit ![0, 0] ![1, 1024] inb) = x := View.ld_unit_lit inb x (by decide)

theorem ld_w {e : EltTy} (x : Vec Ideal S1x1024x1024 e)
    (inb : ∀ a : Fin 3, (![0, 0, 0] : Fin 3 → ℕ) a + (![1, 1024, 1024] : Fin 3 → ℕ) a ≤ S1x1024x1024.size a) :
    View.ld x (Rect.unit ![0, 0, 0] ![1, 1024, 1024] inb) = x := View.ld_unit_lit inb x (by decide)

theorem same_ix (x : S512x1024.Idx) (r : Fin 512) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

theorem same_ix1 (x : S1x1024.Idx) (d : Fin 1024) (h1 : (d : ℕ) = x 1) : x = ix2 0 d :=
  funext fun a => by
    match a with
    | ⟨0, _⟩ => exact Subsingleton.elim (α := Fin 1) _ _
    | ⟨1, _⟩ => exact Fin.ext h1.symm

theorem zero2 : ∀ a : Fin 2, (![0, 0] : Fin 2 → ℕ) a = 0 := by decide

section Points
variable (c : Dev nD) (i : grid0.Coords) (a3 : Memref sig .tc .vmem S512x1024 .bf16) (h3 : a3.IsWhole)
  (a4 : Memref sig .tc .vmem S1x1024x1024 .bf16) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S1x1024 .f32) (h10 : a10.IsWhole) (a11 : Memref sig .tc .vmem S512x1024 .f32) (h11 : a11.IsWhole)
  (x0 : Vec Ideal S512x1024 .bf16) (x1 : Vec Ideal S1x1024x1024 .bf16) (x2 x3 : Vec Ideal S512x1024 .f32) (x4 : Vec Ideal S1x1024 .f32)
  (xo : Vec Ideal S1x1024 .f32) (xs : Vec Ideal S512x1024 .f32) (r : Fin 512) (d : Fin 1024)

/-- The gradient that the last point of a tile leaves, from the accumulator before it. -/
def dxBlk (x0 : Vec Ideal S512x1024 .bf16) (x1 : Vec Ideal S1x1024x1024 .bf16) (x2 x3 : Vec Ideal S512x1024 .f32)
    (x4 : Vec Ideal S1x1024 .f32) (xs : Vec Ideal S512x1024 .f32) (r : Fin 512) (d : Fin 1024) : EReal :=
  dx (row x3 r) (fun k => (row xs r k + prod x0 x1 r k) * x4 (ix2 0 k)) (row x2 r d) d

/-- What the last point of a tile adds to the scale's gradient. -/
def dgBlk (x0 : Vec Ideal S512x1024 .bf16) (x1 : Vec Ideal S1x1024x1024 .bf16) (x3 : Vec Ideal S512x1024 .f32)
    (xs : Vec Ideal S512x1024 .f32) (d : Fin 1024) : EReal :=
  ∑ r : Fin 512, (row xs r d + prod x0 x1 r d) * (row x3 r d * rms (row x3 r))

theorem acc_A (hc0 : cond0_0 i) (hc1 : ¬cond0_1 i) (hc2 : ¬cond0_2 i) :
    sout0_A_0 (F := Ideal) c i a3 h3 a4 h4 a5 h5 a6 h6 a7 h7 a8 h8 a9 h9 a10 h10 a11 h11 hc0 hc1 hc2 x0 x1 x2 x3 x4 (ix2 r d) = prod x0 x1 r d := by
  unfold sout0_A_0
  rw [View.read_writes_eq_canon _ _ _ (scover0_A_0 c i a3 h3 a4 h4 a5 h5 a6 h6 a7 h7 a8 h8 a9 h9 a10 h10 a11 h11 hc0 hc1 hc2 x0 x1 x2 x3 x4)]
  unfold kernelRun0_A
  dsimp only
  sl_unfold_words
  simp only [View.readAt_eq_ld, h3.read_unread, h4.read_unread, ld_512, ld_w]
  canon_tiles x hx
  rw [same_ix x r d hx0 hx1, pay1_ix]

theorem acc_B (hc0 : ¬cond0_0 i) (hc1 : cond0_1 i) (hc2 : ¬cond0_2 i) :
    sout0_B_0 (F := Ideal) c i a3 h3 a4 h4 a5 h5 a6 h6 a7 h7 a8 h8 a9 h9 a10 h10 a11 h11 hc0 hc1 hc2 x0 x1 x2 x3 x4 xs (ix2 r d) = xs (ix2 r d) + prod x0 x1 r d := by
  unfold sout0_B_0
  rw [View.read_writes_eq_canon _ _ _ (scover0_B_0 c i a3 h3 a4 h4 a5 h5 a6 h6 a7 h7 a8 h8 a9 h9 a10 h10 a11 h11 hc0 hc1 hc2 x0 x1 x2 x3 x4 xs)]
  unfold kernelRun0_B
  dsimp only
  sl_unfold_words
  simp only [View.readAt_eq_ld, h3.read_unread, h4.read_unread, h11.read_unread, ld_512, ld_w]
  canon_tiles x hx
  rw [same_ix x r d hx0 hx1, pay2_ix]
  rfl

theorem out_C5 (hc0 : ¬cond0_0 i) (hc1 : ¬cond0_1 i) (hc2 : cond0_2 i) (hc3 : cond0_3 i) :
    out0_C_5 (F := Ideal) c i a3 h3 a4 h4 a5 h5 a6 h6 a7 h7 a8 h8 a9 h9 a10 h10 a11 h11 hc0 hc1 hc2 hc3 x0 x1 x2 x3 x4 xs (ix2 r d) = dxBlk x0 x1 x2 x3 x4 xs r d := by
  unfold out0_C_5
  rw [View.read_writes_eq_canon _ _ _ (cover0_C_5 c i a3 h3 a4 h4 a5 h5 a6 h6 a7 h7 a8 h8 a9 h9 a10 h10 a11 h11 hc0 hc1 hc2 hc3 x0 x1 x2 x3 x4 xs)]
  unfold kernelRun0_C
  dsimp only
  sl_unfold_words
  simp only [View.readAt_eq_ld, h3.read_unread, h4.read_unread, h5.read_unread, h6.read_unread, h7.read_unread, h11.read_unread, ld_512, ld_w, ld_1]
  canon_tiles x hx
  rw [same_ix x r d hx0 hx1, pay8_ix]
  rfl

theorem out_C6 (hc0 : ¬cond0_0 i) (hc1 : ¬cond0_1 i) (hc2 : cond0_2 i) (hc3 : cond0_3 i) :
    out0_C_6 (F := Ideal) c i a3 h3 a4 h4 a5 h5 a6 h6 a7 h7 a8 h8 a9 h9 a10 h10 a11 h11 hc0 hc1 hc2 hc3 x0 x1 x2 x3 x4 xs (ix2 r d) = dxBlk x0 x1 x2 x3 x4 xs r d := by
  unfold out0_C_6
  rw [View.read_writes_eq_canon _ _ _ (cover0_C_6 c i a3 h3 a4 h4 a5 h5 a6 h6 a7 h7 a8 h8 a9 h9 a10 h10 a11 h11 hc0 hc1 hc2 hc3 x0 x1 x2 x3 x4 xs)]
  unfold kernelRun0_C
  dsimp only
  sl_unfold_words
  simp only [View.readAt_eq_ld, h3.read_unread, h4.read_unread, h5.read_unread, h6.read_unread, h7.read_unread, h11.read_unread, ld_512, ld_w, ld_1]
  canon_tiles x hx
  rw [same_ix x r d hx0 hx1, pay9_ix]
  rfl

theorem out_C7 (hc0 : ¬cond0_0 i) (hc1 : ¬cond0_1 i) (hc2 : cond0_2 i) (hc3 : cond0_3 i) :
    out0_C_7 (F := Ideal) c i a3 h3 a4 h4 a5 h5 a6 h6 a7 h7 a8 h8 a9 h9 a10 h10 a11 h11 hc0 hc1 hc2 hc3 x0 x1 x2 x3 x4 xs (ix2 0 d) = dgBlk x0 x1 x3 xs d := by
  unfold out0_C_7
  rw [View.read_writes_eq_canon _ _ _ (cover0_C_7 c i a3 h3 a4 h4 a5 h5 a6 h6 a7 h7 a8 h8 a9 h9 a10 h10 a11 h11 hc0 hc1 hc2 hc3 x0 x1 x2 x3 x4 xs)]
  unfold kernelRun0_C
  dsimp only
  sl_unfold_words
  simp only [View.readAt_eq_ld, h3.read_unread, h4.read_unread, h5.read_unread, h6.read_unread, h7.read_unread, h10.read_unread, h11.read_unread, ld_512, ld_w, ld_1]
  simp (disch := first | decide +kernel | exact zero2) only [↓View.readCov_skip, ↓View.readCov_fill]
  refine (congrFun (View.canon_cons_unit_lit inb_S1x1024_S1x1024_0_0 _ _ (by decide)) _).trans ?_
  rw [pay4_ix, ld_1, pay3_ix, zero_add]
  simp only [pay5_ix, pay7_ix]
  rfl

theorem out_D5 (hc0 : ¬cond0_0 i) (hc1 : ¬cond0_1 i) (hc2 : cond0_2 i) (hc3 : ¬cond0_3 i) :
    out0_D_5 (F := Ideal) c i a3 h3 a4 h4 a5 h5 a6 h6 a7 h7 a8 h8 a9 h9 a10 h10 a11 h11 hc0 hc1 hc2 hc3 x0 x1 x2 x3 x4 xo xs (ix2 r d) = dxBlk x0 x1 x2 x3 x4 xs r d := by
  unfold out0_D_5
  rw [View.read_writes_eq_canon _ _ _ (cover0_D_5 c i a3 h3 a4 h4 a5 h5 a6 h6 a7 h7 a8 h8 a9 h9 a10 h10 a11 h11 hc0 hc1 hc2 hc3 x0 x1 x2 x3 x4 xo xs)]
  unfold kernelRun0_D
  dsimp only
  sl_unfold_words
  simp only [View.readAt_eq_ld, h3.read_unread, h4.read_unread, h5.read_unread, h6.read_unread, h7.read_unread, h11.read_unread, ld_512, ld_w, ld_1]
  canon_tiles x hx
  rw [same_ix x r d hx0 hx1, pay8_ix]
  rfl

theorem out_D6 (hc0 : ¬cond0_0 i) (hc1 : ¬cond0_1 i) (hc2 : cond0_2 i) (hc3 : ¬cond0_3 i) :
    out0_D_6 (F := Ideal) c i a3 h3 a4 h4 a5 h5 a6 h6 a7 h7 a8 h8 a9 h9 a10 h10 a11 h11 hc0 hc1 hc2 hc3 x0 x1 x2 x3 x4 xo xs (ix2 r d) = dxBlk x0 x1 x2 x3 x4 xs r d := by
  unfold out0_D_6
  rw [View.read_writes_eq_canon _ _ _ (cover0_D_6 c i a3 h3 a4 h4 a5 h5 a6 h6 a7 h7 a8 h8 a9 h9 a10 h10 a11 h11 hc0 hc1 hc2 hc3 x0 x1 x2 x3 x4 xo xs)]
  unfold kernelRun0_D
  dsimp only
  sl_unfold_words
  simp only [View.readAt_eq_ld, h3.read_unread, h4.read_unread, h5.read_unread, h6.read_unread, h7.read_unread, h11.read_unread, ld_512, ld_w, ld_1]
  canon_tiles x hx
  rw [same_ix x r d hx0 hx1, pay9_ix]
  rfl

theorem out_D7 (hc0 : ¬cond0_0 i) (hc1 : ¬cond0_1 i) (hc2 : cond0_2 i) (hc3 : ¬cond0_3 i) :
    out0_D_7 (F := Ideal) c i a3 h3 a4 h4 a5 h5 a6 h6 a7 h7 a8 h8 a9 h9 a10 h10 a11 h11 hc0 hc1 hc2 hc3 x0 x1 x2 x3 x4 xo xs (ix2 0 d) = xo (ix2 0 d) + dgBlk x0 x1 x3 xs d := by
  unfold out0_D_7
  rw [View.read_writes_eq_canon _ _ _ (cover0_D_7 c i a3 h3 a4 h4 a5 h5 a6 h6 a7 h7 a8 h8 a9 h9 a10 h10 a11 h11 hc0 hc1 hc2 hc3 x0 x1 x2 x3 x4 xo xs)]
  unfold kernelRun0_D
  dsimp only
  sl_unfold_words
  simp only [View.readAt_eq_ld, h3.read_unread, h4.read_unread, h5.read_unread, h6.read_unread, h7.read_unread, h10.read_unread, h11.read_unread, ld_512, ld_w, ld_1]
  canon_tiles x hx
  rw [same_ix1 x d hx1, pay4_ix]
  simp only [pay5_ix, pay7_ix]
  rfl

end Points

end Cert.KernelNormIdeal.Blocks
-- ==== Proof.NormArray.lean ====
module

public import proofs.«01_k».proof.Proof.NormBlock

@[expose] public section
noncomputable section

open Idealize.ShloMosaic Idealize.ShloMosaic.TcCoe Idealize.SL.Sem

/-! The gradient through the feed-forward's up product and norm: the three result arrays of the kernel, at an index. -/

namespace Cert.NormMath

/-- Column `k` of tile `j`. -/
def tile (j : Fin 4) (k : Fin 1024) : Fin 4096 := ⟨j.val * 1024 + k.val, by omega⟩

/-- The gradient at the norm's output: the product with the weights, block by block. -/
def du (a : (⟨2, ![4096, 4096]⟩ : Shape).Idx → EReal) (w : (⟨3, ![4, 1024, 1024]⟩ : Shape).Idx → EReal) (s : Fin 4096) (d : Fin 1024) : EReal :=
  ∑ j : Fin 4, ∑ k : Fin 1024, a (ix2 s (tile j k)) * w (ix3 j d k)

end Cert.NormMath

namespace Cert.KernelNormIdeal.Blocks

open Cert.KernelNormIdeal Cert.KernelNormIdeal.Gen Cert.NormMath

variable (m : (ℓ : Loc nD τ sig) → Buf (Elt Ideal) ℓ) (c : Dev nD)

/-- The gradient at the up product. -/
abbrev argA : S4096x4096.Idx → EReal := m ((c : Thread nD τ).loc main_arg0)
/-- The weights. -/
abbrev argW : S4x1024x1024.Idx → EReal := m ((c : Thread nD τ).loc main_arg1)
/-- The residual's gradient. -/
abbrev argH : S4096x1024.Idx → EReal := m ((c : Thread nD τ).loc main_arg2)
/-- The norm's input. -/
abbrev argX : S4096x1024.Idx → EReal := m ((c : Thread nD τ).loc main_arg3)
/-- The norm's scale. -/
abbrev argG : S1x1024.Idx → EReal := m ((c : Thread nD τ).loc main_arg4)

theorem index0 : ∀ t : Fin cfg0.N, win0_0.index t = ![t.val / 4, t.val % 4] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![t.val / 4, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 4, 0] := (by decide +kernel : ∀ t : Fin grid0.N, _)
theorem index6 : ∀ t : Fin cfg0.N, win0_6.index t = ![t.val / 4, 0] := (by decide +kernel : ∀ t : Fin grid0.N, _)
theorem index7 : ∀ t : Fin cfg0.N, win0_7.index t = ![0, 0] := (by decide +kernel : ∀ t : Fin grid0.N, _)

/-- A row of the norm's input. -/
def xrow (s : Fin 4096) (k : Fin 1024) : EReal := argX m c (ix2 s k)

/-- The gradient at the norm's input, with the residual's. -/
def arrX (y : S4096x1024.Idx) : EReal :=
  dx (xrow m c (y 0)) (fun k => du (argA m c) (argW m c) (y 0) k * argG m c (ix2 0 k)) (argH m c y) (y 1)

/-- The gradient of the norm's scale. -/
def arrG (y : S1x1024.Idx) : EReal :=
  ∑ s, du (argA m c) (argW m c) s (y 1) * (xrow m c s (y 1) * rms (xrow m c s))

/-- What point `n` adds. -/
def part (n : ℕ) (r : Fin 512) (d : Fin 1024) : EReal :=
  if h : n < cfg0.N then prod (iblk m c 0 ⟨n, h⟩) (iblk m c 1 ⟨n, h⟩) r d else 0

theorem part_eq (t : Fin cfg0.N) (r : Fin 512) (d : Fin 1024) : part m c t.val r d = prod (iblk m c 0 t) (iblk m c 1 t) r d := dif_pos t.isLt

theorem step_A (r : Fin 512) (d : Fin 1024) (n : ℕ) (h : n < cfg0.N) (h0 : n % 4 = 0) : (outsAt0 m c n h).2.2.2 (ix2 r d) = part m c n r d := by
  rw [part_eq m c ⟨n, h⟩, outsAt0_A m c ⟨n, h⟩ h0 (by dsimp only; omega) (by dsimp only; omega)]
  dsimp only
  rw [acc_A]

theorem step_B (r : Fin 512) (d : Fin 1024) (n : ℕ) (h : n + 1 < cfg0.N) (h0 : (n + 1) % 4 ≠ 0) (h3 : (n + 1) % 4 ≠ 3) :
    (outsAt0 m c (n + 1) h).2.2.2 (ix2 r d) = (outsAt0 m c n (Nat.lt_of_succ_lt h)).2.2.2 (ix2 r d) + part m c (n + 1) r d := by
  rw [part_eq m c ⟨n + 1, h⟩, outsAt0_B m c ⟨n + 1, h⟩ h0 (by dsimp only; omega) h3]
  dsimp only
  rw [acc_B]
  rfl

/-- A tile's four parts are the product's entry. -/
theorem tile_sum (t : Fin cfg0.N) (ht : t.val % 4 = 3) (r : Fin 512) (d : Fin 1024) (s : Fin 4096) (hs : (s : ℕ) = t.val / 4 * 512 + r) :
    ∑ j ∈ Finset.range 4, part m c (t.val / 4 * 4 + j) r d = du (argA m c) (argW m c) s d := by
  have hN : cfg0.N = 32 := N_0
  have hl := t.isLt
  unfold du
  rw [Finset.sum_range]
  refine Finset.sum_congr rfl fun j _ => ?_
  have hb : t.val / 4 * 4 + j.val < cfg0.N := by omega
  rw [part_eq m c ⟨_, hb⟩, prod]
  refine Finset.sum_congr rfl fun k _ => ?_
  congr 1
  · blk_simp [iblk]
    show V m c main_arg0 _ = V m c main_arg0 _
    congr 1
    blk_ext [index0 ⟨_, hb⟩, tile]
  · blk_simp [iblk]
    show V m c main_arg1 _ = V m c main_arg1 _
    congr 1
    blk_ext [index1 ⟨_, hb⟩]

/-- The accumulator before a tile's last point, and that point's part. -/
theorem du_eq (t : Fin cfg0.N) (ht : t.val % 4 = 3) (hp : t.val - 1 < cfg0.N) (r : Fin 512) (d : Fin 1024) (s : Fin 4096)
    (hs : (s : ℕ) = t.val / 4 * 512 + r) :
    row (outsAt0 m c (t.val - 1) hp).2.2.2 r d + prod (iblk m c 0 t) (iblk m c 1 t) r d = du (argA m c) (argW m c) s d := by
  rw [← tile_sum m c t ht r d s hs,
    ← TileSum.last_eq (fun n h => (outsAt0 m c n h).2.2.2 (ix2 r d)) (fun n => part m c n r d) (step_A m c r d) (step_B m c r d) t.val ht hp,
    part_eq m c t]
  rfl

theorem row_x (t : Fin cfg0.N) (r : Fin 512) (s : Fin 4096) (hs : (s : ℕ) = t.val / 4 * 512 + r) : row (iblk m c 3 t) r = xrow m c s := by
  funext k
  unfold row xrow
  blk_simp [iblk]
  show V m c main_arg3 _ = V m c main_arg3 _
  congr 1
  blk_ext [index3 t]

theorem row_h (t : Fin cfg0.N) (r : Fin 512) (d : Fin 1024) (s : Fin 4096) (hs : (s : ℕ) = t.val / 4 * 512 + r) :
    row (iblk m c 2 t) r d = argH m c (ix2 s d) := by
  unfold row
  blk_simp [iblk]
  show V m c main_arg2 _ = V m c main_arg2 _
  congr 1
  blk_ext [index2 t]

theorem scale_g (t : Fin cfg0.N) (k : Fin 1024) : (iblk m c 4 t : Vec Ideal S1x1024 .f32) (ix2 0 k) = argG m c (ix2 0 k) := by
  blk_simp [iblk]
  show V m c main_arg4 _ = V m c main_arg4 _
  congr 1
  blk_ext [index4 t]

theorem dx_eq (t : Fin cfg0.N) (ht : t.val % 4 = 3) (hp : t.val - 1 < cfg0.N) (r : Fin 512) (d : Fin 1024) (s : Fin 4096)
    (hs : (s : ℕ) = t.val / 4 * 512 + r) :
    dxBlk (iblk m c 0 t) (iblk m c 1 t) (iblk m c 2 t) (iblk m c 3 t) (iblk m c 4 t) (outsAt0 m c (t.val - 1) hp).2.2.2 r d
      = arrX m c (ix2 s d) := by
  unfold dxBlk arrX
  rw [row_x m c t r s hs, row_h m c t r d s hs]
  show dx _ _ _ _ = dx _ _ _ _
  congr 1
  funext k
  rw [du_eq m c t ht hp r k s hs, scale_g]
  rfl

/-- The two outputs at the norm's input after a tile's last point. -/
theorem outs_eq (t : Fin cfg0.N) (ht : t.val % 4 = 3) (r : Fin 512) (d : Fin 1024) (s : Fin 4096) (hs : (s : ℕ) = t.val / 4 * 512 + r) :
    (outsAt0 m c t.val t.isLt).1 (ix2 r d) = arrX m c (ix2 s d) ∧ (outsAt0 m c t.val t.isLt).2.1 (ix2 r d) = arrX m c (ix2 s d) := by
  have hp : t.val - 1 < cfg0.N := by have := t.isLt; omega
  rw [← dx_eq m c t ht hp r d s hs]
  by_cases h4 : t.val < 4
  · rw [outsAt0_C m c t (by omega) (by omega) ht h4]
    dsimp only
    rw [out_C5, out_C6]
    exact ⟨rfl, rfl⟩
  · rw [outsAt0_D m c t (by omega) (by omega) ht h4]
    dsimp only
    rw [out_D5, out_D6]
    exact ⟨rfl, rfl⟩

/-- What tile `n / 4` adds to the scale's gradient. -/
def gpart (d : Fin 1024) (n : ℕ) : EReal :=
  if h : n < cfg0.N then
    dgBlk (iblk m c 0 ⟨n, h⟩) (iblk m c 1 ⟨n, h⟩) (iblk m c 3 ⟨n, h⟩) (outsAt0 m c (n - 1) (Nat.lt_of_le_of_lt (Nat.sub_le _ _) h)).2.2.2 d
  else 0

/-- The position of a tile's row. -/
def rowAt (t : Fin cfg0.N) (r : Fin 512) : Fin 4096 :=
  ⟨t.val / 4 * 512 + r.val, by have := t.isLt; have hN : cfg0.N = 32 := N_0; omega⟩

theorem gpart_eq (d : Fin 1024) (t : Fin cfg0.N) (ht : t.val % 4 = 3) :
    gpart m c d t.val = ∑ r : Fin 512, du (argA m c) (argW m c) (rowAt t r) d
      * (xrow m c (rowAt t r) d
        * rms (xrow m c (rowAt t r))) := by
  unfold gpart
  rw [dif_pos t.isLt]
  unfold dgBlk
  refine Finset.sum_congr rfl fun r _ => ?_
  rw [row_x m c t r (rowAt t r) rfl]
  congr 1
  exact du_eq m c t ht _ r d (rowAt t r) rfl

theorem g_first (d : Fin 1024) (h : 3 < cfg0.N) : (outsAt0 m c 3 h).2.2.1 (ix2 0 d) = gpart m c d 3 := by
  unfold gpart
  rw [dif_pos h, outsAt0_C m c ⟨3, h⟩ (by dsimp only; omega) (by dsimp only; omega) rfl (by dsimp only; omega)]
  dsimp only
  rw [out_C7]

theorem g_keep (d : Fin 1024) (n : ℕ) (h : n + 1 < cfg0.N) (h3 : (n + 1) % 4 ≠ 3) :
    (outsAt0 m c (n + 1) h).2.2.1 (ix2 0 d) = (outsAt0 m c n (Nat.lt_of_succ_lt h)).2.2.1 (ix2 0 d) := by
  by_cases h0 : (n + 1) % 4 = 0
  · rw [outsAt0_A m c ⟨n + 1, h⟩ h0 (by dsimp only; omega) h3]
    rfl
  · rw [outsAt0_B m c ⟨n + 1, h⟩ h0 (by dsimp only; omega) h3]
    rfl

theorem g_add (d : Fin 1024) (n : ℕ) (h : n + 1 < cfg0.N) (hn : 3 ≤ n) (h3 : (n + 1) % 4 = 3) :
    (outsAt0 m c (n + 1) h).2.2.1 (ix2 0 d) = (outsAt0 m c n (Nat.lt_of_succ_lt h)).2.2.1 (ix2 0 d) + gpart m c d (n + 1) := by
  unfold gpart
  rw [dif_pos h, outsAt0_D m c ⟨n + 1, h⟩ (by dsimp only; omega) (by dsimp only; omega) h3 (by dsimp only; omega)]
  dsimp only
  rw [out_D7]
  rfl

/-- The scale's gradient after the last point. -/
theorem out7_eq (t : Fin cfg0.N) (ht : t.val = 31) (d : Fin 1024) : (outsAt0 m c t.val t.isLt).2.2.1 (ix2 0 d) = arrG m c (ix2 0 d) := by
  have hN : cfg0.N = 32 := N_0
  rw [TileSum.runs_eq (fun n h => (outsAt0 m c n h).2.2.1 (ix2 0 d)) (gpart m c d) (g_first m c d) (g_keep m c d) (g_add m c d) t.val t.isLt (by omega),
    show (t.val + 1) / 4 = 8 by omega, Finset.sum_range]
  unfold arrG
  rw [Fin.sum_univ_tiles 8 512 rfl]
  refine Finset.sum_congr rfl fun j _ => ?_
  have hb : j.val * 4 + 3 < cfg0.N := by omega
  rw [gpart_eq m c d ⟨_, hb⟩ (by dsimp only; omega)]
  refine Finset.sum_congr rfl fun r _ => ?_
  have e : rowAt ⟨_, hb⟩ r = ⟨j.val * 512 + r.val, by omega⟩ := Fin.ext (by dsimp only [rowAt]; omega)
  rw [e]
  rfl

theorem final5 : (dats m 0 c).arrAt 5 cfg0.N = arrX m c := by
  refine (dats m 0 c).arrAt_eq_of_covers 5 _ (by decide +kernel) fun t hf y => ?_
  blk_simp
  rw [after0_5]
  have h := (outs_eq m c t ((flush0_5 t).mp hf) (y 0) (y 1) ⟨t.val / 4 * 512 + (y 0).val, by
    have hl : t.val < 32 := lt_of_lt_of_eq t.isLt N_0; have h0 : (y 0).val < 512 := (y 0).isLt; omega⟩ rfl).1
  rw [ix2_eta] at h
  refine h.trans ?_
  congr 1
  blk_ext [index5 t]

theorem final6 : (dats m 0 c).arrAt 6 cfg0.N = arrX m c := by
  refine (dats m 0 c).arrAt_eq_of_covers 6 _ (by decide +kernel) fun t hf y => ?_
  blk_simp
  rw [after0_6]
  have h := (outs_eq m c t ((flush0_6 t).mp hf) (y 0) (y 1) ⟨t.val / 4 * 512 + (y 0).val, by
    have hl : t.val < 32 := lt_of_lt_of_eq t.isLt N_0; have h0 : (y 0).val < 512 := (y 0).isLt; omega⟩ rfl).2
  rw [ix2_eta] at h
  refine h.trans ?_
  congr 1
  blk_ext [index6 t]

theorem final7 : (dats m 0 c).arrAt 7 cfg0.N = arrG m c := by
  refine (dats m 0 c).arrAt_eq_of_covers 7 _ (by decide +kernel) fun t hf y => ?_
  blk_simp
  rw [after0_7]
  have h := out7_eq m c t (by have := (flush0_7 t).mp hf; have := t.isLt; have hN : cfg0.N = 32 := N_0; omega) (y 1)
  have e : (ix2 0 (y 1) : S1x1024.Idx) = y := (congrArg (fun a => ix2 a (y 1)) (Subsingleton.elim (α := Fin 1) 0 (y 0))).trans (ix2_eta y)
  rw [e] at h
  refine h.trans ?_
  congr 1
  blk_ext [index7 t]

end Cert.KernelNormIdeal.Blocks
-- ==== Proof.NormClaim.lean ====
module

public import proofs.«01_k».proof.Defs
public import proofs.«01_k».proof.Proof.NormArray
public import proofs.«01_k».proof.Proof.Gen.KernelNorm.Frame
public import proofs.«01_k».proof.Proof.Gen.ReferenceNormIdeal.Run
public import proofs.«01_k».proof.Proof.Gen.ReferenceNormIdeal.Read

@[expose] public section
noncomputable section

open Idealize.ShloMosaic Idealize.ShloMosaic.TcCoe Idealize.SL.Sem

/-! The gradient through the feed-forward's up product and norm: kernel and reference end with the same three arrays. -/

namespace Cert.ReferenceNormIdeal.Grad

open Cert.ReferenceNormIdeal Cert.ReferenceNormIdeal.Gen Cert.ReferenceNormIdeal.Read Cert.NormMath

variable (x0 : (⟨S4096x4096, .bf16⟩ : BufTy).Contents (Elt Ideal)) (x1 : (⟨S4x1024x1024, .bf16⟩ : BufTy).Contents (Elt Ideal))
  (x2 x3 : (⟨S4096x1024, .f32⟩ : BufTy).Contents (Elt Ideal)) (x4 : (⟨S1x1024, .f32⟩ : BufTy).Contents (Elt Ideal))

/-- A row of the norm's input. -/
def xr (s : Fin 4096) (k : Fin 1024) : EReal := x3 (ix2 s k)

theorem w_ix (j : Fin 4) (d k : Fin 1024) : val_main_v8 (F := Ideal) x1 (ix2 d (tile j k)) = x1 (ix3 j d k) := by
  have hk := k.isLt
  fin_cases j
  · have e : (tile 0 k).val = 0 * 1024 + k.val := rfl
    pointwise [val_main_v8, val_main_v1, val_main_v0]
    split_ifs <;> first
      | omega
      | exact congrArg x1 (congrArg (ix3 0 d) (Fin.ext (by dsimp only; omega)))
  · have e : (tile 1 k).val = 1 * 1024 + k.val := rfl
    pointwise [val_main_v8, val_main_v3, val_main_v2]
    split_ifs <;> first
      | omega
      | exact congrArg x1 (congrArg (ix3 1 d) (Fin.ext (by dsimp only; omega)))
  · have e : (tile 2 k).val = 2 * 1024 + k.val := rfl
    pointwise [val_main_v8, val_main_v5, val_main_v4]
    split_ifs <;> first
      | omega
      | exact congrArg x1 (congrArg (ix3 2 d) (Fin.ext (by dsimp only; omega)))
  · have e : (tile 3 k).val = 3 * 1024 + k.val := rfl
    pointwise [val_main_v8, val_main_v7, val_main_v6]
    split_ifs <;> first
      | omega
      | exact congrArg x1 (congrArg (ix3 3 d) (Fin.ext (by dsimp only; omega)))

theorem du_ix (s : Fin 4096) (d : Fin 1024) : val_main_v27 (F := Ideal) x0 x1 (ix2 s d) = du x0 x1 s d := by
  pointwise [val_main_v27, val_main_v10, val_main_v9]
  unfold du
  rw [Fin.sum_univ_tiles 4 1024 rfl]
  refine Finset.sum_congr rfl fun j _ => Finset.sum_congr rfl fun k _ => ?_
  rw [← w_ix x1 j d k]
  rfl

theorem msq_ix (s : Fin 4096) : val_main_v17 (F := Ideal) x3 (ix2 s 0) = msq (xr x3 s) := by
  pointwise [val_main_v17, val_main_v16, val_main_v15, val_main_v14, val_main_v13, val_main_v12, val_main_v11, val_main_cst, val_main_cst_0, val_main_cst_1]
  rfl

theorem rms_ix (s : Fin 4096) : val_main_v18 (F := Ideal) x3 (ix2 s 0) = rms (xr x3 s) := by
  pointwise [val_main_v18]
  rw [msq_ix]
  rfl

theorem a_ix (s : Fin 4096) (d : Fin 1024) : val_main_v32 (F := Ideal) x0 x1 x4 (ix2 s d) = du x0 x1 s d * x4 (ix2 0 d) := by
  pointwise [val_main_v32, val_main_v31, du_ix]

theorem coef_ix (s : Fin 4096) (d : Fin 1024) :
    val_main_v43 (F := Ideal) x0 x1 x3 x4 (ix2 s d) = coef (xr x3 s) (fun k => du x0 x1 s k * x4 (ix2 0 k)) := by
  pointwise [val_main_v43, val_main_v42, val_main_v41, val_main_v40, val_main_v39, val_main_v35, val_main_v34, val_main_v33, val_main_v21,
    val_main_v20, val_main_v19, val_main_cst_2, val_main_cst_4, val_main_cst_5, val_main_cst_6, a_ix]
  rw [Fin.sum_univ_one, rms_ix, msq_ix]
  rfl

theorem res0_ix (s : Fin 4096) (d : Fin 1024) :
    val_main_v47 (F := Ideal) x0 x1 x2 x3 x4 (ix2 s d) = dx (xr x3 s) (fun k => du x0 x1 s k * x4 (ix2 0 k)) (x2 (ix2 s d)) d := by
  rw [← ref_dx]
  pointwise [val_main_v47, val_main_v46, val_main_v45, val_main_v44, val_main_v38, val_main_v37, val_main_v36, a_ix, coef_ix, rms_ix]
  rfl

theorem res1_ix (s : Fin 4096) (d : Fin 1024) :
    val_main_v48 (F := Ideal) x0 x1 x2 x3 x4 (ix2 s d) = dx (xr x3 s) (fun k => du x0 x1 s k * x4 (ix2 0 k)) (x2 (ix2 s d)) d := by
  rw [← res0_ix]
  pointwise [val_main_v48]

theorem res2_ix (d : Fin 1024) :
    val_main_v30 (F := Ideal) x0 x1 x3 (ix2 0 d) = ∑ s, du x0 x1 s d * (xr x3 s d * rms (xr x3 s)) := by
  pointwise [val_main_v30, val_main_v29, val_main_v28, val_main_v23, val_main_v22, val_main_cst_3, du_ix, rms_ix]
  exact Finset.sum_congr rfl fun s _ => mul_comm _ _

/-- The reference's first result. -/
theorem res0 (y : S4096x1024.Idx) :
    val_main_v47 (F := Ideal) x0 x1 x2 x3 x4 y = dx (xr x3 (y 0)) (fun k => du x0 x1 (y 0) k * x4 (ix2 0 k)) (x2 y) (y 1) := by
  have h := res0_ix x0 x1 x2 x3 x4 (y 0) (y 1)
  rw [ix2_eta] at h
  exact h

/-- The reference's second result. -/
theorem res1 (y : S4096x1024.Idx) :
    val_main_v48 (F := Ideal) x0 x1 x2 x3 x4 y = dx (xr x3 (y 0)) (fun k => du x0 x1 (y 0) k * x4 (ix2 0 k)) (x2 y) (y 1) := by
  have h := res1_ix x0 x1 x2 x3 x4 (y 0) (y 1)
  rw [ix2_eta] at h
  exact h

/-- The reference's third result. -/
theorem res2 (y : S1x1024.Idx) :
    val_main_v30 (F := Ideal) x0 x1 x3 y = ∑ s, du x0 x1 s (y 1) * (xr x3 s (y 1) * rms (xr x3 s)) := by
  have e : (ix2 0 (y 1) : S1x1024.Idx) = y := (congrArg (fun a => ix2 a (y 1)) (Subsingleton.elim (α := Fin 1) 0 (y 0))).trans (ix2_eta y)
  have h := res2_ix x0 x1 x3 (y 1)
  rw [e] at h
  exact h

end Cert.ReferenceNormIdeal.Grad

namespace Cert.NormClaim

/-- The kernel runs, and leaves its arguments and every counter as they were. -/
theorem frame_kernel (h : Cert.KernelNorm.Facts) : Cert.quiescent_KernelNorm (hKernelNorm := h) :=
  fun m ρ _ => Cert.KernelNorm.Gen.frame m ρ

/-- The same of its reading over the extended reals. -/
theorem frame_ideal (h : Cert.KernelNormIdeal.Facts) : Cert.quiescent_KernelNormIdeal (hKernelNormIdeal := h) :=
  fun m ρ _ => Cert.KernelNormIdeal.Gen.frame m ρ

/-- The reference's run leaves its arguments and every counter as they were. -/
theorem frame_ref (h : Cert.ReferenceNormIdeal.Facts) : Cert.quiescent_ReferenceNormIdeal (hReferenceNormIdeal := h) :=
  fun m ρ _ => (θ_run _ _ _).mono (fun r h => ⟨fun c => (h c).2.2.2, sem_eq_zero_of_no_sems (by decide) r.2⟩)
    (Cert.ReferenceNormIdeal.Value.run m ρ)

/-- The kernel's three results are the reference's. -/
theorem algebraic (h : Cert.KernelNormIdeal.Facts) (h' : Cert.ReferenceNormIdeal.Facts) :
    Cert.algebraic_KernelNormIdeal_ReferenceNormIdeal (hKernelNormIdeal := h) (hReferenceNormIdeal := h') := by
  intro m g m' g' hpre hargs
  refine ⟨fun c => Cert.KernelNormIdeal.Blocks.arrX m c, fun c => Cert.KernelNormIdeal.Blocks.arrX m c, fun c => Cert.KernelNormIdeal.Blocks.arrG m c,
    (θ_run _ _ _).mono (fun r h c => ?_) (Cert.KernelNormIdeal.Value.run_blocks m g),
    (θ_run _ _ _).mono (fun r h c => ?_) (Cert.ReferenceNormIdeal.Value.run m' g')⟩
  · obtain ⟨h0, h1, h2, hr⟩ := h c
    exact ⟨h0.trans (Cert.KernelNormIdeal.Blocks.final5 m c), h1.trans (Cert.KernelNormIdeal.Blocks.final6 m c),
      h2.trans (Cert.KernelNormIdeal.Blocks.final7 m c), hr⟩
  · obtain ⟨h0, h1, h2, hr⟩ := h c
    obtain ⟨a0, a1, a2, a3, a4⟩ := hargs c
    refine ⟨h0.trans ?_, h1.trans ?_, h2.trans ?_, hr⟩
    · rw [Cert.ReferenceNormIdeal.Read.val_main_v47_eq, a0, a1, a2, a3, a4]
      exact funext fun y => Cert.ReferenceNormIdeal.Grad.res0 _ _ _ _ _ y
    · rw [Cert.ReferenceNormIdeal.Read.val_main_v48_eq, a0, a1, a2, a3, a4]
      exact funext fun y => Cert.ReferenceNormIdeal.Grad.res1 _ _ _ _ _ y
    · rw [Cert.ReferenceNormIdeal.Read.val_main_v30_eq, a0, a1, a3]
      exact funext fun y => Cert.ReferenceNormIdeal.Grad.res2 _ _ _ y

end Cert.NormClaim
-- ==== Proof.ProjBlock.lean ====
module

public import proofs.«01_k».proof.Proof.Gen.KernelProjIdeal.Value
public import proofs.«01_k».proof.Proof.TileSum
public import Idealize.ShloMosaic.Lib.Pointwise
public import Idealize.ShloMosaic.Lib.Pipeline.ValueKit
public import Idealize.ShloMosaic.Lib.Pipeline.ValueKit.Tiles
public import Idealize.ShloMosaic.Lib.Pipeline.ReadBack

@[expose] public section
noncomputable section

open Idealize.ShloMosaic Idealize.ShloMosaic.TcCoe Idealize.SL.Sem

/-! The gradient of a square projection's weights: the two result arrays of the kernel, at an index. -/

namespace Cert.KernelProjIdeal.Blocks

open Cert.KernelProjIdeal Cert.KernelProjIdeal.Gen

/-- An entry of the product of two blocks over their rows. -/
def prod (x0 x1 : Vec Ideal S1024x1024 .bf16) (y : S1024x1024.Idx) : EReal := ∑ k, x0 (ix2 k (y 0)) * x1 (ix2 k (y 1))

theorem pay1_apply (x0 x1 : Vec Ideal S1024x1024 .bf16) (y : S1024x1024.Idx) : k0_pay1 (F := Ideal) x0 x1 y = prod x0 x1 y := by
  pointwise [k0_pay1]
  rfl

theorem pay2_apply (v : Vec Ideal S1024x1024 .f32) (x0 x1 : Vec Ideal S1024x1024 .bf16) (y : S1024x1024.Idx) :
    k0_pay2 (F := Ideal) v x0 x1 y = v y + prod x0 x1 y := by
  pointwise [k0_pay2]
  rfl

theorem pay3_apply (v : Vec Ideal S1024x1024 .f32) (x0 x1 : Vec Ideal S1024x1024 .bf16) (y : S1024x1024.Idx) :
    k0_pay3 (F := Ideal) v x0 x1 y = v y + prod x0 x1 y := by
  pointwise [k0_pay3]
  rfl

theorem pay4_apply (v : Vec Ideal S1024x1024 .f32) (x0 x1 : Vec Ideal S1024x1024 .bf16) (y : S1024x1024.Idx) :
    k0_pay4 (F := Ideal) v x0 x1 y = v y + prod x0 x1 y := by
  pointwise [k0_pay4]
  exact pay3_apply v x0 x1 y

theorem ld_whole {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem same (x y : S1024x1024.Idx) (h0 : (y 0 : ℕ) = x 0) (h1 : (y 1 : ℕ) = x 1) : x = y := funext fun a => by
  match a with
  | ⟨0, _⟩ => exact Fin.ext h0.symm
  | ⟨1, _⟩ => exact Fin.ext h1.symm

section Points
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .bf16) (h6 : a6.IsWhole) (a7 : Memref sig .tc .vmem S1024x1024 .f32) (h7 : a7.IsWhole)
  (x0 x1 : Vec Ideal S1024x1024 .bf16) (xs : Vec Ideal S1024x1024 .f32) (y : S1024x1024.Idx)

/-- What the first point of a tile leaves in the accumulator. -/
theorem acc_A (hc0 : cond0_0 i) (hc1 : ¬cond0_1 i) (hc2 : ¬cond0_2 i) :
    sout0_A_0 (F := Ideal) c i a3 h3 a4 h4 a5 h5 a6 h6 a7 h7 hc0 hc1 hc2 x0 x1 y = prod x0 x1 y := by
  unfold sout0_A_0
  rw [View.read_writes_eq_canon _ _ _ (scover0_A_0 c i a3 h3 a4 h4 a5 h5 a6 h6 a7 h7 hc0 hc1 hc2 x0 x1)]
  unfold kernelRun0_A
  dsimp only
  sl_unfold_words
  simp only [View.readAt_eq_ld, h3.read_unread, h4.read_unread, ld_whole]
  canon_tiles x hx
  rw [same x y hx0 hx1, pay1_apply]

/-- What a middle point of a tile leaves in the accumulator. -/
theorem acc_B (hc0 : ¬cond0_0 i) (hc1 : cond0_1 i) (hc2 : ¬cond0_2 i) :
    sout0_B_0 (F := Ideal) c i a3 h3 a4 h4 a5 h5 a6 h6 a7 h7 hc0 hc1 hc2 x0 x1 xs y = xs y + prod x0 x1 y := by
  unfold sout0_B_0
  rw [View.read_writes_eq_canon _ _ _ (scover0_B_0 c i a3 h3 a4 h4 a5 h5 a6 h6 a7 h7 hc0 hc1 hc2 x0 x1 xs)]
  unfold kernelRun0_B
  dsimp only
  sl_unfold_words
  simp only [View.readAt_eq_ld, h3.read_unread, h4.read_unread, h7.read_unread, ld_whole]
  canon_tiles x hx
  rw [same x y hx0 hx1, pay2_apply]

/-- What the last point of a tile leaves in the first output. -/
theorem out_C2 (hc0 : ¬cond0_0 i) (hc1 : ¬cond0_1 i) (hc2 : cond0_2 i) :
    out0_C_2 (F := Ideal) c i a3 h3 a4 h4 a5 h5 a6 h6 a7 h7 hc0 hc1 hc2 x0 x1 xs y = xs y + prod x0 x1 y := by
  unfold out0_C_2
  rw [View.read_writes_eq_canon _ _ _ (cover0_C_2 c i a3 h3 a4 h4 a5 h5 a6 h6 a7 h7 hc0 hc1 hc2 x0 x1 xs)]
  unfold kernelRun0_C
  dsimp only
  sl_unfold_words
  simp only [View.readAt_eq_ld, h3.read_unread, h4.read_unread, h7.read_unread, ld_whole]
  canon_tiles x hx
  rw [same x y hx0 hx1, pay3_apply]

/-- What the last point of a tile leaves in the second output. -/
theorem out_C3 (hc0 : ¬cond0_0 i) (hc1 : ¬cond0_1 i) (hc2 : cond0_2 i) :
    out0_C_3 (F := Ideal) c i a3 h3 a4 h4 a5 h5 a6 h6 a7 h7 hc0 hc1 hc2 x0 x1 xs y = xs y + prod x0 x1 y := by
  unfold out0_C_3
  rw [View.read_writes_eq_canon _ _ _ (cover0_C_3 c i a3 h3 a4 h4 a5 h5 a6 h6 a7 h7 hc0 hc1 hc2 x0 x1 xs)]
  unfold kernelRun0_C
  dsimp only
  sl_unfold_words
  simp only [View.readAt_eq_ld, h3.read_unread, h4.read_unread, h7.read_unread, ld_whole]
  canon_tiles x hx
  rw [same x y hx0 hx1, pay4_apply]

end Points

variable (m : (ℓ : Loc nD τ sig) → Buf (Elt Ideal) ℓ) (c : Dev nD)

/-- The projection's input. -/
abbrev argH : S4096x1024.Idx → EReal := m ((c : Thread nD τ).loc main_arg0)
/-- The gradient of the output. -/
abbrev argG : S4096x1024.Idx → EReal := m ((c : Thread nD τ).loc main_arg1)

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![t.val / 4, 0] := (by decide +kernel : ∀ t : Fin grid0.N, _)

/-- The result. -/
def arr : S1024x1024.Idx → EReal := fun y => ∑ s, argH m c (ix2 s (y 0)) * argG m c (ix2 s (y 1))

/-- What point `n` adds. -/
def part (n : ℕ) (y : S1024x1024.Idx) : EReal :=
  if h : n < cfg0.N then prod (iblk m c 0 ⟨n, h⟩) (iblk m c 1 ⟨n, h⟩) y else 0

theorem part_eq (t : Fin cfg0.N) (y : S1024x1024.Idx) : part m c t.val y = prod (iblk m c 0 t) (iblk m c 1 t) y := dif_pos t.isLt

/-- A tile's first point starts the accumulator. -/
theorem step_A (y : S1024x1024.Idx) (n : ℕ) (h : n < cfg0.N) (h0 : n % 4 = 0) : (outsAt0 m c n h).2.2 y = part m c n y := by
  rw [part_eq m c ⟨n, h⟩, outsAt0_A m c ⟨n, h⟩ h0 (by dsimp only; omega) (by dsimp only; omega)]
  dsimp only
  rw [acc_A]

/-- A tile's middle points add to it. -/
theorem step_B (y : S1024x1024.Idx) (n : ℕ) (h : n + 1 < cfg0.N) (h0 : (n + 1) % 4 ≠ 0) (h3 : (n + 1) % 4 ≠ 3) :
    (outsAt0 m c (n + 1) h).2.2 y = (outsAt0 m c n (Nat.lt_of_succ_lt h)).2.2 y + part m c (n + 1) y := by
  rw [part_eq m c ⟨n + 1, h⟩, outsAt0_B m c ⟨n + 1, h⟩ h0 (by dsimp only; omega) h3]
  dsimp only
  rw [acc_B]
  rfl

/-- A tile's four parts are the result's entry. -/
theorem tile_sum (t : Fin cfg0.N) (ht : t.val % 4 = 3) (y : S1024x1024.Idx) (z : S1024x1024.Idx)
    (hz0 : (z 0 : ℕ) = t.val / 4 * 1024 + y 0) (hz1 : (z 1 : ℕ) = y 1) :
    ∑ j ∈ Finset.range 4, part m c (t.val / 4 * 4 + j) y = arr m c z := by
  have hN : cfg0.N = 4 := N_0
  have hl := t.isLt
  unfold arr
  rw [Fin.sum_univ_tiles 4 1024 rfl, Finset.sum_range]
  refine Finset.sum_congr rfl fun j _ => ?_
  have hb : t.val / 4 * 4 + j.val < cfg0.N := by omega
  rw [part_eq m c ⟨_, hb⟩, prod]
  refine Finset.sum_congr rfl fun k _ => ?_
  congr 1
  · blk_simp [iblk]
    show V m c main_arg0 _ = V m c main_arg0 _
    congr 1
    blk_ext [index0 ⟨_, hb⟩]
  · blk_simp [iblk]
    show V m c main_arg1 _ = V m c main_arg1 _
    congr 1
    blk_ext [index1 ⟨_, hb⟩]

/-- The two outputs after a tile's last point. -/
theorem outs_eq (t : Fin cfg0.N) (ht : t.val % 4 = 3) (y : S1024x1024.Idx) (z : S1024x1024.Idx)
    (hz0 : (z 0 : ℕ) = t.val / 4 * 1024 + y 0) (hz1 : (z 1 : ℕ) = y 1) :
    (outsAt0 m c t.val t.isLt).1 y = arr m c z ∧ (outsAt0 m c t.val t.isLt).2.1 y = arr m c z := by
  have hp : t.val - 1 < cfg0.N := by have := t.isLt; omega
  rw [← tile_sum m c t ht y z hz0 hz1,
    ← TileSum.last_eq (fun n h => (outsAt0 m c n h).2.2 y) (fun n => part m c n y) (step_A m c y) (step_B m c y) t.val ht hp,
    part_eq m c t, outsAt0_C m c t (by omega) (by omega) ht]
  dsimp only
  rw [out_C2, out_C3]
  exact ⟨rfl, rfl⟩

theorem final0 : (dats m 0 c).arrAt 2 cfg0.N = arr m c := by
  refine (dats m 0 c).arrAt_eq_of_covers 2 _ (by decide +kernel) fun t hf y => ?_
  blk_simp
  rw [after0_2]
  refine (outs_eq m c t ((flush0_2 t).mp hf) _ _ ?_ ?_).1
  · blk_simp [index2 t]
  · blk_simp [index2 t]

theorem final1 : (dats m 0 c).arrAt 3 cfg0.N = arr m c := by
  refine (dats m 0 c).arrAt_eq_of_covers 3 _ (by decide +kernel) fun t hf y => ?_
  blk_simp
  rw [after0_3]
  refine (outs_eq m c t ((flush0_3 t).mp hf) _ _ ?_ ?_).2
  · blk_simp [index3 t]
  · blk_simp [index3 t]

end Cert.KernelProjIdeal.Blocks
-- ==== Proof.ProjClaim.lean ====
module

public import proofs.«01_k».proof.Defs
public import proofs.«01_k».proof.Proof.ProjBlock
public import proofs.«01_k».proof.Proof.Gen.KernelProj.Frame
public import proofs.«01_k».proof.Proof.Gen.ReferenceProjIdeal.Run
public import proofs.«01_k».proof.Proof.Gen.ReferenceProjIdeal.Read

@[expose] public section
noncomputable section

open Idealize.ShloMosaic Idealize.ShloMosaic.TcCoe Idealize.SL.Sem

/-! The gradient of a square projection's weights: kernel and reference end with the same two arrays. -/

namespace Cert.ReferenceProjIdeal.Grad

open Cert.ReferenceProjIdeal Cert.ReferenceProjIdeal.Gen Cert.ReferenceProjIdeal.Read

variable (x0 : (⟨S4096x1024, .bf16⟩ : BufTy).Contents (Elt Ideal)) (x1 : (⟨S4096x1024, .bf16⟩ : BufTy).Contents (Elt Ideal))

theorem res0_ix (f d : Fin 1024) :
    val_main_v5 (F := Ideal) x0 x1 (ix2 f d) = ∑ s : Fin 4096, x0 (ix2 s f) * x1 (ix2 s d) := by
  pointwise [val_main_v5, val_main_v4]
  exact Finset.sum_congr rfl fun k _ => mul_comm _ _

theorem res1_ix (f d : Fin 1024) :
    val_main_v6 (F := Ideal) x0 x1 (ix2 f d) = ∑ s : Fin 4096, x0 (ix2 s f) * x1 (ix2 s d) := by
  rw [← res0_ix]
  pointwise [val_main_v6]

/-- The reference's first result. -/
theorem res0 (y : S1024x1024.Idx) :
    val_main_v5 (F := Ideal) x0 x1 y = ∑ s : Fin 4096, x0 (ix2 s (y 0)) * x1 (ix2 s (y 1)) := by
  have h := res0_ix x0 x1 (y 0) (y 1)
  rw [ix2_eta] at h
  exact h

/-- The reference's second result. -/
theorem res1 (y : S1024x1024.Idx) :
    val_main_v6 (F := Ideal) x0 x1 y = ∑ s : Fin 4096, x0 (ix2 s (y 0)) * x1 (ix2 s (y 1)) := by
  have h := res1_ix x0 x1 (y 0) (y 1)
  rw [ix2_eta] at h
  exact h

end Cert.ReferenceProjIdeal.Grad

namespace Cert.ProjClaim

/-- The kernel runs, and leaves its arguments and every counter as they were. -/
theorem frame_kernel (h : Cert.KernelProj.Facts) : Cert.quiescent_KernelProj (hKernelProj := h) :=
  fun m ρ _ => Cert.KernelProj.Gen.frame m ρ

/-- The same of its reading over the extended reals. -/
theorem frame_ideal (h : Cert.KernelProjIdeal.Facts) : Cert.quiescent_KernelProjIdeal (hKernelProjIdeal := h) :=
  fun m ρ _ => Cert.KernelProjIdeal.Gen.frame m ρ

/-- The reference's run leaves its arguments and every counter as they were. -/
theorem frame_ref (h : Cert.ReferenceProjIdeal.Facts) : Cert.quiescent_ReferenceProjIdeal (hReferenceProjIdeal := h) :=
  fun m ρ _ => (θ_run _ _ _).mono (fun r h => ⟨fun c => (h c).2.2, sem_eq_zero_of_no_sems (by decide) r.2⟩)
    (Cert.ReferenceProjIdeal.Value.run m ρ)

/-- The kernel's two results are the reference's. -/
theorem algebraic (h : Cert.KernelProjIdeal.Facts) (h' : Cert.ReferenceProjIdeal.Facts) :
    Cert.algebraic_KernelProjIdeal_ReferenceProjIdeal (hKernelProjIdeal := h) (hReferenceProjIdeal := h') := by
  intro m g m' g' hpre hargs
  refine ⟨fun c => Cert.KernelProjIdeal.Blocks.arr m c, fun c => Cert.KernelProjIdeal.Blocks.arr m c,
    (θ_run _ _ _).mono (fun r h c => ?_) (Cert.KernelProjIdeal.Value.run_blocks m g),
    (θ_run _ _ _).mono (fun r h c => ?_) (Cert.ReferenceProjIdeal.Value.run m' g')⟩
  · obtain ⟨h0, h1, h2⟩ := h c
    exact ⟨h0.trans (Cert.KernelProjIdeal.Blocks.final0 m c), h1.trans (Cert.KernelProjIdeal.Blocks.final1 m c), h2⟩
  · obtain ⟨h0, h1, h2⟩ := h c
    obtain ⟨a0, a1⟩ := hargs c
    refine ⟨h0.trans ?_, h1.trans ?_, h2⟩
    · rw [Cert.ReferenceProjIdeal.Read.val_main_v5_eq, a0, a1]
      exact funext fun y => Cert.ReferenceProjIdeal.Grad.res0 _ _ y
    · rw [Cert.ReferenceProjIdeal.Read.val_main_v6_eq, a0, a1]
      exact funext fun y => Cert.ReferenceProjIdeal.Grad.res1 _ _ y

end Cert.ProjClaim
-- ==== Proof.InBlock.lean ====
module

public import proofs.«01_k».proof.Proof.Gen.KernelInIdeal.Value
public import proofs.«01_k».proof.Proof.TileSum
public import Idealize.ShloMosaic.Lib.Pointwise
public import Idealize.ShloMosaic.Lib.Pipeline.ValueKit
public import Idealize.ShloMosaic.Lib.Pipeline.ValueKit.Tiles
public import Idealize.ShloMosaic.Lib.Pipeline.ReadBack

@[expose] public section
noncomputable section

open Idealize.ShloMosaic Idealize.ShloMosaic.TcCoe Idealize.SL.Sem

/-! The gradient of the input projection's weights: the two result arrays of the kernel, at an index. -/

namespace Cert.KernelInIdeal.Blocks

open Cert.KernelInIdeal Cert.KernelInIdeal.Gen

/-- An entry of the product of two blocks over their rows. -/
def prod (x0 : Vec Ideal S1024x1024 .bf16) (x1 : Vec Ideal S1024x640 .bf16) (y : S1024x640.Idx) : EReal := ∑ k, x0 (ix2 k (y 0)) * x1 (ix2 k (y 1))

theorem pay1_apply (x0 : Vec Ideal S1024x1024 .bf16) (x1 : Vec Ideal S1024x640 .bf16) (y : S1024x640.Idx) : k0_pay1 (F := Ideal) x0 x1 y = prod x0 x1 y := by
  pointwise [k0_pay1]
  rfl

theorem pay2_apply (v : Vec Ideal S1024x640 .f32) (x0 : Vec Ideal S1024x1024 .bf16) (x1 : Vec Ideal S1024x640 .bf16) (y : S1024x640.Idx) :
    k0_pay2 (F := Ideal) v x0 x1 y = v y + prod x0 x1 y := by
  pointwise [k0_pay2]
  rfl

theorem pay3_apply (v : Vec Ideal S1024x640 .f32) (x0 : Vec Ideal S1024x1024 .bf16) (x1 : Vec Ideal S1024x640 .bf16) (y : S1024x640.Idx) :
    k0_pay3 (F := Ideal) v x0 x1 y = v y + prod x0 x1 y := by
  pointwise [k0_pay3]
  rfl

theorem pay4_apply (v : Vec Ideal S1024x640 .f32) (x0 : Vec Ideal S1024x1024 .bf16) (x1 : Vec Ideal S1024x640 .bf16) (y : S1x1024x640.Idx) :
    k0_pay4 (F := Ideal) v x0 x1 y = v (ix2 (y 1) (y 2)) + prod x0 x1 (ix2 (y 1) (y 2)) := by
  rw [← pay3_apply]
  pointwise [k0_pay4]

theorem pay5_apply (v : Vec Ideal S1024x640 .f32) (x0 : Vec Ideal S1024x1024 .bf16) (x1 : Vec Ideal S1024x640 .bf16) (y : S1x1024x640.Idx) :
    k0_pay5 (F := Ideal) v x0 x1 y = v (ix2 (y 1) (y 2)) + prod x0 x1 (ix2 (y 1) (y 2)) := by
  rw [← pay3_apply]
  pointwise [k0_pay5]

theorem ld_whole {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem ld_o {e : EltTy} (x : Vec Ideal S1024x640 e)
    (inb : ∀ a : Fin 2, (![0, 0] : Fin 2 → ℕ) a + (![1024, 640] : Fin 2 → ℕ) a ≤ S1024x640.size a) :
    View.ld x (Rect.unit ![0, 0] ![1024, 640] inb) = x := View.ld_unit_lit inb x (by decide)

theorem same (x y : S1024x640.Idx) (h0 : (y 0 : ℕ) = x 0) (h1 : (y 1 : ℕ) = x 1) : x = y := funext fun a => by
  match a with
  | ⟨0, _⟩ => exact Fin.ext h0.symm
  | ⟨1, _⟩ => exact Fin.ext h1.symm

theorem same3 (x y : S1x1024x640.Idx) (h0 : (y 0 : ℕ) = x 0) (h1 : (y 1 : ℕ) = x 1) (h2 : (y 2 : ℕ) = x 2) : x = y :=
  funext fun a => by
    match a with
    | ⟨0, _⟩ => exact Fin.ext h0.symm
    | ⟨1, _⟩ => exact Fin.ext h1.symm
    | ⟨2, _⟩ => exact Fin.ext h2.symm

section Points
variable (c : Dev nD) (i : grid0.Coords) (a3 : Memref sig .tc .vmem S1024x1024 .bf16) (h3 : a3.IsWhole)
  (a4 : Memref sig .tc .vmem S1024x640 .bf16) (h4 : a4.IsWhole) (a5 : Memref sig .tc .vmem S1x1024x640 .f32) (h5 : a5.IsWhole)
  (a6 : Memref sig .tc .vmem S1x1024x640 .bf16) (h6 : a6.IsWhole) (a7 : Memref sig .tc .vmem S1024x640 .f32) (h7 : a7.IsWhole)
  (x0 : Vec Ideal S1024x1024 .bf16) (x1 : Vec Ideal S1024x640 .bf16) (xs : Vec Ideal S1024x640 .f32) (y : S1024x640.Idx) (w : S1x1024x640.Idx)

/-- What the first point of a tile leaves in the accumulator. -/
theorem acc_A (hc0 : cond0_0 i) (hc1 : ¬cond0_1 i) (hc2 : ¬cond0_2 i) :
    sout0_A_0 (F := Ideal) c i a3 h3 a4 h4 a5 h5 a6 h6 a7 h7 hc0 hc1 hc2 x0 x1 y = prod x0 x1 y := by
  unfold sout0_A_0
  rw [View.read_writes_eq_canon _ _ _ (scover0_A_0 c i a3 h3 a4 h4 a5 h5 a6 h6 a7 h7 hc0 hc1 hc2 x0 x1)]
  unfold kernelRun0_A
  dsimp only
  sl_unfold_words
  simp only [View.readAt_eq_ld, h3.read_unread, h4.read_unread, ld_whole, ld_o]
  canon_tiles x hx
  rw [same x y hx0 hx1, pay1_apply]

/-- What a middle point of a tile leaves in the accumulator. -/
theorem acc_B (hc0 : ¬cond0_0 i) (hc1 : cond0_1 i) (hc2 : ¬cond0_2 i) :
    sout0_B_0 (F := Ideal) c i a3 h3 a4 h4 a5 h5 a6 h6 a7 h7 hc0 hc1 hc2 x0 x1 xs y = xs y + prod x0 x1 y := by
  unfold sout0_B_0
  rw [View.read_writes_eq_canon _ _ _ (scover0_B_0 c i a3 h3 a4 h4 a5 h5 a6 h6 a7 h7 hc0 hc1 hc2 x0 x1 xs)]
  unfold kernelRun0_B
  dsimp only
  sl_unfold_words
  simp only [View.readAt_eq_ld, h3.read_unread, h4.read_unread, h7.read_unread, ld_whole, ld_o]
  canon_tiles x hx
  rw [same x y hx0 hx1, pay2_apply]

/-- What the last point of a tile leaves in the first output. -/
theorem out_C2 (hc0 : ¬cond0_0 i) (hc1 : ¬cond0_1 i) (hc2 : cond0_2 i) :
    out0_C_2 (F := Ideal) c i a3 h3 a4 h4 a5 h5 a6 h6 a7 h7 hc0 hc1 hc2 x0 x1 xs w
      = xs (ix2 (w 1) (w 2)) + prod x0 x1 (ix2 (w 1) (w 2)) := by
  unfold out0_C_2
  rw [View.read_writes_eq_canon _ _ _ (cover0_C_2 c i a3 h3 a4 h4 a5 h5 a6 h6 a7 h7 hc0 hc1 hc2 x0 x1 xs)]
  unfold kernelRun0_C
  dsimp only
  sl_unfold_words
  simp only [View.readAt_eq_ld, h3.read_unread, h4.read_unread, h7.read_unread, ld_whole, ld_o]
  canon_tiles x hx
  rw [same3 x w hx0 hx1 hx2, pay4_apply]

/-- What the last point of a tile leaves in the second output. -/
theorem out_C3 (hc0 : ¬cond0_0 i) (hc1 : ¬cond0_1 i) (hc2 : cond0_2 i) :
    out0_C_3 (F := Ideal) c i a3 h3 a4 h4 a5 h5 a6 h6 a7 h7 hc0 hc1 hc2 x0 x1 xs w
      = xs (ix2 (w 1) (w 2)) + prod x0 x1 (ix2 (w 1) (w 2)) := by
  unfold out0_C_3
  rw [View.read_writes_eq_canon _ _ _ (cover0_C_3 c i a3 h3 a4 h4 a5 h5 a6 h6 a7 h7 hc0 hc1 hc2 x0 x1 xs)]
  unfold kernelRun0_C
  dsimp only
  sl_unfold_words
  simp only [View.readAt_eq_ld, h3.read_unread, h4.read_unread, h7.read_unread, ld_whole, ld_o]
  canon_tiles x hx
  rw [same3 x w hx0 hx1 hx2, pay5_apply]

end Points

variable (m : (ℓ : Loc nD τ sig) → Buf (Elt Ideal) ℓ) (c : Dev nD)

/-- The projection's input. -/
abbrev argU : S4096x1024.Idx → EReal := m ((c : Thread nD τ).loc main_arg0)
/-- The gradient of the projection's output. -/
abbrev argG : S4096x2560.Idx → EReal := m ((c : Thread nD τ).loc main_arg1)

theorem index0 : ∀ t : Fin cfg0.N, win0_0.index t = ![t.val % 4, 0] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![t.val / 4, 0, 0] := (by decide +kernel : ∀ t : Fin grid0.N, _)
theorem index3 : ∀ t : Fin cfg0.N, win0_3.index t = ![t.val / 4, 0, 0] := (by decide +kernel : ∀ t : Fin grid0.N, _)

/-- Column `d` of the weights' quarter `g`. -/
def colOf (g : Fin 4) (d : Fin 640) : Fin 2560 := ⟨g.val * 640 + d.val, by omega⟩

/-- The result. -/
def arr : S4x1024x640.Idx → EReal := fun y => ∑ s, argU m c (ix2 s (y 1)) * argG m c (ix2 s (colOf (y 0) (y 2)))

/-- What point `n` adds. -/
def part (n : ℕ) (y : S1024x640.Idx) : EReal :=
  if h : n < cfg0.N then prod (iblk m c 0 ⟨n, h⟩) (iblk m c 1 ⟨n, h⟩) y else 0

theorem part_eq (t : Fin cfg0.N) (y : S1024x640.Idx) : part m c t.val y = prod (iblk m c 0 t) (iblk m c 1 t) y := dif_pos t.isLt

/-- A tile's first point starts the accumulator. -/
theorem step_A (y : S1024x640.Idx) (n : ℕ) (h : n < cfg0.N) (h0 : n % 4 = 0) : (outsAt0 m c n h).2.2 y = part m c n y := by
  rw [part_eq m c ⟨n, h⟩, outsAt0_A m c ⟨n, h⟩ h0 (by dsimp only; omega) (by dsimp only; omega)]
  dsimp only
  rw [acc_A]

/-- A tile's middle points add to it. -/
theorem step_B (y : S1024x640.Idx) (n : ℕ) (h : n + 1 < cfg0.N) (h0 : (n + 1) % 4 ≠ 0) (h3 : (n + 1) % 4 ≠ 3) :
    (outsAt0 m c (n + 1) h).2.2 y = (outsAt0 m c n (Nat.lt_of_succ_lt h)).2.2 y + part m c (n + 1) y := by
  rw [part_eq m c ⟨n + 1, h⟩, outsAt0_B m c ⟨n + 1, h⟩ h0 (by dsimp only; omega) h3]
  dsimp only
  rw [acc_B]
  rfl

/-- A tile's four parts are the result's entry. -/
theorem tile_sum (t : Fin cfg0.N) (ht : t.val % 4 = 3) (y : S1024x640.Idx) (z : S4x1024x640.Idx)
    (hz0 : (z 0 : ℕ) = t.val / 4) (hz1 : (z 1 : ℕ) = y 0) (hz2 : (z 2 : ℕ) = y 1) :
    ∑ j ∈ Finset.range 4, part m c (t.val / 4 * 4 + j) y = arr m c z := by
  have hN : cfg0.N = 16 := N_0
  have hl := t.isLt
  unfold arr colOf
  rw [Fin.sum_univ_tiles 4 1024 rfl, Finset.sum_range]
  refine Finset.sum_congr rfl fun j _ => ?_
  have hb : t.val / 4 * 4 + j.val < cfg0.N := by omega
  rw [part_eq m c ⟨_, hb⟩, prod]
  refine Finset.sum_congr rfl fun k _ => ?_
  congr 1
  · blk_simp [iblk]
    show V m c main_arg0 _ = V m c main_arg0 _
    congr 1
    blk_ext [index0 ⟨_, hb⟩]
  · blk_simp [iblk]
    show V m c main_arg1 _ = V m c main_arg1 _
    congr 1
    blk_ext [index1 ⟨_, hb⟩]

/-- The two outputs after a tile's last point. -/
theorem outs_eq (t : Fin cfg0.N) (ht : t.val % 4 = 3) (w : S1x1024x640.Idx) (z : S4x1024x640.Idx)
    (hz0 : (z 0 : ℕ) = t.val / 4) (hz1 : (z 1 : ℕ) = w 1) (hz2 : (z 2 : ℕ) = w 2) :
    (outsAt0 m c t.val t.isLt).1 w = arr m c z ∧ (outsAt0 m c t.val t.isLt).2.1 w = arr m c z := by
  have hp : t.val - 1 < cfg0.N := by have := t.isLt; omega
  rw [← tile_sum m c t ht (ix2 (w 1) (w 2)) z hz0 hz1 hz2,
    ← TileSum.last_eq (fun n h => (outsAt0 m c n h).2.2 (ix2 (w 1) (w 2))) (fun n => part m c n (ix2 (w 1) (w 2)))
      (step_A m c _) (step_B m c _) t.val ht hp,
    part_eq m c t, outsAt0_C m c t (by omega) (by omega) ht]
  dsimp only
  rw [out_C2, out_C3]
  exact ⟨rfl, rfl⟩

theorem final0 : (dats m 0 c).arrAt 2 cfg0.N = arr m c := by
  refine (dats m 0 c).arrAt_eq_of_covers 2 _ (by decide +kernel) fun t hf y => ?_
  blk_simp
  rw [after0_2]
  refine (outs_eq m c t ((flush0_2 t).mp hf) _ _ ?_ ?_ ?_).1
  · blk_simp [index2 t]
  · blk_simp [index2 t]
  · blk_simp [index2 t]

theorem final1 : (dats m 0 c).arrAt 3 cfg0.N = arr m c := by
  refine (dats m 0 c).arrAt_eq_of_covers 3 _ (by decide +kernel) fun t hf y => ?_
  blk_simp
  rw [after0_3]
  refine (outs_eq m c t ((flush0_3 t).mp hf) _ _ ?_ ?_ ?_).2
  · blk_simp [index3 t]
  · blk_simp [index3 t]
  · blk_simp [index3 t]

end Cert.KernelInIdeal.Blocks
-- ==== Proof.InClaim.lean ====
module

public import proofs.«01_k».proof.Defs
public import proofs.«01_k».proof.Proof.InBlock
public import proofs.«01_k».proof.Proof.Gen.KernelIn.Frame
public import proofs.«01_k».proof.Proof.Gen.ReferenceInIdeal.Run
public import proofs.«01_k».proof.Proof.Gen.ReferenceInIdeal.Read

@[expose] public section
noncomputable section

open Idealize.ShloMosaic Idealize.ShloMosaic.TcCoe Idealize.SL.Sem

/-! The gradient of the input projection's weights: kernel and reference end with the same two arrays. -/

namespace Cert.ReferenceInIdeal.Grad

open Cert.ReferenceInIdeal Cert.ReferenceInIdeal.Gen Cert.ReferenceInIdeal.Read

variable (x0 : (⟨S4096x1024, .bf16⟩ : BufTy).Contents (Elt Ideal)) (x1 : (⟨S4096x2560, .bf16⟩ : BufTy).Contents (Elt Ideal))

/-- Column `d` of the weights' quarter `g`. -/
def colOf (g : Fin 4) (d : Fin 640) : Fin 2560 := ⟨g.val * 640 + d.val, by omega⟩

theorem dw_ix (d : Fin 1024) (f : Fin 2560) :
    val_main_v5 (F := Ideal) x0 x1 (ix2 d f) = ∑ s : Fin 4096, x0 (ix2 s d) * x1 (ix2 s f) := by
  pointwise [val_main_v5, val_main_v4]
  exact Finset.sum_congr rfl fun k _ => mul_comm _ _

theorem res0_ix (g : Fin 4) (d : Fin 1024) (e : Fin 640) :
    val_main_v14 (F := Ideal) x0 x1 (ix3 g d e) = ∑ s : Fin 4096, x0 (ix2 s d) * x1 (ix2 s (colOf g e)) := by
  rw [← dw_ix]
  fin_cases g
  · pointwise [val_main_v14, val_main_v10, val_main_v6]
    exact congrArg _ (congrArg (ix2 d) (Fin.ext (by simp [colOf])))
  · pointwise [val_main_v14, val_main_v11, val_main_v7]
    exact congrArg _ (congrArg (ix2 d) (Fin.ext (by simp [colOf])))
  · pointwise [val_main_v14, val_main_v12, val_main_v8]
    exact congrArg _ (congrArg (ix2 d) (Fin.ext (by simp [colOf])))
  · pointwise [val_main_v14, val_main_v13, val_main_v9]
    exact congrArg _ (congrArg (ix2 d) (Fin.ext (by simp [colOf])))

theorem res1_ix (g : Fin 4) (d : Fin 1024) (e : Fin 640) :
    val_main_v15 (F := Ideal) x0 x1 (ix3 g d e) = ∑ s : Fin 4096, x0 (ix2 s d) * x1 (ix2 s (colOf g e)) := by
  rw [← res0_ix]
  pointwise [val_main_v15]

/-- The reference's first result. -/
theorem res0 (y : S4x1024x640.Idx) :
    val_main_v14 (F := Ideal) x0 x1 y = ∑ s : Fin 4096, x0 (ix2 s (y 1)) * x1 (ix2 s (colOf (y 0) (y 2))) := by
  have h := res0_ix x0 x1 (y 0) (y 1) (y 2)
  rw [ix3_eta] at h
  exact h

/-- The reference's second result. -/
theorem res1 (y : S4x1024x640.Idx) :
    val_main_v15 (F := Ideal) x0 x1 y = ∑ s : Fin 4096, x0 (ix2 s (y 1)) * x1 (ix2 s (colOf (y 0) (y 2))) := by
  have h := res1_ix x0 x1 (y 0) (y 1) (y 2)
  rw [ix3_eta] at h
  exact h

end Cert.ReferenceInIdeal.Grad

namespace Cert.InClaim

/-- The kernel runs, and leaves its arguments and every counter as they were. -/
theorem frame_kernel (h : Cert.KernelIn.Facts) : Cert.quiescent_KernelIn (hKernelIn := h) :=
  fun m ρ _ => Cert.KernelIn.Gen.frame m ρ

/-- The same of its reading over the extended reals. -/
theorem frame_ideal (h : Cert.KernelInIdeal.Facts) : Cert.quiescent_KernelInIdeal (hKernelInIdeal := h) :=
  fun m ρ _ => Cert.KernelInIdeal.Gen.frame m ρ

/-- The reference's run leaves its arguments and every counter as they were. -/
theorem frame_ref (h : Cert.ReferenceInIdeal.Facts) : Cert.quiescent_ReferenceInIdeal (hReferenceInIdeal := h) :=
  fun m ρ _ => (θ_run _ _ _).mono (fun r h => ⟨fun c => (h c).2.2, sem_eq_zero_of_no_sems (by decide) r.2⟩)
    (Cert.ReferenceInIdeal.Value.run m ρ)

/-- The kernel's two results are the reference's. -/
theorem algebraic (h : Cert.KernelInIdeal.Facts) (h' : Cert.ReferenceInIdeal.Facts) :
    Cert.algebraic_KernelInIdeal_ReferenceInIdeal (hKernelInIdeal := h) (hReferenceInIdeal := h') := by
  intro m g m' g' hpre hargs
  refine ⟨fun c => Cert.KernelInIdeal.Blocks.arr m c, fun c => Cert.KernelInIdeal.Blocks.arr m c,
    (θ_run _ _ _).mono (fun r h c => ?_) (Cert.KernelInIdeal.Value.run_blocks m g),
    (θ_run _ _ _).mono (fun r h c => ?_) (Cert.ReferenceInIdeal.Value.run m' g')⟩
  · obtain ⟨h0, h1, h2⟩ := h c
    exact ⟨h0.trans (Cert.KernelInIdeal.Blocks.final0 m c), h1.trans (Cert.KernelInIdeal.Blocks.final1 m c), h2⟩
  · obtain ⟨h0, h1, h2⟩ := h c
    obtain ⟨a0, a1⟩ := hargs c
    refine ⟨h0.trans ?_, h1.trans ?_, h2⟩
    · rw [Cert.ReferenceInIdeal.Read.val_main_v14_eq, a0, a1]
      exact funext fun y => Cert.ReferenceInIdeal.Grad.res0 _ _ y
    · rw [Cert.ReferenceInIdeal.Read.val_main_v15_eq, a0, a1]
      exact funext fun y => Cert.ReferenceInIdeal.Grad.res1 _ _ y

end Cert.InClaim
-- ==== Proof.DoutBlock.lean ====
module

public import proofs.«01_k».proof.Proof.Gen.KernelDoutIdeal.Value
public import Idealize.ShloMosaic.Lib.Pointwise
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The gradient of the attention's output: the result of the kernel, at an index. -/

namespace Cert.KernelDoutIdeal.Blocks

open Cert.KernelDoutIdeal Cert.KernelDoutIdeal.Gen

/-- An entry of the product of two blocks. -/
def prod (x0 x1 : Vec Ideal S1024x1024 .bf16) (r d : Fin 1024) : EReal := ∑ k, x0 (ix2 r k) * x1 (ix2 d k)

theorem pay1_ix (x0 x1 : Vec Ideal S1024x1024 .bf16) (r d : Fin 1024) : k0_pay1 (F := Ideal) x0 x1 (ix2 r d) = prod x0 x1 r d := by
  pointwise [k0_pay1] <;> rfl

theorem ld_x {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem same_ix (x : S1024x1024.Idx) (r : Fin 1024) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

/-- What a point leaves in the output block. -/
theorem out_apply (x0 x1 : Vec Ideal S1024x1024 .bf16) (y : S1024x1024.Idx) : out0_2 (F := Ideal) x0 x1 y = prod x0 x1 (y 0) (y 1) := by
  unfold out0_2
  rw [ld_x, ld_x]
  canon_tiles x hx
  rw [same_ix x (y 0) (y 1) hx0 hx1]
  exact pay1_ix x0 x1 (y 0) (y 1)

variable (m : (ℓ : Loc nD τ sig) → Buf (Elt Ideal) ℓ) (c : Dev nD)

/-- The gradient of the projection's output. -/
abbrev argA : S4096x1024.Idx → EReal := m ((c : Thread nD τ).loc main_arg0)
/-- The weights. -/
abbrev argW : S1024x1024.Idx → EReal := m ((c : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The result. -/
def arr (y : S4096x1024.Idx) : EReal := ∑ k, argA m c (ix2 (y 0) k) * argW m c (ix2 (y 1) k)

theorem prod_eq (t : Fin cfg0.N) (r d : Fin 1024) (z : S4096x1024.Idx) (hz0 : (z 0 : ℕ) = t.val * 1024 + r) (hz1 : (z 1 : ℕ) = d) :
    prod (iblk m c 0 t) (iblk m c 1 t) r d = arr m c z := by
  unfold prod arr
  refine Finset.sum_congr rfl fun k _ => ?_
  congr 1
  · blk_simp [iblk]
    show V m c main_arg0 _ = V m c main_arg0 _
    congr 1
    blk_ext [index0 t]
  · blk_simp [iblk]
    show V m c main_arg1 _ = V m c main_arg1 _
    congr 1
    blk_ext [index1 t]

theorem final : (dats m 0 c).arrAt 2 cfg0.N = arr m c := by
  refine (dats m 0 c).arrAt_eq_of_covers 2 _ (by decide +kernel) fun t hf y => ?_
  blk_simp
  rw [after0_2]
  refine (out_apply _ _ _).trans (prod_eq m c t _ _ _ ?_ ?_)
  · blk_simp [index2 t]
  · blk_simp [index2 t]

end Cert.KernelDoutIdeal.Blocks
-- ==== Proof.DoutClaim.lean ====
module

public import proofs.«01_k».proof.Defs
public import proofs.«01_k».proof.Proof.DoutBlock
public import proofs.«01_k».proof.Proof.Gen.KernelDout.Frame
public import proofs.«01_k».proof.Proof.Gen.ReferenceDoutIdeal.Run
public import proofs.«01_k».proof.Proof.Gen.ReferenceDoutIdeal.Read

@[expose] public section
noncomputable section

open Idealize.ShloMosaic Idealize.ShloMosaic.TcCoe Idealize.SL.Sem

/-! The gradient of the attention's output: kernel and reference end with the same array. -/

namespace Cert.ReferenceDoutIdeal.Grad

open Cert.ReferenceDoutIdeal Cert.ReferenceDoutIdeal.Gen Cert.ReferenceDoutIdeal.Read

variable (x0 : (⟨S4096x1024, .bf16⟩ : BufTy).Contents (Elt Ideal)) (x1 : (⟨S1024x1024, .bf16⟩ : BufTy).Contents (Elt Ideal))

theorem res0_ix (s : Fin 4096) (d : Fin 1024) :
    val_main_v5 (F := Ideal) x0 x1 (ix2 s d) = ∑ k : Fin 1024, x0 (ix2 s k) * x1 (ix2 d k) := by
  pointwise [val_main_v5, val_main_v4] <;> rfl

/-- The reference's result. -/
theorem res0 (y : S4096x1024.Idx) :
    val_main_v5 (F := Ideal) x0 x1 y = ∑ k : Fin 1024, x0 (ix2 (y 0) k) * x1 (ix2 (y 1) k) := by
  have h := res0_ix x0 x1 (y 0) (y 1)
  rw [ix2_eta] at h
  exact h

end Cert.ReferenceDoutIdeal.Grad

namespace Cert.DoutClaim

/-- The kernel runs, and leaves its arguments and every counter as they were. -/
theorem frame_kernel (h : Cert.KernelDout.Facts) : Cert.quiescent_KernelDout (hKernelDout := h) :=
  fun m ρ _ => Cert.KernelDout.Gen.frame m ρ

/-- The same of its reading over the extended reals. -/
theorem frame_ideal (h : Cert.KernelDoutIdeal.Facts) : Cert.quiescent_KernelDoutIdeal (hKernelDoutIdeal := h) :=
  fun m ρ _ => Cert.KernelDoutIdeal.Gen.frame m ρ

/-- The reference's run leaves its arguments and every counter as they were. -/
theorem frame_ref (h : Cert.ReferenceDoutIdeal.Facts) : Cert.quiescent_ReferenceDoutIdeal (hReferenceDoutIdeal := h) :=
  fun m ρ _ => (θ_run _ _ _).mono (fun r h => ⟨fun c => (h c).2, sem_eq_zero_of_no_sems (by decide) r.2⟩)
    (Cert.ReferenceDoutIdeal.Value.run m ρ)

/-- The kernel's result is the reference's. -/
theorem algebraic (h : Cert.KernelDoutIdeal.Facts) (h' : Cert.ReferenceDoutIdeal.Facts) :
    Cert.algebraic_KernelDoutIdeal_ReferenceDoutIdeal (hKernelDoutIdeal := h) (hReferenceDoutIdeal := h') := by
  intro m g m' g' hpre hargs
  refine ⟨fun c => Cert.KernelDoutIdeal.Blocks.arr m c,
    (θ_run _ _ _).mono (fun r h c => ?_) (Cert.KernelDoutIdeal.Value.run_blocks m g),
    (θ_run _ _ _).mono (fun r h c => ?_) (Cert.ReferenceDoutIdeal.Value.run m' g')⟩
  · obtain ⟨h0, hr⟩ := h c
    exact ⟨h0.trans (Cert.KernelDoutIdeal.Blocks.final m c), hr⟩
  · obtain ⟨h0, hr⟩ := h c
    obtain ⟨a0, a1⟩ := hargs c
    refine ⟨h0.trans ?_, hr⟩
    · rw [Cert.ReferenceDoutIdeal.Read.val_main_v5_eq, a0, a1]
      exact funext fun y => Cert.ReferenceDoutIdeal.Grad.res0 _ _ y

end Cert.DoutClaim
-- ==== Proof.DyBlock.lean ====
module

public import proofs.«01_k».proof.Proof.Gen.KernelDyIdeal.Value
public import Idealize.ShloMosaic.Lib.Pointwise
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The gradient of the mixers' output: the result of the kernel, at an index. -/

namespace Cert.KernelDyIdeal.Blocks

open Cert.KernelDyIdeal Cert.KernelDyIdeal.Gen

/-- An entry of the product of two blocks. -/
def prod (x0 x1 : Vec Ideal S1024x1024 .bf16) (r d : Fin 1024) : EReal := ∑ k, x0 (ix2 r k) * x1 (ix2 d k)

theorem pay1_ix (x0 x1 : Vec Ideal S1024x1024 .bf16) (r d : Fin 1024) : k0_pay1 (F := Ideal) x0 x1 (ix2 r d) = prod x0 x1 r d := by
  pointwise [k0_pay1] <;> rfl

theorem ld_x {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem same_ix (x : S1024x1024.Idx) (r : Fin 1024) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

/-- What a point leaves in the output block. -/
theorem out_apply (x0 x1 : Vec Ideal S1024x1024 .bf16) (y : S1024x1024.Idx) : out0_2 (F := Ideal) x0 x1 y = prod x0 x1 (y 0) (y 1) := by
  unfold out0_2
  rw [ld_x, ld_x]
  canon_tiles x hx
  rw [same_ix x (y 0) (y 1) hx0 hx1]
  exact pay1_ix x0 x1 (y 0) (y 1)

variable (m : (ℓ : Loc nD τ sig) → Buf (Elt Ideal) ℓ) (c : Dev nD)

/-- The gradient of the projection's output. -/
abbrev argA : S4096x1024.Idx → EReal := m ((c : Thread nD τ).loc main_arg0)
/-- The weights. -/
abbrev argW : S1024x1024.Idx → EReal := m ((c : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The result. -/
def arr (y : S4096x1024.Idx) : EReal := ∑ k, argA m c (ix2 (y 0) k) * argW m c (ix2 (y 1) k)

theorem prod_eq (t : Fin cfg0.N) (r d : Fin 1024) (z : S4096x1024.Idx) (hz0 : (z 0 : ℕ) = t.val * 1024 + r) (hz1 : (z 1 : ℕ) = d) :
    prod (iblk m c 0 t) (iblk m c 1 t) r d = arr m c z := by
  unfold prod arr
  refine Finset.sum_congr rfl fun k _ => ?_
  congr 1
  · blk_simp [iblk]
    show V m c main_arg0 _ = V m c main_arg0 _
    congr 1
    blk_ext [index0 t]
  · blk_simp [iblk]
    show V m c main_arg1 _ = V m c main_arg1 _
    congr 1
    blk_ext [index1 t]

theorem final : (dats m 0 c).arrAt 2 cfg0.N = arr m c := by
  refine (dats m 0 c).arrAt_eq_of_covers 2 _ (by decide +kernel) fun t hf y => ?_
  blk_simp
  rw [after0_2]
  refine (out_apply _ _ _).trans (prod_eq m c t _ _ _ ?_ ?_)
  · blk_simp [index2 t]
  · blk_simp [index2 t]

end Cert.KernelDyIdeal.Blocks
-- ==== Proof.DyClaim.lean ====
module

public import proofs.«01_k».proof.Defs
public import proofs.«01_k».proof.Proof.DyBlock
public import proofs.«01_k».proof.Proof.Gen.KernelDy.Frame
public import proofs.«01_k».proof.Proof.Gen.ReferenceDyIdeal.Run
public import proofs.«01_k».proof.Proof.Gen.ReferenceDyIdeal.Read

@[expose] public section
noncomputable section

open Idealize.ShloMosaic Idealize.ShloMosaic.TcCoe Idealize.SL.Sem

/-! The gradient of the mixers' output: kernel and reference end with the same array. -/

namespace Cert.ReferenceDyIdeal.Grad

open Cert.ReferenceDyIdeal Cert.ReferenceDyIdeal.Gen Cert.ReferenceDyIdeal.Read

variable (x0 : (⟨S4096x1024, .bf16⟩ : BufTy).Contents (Elt Ideal)) (x1 : (⟨S1024x1024, .bf16⟩ : BufTy).Contents (Elt Ideal))

theorem res0_ix (s : Fin 4096) (d : Fin 1024) :
    val_main_v4 (F := Ideal) x0 x1 (ix2 s d) = ∑ k : Fin 1024, x0 (ix2 s k) * x1 (ix2 d k) := by
  pointwise [val_main_v4] <;> rfl

/-- The reference's result. -/
theorem res0 (y : S4096x1024.Idx) :
    val_main_v4 (F := Ideal) x0 x1 y = ∑ k : Fin 1024, x0 (ix2 (y 0) k) * x1 (ix2 (y 1) k) := by
  have h := res0_ix x0 x1 (y 0) (y 1)
  rw [ix2_eta] at h
  exact h

end Cert.ReferenceDyIdeal.Grad

namespace Cert.DyClaim

/-- The kernel runs, and leaves its arguments and every counter as they were. -/
theorem frame_kernel (h : Cert.KernelDy.Facts) : Cert.quiescent_KernelDy (hKernelDy := h) :=
  fun m ρ _ => Cert.KernelDy.Gen.frame m ρ

/-- The same of its reading over the extended reals. -/
theorem frame_ideal (h : Cert.KernelDyIdeal.Facts) : Cert.quiescent_KernelDyIdeal (hKernelDyIdeal := h) :=
  fun m ρ _ => Cert.KernelDyIdeal.Gen.frame m ρ

/-- The reference's run leaves its arguments and every counter as they were. -/
theorem frame_ref (h : Cert.ReferenceDyIdeal.Facts) : Cert.quiescent_ReferenceDyIdeal (hReferenceDyIdeal := h) :=
  fun m ρ _ => (θ_run _ _ _).mono (fun r h => ⟨fun c => (h c).2, sem_eq_zero_of_no_sems (by decide) r.2⟩)
    (Cert.ReferenceDyIdeal.Value.run m ρ)

/-- The kernel's result is the reference's. -/
theorem algebraic (h : Cert.KernelDyIdeal.Facts) (h' : Cert.ReferenceDyIdeal.Facts) :
    Cert.algebraic_KernelDyIdeal_ReferenceDyIdeal (hKernelDyIdeal := h) (hReferenceDyIdeal := h') := by
  intro m g m' g' hpre hargs
  refine ⟨fun c => Cert.KernelDyIdeal.Blocks.arr m c,
    (θ_run _ _ _).mono (fun r h c => ?_) (Cert.KernelDyIdeal.Value.run_blocks m g),
    (θ_run _ _ _).mono (fun r h c => ?_) (Cert.ReferenceDyIdeal.Value.run m' g')⟩
  · obtain ⟨h0, hr⟩ := h c
    exact ⟨h0.trans (Cert.KernelDyIdeal.Blocks.final m c), hr⟩
  · obtain ⟨h0, hr⟩ := h c
    obtain ⟨a0, a1⟩ := hargs c
    refine ⟨h0.trans ?_, hr⟩
    · rw [Cert.ReferenceDyIdeal.Read.val_main_v4_eq, a0, a1]
      exact funext fun y => Cert.ReferenceDyIdeal.Grad.res0 _ _ y

end Cert.DyClaim
-- ==== Proof.NormInBlock.lean ====
module

public import proofs.«01_k».proof.Proof.Gen.KernelNormInIdeal.Value
public import proofs.«01_k».proof.Proof.TileSum
public import proofs.«01_k».proof.Proof.NormMath
public import Idealize.ShloMosaic.Lib.Pointwise
public import Idealize.ShloMosaic.Lib.Pipeline.ValueKit
public import Idealize.ShloMosaic.Lib.Pipeline.ValueKit.Tiles
public import Idealize.ShloMosaic.Lib.Pipeline.ReadBack

@[expose] public section
noncomputable section

open Idealize.ShloMosaic Idealize.ShloMosaic.TcCoe Idealize.SL.Sem

/-! The gradient through the block's input product and norm: what the kernel's points leave in their blocks. -/

namespace Cert.KernelNormInIdeal.Blocks

open Cert.KernelNormInIdeal Cert.KernelNormInIdeal.Gen Cert.NormMath

/-- An entry of the product of two blocks over their columns. -/
def prod (x0 : Vec Ideal S512x640 .bf16) (x1 : Vec Ideal S1x1024x640 .bf16) (r : Fin 512) (d : Fin 1024) : EReal :=
  ∑ k, x0 (ix2 r k) * x1 (ix3 0 d k)

/-- A row of a block. -/
def row (x : Vec Ideal S512x1024 .f32) (r : Fin 512) (d : Fin 1024) : EReal := x (ix2 r d)

theorem pay1_ix (x0 : Vec Ideal S512x640 .bf16) (x1 : Vec Ideal S1x1024x640 .bf16) (r : Fin 512) (d : Fin 1024) :
    k0_pay1 (F := Ideal) x0 x1 (ix2 r d) = prod x0 x1 r d := by
  pointwise [k0_pay1]
  rfl

theorem pay2_ix (v : Vec Ideal S512x1024 .f32) (x0 : Vec Ideal S512x640 .bf16) (x1 : Vec Ideal S1x1024x640 .bf16) (r : Fin 512) (d : Fin 1024) :
    k0_pay2 (F := Ideal) v x0 x1 (ix2 r d) = row v r d + prod x0 x1 r d := by
  pointwise [k0_pay2]
  rfl

theorem pay3_ix (d : Fin 1024) : k0_pay3 (F := Ideal) (ix2 0 d) = 0 := by
  pointwise [k0_pay3]

theorem pay5_ix (v : Vec Ideal S512x1024 .f32) (x0 : Vec Ideal S512x640 .bf16) (x1 : Vec Ideal S1x1024x640 .bf16) (r : Fin 512) (d : Fin 1024) :
    k0_pay5 (F := Ideal) v x0 x1 (ix2 r d) = row v r d + prod x0 x1 r d := by
  pointwise [k0_pay5]
  rfl

theorem pay6_ix (x : Vec Ideal S512x1024 .f32) (r : Fin 512) : k0_pay6 (F := Ideal) x (ix2 r 0) = rms (row x r) := by
  pointwise [k0_pay6]
  rfl

theorem pay7_ix (x : Vec Ideal S512x1024 .f32) (r : Fin 512) (d : Fin 1024) :
    k0_pay7 (F := Ideal) x (ix2 r d) = row x r d * rms (row x r) := by
  pointwise [k0_pay7]
  rw [pay6_ix]
  rfl

theorem pay4_ix (u v : FVec Ideal S512x1024 .f32) (o : Vec Ideal S1x1024 .f32) (d : Fin 1024) :
    k0_pay4 (F := Ideal) u v o (ix2 0 d) = o (ix2 0 d) + ∑ r : Fin 512, u (ix2 r d) * v (ix2 r d) := by
  pointwise [k0_pay4]

theorem pay8_ix (v : Vec Ideal S512x1024 .f32) (x0 : Vec Ideal S512x640 .bf16) (x1 : Vec Ideal S1x1024x640 .bf16)
    (x : Vec Ideal S512x1024 .f32) (g : Vec Ideal S1x1024 .f32) (h : Vec Ideal S512x1024 .f32) (r : Fin 512) (d : Fin 1024) :
    k0_pay8 (F := Ideal) v x0 x1 x g h (ix2 r d)
      = dx (row x r) (fun k => (row v r k + prod x0 x1 r k) * g (ix2 0 k)) (row h r d) d := by
  pointwise [k0_pay8, pay5_ix, pay6_ix, pay7_ix]
  rfl

theorem pay9_ix (v : Vec Ideal S512x1024 .f32) (x0 : Vec Ideal S512x640 .bf16) (x1 : Vec Ideal S1x1024x640 .bf16)
    (x : Vec Ideal S512x1024 .f32) (g : Vec Ideal S1x1024 .f32) (h : Vec Ideal S512x1024 .f32) (r : Fin 512) (d : Fin 1024) :
    k0_pay9 (F := Ideal) v x0 x1 x g h (ix2 r d)
      = dx (row x r) (fun k => (row v r k + prod x0 x1 r k) * g (ix2 0 k)) (row h r d) d := by
  rw [← pay8_ix]
  pointwise [k0_pay9]

theorem ld_512 {e : EltTy} (x : Vec Ideal S512x1024 e)
    (inb : ∀ a : Fin 2, (![0, 0] : Fin 2 → ℕ) a + (![512, 1024] : Fin 2 → ℕ) a ≤ S512x1024.size a) :
    View.ld x (Rect.unit ![0, 0] ![512, 1024] inb) = x := View.ld_unit_lit inb x (by decide)

theorem ld_a {e : EltTy} (x : Vec Ideal S512x640 e)
    (inb : ∀ a : Fin 2, (![0, 0] : Fin 2 → ℕ) a + (![512, 640] : Fin 2 → ℕ) a ≤ S512x640.size a) :
    View.ld x (Rect.unit ![0, 0] ![512, 640] inb) = x := View.ld_unit_lit inb x (by decide)

theorem ld_1 {e : EltTy} (x : Vec Ideal S1x1024 e)
    (inb : ∀ a : Fin 2, (![0, 0] : Fin 2 → ℕ) a + (![1, 1024] : Fin 2 → ℕ) a ≤ S1x1024.size a) :
    View.ld x (Rect.unit ![0, 0] ![1, 1024] inb) = x := View.ld_unit_lit inb x (by decide)

theorem ld_w {e : EltTy} (x : Vec Ideal S1x1024x640 e)
    (inb : ∀ a : Fin 3, (![0, 0, 0] : Fin 3 → ℕ) a + (![1, 1024, 640] : Fin 3 → ℕ) a ≤ S1x1024x640.size a) :
    View.ld x (Rect.unit ![0, 0, 0] ![1, 1024, 640] inb) = x := View.ld_unit_lit inb x (by decide)

theorem same_ix (x : S512x1024.Idx) (r : Fin 512) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

theorem same_ix1 (x : S1x1024.Idx) (d : Fin 1024) (h1 : (d : ℕ) = x 1) : x = ix2 0 d :=
  funext fun a => by
    match a with
    | ⟨0, _⟩ => exact Subsingleton.elim (α := Fin 1) _ _
    | ⟨1, _⟩ => exact Fin.ext h1.symm

theorem zero2 : ∀ a : Fin 2, (![0, 0] : Fin 2 → ℕ) a = 0 := by decide

section Points
variable (c : Dev nD) (i : grid0.Coords) (a3 : Memref sig .tc .vmem S512x640 .bf16) (h3 : a3.IsWhole)
  (a4 : Memref sig .tc .vmem S1x1024x640 .bf16) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S1x1024 .f32) (h10 : a10.IsWhole) (a11 : Memref sig .tc .vmem S512x1024 .f32) (h11 : a11.IsWhole)
  (x0 : Vec Ideal S512x640 .bf16) (x1 : Vec Ideal S1x1024x640 .bf16) (x2 x3 : Vec Ideal S512x1024 .f32) (x4 : Vec Ideal S1x1024 .f32)
  (xo : Vec Ideal S1x1024 .f32) (xs : Vec Ideal S512x1024 .f32) (r : Fin 512) (d : Fin 1024)

/-- The gradient that the last point of a tile leaves, from the accumulator before it. -/
def dxBlk (x0 : Vec Ideal S512x640 .bf16) (x1 : Vec Ideal S1x1024x640 .bf16) (x2 x3 : Vec Ideal S512x1024 .f32)
    (x4 : Vec Ideal S1x1024 .f32) (xs : Vec Ideal S512x1024 .f32) (r : Fin 512) (d : Fin 1024) : EReal :=
  dx (row x3 r) (fun k => (row xs r k + prod x0 x1 r k) * x4 (ix2 0 k)) (row x2 r d) d

/-- What the last point of a tile adds to the scale's gradient. -/
def dgBlk (x0 : Vec Ideal S512x640 .bf16) (x1 : Vec Ideal S1x1024x640 .bf16) (x3 : Vec Ideal S512x1024 .f32)
    (xs : Vec Ideal S512x1024 .f32) (d : Fin 1024) : EReal :=
  ∑ r : Fin 512, (row xs r d + prod x0 x1 r d) * (row x3 r d * rms (row x3 r))

theorem acc_A (hc0 : cond0_0 i) (hc1 : ¬cond0_1 i) (hc2 : ¬cond0_2 i) :
    sout0_A_0 (F := Ideal) c i a3 h3 a4 h4 a5 h5 a6 h6 a7 h7 a8 h8 a9 h9 a10 h10 a11 h11 hc0 hc1 hc2 x0 x1 x2 x3 x4 (ix2 r d) = prod x0 x1 r d := by
  unfold sout0_A_0
  rw [View.read_writes_eq_canon _ _ _ (scover0_A_0 c i a3 h3 a4 h4 a5 h5 a6 h6 a7 h7 a8 h8 a9 h9 a10 h10 a11 h11 hc0 hc1 hc2 x0 x1 x2 x3 x4)]
  unfold kernelRun0_A
  dsimp only
  sl_unfold_words
  simp only [View.readAt_eq_ld, h3.read_unread, h4.read_unread, ld_512, ld_a, ld_w]
  canon_tiles x hx
  rw [same_ix x r d hx0 hx1, pay1_ix]

theorem acc_B (hc0 : ¬cond0_0 i) (hc1 : cond0_1 i) (hc2 : ¬cond0_2 i) :
    sout0_B_0 (F := Ideal) c i a3 h3 a4 h4 a5 h5 a6 h6 a7 h7 a8 h8 a9 h9 a10 h10 a11 h11 hc0 hc1 hc2 x0 x1 x2 x3 x4 xs (ix2 r d) = xs (ix2 r d) + prod x0 x1 r d := by
  unfold sout0_B_0
  rw [View.read_writes_eq_canon _ _ _ (scover0_B_0 c i a3 h3 a4 h4 a5 h5 a6 h6 a7 h7 a8 h8 a9 h9 a10 h10 a11 h11 hc0 hc1 hc2 x0 x1 x2 x3 x4 xs)]
  unfold kernelRun0_B
  dsimp only
  sl_unfold_words
  simp only [View.readAt_eq_ld, h3.read_unread, h4.read_unread, h11.read_unread, ld_512, ld_a, ld_w]
  canon_tiles x hx
  rw [same_ix x r d hx0 hx1, pay2_ix]
  rfl

theorem out_C5 (hc0 : ¬cond0_0 i) (hc1 : ¬cond0_1 i) (hc2 : cond0_2 i) (hc3 : cond0_3 i) :
    out0_C_5 (F := Ideal) c i a3 h3 a4 h4 a5 h5 a6 h6 a7 h7 a8 h8 a9 h9 a10 h10 a11 h11 hc0 hc1 hc2 hc3 x0 x1 x2 x3 x4 xs (ix2 r d) = dxBlk x0 x1 x2 x3 x4 xs r d := by
  unfold out0_C_5
  rw [View.read_writes_eq_canon _ _ _ (cover0_C_5 c i a3 h3 a4 h4 a5 h5 a6 h6 a7 h7 a8 h8 a9 h9 a10 h10 a11 h11 hc0 hc1 hc2 hc3 x0 x1 x2 x3 x4 xs)]
  unfold kernelRun0_C
  dsimp only
  sl_unfold_words
  simp only [View.readAt_eq_ld, h3.read_unread, h4.read_unread, h5.read_unread, h6.read_unread, h7.read_unread, h11.read_unread, ld_512, ld_a, ld_w, ld_1]
  canon_tiles x hx
  rw [same_ix x r d hx0 hx1, pay8_ix]
  rfl

theorem out_C6 (hc0 : ¬cond0_0 i) (hc1 : ¬cond0_1 i) (hc2 : cond0_2 i) (hc3 : cond0_3 i) :
    out0_C_6 (F := Ideal) c i a3 h3 a4 h4 a5 h5 a6 h6 a7 h7 a8 h8 a9 h9 a10 h10 a11 h11 hc0 hc1 hc2 hc3 x0 x1 x2 x3 x4 xs (ix2 r d) = dxBlk x0 x1 x2 x3 x4 xs r d := by
  unfold out0_C_6
  rw [View.read_writes_eq_canon _ _ _ (cover0_C_6 c i a3 h3 a4 h4 a5 h5 a6 h6 a7 h7 a8 h8 a9 h9 a10 h10 a11 h11 hc0 hc1 hc2 hc3 x0 x1 x2 x3 x4 xs)]
  unfold kernelRun0_C
  dsimp only
  sl_unfold_words
  simp only [View.readAt_eq_ld, h3.read_unread, h4.read_unread, h5.read_unread, h6.read_unread, h7.read_unread, h11.read_unread, ld_512, ld_a, ld_w, ld_1]
  canon_tiles x hx
  rw [same_ix x r d hx0 hx1, pay9_ix]
  rfl

theorem out_C7 (hc0 : ¬cond0_0 i) (hc1 : ¬cond0_1 i) (hc2 : cond0_2 i) (hc3 : cond0_3 i) :
    out0_C_7 (F := Ideal) c i a3 h3 a4 h4 a5 h5 a6 h6 a7 h7 a8 h8 a9 h9 a10 h10 a11 h11 hc0 hc1 hc2 hc3 x0 x1 x2 x3 x4 xs (ix2 0 d) = dgBlk x0 x1 x3 xs d := by
  unfold out0_C_7
  rw [View.read_writes_eq_canon _ _ _ (cover0_C_7 c i a3 h3 a4 h4 a5 h5 a6 h6 a7 h7 a8 h8 a9 h9 a10 h10 a11 h11 hc0 hc1 hc2 hc3 x0 x1 x2 x3 x4 xs)]
  unfold kernelRun0_C
  dsimp only
  sl_unfold_words
  simp only [View.readAt_eq_ld, h3.read_unread, h4.read_unread, h5.read_unread, h6.read_unread, h7.read_unread, h10.read_unread, h11.read_unread, ld_512, ld_a, ld_w, ld_1]
  simp (disch := first | decide +kernel | exact zero2) only [↓View.readCov_skip, ↓View.readCov_fill]
  refine (congrFun (View.canon_cons_unit_lit inb_S1x1024_S1x1024_0_0 _ _ (by decide)) _).trans ?_
  rw [pay4_ix, ld_1, pay3_ix, zero_add]
  simp only [pay5_ix, pay7_ix]
  rfl

theorem out_D5 (hc0 : ¬cond0_0 i) (hc1 : ¬cond0_1 i) (hc2 : cond0_2 i) (hc3 : ¬cond0_3 i) :
    out0_D_5 (F := Ideal) c i a3 h3 a4 h4 a5 h5 a6 h6 a7 h7 a8 h8 a9 h9 a10 h10 a11 h11 hc0 hc1 hc2 hc3 x0 x1 x2 x3 x4 xo xs (ix2 r d) = dxBlk x0 x1 x2 x3 x4 xs r d := by
  unfold out0_D_5
  rw [View.read_writes_eq_canon _ _ _ (cover0_D_5 c i a3 h3 a4 h4 a5 h5 a6 h6 a7 h7 a8 h8 a9 h9 a10 h10 a11 h11 hc0 hc1 hc2 hc3 x0 x1 x2 x3 x4 xo xs)]
  unfold kernelRun0_D
  dsimp only
  sl_unfold_words
  simp only [View.readAt_eq_ld, h3.read_unread, h4.read_unread, h5.read_unread, h6.read_unread, h7.read_unread, h11.read_unread, ld_512, ld_a, ld_w, ld_1]
  canon_tiles x hx
  rw [same_ix x r d hx0 hx1, pay8_ix]
  rfl

theorem out_D6 (hc0 : ¬cond0_0 i) (hc1 : ¬cond0_1 i) (hc2 : cond0_2 i) (hc3 : ¬cond0_3 i) :
    out0_D_6 (F := Ideal) c i a3 h3 a4 h4 a5 h5 a6 h6 a7 h7 a8 h8 a9 h9 a10 h10 a11 h11 hc0 hc1 hc2 hc3 x0 x1 x2 x3 x4 xo xs (ix2 r d) = dxBlk x0 x1 x2 x3 x4 xs r d := by
  unfold out0_D_6
  rw [View.read_writes_eq_canon _ _ _ (cover0_D_6 c i a3 h3 a4 h4 a5 h5 a6 h6 a7 h7 a8 h8 a9 h9 a10 h10 a11 h11 hc0 hc1 hc2 hc3 x0 x1 x2 x3 x4 xo xs)]
  unfold kernelRun0_D
  dsimp only
  sl_unfold_words
  simp only [View.readAt_eq_ld, h3.read_unread, h4.read_unread, h5.read_unread, h6.read_unread, h7.read_unread, h11.read_unread, ld_512, ld_a, ld_w, ld_1]
  canon_tiles x hx
  rw [same_ix x r d hx0 hx1, pay9_ix]
  rfl

theorem out_D7 (hc0 : ¬cond0_0 i) (hc1 : ¬cond0_1 i) (hc2 : cond0_2 i) (hc3 : ¬cond0_3 i) :
    out0_D_7 (F := Ideal) c i a3 h3 a4 h4 a5 h5 a6 h6 a7 h7 a8 h8 a9 h9 a10 h10 a11 h11 hc0 hc1 hc2 hc3 x0 x1 x2 x3 x4 xo xs (ix2 0 d) = xo (ix2 0 d) + dgBlk x0 x1 x3 xs d := by
  unfold out0_D_7
  rw [View.read_writes_eq_canon _ _ _ (cover0_D_7 c i a3 h3 a4 h4 a5 h5 a6 h6 a7 h7 a8 h8 a9 h9 a10 h10 a11 h11 hc0 hc1 hc2 hc3 x0 x1 x2 x3 x4 xo xs)]
  unfold kernelRun0_D
  dsimp only
  sl_unfold_words
  simp only [View.readAt_eq_ld, h3.read_unread, h4.read_unread, h5.read_unread, h6.read_unread, h7.read_unread, h10.read_unread, h11.read_unread, ld_512, ld_a, ld_w, ld_1]
  canon_tiles x hx
  rw [same_ix1 x d hx1, pay4_ix]
  simp only [pay5_ix, pay7_ix]
  rfl

end Points

end Cert.KernelNormInIdeal.Blocks
-- ==== Proof.NormInArray.lean ====
module

public import proofs.«01_k».proof.Proof.NormInBlock

@[expose] public section
noncomputable section

open Idealize.ShloMosaic Idealize.ShloMosaic.TcCoe Idealize.SL.Sem

/-! The gradient through the block's input product and norm: the three result arrays of the kernel, at an index. -/

namespace Cert.NormInMath

/-- Column `k` of tile `j`. -/
def tile (j : Fin 4) (k : Fin 640) : Fin 2560 := ⟨j.val * 640 + k.val, by omega⟩

/-- The gradient at the norm's output: the product with the weights, block by block. -/
def du (a : (⟨2, ![4096, 2560]⟩ : Shape).Idx → EReal) (w : (⟨3, ![4, 1024, 640]⟩ : Shape).Idx → EReal) (s : Fin 4096) (d : Fin 1024) : EReal :=
  ∑ j : Fin 4, ∑ k : Fin 640, a (ix2 s (tile j k)) * w (ix3 j d k)

end Cert.NormInMath

namespace Cert.KernelNormInIdeal.Blocks

open Cert.KernelNormInIdeal Cert.KernelNormInIdeal.Gen Cert.NormMath Cert.NormInMath

variable (m : (ℓ : Loc nD τ sig) → Buf (Elt Ideal) ℓ) (c : Dev nD)

/-- The gradient at the input product. -/
abbrev argA : S4096x2560.Idx → EReal := m ((c : Thread nD τ).loc main_arg0)
/-- The weights. -/
abbrev argW : S4x1024x640.Idx → EReal := m ((c : Thread nD τ).loc main_arg1)
/-- The residual's gradient. -/
abbrev argH : S4096x1024.Idx → EReal := m ((c : Thread nD τ).loc main_arg2)
/-- The norm's input. -/
abbrev argX : S4096x1024.Idx → EReal := m ((c : Thread nD τ).loc main_arg3)
/-- The norm's scale. -/
abbrev argG : S1x1024.Idx → EReal := m ((c : Thread nD τ).loc main_arg4)

theorem index0 : ∀ t : Fin cfg0.N, win0_0.index t = ![t.val / 4, t.val % 4] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![t.val / 4, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 4, 0] := (by decide +kernel : ∀ t : Fin grid0.N, _)
theorem index6 : ∀ t : Fin cfg0.N, win0_6.index t = ![t.val / 4, 0] := (by decide +kernel : ∀ t : Fin grid0.N, _)
theorem index7 : ∀ t : Fin cfg0.N, win0_7.index t = ![0, 0] := (by decide +kernel : ∀ t : Fin grid0.N, _)

/-- A row of the norm's input. -/
def xrow (s : Fin 4096) (k : Fin 1024) : EReal := argX m c (ix2 s k)

/-- The gradient at the norm's input, with the residual's. -/
def arrX (y : S4096x1024.Idx) : EReal :=
  dx (xrow m c (y 0)) (fun k => du (argA m c) (argW m c) (y 0) k * argG m c (ix2 0 k)) (argH m c y) (y 1)

/-- The gradient of the norm's scale. -/
def arrG (y : S1x1024.Idx) : EReal :=
  ∑ s, du (argA m c) (argW m c) s (y 1) * (xrow m c s (y 1) * rms (xrow m c s))

/-- What point `n` adds. -/
def part (n : ℕ) (r : Fin 512) (d : Fin 1024) : EReal :=
  if h : n < cfg0.N then prod (iblk m c 0 ⟨n, h⟩) (iblk m c 1 ⟨n, h⟩) r d else 0

theorem part_eq (t : Fin cfg0.N) (r : Fin 512) (d : Fin 1024) : part m c t.val r d = prod (iblk m c 0 t) (iblk m c 1 t) r d := dif_pos t.isLt

theorem step_A (r : Fin 512) (d : Fin 1024) (n : ℕ) (h : n < cfg0.N) (h0 : n % 4 = 0) : (outsAt0 m c n h).2.2.2 (ix2 r d) = part m c n r d := by
  rw [part_eq m c ⟨n, h⟩, outsAt0_A m c ⟨n, h⟩ h0 (by dsimp only; omega) (by dsimp only; omega)]
  dsimp only
  rw [acc_A]

theorem step_B (r : Fin 512) (d : Fin 1024) (n : ℕ) (h : n + 1 < cfg0.N) (h0 : (n + 1) % 4 ≠ 0) (h3 : (n + 1) % 4 ≠ 3) :
    (outsAt0 m c (n + 1) h).2.2.2 (ix2 r d) = (outsAt0 m c n (Nat.lt_of_succ_lt h)).2.2.2 (ix2 r d) + part m c (n + 1) r d := by
  rw [part_eq m c ⟨n + 1, h⟩, outsAt0_B m c ⟨n + 1, h⟩ h0 (by dsimp only; omega) h3]
  dsimp only
  rw [acc_B]
  rfl

/-- A tile's four parts are the product's entry. -/
theorem tile_sum (t : Fin cfg0.N) (ht : t.val % 4 = 3) (r : Fin 512) (d : Fin 1024) (s : Fin 4096) (hs : (s : ℕ) = t.val / 4 * 512 + r) :
    ∑ j ∈ Finset.range 4, part m c (t.val / 4 * 4 + j) r d = du (argA m c) (argW m c) s d := by
  have hN : cfg0.N = 32 := N_0
  have hl := t.isLt
  unfold du
  rw [Finset.sum_range]
  refine Finset.sum_congr rfl fun j _ => ?_
  have hb : t.val / 4 * 4 + j.val < cfg0.N := by omega
  rw [part_eq m c ⟨_, hb⟩, prod]
  refine Finset.sum_congr rfl fun k _ => ?_
  congr 1
  · blk_simp [iblk]
    show V m c main_arg0 _ = V m c main_arg0 _
    congr 1
    blk_ext [index0 ⟨_, hb⟩, tile]
  · blk_simp [iblk]
    show V m c main_arg1 _ = V m c main_arg1 _
    congr 1
    blk_ext [index1 ⟨_, hb⟩]

/-- The accumulator before a tile's last point, and that point's part. -/
theorem du_eq (t : Fin cfg0.N) (ht : t.val % 4 = 3) (hp : t.val - 1 < cfg0.N) (r : Fin 512) (d : Fin 1024) (s : Fin 4096)
    (hs : (s : ℕ) = t.val / 4 * 512 + r) :
    row (outsAt0 m c (t.val - 1) hp).2.2.2 r d + prod (iblk m c 0 t) (iblk m c 1 t) r d = du (argA m c) (argW m c) s d := by
  rw [← tile_sum m c t ht r d s hs,
    ← TileSum.last_eq (fun n h => (outsAt0 m c n h).2.2.2 (ix2 r d)) (fun n => part m c n r d) (step_A m c r d) (step_B m c r d) t.val ht hp,
    part_eq m c t]
  rfl

theorem row_x (t : Fin cfg0.N) (r : Fin 512) (s : Fin 4096) (hs : (s : ℕ) = t.val / 4 * 512 + r) : row (iblk m c 3 t) r = xrow m c s := by
  funext k
  unfold row xrow
  blk_simp [iblk]
  show V m c main_arg3 _ = V m c main_arg3 _
  congr 1
  blk_ext [index3 t]

theorem row_h (t : Fin cfg0.N) (r : Fin 512) (d : Fin 1024) (s : Fin 4096) (hs : (s : ℕ) = t.val / 4 * 512 + r) :
    row (iblk m c 2 t) r d = argH m c (ix2 s d) := by
  unfold row
  blk_simp [iblk]
  show V m c main_arg2 _ = V m c main_arg2 _
  congr 1
  blk_ext [index2 t]

theorem scale_g (t : Fin cfg0.N) (k : Fin 1024) : (iblk m c 4 t : Vec Ideal S1x1024 .f32) (ix2 0 k) = argG m c (ix2 0 k) := by
  blk_simp [iblk]
  show V m c main_arg4 _ = V m c main_arg4 _
  congr 1
  blk_ext [index4 t]

theorem dx_eq (t : Fin cfg0.N) (ht : t.val % 4 = 3) (hp : t.val - 1 < cfg0.N) (r : Fin 512) (d : Fin 1024) (s : Fin 4096)
    (hs : (s : ℕ) = t.val / 4 * 512 + r) :
    dxBlk (iblk m c 0 t) (iblk m c 1 t) (iblk m c 2 t) (iblk m c 3 t) (iblk m c 4 t) (outsAt0 m c (t.val - 1) hp).2.2.2 r d
      = arrX m c (ix2 s d) := by
  unfold dxBlk arrX
  rw [row_x m c t r s hs, row_h m c t r d s hs]
  show dx _ _ _ _ = dx _ _ _ _
  congr 1
  funext k
  rw [du_eq m c t ht hp r k s hs, scale_g]
  rfl

/-- The two outputs at the norm's input after a tile's last point. -/
theorem outs_eq (t : Fin cfg0.N) (ht : t.val % 4 = 3) (r : Fin 512) (d : Fin 1024) (s : Fin 4096) (hs : (s : ℕ) = t.val / 4 * 512 + r) :
    (outsAt0 m c t.val t.isLt).1 (ix2 r d) = arrX m c (ix2 s d) ∧ (outsAt0 m c t.val t.isLt).2.1 (ix2 r d) = arrX m c (ix2 s d) := by
  have hp : t.val - 1 < cfg0.N := by have := t.isLt; omega
  rw [← dx_eq m c t ht hp r d s hs]
  by_cases h4 : t.val < 4
  · rw [outsAt0_C m c t (by omega) (by omega) ht h4]
    dsimp only
    rw [out_C5, out_C6]
    exact ⟨rfl, rfl⟩
  · rw [outsAt0_D m c t (by omega) (by omega) ht h4]
    dsimp only
    rw [out_D5, out_D6]
    exact ⟨rfl, rfl⟩

/-- What tile `n / 4` adds to the scale's gradient. -/
def gpart (d : Fin 1024) (n : ℕ) : EReal :=
  if h : n < cfg0.N then
    dgBlk (iblk m c 0 ⟨n, h⟩) (iblk m c 1 ⟨n, h⟩) (iblk m c 3 ⟨n, h⟩) (outsAt0 m c (n - 1) (Nat.lt_of_le_of_lt (Nat.sub_le _ _) h)).2.2.2 d
  else 0

/-- The position of a tile's row. -/
def rowAt (t : Fin cfg0.N) (r : Fin 512) : Fin 4096 :=
  ⟨t.val / 4 * 512 + r.val, by have := t.isLt; have hN : cfg0.N = 32 := N_0; omega⟩

theorem gpart_eq (d : Fin 1024) (t : Fin cfg0.N) (ht : t.val % 4 = 3) :
    gpart m c d t.val = ∑ r : Fin 512, du (argA m c) (argW m c) (rowAt t r) d
      * (xrow m c (rowAt t r) d
        * rms (xrow m c (rowAt t r))) := by
  unfold gpart
  rw [dif_pos t.isLt]
  unfold dgBlk
  refine Finset.sum_congr rfl fun r _ => ?_
  rw [row_x m c t r (rowAt t r) rfl]
  congr 1
  exact du_eq m c t ht _ r d (rowAt t r) rfl

theorem g_first (d : Fin 1024) (h : 3 < cfg0.N) : (outsAt0 m c 3 h).2.2.1 (ix2 0 d) = gpart m c d 3 := by
  unfold gpart
  rw [dif_pos h, outsAt0_C m c ⟨3, h⟩ (by dsimp only; omega) (by dsimp only; omega) rfl (by dsimp only; omega)]
  dsimp only
  rw [out_C7]

theorem g_keep (d : Fin 1024) (n : ℕ) (h : n + 1 < cfg0.N) (h3 : (n + 1) % 4 ≠ 3) :
    (outsAt0 m c (n + 1) h).2.2.1 (ix2 0 d) = (outsAt0 m c n (Nat.lt_of_succ_lt h)).2.2.1 (ix2 0 d) := by
  by_cases h0 : (n + 1) % 4 = 0
  · rw [outsAt0_A m c ⟨n + 1, h⟩ h0 (by dsimp only; omega) h3]
    rfl
  · rw [outsAt0_B m c ⟨n + 1, h⟩ h0 (by dsimp only; omega) h3]
    rfl

theorem g_add (d : Fin 1024) (n : ℕ) (h : n + 1 < cfg0.N) (hn : 3 ≤ n) (h3 : (n + 1) % 4 = 3) :
    (outsAt0 m c (n + 1) h).2.2.1 (ix2 0 d) = (outsAt0 m c n (Nat.lt_of_succ_lt h)).2.2.1 (ix2 0 d) + gpart m c d (n + 1) := by
  unfold gpart
  rw [dif_pos h, outsAt0_D m c ⟨n + 1, h⟩ (by dsimp only; omega) (by dsimp only; omega) h3 (by dsimp only; omega)]
  dsimp only
  rw [out_D7]
  rfl

/-- The scale's gradient after the last point. -/
theorem out7_eq (t : Fin cfg0.N) (ht : t.val = 31) (d : Fin 1024) : (outsAt0 m c t.val t.isLt).2.2.1 (ix2 0 d) = arrG m c (ix2 0 d) := by
  have hN : cfg0.N = 32 := N_0
  rw [TileSum.runs_eq (fun n h => (outsAt0 m c n h).2.2.1 (ix2 0 d)) (gpart m c d) (g_first m c d) (g_keep m c d) (g_add m c d) t.val t.isLt (by omega),
    show (t.val + 1) / 4 = 8 by omega, Finset.sum_range]
  unfold arrG
  rw [Fin.sum_univ_tiles 8 512 rfl]
  refine Finset.sum_congr rfl fun j _ => ?_
  have hb : j.val * 4 + 3 < cfg0.N := by omega
  rw [gpart_eq m c d ⟨_, hb⟩ (by dsimp only; omega)]
  refine Finset.sum_congr rfl fun r _ => ?_
  have e : rowAt ⟨_, hb⟩ r = ⟨j.val * 512 + r.val, by omega⟩ := Fin.ext (by dsimp only [rowAt]; omega)
  rw [e]
  rfl

theorem final5 : (dats m 0 c).arrAt 5 cfg0.N = arrX m c := by
  refine (dats m 0 c).arrAt_eq_of_covers 5 _ (by decide +kernel) fun t hf y => ?_
  blk_simp
  rw [after0_5]
  have h := (outs_eq m c t ((flush0_5 t).mp hf) (y 0) (y 1) ⟨t.val / 4 * 512 + (y 0).val, by
    have hl : t.val < 32 := lt_of_lt_of_eq t.isLt N_0; have h0 : (y 0).val < 512 := (y 0).isLt; omega⟩ rfl).1
  rw [ix2_eta] at h
  refine h.trans ?_
  congr 1
  blk_ext [index5 t]

theorem final6 : (dats m 0 c).arrAt 6 cfg0.N = arrX m c := by
  refine (dats m 0 c).arrAt_eq_of_covers 6 _ (by decide +kernel) fun t hf y => ?_
  blk_simp
  rw [after0_6]
  have h := (outs_eq m c t ((flush0_6 t).mp hf) (y 0) (y 1) ⟨t.val / 4 * 512 + (y 0).val, by
    have hl : t.val < 32 := lt_of_lt_of_eq t.isLt N_0; have h0 : (y 0).val < 512 := (y 0).isLt; omega⟩ rfl).2
  rw [ix2_eta] at h
  refine h.trans ?_
  congr 1
  blk_ext [index6 t]

theorem final7 : (dats m 0 c).arrAt 7 cfg0.N = arrG m c := by
  refine (dats m 0 c).arrAt_eq_of_covers 7 _ (by decide +kernel) fun t hf y => ?_
  blk_simp
  rw [after0_7]
  have h := out7_eq m c t (by have := (flush0_7 t).mp hf; have := t.isLt; have hN : cfg0.N = 32 := N_0; omega) (y 1)
  have e : (ix2 0 (y 1) : S1x1024.Idx) = y := (congrArg (fun a => ix2 a (y 1)) (Subsingleton.elim (α := Fin 1) 0 (y 0))).trans (ix2_eta y)
  rw [e] at h
  refine h.trans ?_
  congr 1
  blk_ext [index7 t]

end Cert.KernelNormInIdeal.Blocks
-- ==== Proof.NormInClaim.lean ====
module

public import proofs.«01_k».proof.Defs
public import proofs.«01_k».proof.Proof.NormInArray
public import proofs.«01_k».proof.Proof.Gen.KernelNormIn.Frame
public import proofs.«01_k».proof.Proof.Gen.ReferenceNormInIdeal.Run
public import proofs.«01_k».proof.Proof.Gen.ReferenceNormInIdeal.Read

@[expose] public section
noncomputable section

open Idealize.ShloMosaic Idealize.ShloMosaic.TcCoe Idealize.SL.Sem

/-! The gradient through the block's input product and norm: kernel and reference end with the same three arrays. -/

namespace Cert.ReferenceNormInIdeal.Grad

open Cert.ReferenceNormInIdeal Cert.ReferenceNormInIdeal.Gen Cert.ReferenceNormInIdeal.Read Cert.NormMath Cert.NormInMath

variable (x0 : (⟨S4096x2560, .bf16⟩ : BufTy).Contents (Elt Ideal)) (x1 : (⟨S4x1024x640, .bf16⟩ : BufTy).Contents (Elt Ideal))
  (x2 x3 : (⟨S4096x1024, .f32⟩ : BufTy).Contents (Elt Ideal)) (x4 : (⟨S1x1024, .f32⟩ : BufTy).Contents (Elt Ideal))

/-- A row of the norm's input. -/
def xr (s : Fin 4096) (k : Fin 1024) : EReal := x3 (ix2 s k)

theorem w_ix (j : Fin 4) (d : Fin 1024) (k : Fin 640) : val_main_v8 (F := Ideal) x1 (ix2 d (tile j k)) = x1 (ix3 j d k) := by
  have hk := k.isLt
  fin_cases j
  · have e : (tile 0 k).val = 0 * 640 + k.val := rfl
    pointwise [val_main_v8, val_main_v1, val_main_v0]
    split_ifs <;> first
      | omega
      | exact congrArg x1 (congrArg (ix3 0 d) (Fin.ext (by dsimp only; omega)))
  · have e : (tile 1 k).val = 1 * 640 + k.val := rfl
    pointwise [val_main_v8, val_main_v3, val_main_v2]
    split_ifs <;> first
      | omega
      | exact congrArg x1 (congrArg (ix3 1 d) (Fin.ext (by dsimp only; omega)))
  · have e : (tile 2 k).val = 2 * 640 + k.val := rfl
    pointwise [val_main_v8, val_main_v5, val_main_v4]
    split_ifs <;> first
      | omega
      | exact congrArg x1 (congrArg (ix3 2 d) (Fin.ext (by dsimp only; omega)))
  · have e : (tile 3 k).val = 3 * 640 + k.val := rfl
    pointwise [val_main_v8, val_main_v7, val_main_v6]
    split_ifs <;> first
      | omega
      | exact congrArg x1 (congrArg (ix3 3 d) (Fin.ext (by dsimp only; omega)))

theorem du_ix (s : Fin 4096) (d : Fin 1024) : val_main_v27 (F := Ideal) x0 x1 (ix2 s d) = du x0 x1 s d := by
  pointwise [val_main_v27, val_main_v10, val_main_v9]
  unfold du
  rw [Fin.sum_univ_tiles 4 640 rfl]
  refine Finset.sum_congr rfl fun j _ => Finset.sum_congr rfl fun k _ => ?_
  rw [← w_ix x1 j d k]
  rfl

theorem msq_ix (s : Fin 4096) : val_main_v17 (F := Ideal) x3 (ix2 s 0) = msq (xr x3 s) := by
  pointwise [val_main_v17, val_main_v16, val_main_v15, val_main_v14, val_main_v13, val_main_v12, val_main_v11, val_main_cst, val_main_cst_0, val_main_cst_1]
  rfl

theorem rms_ix (s : Fin 4096) : val_main_v18 (F := Ideal) x3 (ix2 s 0) = rms (xr x3 s) := by
  pointwise [val_main_v18]
  rw [msq_ix]
  rfl

theorem a_ix (s : Fin 4096) (d : Fin 1024) : val_main_v32 (F := Ideal) x0 x1 x4 (ix2 s d) = du x0 x1 s d * x4 (ix2 0 d) := by
  pointwise [val_main_v32, val_main_v31, du_ix]

theorem coef_ix (s : Fin 4096) (d : Fin 1024) :
    val_main_v43 (F := Ideal) x0 x1 x3 x4 (ix2 s d) = coef (xr x3 s) (fun k => du x0 x1 s k * x4 (ix2 0 k)) := by
  pointwise [val_main_v43, val_main_v42, val_main_v41, val_main_v40, val_main_v39, val_main_v35, val_main_v34, val_main_v33, val_main_v21,
    val_main_v20, val_main_v19, val_main_cst_2, val_main_cst_4, val_main_cst_5, val_main_cst_6, a_ix]
  rw [Fin.sum_univ_one, rms_ix, msq_ix]
  rfl

theorem res0_ix (s : Fin 4096) (d : Fin 1024) :
    val_main_v47 (F := Ideal) x0 x1 x2 x3 x4 (ix2 s d) = dx (xr x3 s) (fun k => du x0 x1 s k * x4 (ix2 0 k)) (x2 (ix2 s d)) d := by
  rw [← ref_dx]
  pointwise [val_main_v47, val_main_v46, val_main_v45, val_main_v44, val_main_v38, val_main_v37, val_main_v36, a_ix, coef_ix, rms_ix]
  rfl

theorem res1_ix (s : Fin 4096) (d : Fin 1024) :
    val_main_v48 (F := Ideal) x0 x1 x2 x3 x4 (ix2 s d) = dx (xr x3 s) (fun k => du x0 x1 s k * x4 (ix2 0 k)) (x2 (ix2 s d)) d := by
  rw [← res0_ix]
  pointwise [val_main_v48]

theorem res2_ix (d : Fin 1024) :
    val_main_v30 (F := Ideal) x0 x1 x3 (ix2 0 d) = ∑ s, du x0 x1 s d * (xr x3 s d * rms (xr x3 s)) := by
  pointwise [val_main_v30, val_main_v29, val_main_v28, val_main_v23, val_main_v22, val_main_cst_3, du_ix, rms_ix]
  exact Finset.sum_congr rfl fun s _ => mul_comm _ _

/-- The reference's first result. -/
theorem res0 (y : S4096x1024.Idx) :
    val_main_v47 (F := Ideal) x0 x1 x2 x3 x4 y = dx (xr x3 (y 0)) (fun k => du x0 x1 (y 0) k * x4 (ix2 0 k)) (x2 y) (y 1) := by
  have h := res0_ix x0 x1 x2 x3 x4 (y 0) (y 1)
  rw [ix2_eta] at h
  exact h

/-- The reference's second result. -/
theorem res1 (y : S4096x1024.Idx) :
    val_main_v48 (F := Ideal) x0 x1 x2 x3 x4 y = dx (xr x3 (y 0)) (fun k => du x0 x1 (y 0) k * x4 (ix2 0 k)) (x2 y) (y 1) := by
  have h := res1_ix x0 x1 x2 x3 x4 (y 0) (y 1)
  rw [ix2_eta] at h
  exact h

/-- The reference's third result. -/
theorem res2 (y : S1x1024.Idx) :
    val_main_v30 (F := Ideal) x0 x1 x3 y = ∑ s, du x0 x1 s (y 1) * (xr x3 s (y 1) * rms (xr x3 s)) := by
  have e : (ix2 0 (y 1) : S1x1024.Idx) = y := (congrArg (fun a => ix2 a (y 1)) (Subsingleton.elim (α := Fin 1) 0 (y 0))).trans (ix2_eta y)
  have h := res2_ix x0 x1 x3 (y 1)
  rw [e] at h
  exact h

end Cert.ReferenceNormInIdeal.Grad

namespace Cert.NormInClaim

/-- The kernel runs, and leaves its arguments and every counter as they were. -/
theorem frame_kernel (h : Cert.KernelNormIn.Facts) : Cert.quiescent_KernelNormIn (hKernelNormIn := h) :=
  fun m ρ _ => Cert.KernelNormIn.Gen.frame m ρ

/-- The same of its reading over the extended reals. -/
theorem frame_ideal (h : Cert.KernelNormInIdeal.Facts) : Cert.quiescent_KernelNormInIdeal (hKernelNormInIdeal := h) :=
  fun m ρ _ => Cert.KernelNormInIdeal.Gen.frame m ρ

/-- The reference's run leaves its arguments and every counter as they were. -/
theorem frame_ref (h : Cert.ReferenceNormInIdeal.Facts) : Cert.quiescent_ReferenceNormInIdeal (hReferenceNormInIdeal := h) :=
  fun m ρ _ => (θ_run _ _ _).mono (fun r h => ⟨fun c => (h c).2.2.2, sem_eq_zero_of_no_sems (by decide) r.2⟩)
    (Cert.ReferenceNormInIdeal.Value.run m ρ)

/-- The kernel's three results are the reference's. -/
theorem algebraic (h : Cert.KernelNormInIdeal.Facts) (h' : Cert.ReferenceNormInIdeal.Facts) :
    Cert.algebraic_KernelNormInIdeal_ReferenceNormInIdeal (hKernelNormInIdeal := h) (hReferenceNormInIdeal := h') := by
  intro m g m' g' hpre hargs
  refine ⟨fun c => Cert.KernelNormInIdeal.Blocks.arrX m c, fun c => Cert.KernelNormInIdeal.Blocks.arrX m c, fun c => Cert.KernelNormInIdeal.Blocks.arrG m c,
    (θ_run _ _ _).mono (fun r h c => ?_) (Cert.KernelNormInIdeal.Value.run_blocks m g),
    (θ_run _ _ _).mono (fun r h c => ?_) (Cert.ReferenceNormInIdeal.Value.run m' g')⟩
  · obtain ⟨h0, h1, h2, hr⟩ := h c
    exact ⟨h0.trans (Cert.KernelNormInIdeal.Blocks.final5 m c), h1.trans (Cert.KernelNormInIdeal.Blocks.final6 m c),
      h2.trans (Cert.KernelNormInIdeal.Blocks.final7 m c), hr⟩
  · obtain ⟨h0, h1, h2, hr⟩ := h c
    obtain ⟨a0, a1, a2, a3, a4⟩ := hargs c
    refine ⟨h0.trans ?_, h1.trans ?_, h2.trans ?_, hr⟩
    · rw [Cert.ReferenceNormInIdeal.Read.val_main_v47_eq, a0, a1, a2, a3, a4]
      exact funext fun y => Cert.ReferenceNormInIdeal.Grad.res0 _ _ _ _ _ y
    · rw [Cert.ReferenceNormInIdeal.Read.val_main_v48_eq, a0, a1, a2, a3, a4]
      exact funext fun y => Cert.ReferenceNormInIdeal.Grad.res1 _ _ _ _ _ y
    · rw [Cert.ReferenceNormInIdeal.Read.val_main_v30_eq, a0, a1, a3]
      exact funext fun y => Cert.ReferenceNormInIdeal.Grad.res2 _ _ _ y

end Cert.NormInClaim
-- ==== Proof.FUpBlock.lean ====
module

public import proofs.«01_k».proof.Proof.Gen.KernelFUpIdeal.Value
public import Idealize.ShloMosaic.Lib.Pointwise
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The feed-forward's up product and squared positive part: the results of the kernel, at an index. -/

namespace Cert.FUpMath

/-- The block of a column. -/
def blk (e : Fin 4096) : Fin 4 := ⟨e.val / 1024, by omega⟩

/-- The column's place in its block. -/
def off (e : Fin 4096) : Fin 1024 := ⟨e.val % 1024, by omega⟩

/-- An entry of the product with the weights, kept block by block. -/
def cell (u : (⟨2, ![4096, 1024]⟩ : Shape).Idx → EReal) (w : (⟨3, ![4, 1024, 1024]⟩ : Shape).Idx → EReal) (s : Fin 4096) (e : Fin 4096) : EReal :=
  ∑ k : Fin 1024, u (ix2 s k) * w (ix3 (blk e) k (off e))

/-- The squared positive part. -/
def sqr (a : EReal) : EReal := max a 0 * max a 0

end Cert.FUpMath

namespace Cert.KernelFUpIdeal.Blocks

open Cert.KernelFUpIdeal Cert.KernelFUpIdeal.Gen Cert.FUpMath

/-- An entry of the product of two blocks. -/
def prod (x0 : Vec Ideal S1024x1024 .bf16) (x1 : Vec Ideal S1x1024x1024 .bf16) (r : Fin 1024) (d : Fin 1024) : EReal :=
  ∑ k : Fin 1024, x0 (ix2 r k) * x1 (ix3 0 k d)

theorem pay1_ix (x0 : Vec Ideal S1024x1024 .bf16) (x1 : Vec Ideal S1x1024x1024 .bf16) (r : Fin 1024) (d : Fin 1024) :
    k0_pay1 (F := Ideal) x0 x1 (ix2 r d) = prod x0 x1 r d := by
  pointwise [k0_pay1] <;> rfl

theorem pay2_ix (x0 : Vec Ideal S1024x1024 .bf16) (x1 : Vec Ideal S1x1024x1024 .bf16) (r : Fin 1024) (d : Fin 1024) :
    k0_pay2 (F := Ideal) x0 x1 (ix2 r d) = prod x0 x1 r d := by
  rw [← pay1_ix]
  pointwise [k0_pay2] <;> rfl

theorem pay3_ix (x0 : Vec Ideal S1024x1024 .bf16) (x1 : Vec Ideal S1x1024x1024 .bf16) (r : Fin 1024) (d : Fin 1024) :
    k0_pay3 (F := Ideal) x0 x1 (ix2 r d) = sqr (prod x0 x1 r d) := by
  rw [← pay1_ix]
  pointwise [k0_pay3] <;> rfl

theorem ld_x {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem ld_w {e : EltTy} (x : Vec Ideal S1x1024x1024 e)
    (inb : ∀ a : Fin 3, (![0, 0, 0] : Fin 3 → ℕ) a + (![1, 1024, 1024] : Fin 3 → ℕ) a ≤ S1x1024x1024.size a) :
    View.ld x (Rect.unit ![0, 0, 0] ![1, 1024, 1024] inb) = x := View.ld_unit_lit inb x (by decide)

theorem same_ix (x : S1024x1024.Idx) (r : Fin 1024) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

theorem out2_apply (x0 : Vec Ideal S1024x1024 .bf16) (x1 : Vec Ideal S1x1024x1024 .bf16) (y : S1024x1024.Idx) :
    out0_2 (F := Ideal) x0 x1 y = prod x0 x1 (y 0) (y 1) := by
  unfold out0_2
  rw [ld_x, ld_w]
  canon_tiles x hx
  rw [same_ix x (y 0) (y 1) hx0 hx1]
  exact pay2_ix x0 x1 (y 0) (y 1)

theorem out3_apply (x0 : Vec Ideal S1024x1024 .bf16) (x1 : Vec Ideal S1x1024x1024 .bf16) (y : S1024x1024.Idx) :
    out0_3 (F := Ideal) x0 x1 y = sqr (prod x0 x1 (y 0) (y 1)) := by
  unfold out0_3
  rw [ld_x, ld_w]
  canon_tiles x hx
  rw [same_ix x (y 0) (y 1) hx0 hx1]
  exact pay3_ix x0 x1 (y 0) (y 1)

variable (m : (ℓ : Loc nD τ sig) → Buf (Elt Ideal) ℓ) (c : Dev nD)

/-- The input. -/
abbrev argU : S4096x1024.Idx → EReal := m ((c : Thread nD τ).loc main_arg0)
/-- The weights. -/
abbrev argW : S4x1024x1024.Idx → EReal := m ((c : Thread nD τ).loc main_arg1)

theorem index0 : ∀ t : Fin cfg0.N, win0_0.index t = ![t.val / 4, 0] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, t.val % 4] := (by decide +kernel : ∀ t : Fin grid0.N, _)
theorem index3 : ∀ t : Fin cfg0.N, win0_3.index t = ![t.val / 4, t.val % 4] := (by decide +kernel : ∀ t : Fin grid0.N, _)

theorem prod_eq (t : Fin cfg0.N) (r : Fin 1024) (d : Fin 1024) (s : Fin 4096) (e : Fin 4096) (hs : (s : ℕ) = t.val / 4 * 1024 + r)
    (he : (e : ℕ) = t.val % 4 * 1024 + d) : prod (iblk m c 0 t) (iblk m c 1 t) r d = cell (argU m c) (argW m c) s e := by
  unfold prod cell
  refine Finset.sum_congr rfl fun k _ => ?_
  congr 1
  · blk_simp [iblk]
    show V m c main_arg0 _ = V m c main_arg0 _
    congr 1
    blk_ext [index0 t]
  · blk_simp [iblk]
    show V m c main_arg1 _ = V m c main_arg1 _
    congr 1
    blk_ext [index1 t, blk, off]

/-- The first result. -/
def arr (y : S4096x4096.Idx) : EReal := cell (argU m c) (argW m c) (y 0) (y 1)

theorem eq2 (t : Fin cfg0.N) (r : Fin 1024) (d : Fin 1024) (z : S4096x4096.Idx) (hz0 : (z 0 : ℕ) = t.val / 4 * 1024 + r)
    (hz1 : (z 1 : ℕ) = t.val % 4 * 1024 + d) : prod (iblk m c 0 t) (iblk m c 1 t) r d = arr m c z := by
  rw [prod_eq m c t r d (z 0) (z 1) hz0 hz1]
  rfl

theorem final2 : (dats m 0 c).arrAt 2 cfg0.N = arr m c := by
  refine (dats m 0 c).arrAt_eq_of_covers 2 _ (by decide +kernel) fun t hf y => ?_
  blk_simp
  rw [after0_2]
  refine (out2_apply _ _ _).trans (eq2 m c t _ _ _ ?_ ?_)
  · blk_simp [index2 t]
  · blk_simp [index2 t]

/-- The second result. -/
def arrS (y : S4096x4096.Idx) : EReal := sqr (cell (argU m c) (argW m c) (y 0) (y 1))

theorem eq3 (t : Fin cfg0.N) (r : Fin 1024) (d : Fin 1024) (z : S4096x4096.Idx) (hz0 : (z 0 : ℕ) = t.val / 4 * 1024 + r)
    (hz1 : (z 1 : ℕ) = t.val % 4 * 1024 + d) : sqr (prod (iblk m c 0 t) (iblk m c 1 t) r d) = arrS m c z := by
  rw [prod_eq m c t r d (z 0) (z 1) hz0 hz1]
  rfl

theorem final3 : (dats m 0 c).arrAt 3 cfg0.N = arrS m c := by
  refine (dats m 0 c).arrAt_eq_of_covers 3 _ (by decide +kernel) fun t hf y => ?_
  blk_simp
  rw [after0_3]
  refine (out3_apply _ _ _).trans (eq3 m c t _ _ _ ?_ ?_)
  · blk_simp [index3 t]
  · blk_simp [index3 t]

end Cert.KernelFUpIdeal.Blocks
-- ==== Proof.FUpClaim.lean ====
module

public import proofs.«01_k».proof.Defs
public import proofs.«01_k».proof.Proof.FUpBlock
public import proofs.«01_k».proof.Proof.Gen.KernelFUp.Frame
public import proofs.«01_k».proof.Proof.Gen.ReferenceFUpIdeal.Run
public import proofs.«01_k».proof.Proof.Gen.ReferenceFUpIdeal.Read

@[expose] public section
noncomputable section

open Idealize.ShloMosaic Idealize.ShloMosaic.TcCoe Idealize.SL.Sem

/-! The feed-forward's up product and squared positive part: kernel and reference end with the same arrays. -/

namespace Cert.ReferenceFUpIdeal.Grad

open Cert.ReferenceFUpIdeal Cert.ReferenceFUpIdeal.Gen Cert.ReferenceFUpIdeal.Read Cert.FUpMath

variable (x0 : (⟨S4096x1024, .bf16⟩ : BufTy).Contents (Elt Ideal)) (x1 : (⟨S4x1024x1024, .bf16⟩ : BufTy).Contents (Elt Ideal))

theorem w_ix (d : Fin 1024) (e : Fin 4096) : val_main_v8 (F := Ideal) x1 (ix2 d e) = x1 (ix3 (blk e) d (off e)) := by
  have he := e.isLt
  pointwise [val_main_v8, val_main_v7, val_main_v6, val_main_v5, val_main_v4, val_main_v3, val_main_v2, val_main_v1, val_main_v0]
  split_ifs <;>
    exact congrArg x1 (congrArg₂ (fun a b => ix3 a d b) (Fin.ext (by dsimp [blk]; omega)) (Fin.ext (by dsimp [off]; omega)))

theorem dot_ix (s : Fin 4096) (e : Fin 4096) : val_main_v11 (F := Ideal) x0 x1 (ix2 s e) = cell x0 x1 s e := by
  pointwise [val_main_v11, val_main_v10, val_main_v9]
  exact Finset.sum_congr rfl fun k _ => congrArg _ (w_ix x1 k e)

theorem res0_ix (s : Fin 4096) (e : Fin 4096) : val_main_v12 (F := Ideal) x0 x1 (ix2 s e) = cell x0 x1 s e := by
  rw [← dot_ix]
  pointwise [val_main_v12] <;> rfl

theorem res1_ix (s : Fin 4096) (e : Fin 4096) : val_main_v15 (F := Ideal) x0 x1 (ix2 s e) = sqr (cell x0 x1 s e) := by
  rw [← dot_ix]
  pointwise [val_main_v15, val_main_v14, val_main_v13, val_main_call0_v0, val_main_call0_cst] <;> rfl

/-- The reference's first result. -/
theorem res0 (y : S4096x4096.Idx) : val_main_v12 (F := Ideal) x0 x1 y = cell x0 x1 (y 0) (y 1) := by
  have h := res0_ix x0 x1 (y 0) (y 1)
  rw [ix2_eta] at h
  exact h

/-- The reference's second result. -/
theorem res1 (y : S4096x4096.Idx) : val_main_v15 (F := Ideal) x0 x1 y = sqr (cell x0 x1 (y 0) (y 1)) := by
  have h := res1_ix x0 x1 (y 0) (y 1)
  rw [ix2_eta] at h
  exact h

end Cert.ReferenceFUpIdeal.Grad

namespace Cert.FUpClaim

/-- The kernel runs, and leaves its arguments and every counter as they were. -/
theorem frame_kernel (h : Cert.KernelFUp.Facts) : Cert.quiescent_KernelFUp (hKernelFUp := h) :=
  fun m ρ _ => Cert.KernelFUp.Gen.frame m ρ

/-- The same of its reading over the extended reals. -/
theorem frame_ideal (h : Cert.KernelFUpIdeal.Facts) : Cert.quiescent_KernelFUpIdeal (hKernelFUpIdeal := h) :=
  fun m ρ _ => Cert.KernelFUpIdeal.Gen.frame m ρ

/-- The reference's run leaves its arguments and every counter as they were. -/
theorem frame_ref (h : Cert.ReferenceFUpIdeal.Facts) : Cert.quiescent_ReferenceFUpIdeal (hReferenceFUpIdeal := h) :=
  fun m ρ _ => (θ_run _ _ _).mono (fun r h => ⟨fun c => (h c).2.2, sem_eq_zero_of_no_sems (by decide) r.2⟩)
    (Cert.ReferenceFUpIdeal.Value.run m ρ)

/-- The kernel's results are the reference's. -/
theorem algebraic (h : Cert.KernelFUpIdeal.Facts) (h' : Cert.ReferenceFUpIdeal.Facts) :
    Cert.algebraic_KernelFUpIdeal_ReferenceFUpIdeal (hKernelFUpIdeal := h) (hReferenceFUpIdeal := h') := by
  intro m g m' g' hpre hargs
  refine ⟨fun c => Cert.KernelFUpIdeal.Blocks.arr m c, fun c => Cert.KernelFUpIdeal.Blocks.arrS m c,
    (θ_run _ _ _).mono (fun r h c => ?_) (Cert.KernelFUpIdeal.Value.run_blocks m g),
    (θ_run _ _ _).mono (fun r h c => ?_) (Cert.ReferenceFUpIdeal.Value.run m' g')⟩
  · obtain ⟨h0, h1, hr⟩ := h c
    exact ⟨h0.trans (Cert.KernelFUpIdeal.Blocks.final2 m c), h1.trans (Cert.KernelFUpIdeal.Blocks.final3 m c), hr⟩
  · obtain ⟨h0, h1, hr⟩ := h c
    obtain ⟨a0, a1⟩ := hargs c
    refine ⟨h0.trans ?_, h1.trans ?_, hr⟩
    · rw [Cert.ReferenceFUpIdeal.Read.val_main_v12_eq, a0, a1]
      exact funext fun y => Cert.ReferenceFUpIdeal.Grad.res0 _ _ y
    · rw [Cert.ReferenceFUpIdeal.Read.val_main_v15_eq, a0, a1]
      exact funext fun y => Cert.ReferenceFUpIdeal.Grad.res1 _ _ y

end Cert.FUpClaim
-- ==== Proof.FDownBlock.lean ====
module

public import proofs.«01_k».proof.Proof.Gen.KernelFDownIdeal.Value
public import proofs.«01_k».proof.Proof.TileSum
public import proofs.«01_k».proof.Proof.NormMath
public import Idealize.ShloMosaic.Lib.Pointwise
public import Idealize.ShloMosaic.Lib.Pipeline.ValueKit
public import Idealize.ShloMosaic.Lib.Pipeline.ValueKit.Tiles
public import Idealize.ShloMosaic.Lib.Pipeline.ReadBack

@[expose] public section
noncomputable section

open Idealize.ShloMosaic Idealize.ShloMosaic.TcCoe Idealize.SL.Sem

/-! The feed-forward's down product, the residual and the next block's norm: the results of the kernel, at an index. -/

namespace Cert.KernelFDownIdeal.Blocks

open Cert.KernelFDownIdeal Cert.KernelFDownIdeal.Gen Cert.NormMath

/-- An entry of the product of two blocks. -/
def prod (x0 x1 : Vec Ideal S1024x1024 .bf16) (r d : Fin 1024) : EReal := ∑ k, x0 (ix2 r k) * x1 (ix2 k d)

theorem pay1_ix (x0 x1 : Vec Ideal S1024x1024 .bf16) (r d : Fin 1024) : k0_pay1 (F := Ideal) x0 x1 (ix2 r d) = prod x0 x1 r d := by
  pointwise [k0_pay1] <;> rfl

theorem pay2_ix (v : Vec Ideal S1024x1024 .f32) (x0 x1 : Vec Ideal S1024x1024 .bf16) (r d : Fin 1024) :
    k0_pay2 (F := Ideal) v x0 x1 (ix2 r d) = v (ix2 r d) + prod x0 x1 r d := by
  pointwise [k0_pay2] <;> rfl

/-- A row that the last point of a tile leaves: the accumulator, the last product and the residual. -/
def hblk (v : Vec Ideal S1024x1024 .f32) (x0 x1 : Vec Ideal S1024x1024 .bf16) (x2 : Vec Ideal S1024x1024 .f32) (r d : Fin 1024) : EReal :=
  v (ix2 r d) + prod x0 x1 r d + x2 (ix2 r d)

theorem pay3_ix (v : Vec Ideal S1024x1024 .f32) (x0 x1 : Vec Ideal S1024x1024 .bf16) (x2 : Vec Ideal S1024x1024 .f32) (r d : Fin 1024) :
    k0_pay3 (F := Ideal) v x0 x1 x2 (ix2 r d) = hblk v x0 x1 x2 r d := by
  pointwise [k0_pay3] <;> rfl

theorem pay4_ix (v : Vec Ideal S1024x1024 .f32) (x0 x1 : Vec Ideal S1024x1024 .bf16) (x2 : Vec Ideal S1024x1024 .f32) (x3 : Vec Ideal S1x1024 .f32) (r d : Fin 1024) :
    k0_pay4 (F := Ideal) v x0 x1 x2 x3 (ix2 r d) = hblk v x0 x1 x2 r d * rms (hblk v x0 x1 x2 r) * x3 (ix2 0 d) := by
  pointwise [k0_pay4, pay3_ix] <;> rfl

theorem ld_x {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem ld_1 {e : EltTy} (x : Vec Ideal S1x1024 e)
    (inb : ∀ a : Fin 2, (![0, 0] : Fin 2 → ℕ) a + (![1, 1024] : Fin 2 → ℕ) a ≤ S1x1024.size a) :
    View.ld x (Rect.unit ![0, 0] ![1, 1024] inb) = x := View.ld_unit_lit inb x (by decide)

theorem same_ix (x : S1024x1024.Idx) (r : Fin 1024) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

section Points
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .bf16) (h8 : a8.IsWhole) (a9 : Memref sig .tc .vmem S1024x1024 .f32) (h9 : a9.IsWhole)
  (x0 x1 : Vec Ideal S1024x1024 .bf16) (x2 : Vec Ideal S1024x1024 .f32) (x3 : Vec Ideal S1x1024 .f32) (xs : Vec Ideal S1024x1024 .f32)
  (r d : Fin 1024)

theorem acc_A (hc0 : cond0_0 i) (hc1 : ¬cond0_1 i) (hc2 : ¬cond0_2 i) :
    sout0_A_0 (F := Ideal) c i a3 h3 a4 h4 a5 h5 a6 h6 a7 h7 a8 h8 a9 h9 hc0 hc1 hc2 x0 x1 x2 x3 (ix2 r d) = prod x0 x1 r d := by
  unfold sout0_A_0
  rw [View.read_writes_eq_canon _ _ _ (scover0_A_0 c i a3 h3 a4 h4 a5 h5 a6 h6 a7 h7 a8 h8 a9 h9 hc0 hc1 hc2 x0 x1 x2 x3)]
  unfold kernelRun0_A
  dsimp only
  sl_unfold_words
  simp only [View.readAt_eq_ld, h3.read_unread, h4.read_unread, ld_x]
  canon_tiles x hx
  rw [same_ix x r d hx0 hx1, pay1_ix]

theorem acc_B (hc0 : ¬cond0_0 i) (hc1 : cond0_1 i) (hc2 : ¬cond0_2 i) :
    sout0_B_0 (F := Ideal) c i a3 h3 a4 h4 a5 h5 a6 h6 a7 h7 a8 h8 a9 h9 hc0 hc1 hc2 x0 x1 x2 x3 xs (ix2 r d) = xs (ix2 r d) + prod x0 x1 r d := by
  unfold sout0_B_0
  rw [View.read_writes_eq_canon _ _ _ (scover0_B_0 c i a3 h3 a4 h4 a5 h5 a6 h6 a7 h7 a8 h8 a9 h9 hc0 hc1 hc2 x0 x1 x2 x3 xs)]
  unfold kernelRun0_B
  dsimp only
  sl_unfold_words
  simp only [View.readAt_eq_ld, h3.read_unread, h4.read_unread, h9.read_unread, ld_x]
  canon_tiles x hx
  rw [same_ix x r d hx0 hx1, pay2_ix]

theorem out_C4 (hc0 : ¬cond0_0 i) (hc1 : ¬cond0_1 i) (hc2 : cond0_2 i) :
    out0_C_4 (F := Ideal) c i a3 h3 a4 h4 a5 h5 a6 h6 a7 h7 a8 h8 a9 h9 hc0 hc1 hc2 x0 x1 x2 x3 xs (ix2 r d) = hblk xs x0 x1 x2 r d := by
  unfold out0_C_4
  rw [View.read_writes_eq_canon _ _ _ (cover0_C_4 c i a3 h3 a4 h4 a5 h5 a6 h6 a7 h7 a8 h8 a9 h9 hc0 hc1 hc2 x0 x1 x2 x3 xs)]
  unfold kernelRun0_C
  dsimp only
  sl_unfold_words
  simp only [View.readAt_eq_ld, h3.read_unread, h4.read_unread, h5.read_unread, h6.read_unread, h9.read_unread, ld_x, ld_1]
  canon_tiles x hx
  rw [same_ix x r d hx0 hx1, pay3_ix]

theorem out_C5 (hc0 : ¬cond0_0 i) (hc1 : ¬cond0_1 i) (hc2 : cond0_2 i) :
    out0_C_5 (F := Ideal) c i a3 h3 a4 h4 a5 h5 a6 h6 a7 h7 a8 h8 a9 h9 hc0 hc1 hc2 x0 x1 x2 x3 xs (ix2 r d)
      = hblk xs x0 x1 x2 r d * rms (hblk xs x0 x1 x2 r) * x3 (ix2 0 d) := by
  unfold out0_C_5
  rw [View.read_writes_eq_canon _ _ _ (cover0_C_5 c i a3 h3 a4 h4 a5 h5 a6 h6 a7 h7 a8 h8 a9 h9 hc0 hc1 hc2 x0 x1 x2 x3 xs)]
  unfold kernelRun0_C
  dsimp only
  sl_unfold_words
  simp only [View.readAt_eq_ld, h3.read_unread, h4.read_unread, h5.read_unread, h6.read_unread, h9.read_unread, ld_x, ld_1]
  canon_tiles x hx
  rw [same_ix x r d hx0 hx1, pay4_ix]

end Points

variable (m : (ℓ : Loc nD τ sig) → Buf (Elt Ideal) ℓ) (c : Dev nD)

/-- The hidden units. -/
abbrev argA : S4096x4096.Idx → EReal := m ((c : Thread nD τ).loc main_arg0)
/-- The weights. -/
abbrev argW : S4096x1024.Idx → EReal := m ((c : Thread nD τ).loc main_arg1)
/-- The residual. -/
abbrev argH : S4096x1024.Idx → EReal := m ((c : Thread nD τ).loc main_arg2)
/-- The norm's scale. -/
abbrev argG : S1x1024.Idx → EReal := m ((c : Thread nD τ).loc main_arg3)

theorem index0 : ∀ t : Fin cfg0.N, win0_0.index t = ![t.val / 4, t.val % 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 4, 0] := (by decide +kernel : ∀ t : Fin grid0.N, _)
theorem index5 : ∀ t : Fin cfg0.N, win0_5.index t = ![t.val / 4, 0] := (by decide +kernel : ∀ t : Fin grid0.N, _)

/-- A row of the sum of product and residual. -/
def hrow (s : Fin 4096) (d : Fin 1024) : EReal := (∑ k : Fin 4096, argA m c (ix2 s k) * argW m c (ix2 k d)) + argH m c (ix2 s d)

/-- The first result. -/
def arrH (y : S4096x1024.Idx) : EReal := hrow m c (y 0) (y 1)

/-- The second result. -/
def arrN (y : S4096x1024.Idx) : EReal := hrow m c (y 0) (y 1) * rms (hrow m c (y 0)) * argG m c (ix2 0 (y 1))

/-- What point `n` adds. -/
def part (n : ℕ) (r d : Fin 1024) : EReal :=
  if h : n < cfg0.N then prod (iblk m c 0 ⟨n, h⟩) (iblk m c 1 ⟨n, h⟩) r d else 0

theorem part_eq (t : Fin cfg0.N) (r d : Fin 1024) : part m c t.val r d = prod (iblk m c 0 t) (iblk m c 1 t) r d := dif_pos t.isLt

theorem step_A (r d : Fin 1024) (n : ℕ) (h : n < cfg0.N) (h0 : n % 4 = 0) : (outsAt0 m c n h).2.2 (ix2 r d) = part m c n r d := by
  rw [part_eq m c ⟨n, h⟩, outsAt0_A m c ⟨n, h⟩ h0 (by dsimp only; omega) (by dsimp only; omega)]
  dsimp only
  rw [acc_A]

theorem step_B (r d : Fin 1024) (n : ℕ) (h : n + 1 < cfg0.N) (h0 : (n + 1) % 4 ≠ 0) (h3 : (n + 1) % 4 ≠ 3) :
    (outsAt0 m c (n + 1) h).2.2 (ix2 r d) = (outsAt0 m c n (Nat.lt_of_succ_lt h)).2.2 (ix2 r d) + part m c (n + 1) r d := by
  rw [part_eq m c ⟨n + 1, h⟩, outsAt0_B m c ⟨n + 1, h⟩ h0 (by dsimp only; omega) h3]
  dsimp only
  rw [acc_B]
  rfl

/-- A tile's four parts are the product's entry. -/
theorem tile_sum (t : Fin cfg0.N) (ht : t.val % 4 = 3) (r d : Fin 1024) (s : Fin 4096) (hs : (s : ℕ) = t.val / 4 * 1024 + r) :
    ∑ j ∈ Finset.range 4, part m c (t.val / 4 * 4 + j) r d = ∑ k : Fin 4096, argA m c (ix2 s k) * argW m c (ix2 k d) := by
  have hN : cfg0.N = 16 := N_0
  have hl := t.isLt
  rw [Fin.sum_univ_tiles 4 1024 rfl, Finset.sum_range]
  refine Finset.sum_congr rfl fun j _ => ?_
  have hb : t.val / 4 * 4 + j.val < cfg0.N := by omega
  rw [part_eq m c ⟨_, hb⟩, prod]
  refine Finset.sum_congr rfl fun k _ => ?_
  congr 1
  · blk_simp [iblk]
    show V m c main_arg0 _ = V m c main_arg0 _
    congr 1
    blk_ext [index0 ⟨_, hb⟩]
  · blk_simp [iblk]
    show V m c main_arg1 _ = V m c main_arg1 _
    congr 1
    blk_ext [index1 ⟨_, hb⟩]

theorem hblk_eq (t : Fin cfg0.N) (ht : t.val % 4 = 3) (hp : t.val - 1 < cfg0.N) (r : Fin 1024) (s : Fin 4096)
    (hs : (s : ℕ) = t.val / 4 * 1024 + r) :
    hblk (outsAt0 m c (t.val - 1) hp).2.2 (iblk m c 0 t) (iblk m c 1 t) (iblk m c 2 t) r = hrow m c s := by
  funext d
  unfold hblk hrow
  congr 1
  · rw [← tile_sum m c t ht r d s hs,
      ← TileSum.last_eq (fun n h => (outsAt0 m c n h).2.2 (ix2 r d)) (fun n => part m c n r d) (step_A m c r d) (step_B m c r d) t.val ht hp,
      part_eq m c t]
  · blk_simp [iblk]
    show V m c main_arg2 _ = V m c main_arg2 _
    congr 1
    blk_ext [index2 t]

theorem scale_g (t : Fin cfg0.N) (k : Fin 1024) : (iblk m c 3 t : Vec Ideal S1x1024 .f32) (ix2 0 k) = argG m c (ix2 0 k) := by
  blk_simp [iblk]
  show V m c main_arg3 _ = V m c main_arg3 _
  congr 1
  blk_ext [index3 t]

/-- The two outputs after a tile's last point. -/
theorem outs_eq (t : Fin cfg0.N) (ht : t.val % 4 = 3) (r d : Fin 1024) (s : Fin 4096) (hs : (s : ℕ) = t.val / 4 * 1024 + r) :
    (outsAt0 m c t.val t.isLt).1 (ix2 r d) = arrH m c (ix2 s d) ∧ (outsAt0 m c t.val t.isLt).2.1 (ix2 r d) = arrN m c (ix2 s d) := by
  have hp : t.val - 1 < cfg0.N := by have := t.isLt; omega
  rw [outsAt0_C m c t (by omega) (by omega) ht]
  dsimp only
  rw [out_C4, out_C5, hblk_eq m c t ht hp r s hs, scale_g]
  exact ⟨rfl, rfl⟩

theorem final4 : (dats m 0 c).arrAt 4 cfg0.N = arrH m c := by
  refine (dats m 0 c).arrAt_eq_of_covers 4 _ (by decide +kernel) fun t hf y => ?_
  blk_simp
  rw [after0_4]
  have h := outs_eq m c t ((flush0_4 t).mp hf) (y 0) (y 1) ⟨t.val / 4 * 1024 + (y 0).val, by
    have hl : t.val < 16 := lt_of_lt_of_eq t.isLt N_0; have h0 : (y 0).val < 1024 := (y 0).isLt; omega⟩ rfl
  replace h := h.1
  rw [ix2_eta] at h
  refine h.trans ?_
  congr 1
  blk_ext [index4 t]

theorem final5 : (dats m 0 c).arrAt 5 cfg0.N = arrN m c := by
  refine (dats m 0 c).arrAt_eq_of_covers 5 _ (by decide +kernel) fun t hf y => ?_
  blk_simp
  rw [after0_5]
  have h := outs_eq m c t ((flush0_5 t).mp hf) (y 0) (y 1) ⟨t.val / 4 * 1024 + (y 0).val, by
    have hl : t.val < 16 := lt_of_lt_of_eq t.isLt N_0; have h0 : (y 0).val < 1024 := (y 0).isLt; omega⟩ rfl
  replace h := h.2
  rw [ix2_eta] at h
  refine h.trans ?_
  congr 1
  blk_ext [index5 t]

end Cert.KernelFDownIdeal.Blocks
-- ==== Proof.FDownClaim.lean ====
module

public import proofs.«01_k».proof.Defs
public import proofs.«01_k».proof.Proof.FDownBlock
public import proofs.«01_k».proof.Proof.Gen.KernelFDown.Frame
public import proofs.«01_k».proof.Proof.Gen.ReferenceFDownIdeal.Run
public import proofs.«01_k».proof.Proof.Gen.ReferenceFDownIdeal.Read

@[expose] public section
noncomputable section

open Idealize.ShloMosaic Idealize.ShloMosaic.TcCoe Idealize.SL.Sem

/-! The feed-forward's down product, the residual and the next block's norm: kernel and reference end with the same arrays. -/

namespace Cert.ReferenceFDownIdeal.Grad

open Cert.ReferenceFDownIdeal Cert.ReferenceFDownIdeal.Gen Cert.ReferenceFDownIdeal.Read Cert.NormMath

variable (x0 : (⟨S4096x4096, .bf16⟩ : BufTy).Contents (Elt Ideal)) (x1 : (⟨S4096x1024, .bf16⟩ : BufTy).Contents (Elt Ideal))
  (x2 : (⟨S4096x1024, .f32⟩ : BufTy).Contents (Elt Ideal)) (x3 : (⟨S1x1024, .f32⟩ : BufTy).Contents (Elt Ideal))

/-- A row of the sum. -/
def hrow (s : Fin 4096) (d : Fin 1024) : EReal := (∑ k : Fin 4096, x0 (ix2 s k) * x1 (ix2 k d)) + x2 (ix2 s d)

theorem res0_ix (s : Fin 4096) (d : Fin 1024) : val_main_v3 (F := Ideal) x0 x1 x2 (ix2 s d) = hrow x0 x1 x2 s d := by
  pointwise [val_main_v3, val_main_v2, val_main_v1, val_main_v0]
  exact add_comm _ _

theorem rms_ix (s : Fin 4096) : val_main_v11 (F := Ideal) x0 x1 x2 (ix2 s 0) = rms (hrow x0 x1 x2 s) := by
  pointwise [val_main_v11, val_main_v10, val_main_v9, val_main_v8, val_main_v7, val_main_v6, val_main_v5, val_main_v4, val_main_cst, val_main_cst_0, val_main_cst_1, res0_ix]
  rfl

theorem res1_ix (s : Fin 4096) (d : Fin 1024) :
    val_main_v16 (F := Ideal) x0 x1 x2 x3 (ix2 s d) = hrow x0 x1 x2 s d * rms (hrow x0 x1 x2 s) * x3 (ix2 0 d) := by
  pointwise [val_main_v16, val_main_v15, val_main_v14, val_main_v13, val_main_v12, res0_ix, rms_ix]

/-- The reference's first result. -/
theorem res0 (y : S4096x1024.Idx) : val_main_v3 (F := Ideal) x0 x1 x2 y = hrow x0 x1 x2 (y 0) (y 1) := by
  have h := res0_ix x0 x1 x2 (y 0) (y 1)
  rw [ix2_eta] at h
  exact h

/-- The reference's second result. -/
theorem res1 (y : S4096x1024.Idx) :
    val_main_v16 (F := Ideal) x0 x1 x2 x3 y = hrow x0 x1 x2 (y 0) (y 1) * rms (hrow x0 x1 x2 (y 0)) * x3 (ix2 0 (y 1)) := by
  have h := res1_ix x0 x1 x2 x3 (y 0) (y 1)
  rw [ix2_eta] at h
  exact h

end Cert.ReferenceFDownIdeal.Grad

namespace Cert.FDownClaim

/-- The kernel runs, and leaves its arguments and every counter as they were. -/
theorem frame_kernel (h : Cert.KernelFDown.Facts) : Cert.quiescent_KernelFDown (hKernelFDown := h) :=
  fun m ρ _ => Cert.KernelFDown.Gen.frame m ρ

/-- The same of its reading over the extended reals. -/
theorem frame_ideal (h : Cert.KernelFDownIdeal.Facts) : Cert.quiescent_KernelFDownIdeal (hKernelFDownIdeal := h) :=
  fun m ρ _ => Cert.KernelFDownIdeal.Gen.frame m ρ

/-- The reference's run leaves its arguments and every counter as they were. -/
theorem frame_ref (h : Cert.ReferenceFDownIdeal.Facts) : Cert.quiescent_ReferenceFDownIdeal (hReferenceFDownIdeal := h) :=
  fun m ρ _ => (θ_run _ _ _).mono (fun r h => ⟨fun c => (h c).2.2, sem_eq_zero_of_no_sems (by decide) r.2⟩)
    (Cert.ReferenceFDownIdeal.Value.run m ρ)

/-- The kernel's results are the reference's. -/
theorem algebraic (h : Cert.KernelFDownIdeal.Facts) (h' : Cert.ReferenceFDownIdeal.Facts) :
    Cert.algebraic_KernelFDownIdeal_ReferenceFDownIdeal (hKernelFDownIdeal := h) (hReferenceFDownIdeal := h') := by
  intro m g m' g' hpre hargs
  refine ⟨fun c => Cert.KernelFDownIdeal.Blocks.arrH m c, fun c => Cert.KernelFDownIdeal.Blocks.arrN m c,
    (θ_run _ _ _).mono (fun r h c => ?_) (Cert.KernelFDownIdeal.Value.run_blocks m g),
    (θ_run _ _ _).mono (fun r h c => ?_) (Cert.ReferenceFDownIdeal.Value.run m' g')⟩
  · obtain ⟨h0, h1, hr⟩ := h c
    exact ⟨h0.trans (Cert.KernelFDownIdeal.Blocks.final4 m c), h1.trans (Cert.KernelFDownIdeal.Blocks.final5 m c), hr⟩
  · obtain ⟨h0, h1, hr⟩ := h c
    obtain ⟨a0, a1, a2, a3⟩ := hargs c
    refine ⟨h0.trans ?_, h1.trans ?_, hr⟩
    · rw [Cert.ReferenceFDownIdeal.Read.val_main_v3_eq, a0, a1, a2]
      exact funext fun y => Cert.ReferenceFDownIdeal.Grad.res0 _ _ _ y
    · rw [Cert.ReferenceFDownIdeal.Read.val_main_v16_eq, a0, a1, a2, a3]
      exact funext fun y => Cert.ReferenceFDownIdeal.Grad.res1 _ _ _ _ y

end Cert.FDownClaim
-- ==== Proof.FOutBlock.lean ====
module

public import proofs.«01_k».proof.Proof.Gen.KernelFOutIdeal.Value
public import proofs.«01_k».proof.Proof.NormMath
public import Idealize.ShloMosaic.Lib.Pointwise
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! A square output projection, the residual and the next norm: the results of the kernel, at an index. -/

namespace Cert.KernelFOutIdeal.Blocks

open Cert.KernelFOutIdeal Cert.KernelFOutIdeal.Gen Cert.NormMath

/-- A row of the product of two blocks, and the residual's. -/
def hblk (x0 x1 : Vec Ideal S1024x1024 .bf16) (x2 : Vec Ideal S1024x1024 .f32) (r d : Fin 1024) : EReal := (∑ k : Fin 1024, x0 (ix2 r k) * x1 (ix2 k d)) + x2 (ix2 r d)

theorem pay1_ix (x0 x1 : Vec Ideal S1024x1024 .bf16) (x2 : Vec Ideal S1024x1024 .f32) (r d : Fin 1024) : k0_pay1 (F := Ideal) x0 x1 x2 (ix2 r d) = hblk x0 x1 x2 r d := by
  pointwise [k0_pay1] <;> rfl

theorem pay2_ix (x0 x1 : Vec Ideal S1024x1024 .bf16) (x2 : Vec Ideal S1024x1024 .f32) (x3 : Vec Ideal S1x1024 .f32) (r d : Fin 1024) :
    k0_pay2 (F := Ideal) x0 x1 x2 x3 (ix2 r d) = hblk x0 x1 x2 r d * rms (hblk x0 x1 x2 r) * x3 (ix2 0 d) := by
  pointwise [k0_pay2, pay1_ix] <;> rfl

theorem ld_x {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem ld_1 {e : EltTy} (x : Vec Ideal S1x1024 e)
    (inb : ∀ a : Fin 2, (![0, 0] : Fin 2 → ℕ) a + (![1, 1024] : Fin 2 → ℕ) a ≤ S1x1024.size a) :
    View.ld x (Rect.unit ![0, 0] ![1, 1024] inb) = x := View.ld_unit_lit inb x (by decide)

theorem same_ix (x : S1024x1024.Idx) (r : Fin 1024) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

theorem out4_apply (x0 x1 : Vec Ideal S1024x1024 .bf16) (x2 : Vec Ideal S1024x1024 .f32) (x3 : Vec Ideal S1x1024 .f32) (y : S1024x1024.Idx) :
    out0_4 (F := Ideal) x0 x1 x2 x3 y = hblk x0 x1 x2 (y 0) (y 1) := by
  unfold out0_4
  rw [ld_x, ld_x, ld_x]
  canon_tiles x hx
  rw [same_ix x (y 0) (y 1) hx0 hx1]
  exact pay1_ix x0 x1 x2 (y 0) (y 1)

theorem out5_apply (x0 x1 : Vec Ideal S1024x1024 .bf16) (x2 : Vec Ideal S1024x1024 .f32) (x3 : Vec Ideal S1x1024 .f32) (y : S1024x1024.Idx) :
    out0_5 (F := Ideal) x0 x1 x2 x3 y = hblk x0 x1 x2 (y 0) (y 1) * rms (hblk x0 x1 x2 (y 0)) * x3 (ix2 0 (y 1)) := by
  unfold out0_5
  rw [ld_x, ld_x, ld_x, ld_1]
  canon_tiles x hx
  rw [same_ix x (y 0) (y 1) hx0 hx1]
  exact pay2_ix x0 x1 x2 x3 (y 0) (y 1)

variable (m : (ℓ : Loc nD τ sig) → Buf (Elt Ideal) ℓ) (c : Dev nD)

/-- The projection's input. -/
abbrev argA : S4096x1024.Idx → EReal := m ((c : Thread nD τ).loc main_arg0)
/-- The weights. -/
abbrev argW : S1024x1024.Idx → EReal := m ((c : Thread nD τ).loc main_arg1)
/-- The residual. -/
abbrev argH : S4096x1024.Idx → EReal := m ((c : Thread nD τ).loc main_arg2)
/-- The norm's scale. -/
abbrev argG : S1x1024.Idx → EReal := m ((c : Thread nD τ).loc main_arg3)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

/-- A row of the sum of product and residual. -/
def hrow (s : Fin 4096) (d : Fin 1024) : EReal := (∑ k : Fin 1024, argA m c (ix2 s k) * argW m c (ix2 k d)) + argH m c (ix2 s d)

/-- The first result. -/
def arrH (y : S4096x1024.Idx) : EReal := hrow m c (y 0) (y 1)

/-- The second result. -/
def arrN (y : S4096x1024.Idx) : EReal := hrow m c (y 0) (y 1) * rms (hrow m c (y 0)) * argG m c (ix2 0 (y 1))

theorem hblk_eq (t : Fin cfg0.N) (r : Fin 1024) (s : Fin 4096) (hs : (s : ℕ) = t.val * 1024 + r) :
    hblk (iblk m c 0 t) (iblk m c 1 t) (iblk m c 2 t) r = hrow m c s := by
  funext d
  unfold hblk hrow
  congr 1
  · refine Finset.sum_congr rfl fun k _ => ?_
    congr 1
    · blk_simp [iblk]
      show V m c main_arg0 _ = V m c main_arg0 _
      congr 1
      blk_ext [index0 t]
    · blk_simp [iblk]
      show V m c main_arg1 _ = V m c main_arg1 _
      congr 1
      blk_ext [index1 t]
  · blk_simp [iblk]
    show V m c main_arg2 _ = V m c main_arg2 _
    congr 1
    blk_ext [index2 t]

theorem scale_g (t : Fin cfg0.N) (k : Fin 1024) : (iblk m c 3 t : Vec Ideal S1x1024 .f32) (ix2 0 k) = argG m c (ix2 0 k) := by
  blk_simp [iblk]
  show V m c main_arg3 _ = V m c main_arg3 _
  congr 1
  blk_ext [index3 t]

theorem eq4 (t : Fin cfg0.N) (r d : Fin 1024) (z : S4096x1024.Idx) (hz0 : (z 0 : ℕ) = t.val * 1024 + r) (hz1 : (z 1 : ℕ) = d) :
    hblk (iblk m c 0 t) (iblk m c 1 t) (iblk m c 2 t) r d = arrH m c z := by
  rw [hblk_eq m c t r (z 0) hz0, show d = z 1 from Fin.ext hz1.symm]
  rfl

theorem eq5 (t : Fin cfg0.N) (r d : Fin 1024) (z : S4096x1024.Idx) (hz0 : (z 0 : ℕ) = t.val * 1024 + r) (hz1 : (z 1 : ℕ) = d) :
    hblk (iblk m c 0 t) (iblk m c 1 t) (iblk m c 2 t) r d * rms (hblk (iblk m c 0 t) (iblk m c 1 t) (iblk m c 2 t) r)
      * (iblk m c 3 t : Vec Ideal S1x1024 .f32) (ix2 0 d) = arrN m c z := by
  rw [hblk_eq m c t r (z 0) hz0, scale_g, show d = z 1 from Fin.ext hz1.symm]
  rfl

theorem final4 : (dats m 0 c).arrAt 4 cfg0.N = arrH m c := by
  refine (dats m 0 c).arrAt_eq_of_covers 4 _ (by decide +kernel) fun t hf y => ?_
  blk_simp
  rw [after0_4]
  refine (out4_apply _ _ _ _ _).trans (eq4 m c t _ _ _ ?_ ?_)
  · blk_simp [index4 t]
  · blk_simp [index4 t]

theorem final5 : (dats m 0 c).arrAt 5 cfg0.N = arrN m c := by
  refine (dats m 0 c).arrAt_eq_of_covers 5 _ (by decide +kernel) fun t hf y => ?_
  blk_simp
  rw [after0_5]
  refine (out5_apply _ _ _ _ _).trans (eq5 m c t _ _ _ ?_ ?_)
  · blk_simp [index5 t]
  · blk_simp [index5 t]

end Cert.KernelFOutIdeal.Blocks
-- ==== Proof.FOutClaim.lean ====
module

public import proofs.«01_k».proof.Defs
public import proofs.«01_k».proof.Proof.FOutBlock
public import proofs.«01_k».proof.Proof.Gen.KernelFOut.Frame
public import proofs.«01_k».proof.Proof.Gen.ReferenceFOutIdeal.Run
public import proofs.«01_k».proof.Proof.Gen.ReferenceFOutIdeal.Read

@[expose] public section
noncomputable section

open Idealize.ShloMosaic Idealize.ShloMosaic.TcCoe Idealize.SL.Sem

/-! A square output projection, the residual and the next norm: kernel and reference end with the same arrays. -/

namespace Cert.ReferenceFOutIdeal.Grad

open Cert.ReferenceFOutIdeal Cert.ReferenceFOutIdeal.Gen Cert.ReferenceFOutIdeal.Read Cert.NormMath

variable (x0 : (⟨S4096x1024, .bf16⟩ : BufTy).Contents (Elt Ideal)) (x1 : (⟨S1024x1024, .bf16⟩ : BufTy).Contents (Elt Ideal))
  (x2 : (⟨S4096x1024, .f32⟩ : BufTy).Contents (Elt Ideal)) (x3 : (⟨S1x1024, .f32⟩ : BufTy).Contents (Elt Ideal))

/-- A row of the sum. -/
def hrow (s : Fin 4096) (d : Fin 1024) : EReal := (∑ k : Fin 1024, x0 (ix2 s k) * x1 (ix2 k d)) + x2 (ix2 s d)

theorem res0_ix (s : Fin 4096) (d : Fin 1024) : val_main_v3 (F := Ideal) x0 x1 x2 (ix2 s d) = hrow x0 x1 x2 s d := by
  pointwise [val_main_v3, val_main_v2, val_main_v1, val_main_v0]
  exact add_comm _ _

theorem rms_ix (s : Fin 4096) : val_main_v11 (F := Ideal) x0 x1 x2 (ix2 s 0) = rms (hrow x0 x1 x2 s) := by
  pointwise [val_main_v11, val_main_v10, val_main_v9, val_main_v8, val_main_v7, val_main_v6, val_main_v5, val_main_v4, val_main_cst, val_main_cst_0, val_main_cst_1, res0_ix]
  rfl

theorem res1_ix (s : Fin 4096) (d : Fin 1024) :
    val_main_v16 (F := Ideal) x0 x1 x2 x3 (ix2 s d) = hrow x0 x1 x2 s d * rms (hrow x0 x1 x2 s) * x3 (ix2 0 d) := by
  pointwise [val_main_v16, val_main_v15, val_main_v14, val_main_v13, val_main_v12, res0_ix, rms_ix]

/-- The reference's first result. -/
theorem res0 (y : S4096x1024.Idx) : val_main_v3 (F := Ideal) x0 x1 x2 y = hrow x0 x1 x2 (y 0) (y 1) := by
  have h := res0_ix x0 x1 x2 (y 0) (y 1)
  rw [ix2_eta] at h
  exact h

/-- The reference's second result. -/
theorem res1 (y : S4096x1024.Idx) :
    val_main_v16 (F := Ideal) x0 x1 x2 x3 y = hrow x0 x1 x2 (y 0) (y 1) * rms (hrow x0 x1 x2 (y 0)) * x3 (ix2 0 (y 1)) := by
  have h := res1_ix x0 x1 x2 x3 (y 0) (y 1)
  rw [ix2_eta] at h
  exact h

end Cert.ReferenceFOutIdeal.Grad

namespace Cert.FOutClaim

/-- The kernel runs, and leaves its arguments and every counter as they were. -/
theorem frame_kernel (h : Cert.KernelFOut.Facts) : Cert.quiescent_KernelFOut (hKernelFOut := h) :=
  fun m ρ _ => Cert.KernelFOut.Gen.frame m ρ

/-- The same of its reading over the extended reals. -/
theorem frame_ideal (h : Cert.KernelFOutIdeal.Facts) : Cert.quiescent_KernelFOutIdeal (hKernelFOutIdeal := h) :=
  fun m ρ _ => Cert.KernelFOutIdeal.Gen.frame m ρ

/-- The reference's run leaves its arguments and every counter as they were. -/
theorem frame_ref (h : Cert.ReferenceFOutIdeal.Facts) : Cert.quiescent_ReferenceFOutIdeal (hReferenceFOutIdeal := h) :=
  fun m ρ _ => (θ_run _ _ _).mono (fun r h => ⟨fun c => (h c).2.2, sem_eq_zero_of_no_sems (by decide) r.2⟩)
    (Cert.ReferenceFOutIdeal.Value.run m ρ)

/-- The kernel's results are the reference's. -/
theorem algebraic (h : Cert.KernelFOutIdeal.Facts) (h' : Cert.ReferenceFOutIdeal.Facts) :
    Cert.algebraic_KernelFOutIdeal_ReferenceFOutIdeal (hKernelFOutIdeal := h) (hReferenceFOutIdeal := h') := by
  intro m g m' g' hpre hargs
  refine ⟨fun c => Cert.KernelFOutIdeal.Blocks.arrH m c, fun c => Cert.KernelFOutIdeal.Blocks.arrN m c,
    (θ_run _ _ _).mono (fun r h c => ?_) (Cert.KernelFOutIdeal.Value.run_blocks m g),
    (θ_run _ _ _).mono (fun r h c => ?_) (Cert.ReferenceFOutIdeal.Value.run m' g')⟩
  · obtain ⟨h0, h1, hr⟩ := h c
    exact ⟨h0.trans (Cert.KernelFOutIdeal.Blocks.final4 m c), h1.trans (Cert.KernelFOutIdeal.Blocks.final5 m c), hr⟩
  · obtain ⟨h0, h1, hr⟩ := h c
    obtain ⟨a0, a1, a2, a3⟩ := hargs c
    refine ⟨h0.trans ?_, h1.trans ?_, hr⟩
    · rw [Cert.ReferenceFOutIdeal.Read.val_main_v3_eq, a0, a1, a2]
      exact funext fun y => Cert.ReferenceFOutIdeal.Grad.res0 _ _ _ y
    · rw [Cert.ReferenceFOutIdeal.Read.val_main_v16_eq, a0, a1, a2, a3]
      exact funext fun y => Cert.ReferenceFOutIdeal.Grad.res1 _ _ _ _ y

end Cert.FOutClaim
-- ==== Proof.FInBlock.lean ====
module

public import proofs.«01_k».proof.Proof.Gen.KernelFInIdeal.Value
public import Idealize.ShloMosaic.Lib.Pointwise
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The input product: the result of the kernel, at an index. -/

namespace Cert.FInMath

/-- The block of a column. -/
def blk (e : Fin 2560) : Fin 4 := ⟨e.val / 640, by omega⟩

/-- The column's place in its block. -/
def off (e : Fin 2560) : Fin 640 := ⟨e.val % 640, by omega⟩

/-- An entry of the product with the weights, kept block by block. -/
def cell (u : (⟨2, ![4096, 1024]⟩ : Shape).Idx → EReal) (w : (⟨3, ![4, 1024, 640]⟩ : Shape).Idx → EReal) (s : Fin 4096) (e : Fin 2560) : EReal :=
  ∑ k : Fin 1024, u (ix2 s k) * w (ix3 (blk e) k (off e))

end Cert.FInMath

namespace Cert.KernelFInIdeal.Blocks

open Cert.KernelFInIdeal Cert.KernelFInIdeal.Gen Cert.FInMath

/-- An entry of the product of two blocks. -/
def prod (x0 : Vec Ideal S2048x1024 .bf16) (x1 : Vec Ideal S1x1024x640 .bf16) (r : Fin 2048) (d : Fin 640) : EReal :=
  ∑ k : Fin 1024, x0 (ix2 r k) * x1 (ix3 0 k d)

theorem pay1_ix (x0 : Vec Ideal S2048x1024 .bf16) (x1 : Vec Ideal S1x1024x640 .bf16) (r : Fin 2048) (d : Fin 640) :
    k0_pay1 (F := Ideal) x0 x1 (ix2 r d) = prod x0 x1 r d := by
  pointwise [k0_pay1] <;> rfl

theorem ld_x {e : EltTy} (x : Vec Ideal S2048x1024 e)
    (inb : ∀ a : Fin 2, (![0, 0] : Fin 2 → ℕ) a + (![2048, 1024] : Fin 2 → ℕ) a ≤ S2048x1024.size a) :
    View.ld x (Rect.unit ![0, 0] ![2048, 1024] inb) = x := View.ld_unit_lit inb x (by decide)

theorem ld_w {e : EltTy} (x : Vec Ideal S1x1024x640 e)
    (inb : ∀ a : Fin 3, (![0, 0, 0] : Fin 3 → ℕ) a + (![1, 1024, 640] : Fin 3 → ℕ) a ≤ S1x1024x640.size a) :
    View.ld x (Rect.unit ![0, 0, 0] ![1, 1024, 640] inb) = x := View.ld_unit_lit inb x (by decide)

theorem same_ix (x : S2048x640.Idx) (r : Fin 2048) (d : Fin 640) (h0 : (r : ℕ) = x 0) (h1 : (d : ℕ) = x 1) : x = ix2 r d :=
  funext fun a => by
    match a with
    | ⟨0, _⟩ => exact Fin.ext h0.symm
    | ⟨1, _⟩ => exact Fin.ext h1.symm

theorem out2_apply (x0 : Vec Ideal S2048x1024 .bf16) (x1 : Vec Ideal S1x1024x640 .bf16) (y : S2048x640.Idx) :
    out0_2 (F := Ideal) x0 x1 y = prod x0 x1 (y 0) (y 1) := by
  unfold out0_2
  rw [ld_x, ld_w]
  canon_tiles x hx
  rw [same_ix x (y 0) (y 1) hx0 hx1]
  exact pay1_ix x0 x1 (y 0) (y 1)

variable (m : (ℓ : Loc nD τ sig) → Buf (Elt Ideal) ℓ) (c : Dev nD)

/-- The input. -/
abbrev argU : S4096x1024.Idx → EReal := m ((c : Thread nD τ).loc main_arg0)
/-- The weights. -/
abbrev argW : S4x1024x640.Idx → EReal := m ((c : Thread nD τ).loc main_arg1)

theorem index0 : ∀ t : Fin cfg0.N, win0_0.index t = ![t.val / 4, 0] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, t.val % 4] := (by decide +kernel : ∀ t : Fin grid0.N, _)

theorem prod_eq (t : Fin cfg0.N) (r : Fin 2048) (d : Fin 640) (s : Fin 4096) (e : Fin 2560) (hs : (s : ℕ) = t.val / 4 * 2048 + r)
    (he : (e : ℕ) = t.val % 4 * 640 + d) : prod (iblk m c 0 t) (iblk m c 1 t) r d = cell (argU m c) (argW m c) s e := by
  unfold prod cell
  refine Finset.sum_congr rfl fun k _ => ?_
  congr 1
  · blk_simp [iblk]
    show V m c main_arg0 _ = V m c main_arg0 _
    congr 1
    blk_ext [index0 t]
  · blk_simp [iblk]
    show V m c main_arg1 _ = V m c main_arg1 _
    congr 1
    blk_ext [index1 t, blk, off]

/-- The result. -/
def arr (y : S4096x2560.Idx) : EReal := cell (argU m c) (argW m c) (y 0) (y 1)

theorem eq2 (t : Fin cfg0.N) (r : Fin 2048) (d : Fin 640) (z : S4096x2560.Idx) (hz0 : (z 0 : ℕ) = t.val / 4 * 2048 + r)
    (hz1 : (z 1 : ℕ) = t.val % 4 * 640 + d) : prod (iblk m c 0 t) (iblk m c 1 t) r d = arr m c z := by
  rw [prod_eq m c t r d (z 0) (z 1) hz0 hz1]
  rfl

theorem final2 : (dats m 0 c).arrAt 2 cfg0.N = arr m c := by
  refine (dats m 0 c).arrAt_eq_of_covers 2 _ (by decide +kernel) fun t hf y => ?_
  blk_simp
  rw [after0_2]
  refine (out2_apply _ _ _).trans (eq2 m c t _ _ _ ?_ ?_)
  · blk_simp [index2 t]
  · blk_simp [index2 t]

end Cert.KernelFInIdeal.Blocks
-- ==== Proof.FInClaim.lean ====
module

public import proofs.«01_k».proof.Defs
public import proofs.«01_k».proof.Proof.FInBlock
public import proofs.«01_k».proof.Proof.Gen.KernelFIn.Frame
public import proofs.«01_k».proof.Proof.Gen.ReferenceFInIdeal.Run
public import proofs.«01_k».proof.Proof.Gen.ReferenceFInIdeal.Read

@[expose] public section
noncomputable section

open Idealize.ShloMosaic Idealize.ShloMosaic.TcCoe Idealize.SL.Sem

/-! The input product: kernel and reference end with the same array. -/

namespace Cert.ReferenceFInIdeal.Grad

open Cert.ReferenceFInIdeal Cert.ReferenceFInIdeal.Gen Cert.ReferenceFInIdeal.Read Cert.FInMath

variable (x0 : (⟨S4096x1024, .bf16⟩ : BufTy).Contents (Elt Ideal)) (x1 : (⟨S4x1024x640, .bf16⟩ : BufTy).Contents (Elt Ideal))

theorem w_ix (d : Fin 1024) (e : Fin 2560) : val_main_v8 (F := Ideal) x1 (ix2 d e) = x1 (ix3 (blk e) d (off e)) := by
  have he := e.isLt
  pointwise [val_main_v8, val_main_v7, val_main_v6, val_main_v5, val_main_v4, val_main_v3, val_main_v2, val_main_v1, val_main_v0]
  split_ifs <;>
    exact congrArg x1 (congrArg₂ (fun a b => ix3 a d b) (Fin.ext (by dsimp [blk]; omega)) (Fin.ext (by dsimp [off]; omega)))

theorem dot_ix (s : Fin 4096) (e : Fin 2560) : val_main_v11 (F := Ideal) x0 x1 (ix2 s e) = cell x0 x1 s e := by
  pointwise [val_main_v11, val_main_v10, val_main_v9]
  exact Finset.sum_congr rfl fun k _ => congrArg _ (w_ix x1 k e)

/-- The reference's result. -/
theorem res0 (y : S4096x2560.Idx) : val_main_v11 (F := Ideal) x0 x1 y = cell x0 x1 (y 0) (y 1) := by
  have h := dot_ix x0 x1 (y 0) (y 1)
  rw [ix2_eta] at h
  exact h

end Cert.ReferenceFInIdeal.Grad

namespace Cert.FInClaim

/-- The kernel runs, and leaves its arguments and every counter as they were. -/
theorem frame_kernel (h : Cert.KernelFIn.Facts) : Cert.quiescent_KernelFIn (hKernelFIn := h) :=
  fun m ρ _ => Cert.KernelFIn.Gen.frame m ρ

/-- The same of its reading over the extended reals. -/
theorem frame_ideal (h : Cert.KernelFInIdeal.Facts) : Cert.quiescent_KernelFInIdeal (hKernelFInIdeal := h) :=
  fun m ρ _ => Cert.KernelFInIdeal.Gen.frame m ρ

/-- The reference's run leaves its arguments and every counter as they were. -/
theorem frame_ref (h : Cert.ReferenceFInIdeal.Facts) : Cert.quiescent_ReferenceFInIdeal (hReferenceFInIdeal := h) :=
  fun m ρ _ => (θ_run _ _ _).mono (fun r h => ⟨fun c => (h c).2, sem_eq_zero_of_no_sems (by decide) r.2⟩)
    (Cert.ReferenceFInIdeal.Value.run m ρ)

/-- The kernel's result is the reference's. -/
theorem algebraic (h : Cert.KernelFInIdeal.Facts) (h' : Cert.ReferenceFInIdeal.Facts) :
    Cert.algebraic_KernelFInIdeal_ReferenceFInIdeal (hKernelFInIdeal := h) (hReferenceFInIdeal := h') := by
  intro m g m' g' hpre hargs
  refine ⟨fun c => Cert.KernelFInIdeal.Blocks.arr m c,
    (θ_run _ _ _).mono (fun r h c => ?_) (Cert.KernelFInIdeal.Value.run_blocks m g),
    (θ_run _ _ _).mono (fun r h c => ?_) (Cert.ReferenceFInIdeal.Value.run m' g')⟩
  · obtain ⟨h0, hr⟩ := h c
    exact ⟨h0.trans (Cert.KernelFInIdeal.Blocks.final2 m c), hr⟩
  · obtain ⟨h0, hr⟩ := h c
    obtain ⟨a0, a1⟩ := hargs c
    refine ⟨h0.trans ?_, hr⟩
    · rw [Cert.ReferenceFInIdeal.Read.val_main_v11_eq, a0, a1]
      exact funext fun y => Cert.ReferenceFInIdeal.Grad.res0 _ _ y

end Cert.FInClaim
-- ==== Proof.FQBlock.lean ====
module

public import proofs.«01_k».proof.Proof.Gen.KernelFQIdeal.Value
public import Idealize.ShloMosaic.Lib.Pointwise
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The query product: the result of the kernel, at an index. -/

namespace Cert.KernelFQIdeal.Blocks

open Cert.KernelFQIdeal Cert.KernelFQIdeal.Gen

/-- An entry of the product of two blocks. -/
def prod (x0 x1 : Vec Ideal S1024x1024 .bf16) (r d : Fin 1024) : EReal := ∑ k, x0 (ix2 r k) * x1 (ix2 k d)

theorem pay1_ix (x0 x1 : Vec Ideal S1024x1024 .bf16) (r d : Fin 1024) : k0_pay1 (F := Ideal) x0 x1 (ix2 r d) = prod x0 x1 r d := by
  pointwise [k0_pay1] <;> rfl

theorem ld_x {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem same_ix (x : S1024x1024.Idx) (r : Fin 1024) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

/-- What a point leaves in the output block. -/
theorem out_apply (x0 x1 : Vec Ideal S1024x1024 .bf16) (y : S1024x1024.Idx) : out0_2 (F := Ideal) x0 x1 y = prod x0 x1 (y 0) (y 1) := by
  unfold out0_2
  rw [ld_x, ld_x]
  canon_tiles x hx
  rw [same_ix x (y 0) (y 1) hx0 hx1]
  exact pay1_ix x0 x1 (y 0) (y 1)

variable (m : (ℓ : Loc nD τ sig) → Buf (Elt Ideal) ℓ) (c : Dev nD)

/-- The input. -/
abbrev argA : S4096x1024.Idx → EReal := m ((c : Thread nD τ).loc main_arg0)
/-- The weights. -/
abbrev argW : S1024x1024.Idx → EReal := m ((c : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The result. -/
def arr (y : S4096x1024.Idx) : EReal := ∑ k, argA m c (ix2 (y 0) k) * argW m c (ix2 k (y 1))

theorem prod_eq (t : Fin cfg0.N) (r d : Fin 1024) (z : S4096x1024.Idx) (hz0 : (z 0 : ℕ) = t.val * 1024 + r) (hz1 : (z 1 : ℕ) = d) :
    prod (iblk m c 0 t) (iblk m c 1 t) r d = arr m c z := by
  unfold prod arr
  refine Finset.sum_congr rfl fun k _ => ?_
  congr 1
  · blk_simp [iblk]
    show V m c main_arg0 _ = V m c main_arg0 _
    congr 1
    blk_ext [index0 t]
  · blk_simp [iblk]
    show V m c main_arg1 _ = V m c main_arg1 _
    congr 1
    blk_ext [index1 t]

theorem final : (dats m 0 c).arrAt 2 cfg0.N = arr m c := by
  refine (dats m 0 c).arrAt_eq_of_covers 2 _ (by decide +kernel) fun t hf y => ?_
  blk_simp
  rw [after0_2]
  refine (out_apply _ _ _).trans (prod_eq m c t _ _ _ ?_ ?_)
  · blk_simp [index2 t]
  · blk_simp [index2 t]

end Cert.KernelFQIdeal.Blocks
-- ==== Proof.FQClaim.lean ====
module

public import proofs.«01_k».proof.Defs
public import proofs.«01_k».proof.Proof.FQBlock
public import proofs.«01_k».proof.Proof.Gen.KernelFQ.Frame
public import proofs.«01_k».proof.Proof.Gen.ReferenceFQIdeal.Run
public import proofs.«01_k».proof.Proof.Gen.ReferenceFQIdeal.Read

@[expose] public section
noncomputable section

open Idealize.ShloMosaic Idealize.ShloMosaic.TcCoe Idealize.SL.Sem

/-! The query product: kernel and reference end with the same array. -/

namespace Cert.ReferenceFQIdeal.Grad

open Cert.ReferenceFQIdeal Cert.ReferenceFQIdeal.Gen Cert.ReferenceFQIdeal.Read

variable (x0 : (⟨S4096x1024, .bf16⟩ : BufTy).Contents (Elt Ideal)) (x1 : (⟨S1024x1024, .bf16⟩ : BufTy).Contents (Elt Ideal))

theorem res0_ix (s : Fin 4096) (d : Fin 1024) :
    val_main_v3 (F := Ideal) x0 x1 (ix2 s d) = ∑ k : Fin 1024, x0 (ix2 s k) * x1 (ix2 k d) := by
  pointwise [val_main_v3, val_main_v2] <;> rfl

/-- The reference's result. -/
theorem res0 (y : S4096x1024.Idx) :
    val_main_v3 (F := Ideal) x0 x1 y = ∑ k : Fin 1024, x0 (ix2 (y 0) k) * x1 (ix2 k (y 1)) := by
  have h := res0_ix x0 x1 (y 0) (y 1)
  rw [ix2_eta] at h
  exact h

end Cert.ReferenceFQIdeal.Grad

namespace Cert.FQClaim

/-- The kernel runs, and leaves its arguments and every counter as they were. -/
theorem frame_kernel (h : Cert.KernelFQ.Facts) : Cert.quiescent_KernelFQ (hKernelFQ := h) :=
  fun m ρ _ => Cert.KernelFQ.Gen.frame m ρ

/-- The same of its reading over the extended reals. -/
theorem frame_ideal (h : Cert.KernelFQIdeal.Facts) : Cert.quiescent_KernelFQIdeal (hKernelFQIdeal := h) :=
  fun m ρ _ => Cert.KernelFQIdeal.Gen.frame m ρ

/-- The reference's run leaves its arguments and every counter as they were. -/
theorem frame_ref (h : Cert.ReferenceFQIdeal.Facts) : Cert.quiescent_ReferenceFQIdeal (hReferenceFQIdeal := h) :=
  fun m ρ _ => (θ_run _ _ _).mono (fun r h => ⟨fun c => (h c).2, sem_eq_zero_of_no_sems (by decide) r.2⟩)
    (Cert.ReferenceFQIdeal.Value.run m ρ)

/-- The kernel's result is the reference's. -/
theorem algebraic (h : Cert.KernelFQIdeal.Facts) (h' : Cert.ReferenceFQIdeal.Facts) :
    Cert.algebraic_KernelFQIdeal_ReferenceFQIdeal (hKernelFQIdeal := h) (hReferenceFQIdeal := h') := by
  intro m g m' g' hpre hargs
  refine ⟨fun c => Cert.KernelFQIdeal.Blocks.arr m c,
    (θ_run _ _ _).mono (fun r h c => ?_) (Cert.KernelFQIdeal.Value.run_blocks m g),
    (θ_run _ _ _).mono (fun r h c => ?_) (Cert.ReferenceFQIdeal.Value.run m' g')⟩
  · obtain ⟨h0, hr⟩ := h c
    exact ⟨h0.trans (Cert.KernelFQIdeal.Blocks.final m c), hr⟩
  · obtain ⟨h0, hr⟩ := h c
    obtain ⟨a0, a1⟩ := hargs c
    refine ⟨h0.trans ?_, hr⟩
    · rw [Cert.ReferenceFQIdeal.Read.val_main_v3_eq, a0, a1]
      exact funext fun y => Cert.ReferenceFQIdeal.Grad.res0 _ _ y

end Cert.FQClaim
-- ==== Proof.NormQBlock.lean ====
module

public import proofs.«01_k».proof.Proof.Gen.KernelNormQIdeal.Value
public import proofs.«01_k».proof.Proof.NormMath
public import Idealize.ShloMosaic.Lib.Pointwise
public import Idealize.ShloMosaic.Lib.Pipeline.ValueKit
public import Idealize.ShloMosaic.Lib.Pipeline.ValueKit.Tiles
public import Idealize.ShloMosaic.Lib.Pipeline.ReadBack

@[expose] public section
noncomputable section

open Idealize.ShloMosaic Idealize.ShloMosaic.TcCoe Idealize.SL.Sem

/-! The gradient through the query product and the cross-attention's norm: what the kernel's points leave in their blocks. -/

namespace Cert.KernelNormQIdeal.Blocks

open Cert.KernelNormQIdeal Cert.KernelNormQIdeal.Gen Cert.NormMath

/-- An entry of the product of two blocks over their columns. -/
def prod (x0 : Vec Ideal S512x1024 .bf16) (x1 : Vec Ideal S1024x1024 .bf16) (r : Fin 512) (d : Fin 1024) : EReal :=
  ∑ k, x0 (ix2 r k) * x1 (ix2 d k)

/-- A row of a block. -/
def row (x : Vec Ideal S512x1024 .f32) (r : Fin 512) (d : Fin 1024) : EReal := x (ix2 r d)

theorem pay1_ix (d : Fin 1024) : k0_pay1 (F := Ideal) (ix2 0 d) = 0 := by
  pointwise [k0_pay1]

theorem pay2_ix (u v : FVec Ideal S512x1024 .f32) (o : Vec Ideal S1x1024 .f32) (d : Fin 1024) :
    k0_pay2 (F := Ideal) u v o (ix2 0 d) = o (ix2 0 d) + ∑ r : Fin 512, u (ix2 r d) * v (ix2 r d) := by
  pointwise [k0_pay2]

theorem pay3_ix (x0 : Vec Ideal S512x1024 .bf16) (x1 : Vec Ideal S1024x1024 .bf16) (r : Fin 512) (d : Fin 1024) :
    k0_pay3 (F := Ideal) x0 x1 (ix2 r d) = prod x0 x1 r d := by
  pointwise [k0_pay3] <;> rfl

theorem pay4_ix (x : Vec Ideal S512x1024 .f32) (r : Fin 512) : k0_pay4 (F := Ideal) x (ix2 r 0) = rms (row x r) := by
  pointwise [k0_pay4]
  rfl

theorem pay5_ix (x : Vec Ideal S512x1024 .f32) (r : Fin 512) (d : Fin 1024) :
    k0_pay5 (F := Ideal) x (ix2 r d) = row x r d * rms (row x r) := by
  pointwise [k0_pay5]
  rw [pay4_ix]
  rfl

theorem pay6_ix (x0 : Vec Ideal S512x1024 .bf16) (x1 : Vec Ideal S1024x1024 .bf16)
    (x : Vec Ideal S512x1024 .f32) (g : Vec Ideal S1x1024 .f32) (h : Vec Ideal S512x1024 .f32) (r : Fin 512) (d : Fin 1024) :
    k0_pay6 (F := Ideal) x0 x1 x g h (ix2 r d) = dx (row x r) (fun k => prod x0 x1 r k * g (ix2 0 k)) (row h r d) d := by
  pointwise [k0_pay6, pay3_ix, pay4_ix, pay5_ix]
  rfl

theorem pay7_ix (x0 : Vec Ideal S512x1024 .bf16) (x1 : Vec Ideal S1024x1024 .bf16)
    (x : Vec Ideal S512x1024 .f32) (g : Vec Ideal S1x1024 .f32) (h : Vec Ideal S512x1024 .f32) (r : Fin 512) (d : Fin 1024) :
    k0_pay7 (F := Ideal) x0 x1 x g h (ix2 r d) = dx (row x r) (fun k => prod x0 x1 r k * g (ix2 0 k)) (row h r d) d := by
  rw [← pay6_ix]
  pointwise [k0_pay7]

theorem ld_512 {e : EltTy} (x : Vec Ideal S512x1024 e)
    (inb : ∀ a : Fin 2, (![0, 0] : Fin 2 → ℕ) a + (![512, 1024] : Fin 2 → ℕ) a ≤ S512x1024.size a) :
    View.ld x (Rect.unit ![0, 0] ![512, 1024] inb) = x := View.ld_unit_lit inb x (by decide)

theorem ld_1 {e : EltTy} (x : Vec Ideal S1x1024 e)
    (inb : ∀ a : Fin 2, (![0, 0] : Fin 2 → ℕ) a + (![1, 1024] : Fin 2 → ℕ) a ≤ S1x1024.size a) :
    View.ld x (Rect.unit ![0, 0] ![1, 1024] inb) = x := View.ld_unit_lit inb x (by decide)

theorem ld_w {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem same_ix (x : S512x1024.Idx) (r : Fin 512) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

theorem same_ix1 (x : S1x1024.Idx) (d : Fin 1024) (h1 : (d : ℕ) = x 1) : x = ix2 0 d :=
  funext fun a => by
    match a with
    | ⟨0, _⟩ => exact Subsingleton.elim (α := Fin 1) _ _
    | ⟨1, _⟩ => exact Fin.ext h1.symm

theorem zero2 : ∀ a : Fin 2, (![0, 0] : Fin 2 → ℕ) a = 0 := by decide

section Points
variable (c : Dev nD) (i : grid0.Coords) (a3 : Memref sig .tc .vmem S512x1024 .bf16) (h3 : a3.IsWhole)
  (a4 : Memref sig .tc .vmem S1024x1024 .bf16) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S1x1024 .f32) (h10 : a10.IsWhole)
  (x0 : Vec Ideal S512x1024 .bf16) (x1 : Vec Ideal S1024x1024 .bf16) (x2 x3 : Vec Ideal S512x1024 .f32) (x4 : Vec Ideal S1x1024 .f32)
  (xo : Vec Ideal S1x1024 .f32) (r : Fin 512) (d : Fin 1024)

/-- The gradient that a point leaves. -/
def dxBlk (x0 : Vec Ideal S512x1024 .bf16) (x1 : Vec Ideal S1024x1024 .bf16) (x2 x3 : Vec Ideal S512x1024 .f32)
    (x4 : Vec Ideal S1x1024 .f32) (r : Fin 512) (d : Fin 1024) : EReal :=
  dx (row x3 r) (fun k => prod x0 x1 r k * x4 (ix2 0 k)) (row x2 r d) d

/-- What a point adds to the scale's gradient. -/
def dgBlk (x0 : Vec Ideal S512x1024 .bf16) (x1 : Vec Ideal S1024x1024 .bf16) (x3 : Vec Ideal S512x1024 .f32) (d : Fin 1024) : EReal :=
  ∑ r : Fin 512, prod x0 x1 r d * (row x3 r d * rms (row x3 r))

theorem out_A5 (hc0 : cond0_0 i) :
    out0_A_5 (F := Ideal) c i a3 h3 a4 h4 a5 h5 a6 h6 a7 h7 a8 h8 a9 h9 a10 h10 hc0 x0 x1 x2 x3 x4 (ix2 r d) = dxBlk x0 x1 x2 x3 x4 r d := by
  unfold out0_A_5
  rw [View.read_writes_eq_canon _ _ _ (cover0_A_5 c i a3 h3 a4 h4 a5 h5 a6 h6 a7 h7 a8 h8 a9 h9 a10 h10 hc0 x0 x1 x2 x3 x4)]
  unfold kernelRun0_A
  dsimp only
  sl_unfold_words
  simp only [View.readAt_eq_ld, h3.read_unread, h4.read_unread, h5.read_unread, h6.read_unread, h7.read_unread, ld_512, ld_w, ld_1]
  canon_tiles x hx
  rw [same_ix x r d hx0 hx1, pay6_ix]
  rfl

theorem out_A6 (hc0 : cond0_0 i) :
    out0_A_6 (F := Ideal) c i a3 h3 a4 h4 a5 h5 a6 h6 a7 h7 a8 h8 a9 h9 a10 h10 hc0 x0 x1 x2 x3 x4 (ix2 r d) = dxBlk x0 x1 x2 x3 x4 r d := by
  unfold out0_A_6
  rw [View.read_writes_eq_canon _ _ _ (cover0_A_6 c i a3 h3 a4 h4 a5 h5 a6 h6 a7 h7 a8 h8 a9 h9 a10 h10 hc0 x0 x1 x2 x3 x4)]
  unfold kernelRun0_A
  dsimp only
  sl_unfold_words
  simp only [View.readAt_eq_ld, h3.read_unread, h4.read_unread, h5.read_unread, h6.read_unread, h7.read_unread, ld_512, ld_w, ld_1]
  canon_tiles x hx
  rw [same_ix x r d hx0 hx1, pay7_ix]
  rfl

theorem out_A7 (hc0 : cond0_0 i) :
    out0_A_7 (F := Ideal) c i a3 h3 a4 h4 a5 h5 a6 h6 a7 h7 a8 h8 a9 h9 a10 h10 hc0 x0 x1 x2 x3 x4 (ix2 0 d) = dgBlk x0 x1 x3 d := by
  unfold out0_A_7
  rw [View.read_writes_eq_canon _ _ _ (cover0_A_7 c i a3 h3 a4 h4 a5 h5 a6 h6 a7 h7 a8 h8 a9 h9 a10 h10 hc0 x0 x1 x2 x3 x4)]
  unfold kernelRun0_A
  dsimp only
  sl_unfold_words
  simp only [View.readAt_eq_ld, h3.read_unread, h4.read_unread, h5.read_unread, h6.read_unread, h7.read_unread, h10.read_unread, ld_512, ld_w, ld_1]
  simp (disch := first | decide +kernel | exact zero2) only [↓View.readCov_skip, ↓View.readCov_fill]
  refine (congrFun (View.canon_cons_unit_lit inb_S1x1024_S1x1024_0_0 _ _ (by decide)) _).trans ?_
  rw [pay2_ix, ld_1, pay1_ix, zero_add]
  simp only [pay3_ix, pay5_ix]
  rfl

theorem out_B5 (hc0 : ¬cond0_0 i) :
    out0_B_5 (F := Ideal) c i a3 h3 a4 h4 a5 h5 a6 h6 a7 h7 a8 h8 a9 h9 a10 h10 hc0 x0 x1 x2 x3 x4 xo (ix2 r d) = dxBlk x0 x1 x2 x3 x4 r d := by
  unfold out0_B_5
  rw [View.read_writes_eq_canon _ _ _ (cover0_B_5 c i a3 h3 a4 h4 a5 h5 a6 h6 a7 h7 a8 h8 a9 h9 a10 h10 hc0 x0 x1 x2 x3 x4 xo)]
  unfold kernelRun0_B
  dsimp only
  sl_unfold_words
  simp only [View.readAt_eq_ld, h3.read_unread, h4.read_unread, h5.read_unread, h6.read_unread, h7.read_unread, ld_512, ld_w, ld_1]
  canon_tiles x hx
  rw [same_ix x r d hx0 hx1, pay6_ix]
  rfl

theorem out_B6 (hc0 : ¬cond0_0 i) :
    out0_B_6 (F := Ideal) c i a3 h3 a4 h4 a5 h5 a6 h6 a7 h7 a8 h8 a9 h9 a10 h10 hc0 x0 x1 x2 x3 x4 xo (ix2 r d) = dxBlk x0 x1 x2 x3 x4 r d := by
  unfold out0_B_6
  rw [View.read_writes_eq_canon _ _ _ (cover0_B_6 c i a3 h3 a4 h4 a5 h5 a6 h6 a7 h7 a8 h8 a9 h9 a10 h10 hc0 x0 x1 x2 x3 x4 xo)]
  unfold kernelRun0_B
  dsimp only
  sl_unfold_words
  simp only [View.readAt_eq_ld, h3.read_unread, h4.read_unread, h5.read_unread, h6.read_unread, h7.read_unread, ld_512, ld_w, ld_1]
  canon_tiles x hx
  rw [same_ix x r d hx0 hx1, pay7_ix]
  rfl

theorem out_B7 (hc0 : ¬cond0_0 i) :
    out0_B_7 (F := Ideal) c i a3 h3 a4 h4 a5 h5 a6 h6 a7 h7 a8 h8 a9 h9 a10 h10 hc0 x0 x1 x2 x3 x4 xo (ix2 0 d) = xo (ix2 0 d) + dgBlk x0 x1 x3 d := by
  unfold out0_B_7
  rw [View.read_writes_eq_canon _ _ _ (cover0_B_7 c i a3 h3 a4 h4 a5 h5 a6 h6 a7 h7 a8 h8 a9 h9 a10 h10 hc0 x0 x1 x2 x3 x4 xo)]
  unfold kernelRun0_B
  dsimp only
  sl_unfold_words
  simp only [View.readAt_eq_ld, h3.read_unread, h4.read_unread, h5.read_unread, h6.read_unread, h7.read_unread, h10.read_unread, ld_512, ld_w, ld_1]
  canon_tiles x hx
  rw [same_ix1 x d hx1, pay2_ix]
  simp only [pay3_ix, pay5_ix]
  rfl

end Points

end Cert.KernelNormQIdeal.Blocks
-- ==== Proof.NormQArray.lean ====
module

public import proofs.«01_k».proof.Proof.NormQBlock
public import proofs.«01_k».proof.Proof.TileSum

@[expose] public section
noncomputable section

open Idealize.ShloMosaic Idealize.ShloMosaic.TcCoe Idealize.SL.Sem

/-! The gradient through the query product and the cross-attention's norm: the three result arrays of the kernel, at an index. -/

namespace Cert.NormQMath

/-- The gradient at the norm's output: the product with the weights. -/
def du (a : (⟨2, ![4096, 1024]⟩ : Shape).Idx → EReal) (w : (⟨2, ![1024, 1024]⟩ : Shape).Idx → EReal) (s : Fin 4096) (d : Fin 1024) : EReal :=
  ∑ k : Fin 1024, a (ix2 s k) * w (ix2 d k)

end Cert.NormQMath

namespace Cert.KernelNormQIdeal.Blocks

open Cert.KernelNormQIdeal Cert.KernelNormQIdeal.Gen Cert.NormMath Cert.NormQMath

variable (m : (ℓ : Loc nD τ sig) → Buf (Elt Ideal) ℓ) (c : Dev nD)

/-- The gradient at the queries. -/
abbrev argA : S4096x1024.Idx → EReal := m ((c : Thread nD τ).loc main_arg0)
/-- The weights. -/
abbrev argW : S1024x1024.Idx → EReal := m ((c : Thread nD τ).loc main_arg1)
/-- The residual's gradient. -/
abbrev argH : S4096x1024.Idx → EReal := m ((c : Thread nD τ).loc main_arg2)
/-- The norm's input. -/
abbrev argX : S4096x1024.Idx → EReal := m ((c : Thread nD τ).loc main_arg3)
/-- The norm's scale. -/
abbrev argG : S1x1024.Idx → EReal := m ((c : Thread nD τ).loc main_arg4)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![0, 0] := (by decide +kernel : ∀ t : Fin grid0.N, _)

/-- A row of the norm's input. -/
def xrow (s : Fin 4096) (k : Fin 1024) : EReal := argX m c (ix2 s k)

/-- The gradient at the norm's input, with the residual's. -/
def arrX (y : S4096x1024.Idx) : EReal :=
  dx (xrow m c (y 0)) (fun k => du (argA m c) (argW m c) (y 0) k * argG m c (ix2 0 k)) (argH m c y) (y 1)

/-- The gradient of the norm's scale. -/
def arrG (y : S1x1024.Idx) : EReal :=
  ∑ s, du (argA m c) (argW m c) s (y 1) * (xrow m c s (y 1) * rms (xrow m c s))

theorem du_eq (t : Fin cfg0.N) (r : Fin 512) (d : Fin 1024) (s : Fin 4096) (hs : (s : ℕ) = t.val * 512 + r) :
    prod (iblk m c 0 t) (iblk m c 1 t) r d = du (argA m c) (argW m c) s d := by
  unfold prod du
  refine Finset.sum_congr rfl fun k _ => ?_
  congr 1
  · blk_simp [iblk]
    show V m c main_arg0 _ = V m c main_arg0 _
    congr 1
    blk_ext [index0 t]
  · blk_simp [iblk]
    show V m c main_arg1 _ = V m c main_arg1 _
    congr 1
    blk_ext [index1 t]

theorem row_x (t : Fin cfg0.N) (r : Fin 512) (s : Fin 4096) (hs : (s : ℕ) = t.val * 512 + r) : row (iblk m c 3 t) r = xrow m c s := by
  funext k
  unfold row xrow
  blk_simp [iblk]
  show V m c main_arg3 _ = V m c main_arg3 _
  congr 1
  blk_ext [index3 t]

theorem row_h (t : Fin cfg0.N) (r : Fin 512) (d : Fin 1024) (s : Fin 4096) (hs : (s : ℕ) = t.val * 512 + r) :
    row (iblk m c 2 t) r d = argH m c (ix2 s d) := by
  unfold row
  blk_simp [iblk]
  show V m c main_arg2 _ = V m c main_arg2 _
  congr 1
  blk_ext [index2 t]

theorem scale_g (t : Fin cfg0.N) (k : Fin 1024) : (iblk m c 4 t : Vec Ideal S1x1024 .f32) (ix2 0 k) = argG m c (ix2 0 k) := by
  blk_simp [iblk]
  show V m c main_arg4 _ = V m c main_arg4 _
  congr 1
  blk_ext [index4 t]

theorem dx_eq (t : Fin cfg0.N) (r : Fin 512) (d : Fin 1024) (s : Fin 4096) (hs : (s : ℕ) = t.val * 512 + r) :
    dxBlk (iblk m c 0 t) (iblk m c 1 t) (iblk m c 2 t) (iblk m c 3 t) (iblk m c 4 t) r d = arrX m c (ix2 s d) := by
  unfold dxBlk arrX
  rw [row_x m c t r s hs, row_h m c t r d s hs]
  show dx _ _ _ _ = dx _ _ _ _
  congr 1
  funext k
  rw [du_eq m c t r k s hs, scale_g]
  rfl

/-- The two outputs at the norm's input after a point. -/
theorem outs_eq (t : Fin cfg0.N) (r : Fin 512) (d : Fin 1024) (s : Fin 4096) (hs : (s : ℕ) = t.val * 512 + r) :
    (outsAt0 m c t.val t.isLt).1 (ix2 r d) = arrX m c (ix2 s d) ∧ (outsAt0 m c t.val t.isLt).2.1 (ix2 r d) = arrX m c (ix2 s d) := by
  rw [← dx_eq m c t r d s hs]
  by_cases h0 : t.val % 8 = 0
  · rw [outsAt0_A m c t h0]
    dsimp only
    rw [out_A5, out_A6]
    exact ⟨rfl, rfl⟩
  · rw [outsAt0_B m c t h0]
    dsimp only
    rw [out_B5, out_B6]
    exact ⟨rfl, rfl⟩

/-- What point `n` adds to the scale's gradient. -/
def gpart (d : Fin 1024) (n : ℕ) : EReal :=
  if h : n < cfg0.N then dgBlk (iblk m c 0 ⟨n, h⟩) (iblk m c 1 ⟨n, h⟩) (iblk m c 3 ⟨n, h⟩) d else 0

/-- The position of a tile's row. -/
def rowAt (t : Fin cfg0.N) (r : Fin 512) : Fin 4096 :=
  ⟨t.val * 512 + r.val, by have := t.isLt; have hN : cfg0.N = 8 := N_0; omega⟩

theorem gpart_eq (d : Fin 1024) (t : Fin cfg0.N) :
    gpart m c d t.val = ∑ r : Fin 512, du (argA m c) (argW m c) (rowAt t r) d
      * (xrow m c (rowAt t r) d * rms (xrow m c (rowAt t r))) := by
  unfold gpart
  rw [dif_pos t.isLt]
  unfold dgBlk
  refine Finset.sum_congr rfl fun r _ => ?_
  rw [row_x m c t r (rowAt t r) rfl]
  congr 1
  exact du_eq m c t r d (rowAt t r) rfl

theorem g_first (d : Fin 1024) (n : ℕ) (h : n < cfg0.N) (h0 : n % 8 = 0) : (outsAt0 m c n h).2.2 (ix2 0 d) = gpart m c d n := by
  unfold gpart
  rw [dif_pos h, outsAt0_A m c ⟨n, h⟩ h0]
  dsimp only
  rw [out_A7]

theorem g_add (d : Fin 1024) (n : ℕ) (h : n + 1 < cfg0.N) (h0 : (n + 1) % 8 ≠ 0) :
    (outsAt0 m c (n + 1) h).2.2 (ix2 0 d) = (outsAt0 m c n (Nat.lt_of_succ_lt h)).2.2 (ix2 0 d) + gpart m c d (n + 1) := by
  unfold gpart
  rw [dif_pos h, outsAt0_B m c ⟨n + 1, h⟩ h0]
  dsimp only
  rw [out_B7]
  rfl

/-- The scale's gradient after point `n`. -/
theorem g_sum (d : Fin 1024) (n : ℕ) (h : n < cfg0.N) :
    (outsAt0 m c n h).2.2 (ix2 0 d) = ∑ j ∈ Finset.range (n + 1), gpart m c d j := by
  have hN : cfg0.N = 8 := N_0
  induction n with
  | zero => rw [g_first m c d 0 h rfl, Finset.sum_range_one]
  | succ n ih => rw [g_add m c d n h (by omega), ih, Finset.sum_range_succ _ (n + 1)]

/-- The scale's gradient after the last point. -/
theorem out7_eq (t : Fin cfg0.N) (ht : t.val = 7) (d : Fin 1024) : (outsAt0 m c t.val t.isLt).2.2 (ix2 0 d) = arrG m c (ix2 0 d) := by
  have hN : cfg0.N = 8 := N_0
  rw [g_sum, show t.val + 1 = 8 by omega, Finset.sum_range]
  unfold arrG
  rw [Fin.sum_univ_tiles 8 512 rfl]
  refine Finset.sum_congr rfl fun j _ => ?_
  have hb : j.val < cfg0.N := by omega
  rw [gpart_eq m c d ⟨_, hb⟩]
  rfl

theorem final5 : (dats m 0 c).arrAt 5 cfg0.N = arrX m c := by
  refine (dats m 0 c).arrAt_eq_of_covers 5 _ (by decide +kernel) fun t hf y => ?_
  blk_simp
  rw [after0_5]
  have h := (outs_eq m c t (y 0) (y 1) ⟨t.val * 512 + (y 0).val, by
    have hl : t.val < 8 := lt_of_lt_of_eq t.isLt N_0; have h0 : (y 0).val < 512 := (y 0).isLt; omega⟩ rfl).1
  rw [ix2_eta] at h
  refine h.trans ?_
  congr 1
  blk_ext [index5 t]

theorem final6 : (dats m 0 c).arrAt 6 cfg0.N = arrX m c := by
  refine (dats m 0 c).arrAt_eq_of_covers 6 _ (by decide +kernel) fun t hf y => ?_
  blk_simp
  rw [after0_6]
  have h := (outs_eq m c t (y 0) (y 1) ⟨t.val * 512 + (y 0).val, by
    have hl : t.val < 8 := lt_of_lt_of_eq t.isLt N_0; have h0 : (y 0).val < 512 := (y 0).isLt; omega⟩ rfl).2
  rw [ix2_eta] at h
  refine h.trans ?_
  congr 1
  blk_ext [index6 t]

theorem final7 : (dats m 0 c).arrAt 7 cfg0.N = arrG m c := by
  refine (dats m 0 c).arrAt_eq_of_covers 7 _ (by decide +kernel) fun t hf y => ?_
  blk_simp
  rw [after0_7]
  have h := out7_eq m c t (by have := (flush0_7 t).mp hf; have := t.isLt; have hN : cfg0.N = 8 := N_0; omega) (y 1)
  have e : (ix2 0 (y 1) : S1x1024.Idx) = y := (congrArg (fun a => ix2 a (y 1)) (Subsingleton.elim (α := Fin 1) 0 (y 0))).trans (ix2_eta y)
  rw [e] at h
  refine h.trans ?_
  congr 1
  blk_ext [index7 t]

end Cert.KernelNormQIdeal.Blocks
-- ==== Proof.NormQClaim.lean ====
module

public import proofs.«01_k».proof.Defs
public import proofs.«01_k».proof.Proof.NormQArray
public import proofs.«01_k».proof.Proof.Gen.KernelNormQ.Frame
public import proofs.«01_k».proof.Proof.Gen.ReferenceNormQIdeal.Run
public import proofs.«01_k».proof.Proof.Gen.ReferenceNormQIdeal.Read

@[expose] public section
noncomputable section

open Idealize.ShloMosaic Idealize.ShloMosaic.TcCoe Idealize.SL.Sem

/-! The gradient through the query product and the cross-attention's norm: kernel and reference end with the same three arrays. -/

namespace Cert.ReferenceNormQIdeal.Grad

open Cert.ReferenceNormQIdeal Cert.ReferenceNormQIdeal.Gen Cert.ReferenceNormQIdeal.Read Cert.NormMath Cert.NormQMath

variable (x0 : (⟨S4096x1024, .bf16⟩ : BufTy).Contents (Elt Ideal)) (x1 : (⟨S1024x1024, .bf16⟩ : BufTy).Contents (Elt Ideal))
  (x2 x3 : (⟨S4096x1024, .f32⟩ : BufTy).Contents (Elt Ideal)) (x4 : (⟨S1x1024, .f32⟩ : BufTy).Contents (Elt Ideal))

/-- A row of the norm's input. -/
def xr (s : Fin 4096) (k : Fin 1024) : EReal := x3 (ix2 s k)

theorem du_ix (s : Fin 4096) (d : Fin 1024) : val_main_v18 (F := Ideal) x0 x1 (ix2 s d) = du x0 x1 s d := by
  pointwise [val_main_v18, val_main_v1, val_main_v0] <;> rfl

theorem msq_ix (s : Fin 4096) : val_main_v8 (F := Ideal) x3 (ix2 s 0) = msq (xr x3 s) := by
  pointwise [val_main_v8, val_main_v7, val_main_v6, val_main_v5, val_main_v4, val_main_v3, val_main_v2, val_main_cst, val_main_cst_0, val_main_cst_1]
  rfl

theorem rms_ix (s : Fin 4096) : val_main_v9 (F := Ideal) x3 (ix2 s 0) = rms (xr x3 s) := by
  pointwise [val_main_v9]
  rw [msq_ix]
  rfl

theorem a_ix (s : Fin 4096) (d : Fin 1024) : val_main_v23 (F := Ideal) x0 x1 x4 (ix2 s d) = du x0 x1 s d * x4 (ix2 0 d) := by
  pointwise [val_main_v23, val_main_v22, du_ix]

theorem coef_ix (s : Fin 4096) (d : Fin 1024) :
    val_main_v34 (F := Ideal) x0 x1 x3 x4 (ix2 s d) = coef (xr x3 s) (fun k => du x0 x1 s k * x4 (ix2 0 k)) := by
  pointwise [val_main_v34, val_main_v33, val_main_v32, val_main_v31, val_main_v30, val_main_v26, val_main_v25, val_main_v24, val_main_v12,
    val_main_v11, val_main_v10, val_main_cst_2, val_main_cst_4, val_main_cst_5, val_main_cst_6, a_ix]
  rw [Fin.sum_univ_one, rms_ix, msq_ix]
  rfl

theorem res0_ix (s : Fin 4096) (d : Fin 1024) :
    val_main_v38 (F := Ideal) x0 x1 x2 x3 x4 (ix2 s d) = dx (xr x3 s) (fun k => du x0 x1 s k * x4 (ix2 0 k)) (x2 (ix2 s d)) d := by
  rw [← ref_dx]
  pointwise [val_main_v38, val_main_v37, val_main_v36, val_main_v35, val_main_v29, val_main_v28, val_main_v27, a_ix, coef_ix, rms_ix]
  rfl

theorem res1_ix (s : Fin 4096) (d : Fin 1024) :
    val_main_v39 (F := Ideal) x0 x1 x2 x3 x4 (ix2 s d) = dx (xr x3 s) (fun k => du x0 x1 s k * x4 (ix2 0 k)) (x2 (ix2 s d)) d := by
  rw [← res0_ix]
  pointwise [val_main_v39]

theorem res2_ix (d : Fin 1024) :
    val_main_v21 (F := Ideal) x0 x1 x3 (ix2 0 d) = ∑ s, du x0 x1 s d * (xr x3 s d * rms (xr x3 s)) := by
  pointwise [val_main_v21, val_main_v20, val_main_v19, val_main_v14, val_main_v13, val_main_cst_3, du_ix, rms_ix]
  exact Finset.sum_congr rfl fun s _ => mul_comm _ _

/-- The reference's first result. -/
theorem res0 (y : S4096x1024.Idx) :
    val_main_v38 (F := Ideal) x0 x1 x2 x3 x4 y = dx (xr x3 (y 0)) (fun k => du x0 x1 (y 0) k * x4 (ix2 0 k)) (x2 y) (y 1) := by
  have h := res0_ix x0 x1 x2 x3 x4 (y 0) (y 1)
  rw [ix2_eta] at h
  exact h

/-- The reference's second result. -/
theorem res1 (y : S4096x1024.Idx) :
    val_main_v39 (F := Ideal) x0 x1 x2 x3 x4 y = dx (xr x3 (y 0)) (fun k => du x0 x1 (y 0) k * x4 (ix2 0 k)) (x2 y) (y 1) := by
  have h := res1_ix x0 x1 x2 x3 x4 (y 0) (y 1)
  rw [ix2_eta] at h
  exact h

/-- The reference's third result. -/
theorem res2 (y : S1x1024.Idx) :
    val_main_v21 (F := Ideal) x0 x1 x3 y = ∑ s, du x0 x1 s (y 1) * (xr x3 s (y 1) * rms (xr x3 s)) := by
  have e : (ix2 0 (y 1) : S1x1024.Idx) = y := (congrArg (fun a => ix2 a (y 1)) (Subsingleton.elim (α := Fin 1) 0 (y 0))).trans (ix2_eta y)
  have h := res2_ix x0 x1 x3 (y 1)
  rw [e] at h
  exact h

end Cert.ReferenceNormQIdeal.Grad

namespace Cert.NormQClaim

/-- The kernel runs, and leaves its arguments and every counter as they were. -/
theorem frame_kernel (h : Cert.KernelNormQ.Facts) : Cert.quiescent_KernelNormQ (hKernelNormQ := h) :=
  fun m ρ _ => Cert.KernelNormQ.Gen.frame m ρ

/-- The same of its reading over the extended reals. -/
theorem frame_ideal (h : Cert.KernelNormQIdeal.Facts) : Cert.quiescent_KernelNormQIdeal (hKernelNormQIdeal := h) :=
  fun m ρ _ => Cert.KernelNormQIdeal.Gen.frame m ρ

/-- The reference's run leaves its arguments and every counter as they were. -/
theorem frame_ref (h : Cert.ReferenceNormQIdeal.Facts) : Cert.quiescent_ReferenceNormQIdeal (hReferenceNormQIdeal := h) :=
  fun m ρ _ => (θ_run _ _ _).mono (fun r h => ⟨fun c => (h c).2.2.2, sem_eq_zero_of_no_sems (by decide) r.2⟩)
    (Cert.ReferenceNormQIdeal.Value.run m ρ)

/-- The kernel's three results are the reference's. -/
theorem algebraic (h : Cert.KernelNormQIdeal.Facts) (h' : Cert.ReferenceNormQIdeal.Facts) :
    Cert.algebraic_KernelNormQIdeal_ReferenceNormQIdeal (hKernelNormQIdeal := h) (hReferenceNormQIdeal := h') := by
  intro m g m' g' hpre hargs
  refine ⟨fun c => Cert.KernelNormQIdeal.Blocks.arrX m c, fun c => Cert.KernelNormQIdeal.Blocks.arrX m c, fun c => Cert.KernelNormQIdeal.Blocks.arrG m c,
    (θ_run _ _ _).mono (fun r h c => ?_) (Cert.KernelNormQIdeal.Value.run_blocks m g),
    (θ_run _ _ _).mono (fun r h c => ?_) (Cert.ReferenceNormQIdeal.Value.run m' g')⟩
  · obtain ⟨h0, h1, h2, hr⟩ := h c
    exact ⟨h0.trans (Cert.KernelNormQIdeal.Blocks.final5 m c), h1.trans (Cert.KernelNormQIdeal.Blocks.final6 m c),
      h2.trans (Cert.KernelNormQIdeal.Blocks.final7 m c), hr⟩
  · obtain ⟨h0, h1, h2, hr⟩ := h c
    obtain ⟨a0, a1, a2, a3, a4⟩ := hargs c
    refine ⟨h0.trans ?_, h1.trans ?_, h2.trans ?_, hr⟩
    · rw [Cert.ReferenceNormQIdeal.Read.val_main_v38_eq, a0, a1, a2, a3, a4]
      exact funext fun y => Cert.ReferenceNormQIdeal.Grad.res0 _ _ _ _ _ y
    · rw [Cert.ReferenceNormQIdeal.Read.val_main_v39_eq, a0, a1, a2, a3, a4]
      exact funext fun y => Cert.ReferenceNormQIdeal.Grad.res1 _ _ _ _ _ y
    · rw [Cert.ReferenceNormQIdeal.Read.val_main_v21_eq, a0, a1, a3]
      exact funext fun y => Cert.ReferenceNormQIdeal.Grad.res2 _ _ _ y

end Cert.NormQClaim
-- ==== Proof.FLastBlock.lean ====
module

public import proofs.«01_k».proof.Proof.Gen.KernelFLastIdeal.Value
public import proofs.«01_k».proof.Proof.TileSum
public import Idealize.ShloMosaic.Lib.Pointwise
public import Idealize.ShloMosaic.Lib.Pipeline.ValueKit
public import Idealize.ShloMosaic.Lib.Pipeline.ValueKit.Tiles
public import Idealize.ShloMosaic.Lib.Pipeline.ReadBack

@[expose] public section
noncomputable section

open Idealize.ShloMosaic Idealize.ShloMosaic.TcCoe Idealize.SL.Sem

/-! The last layer's down product and the residual: the result of the kernel, at an index. -/

namespace Cert.KernelFLastIdeal.Blocks

open Cert.KernelFLastIdeal Cert.KernelFLastIdeal.Gen

/-- An entry of the product of two blocks. -/
def prod (x0 x1 : Vec Ideal S1024x1024 .bf16) (r d : Fin 1024) : EReal := ∑ k, x0 (ix2 r k) * x1 (ix2 k d)

theorem pay1_ix (x0 x1 : Vec Ideal S1024x1024 .bf16) (r d : Fin 1024) : k0_pay1 (F := Ideal) x0 x1 (ix2 r d) = prod x0 x1 r d := by
  pointwise [k0_pay1] <;> rfl

theorem pay2_ix (v : Vec Ideal S1024x1024 .f32) (x0 x1 : Vec Ideal S1024x1024 .bf16) (r d : Fin 1024) :
    k0_pay2 (F := Ideal) v x0 x1 (ix2 r d) = v (ix2 r d) + prod x0 x1 r d := by
  pointwise [k0_pay2] <;> rfl

/-- A row that the last point of a tile leaves: the accumulator, the last product and the residual. -/
def hblk (v : Vec Ideal S1024x1024 .f32) (x0 x1 : Vec Ideal S1024x1024 .bf16) (x2 : Vec Ideal S1024x1024 .f32) (r d : Fin 1024) : EReal :=
  v (ix2 r d) + prod x0 x1 r d + x2 (ix2 r d)

theorem pay3_ix (v : Vec Ideal S1024x1024 .f32) (x0 x1 : Vec Ideal S1024x1024 .bf16) (x2 : Vec Ideal S1024x1024 .f32) (r d : Fin 1024) :
    k0_pay3 (F := Ideal) v x0 x1 x2 (ix2 r d) = hblk v x0 x1 x2 r d := by
  pointwise [k0_pay3] <;> rfl

theorem ld_x {e : EltTy} (x : Vec Ideal S1024x1024 e)
    (inb : ∀ a : Fin 2, (![0, 0] : Fin 2 → ℕ) a + (![1024, 1024] : Fin 2 → ℕ) a ≤ S1024x1024.size a) :
    View.ld x (Rect.unit ![0, 0] ![1024, 1024] inb) = x := View.ld_unit_lit inb x (by decide)

theorem same_ix (x : S1024x1024.Idx) (r : Fin 1024) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

section Points
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 x1 : Vec Ideal S1024x1024 .bf16) (x2 : Vec Ideal S1024x1024 .f32) (xs : Vec Ideal S1024x1024 .f32)
  (r d : Fin 1024)

theorem acc_A (hc0 : cond0_0 i) (hc1 : ¬cond0_1 i) (hc2 : ¬cond0_2 i) :
    sout0_A_0 (F := Ideal) c i a3 h3 a4 h4 a5 h5 a6 h6 a7 h7 hc0 hc1 hc2 x0 x1 x2 (ix2 r d) = prod x0 x1 r d := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  simp only [View.readAt_eq_ld, h3.read_unread, h4.read_unread, ld_x]
  canon_tiles x hx
  rw [same_ix x r d hx0 hx1, pay1_ix]

theorem acc_B (hc0 : ¬cond0_0 i) (hc1 : cond0_1 i) (hc2 : ¬cond0_2 i) :
    sout0_B_0 (F := Ideal) c i a3 h3 a4 h4 a5 h5 a6 h6 a7 h7 hc0 hc1 hc2 x0 x1 x2 xs (ix2 r d) = xs (ix2 r d) + prod x0 x1 r d := by
  unfold sout0_B_0
  rw [View.read_writes_eq_canon _ _ _ (scover0_B_0 c i a3 h3 a4 h4 a5 h5 a6 h6 a7 h7 hc0 hc1 hc2 x0 x1 x2 xs)]
  unfold kernelRun0_B
  dsimp only
  sl_unfold_words
  simp only [View.readAt_eq_ld, h3.read_unread, h4.read_unread, h7.read_unread, ld_x]
  canon_tiles x hx
  rw [same_ix x r d hx0 hx1, pay2_ix]

theorem out_C3 (hc0 : ¬cond0_0 i) (hc1 : ¬cond0_1 i) (hc2 : cond0_2 i) :
    out0_C_3 (F := Ideal) c i a3 h3 a4 h4 a5 h5 a6 h6 a7 h7 hc0 hc1 hc2 x0 x1 x2 xs (ix2 r d) = hblk xs x0 x1 x2 r d := by
  unfold out0_C_3
  rw [View.read_writes_eq_canon _ _ _ (cover0_C_3 c i a3 h3 a4 h4 a5 h5 a6 h6 a7 h7 hc0 hc1 hc2 x0 x1 x2 xs)]
  unfold kernelRun0_C
  dsimp only
  sl_unfold_words
  simp only [View.readAt_eq_ld, h3.read_unread, h4.read_unread, h5.read_unread, h7.read_unread, ld_x]
  canon_tiles x hx
  rw [same_ix x r d hx0 hx1, pay3_ix]

end Points

variable (m : (ℓ : Loc nD τ sig) → Buf (Elt Ideal) ℓ) (c : Dev nD)

/-- The hidden units. -/
abbrev argA : S4096x4096.Idx → EReal := m ((c : Thread nD τ).loc main_arg0)
/-- The weights. -/
abbrev argW : S4096x1024.Idx → EReal := m ((c : Thread nD τ).loc main_arg1)
/-- The residual. -/
abbrev argH : S4096x1024.Idx → EReal := m ((c : Thread nD τ).loc main_arg2)
theorem index0 : ∀ t : Fin cfg0.N, win0_0.index t = ![t.val / 4, t.val % 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![t.val / 4, 0] := (by decide +kernel : ∀ t : Fin grid0.N, _)

/-- A row of the sum of product and residual. -/
def hrow (s : Fin 4096) (d : Fin 1024) : EReal := (∑ k : Fin 4096, argA m c (ix2 s k) * argW m c (ix2 k d)) + argH m c (ix2 s d)

/-- The result. -/
def arrH (y : S4096x1024.Idx) : EReal := hrow m c (y 0) (y 1)

/-- What point `n` adds. -/
def part (n : ℕ) (r d : Fin 1024) : EReal :=
  if h : n < cfg0.N then prod (iblk m c 0 ⟨n, h⟩) (iblk m c 1 ⟨n, h⟩) r d else 0

theorem part_eq (t : Fin cfg0.N) (r d : Fin 1024) : part m c t.val r d = prod (iblk m c 0 t) (iblk m c 1 t) r d := dif_pos t.isLt

theorem step_A (r d : Fin 1024) (n : ℕ) (h : n < cfg0.N) (h0 : n % 4 = 0) : (outsAt0 m c n h).2 (ix2 r d) = part m c n r d := by
  rw [part_eq m c ⟨n, h⟩, outsAt0_A m c ⟨n, h⟩ h0 (by dsimp only; omega) (by dsimp only; omega)]
  dsimp only
  rw [acc_A]

theorem step_B (r d : Fin 1024) (n : ℕ) (h : n + 1 < cfg0.N) (h0 : (n + 1) % 4 ≠ 0) (h3 : (n + 1) % 4 ≠ 3) :
    (outsAt0 m c (n + 1) h).2 (ix2 r d) = (outsAt0 m c n (Nat.lt_of_succ_lt h)).2 (ix2 r d) + part m c (n + 1) r d := by
  rw [part_eq m c ⟨n + 1, h⟩, outsAt0_B m c ⟨n + 1, h⟩ h0 (by dsimp only; omega) h3]
  dsimp only
  rw [acc_B]
  rfl

/-- A tile's four parts are the product's entry. -/
theorem tile_sum (t : Fin cfg0.N) (ht : t.val % 4 = 3) (r d : Fin 1024) (s : Fin 4096) (hs : (s : ℕ) = t.val / 4 * 1024 + r) :
    ∑ j ∈ Finset.range 4, part m c (t.val / 4 * 4 + j) r d = ∑ k : Fin 4096, argA m c (ix2 s k) * argW m c (ix2 k d) := by
  have hN : cfg0.N = 16 := N_0
  have hl := t.isLt
  rw [Fin.sum_univ_tiles 4 1024 rfl, Finset.sum_range]
  refine Finset.sum_congr rfl fun j _ => ?_
  have hb : t.val / 4 * 4 + j.val < cfg0.N := by omega
  rw [part_eq m c ⟨_, hb⟩, prod]
  refine Finset.sum_congr rfl fun k _ => ?_
  congr 1
  · blk_simp [iblk]
    show V m c main_arg0 _ = V m c main_arg0 _
    congr 1
    blk_ext [index0 ⟨_, hb⟩]
  · blk_simp [iblk]
    show V m c main_arg1 _ = V m c main_arg1 _
    congr 1
    blk_ext [index1 ⟨_, hb⟩]

theorem hblk_eq (t : Fin cfg0.N) (ht : t.val % 4 = 3) (hp : t.val - 1 < cfg0.N) (r : Fin 1024) (s : Fin 4096)
    (hs : (s : ℕ) = t.val / 4 * 1024 + r) :
    hblk (outsAt0 m c (t.val - 1) hp).2 (iblk m c 0 t) (iblk m c 1 t) (iblk m c 2 t) r = hrow m c s := by
  funext d
  unfold hblk hrow
  congr 1
  · rw [← tile_sum m c t ht r d s hs,
      ← TileSum.last_eq (fun n h => (outsAt0 m c n h).2 (ix2 r d)) (fun n => part m c n r d) (step_A m c r d) (step_B m c r d) t.val ht hp,
      part_eq m c t]
  · blk_simp [iblk]
    show V m c main_arg2 _ = V m c main_arg2 _
    congr 1
    blk_ext [index2 t]

/-- The output after a tile's last point. -/
theorem outs_eq (t : Fin cfg0.N) (ht : t.val % 4 = 3) (r d : Fin 1024) (s : Fin 4096) (hs : (s : ℕ) = t.val / 4 * 1024 + r) :
    (outsAt0 m c t.val t.isLt).1 (ix2 r d) = arrH m c (ix2 s d) := by
  have hp : t.val - 1 < cfg0.N := by have := t.isLt; omega
  rw [outsAt0_C m c t (by omega) (by omega) ht]
  dsimp only
  rw [out_C3, hblk_eq m c t ht hp r s hs]
  rfl

theorem final3 : (dats m 0 c).arrAt 3 cfg0.N = arrH m c := by
  refine (dats m 0 c).arrAt_eq_of_covers 3 _ (by decide +kernel) fun t hf y => ?_
  blk_simp
  rw [after0_3]
  have h := outs_eq m c t ((flush0_3 t).mp hf) (y 0) (y 1) ⟨t.val / 4 * 1024 + (y 0).val, by
    have hl : t.val < 16 := lt_of_lt_of_eq t.isLt N_0; have h0 : (y 0).val < 1024 := (y 0).isLt; omega⟩ rfl
  rw [ix2_eta] at h
  refine h.trans ?_
  congr 1
  blk_ext [index3 t]

end Cert.KernelFLastIdeal.Blocks
-- ==== Proof.FLastClaim.lean ====
module

public import proofs.«01_k».proof.Defs
public import proofs.«01_k».proof.Proof.FLastBlock
public import proofs.«01_k».proof.Proof.Gen.KernelFLast.Frame
public import proofs.«01_k».proof.Proof.Gen.ReferenceFLastIdeal.Run
public import proofs.«01_k».proof.Proof.Gen.ReferenceFLastIdeal.Read

@[expose] public section
noncomputable section

open Idealize.ShloMosaic Idealize.ShloMosaic.TcCoe Idealize.SL.Sem

/-! The last layer's down product and the residual: kernel and reference end with the same array. -/

namespace Cert.ReferenceFLastIdeal.Grad

open Cert.ReferenceFLastIdeal Cert.ReferenceFLastIdeal.Gen Cert.ReferenceFLastIdeal.Read

variable (x0 : (⟨S4096x4096, .bf16⟩ : BufTy).Contents (Elt Ideal)) (x1 : (⟨S4096x1024, .bf16⟩ : BufTy).Contents (Elt Ideal))
  (x2 : (⟨S4096x1024, .f32⟩ : BufTy).Contents (Elt Ideal))

/-- A row of the sum. -/
def hrow (s : Fin 4096) (d : Fin 1024) : EReal := (∑ k : Fin 4096, x0 (ix2 s k) * x1 (ix2 k d)) + x2 (ix2 s d)

theorem res0_ix (s : Fin 4096) (d : Fin 1024) : val_main_v3 (F := Ideal) x0 x1 x2 (ix2 s d) = hrow x0 x1 x2 s d := by
  pointwise [val_main_v3, val_main_v2, val_main_v1, val_main_v0]
  exact add_comm _ _

/-- The reference's result. -/
theorem res0 (y : S4096x1024.Idx) : val_main_v3 (F := Ideal) x0 x1 x2 y = hrow x0 x1 x2 (y 0) (y 1) := by
  have h := res0_ix x0 x1 x2 (y 0) (y 1)
  rw [ix2_eta] at h
  exact h

end Cert.ReferenceFLastIdeal.Grad

namespace Cert.FLastClaim

/-- The kernel runs, and leaves its arguments and every counter as they were. -/
theorem frame_kernel (h : Cert.KernelFLast.Facts) : Cert.quiescent_KernelFLast (hKernelFLast := h) :=
  fun m ρ _ => Cert.KernelFLast.Gen.frame m ρ

/-- The same of its reading over the extended reals. -/
theorem frame_ideal (h : Cert.KernelFLastIdeal.Facts) : Cert.quiescent_KernelFLastIdeal (hKernelFLastIdeal := h) :=
  fun m ρ _ => Cert.KernelFLastIdeal.Gen.frame m ρ

/-- The reference's run leaves its arguments and every counter as they were. -/
theorem frame_ref (h : Cert.ReferenceFLastIdeal.Facts) : Cert.quiescent_ReferenceFLastIdeal (hReferenceFLastIdeal := h) :=
  fun m ρ _ => (θ_run _ _ _).mono (fun r h => ⟨fun c => (h c).2, sem_eq_zero_of_no_sems (by decide) r.2⟩)
    (Cert.ReferenceFLastIdeal.Value.run m ρ)

/-- The kernel's result is the reference's. -/
theorem algebraic (h : Cert.KernelFLastIdeal.Facts) (h' : Cert.ReferenceFLastIdeal.Facts) :
    Cert.algebraic_KernelFLastIdeal_ReferenceFLastIdeal (hKernelFLastIdeal := h) (hReferenceFLastIdeal := h') := by
  intro m g m' g' hpre hargs
  refine ⟨fun c => Cert.KernelFLastIdeal.Blocks.arrH m c,
    (θ_run _ _ _).mono (fun r h c => ?_) (Cert.KernelFLastIdeal.Value.run_blocks m g),
    (θ_run _ _ _).mono (fun r h c => ?_) (Cert.ReferenceFLastIdeal.Value.run m' g')⟩
  · obtain ⟨h0, hr⟩ := h c
    exact ⟨h0.trans (Cert.KernelFLastIdeal.Blocks.final3 m c), hr⟩
  · obtain ⟨h0, hr⟩ := h c
    obtain ⟨a0, a1, a2⟩ := hargs c
    refine ⟨h0.trans ?_, hr⟩
    · rw [Cert.ReferenceFLastIdeal.Read.val_main_v3_eq, a0, a1, a2]
      exact funext fun y => Cert.ReferenceFLastIdeal.Grad.res0 _ _ _ y

end Cert.FLastClaim
-- ==== Proof.FAttnBlock.lean ====
module

public import proofs.«01_k».proof.Proof.Gen.KernelFAttnIdeal.Value
public import proofs.«01_k».proof.Proof.AttnBlock
public import Idealize.ShloMosaic.Lib.Pipeline.ValueKit

@[expose] public section
noncomputable section

open Idealize.ShloMosaic Idealize.ShloMosaic.TcCoe Idealize.SL.Sem

/-! The memory cross-attention's forward pass: the result of the kernel, at an index. -/

namespace Cert.AttnMath

/-- The attention's output at a row and a head's feature. -/
def outAt {r : ℕ} (q : (⟨2, ![r, 1024]⟩ : Shape).Idx → EReal) (k v : (⟨2, ![256, 1024]⟩ : Shape).Idx → EReal)
    (i : Fin r) (h : Fin 4) (d : Fin 256) : EReal :=
  ∑ c, prow (hd q h i) (hd k h) c * hd v h c d

end Cert.AttnMath

namespace Cert.KernelFAttnIdeal.Blocks

open Cert.KernelFAttnIdeal Cert.KernelFAttnIdeal.Gen Cert.AttnMath
open Cert.KernelIdeal.Blocks (rows rows_ld ofBits_ninf)

section Heads
variable {F : FTy → Type} [FloatOps F]
variable (q : Vec F S1024x256 .bf16) (k v : Vec F S256x256 .bf16)

theorem head1 : k0_pay4 (k0_pay3 q k) v = k0_pay2 q k v := rfl
theorem head2 : k0_pay5 q k v = k0_pay2 q k v := rfl
theorem head3 : k0_pay1 (k0_pay6 q k) (k0_pay7 q k) v = k0_pay2 q k v := rfl

end Heads

theorem pay2_apply (q : Vec Ideal S1024x256 .bf16) (k v : Vec Ideal S256x256 .bf16) (j : S1024x256.Idx) :
    k0_pay2 (F := Ideal) q k v j = ∑ c, prow (rows q (j 0)) (rows k) c * rows v c (j 1) := by
  pointwise [k0_pay2]
  simp only [ofBits_ninf]
  rfl

section Points
variable (x0 : Vec Ideal S1024x1024 .bf16) (x1 x2 : Vec Ideal S256x1024 .bf16)

/-- One head's store. -/
theorem piece (h : Fin 4) (o : ℕ) (ho : o = 256 * h.val)
    (inbL : ∀ a : Fin 2, (![0, o] : Fin 2 → ℕ) a + (![1024, 256] : Fin 2 → ℕ) a ≤ S1024x1024.size a)
    (inbS : ∀ a : Fin 2, (![0, o] : Fin 2 → ℕ) a + (![256, 256] : Fin 2 → ℕ) a ≤ S256x1024.size a)
    (x : S1024x256.Idx) (y : S1024x1024.Idx) (hy0 : (y 0 : ℕ) = x 0) (hy1 : (y 1 : ℕ) = o + x 1) :
    k0_pay2 (F := Ideal) (View.ld x0 (Rect.unit ![0, o] ![1024, 256] inbL)) (View.ld x1 (Rect.unit ![0, o] ![256, 256] inbS))
        (View.ld x2 (Rect.unit ![0, o] ![256, 256] inbS)) x
      = outAt x0 x1 x2 (y 0) (hof (y 1)) (dof (y 1)) := by
  have e0 : y 0 = x 0 := Fin.ext hy0
  rw [hof_eq (y 1) h (x 1) (by omega), dof_eq (y 1) h (x 1) (by omega), e0]
  refine (pay2_apply _ _ _ x).trans ?_
  rw [rows_ld x0 h o ho inbL, rows_ld x1 h o ho inbS, rows_ld x2 h o ho inbS]
  rfl

/-- What a point leaves in the output block. -/
theorem out_apply (y : S1024x1024.Idx) :
    out0_3 (F := Ideal) x0 x1 x2 y = outAt x0 x1 x2 (y 0) (hof (y 1)) (dof (y 1)) := by
  unfold out0_3
  canon_tiles x hx
  · exact piece x0 x1 x2 3 768 rfl _ _ x y hx0 hx1
  · exact piece x0 x1 x2 2 512 rfl _ _ x y hx0 hx1
  · exact piece x0 x1 x2 1 256 rfl _ _ x y hx0 hx1
  · exact piece x0 x1 x2 0 0 rfl _ _ x y hx0 (by omega)

end Points

variable (m : (ℓ : Loc nD τ sig) → Buf (Elt Ideal) ℓ) (c : Dev nD)

/-- The queries. -/
abbrev argQ : S4096x1024.Idx → EReal := m ((c : Thread nD τ).loc main_arg0)
/-- The joined keys and values. -/
abbrev argKV : S256x2048.Idx → EReal := m ((c : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 1] := (by decide +kernel : ∀ t : Fin grid0.N, _)
theorem index3 : ∀ t : Fin cfg0.N, win0_3.index t = ![t.val, 0] := (by decide +kernel : ∀ t : Fin grid0.N, _)

theorem hd_q (t : Fin cfg0.N) (h : Fin 4) (r : Fin 1024) (s : Fin 4096) (hs : (s : ℕ) = t.val * 1024 + r) :
    hd (iblk m c 0 t) h r = hd (argQ m c) h s := by
  funext d
  unfold hd
  blk_simp [iblk]
  show V m c main_arg0 _ = V m c main_arg0 _
  congr 1
  blk_ext [index0 t]

theorem hd_k (t : Fin cfg0.N) (h : Fin 4) : hd (iblk m c 1 t) h = hd (keysOf (argKV m c)) h := by
  funext i d
  unfold hd keysOf
  blk_simp [iblk]
  show V m c main_arg1 _ = V m c main_arg1 _
  congr 1
  blk_ext [index1 t]

theorem hd_v (t : Fin cfg0.N) (h : Fin 4) : hd (iblk m c 2 t) h = hd (valsOf (argKV m c)) h := by
  funext i d
  unfold hd valsOf
  blk_simp [iblk]
  show V m c main_arg1 _ = V m c main_arg1 _
  congr 1
  blk_ext [index2 t]

/-- The result. -/
def arr (y : S4096x1024.Idx) : EReal :=
  outAt (argQ m c) (keysOf (argKV m c)) (valsOf (argKV m c)) (y 0) (hof (y 1)) (dof (y 1))

theorem eq3 (t : Fin cfg0.N) (r d : Fin 1024) (z : S4096x1024.Idx) (hz0 : (z 0 : ℕ) = t.val * 1024 + r) (hz1 : (z 1 : ℕ) = d) :
    outAt (iblk m c 0 t) (iblk m c 1 t) (iblk m c 2 t) r (hof d) (dof d) = arr m c z := by
  have e1 : z 1 = d := Fin.ext hz1
  unfold arr outAt
  rw [e1, hd_q m c t _ r (z 0) hz0, hd_k, hd_v]

theorem final3 : (dats m 0 c).arrAt 3 cfg0.N = arr m c := by
  refine (dats m 0 c).arrAt_eq_of_covers 3 _ (by decide +kernel) fun t hf y => ?_
  blk_simp
  rw [after0_3]
  refine (out_apply _ _ _ _).trans (eq3 m c t _ _ _ ?_ ?_)
  · blk_simp [index3 t]
  · blk_simp [index3 t]

end Cert.KernelFAttnIdeal.Blocks
-- ==== Proof.FAttnClaim.lean ====
module

public import proofs.«01_k».proof.Defs
public import proofs.«01_k».proof.Proof.FAttnBlock
public import proofs.«01_k».proof.Proof.AttnRef
public import proofs.«01_k».proof.Proof.Gen.KernelFAttn.Frame
public import proofs.«01_k».proof.Proof.Gen.ReferenceFAttnIdeal.Run
public import proofs.«01_k».proof.Proof.Gen.ReferenceFAttnIdeal.Read

@[expose] public section
noncomputable section

open Idealize.ShloMosaic Idealize.ShloMosaic.TcCoe Idealize.SL.Sem

/-! The memory cross-attention's forward pass: kernel and reference end with the same array. -/

namespace Cert.ReferenceFAttnIdeal.Fwd

open Cert.ReferenceFAttnIdeal Cert.ReferenceFAttnIdeal.Gen Cert.ReferenceFAttnIdeal.Read Cert.AttnMath

variable (x0 : (⟨S4096x1024, .bf16⟩ : BufTy).Contents (Elt Ideal)) (x1 : (⟨S256x2048, .bf16⟩ : BufTy).Contents (Elt Ideal))

theorem q_ix (s : Fin 4096) (h : Fin 4) (d : Fin 256) : val_main_v4 (F := Ideal) x0 (ix3 s h d) = hd x0 h s d := by
  pointwise [val_main_v4, val_main_v0]
  unfold hd col
  congr 2
  exact Fin.ext (by simp only []; omega)

theorem k_ix (s : Fin 256) (h : Fin 4) (d : Fin 256) : val_main_v5 (F := Ideal) x1 (ix3 s h d) = hd (keysOf x1) h s d := by
  pointwise [val_main_v5, val_main_v2, val_main_v1]
  unfold hd keysOf col
  congr 2
  exact Fin.ext (by simp only []; show h.val * 256 + d.val = 256 * h.val + d.val; omega)

theorem v_ix (s : Fin 256) (h : Fin 4) (d : Fin 256) : val_main_v6 (F := Ideal) x1 (ix3 s h d) = hd (valsOf x1) h s d := by
  pointwise [val_main_v6, val_main_v3, val_main_v1]
  unfold hd valsOf col
  congr 2
  exact Fin.ext (by simp only []; show 1024 + (h.val * 256 + d.val) = 1024 + (256 * h.val + d.val); omega)

theorem s_ix (h : Fin 4) (s : Fin 4096) (k : Fin 256) :
    val_main_v9 (F := Ideal) x0 x1 (ix3 h s k) = srow (hd x0 h s) (hd (keysOf x1) h) k := by
  pointwise [val_main_v9, val_main_v8, val_main_cst, val_main_v7]
  simp only [q_ix, k_ix]
  rfl

theorem max0_ix (h : Fin 4) (s : Fin 4096) :
    val_main_v10 (F := Ideal) x0 x1 (ix2 h s) = rowMax (srow (hd x0 h s) (hd (keysOf x1) h)) := by
  have e : (fun k => val_main_v9 (F := Ideal) x0 x1 (ix3 h s k)) = srow (hd x0 h s) (hd (keysOf x1) h) :=
    funext fun k => s_ix x0 x1 h s k
  rw [← e]
  unfold val_main_v10
  generalize val_main_v9 (F := Ideal) x0 x1 = y
  exact Cert.ReferenceIdeal.Grad.rmax y h s

theorem max_ix (h : Fin 4) (s : Fin 4096) :
    val_main_v12 (F := Ideal) x0 x1 (ix2 h s) = rowMax (srow (hd x0 h s) (hd (keysOf x1) h)) := by
  rw [val_main_v12_apply, val_main_v11_apply, val_main_cst_1_apply, max0_ix]
  generalize rowMax (srow (hd x0 h s) (hd (keysOf x1) h)) = r
  show max (Ideal.ofBits .f32 0xFF800000#32) r = r
  rw [Cert.ReferenceIdeal.Grad.ofBits_ninf, max_eq_right bot_le]

theorem e_ix (h : Fin 4) (s : Fin 4096) (k : Fin 256) :
    val_main_v16 (F := Ideal) x0 x1 (ix3 h s k) = ex (srow (hd x0 h s) (hd (keysOf x1) h)) k := by
  pointwise [val_main_v16, val_main_v15, val_main_v14, val_main_v13]
  rw [s_ix, max_ix]
  rfl

theorem l_ix (h : Fin 4) (s : Fin 4096) :
    val_main_v18 (F := Ideal) x0 x1 (ix3 h s 0) = tot (srow (hd x0 h s) (hd (keysOf x1) h)) := by
  pointwise [val_main_v18, val_main_v17]
  rw [val_main_cst_2_apply]
  simp only [e_ix]
  show Ideal.ofBits .f32 0#32 + _ = _
  rw [Ideal.ofBits_zero_f32, zero_add]
  rfl

theorem p_ix (h : Fin 4) (s : Fin 4096) (k : Fin 256) :
    val_main_v20 (F := Ideal) x0 x1 (ix3 h s k) = prow (hd x0 h s) (hd (keysOf x1) h) k := by
  pointwise [val_main_v20, val_main_v19]
  rw [e_ix, l_ix]
  rfl

theorem o_ix (s : Fin 4096) (h : Fin 4) (d : Fin 256) :
    val_main_v22 (F := Ideal) x0 x1 (ix3 s h d) = outAt x0 (keysOf x1) (valsOf x1) s h d := by
  pointwise [val_main_v22, val_main_v21]
  simp only [v_ix, p_ix]
  exact Finset.sum_congr rfl fun i _ => mul_comm _ _

theorem res_ix (s : Fin 4096) (d : Fin 1024) :
    val_main_v24 (F := Ideal) x0 x1 (ix2 s d) = outAt x0 (keysOf x1) (valsOf x1) s (hof d) (dof d) := by
  rw [← o_ix]
  pointwise [val_main_v24, val_main_v23]
  rfl

/-- The reference's result. -/
theorem res0 (y : S4096x1024.Idx) :
    val_main_v24 (F := Ideal) x0 x1 y = outAt x0 (keysOf x1) (valsOf x1) (y 0) (hof (y 1)) (dof (y 1)) := by
  have h := res_ix x0 x1 (y 0) (y 1)
  rw [ix2_eta] at h
  exact h

end Cert.ReferenceFAttnIdeal.Fwd

namespace Cert.FAttnClaim

/-- The kernel runs, and leaves its arguments and every counter as they were. -/
theorem frame_kernel (h : Cert.KernelFAttn.Facts) : Cert.quiescent_KernelFAttn (hKernelFAttn := h) :=
  fun m ρ _ => Cert.KernelFAttn.Gen.frame m ρ

/-- The same of its reading over the extended reals. -/
theorem frame_ideal (h : Cert.KernelFAttnIdeal.Facts) : Cert.quiescent_KernelFAttnIdeal (hKernelFAttnIdeal := h) :=
  fun m ρ _ => Cert.KernelFAttnIdeal.Gen.frame m ρ

/-- The reference's run leaves its arguments and every counter as they were. -/
theorem frame_ref (h : Cert.ReferenceFAttnIdeal.Facts) : Cert.quiescent_ReferenceFAttnIdeal (hReferenceFAttnIdeal := h) :=
  fun m ρ _ => (θ_run _ _ _).mono (fun r h => ⟨fun c => (h c).2, sem_eq_zero_of_no_sems (by decide) r.2⟩)
    (Cert.ReferenceFAttnIdeal.Value.run m ρ)

/-- The kernel's result is the reference's. -/
theorem algebraic (h : Cert.KernelFAttnIdeal.Facts) (h' : Cert.ReferenceFAttnIdeal.Facts) :
    Cert.algebraic_KernelFAttnIdeal_ReferenceFAttnIdeal (hKernelFAttnIdeal := h) (hReferenceFAttnIdeal := h') := by
  intro m g m' g' hpre hargs
  refine ⟨fun c => Cert.KernelFAttnIdeal.Blocks.arr m c,
    (θ_run _ _ _).mono (fun r h c => ?_) (Cert.KernelFAttnIdeal.Value.run_blocks m g),
    (θ_run _ _ _).mono (fun r h c => ?_) (Cert.ReferenceFAttnIdeal.Value.run m' g')⟩
  · obtain ⟨h0, hr⟩ := h c
    exact ⟨h0.trans (Cert.KernelFAttnIdeal.Blocks.final3 m c), hr⟩
  · obtain ⟨h0, hr⟩ := h c
    obtain ⟨a0, a1⟩ := hargs c
    refine ⟨h0.trans ?_, hr⟩
    · rw [Cert.ReferenceFAttnIdeal.Read.val_main_v24_eq, a0, a1]
      exact funext fun y => Cert.ReferenceFAttnIdeal.Fwd.res0 _ _ y

end Cert.FAttnClaim
-- ==== Proof.FKvBlock.lean ====
module

public import proofs.«01_k».proof.Proof.Gen.KernelFKvIdeal.Value
public import Idealize.ShloMosaic.Lib.Pointwise
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The memory's key and value product: the result of the kernel, at an index. -/

namespace Cert.FKvMath

/-- The block of a column. -/
def blk (e : Fin 2048) : Fin 4 := ⟨e.val / 512, by omega⟩

/-- The column's place in its block. -/
def off (e : Fin 2048) : Fin 512 := ⟨e.val % 512, by omega⟩

/-- An entry of the product with the weights, kept block by block. -/
def cell (u : (⟨2, ![256, 1024]⟩ : Shape).Idx → EReal) (w : (⟨3, ![4, 1024, 512]⟩ : Shape).Idx → EReal) (s : Fin 256) (e : Fin 2048) : EReal :=
  ∑ k : Fin 1024, u (ix2 s k) * w (ix3 (blk e) k (off e))

end Cert.FKvMath

namespace Cert.KernelFKvIdeal.Blocks

open Cert.KernelFKvIdeal Cert.KernelFKvIdeal.Gen Cert.FKvMath

/-- An entry of the product of two blocks. -/
def prod (x0 : Vec Ideal S256x1024 .bf16) (x1 : Vec Ideal S1x1024x512 .bf16) (r : Fin 256) (d : Fin 512) : EReal :=
  ∑ k : Fin 1024, x0 (ix2 r k) * x1 (ix3 0 k d)

theorem pay1_ix (x0 : Vec Ideal S256x1024 .bf16) (x1 : Vec Ideal S1x1024x512 .bf16) (r : Fin 256) (d : Fin 512) :
    k0_pay1 (F := Ideal) x0 x1 (ix2 r d) = prod x0 x1 r d := by
  pointwise [k0_pay1] <;> rfl

theorem ld_x {e : EltTy} (x : Vec Ideal S256x1024 e)
    (inb : ∀ a : Fin 2, (![0, 0] : Fin 2 → ℕ) a + (![256, 1024] : Fin 2 → ℕ) a ≤ S256x1024.size a) :
    View.ld x (Rect.unit ![0, 0] ![256, 1024] inb) = x := View.ld_unit_lit inb x (by decide)

theorem ld_w {e : EltTy} (x : Vec Ideal S1x1024x512 e)
    (inb : ∀ a : Fin 3, (![0, 0, 0] : Fin 3 → ℕ) a + (![1, 1024, 512] : Fin 3 → ℕ) a ≤ S1x1024x512.size a) :
    View.ld x (Rect.unit ![0, 0, 0] ![1, 1024, 512] inb) = x := View.ld_unit_lit inb x (by decide)

theorem same_ix (x : S256x512.Idx) (r : Fin 256) (d : Fin 512) (h0 : (r : ℕ) = x 0) (h1 : (d : ℕ) = x 1) : x = ix2 r d :=
  funext fun a => by
    match a with
    | ⟨0, _⟩ => exact Fin.ext h0.symm
    | ⟨1, _⟩ => exact Fin.ext h1.symm

theorem out2_apply (x0 : Vec Ideal S256x1024 .bf16) (x1 : Vec Ideal S1x1024x512 .bf16) (y : S256x512.Idx) :
    out0_2 (F := Ideal) x0 x1 y = prod x0 x1 (y 0) (y 1) := by
  unfold out0_2
  rw [ld_x, ld_w]
  canon_tiles x hx
  rw [same_ix x (y 0) (y 1) hx0 hx1]
  exact pay1_ix x0 x1 (y 0) (y 1)

variable (m : (ℓ : Loc nD τ sig) → Buf (Elt Ideal) ℓ) (c : Dev nD)

/-- The input. -/
abbrev argU : S256x1024.Idx → EReal := m ((c : Thread nD τ).loc main_arg0)
/-- The weights. -/
abbrev argW : S4x1024x512.Idx → EReal := m ((c : Thread nD τ).loc main_arg1)

theorem index0 : ∀ t : Fin cfg0.N, win0_0.index t = ![0, 0] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![0, t.val % 4] := (by decide +kernel : ∀ t : Fin grid0.N, _)

theorem prod_eq (t : Fin cfg0.N) (r : Fin 256) (d : Fin 512) (s : Fin 256) (e : Fin 2048) (hs : (s : ℕ) = r)
    (he : (e : ℕ) = t.val % 4 * 512 + d) : prod (iblk m c 0 t) (iblk m c 1 t) r d = cell (argU m c) (argW m c) s e := by
  unfold prod cell
  refine Finset.sum_congr rfl fun k _ => ?_
  congr 1
  · blk_simp [iblk]
    show V m c main_arg0 _ = V m c main_arg0 _
    congr 1
    blk_ext [index0 t]
  · blk_simp [iblk]
    show V m c main_arg1 _ = V m c main_arg1 _
    congr 1
    blk_ext [index1 t, blk, off]

/-- The result. -/
def arr (y : S256x2048.Idx) : EReal := cell (argU m c) (argW m c) (y 0) (y 1)

theorem eq2 (t : Fin cfg0.N) (r : Fin 256) (d : Fin 512) (z : S256x2048.Idx) (hz0 : (z 0 : ℕ) = r)
    (hz1 : (z 1 : ℕ) = t.val % 4 * 512 + d) : prod (iblk m c 0 t) (iblk m c 1 t) r d = arr m c z := by
  rw [prod_eq m c t r d (z 0) (z 1) hz0 hz1]
  rfl

theorem final2 : (dats m 0 c).arrAt 2 cfg0.N = arr m c := by
  refine (dats m 0 c).arrAt_eq_of_covers 2 _ (by decide +kernel) fun t hf y => ?_
  blk_simp
  rw [after0_2]
  refine (out2_apply _ _ _).trans (eq2 m c t _ _ _ ?_ ?_)
  · blk_simp [index2 t]
  · blk_simp [index2 t]

end Cert.KernelFKvIdeal.Blocks
-- ==== Proof.FKvClaim.lean ====
module

public import proofs.«01_k».proof.Defs
public import proofs.«01_k».proof.Proof.FKvBlock
public import proofs.«01_k».proof.Proof.Gen.KernelFKv.Frame
public import proofs.«01_k».proof.Proof.Gen.ReferenceFKvIdeal.Run
public import proofs.«01_k».proof.Proof.Gen.ReferenceFKvIdeal.Read

@[expose] public section
noncomputable section

open Idealize.ShloMosaic Idealize.ShloMosaic.TcCoe Idealize.SL.Sem

/-! The memory's key and value product: kernel and reference end with the same array. -/

namespace Cert.ReferenceFKvIdeal.Grad

open Cert.ReferenceFKvIdeal Cert.ReferenceFKvIdeal.Gen Cert.ReferenceFKvIdeal.Read Cert.FKvMath

variable (x0 : (⟨S256x1024, .bf16⟩ : BufTy).Contents (Elt Ideal)) (x1 : (⟨S4x1024x512, .bf16⟩ : BufTy).Contents (Elt Ideal))

theorem w_ix (d : Fin 1024) (e : Fin 2048) : val_main_v8 (F := Ideal) x1 (ix2 d e) = x1 (ix3 (blk e) d (off e)) := by
  have he := e.isLt
  pointwise [val_main_v8, val_main_v7, val_main_v6, val_main_v5, val_main_v4, val_main_v3, val_main_v2, val_main_v1, val_main_v0]
  split_ifs <;>
    exact congrArg x1 (congrArg₂ (fun a b => ix3 a d b) (Fin.ext (by dsimp [blk]; omega)) (Fin.ext (by dsimp [off]; omega)))

theorem dot_ix (s : Fin 256) (e : Fin 2048) : val_main_v12 (F := Ideal) x0 x1 (ix2 s e) = cell x0 x1 s e := by
  pointwise [val_main_v12, val_main_v11, val_main_v10, val_main_v9]
  exact Finset.sum_congr rfl fun k _ => congrArg _ (w_ix x1 k e)

/-- The reference's result. -/
theorem res0 (y : S256x2048.Idx) : val_main_v12 (F := Ideal) x0 x1 y = cell x0 x1 (y 0) (y 1) := by
  have h := dot_ix x0 x1 (y 0) (y 1)
  rw [ix2_eta] at h
  exact h

end Cert.ReferenceFKvIdeal.Grad

namespace Cert.FKvClaim

/-- The kernel runs, and leaves its arguments and every counter as they were. -/
theorem frame_kernel (h : Cert.KernelFKv.Facts) : Cert.quiescent_KernelFKv (hKernelFKv := h) :=
  fun m ρ _ => Cert.KernelFKv.Gen.frame m ρ

/-- The same of its reading over the extended reals. -/
theorem frame_ideal (h : Cert.KernelFKvIdeal.Facts) : Cert.quiescent_KernelFKvIdeal (hKernelFKvIdeal := h) :=
  fun m ρ _ => Cert.KernelFKvIdeal.Gen.frame m ρ

/-- The reference's run leaves its arguments and every counter as they were. -/
theorem frame_ref (h : Cert.ReferenceFKvIdeal.Facts) : Cert.quiescent_ReferenceFKvIdeal (hReferenceFKvIdeal := h) :=
  fun m ρ _ => (θ_run _ _ _).mono (fun r h => ⟨fun c => (h c).2, sem_eq_zero_of_no_sems (by decide) r.2⟩)
    (Cert.ReferenceFKvIdeal.Value.run m ρ)

/-- The kernel's result is the reference's. -/
theorem algebraic (h : Cert.KernelFKvIdeal.Facts) (h' : Cert.ReferenceFKvIdeal.Facts) :
    Cert.algebraic_KernelFKvIdeal_ReferenceFKvIdeal (hKernelFKvIdeal := h) (hReferenceFKvIdeal := h') := by
  intro m g m' g' hpre hargs
  refine ⟨fun c => Cert.KernelFKvIdeal.Blocks.arr m c,
    (θ_run _ _ _).mono (fun r h c => ?_) (Cert.KernelFKvIdeal.Value.run_blocks m g),
    (θ_run _ _ _).mono (fun r h c => ?_) (Cert.ReferenceFKvIdeal.Value.run m' g')⟩
  · obtain ⟨h0, hr⟩ := h c
    exact ⟨h0.trans (Cert.KernelFKvIdeal.Blocks.final2 m c), hr⟩
  · obtain ⟨h0, hr⟩ := h c
    obtain ⟨a0, a1⟩ := hargs c
    refine ⟨h0.trans ?_, hr⟩
    · rw [Cert.ReferenceFKvIdeal.Read.val_main_v12_eq, a0, a1]
      exact funext fun y => Cert.ReferenceFKvIdeal.Grad.res0 _ _ y

end Cert.FKvClaim
-- ==== Proof.KvBlock.lean ====
module

public import proofs.«01_k».proof.Proof.Gen.KernelKvIdeal.Value
public import Idealize.ShloMosaic.Lib.Pointwise
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The gradient of the key and value weight: the two results of the kernel, at an index. -/

namespace Cert.KernelKvIdeal.Blocks

open Cert.KernelKvIdeal Cert.KernelKvIdeal.Gen

/-- An entry of the product of two blocks over their rows. -/
def prod (x0 : Vec Ideal S256x1024 .bf16) (x1 : Vec Ideal S256x512 .bf16) (r : Fin 1024) (d : Fin 512) : EReal :=
  ∑ k : Fin 256, x0 (ix2 k r) * x1 (ix2 k d)

theorem pay1_ix (x0 : Vec Ideal S256x1024 .bf16) (x1 : Vec Ideal S256x512 .bf16) (r : Fin 1024) (d : Fin 512) :
    k0_pay1 (F := Ideal) x0 x1 (ix2 r d) = prod x0 x1 r d := by
  pointwise [k0_pay1] <;> rfl

theorem pay2_ix (x0 : Vec Ideal S256x1024 .bf16) (x1 : Vec Ideal S256x512 .bf16) (r : Fin 1024) (d : Fin 512) :
    k0_pay2 (F := Ideal) x0 x1 (ix3 0 r d) = prod x0 x1 r d := by
  rw [← pay1_ix]
  pointwise [k0_pay2] <;> rfl

theorem pay3_ix (x0 : Vec Ideal S256x1024 .bf16) (x1 : Vec Ideal S256x512 .bf16) (r : Fin 1024) (d : Fin 512) :
    k0_pay3 (F := Ideal) x0 x1 (ix3 0 r d) = prod x0 x1 r d := by
  rw [← pay1_ix]
  pointwise [k0_pay3] <;> rfl

theorem ld_x {e : EltTy} (x : Vec Ideal S256x1024 e)
    (inb : ∀ a : Fin 2, (![0, 0] : Fin 2 → ℕ) a + (![256, 1024] : Fin 2 → ℕ) a ≤ S256x1024.size a) :
    View.ld x (Rect.unit ![0, 0] ![256, 1024] inb) = x := View.ld_unit_lit inb x (by decide)

theorem ld_g {e : EltTy} (x : Vec Ideal S256x512 e)
    (inb : ∀ a : Fin 2, (![0, 0] : Fin 2 → ℕ) a + (![256, 512] : Fin 2 → ℕ) a ≤ S256x512.size a) :
    View.ld x (Rect.unit ![0, 0] ![256, 512] inb) = x := View.ld_unit_lit inb x (by decide)

theorem same_ix (x : S1x1024x512.Idx) (r : Fin 1024) (d : Fin 512) (h1 : (r : ℕ) = x 1) (h2 : (d : ℕ) = x 2) : x = ix3 0 r d :=
  funext fun a => by
    match a with
    | ⟨0, _⟩ => exact Subsingleton.elim (α := Fin 1) _ _
    | ⟨1, _⟩ => exact Fin.ext h1.symm
    | ⟨2, _⟩ => exact Fin.ext h2.symm

theorem out2_apply (x0 : Vec Ideal S256x1024 .bf16) (x1 : Vec Ideal S256x512 .bf16) (y : S1x1024x512.Idx) :
    out0_2 (F := Ideal) x0 x1 y = prod x0 x1 (y 1) (y 2) := by
  unfold out0_2
  rw [ld_x, ld_g]
  canon_tiles x hx
  rw [same_ix x (y 1) (y 2) hx1 hx2]
  exact pay2_ix x0 x1 (y 1) (y 2)

theorem out3_apply (x0 : Vec Ideal S256x1024 .bf16) (x1 : Vec Ideal S256x512 .bf16) (y : S1x1024x512.Idx) :
    out0_3 (F := Ideal) x0 x1 y = prod x0 x1 (y 1) (y 2) := by
  unfold out0_3
  rw [ld_x, ld_g]
  canon_tiles x hx
  rw [same_ix x (y 1) (y 2) hx1 hx2]
  exact pay3_ix x0 x1 (y 1) (y 2)

variable (m : (ℓ : Loc nD τ sig) → Buf (Elt Ideal) ℓ) (c : Dev nD)

/-- The memory's normed tokens. -/
abbrev argU : S256x1024.Idx → EReal := m ((c : Thread nD τ).loc main_arg0)
/-- The gradient of the keys and values. -/
abbrev argG : S256x2048.Idx → EReal := m ((c : Thread nD τ).loc main_arg1)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![t.val, 0, 0] := (by decide +kernel : ∀ t : Fin grid0.N, _)
theorem index3 : ∀ t : Fin cfg0.N, win0_3.index t = ![t.val, 0, 0] := (by decide +kernel : ∀ t : Fin grid0.N, _)

/-- Column `d` of the weights' quarter `g`. -/
def colOf (g : Fin 4) (d : Fin 512) : Fin 2048 := ⟨g.val * 512 + d.val, by omega⟩

/-- The result. -/
def arr (y : S4x1024x512.Idx) : EReal := ∑ s, argU m c (ix2 s (y 1)) * argG m c (ix2 s (colOf (y 0) (y 2)))

theorem eq_arr (t : Fin cfg0.N) (r : Fin 1024) (d : Fin 512) (z : S4x1024x512.Idx) (hz0 : (z 0 : ℕ) = t.val) (hz1 : (z 1 : ℕ) = r)
    (hz2 : (z 2 : ℕ) = d) : prod (iblk m c 0 t) (iblk m c 1 t) r d = arr m c z := by
  unfold prod arr colOf
  refine Finset.sum_congr rfl fun k _ => ?_
  congr 1
  · blk_simp [iblk]
    show V m c main_arg0 _ = V m c main_arg0 _
    congr 1
    blk_ext [index0 t]
  · blk_simp [iblk]
    show V m c main_arg1 _ = V m c main_arg1 _
    congr 1
    blk_ext [index1 t]

theorem final2 : (dats m 0 c).arrAt 2 cfg0.N = arr m c := by
  refine (dats m 0 c).arrAt_eq_of_covers 2 _ (by decide +kernel) fun t hf y => ?_
  blk_simp
  rw [after0_2]
  refine (out2_apply _ _ _).trans (eq_arr m c t _ _ _ ?_ ?_ ?_)
  · blk_simp [index2 t]
  · blk_simp [index2 t]
  · blk_simp [index2 t]

theorem final3 : (dats m 0 c).arrAt 3 cfg0.N = arr m c := by
  refine (dats m 0 c).arrAt_eq_of_covers 3 _ (by decide +kernel) fun t hf y => ?_
  blk_simp
  rw [after0_3]
  refine (out3_apply _ _ _).trans (eq_arr m c t _ _ _ ?_ ?_ ?_)
  · blk_simp [index3 t]
  · blk_simp [index3 t]
  · blk_simp [index3 t]

end Cert.KernelKvIdeal.Blocks
-- ==== Proof.KvClaim.lean ====
module

public import proofs.«01_k».proof.Defs
public import proofs.«01_k».proof.Proof.KvBlock
public import proofs.«01_k».proof.Proof.Gen.KernelKv.Frame
public import proofs.«01_k».proof.Proof.Gen.ReferenceKvIdeal.Run
public import proofs.«01_k».proof.Proof.Gen.ReferenceKvIdeal.Read

@[expose] public section
noncomputable section

open Idealize.ShloMosaic Idealize.ShloMosaic.TcCoe Idealize.SL.Sem

/-! The gradient of the key and value weight: kernel and reference end with the same two arrays. -/

namespace Cert.ReferenceKvIdeal.Grad

open Cert.ReferenceKvIdeal Cert.ReferenceKvIdeal.Gen Cert.ReferenceKvIdeal.Read

variable (x0 : (⟨S256x1024, .bf16⟩ : BufTy).Contents (Elt Ideal)) (x1 : (⟨S256x2048, .bf16⟩ : BufTy).Contents (Elt Ideal))

/-- Column `d` of the weights' quarter `g`. -/
def colOf (g : Fin 4) (d : Fin 512) : Fin 2048 := ⟨g.val * 512 + d.val, by omega⟩

theorem dw_ix (d : Fin 1024) (f : Fin 2048) :
    val_main_v5 (F := Ideal) x0 x1 (ix2 d f) = ∑ s : Fin 256, x0 (ix2 s d) * x1 (ix2 s f) := by
  pointwise [val_main_v5, val_main_v4]
  exact Finset.sum_congr rfl fun k _ => mul_comm _ _

theorem res0_ix (g : Fin 4) (d : Fin 1024) (e : Fin 512) :
    val_main_v14 (F := Ideal) x0 x1 (ix3 g d e) = ∑ s : Fin 256, x0 (ix2 s d) * x1 (ix2 s (colOf g e)) := by
  rw [← dw_ix]
  fin_cases g
  · pointwise [val_main_v14, val_main_v10, val_main_v6]
    exact congrArg _ (congrArg (ix2 d) (Fin.ext (by simp [colOf])))
  · pointwise [val_main_v14, val_main_v11, val_main_v7]
    exact congrArg _ (congrArg (ix2 d) (Fin.ext (by simp [colOf])))
  · pointwise [val_main_v14, val_main_v12, val_main_v8]
    exact congrArg _ (congrArg (ix2 d) (Fin.ext (by simp [colOf])))
  · pointwise [val_main_v14, val_main_v13, val_main_v9]
    exact congrArg _ (congrArg (ix2 d) (Fin.ext (by simp [colOf])))

theorem res1_ix (g : Fin 4) (d : Fin 1024) (e : Fin 512) :
    val_main_v15 (F := Ideal) x0 x1 (ix3 g d e) = ∑ s : Fin 256, x0 (ix2 s d) * x1 (ix2 s (colOf g e)) := by
  rw [← res0_ix]
  pointwise [val_main_v15]

/-- The reference's first result. -/
theorem res0 (y : S4x1024x512.Idx) :
    val_main_v14 (F := Ideal) x0 x1 y = ∑ s : Fin 256, x0 (ix2 s (y 1)) * x1 (ix2 s (colOf (y 0) (y 2))) := by
  have h := res0_ix x0 x1 (y 0) (y 1) (y 2)
  rw [ix3_eta] at h
  exact h

/-- The reference's second result. -/
theorem res1 (y : S4x1024x512.Idx) :
    val_main_v15 (F := Ideal) x0 x1 y = ∑ s : Fin 256, x0 (ix2 s (y 1)) * x1 (ix2 s (colOf (y 0) (y 2))) := by
  have h := res1_ix x0 x1 (y 0) (y 1) (y 2)
  rw [ix3_eta] at h
  exact h

end Cert.ReferenceKvIdeal.Grad

namespace Cert.KvClaim

/-- The kernel runs, and leaves its arguments and every counter as they were. -/
theorem frame_kernel (h : Cert.KernelKv.Facts) : Cert.quiescent_KernelKv (hKernelKv := h) :=
  fun m ρ _ => Cert.KernelKv.Gen.frame m ρ

/-- The same of its reading over the extended reals. -/
theorem frame_ideal (h : Cert.KernelKvIdeal.Facts) : Cert.quiescent_KernelKvIdeal (hKernelKvIdeal := h) :=
  fun m ρ _ => Cert.KernelKvIdeal.Gen.frame m ρ

/-- The reference's run leaves its arguments and every counter as they were. -/
theorem frame_ref (h : Cert.ReferenceKvIdeal.Facts) : Cert.quiescent_ReferenceKvIdeal (hReferenceKvIdeal := h) :=
  fun m ρ _ => (θ_run _ _ _).mono (fun r h => ⟨fun c => (h c).2.2, sem_eq_zero_of_no_sems (by decide) r.2⟩)
    (Cert.ReferenceKvIdeal.Value.run m ρ)

/-- The kernel's two results are the reference's. -/
theorem algebraic (h : Cert.KernelKvIdeal.Facts) (h' : Cert.ReferenceKvIdeal.Facts) :
    Cert.algebraic_KernelKvIdeal_ReferenceKvIdeal (hKernelKvIdeal := h) (hReferenceKvIdeal := h') := by
  intro m g m' g' hpre hargs
  refine ⟨fun c => Cert.KernelKvIdeal.Blocks.arr m c, fun c => Cert.KernelKvIdeal.Blocks.arr m c,
    (θ_run _ _ _).mono (fun r h c => ?_) (Cert.KernelKvIdeal.Value.run_blocks m g),
    (θ_run _ _ _).mono (fun r h c => ?_) (Cert.ReferenceKvIdeal.Value.run m' g')⟩
  · obtain ⟨h0, h1, h2⟩ := h c
    exact ⟨h0.trans (Cert.KernelKvIdeal.Blocks.final2 m c), h1.trans (Cert.KernelKvIdeal.Blocks.final3 m c), h2⟩
  · obtain ⟨h0, h1, h2⟩ := h c
    obtain ⟨a0, a1⟩ := hargs c
    refine ⟨h0.trans ?_, h1.trans ?_, h2⟩
    · rw [Cert.ReferenceKvIdeal.Read.val_main_v14_eq, a0, a1]
      exact funext fun y => Cert.ReferenceKvIdeal.Grad.res0 _ _ y
    · rw [Cert.ReferenceKvIdeal.Read.val_main_v15_eq, a0, a1]
      exact funext fun y => Cert.ReferenceKvIdeal.Grad.res1 _ _ y

end Cert.KvClaim
-- ==== Proof.MemBlock.lean ====
module

public import proofs.«01_k».proof.Proof.Gen.KernelMemIdeal.Value
public import proofs.«01_k».proof.Proof.FKvBlock
public import proofs.«01_k».proof.Proof.TileSum
public import Idealize.ShloMosaic.Lib.Pipeline.ValueKit

@[expose] public section
noncomputable section

open Idealize.ShloMosaic Idealize.ShloMosaic.TcCoe Idealize.SL.Sem

/-! The gradient through the key and value product: the result of the kernel, at an index. -/

namespace Cert.MemMath

open Cert.FKvMath (blk off)

/-- An entry of the product over the key and value columns. -/
def cell (a : (⟨2, ![256, 2048]⟩ : Shape).Idx → EReal) (w : (⟨3, ![4, 1024, 512]⟩ : Shape).Idx → EReal) (s : Fin 256) (d : Fin 1024) : EReal :=
  ∑ k : Fin 2048, a (ix2 s k) * w (ix3 (blk k) d (off k))

end Cert.MemMath

namespace Cert.KernelMemIdeal.Blocks

open Cert.KernelMemIdeal Cert.KernelMemIdeal.Gen Cert.MemMath
open Cert.FKvMath (blk off)

/-- An entry of the product of two blocks over their columns. -/
def prod (x0 : Vec Ideal S256x512 .bf16) (x1 : Vec Ideal S1x1024x512 .bf16) (r : Fin 256) (d : Fin 1024) : EReal :=
  ∑ k, x0 (ix2 r k) * x1 (ix3 0 d k)

theorem pay1_ix (x0 : Vec Ideal S256x512 .bf16) (x1 : Vec Ideal S1x1024x512 .bf16) (r : Fin 256) (d : Fin 1024) :
    k0_pay1 (F := Ideal) x0 x1 (ix2 r d) = prod x0 x1 r d := by
  pointwise [k0_pay1] <;> rfl

theorem pay2_ix (v : Vec Ideal S256x1024 .f32) (x0 : Vec Ideal S256x512 .bf16) (x1 : Vec Ideal S1x1024x512 .bf16) (r : Fin 256) (d : Fin 1024) :
    k0_pay2 (F := Ideal) v x0 x1 (ix2 r d) = v (ix2 r d) + prod x0 x1 r d := by
  pointwise [k0_pay2] <;> rfl

theorem pay3_ix (v : Vec Ideal S256x1024 .f32) (x0 : Vec Ideal S256x512 .bf16) (x1 : Vec Ideal S1x1024x512 .bf16) (r : Fin 256) (d : Fin 1024) :
    k0_pay3 (F := Ideal) v x0 x1 (ix2 r d) = v (ix2 r d) + prod x0 x1 r d := by
  pointwise [k0_pay3] <;> rfl

theorem ld_g {e : EltTy} (x : Vec Ideal S256x512 e)
    (inb : ∀ a : Fin 2, (![0, 0] : Fin 2 → ℕ) a + (![256, 512] : Fin 2 → ℕ) a ≤ S256x512.size a) :
    View.ld x (Rect.unit ![0, 0] ![256, 512] inb) = x := View.ld_unit_lit inb x (by decide)

theorem ld_w {e : EltTy} (x : Vec Ideal S1x1024x512 e)
    (inb : ∀ a : Fin 3, (![0, 0, 0] : Fin 3 → ℕ) a + (![1, 1024, 512] : Fin 3 → ℕ) a ≤ S1x1024x512.size a) :
    View.ld x (Rect.unit ![0, 0, 0] ![1, 1024, 512] inb) = x := View.ld_unit_lit inb x (by decide)

theorem ld_s {e : EltTy} (x : Vec Ideal S256x1024 e)
    (inb : ∀ a : Fin 2, (![0, 0] : Fin 2 → ℕ) a + (![256, 1024] : Fin 2 → ℕ) a ≤ S256x1024.size a) :
    View.ld x (Rect.unit ![0, 0] ![256, 1024] inb) = x := View.ld_unit_lit inb x (by decide)

theorem same_ix (x : S256x1024.Idx) (r : Fin 256) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

section Points
variable (c : Dev nD) (i : grid0.Coords) (a3 : Memref sig .tc .vmem S256x512 .bf16) (h3 : a3.IsWhole)
  (a4 : Memref sig .tc .vmem S1x1024x512 .bf16) (h4 : a4.IsWhole) (a5 : Memref sig .tc .vmem S256x1024 .f32) (h5 : a5.IsWhole)
  (a6 : Memref sig .tc .vmem S256x1024 .f32) (h6 : a6.IsWhole)
  (x0 : Vec Ideal S256x512 .bf16) (x1 : Vec Ideal S1x1024x512 .bf16) (xs : Vec Ideal S256x1024 .f32) (r : Fin 256) (d : Fin 1024)

theorem acc_A (hc0 : cond0_0 i) (hc1 : ¬cond0_1 i) (hc2 : ¬cond0_2 i) :
    sout0_A_0 (F := Ideal) c i a3 h3 a4 h4 a5 h5 a6 h6 hc0 hc1 hc2 x0 x1 (ix2 r d) = prod x0 x1 r d := by
  unfold sout0_A_0
  rw [View.read_writes_eq_canon _ _ _ (scover0_A_0 c i a3 h3 a4 h4 a5 h5 a6 h6 hc0 hc1 hc2 x0 x1)]
  unfold kernelRun0_A
  dsimp only
  sl_unfold_words
  simp only [View.readAt_eq_ld, h3.read_unread, h4.read_unread, ld_g, ld_w]
  canon_tiles x hx
  rw [same_ix x r d hx0 hx1, pay1_ix]

theorem acc_B (hc0 : ¬cond0_0 i) (hc1 : cond0_1 i) (hc2 : ¬cond0_2 i) :
    sout0_B_0 (F := Ideal) c i a3 h3 a4 h4 a5 h5 a6 h6 hc0 hc1 hc2 x0 x1 xs (ix2 r d) = xs (ix2 r d) + prod x0 x1 r d := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  simp only [View.readAt_eq_ld, h3.read_unread, h4.read_unread, h6.read_unread, ld_g, ld_w, ld_s]
  canon_tiles x hx
  rw [same_ix x r d hx0 hx1, pay2_ix]

theorem out_C (hc0 : ¬cond0_0 i) (hc1 : ¬cond0_1 i) (hc2 : cond0_2 i) :
    out0_C_2 (F := Ideal) c i a3 h3 a4 h4 a5 h5 a6 h6 hc0 hc1 hc2 x0 x1 xs (ix2 r d) = xs (ix2 r d) + prod x0 x1 r d := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  simp only [View.readAt_eq_ld, h3.read_unread, h4.read_unread, h6.read_unread, ld_g, ld_w, ld_s]
  canon_tiles x hx
  rw [same_ix x r d hx0 hx1, pay3_ix]

end Points

variable (m : (ℓ : Loc nD τ sig) → Buf (Elt Ideal) ℓ) (c : Dev nD)

/-- The gradient of the keys and values. -/
abbrev argA : S256x2048.Idx → EReal := m ((c : Thread nD τ).loc main_arg0)
/-- The weights. -/
abbrev argW : S4x1024x512.Idx → EReal := m ((c : Thread nD τ).loc main_arg1)

theorem index0 : ∀ t : Fin cfg0.N, win0_0.index t = ![0, t.val % 4] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![0, 0] := (by decide +kernel : ∀ t : Fin grid0.N, _)

/-- The result. -/
def arr (y : S256x1024.Idx) : EReal := cell (argA m c) (argW m c) (y 0) (y 1)

/-- What point `n` adds. -/
def part (n : ℕ) (r : Fin 256) (d : Fin 1024) : EReal :=
  if h : n < cfg0.N then prod (iblk m c 0 ⟨n, h⟩) (iblk m c 1 ⟨n, h⟩) r d else 0

theorem part_eq (t : Fin cfg0.N) (r : Fin 256) (d : Fin 1024) : part m c t.val r d = prod (iblk m c 0 t) (iblk m c 1 t) r d := dif_pos t.isLt

theorem step_A (r : Fin 256) (d : Fin 1024) (n : ℕ) (h : n < cfg0.N) (h0 : n % 4 = 0) : (outsAt0 m c n h).2 (ix2 r d) = part m c n r d := by
  rw [part_eq m c ⟨n, h⟩, outsAt0_A m c ⟨n, h⟩ h0 (by dsimp only; omega) (by dsimp only; omega)]
  dsimp only
  rw [acc_A]

theorem step_B (r : Fin 256) (d : Fin 1024) (n : ℕ) (h : n + 1 < cfg0.N) (h0 : (n + 1) % 4 ≠ 0) (h3 : (n + 1) % 4 ≠ 3) :
    (outsAt0 m c (n + 1) h).2 (ix2 r d) = (outsAt0 m c n (Nat.lt_of_succ_lt h)).2 (ix2 r d) + part m c (n + 1) r d := by
  rw [part_eq m c ⟨n + 1, h⟩, outsAt0_B m c ⟨n + 1, h⟩ h0 (by dsimp only; omega) h3]
  dsimp only
  rw [acc_B]
  rfl

/-- The four parts are the product's entry. -/
theorem tile_sum (t : Fin cfg0.N) (ht : t.val % 4 = 3) (r : Fin 256) (d : Fin 1024) :
    ∑ j ∈ Finset.range 4, part m c (t.val / 4 * 4 + j) r d = cell (argA m c) (argW m c) r d := by
  have hN : cfg0.N = 4 := N_0
  have hl := t.isLt
  unfold cell
  rw [Fin.sum_univ_tiles 4 512 rfl, Finset.sum_range]
  refine Finset.sum_congr rfl fun j _ => ?_
  have hb : t.val / 4 * 4 + j.val < cfg0.N := by omega
  rw [part_eq m c ⟨_, hb⟩, prod]
  refine Finset.sum_congr rfl fun k _ => ?_
  congr 1
  · blk_simp [iblk]
    show V m c main_arg0 _ = V m c main_arg0 _
    congr 1
    blk_ext [index0 ⟨_, hb⟩]
  · blk_simp [iblk]
    show V m c main_arg1 _ = V m c main_arg1 _
    congr 1
    blk_ext [index1 ⟨_, hb⟩, blk, off]

/-- The output after the last point. -/
theorem outs_eq (t : Fin cfg0.N) (ht : t.val % 4 = 3) (r : Fin 256) (d : Fin 1024) :
    (outsAt0 m c t.val t.isLt).1 (ix2 r d) = arr m c (ix2 r d) := by
  have hp : t.val - 1 < cfg0.N := by have := t.isLt; omega
  rw [outsAt0_C m c t (by omega) (by omega) ht]
  dsimp only
  rw [out_C]
  show _ = cell (argA m c) (argW m c) r d
  rw [← tile_sum m c t ht r d,
    ← TileSum.last_eq (fun n h => (outsAt0 m c n h).2 (ix2 r d)) (fun n => part m c n r d) (step_A m c r d) (step_B m c r d) t.val ht hp,
    part_eq m c t]

theorem final2 : (dats m 0 c).arrAt 2 cfg0.N = arr m c := by
  refine (dats m 0 c).arrAt_eq_of_covers 2 _ (by decide +kernel) fun t hf y => ?_
  blk_simp
  rw [after0_2]
  have h := outs_eq m c t ((flush0_2 t).mp hf) (y 0) (y 1)
  rw [ix2_eta] at h
  refine h.trans ?_
  congr 1
  blk_ext [index2 t]

end Cert.KernelMemIdeal.Blocks
-- ==== Proof.MemClaim.lean ====
module

public import proofs.«01_k».proof.Defs
public import proofs.«01_k».proof.Proof.MemBlock
public import proofs.«01_k».proof.Proof.Gen.KernelMem.Frame
public import proofs.«01_k».proof.Proof.Gen.ReferenceMemIdeal.Run
public import proofs.«01_k».proof.Proof.Gen.ReferenceMemIdeal.Read

@[expose] public section
noncomputable section

open Idealize.ShloMosaic Idealize.ShloMosaic.TcCoe Idealize.SL.Sem

/-! The gradient through the key and value product: kernel and reference end with the same array. -/

namespace Cert.ReferenceMemIdeal.Grad

open Cert.ReferenceMemIdeal Cert.ReferenceMemIdeal.Gen Cert.ReferenceMemIdeal.Read Cert.MemMath
open Cert.FKvMath (blk off)

variable (x0 : (⟨S256x2048, .bf16⟩ : BufTy).Contents (Elt Ideal)) (x1 : (⟨S4x1024x512, .bf16⟩ : BufTy).Contents (Elt Ideal))

theorem w_ix (d : Fin 1024) (e : Fin 2048) : val_main_v8 (F := Ideal) x1 (ix2 d e) = x1 (ix3 (blk e) d (off e)) := by
  have he := e.isLt
  pointwise [val_main_v8, val_main_v7, val_main_v6, val_main_v5, val_main_v4, val_main_v3, val_main_v2, val_main_v1, val_main_v0]
  split_ifs <;>
    exact congrArg x1 (congrArg₂ (fun a b => ix3 a d b) (Fin.ext (by dsimp [blk]; omega)) (Fin.ext (by dsimp [off]; omega)))

theorem dot_ix (s : Fin 256) (d : Fin 1024) : val_main_v13 (F := Ideal) x0 x1 (ix2 s d) = cell x0 x1 s d := by
  pointwise [val_main_v13, val_main_v12, val_main_v9]
  exact Finset.sum_congr rfl fun k _ => congrArg _ (w_ix x1 d k)

/-- The reference's result. -/
theorem res0 (y : S256x1024.Idx) : val_main_v13 (F := Ideal) x0 x1 y = cell x0 x1 (y 0) (y 1) := by
  have h := dot_ix x0 x1 (y 0) (y 1)
  rw [ix2_eta] at h
  exact h

end Cert.ReferenceMemIdeal.Grad

namespace Cert.MemClaim

/-- The kernel runs, and leaves its arguments and every counter as they were. -/
theorem frame_kernel (h : Cert.KernelMem.Facts) : Cert.quiescent_KernelMem (hKernelMem := h) :=
  fun m ρ _ => Cert.KernelMem.Gen.frame m ρ

/-- The same of its reading over the extended reals. -/
theorem frame_ideal (h : Cert.KernelMemIdeal.Facts) : Cert.quiescent_KernelMemIdeal (hKernelMemIdeal := h) :=
  fun m ρ _ => Cert.KernelMemIdeal.Gen.frame m ρ

/-- The reference's run leaves its arguments and every counter as they were. -/
theorem frame_ref (h : Cert.ReferenceMemIdeal.Facts) : Cert.quiescent_ReferenceMemIdeal (hReferenceMemIdeal := h) :=
  fun m ρ _ => (θ_run _ _ _).mono (fun r h => ⟨fun c => (h c).2, sem_eq_zero_of_no_sems (by decide) r.2⟩)
    (Cert.ReferenceMemIdeal.Value.run m ρ)

/-- The kernel's result is the reference's. -/
theorem algebraic (h : Cert.KernelMemIdeal.Facts) (h' : Cert.ReferenceMemIdeal.Facts) :
    Cert.algebraic_KernelMemIdeal_ReferenceMemIdeal (hKernelMemIdeal := h) (hReferenceMemIdeal := h') := by
  intro m g m' g' hpre hargs
  refine ⟨fun c => Cert.KernelMemIdeal.Blocks.arr m c,
    (θ_run _ _ _).mono (fun r h c => ?_) (Cert.KernelMemIdeal.Value.run_blocks m g),
    (θ_run _ _ _).mono (fun r h c => ?_) (Cert.ReferenceMemIdeal.Value.run m' g')⟩
  · obtain ⟨h0, hr⟩ := h c
    exact ⟨h0.trans (Cert.KernelMemIdeal.Blocks.final2 m c), hr⟩
  · obtain ⟨h0, hr⟩ := h c
    obtain ⟨a0, a1⟩ := hargs c
    refine ⟨h0.trans ?_, hr⟩
    · rw [Cert.ReferenceMemIdeal.Read.val_main_v13_eq, a0, a1]
      exact funext fun y => Cert.ReferenceMemIdeal.Grad.res0 _ _ y

end Cert.MemClaim
-- ==== Proof.NormMemBlock.lean ====
module

public import proofs.«01_k».proof.Proof.Gen.KernelNormMemIdeal.Value
public import proofs.«01_k».proof.Proof.NormMath
public import Idealize.ShloMosaic.Lib.Pipeline.ValueKit
public import Idealize.ShloMosaic.Lib.Pipeline.ReadBack

@[expose] public section
noncomputable section

open Idealize.ShloMosaic Idealize.ShloMosaic.TcCoe Idealize.SL.Sem

/-! The gradient through the norm of the memory's tokens: the three results of the kernel, at an index. -/

namespace Cert.KernelNormMemIdeal.Blocks

open Cert.KernelNormMemIdeal Cert.KernelNormMemIdeal.Gen Cert.NormMath

/-- A row of a block. -/
def row (x : Vec Ideal S256x1024 .f32) (r : Fin 256) (d : Fin 1024) : EReal := x (ix2 r d)

theorem pay2_ix (x : Vec Ideal S256x1024 .f32) (r : Fin 256) : k0_pay2 (F := Ideal) x (ix2 r 0) = rms (row x r) := by
  pointwise [k0_pay2]
  rfl

theorem pay3_ix (x : Vec Ideal S256x1024 .f32) (r : Fin 256) (d : Fin 1024) :
    k0_pay3 (F := Ideal) x (ix2 r d) = row x r d * rms (row x r) := by
  pointwise [k0_pay3]
  rw [pay2_ix]
  rfl

/-- The gradient at the norm's input. -/
def dxBlk (x u : Vec Ideal S256x1024 .f32) (g : Vec Ideal S1x1024 .f32) (r : Fin 256) (d : Fin 1024) : EReal :=
  dx (row x r) (fun k => row u r k * g (ix2 0 k)) 0 d

theorem pay4_ix (x u : Vec Ideal S256x1024 .f32) (g : Vec Ideal S1x1024 .f32) (r : Fin 256) (d : Fin 1024) :
    k0_pay4 (F := Ideal) x u g (ix2 r d) = dxBlk x u g r d := by
  unfold dxBlk dx
  rw [add_zero]
  pointwise [k0_pay4, pay2_ix, pay3_ix]
  rfl

theorem pay5_ix (x u : Vec Ideal S256x1024 .f32) (g : Vec Ideal S1x1024 .f32) (r : Fin 256) (d : Fin 1024) :
    k0_pay5 (F := Ideal) x u g (ix2 r d) = dxBlk x u g r d := by
  rw [← pay4_ix]
  pointwise [k0_pay5]

theorem pay6_ix (d : Fin 1024) : k0_pay6 (F := Ideal) (ix2 0 d) = 0 := by
  pointwise [k0_pay6]

theorem pay7_ix (o : Vec Ideal S1x1024 .f32) (d : Fin 1024) : k0_pay7 (F := Ideal) o (ix2 0 d) = o (ix2 0 d) := by
  pointwise [k0_pay7]

/-- The gradient of the norm's scale. -/
def dgBlk (x u : Vec Ideal S256x1024 .f32) (d : Fin 1024) : EReal :=
  ∑ r : Fin 256, row u r d * (row x r d * rms (row x r))

theorem pay8_ix (x u : Vec Ideal S256x1024 .f32) (d : Fin 1024) : k0_pay8 (F := Ideal) x u (ix2 0 d) = dgBlk x u d := by
  pointwise [k0_pay8, pay3_ix] <;> rfl

theorem pay1_ix (o v : FVec Ideal S1x1024 .f32) (d : Fin 1024) : k0_pay1 (F := Ideal) o v (ix2 0 d) = o (ix2 0 d) + v (ix2 0 d) := by
  pointwise [k0_pay1]

theorem ld_x {e : EltTy} (x : Vec Ideal S256x1024 e)
    (inb : ∀ a : Fin 2, (![0, 0] : Fin 2 → ℕ) a + (![256, 1024] : Fin 2 → ℕ) a ≤ S256x1024.size a) :
    View.ld x (Rect.unit ![0, 0] ![256, 1024] inb) = x := View.ld_unit_lit inb x (by decide)

theorem ld_1 {e : EltTy} (x : Vec Ideal S1x1024 e)
    (inb : ∀ a : Fin 2, (![0, 0] : Fin 2 → ℕ) a + (![1, 1024] : Fin 2 → ℕ) a ≤ S1x1024.size a) :
    View.ld x (Rect.unit ![0, 0] ![1, 1024] inb) = x := View.ld_unit_lit inb x (by decide)

theorem same_ix (x : S256x1024.Idx) (r : Fin 256) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

theorem zero2 : ∀ a : Fin 2, (![0, 0] : Fin 2 → ℕ) a = 0 := by decide

section Points
variable (c : Dev nD) (i : grid0.Coords) (a1 : Memref sig .tc .vmem S256x1024 .f32) (h1 : a1.IsWhole)
  (a2 : Memref sig .tc .vmem S1x1024 .f32) (h2 : a2.IsWhole) (a3 : Memref sig .tc .vmem S256x1024 .f32) (h3 : a3.IsWhole)
  (a4 : Memref sig .tc .vmem S256x1024 .f32) (h4 : a4.IsWhole) (a5 : Memref sig .tc .vmem S256x1024 .bf16) (h5 : a5.IsWhole)
  (a6 : Memref sig .tc .vmem S1x1024 .f32) (h6 : a6.IsWhole) (hc0 : cond0_0 i)
  (x0 : Vec Ideal S256x1024 .f32) (x1 : Vec Ideal S1x1024 .f32) (x2 : Vec Ideal S256x1024 .f32) (r : Fin 256) (d : Fin 1024)

theorem out_A3 : out0_A_3 (F := Ideal) c i a1 h1 a2 h2 a3 h3 a4 h4 a5 h5 a6 h6 hc0 x0 x1 x2 (ix2 r d) = dxBlk x0 x2 x1 r d := by
  unfold out0_A_3
  rw [View.read_writes_eq_canon _ _ _ (cover0_A_3 c i a1 h1 a2 h2 a3 h3 a4 h4 a5 h5 a6 h6 hc0 x0 x1 x2)]
  unfold kernelRun0_A
  dsimp only
  sl_unfold_words
  simp only [View.readAt_eq_ld, h1.read_unread, h2.read_unread, h3.read_unread, ld_x, ld_1]
  canon_tiles x hx
  rw [same_ix x r d hx0 hx1, pay4_ix]

theorem out_A4 : out0_A_4 (F := Ideal) c i a1 h1 a2 h2 a3 h3 a4 h4 a5 h5 a6 h6 hc0 x0 x1 x2 (ix2 r d) = dxBlk x0 x2 x1 r d := by
  unfold out0_A_4
  rw [View.read_writes_eq_canon _ _ _ (cover0_A_4 c i a1 h1 a2 h2 a3 h3 a4 h4 a5 h5 a6 h6 hc0 x0 x1 x2)]
  unfold kernelRun0_A
  dsimp only
  sl_unfold_words
  simp only [View.readAt_eq_ld, h1.read_unread, h2.read_unread, h3.read_unread, ld_x, ld_1]
  canon_tiles x hx
  rw [same_ix x r d hx0 hx1, pay5_ix]

theorem out_A5 : out0_A_5 (F := Ideal) c i a1 h1 a2 h2 a3 h3 a4 h4 a5 h5 a6 h6 hc0 x0 x1 x2 (ix2 0 d) = dgBlk x0 x2 d := by
  unfold out0_A_5
  rw [View.read_writes_eq_canon _ _ _ (cover0_A_5 c i a1 h1 a2 h2 a3 h3 a4 h4 a5 h5 a6 h6 hc0 x0 x1 x2)]
  unfold kernelRun0_A
  dsimp only
  sl_unfold_words
  simp only [View.readAt_eq_ld, h1.read_unread, h2.read_unread, h3.read_unread, h6.read_unread, ld_x, ld_1]
  simp (disch := first | decide +kernel | exact zero2) only [↓View.readCov_skip, ↓View.readCov_fill]
  refine (congrFun (View.canon_cons_unit_lit inb_S1x1024_S1x1024_0_0 _ _ (by decide)) _).trans ?_
  rw [pay1_ix, pay7_ix, pay8_ix, ld_1, pay6_ix, zero_add]

end Points

variable (m : (ℓ : Loc nD τ sig) → Buf (Elt Ideal) ℓ) (c : Dev nD)

/-- The norm's input. -/
abbrev argX : S256x1024.Idx → EReal := m ((c : Thread nD τ).loc main_arg0)
/-- The norm's scale. -/
abbrev argG : S1x1024.Idx → EReal := m ((c : Thread nD τ).loc main_arg1)
/-- The gradient at the norm's output. -/
abbrev argU : S256x1024.Idx → EReal := m ((c : Thread nD τ).loc main_arg2)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)

/-- A row of the norm's input. -/
def xrow (s : Fin 256) (k : Fin 1024) : EReal := argX m c (ix2 s k)

/-- The gradient at the norm's input. -/
def arrX (y : S256x1024.Idx) : EReal := dx (xrow m c (y 0)) (fun k => argU m c (ix2 (y 0) k) * argG m c (ix2 0 k)) 0 (y 1)

/-- The gradient of the norm's scale. -/
def arrG (y : S1x1024.Idx) : EReal := ∑ s, argU m c (ix2 s (y 1)) * (xrow m c s (y 1) * rms (xrow m c s))

theorem t_zero (t : Fin cfg0.N) : t.val = 0 := by
  have hl : t.val < 1 := lt_of_lt_of_eq t.isLt N_0
  omega

theorem row_x (t : Fin cfg0.N) (r : Fin 256) : row (iblk m c 0 t) r = xrow m c r := by
  have ht := t_zero t
  funext k
  unfold row xrow
  blk_simp [iblk]
  show V m c main_arg0 _ = V m c main_arg0 _
  congr 1
  blk_ext [index0 t]

theorem row_u (t : Fin cfg0.N) (r : Fin 256) (k : Fin 1024) : row (iblk m c 2 t) r k = argU m c (ix2 r k) := by
  have ht := t_zero t
  unfold row
  blk_simp [iblk]
  show V m c main_arg2 _ = V m c main_arg2 _
  congr 1
  blk_ext [index2 t]

theorem scale_g (t : Fin cfg0.N) (k : Fin 1024) : (iblk m c 1 t : Vec Ideal S1x1024 .f32) (ix2 0 k) = argG m c (ix2 0 k) := by
  blk_simp [iblk]
  show V m c main_arg1 _ = V m c main_arg1 _
  congr 1
  blk_ext [index1 t]

theorem dx_eq (t : Fin cfg0.N) (r : Fin 256) (d : Fin 1024) :
    dxBlk (iblk m c 0 t) (iblk m c 2 t) (iblk m c 1 t) r d = arrX m c (ix2 r d) := by
  unfold dxBlk arrX
  rw [row_x m c t r]
  show dx _ _ _ _ = dx _ _ _ _
  congr 1
  funext k
  rw [row_u, scale_g]
  rfl

theorem dg_eq (t : Fin cfg0.N) (d : Fin 1024) : dgBlk (iblk m c 0 t) (iblk m c 2 t) d = arrG m c (ix2 0 d) := by
  unfold dgBlk arrG
  refine Finset.sum_congr rfl fun r _ => ?_
  rw [row_x m c t r, row_u]
  rfl

theorem outs_eq (t : Fin cfg0.N) (r : Fin 256) (d : Fin 1024) :
    (outsAt0 m c t).1 (ix2 r d) = arrX m c (ix2 r d) ∧ (outsAt0 m c t).2.1 (ix2 r d) = arrX m c (ix2 r d) := by
  rw [← dx_eq m c t r d]
  unfold outsAt0
  dsimp only
  rw [out_A3, out_A4]
  exact ⟨rfl, rfl⟩

theorem out5_eq (t : Fin cfg0.N) (d : Fin 1024) : (outsAt0 m c t).2.2 (ix2 0 d) = arrG m c (ix2 0 d) := by
  rw [← dg_eq m c t d]
  unfold outsAt0
  dsimp only
  rw [out_A5]

theorem final3 : (dats m 0 c).arrAt 3 cfg0.N = arrX m c := by
  refine (dats m 0 c).arrAt_eq_of_covers 3 _ (by decide +kernel) fun t hf y => ?_
  have ht := t_zero t
  blk_simp
  rw [after0_3]
  have h := (outs_eq m c t (y 0) (y 1)).1
  rw [ix2_eta] at h
  refine h.trans ?_
  congr 1
  blk_ext [index3 t]

theorem final4 : (dats m 0 c).arrAt 4 cfg0.N = arrX m c := by
  refine (dats m 0 c).arrAt_eq_of_covers 4 _ (by decide +kernel) fun t hf y => ?_
  have ht := t_zero t
  blk_simp
  rw [after0_4]
  have h := (outs_eq m c t (y 0) (y 1)).2
  rw [ix2_eta] at h
  refine h.trans ?_
  congr 1
  blk_ext [index4 t]

theorem final5 : (dats m 0 c).arrAt 5 cfg0.N = arrG m c := by
  refine (dats m 0 c).arrAt_eq_of_covers 5 _ (by decide +kernel) fun t hf y => ?_
  blk_simp
  rw [after0_5]
  have h := out5_eq m c t (y 1)
  have e : (ix2 0 (y 1) : S1x1024.Idx) = y := (congrArg (fun a => ix2 a (y 1)) (Subsingleton.elim (α := Fin 1) 0 (y 0))).trans (ix2_eta y)
  rw [e] at h
  refine h.trans ?_
  congr 1
  blk_ext [index5 t]

end Cert.KernelNormMemIdeal.Blocks
-- ==== Proof.NormMemClaim.lean ====
module

public import proofs.«01_k».proof.Defs
public import proofs.«01_k».proof.Proof.NormMemBlock
public import proofs.«01_k».proof.Proof.Gen.KernelNormMem.Frame
public import proofs.«01_k».proof.Proof.Gen.ReferenceNormMemIdeal.Run
public import proofs.«01_k».proof.Proof.Gen.ReferenceNormMemIdeal.Read

@[expose] public section
noncomputable section

open Idealize.ShloMosaic Idealize.ShloMosaic.TcCoe Idealize.SL.Sem

/-! The gradient through the norm of the memory's tokens: kernel and reference end with the same three arrays. -/

namespace Cert.ReferenceNormMemIdeal.Grad

open Cert.ReferenceNormMemIdeal Cert.ReferenceNormMemIdeal.Gen Cert.ReferenceNormMemIdeal.Read Cert.NormMath

variable (x0 : (⟨S256x1024, .f32⟩ : BufTy).Contents (Elt Ideal)) (x1 : (⟨S1x1024, .f32⟩ : BufTy).Contents (Elt Ideal))
  (x2 : (⟨S256x1024, .f32⟩ : BufTy).Contents (Elt Ideal))

/-- A row of the norm's input. -/
def xr (s : Fin 256) (k : Fin 1024) : EReal := x0 (ix2 s k)

theorem msq_ix (s : Fin 256) : val_main_v6 (F := Ideal) x0 (ix2 s 0) = msq (xr x0 s) := by
  pointwise [val_main_v6, val_main_v5, val_main_v4, val_main_v3, val_main_v2, val_main_v1, val_main_v0, val_main_cst, val_main_cst_0, val_main_cst_1]
  rfl

theorem rms_ix (s : Fin 256) : val_main_v7 (F := Ideal) x0 (ix2 s 0) = rms (xr x0 s) := by
  pointwise [val_main_v7]
  rw [msq_ix]
  rfl

theorem a_ix (s : Fin 256) (d : Fin 1024) : val_main_v19 (F := Ideal) x1 x2 (ix2 s d) = x2 (ix2 s d) * x1 (ix2 0 d) := by
  pointwise [val_main_v19, val_main_v18]

theorem coef_ix (s : Fin 256) (d : Fin 1024) :
    val_main_v29 (F := Ideal) x0 x1 x2 (ix2 s d) = coef (xr x0 s) (fun k => x2 (ix2 s k) * x1 (ix2 0 k)) := by
  pointwise [val_main_v29, val_main_v28, val_main_v27, val_main_v26, val_main_v25, val_main_v22, val_main_v21, val_main_v20, val_main_v10,
    val_main_v9, val_main_v8, val_main_cst_2, val_main_cst_4, val_main_cst_5, val_main_cst_6, a_ix]
  rw [Fin.sum_univ_one, rms_ix, msq_ix]
  rfl

theorem res0_ix (s : Fin 256) (d : Fin 1024) :
    val_main_v33 (F := Ideal) x0 x1 x2 (ix2 s d) = dx (xr x0 s) (fun k => x2 (ix2 s k) * x1 (ix2 0 k)) 0 d := by
  rw [← ref_dx, zero_add]
  pointwise [val_main_v33, val_main_v32, val_main_v31, val_main_v30, val_main_v24, val_main_v23, a_ix, coef_ix, rms_ix]
  rfl

theorem res1_ix (s : Fin 256) (d : Fin 1024) :
    val_main_v34 (F := Ideal) x0 x1 x2 (ix2 s d) = dx (xr x0 s) (fun k => x2 (ix2 s k) * x1 (ix2 0 k)) 0 d := by
  rw [← res0_ix]
  pointwise [val_main_v34]

theorem res2_ix (d : Fin 1024) :
    val_main_v17 (F := Ideal) x0 x2 (ix2 0 d) = ∑ s, x2 (ix2 s d) * (xr x0 s d * rms (xr x0 s)) := by
  pointwise [val_main_v17, val_main_v16, val_main_v15, val_main_v12, val_main_v11, val_main_cst_3, rms_ix]
  exact Finset.sum_congr rfl fun s _ => mul_comm _ _

/-- The reference's first result. -/
theorem res0 (y : S256x1024.Idx) :
    val_main_v33 (F := Ideal) x0 x1 x2 y = dx (xr x0 (y 0)) (fun k => x2 (ix2 (y 0) k) * x1 (ix2 0 k)) 0 (y 1) := by
  have h := res0_ix x0 x1 x2 (y 0) (y 1)
  rw [ix2_eta] at h
  exact h

/-- The reference's second result. -/
theorem res1 (y : S256x1024.Idx) :
    val_main_v34 (F := Ideal) x0 x1 x2 y = dx (xr x0 (y 0)) (fun k => x2 (ix2 (y 0) k) * x1 (ix2 0 k)) 0 (y 1) := by
  have h := res1_ix x0 x1 x2 (y 0) (y 1)
  rw [ix2_eta] at h
  exact h

/-- The reference's third result. -/
theorem res2 (y : S1x1024.Idx) :
    val_main_v17 (F := Ideal) x0 x2 y = ∑ s, x2 (ix2 s (y 1)) * (xr x0 s (y 1) * rms (xr x0 s)) := by
  have e : (ix2 0 (y 1) : S1x1024.Idx) = y := (congrArg (fun a => ix2 a (y 1)) (Subsingleton.elim (α := Fin 1) 0 (y 0))).trans (ix2_eta y)
  have h := res2_ix x0 x2 (y 1)
  rw [e] at h
  exact h

end Cert.ReferenceNormMemIdeal.Grad

namespace Cert.NormMemClaim

/-- The kernel runs, and leaves its arguments and every counter as they were. -/
theorem frame_kernel (h : Cert.KernelNormMem.Facts) : Cert.quiescent_KernelNormMem (hKernelNormMem := h) :=
  fun m ρ _ => Cert.KernelNormMem.Gen.frame m ρ

/-- The same of its reading over the extended reals. -/
theorem frame_ideal (h : Cert.KernelNormMemIdeal.Facts) : Cert.quiescent_KernelNormMemIdeal (hKernelNormMemIdeal := h) :=
  fun m ρ _ => Cert.KernelNormMemIdeal.Gen.frame m ρ

/-- The reference's run leaves its arguments and every counter as they were. -/
theorem frame_ref (h : Cert.ReferenceNormMemIdeal.Facts) : Cert.quiescent_ReferenceNormMemIdeal (hReferenceNormMemIdeal := h) :=
  fun m ρ _ => (θ_run _ _ _).mono (fun r h => ⟨fun c => (h c).2.2.2, sem_eq_zero_of_no_sems (by decide) r.2⟩)
    (Cert.ReferenceNormMemIdeal.Value.run m ρ)

/-- The kernel's three results are the reference's. -/
theorem algebraic (h : Cert.KernelNormMemIdeal.Facts) (h' : Cert.ReferenceNormMemIdeal.Facts) :
    Cert.algebraic_KernelNormMemIdeal_ReferenceNormMemIdeal (hKernelNormMemIdeal := h) (hReferenceNormMemIdeal := h') := by
  intro m g m' g' hpre hargs
  refine ⟨fun c => Cert.KernelNormMemIdeal.Blocks.arrX m c, fun c => Cert.KernelNormMemIdeal.Blocks.arrX m c, fun c => Cert.KernelNormMemIdeal.Blocks.arrG m c,
    (θ_run _ _ _).mono (fun r h c => ?_) (Cert.KernelNormMemIdeal.Value.run_blocks m g),
    (θ_run _ _ _).mono (fun r h c => ?_) (Cert.ReferenceNormMemIdeal.Value.run m' g')⟩
  · obtain ⟨h0, h1, h2, hr⟩ := h c
    exact ⟨h0.trans (Cert.KernelNormMemIdeal.Blocks.final3 m c), h1.trans (Cert.KernelNormMemIdeal.Blocks.final4 m c),
      h2.trans (Cert.KernelNormMemIdeal.Blocks.final5 m c), hr⟩
  · obtain ⟨h0, h1, h2, hr⟩ := h c
    obtain ⟨a0, a1, a2⟩ := hargs c
    refine ⟨h0.trans ?_, h1.trans ?_, h2.trans ?_, hr⟩
    · rw [Cert.ReferenceNormMemIdeal.Read.val_main_v33_eq, a0, a1, a2]
      exact funext fun y => Cert.ReferenceNormMemIdeal.Grad.res0 _ _ _ y
    · rw [Cert.ReferenceNormMemIdeal.Read.val_main_v34_eq, a0, a1, a2]
      exact funext fun y => Cert.ReferenceNormMemIdeal.Grad.res1 _ _ _ y
    · rw [Cert.ReferenceNormMemIdeal.Read.val_main_v17_eq, a0, a2]
      exact funext fun y => Cert.ReferenceNormMemIdeal.Grad.res2 _ _ y

end Cert.NormMemClaim
-- ==== Proof.FNormBlock.lean ====
module

public import proofs.«01_k».proof.Proof.Gen.KernelFNormIdeal.Value
public import proofs.«01_k».proof.Proof.NormMath
public import Idealize.ShloMosaic.Lib.Pipeline.ValueKit

@[expose] public section
noncomputable section

open Idealize.ShloMosaic Idealize.ShloMosaic.TcCoe Idealize.SL.Sem

/-! A norm of the tokens, forward: the result of the kernel, at an index. -/

namespace Cert.KernelFNormIdeal.Blocks

open Cert.KernelFNormIdeal Cert.KernelFNormIdeal.Gen Cert.NormMath

/-- A row of a block. -/
def row (x : Vec Ideal S512x1024 .f32) (r : Fin 512) (k : Fin 1024) : EReal := x (ix2 r k)

theorem pay1_ix (x0 : Vec Ideal S512x1024 .f32) (x1 : Vec Ideal S1x1024 .f32) (r : Fin 512) (d : Fin 1024) :
    k0_pay1 (F := Ideal) x0 x1 (ix2 r d) = row x0 r d * rms (row x0 r) * x1 (ix2 0 d) := by
  pointwise [k0_pay1] <;> rfl

theorem ld_x {e : EltTy} (x : Vec Ideal S512x1024 e)
    (inb : ∀ a : Fin 2, (![0, 0] : Fin 2 → ℕ) a + (![512, 1024] : Fin 2 → ℕ) a ≤ S512x1024.size a) :
    View.ld x (Rect.unit ![0, 0] ![512, 1024] inb) = x := View.ld_unit_lit inb x (by decide)

theorem ld_1 {e : EltTy} (x : Vec Ideal S1x1024 e)
    (inb : ∀ a : Fin 2, (![0, 0] : Fin 2 → ℕ) a + (![1, 1024] : Fin 2 → ℕ) a ≤ S1x1024.size a) :
    View.ld x (Rect.unit ![0, 0] ![1, 1024] inb) = x := View.ld_unit_lit inb x (by decide)

theorem same_ix (x : S512x1024.Idx) (r : Fin 512) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

theorem out_apply (x0 : Vec Ideal S512x1024 .f32) (x1 : Vec Ideal S1x1024 .f32) (y : S512x1024.Idx) :
    out0_2 (F := Ideal) x0 x1 y = row x0 (y 0) (y 1) * rms (row x0 (y 0)) * x1 (ix2 0 (y 1)) := by
  unfold out0_2
  rw [ld_x, ld_1]
  canon_tiles x hx
  rw [same_ix x (y 0) (y 1) hx0 hx1]
  exact pay1_ix x0 x1 (y 0) (y 1)

variable (m : (ℓ : Loc nD τ sig) → Buf (Elt Ideal) ℓ) (c : Dev nD)

/-- The norm's input. -/
abbrev argX : S4096x1024.Idx → EReal := m ((c : Thread nD τ).loc main_arg0)
/-- The norm's scale. -/
abbrev argG : S1x1024.Idx → EReal := m ((c : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- A row of the norm's input. -/
def xrow (s : Fin 4096) (k : Fin 1024) : EReal := argX m c (ix2 s k)

/-- The result. -/
def arr (y : S4096x1024.Idx) : EReal := xrow m c (y 0) (y 1) * rms (xrow m c (y 0)) * argG m c (ix2 0 (y 1))

theorem row_x (t : Fin cfg0.N) (r : Fin 512) (s : Fin 4096) (hs : (s : ℕ) = t.val * 512 + r) : row (iblk m c 0 t) r = xrow m c s := by
  funext k
  unfold row xrow
  blk_simp [iblk]
  show V m c main_arg0 _ = V m c main_arg0 _
  congr 1
  blk_ext [index0 t]

theorem scale_g (t : Fin cfg0.N) (k : Fin 1024) : (iblk m c 1 t : Vec Ideal S1x1024 .f32) (ix2 0 k) = argG m c (ix2 0 k) := by
  blk_simp [iblk]
  show V m c main_arg1 _ = V m c main_arg1 _
  congr 1
  blk_ext [index1 t]

theorem eq2 (t : Fin cfg0.N) (r : Fin 512) (d : Fin 1024) (z : S4096x1024.Idx) (hz0 : (z 0 : ℕ) = t.val * 512 + r) (hz1 : (z 1 : ℕ) = d) :
    row (iblk m c 0 t) r d * rms (row (iblk m c 0 t) r) * (iblk m c 1 t : Vec Ideal S1x1024 .f32) (ix2 0 d) = arr m c z := by
  have e1 : z 1 = d := Fin.ext hz1
  unfold arr
  rw [row_x m c t r (z 0) hz0, scale_g, e1]

theorem final2 : (dats m 0 c).arrAt 2 cfg0.N = arr m c := by
  refine (dats m 0 c).arrAt_eq_of_covers 2 _ (by decide +kernel) fun t hf y => ?_
  blk_simp
  rw [after0_2]
  refine (out_apply _ _ _).trans (eq2 m c t _ _ _ ?_ ?_)
  · blk_simp [index2 t]
  · blk_simp [index2 t]

end Cert.KernelFNormIdeal.Blocks
-- ==== Proof.FNormClaim.lean ====
module

public import proofs.«01_k».proof.Defs
public import proofs.«01_k».proof.Proof.FNormBlock
public import proofs.«01_k».proof.Proof.Gen.KernelFNorm.Frame
public import proofs.«01_k».proof.Proof.Gen.ReferenceFNormIdeal.Run
public import proofs.«01_k».proof.Proof.Gen.ReferenceFNormIdeal.Read

@[expose] public section
noncomputable section

open Idealize.ShloMosaic Idealize.ShloMosaic.TcCoe Idealize.SL.Sem

/-! A norm of the tokens, forward: kernel and reference end with the same array. -/

namespace Cert.ReferenceFNormIdeal.Grad

open Cert.ReferenceFNormIdeal Cert.ReferenceFNormIdeal.Gen Cert.ReferenceFNormIdeal.Read Cert.NormMath

variable (x0 : (⟨S4096x1024, .f32⟩ : BufTy).Contents (Elt Ideal)) (x1 : (⟨S1x1024, .f32⟩ : BufTy).Contents (Elt Ideal))

/-- A row of the norm's input. -/
def xr (s : Fin 4096) (k : Fin 1024) : EReal := x0 (ix2 s k)

theorem rms_ix (s : Fin 4096) : val_main_v7 (F := Ideal) x0 (ix2 s 0) = rms (xr x0 s) := by
  pointwise [val_main_v7, val_main_v6, val_main_v5, val_main_v4, val_main_v3, val_main_v2, val_main_v1, val_main_v0, val_main_cst, val_main_cst_0, val_main_cst_1]
  rfl

theorem res_ix (s : Fin 4096) (d : Fin 1024) :
    val_main_v12 (F := Ideal) x0 x1 (ix2 s d) = xr x0 s d * rms (xr x0 s) * x1 (ix2 0 d) := by
  pointwise [val_main_v12, val_main_v11, val_main_v10, val_main_v9, val_main_v8, rms_ix]
  rfl

/-- The reference's result. -/
theorem res0 (y : S4096x1024.Idx) : val_main_v12 (F := Ideal) x0 x1 y = xr x0 (y 0) (y 1) * rms (xr x0 (y 0)) * x1 (ix2 0 (y 1)) := by
  have h := res_ix x0 x1 (y 0) (y 1)
  rw [ix2_eta] at h
  exact h

end Cert.ReferenceFNormIdeal.Grad

namespace Cert.FNormClaim

/-- The kernel runs, and leaves its arguments and every counter as they were. -/
theorem frame_kernel (h : Cert.KernelFNorm.Facts) : Cert.quiescent_KernelFNorm (hKernelFNorm := h) :=
  fun m ρ _ => Cert.KernelFNorm.Gen.frame m ρ

/-- The same of its reading over the extended reals. -/
theorem frame_ideal (h : Cert.KernelFNormIdeal.Facts) : Cert.quiescent_KernelFNormIdeal (hKernelFNormIdeal := h) :=
  fun m ρ _ => Cert.KernelFNormIdeal.Gen.frame m ρ

/-- The reference's run leaves its arguments and every counter as they were. -/
theorem frame_ref (h : Cert.ReferenceFNormIdeal.Facts) : Cert.quiescent_ReferenceFNormIdeal (hReferenceFNormIdeal := h) :=
  fun m ρ _ => (θ_run _ _ _).mono (fun r h => ⟨fun c => (h c).2, sem_eq_zero_of_no_sems (by decide) r.2⟩)
    (Cert.ReferenceFNormIdeal.Value.run m ρ)

/-- The kernel's result is the reference's. -/
theorem algebraic (h : Cert.KernelFNormIdeal.Facts) (h' : Cert.ReferenceFNormIdeal.Facts) :
    Cert.algebraic_KernelFNormIdeal_ReferenceFNormIdeal (hKernelFNormIdeal := h) (hReferenceFNormIdeal := h') := by
  intro m g m' g' hpre hargs
  refine ⟨fun c => Cert.KernelFNormIdeal.Blocks.arr m c,
    (θ_run _ _ _).mono (fun r h c => ?_) (Cert.KernelFNormIdeal.Value.run_blocks m g),
    (θ_run _ _ _).mono (fun r h c => ?_) (Cert.ReferenceFNormIdeal.Value.run m' g')⟩
  · obtain ⟨h0, hr⟩ := h c
    exact ⟨h0.trans (Cert.KernelFNormIdeal.Blocks.final2 m c), hr⟩
  · obtain ⟨h0, hr⟩ := h c
    obtain ⟨a0, a1⟩ := hargs c
    refine ⟨h0.trans ?_, hr⟩
    · rw [Cert.ReferenceFNormIdeal.Read.val_main_v12_eq, a0, a1]
      exact funext fun y => Cert.ReferenceFNormIdeal.Grad.res0 _ _ y

end Cert.FNormClaim
-- ==== Proof.FNormMemBlock.lean ====
module

public import proofs.«01_k».proof.Proof.Gen.KernelFNormMemIdeal.Value
public import proofs.«01_k».proof.Proof.NormMath
public import Idealize.ShloMosaic.Lib.Pipeline.ValueKit

@[expose] public section
noncomputable section

open Idealize.ShloMosaic Idealize.ShloMosaic.TcCoe Idealize.SL.Sem

/-! The norm of the memory's tokens, forward: the result of the kernel, at an index. -/

namespace Cert.KernelFNormMemIdeal.Blocks

open Cert.KernelFNormMemIdeal Cert.KernelFNormMemIdeal.Gen Cert.NormMath

/-- A row of a block. -/
def row (x : Vec Ideal S256x1024 .f32) (r : Fin 256) (k : Fin 1024) : EReal := x (ix2 r k)

theorem pay1_ix (x0 : Vec Ideal S256x1024 .f32) (x1 : Vec Ideal S1x1024 .f32) (r : Fin 256) (d : Fin 1024) :
    k0_pay1 (F := Ideal) x0 x1 (ix2 r d) = row x0 r d * rms (row x0 r) * x1 (ix2 0 d) := by
  pointwise [k0_pay1] <;> rfl

theorem ld_x {e : EltTy} (x : Vec Ideal S256x1024 e)
    (inb : ∀ a : Fin 2, (![0, 0] : Fin 2 → ℕ) a + (![256, 1024] : Fin 2 → ℕ) a ≤ S256x1024.size a) :
    View.ld x (Rect.unit ![0, 0] ![256, 1024] inb) = x := View.ld_unit_lit inb x (by decide)

theorem ld_1 {e : EltTy} (x : Vec Ideal S1x1024 e)
    (inb : ∀ a : Fin 2, (![0, 0] : Fin 2 → ℕ) a + (![1, 1024] : Fin 2 → ℕ) a ≤ S1x1024.size a) :
    View.ld x (Rect.unit ![0, 0] ![1, 1024] inb) = x := View.ld_unit_lit inb x (by decide)

theorem same_ix (x : S256x1024.Idx) (r : Fin 256) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

theorem out_apply (x0 : Vec Ideal S256x1024 .f32) (x1 : Vec Ideal S1x1024 .f32) (y : S256x1024.Idx) :
    out0_2 (F := Ideal) x0 x1 y = row x0 (y 0) (y 1) * rms (row x0 (y 0)) * x1 (ix2 0 (y 1)) := by
  unfold out0_2
  rw [ld_x, ld_1]
  canon_tiles x hx
  rw [same_ix x (y 0) (y 1) hx0 hx1]
  exact pay1_ix x0 x1 (y 0) (y 1)

variable (m : (ℓ : Loc nD τ sig) → Buf (Elt Ideal) ℓ) (c : Dev nD)

/-- The norm's input. -/
abbrev argX : S256x1024.Idx → EReal := m ((c : Thread nD τ).loc main_arg0)
/-- The norm's scale. -/
abbrev argG : S1x1024.Idx → EReal := m ((c : Thread nD τ).loc main_arg1)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- A row of the norm's input. -/
def xrow (s : Fin 256) (k : Fin 1024) : EReal := argX m c (ix2 s k)

/-- The result. -/
def arr (y : S256x1024.Idx) : EReal := xrow m c (y 0) (y 1) * rms (xrow m c (y 0)) * argG m c (ix2 0 (y 1))

theorem row_x (t : Fin cfg0.N) (r : Fin 256) (s : Fin 256) (hs : (s : ℕ) = t.val * 256 + r) : row (iblk m c 0 t) r = xrow m c s := by
  funext k
  unfold row xrow
  blk_simp [iblk]
  show V m c main_arg0 _ = V m c main_arg0 _
  congr 1
  blk_ext [index0 t]

theorem scale_g (t : Fin cfg0.N) (k : Fin 1024) : (iblk m c 1 t : Vec Ideal S1x1024 .f32) (ix2 0 k) = argG m c (ix2 0 k) := by
  blk_simp [iblk]
  show V m c main_arg1 _ = V m c main_arg1 _
  congr 1
  blk_ext [index1 t]

theorem eq2 (t : Fin cfg0.N) (r : Fin 256) (d : Fin 1024) (z : S256x1024.Idx) (hz0 : (z 0 : ℕ) = t.val * 256 + r) (hz1 : (z 1 : ℕ) = d) :
    row (iblk m c 0 t) r d * rms (row (iblk m c 0 t) r) * (iblk m c 1 t : Vec Ideal S1x1024 .f32) (ix2 0 d) = arr m c z := by
  have e1 : z 1 = d := Fin.ext hz1
  unfold arr
  rw [row_x m c t r (z 0) hz0, scale_g, e1]

theorem final2 : (dats m 0 c).arrAt 2 cfg0.N = arr m c := by
  refine (dats m 0 c).arrAt_eq_of_covers 2 _ (by decide +kernel) fun t hf y => ?_
  blk_simp
  rw [after0_2]
  refine (out_apply _ _ _).trans (eq2 m c t _ _ _ ?_ ?_)
  · blk_simp [index2 t]
  · blk_simp [index2 t]

end Cert.KernelFNormMemIdeal.Blocks
-- ==== Proof.FNormMemClaim.lean ====
module

public import proofs.«01_k».proof.Defs
public import proofs.«01_k».proof.Proof.FNormMemBlock
public import proofs.«01_k».proof.Proof.Gen.KernelFNormMem.Frame
public import proofs.«01_k».proof.Proof.Gen.ReferenceFNormMemIdeal.Run
public import proofs.«01_k».proof.Proof.Gen.ReferenceFNormMemIdeal.Read

@[expose] public section
noncomputable section

open Idealize.ShloMosaic Idealize.ShloMosaic.TcCoe Idealize.SL.Sem

/-! The norm of the memory's tokens, forward: kernel and reference end with the same array. -/

namespace Cert.ReferenceFNormMemIdeal.Grad

open Cert.ReferenceFNormMemIdeal Cert.ReferenceFNormMemIdeal.Gen Cert.ReferenceFNormMemIdeal.Read Cert.NormMath

variable (x0 : (⟨S256x1024, .f32⟩ : BufTy).Contents (Elt Ideal)) (x1 : (⟨S1x1024, .f32⟩ : BufTy).Contents (Elt Ideal))

/-- A row of the norm's input. -/
def xr (s : Fin 256) (k : Fin 1024) : EReal := x0 (ix2 s k)

theorem rms_ix (s : Fin 256) : val_main_v7 (F := Ideal) x0 (ix2 s 0) = rms (xr x0 s) := by
  pointwise [val_main_v7, val_main_v6, val_main_v5, val_main_v4, val_main_v3, val_main_v2, val_main_v1, val_main_v0, val_main_cst, val_main_cst_0, val_main_cst_1]
  rfl

theorem res_ix (s : Fin 256) (d : Fin 1024) :
    val_main_v12 (F := Ideal) x0 x1 (ix2 s d) = xr x0 s d * rms (xr x0 s) * x1 (ix2 0 d) := by
  pointwise [val_main_v12, val_main_v11, val_main_v10, val_main_v9, val_main_v8, rms_ix]
  rfl

/-- The reference's result. -/
theorem res0 (y : S256x1024.Idx) : val_main_v12 (F := Ideal) x0 x1 y = xr x0 (y 0) (y 1) * rms (xr x0 (y 0)) * x1 (ix2 0 (y 1)) := by
  have h := res_ix x0 x1 (y 0) (y 1)
  rw [ix2_eta] at h
  exact h

end Cert.ReferenceFNormMemIdeal.Grad

namespace Cert.FNormMemClaim

/-- The kernel runs, and leaves its arguments and every counter as they were. -/
theorem frame_kernel (h : Cert.KernelFNormMem.Facts) : Cert.quiescent_KernelFNormMem (hKernelFNormMem := h) :=
  fun m ρ _ => Cert.KernelFNormMem.Gen.frame m ρ

/-- The same of its reading over the extended reals. -/
theorem frame_ideal (h : Cert.KernelFNormMemIdeal.Facts) : Cert.quiescent_KernelFNormMemIdeal (hKernelFNormMemIdeal := h) :=
  fun m ρ _ => Cert.KernelFNormMemIdeal.Gen.frame m ρ

/-- The reference's run leaves its arguments and every counter as they were. -/
theorem frame_ref (h : Cert.ReferenceFNormMemIdeal.Facts) : Cert.quiescent_ReferenceFNormMemIdeal (hReferenceFNormMemIdeal := h) :=
  fun m ρ _ => (θ_run _ _ _).mono (fun r h => ⟨fun c => (h c).2, sem_eq_zero_of_no_sems (by decide) r.2⟩)
    (Cert.ReferenceFNormMemIdeal.Value.run m ρ)

/-- The kernel's result is the reference's. -/
theorem algebraic (h : Cert.KernelFNormMemIdeal.Facts) (h' : Cert.ReferenceFNormMemIdeal.Facts) :
    Cert.algebraic_KernelFNormMemIdeal_ReferenceFNormMemIdeal (hKernelFNormMemIdeal := h) (hReferenceFNormMemIdeal := h') := by
  intro m g m' g' hpre hargs
  refine ⟨fun c => Cert.KernelFNormMemIdeal.Blocks.arr m c,
    (θ_run _ _ _).mono (fun r h c => ?_) (Cert.KernelFNormMemIdeal.Value.run_blocks m g),
    (θ_run _ _ _).mono (fun r h c => ?_) (Cert.ReferenceFNormMemIdeal.Value.run m' g')⟩
  · obtain ⟨h0, hr⟩ := h c
    exact ⟨h0.trans (Cert.KernelFNormMemIdeal.Blocks.final2 m c), hr⟩
  · obtain ⟨h0, hr⟩ := h c
    obtain ⟨a0, a1⟩ := hargs c
    refine ⟨h0.trans ?_, hr⟩
    · rw [Cert.ReferenceFNormMemIdeal.Read.val_main_v12_eq, a0, a1]
      exact funext fun y => Cert.ReferenceFNormMemIdeal.Grad.res0 _ _ y

end Cert.FNormMemClaim
-- ==== Proof.LossMath.lean ====
module

public import proofs.«01_k».proof.Proof.NormMath
public import proofs.«01_k».proof.Proof.AttnMath

@[expose] public section
noncomputable section

open Idealize.ShloMosaic

/-! The loss of a row after the last norm, its gradient, and a running sum over points. -/

namespace Cert.LossMath

open Cert.NormMath

/-- One half, as stored. -/
def half : EReal := Ideal.ofBits .f32 0x3F000000#32
/-- Two, as stored. -/
def two : EReal := Ideal.ofBits .f32 0x40000000#32
/-- The reciprocal of the row length, as stored. -/
def inv : EReal := Ideal.ofBits .f32 0x3A800000#32

theorem half_eq : half = ((1 / 2 : ℝ) : EReal) := by
  simp [half, Ideal.ofBits, Ideal.ieee, -EReal.coe_mul]
  norm_num

theorem two_eq : two = ((2 : ℝ) : EReal) := by
  simp [two, Ideal.ofBits, Ideal.ieee, -EReal.coe_mul]
  norm_num

theorem inv_eq : inv = ((1 / 1024 : ℝ) : EReal) := by
  simp [inv, Ideal.ofBits, Ideal.ieee, -EReal.coe_mul]
  norm_num

/-- The normed row less its target. -/
def err (x g y : Fin 1024 → EReal) (d : Fin 1024) : EReal := x d * rms x * g d - y d

/-- The mean of a row's squared errors. -/
def mse (x g y : Fin 1024 → EReal) : EReal := Ideal.div (∑ k, err x g y k * err x g y k) cnt

/-- The loss's gradient at the norm's output. -/
def dy (x g y : Fin 1024 → EReal) (d : Fin 1024) : EReal := err x g y d * inv

/-- The reference's form of that gradient. -/
theorem ref_dy (e : EReal) : Ideal.div half cnt * (two * e) = e * inv := by
  rw [half_eq, two_eq, inv_eq, cnt_eq, Ideal.div_coe (by norm_num), ← mul_assoc, ← EReal.coe_mul, ← EReal.coe_mul, mul_comm]
  norm_num

/-- One half passes through a sum. -/
theorem half_sum {ι : Type*} (t : Finset ι) (f : ι → EReal) : ∑ j ∈ t, half * f j = half * ∑ j ∈ t, f j := by
  rw [half_eq, mul_comm, Cert.AttnMath.sum_mul_coe _ _ (by norm_num)]
  exact Finset.sum_congr rfl fun j _ => mul_comm _ _

/-- A value that the first point sets and each later one adds to. -/
theorem run_eq {N : ℕ} (f : (n : ℕ) → n < N → EReal) (p : ℕ → EReal) (first : ∀ h, f 0 h = p 0)
    (next : ∀ n h, f (n + 1) h = f n (Nat.lt_of_succ_lt h) + p (n + 1)) :
    ∀ (n : ℕ) (h : n < N), f n h = ∑ j ∈ Finset.range (n + 1), p j
  | 0, h => by rw [first h, Finset.sum_range_one]
  | n + 1, h => by rw [next n h, Finset.sum_range_succ, ← run_eq f p first next n (Nat.lt_of_succ_lt h)]

end Cert.LossMath
-- ==== Proof.LossBlock.lean ====
module

public import proofs.«01_k».proof.Proof.Gen.KernelLossIdeal.Value
public import proofs.«01_k».proof.Proof.LossMath
public import Idealize.ShloMosaic.Lib.Pipeline.ValueKit
public import Idealize.ShloMosaic.Lib.Pipeline.ReadBack

@[expose] public section
noncomputable section

open Idealize.ShloMosaic Idealize.ShloMosaic.TcCoe Idealize.SL.Sem

/-! The loss after the last norm, and its gradient: the four results of the kernel, at an index. -/

namespace Cert.KernelLossIdeal.Blocks

open Cert.KernelLossIdeal Cert.KernelLossIdeal.Gen Cert.NormMath Cert.LossMath

/-- A row of a block. -/
def row (x : Vec Ideal S512x1024 .f32) (r : Fin 512) (d : Fin 1024) : EReal := x (ix2 r d)

/-- The scale's row. -/
def line (g : Vec Ideal S1x1024 .f32) (d : Fin 1024) : EReal := g (ix2 0 d)

theorem pay6_ix (x : Vec Ideal S512x1024 .f32) (r : Fin 512) : k0_pay6 (F := Ideal) x (ix2 r 0) = rms (row x r) := by
  pointwise [k0_pay6]
  rfl

theorem pay7_ix (x : Vec Ideal S512x1024 .f32) (r : Fin 512) (d : Fin 1024) :
    k0_pay7 (F := Ideal) x (ix2 r d) = row x r d * rms (row x r) := by
  pointwise [k0_pay7]
  rw [pay6_ix]
  rfl

theorem pay8_ix (x : Vec Ideal S512x1024 .f32) (g : Vec Ideal S1x1024 .f32) (y : Vec Ideal S512x1024 .f32) (r : Fin 512) (d : Fin 1024) :
    k0_pay8 (F := Ideal) x g y (ix2 r d) = err (row x r) (line g) (row y r) d := by
  pointwise [k0_pay8]
  rw [pay7_ix]
  rfl

/-- What a point adds to the loss. -/
def lossBlk (x : Vec Ideal S512x1024 .f32) (g : Vec Ideal S1x1024 .f32) (y : Vec Ideal S512x1024 .f32) : EReal :=
  half * ∑ r, mse (row x r) (line g) (row y r)

theorem pay9_ix (x : Vec Ideal S512x1024 .f32) (g : Vec Ideal S1x1024 .f32) (y : Vec Ideal S512x1024 .f32) :
    k0_pay9 (F := Ideal) x g y (ix2 0 0) = lossBlk x g y := by
  pointwise [k0_pay9, pay8_ix] <;> rfl

theorem pay10_ix (x : Vec Ideal S512x1024 .f32) (g : Vec Ideal S1x1024 .f32) (y : Vec Ideal S512x1024 .f32) (r : Fin 512) (d : Fin 1024) :
    k0_pay10 (F := Ideal) x g y (ix2 r d) = dy (row x r) (line g) (row y r) d := by
  pointwise [k0_pay10, pay8_ix] <;> rfl

/-- The gradient at the norm's input. -/
def dxBlk (x : Vec Ideal S512x1024 .f32) (g : Vec Ideal S1x1024 .f32) (y : Vec Ideal S512x1024 .f32) (r : Fin 512) (d : Fin 1024) : EReal :=
  dx (row x r) (fun k => dy (row x r) (line g) (row y r) k * line g k) 0 d

theorem pay11_ix (x : Vec Ideal S512x1024 .f32) (g : Vec Ideal S1x1024 .f32) (y : Vec Ideal S512x1024 .f32) (r : Fin 512) (d : Fin 1024) :
    k0_pay11 (F := Ideal) x g y (ix2 r d) = dxBlk x g y r d := by
  unfold dxBlk dx
  rw [add_zero]
  pointwise [k0_pay11, pay6_ix, pay7_ix, pay10_ix]
  rfl

theorem pay1_ix (v : FVec Ideal S512x1024 .f32) (r : Fin 512) (d : Fin 1024) : k0_pay1 (F := Ideal) v (ix2 r d) = v (ix2 r d) := by
  pointwise [k0_pay1]

theorem pay2_ix (d : Fin 1024) : k0_pay2 (F := Ideal) (ix2 0 d) = 0 := by
  pointwise [k0_pay2]

theorem pay3_ix (e : Fin 128) : k0_pay3 (F := Ideal) (ix2 0 e) = 0 := by
  pointwise [k0_pay3]

/-- What a point adds to the scale's gradient. -/
def dgBlk (x : Vec Ideal S512x1024 .f32) (g : Vec Ideal S1x1024 .f32) (y : Vec Ideal S512x1024 .f32) (d : Fin 1024) : EReal :=
  ∑ r : Fin 512, dy (row x r) (line g) (row y r) d * (row x r d * rms (row x r))

theorem pay4_ix (x : Vec Ideal S512x1024 .f32) (g : Vec Ideal S1x1024 .f32) (y : Vec Ideal S512x1024 .f32) (o : Vec Ideal S1x1024 .f32) (d : Fin 1024) :
    k0_pay4 (F := Ideal) (k0_pay7 x) (k0_pay10 x g y) o (ix2 0 d) = o (ix2 0 d) + dgBlk x g y d := by
  pointwise [k0_pay4, pay7_ix, pay10_ix] <;> rfl

theorem pay5_ix (v : FVec Ideal S1x1 .f32) (o : Vec Ideal S1x128 .f32) (e : Fin 128) :
    k0_pay5 (F := Ideal) v o (ix2 0 e) = o (ix2 0 e) + v (ix2 0 0) := by
  pointwise [k0_pay5] <;> rfl

theorem ld_x {e : EltTy} (x : Vec Ideal S512x1024 e)
    (inb : ∀ a : Fin 2, (![0, 0] : Fin 2 → ℕ) a + (![512, 1024] : Fin 2 → ℕ) a ≤ S512x1024.size a) :
    View.ld x (Rect.unit ![0, 0] ![512, 1024] inb) = x := View.ld_unit_lit inb x (by decide)

theorem ld_1 {e : EltTy} (x : Vec Ideal S1x1024 e)
    (inb : ∀ a : Fin 2, (![0, 0] : Fin 2 → ℕ) a + (![1, 1024] : Fin 2 → ℕ) a ≤ S1x1024.size a) :
    View.ld x (Rect.unit ![0, 0] ![1, 1024] inb) = x := View.ld_unit_lit inb x (by decide)

theorem ld_l {e : EltTy} (x : Vec Ideal S1x128 e)
    (inb : ∀ a : Fin 2, (![0, 0] : Fin 2 → ℕ) a + (![1, 128] : Fin 2 → ℕ) a ≤ S1x128.size a) :
    View.ld x (Rect.unit ![0, 0] ![1, 128] inb) = x := View.ld_unit_lit inb x (by decide)

theorem same_ix (x : S512x1024.Idx) (r : Fin 512) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

theorem same_ix1 (x : S1x1024.Idx) (d : Fin 1024) (h1 : (d : ℕ) = x 1) : x = ix2 0 d :=
  funext fun a => by
    match a with
    | ⟨0, _⟩ => exact Subsingleton.elim (α := Fin 1) _ _
    | ⟨1, _⟩ => exact Fin.ext h1.symm

theorem same_ixl (x : S1x128.Idx) (d : Fin 128) (h1 : (d : ℕ) = x 1) : x = ix2 0 d :=
  funext fun a => by
    match a with
    | ⟨0, _⟩ => exact Subsingleton.elim (α := Fin 1) _ _
    | ⟨1, _⟩ => exact Fin.ext h1.symm

theorem zero2 : ∀ a : Fin 2, (![0, 0] : Fin 2 → ℕ) a = 0 := by decide

section Points
variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S1x128 .f32) (h4 : a4.IsWhole) (a5 : Memref sig .tc .vmem S512x1024 .f32) (h5 : a5.IsWhole)
  (a6 : Memref sig .tc .vmem S512x1024 .bf16) (h6 : a6.IsWhole) (a7 : Memref sig .tc .vmem S1x1024 .f32) (h7 : a7.IsWhole)
  (x0 : Vec Ideal S512x1024 .f32) (x1 : Vec Ideal S1x1024 .f32) (x2 : Vec Ideal S512x1024 .f32)
  (xl : Vec Ideal S1x128 .f32) (xg : Vec Ideal S1x1024 .f32) (r : Fin 512) (d : Fin 1024) (e : Fin 128)

theorem out_A3 (hc0 : cond0_0 i) : out0_A_3 (F := Ideal) c i a1 h1 a2 h2 a3 h3 a4 h4 a5 h5 a6 h6 a7 h7 hc0 x0 x1 x2 (ix2 0 e) = lossBlk x0 x1 x2 := by
  unfold out0_A_3
  rw [View.read_writes_eq_canon _ _ _ (cover0_A_3 c i a1 h1 a2 h2 a3 h3 a4 h4 a5 h5 a6 h6 a7 h7 hc0 x0 x1 x2)]
  unfold kernelRun0_A
  dsimp only
  sl_unfold_words
  simp only [View.readAt_eq_ld, h1.read_unread, h2.read_unread, h3.read_unread, h4.read_unread, h7.read_unread, ld_x, ld_1, ld_l]
  simp (disch := first | decide +kernel | exact zero2) only [↓View.readCov_skip, ↓View.readCov_fill]
  refine (congrFun (View.canon_cons_unit_lit inb_S1x128_S1x128_0_0 _ _ (by decide)) _).trans ?_
  rw [pay5_ix, pay9_ix, ld_l, pay3_ix, zero_add]

theorem out_A4 (hc0 : cond0_0 i) : out0_A_4 (F := Ideal) c i a1 h1 a2 h2 a3 h3 a4 h4 a5 h5 a6 h6 a7 h7 hc0 x0 x1 x2 (ix2 r d) = dxBlk x0 x1 x2 r d := by
  unfold out0_A_4
  rw [View.read_writes_eq_canon _ _ _ (cover0_A_4 c i a1 h1 a2 h2 a3 h3 a4 h4 a5 h5 a6 h6 a7 h7 hc0 x0 x1 x2)]
  unfold kernelRun0_A
  dsimp only
  sl_unfold_words
  simp only [View.readAt_eq_ld, h1.read_unread, h2.read_unread, h3.read_unread, h4.read_unread, h7.read_unread, ld_x, ld_1, ld_l]
  canon_tiles x hx
  rw [same_ix x r d hx0 hx1, pay11_ix]

theorem out_A5 (hc0 : cond0_0 i) : out0_A_5 (F := Ideal) c i a1 h1 a2 h2 a3 h3 a4 h4 a5 h5 a6 h6 a7 h7 hc0 x0 x1 x2 (ix2 r d) = dxBlk x0 x1 x2 r d := by
  unfold out0_A_5
  rw [View.read_writes_eq_canon _ _ _ (cover0_A_5 c i a1 h1 a2 h2 a3 h3 a4 h4 a5 h5 a6 h6 a7 h7 hc0 x0 x1 x2)]
  unfold kernelRun0_A
  dsimp only
  sl_unfold_words
  simp only [View.readAt_eq_ld, h1.read_unread, h2.read_unread, h3.read_unread, h4.read_unread, h7.read_unread, ld_x, ld_1, ld_l]
  canon_tiles x hx
  rw [same_ix x r d hx0 hx1, pay1_ix, pay11_ix]

theorem out_A6 (hc0 : cond0_0 i) : out0_A_6 (F := Ideal) c i a1 h1 a2 h2 a3 h3 a4 h4 a5 h5 a6 h6 a7 h7 hc0 x0 x1 x2 (ix2 0 d) = dgBlk x0 x1 x2 d := by
  unfold out0_A_6
  rw [View.read_writes_eq_canon _ _ _ (cover0_A_6 c i a1 h1 a2 h2 a3 h3 a4 h4 a5 h5 a6 h6 a7 h7 hc0 x0 x1 x2)]
  unfold kernelRun0_A
  dsimp only
  sl_unfold_words
  simp only [View.readAt_eq_ld, h1.read_unread, h2.read_unread, h3.read_unread, h4.read_unread, h7.read_unread, ld_x, ld_1, ld_l]
  simp (disch := first | decide +kernel | exact zero2) only [↓View.readCov_skip, ↓View.readCov_fill]
  refine (congrFun (View.canon_cons_unit_lit inb_S1x1024_S1x1024_0_0 _ _ (by decide)) _).trans ?_
  rw [pay4_ix, ld_1, pay2_ix, zero_add]

theorem out_B3 (hc0 : ¬cond0_0 i) : out0_B_3 (F := Ideal) c i a1 h1 a2 h2 a3 h3 a4 h4 a5 h5 a6 h6 a7 h7 hc0 x0 x1 x2 xl xg (ix2 0 e) = xl (ix2 0 e) + lossBlk x0 x1 x2 := by
  unfold out0_B_3
  rw [View.read_writes_eq_canon _ _ _ (cover0_B_3 c i a1 h1 a2 h2 a3 h3 a4 h4 a5 h5 a6 h6 a7 h7 hc0 x0 x1 x2 xl xg)]
  unfold kernelRun0_B
  dsimp only
  sl_unfold_words
  simp only [View.readAt_eq_ld, h1.read_unread, h2.read_unread, h3.read_unread, h4.read_unread, h7.read_unread, ld_x, ld_1, ld_l]
  canon_tiles x hx
  rw [same_ixl x e hx1, pay5_ix, pay9_ix]

theorem out_B4 (hc0 : ¬cond0_0 i) : out0_B_4 (F := Ideal) c i a1 h1 a2 h2 a3 h3 a4 h4 a5 h5 a6 h6 a7 h7 hc0 x0 x1 x2 xl xg (ix2 r d) = dxBlk x0 x1 x2 r d := by
  unfold out0_B_4
  rw [View.read_writes_eq_canon _ _ _ (cover0_B_4 c i a1 h1 a2 h2 a3 h3 a4 h4 a5 h5 a6 h6 a7 h7 hc0 x0 x1 x2 xl xg)]
  unfold kernelRun0_B
  dsimp only
  sl_unfold_words
  simp only [View.readAt_eq_ld, h1.read_unread, h2.read_unread, h3.read_unread, h4.read_unread, h7.read_unread, ld_x, ld_1, ld_l]
  canon_tiles x hx
  rw [same_ix x r d hx0 hx1, pay11_ix]

theorem out_B5 (hc0 : ¬cond0_0 i) : out0_B_5 (F := Ideal) c i a1 h1 a2 h2 a3 h3 a4 h4 a5 h5 a6 h6 a7 h7 hc0 x0 x1 x2 xl xg (ix2 r d) = dxBlk x0 x1 x2 r d := by
  unfold out0_B_5
  rw [View.read_writes_eq_canon _ _ _ (cover0_B_5 c i a1 h1 a2 h2 a3 h3 a4 h4 a5 h5 a6 h6 a7 h7 hc0 x0 x1 x2 xl xg)]
  unfold kernelRun0_B
  dsimp only
  sl_unfold_words
  simp only [View.readAt_eq_ld, h1.read_unread, h2.read_unread, h3.read_unread, h4.read_unread, h7.read_unread, ld_x, ld_1, ld_l]
  canon_tiles x hx
  rw [same_ix x r d hx0 hx1, pay1_ix, pay11_ix]

theorem out_B6 (hc0 : ¬cond0_0 i) : out0_B_6 (F := Ideal) c i a1 h1 a2 h2 a3 h3 a4 h4 a5 h5 a6 h6 a7 h7 hc0 x0 x1 x2 xl xg (ix2 0 d) = xg (ix2 0 d) + dgBlk x0 x1 x2 d := by
  unfold out0_B_6
  rw [View.read_writes_eq_canon _ _ _ (cover0_B_6 c i a1 h1 a2 h2 a3 h3 a4 h4 a5 h5 a6 h6 a7 h7 hc0 x0 x1 x2 xl xg)]
  unfold kernelRun0_B
  dsimp only
  sl_unfold_words
  simp only [View.readAt_eq_ld, h1.read_unread, h2.read_unread, h3.read_unread, h4.read_unread, h7.read_unread, ld_x, ld_1, ld_l]
  canon_tiles x hx
  rw [same_ix1 x d hx1, pay4_ix]

end Points

variable (m : (ℓ : Loc nD τ sig) → Buf (Elt Ideal) ℓ) (c : Dev nD)

/-- The norm's input. -/
abbrev argX : S4096x1024.Idx → EReal := m ((c : Thread nD τ).loc main_arg0)
/-- The norm's scale. -/
abbrev argG : S1x1024.Idx → EReal := m ((c : Thread nD τ).loc main_arg1)
/-- The targets. -/
abbrev argY : S4096x1024.Idx → EReal := m ((c : Thread nD τ).loc main_arg2)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)

/-- A row of the norm's input. -/
def xrow (s : Fin 4096) (k : Fin 1024) : EReal := argX m c (ix2 s k)
/-- The scale's row. -/
def grow (k : Fin 1024) : EReal := argG m c (ix2 0 k)
/-- A row of the targets. -/
def yrow (s : Fin 4096) (k : Fin 1024) : EReal := argY m c (ix2 s k)

/-- The loss, at each of its places. -/
def arrL (_ : S1x128.Idx) : EReal := half * ∑ s, mse (xrow m c s) (grow m c) (yrow m c s)

/-- The gradient at the norm's input. -/
def arrX (y : S4096x1024.Idx) : EReal :=
  dx (xrow m c (y 0)) (fun k => dy (xrow m c (y 0)) (grow m c) (yrow m c (y 0)) k * grow m c k) 0 (y 1)

/-- The gradient of the norm's scale. -/
def arrG (y : S1x1024.Idx) : EReal :=
  ∑ s, dy (xrow m c s) (grow m c) (yrow m c s) (y 1) * (xrow m c s (y 1) * rms (xrow m c s))

theorem row_x (t : Fin cfg0.N) (r : Fin 512) (s : Fin 4096) (hs : (s : ℕ) = t.val * 512 + r) : row (iblk m c 0 t) r = xrow m c s := by
  funext k
  unfold row xrow
  blk_simp [iblk]
  show V m c main_arg0 _ = V m c main_arg0 _
  congr 1
  blk_ext [index0 t]

theorem row_y (t : Fin cfg0.N) (r : Fin 512) (s : Fin 4096) (hs : (s : ℕ) = t.val * 512 + r) : row (iblk m c 2 t) r = yrow m c s := by
  funext k
  unfold row yrow
  blk_simp [iblk]
  show V m c main_arg2 _ = V m c main_arg2 _
  congr 1
  blk_ext [index2 t]

theorem line_g (t : Fin cfg0.N) : line (iblk m c 1 t) = grow m c := by
  funext k
  unfold line grow
  blk_simp [iblk]
  show V m c main_arg1 _ = V m c main_arg1 _
  congr 1
  blk_ext [index1 t]

theorem dx_eq (t : Fin cfg0.N) (r : Fin 512) (d : Fin 1024) (s : Fin 4096) (hs : (s : ℕ) = t.val * 512 + r) :
    dxBlk (iblk m c 0 t) (iblk m c 1 t) (iblk m c 2 t) r d = arrX m c (ix2 s d) := by
  unfold dxBlk
  rw [row_x m c t r s hs, row_y m c t r s hs, line_g]
  rfl

/-- The two outputs at the norm's input after a point. -/
theorem outs_eq (t : Fin cfg0.N) (r : Fin 512) (d : Fin 1024) (s : Fin 4096) (hs : (s : ℕ) = t.val * 512 + r) :
    (outsAt0 m c t.val t.isLt).2.1 (ix2 r d) = arrX m c (ix2 s d) ∧ (outsAt0 m c t.val t.isLt).2.2.1 (ix2 r d) = arrX m c (ix2 s d) := by
  rw [← dx_eq m c t r d s hs]
  by_cases h0 : t.val % 8 = 0
  · rw [outsAt0_A m c t h0]
    dsimp only
    rw [out_A4, out_A5]
    exact ⟨rfl, rfl⟩
  · rw [outsAt0_B m c t h0]
    dsimp only
    rw [out_B4, out_B5]
    exact ⟨rfl, rfl⟩

/-- The position of a tile's row. -/
def rowAt (t : Fin cfg0.N) (r : Fin 512) : Fin 4096 :=
  ⟨t.val * 512 + r.val, by have := t.isLt; have hN : cfg0.N = 8 := N_0; omega⟩

/-- What point `n` adds to the loss. -/
def lpart (n : ℕ) : EReal := if h : n < cfg0.N then lossBlk (iblk m c 0 ⟨n, h⟩) (iblk m c 1 ⟨n, h⟩) (iblk m c 2 ⟨n, h⟩) else 0

/-- What point `n` adds to the scale's gradient. -/
def gpart (d : Fin 1024) (n : ℕ) : EReal :=
  if h : n < cfg0.N then dgBlk (iblk m c 0 ⟨n, h⟩) (iblk m c 1 ⟨n, h⟩) (iblk m c 2 ⟨n, h⟩) d else 0

theorem lpart_eq (t : Fin cfg0.N) : lpart m c t.val = half * ∑ r : Fin 512, mse (xrow m c (rowAt t r)) (grow m c) (yrow m c (rowAt t r)) := by
  unfold lpart
  rw [dif_pos t.isLt]
  unfold lossBlk
  refine congrArg (half * ·) (Finset.sum_congr rfl fun r _ => ?_)
  rw [row_x m c t r (rowAt t r) rfl, row_y m c t r (rowAt t r) rfl, line_g]

theorem gpart_eq (d : Fin 1024) (t : Fin cfg0.N) :
    gpart m c d t.val = ∑ r : Fin 512, dy (xrow m c (rowAt t r)) (grow m c) (yrow m c (rowAt t r)) d
      * (xrow m c (rowAt t r) d * rms (xrow m c (rowAt t r))) := by
  unfold gpart
  rw [dif_pos t.isLt]
  unfold dgBlk
  refine Finset.sum_congr rfl fun r _ => ?_
  rw [row_x m c t r (rowAt t r) rfl, row_y m c t r (rowAt t r) rfl, line_g]

theorem l_first (e : Fin 128) (h : 0 < cfg0.N) : (outsAt0 m c 0 h).1 (ix2 0 e) = lpart m c 0 := by
  unfold lpart
  rw [dif_pos h, outsAt0_A m c ⟨0, h⟩ rfl]
  dsimp only
  rw [out_A3]

theorem l_next (e : Fin 128) (n : ℕ) (h : n + 1 < cfg0.N) :
    (outsAt0 m c (n + 1) h).1 (ix2 0 e) = (outsAt0 m c n (Nat.lt_of_succ_lt h)).1 (ix2 0 e) + lpart m c (n + 1) := by
  have hN : cfg0.N = 8 := N_0
  unfold lpart
  rw [dif_pos h, outsAt0_B m c ⟨n + 1, h⟩ (by dsimp only; omega)]
  dsimp only
  rw [out_B3]
  rfl

theorem g_first (d : Fin 1024) (h : 0 < cfg0.N) : (outsAt0 m c 0 h).2.2.2 (ix2 0 d) = gpart m c d 0 := by
  unfold gpart
  rw [dif_pos h, outsAt0_A m c ⟨0, h⟩ rfl]
  dsimp only
  rw [out_A6]

theorem g_next (d : Fin 1024) (n : ℕ) (h : n + 1 < cfg0.N) :
    (outsAt0 m c (n + 1) h).2.2.2 (ix2 0 d) = (outsAt0 m c n (Nat.lt_of_succ_lt h)).2.2.2 (ix2 0 d) + gpart m c d (n + 1) := by
  have hN : cfg0.N = 8 := N_0
  unfold gpart
  rw [dif_pos h, outsAt0_B m c ⟨n + 1, h⟩ (by dsimp only; omega)]
  dsimp only
  rw [out_B6]
  rfl

/-- The loss after the last point. -/
theorem out3_eq (t : Fin cfg0.N) (ht : t.val = 7) (e : Fin 128) : (outsAt0 m c t.val t.isLt).1 (ix2 0 e) = arrL m c (ix2 0 e) := by
  have hN : cfg0.N = 8 := N_0
  rw [run_eq (fun n h => (outsAt0 m c n h).1 (ix2 0 e)) (lpart m c) (l_first m c e) (l_next m c e) t.val t.isLt,
    show t.val + 1 = 8 by omega, Finset.sum_range]
  unfold arrL
  rw [Fin.sum_univ_tiles 8 512 rfl, ← half_sum]
  refine Finset.sum_congr rfl fun j _ => ?_
  have hb : j.val < cfg0.N := by omega
  exact lpart_eq m c ⟨_, hb⟩

/-- The scale's gradient after the last point. -/
theorem out6_eq (t : Fin cfg0.N) (ht : t.val = 7) (d : Fin 1024) : (outsAt0 m c t.val t.isLt).2.2.2 (ix2 0 d) = arrG m c (ix2 0 d) := by
  have hN : cfg0.N = 8 := N_0
  rw [run_eq (fun n h => (outsAt0 m c n h).2.2.2 (ix2 0 d)) (gpart m c d) (g_first m c d) (g_next m c d) t.val t.isLt,
    show t.val + 1 = 8 by omega, Finset.sum_range]
  unfold arrG
  rw [Fin.sum_univ_tiles 8 512 rfl]
  refine Finset.sum_congr rfl fun j _ => ?_
  have hb : j.val < cfg0.N := by omega
  exact gpart_eq m c d ⟨_, hb⟩

theorem final4 : (dats m 0 c).arrAt 4 cfg0.N = arrX m c := by
  refine (dats m 0 c).arrAt_eq_of_covers 4 _ (by decide +kernel) fun t hf y => ?_
  blk_simp
  rw [after0_4]
  have h := (outs_eq m c t (y 0) (y 1) ⟨t.val * 512 + (y 0).val, by
    have hl : t.val < 8 := lt_of_lt_of_eq t.isLt N_0; have h0 : (y 0).val < 512 := (y 0).isLt; omega⟩ rfl).1
  rw [ix2_eta] at h
  refine h.trans ?_
  congr 1
  blk_ext [index4 t]

theorem final5 : (dats m 0 c).arrAt 5 cfg0.N = arrX m c := by
  refine (dats m 0 c).arrAt_eq_of_covers 5 _ (by decide +kernel) fun t hf y => ?_
  blk_simp
  rw [after0_5]
  have h := (outs_eq m c t (y 0) (y 1) ⟨t.val * 512 + (y 0).val, by
    have hl : t.val < 8 := lt_of_lt_of_eq t.isLt N_0; have h0 : (y 0).val < 512 := (y 0).isLt; omega⟩ rfl).2
  rw [ix2_eta] at h
  refine h.trans ?_
  congr 1
  blk_ext [index5 t]

theorem final3 : (dats m 0 c).arrAt 3 cfg0.N = arrL m c := by
  refine (dats m 0 c).arrAt_eq_of_covers 3 _ (by decide +kernel) fun t hf y => ?_
  blk_simp
  rw [after0_3]
  have h := out3_eq m c t (by have := (flush0_3 t).mp hf; have := t.isLt; have hN : cfg0.N = 8 := N_0; omega) (y 1)
  have e : (ix2 0 (y 1) : S1x128.Idx) = y := (congrArg (fun a => ix2 a (y 1)) (Subsingleton.elim (α := Fin 1) 0 (y 0))).trans (ix2_eta y)
  rw [e] at h
  refine h.trans ?_
  congr 1
  blk_ext [index3 t]

theorem final6 : (dats m 0 c).arrAt 6 cfg0.N = arrG m c := by
  refine (dats m 0 c).arrAt_eq_of_covers 6 _ (by decide +kernel) fun t hf y => ?_
  blk_simp
  rw [after0_6]
  have h := out6_eq m c t (by have := (flush0_6 t).mp hf; have := t.isLt; have hN : cfg0.N = 8 := N_0; omega) (y 1)
  have e : (ix2 0 (y 1) : S1x1024.Idx) = y := (congrArg (fun a => ix2 a (y 1)) (Subsingleton.elim (α := Fin 1) 0 (y 0))).trans (ix2_eta y)
  rw [e] at h
  refine h.trans ?_
  congr 1
  blk_ext [index6 t]

end Cert.KernelLossIdeal.Blocks
-- ==== Proof.LossClaim.lean ====
module

public import proofs.«01_k».proof.Defs
public import proofs.«01_k».proof.Proof.LossBlock
public import proofs.«01_k».proof.Proof.Gen.KernelLoss.Frame
public import proofs.«01_k».proof.Proof.Gen.ReferenceLossIdeal.Run
public import proofs.«01_k».proof.Proof.Gen.ReferenceLossIdeal.Read

@[expose] public section
noncomputable section

open Idealize.ShloMosaic Idealize.ShloMosaic.TcCoe Idealize.SL.Sem

/-! The loss after the last norm, and its gradient: kernel and reference end with the same four arrays. -/

namespace Cert.ReferenceLossIdeal.Grad

open Cert.ReferenceLossIdeal Cert.ReferenceLossIdeal.Gen Cert.ReferenceLossIdeal.Read Cert.NormMath Cert.LossMath

variable (x0 : (⟨S4096x1024, .f32⟩ : BufTy).Contents (Elt Ideal)) (x1 : (⟨S1x1024, .f32⟩ : BufTy).Contents (Elt Ideal))
  (x2 : (⟨S4096x1024, .f32⟩ : BufTy).Contents (Elt Ideal))

/-- A row of the norm's input. -/
def xr (s : Fin 4096) (k : Fin 1024) : EReal := x0 (ix2 s k)
/-- The scale's row. -/
def gr (k : Fin 1024) : EReal := x1 (ix2 0 k)
/-- A row of the targets. -/
def yr (s : Fin 4096) (k : Fin 1024) : EReal := x2 (ix2 s k)

theorem msq_ix (s : Fin 4096) : val_main_v6 (F := Ideal) x0 (ix2 s 0) = msq (xr x0 s) := by
  pointwise [val_main_v6, val_main_v5, val_main_v4, val_main_v3, val_main_v2, val_main_v1, val_main_v0, val_main_cst, val_main_cst_0, val_main_cst_1]
  rfl

theorem rms_ix (s : Fin 4096) : val_main_v7 (F := Ideal) x0 (ix2 s 0) = rms (xr x0 s) := by
  pointwise [val_main_v7]
  rw [msq_ix]
  rfl

theorem err_ix (s : Fin 4096) (d : Fin 1024) : val_main_v15 (F := Ideal) x0 x1 x2 (ix2 s d) = err (xr x0 s) (gr x1) (yr x2 s) d := by
  pointwise [val_main_v15, val_main_v14, val_main_v13, val_main_v12, val_main_v11, rms_ix]
  rfl

theorem mse_ix (s : Fin 4096) : val_main_v21 (F := Ideal) x0 x1 x2 (ix1 s) = mse (xr x0 s) (gr x1) (yr x2 s) := by
  pointwise [val_main_v21, val_main_v20, val_main_v19, val_main_v16, val_main_cst_4, val_main_cst_5, err_ix]
  rfl

theorem loss_ix (e : Fin 128) : val_main_v49 (F := Ideal) x0 x1 x2 (ix2 0 e) = half * ∑ s, mse (xr x0 s) (gr x1) (yr x2 s) := by
  pointwise [val_main_v49, val_main_v23, val_main_v22, val_main_cst_6, val_main_cst_7, mse_ix]
  rfl

theorem dy_ix (s : Fin 4096) (d : Fin 1024) : val_main_v29 (F := Ideal) x0 x1 x2 (ix2 s d) = dy (xr x0 s) (gr x1) (yr x2 s) d := by
  unfold dy
  rw [← ref_dy]
  pointwise [val_main_v29, val_main_v28, val_main_v27, val_main_v26, val_main_v25, val_main_v24, val_main_v18, val_main_v17,
    val_main_cst_3, val_main_cst_8, val_main_cst_9, val_main_cst_10, err_ix]
  rfl

theorem a_ix (s : Fin 4096) (d : Fin 1024) :
    val_main_v34 (F := Ideal) x0 x1 x2 (ix2 s d) = dy (xr x0 s) (gr x1) (yr x2 s) d * gr x1 d := by
  pointwise [val_main_v34, val_main_v33, dy_ix] <;> rfl

theorem coef_ix (s : Fin 4096) (d : Fin 1024) :
    val_main_v44 (F := Ideal) x0 x1 x2 (ix2 s d) = coef (xr x0 s) (fun k => dy (xr x0 s) (gr x1) (yr x2 s) k * gr x1 k) := by
  pointwise [val_main_v44, val_main_v43, val_main_v42, val_main_v41, val_main_v40, val_main_v37, val_main_v36, val_main_v35, val_main_v10,
    val_main_v9, val_main_v8, val_main_cst_2, val_main_cst_12, val_main_cst_13, val_main_cst_14, a_ix]
  rw [Fin.sum_univ_one, rms_ix, msq_ix]
  rfl

theorem dx_ix (s : Fin 4096) (d : Fin 1024) :
    val_main_v48 (F := Ideal) x0 x1 x2 (ix2 s d) = dx (xr x0 s) (fun k => dy (xr x0 s) (gr x1) (yr x2 s) k * gr x1 k) 0 d := by
  rw [← ref_dx, zero_add]
  pointwise [val_main_v48, val_main_v47, val_main_v46, val_main_v45, val_main_v39, val_main_v38, a_ix, coef_ix, rms_ix]
  rfl

theorem dxb_ix (s : Fin 4096) (d : Fin 1024) :
    val_main_v50 (F := Ideal) x0 x1 x2 (ix2 s d) = dx (xr x0 s) (fun k => dy (xr x0 s) (gr x1) (yr x2 s) k * gr x1 k) 0 d := by
  rw [← dx_ix]
  pointwise [val_main_v50]

theorem dg_ix (d : Fin 1024) :
    val_main_v32 (F := Ideal) x0 x1 x2 (ix2 0 d) = ∑ s, dy (xr x0 s) (gr x1) (yr x2 s) d * (xr x0 s d * rms (xr x0 s)) := by
  pointwise [val_main_v32, val_main_v31, val_main_v30, val_main_v12, val_main_v11, val_main_cst_11, dy_ix, rms_ix]
  exact Finset.sum_congr rfl fun s _ => mul_comm _ _

/-- The reference's first result. -/
theorem res0 (y : S1x128.Idx) : val_main_v49 (F := Ideal) x0 x1 x2 y = half * ∑ s, mse (xr x0 s) (gr x1) (yr x2 s) := by
  have e : (ix2 0 (y 1) : S1x128.Idx) = y := (congrArg (fun a => ix2 a (y 1)) (Subsingleton.elim (α := Fin 1) 0 (y 0))).trans (ix2_eta y)
  have h := loss_ix x0 x1 x2 (y 1)
  rw [e] at h
  exact h

/-- The reference's second result. -/
theorem res1 (y : S4096x1024.Idx) :
    val_main_v48 (F := Ideal) x0 x1 x2 y = dx (xr x0 (y 0)) (fun k => dy (xr x0 (y 0)) (gr x1) (yr x2 (y 0)) k * gr x1 k) 0 (y 1) := by
  have h := dx_ix x0 x1 x2 (y 0) (y 1)
  rw [ix2_eta] at h
  exact h

/-- The reference's third result. -/
theorem res2 (y : S4096x1024.Idx) :
    val_main_v50 (F := Ideal) x0 x1 x2 y = dx (xr x0 (y 0)) (fun k => dy (xr x0 (y 0)) (gr x1) (yr x2 (y 0)) k * gr x1 k) 0 (y 1) := by
  have h := dxb_ix x0 x1 x2 (y 0) (y 1)
  rw [ix2_eta] at h
  exact h

/-- The reference's fourth result. -/
theorem res3 (y : S1x1024.Idx) :
    val_main_v32 (F := Ideal) x0 x1 x2 y = ∑ s, dy (xr x0 s) (gr x1) (yr x2 s) (y 1) * (xr x0 s (y 1) * rms (xr x0 s)) := by
  have e : (ix2 0 (y 1) : S1x1024.Idx) = y := (congrArg (fun a => ix2 a (y 1)) (Subsingleton.elim (α := Fin 1) 0 (y 0))).trans (ix2_eta y)
  have h := dg_ix x0 x1 x2 (y 1)
  rw [e] at h
  exact h

end Cert.ReferenceLossIdeal.Grad

namespace Cert.LossClaim

/-- The kernel runs, and leaves its arguments and every counter as they were. -/
theorem frame_kernel (h : Cert.KernelLoss.Facts) : Cert.quiescent_KernelLoss (hKernelLoss := h) :=
  fun m ρ _ => Cert.KernelLoss.Gen.frame m ρ

/-- The same of its reading over the extended reals. -/
theorem frame_ideal (h : Cert.KernelLossIdeal.Facts) : Cert.quiescent_KernelLossIdeal (hKernelLossIdeal := h) :=
  fun m ρ _ => Cert.KernelLossIdeal.Gen.frame m ρ

/-- The reference's run leaves its arguments and every counter as they were. -/
theorem frame_ref (h : Cert.ReferenceLossIdeal.Facts) : Cert.quiescent_ReferenceLossIdeal (hReferenceLossIdeal := h) :=
  fun m ρ _ => (θ_run _ _ _).mono (fun r h => ⟨fun c => (h c).2.2.2.2, sem_eq_zero_of_no_sems (by decide) r.2⟩)
    (Cert.ReferenceLossIdeal.Value.run m ρ)

/-- The kernel's four results are the reference's. -/
theorem algebraic (h : Cert.KernelLossIdeal.Facts) (h' : Cert.ReferenceLossIdeal.Facts) :
    Cert.algebraic_KernelLossIdeal_ReferenceLossIdeal (hKernelLossIdeal := h) (hReferenceLossIdeal := h') := by
  intro m g m' g' hpre hargs
  refine ⟨fun c => Cert.KernelLossIdeal.Blocks.arrL m c, fun c => Cert.KernelLossIdeal.Blocks.arrX m c, fun c => Cert.KernelLossIdeal.Blocks.arrX m c, fun c => Cert.KernelLossIdeal.Blocks.arrG m c,
    (θ_run _ _ _).mono (fun r h c => ?_) (Cert.KernelLossIdeal.Value.run_blocks m g),
    (θ_run _ _ _).mono (fun r h c => ?_) (Cert.ReferenceLossIdeal.Value.run m' g')⟩
  · obtain ⟨h0, h1, h2, h3, hr⟩ := h c
    exact ⟨h0.trans (Cert.KernelLossIdeal.Blocks.final3 m c), h1.trans (Cert.KernelLossIdeal.Blocks.final4 m c), h2.trans (Cert.KernelLossIdeal.Blocks.final5 m c),
      h3.trans (Cert.KernelLossIdeal.Blocks.final6 m c), hr⟩
  · obtain ⟨h0, h1, h2, h3, hr⟩ := h c
    obtain ⟨a0, a1, a2⟩ := hargs c
    refine ⟨h0.trans ?_, h1.trans ?_, h2.trans ?_, h3.trans ?_, hr⟩
    · rw [Cert.ReferenceLossIdeal.Read.val_main_v49_eq, a0, a1, a2]
      exact funext fun y => Cert.ReferenceLossIdeal.Grad.res0 _ _ _ y
    · rw [Cert.ReferenceLossIdeal.Read.val_main_v48_eq, a0, a1, a2]
      exact funext fun y => Cert.ReferenceLossIdeal.Grad.res1 _ _ _ y
    · rw [Cert.ReferenceLossIdeal.Read.val_main_v50_eq, a0, a1, a2]
      exact funext fun y => Cert.ReferenceLossIdeal.Grad.res2 _ _ _ y
    · rw [Cert.ReferenceLossIdeal.Read.val_main_v32_eq, a0, a1, a2]
      exact funext fun y => Cert.ReferenceLossIdeal.Grad.res3 _ _ _ y

end Cert.LossClaim
-- ==== Proof.AdamMath.lean ====
module

public import Idealize.ShloMosaic.Lib.Pointwise

@[expose] public section
noncomputable section

open Idealize.ShloMosaic

/-! One entry of the optimiser's step: the two moments and the change of the weight. -/

namespace Cert.AdamMath

/-- The first moment. -/
def mom (g m : EReal) : EReal := Ideal.ofBits .f32 0x3F666666#32 * m + Ideal.ofBits .f32 0x3DCCCCCD#32 * g

/-- The second moment. -/
def var (g v : EReal) : EReal := Ideal.ofBits .f32 0x3F7FBE77#32 * v + Ideal.ofBits .f32 0x3A83126F#32 * (g * g)

/-- The corrected first moment over the root of the corrected second. -/
def ratio (g m v : EReal) : EReal :=
  Ideal.div (Ideal.div (mom g m) (Ideal.ofBits .f32 0x3F26BD02#32))
    (Ideal.sqrt (Ideal.div (var g v) (Ideal.ofBits .f32 0x3C231ACC#32)) + Ideal.ofBits .f32 0x322BCC77#32)

/-- The change of the weight. -/
def delta (w g m v : EReal) : EReal :=
  Ideal.ofBits .f32 0xBA83126F#32 * (ratio g m v + Ideal.ofBits .f32 0x3C23D70A#32 * w)

end Cert.AdamMath
-- ==== Proof.AdamBlock.lean ====
module

public import proofs.«01_k».proof.Proof.Gen.KernelAdamIdeal.Value
public import proofs.«01_k».proof.Proof.AdamMath
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The optimiser on the up and down weights: the four results of the kernel, at an index. -/

namespace Cert.KernelAdamIdeal.Blocks

open Cert.KernelAdamIdeal Cert.KernelAdamIdeal.Gen Cert.AdamMath

section Body
variable (i : grid0.Coords) (x1 x2 : Vec Ideal S512x1024 .f32) (x3 x4 : Vec Ideal S1x512x1024 .f32) (r : Fin 512) (d : Fin 1024)

/-- The gradient of the point's layer. -/
abbrev grad (r : Fin 512) (d : Fin 1024) : EReal := k0_pay4 (F := Ideal) i x1 x2 (ix2 r d)

theorem pay5_ix : k0_pay5 (F := Ideal) i x1 x2 x3 (ix2 r d) = mom (grad i x1 x2 r d) (x3 (ix3 0 r d)) := by
  pointwise [k0_pay5] <;> rfl

theorem pay6_ix : k0_pay6 (F := Ideal) i x1 x2 x4 (ix2 r d) = var (grad i x1 x2 r d) (x4 (ix3 0 r d)) := by
  pointwise [k0_pay6] <;> rfl

theorem pay8_ix : k0_pay8 (F := Ideal) i x1 x2 x3 x4 (ix2 r d) = ratio (grad i x1 x2 r d) (x3 (ix3 0 r d)) (x4 (ix3 0 r d)) := by
  pointwise [k0_pay8]
  rw [pay5_ix, pay6_ix]
  rfl

theorem pay9_ix (x0 : Vec Ideal S1x512x1024 .f32) : k0_pay9 (F := Ideal) x0 (ix2 r d) = x0 (ix3 0 r d) := by
  pointwise [k0_pay9] <;> rfl

theorem pay1_ix (u w : FVec Ideal S512x1024 .f32) (z : EReal) :
    k0_pay1 (F := Ideal) u w z (ix3 0 r d) = Ideal.ofBits .f32 0xBA83126F#32 * (u (ix2 r d) + z * w (ix2 r d)) := by
  pointwise [k0_pay1] <;> rfl

theorem pay2_ix (u : FVec Ideal S512x1024 .f32) : k0_pay2 (F := Ideal) u (ix3 0 r d) = u (ix2 r d) := by
  pointwise [k0_pay2] <;> rfl

theorem pay3_ix (u : FVec Ideal S512x1024 .f32) : k0_pay3 (F := Ideal) u (ix3 0 r d) = u (ix2 r d) := by
  pointwise [k0_pay3] <;> rfl

theorem pay7_ix : k0_pay7 (F := Ideal) i x1 x2 (ix3 0 r d) = grad i x1 x2 r d := by
  pointwise [k0_pay7] <;> rfl

end Body

theorem ld_g (x : Vec Ideal S512x1024 .f32)
    (inb : ∀ a : Fin 2, (![0, 0] : Fin 2 → ℕ) a + (![512, 1024] : Fin 2 → ℕ) a ≤ S512x1024.size a) :
    View.ld x (Rect.unit ![0, 0] ![512, 1024] inb) = x := View.ld_unit_lit inb x (by decide)

theorem ld_w (x : Vec Ideal S1x512x1024 .f32)
    (inb : ∀ a : Fin 3, (![0, 0, 0] : Fin 3 → ℕ) a + (![1, 512, 1024] : Fin 3 → ℕ) a ≤ S1x512x1024.size a) :
    View.ld x (Rect.unit ![0, 0, 0] ![1, 512, 1024] inb) = x := View.ld_unit_lit inb x (by decide)

theorem same_ix (x : S1x512x1024.Idx) (r : Fin 512) (d : Fin 1024) (h1 : (r : ℕ) = x 1) (h2 : (d : ℕ) = x 2) : x = ix3 0 r d :=
  funext fun a => by
    match a with
    | ⟨0, _⟩ => exact Subsingleton.elim (α := Fin 1) _ _
    | ⟨1, _⟩ => exact Fin.ext h1.symm
    | ⟨2, _⟩ => exact Fin.ext h2.symm

section Points
variable (i : grid0.Coords) (x0 : Vec Ideal S1x512x1024 .f32) (x1 x2 : Vec Ideal S512x1024 .f32) (x3 x4 : Vec Ideal S1x512x1024 .f32) (y : S1x512x1024.Idx)

theorem out_g : out0_5 (F := Ideal) i x0 x1 x2 x3 x4 y = grad i x1 x2 (y 1) (y 2) := by
  unfold out0_5
  rw [ld_g, ld_g]
  canon_tiles x hx
  rw [same_ix x (y 1) (y 2) hx1 hx2]
  exact pay7_ix i x1 x2 (y 1) (y 2)

theorem out_m : out0_7 (F := Ideal) i x0 x1 x2 x3 x4 y = mom (grad i x1 x2 (y 1) (y 2)) (x3 (ix3 0 (y 1) (y 2))) := by
  unfold out0_7
  rw [ld_g, ld_g, ld_w]
  canon_tiles x hx
  rw [same_ix x (y 1) (y 2) hx1 hx2]
  exact (pay2_ix (y 1) (y 2) _).trans (pay5_ix i x1 x2 x3 (y 1) (y 2))

theorem out_v : out0_8 (F := Ideal) i x0 x1 x2 x3 x4 y = var (grad i x1 x2 (y 1) (y 2)) (x4 (ix3 0 (y 1) (y 2))) := by
  unfold out0_8
  rw [ld_g, ld_g, ld_w]
  canon_tiles x hx
  rw [same_ix x (y 1) (y 2) hx1 hx2]
  exact (pay3_ix (y 1) (y 2) _).trans (pay6_ix i x1 x2 x4 (y 1) (y 2))

theorem out_d : out0_6 (F := Ideal) i x0 x1 x2 x3 x4 y
    = delta (x0 (ix3 0 (y 1) (y 2))) (grad i x1 x2 (y 1) (y 2)) (x3 (ix3 0 (y 1) (y 2))) (x4 (ix3 0 (y 1) (y 2))) := by
  unfold out0_6
  rw [ld_g, ld_g, ld_w, ld_w, ld_w]
  canon_tiles x hx
  rw [same_ix x (y 1) (y 2) hx1 hx2]
  refine (pay1_ix (y 1) (y 2) _ _ _).trans ?_
  have h8 := pay8_ix i x1 x2 x3 x4 (y 1) (y 2)
  have h9 := pay9_ix (y 1) (y 2) x0
  unfold delta
  rw [← h8, ← h9]
  rfl

end Points

variable (m : (ℓ : Loc nD τ sig) → Buf (Elt Ideal) ℓ) (c : Dev nD)

/-- The weights. -/
abbrev argW : S2x1024x1024.Idx → EReal := m ((c : Thread nD τ).loc main_arg0)
/-- The first layer's gradient. -/
abbrev argA : S1024x1024.Idx → EReal := m ((c : Thread nD τ).loc main_arg1)
/-- The second layer's gradient. -/
abbrev argB : S1024x1024.Idx → EReal := m ((c : Thread nD τ).loc main_arg2)
/-- The first moments. -/
abbrev argM : S2x1024x1024.Idx → EReal := m ((c : Thread nD τ).loc main_arg3)
/-- The second moments. -/
abbrev argV : S2x1024x1024.Idx → EReal := m ((c : Thread nD τ).loc main_arg4)

theorem picks : ∀ t : Fin cfg0.N, (Scalar.cmpi .eq (BitVec.ofNat 32 ((grid0.coords t) 1).val) 0#32 : BitVec 1) = if t.val % 2 = 0 then 1#1 else 0#1 :=
  (by decide +kernel : ∀ t : Fin grid0.N, _)
theorem index0 : ∀ t : Fin cfg0.N, win0_0.index t = ![t.val % 2, t.val / 2, 0] := (by decide +kernel : ∀ t : Fin grid0.N, _)
theorem index1 : ∀ t : Fin cfg0.N, win0_1.index t = ![t.val / 2, 0] := (by decide +kernel : ∀ t : Fin grid0.N, _)
theorem index2 : ∀ t : Fin cfg0.N, win0_2.index t = ![t.val / 2, 0] := (by decide +kernel : ∀ t : Fin grid0.N, _)
theorem index3 : ∀ t : Fin cfg0.N, win0_3.index t = ![t.val % 2, t.val / 2, 0] := (by decide +kernel : ∀ t : Fin grid0.N, _)
theorem index4 : ∀ t : Fin cfg0.N, win0_4.index t = ![t.val % 2, t.val / 2, 0] := (by decide +kernel : ∀ t : Fin grid0.N, _)
theorem index5 : ∀ t : Fin cfg0.N, win0_5.index t = ![t.val % 2, t.val / 2, 0] := (by decide +kernel : ∀ t : Fin grid0.N, _)
theorem index6 : ∀ t : Fin cfg0.N, win0_6.index t = ![t.val % 2, t.val / 2, 0] := (by decide +kernel : ∀ t : Fin grid0.N, _)
theorem index7 : ∀ t : Fin cfg0.N, win0_7.index t = ![t.val % 2, t.val / 2, 0] := (by decide +kernel : ∀ t : Fin grid0.N, _)
theorem index8 : ∀ t : Fin cfg0.N, win0_8.index t = ![t.val % 2, t.val / 2, 0] := (by decide +kernel : ∀ t : Fin grid0.N, _)

/-- The gradient of a layer. -/
def gAt (p q : S1024x1024.Idx → EReal) (l : Fin 2) (s : Fin 1024) (e : Fin 1024) : EReal := if (l : ℕ) = 0 then p (ix2 s e) else q (ix2 s e)

theorem grad_eq (t : Fin cfg0.N) (r : Fin 512) (d : Fin 1024) (l : Fin 2) (s : Fin 1024) (e : Fin 1024) (hl : (l : ℕ) = t.val % 2)
    (hs : (s : ℕ) = t.val / 2 * 512 + r) (he : (e : ℕ) = d) :
    grad (grid0.coords t) (iblk m c 1 t) (iblk m c 2 t) r d = gAt (argA m c) (argB m c) l s e := by
  have h := picks t
  unfold grad gAt k0_pay4
  dsimp only
  rw [h, hl]
  split_ifs with h0
  · show (iblk m c 1 t : Vec Ideal S512x1024 .f32) (ix2 r d) = _
    blk_simp [iblk]
    show V m c main_arg1 _ = V m c main_arg1 _
    congr 1
    blk_ext [index1 t]
  · show (iblk m c 2 t : Vec Ideal S512x1024 .f32) (ix2 r d) = _
    blk_simp [iblk]
    show V m c main_arg2 _ = V m c main_arg2 _
    congr 1
    blk_ext [index2 t]

theorem blk_w (t : Fin cfg0.N) (r : Fin 512) (d : Fin 1024) (l : Fin 2) (s : Fin 1024) (e : Fin 1024) (hl : (l : ℕ) = t.val % 2)
    (hs : (s : ℕ) = t.val / 2 * 512 + r) (he : (e : ℕ) = d) : (iblk m c 0 t : Vec Ideal S1x512x1024 .f32) (ix3 0 r d) = argW m c (ix3 l s e) := by
  blk_simp [iblk]
  show V m c main_arg0 _ = V m c main_arg0 _
  congr 1
  blk_ext [index0 t]

theorem blk_m (t : Fin cfg0.N) (r : Fin 512) (d : Fin 1024) (l : Fin 2) (s : Fin 1024) (e : Fin 1024) (hl : (l : ℕ) = t.val % 2)
    (hs : (s : ℕ) = t.val / 2 * 512 + r) (he : (e : ℕ) = d) : (iblk m c 3 t : Vec Ideal S1x512x1024 .f32) (ix3 0 r d) = argM m c (ix3 l s e) := by
  blk_simp [iblk]
  show V m c main_arg3 _ = V m c main_arg3 _
  congr 1
  blk_ext [index3 t]

theorem blk_v (t : Fin cfg0.N) (r : Fin 512) (d : Fin 1024) (l : Fin 2) (s : Fin 1024) (e : Fin 1024) (hl : (l : ℕ) = t.val % 2)
    (hs : (s : ℕ) = t.val / 2 * 512 + r) (he : (e : ℕ) = d) : (iblk m c 4 t : Vec Ideal S1x512x1024 .f32) (ix3 0 r d) = argV m c (ix3 l s e) := by
  blk_simp [iblk]
  show V m c main_arg4 _ = V m c main_arg4 _
  congr 1
  blk_ext [index4 t]

/-- The gradients. -/
def arrG (z : S2x1024x1024.Idx) : EReal := gAt (argA m c) (argB m c) (z 0) (z 1) (z 2)

theorem eq_g (t : Fin cfg0.N) (y : S1x512x1024.Idx) (z : S2x1024x1024.Idx) (h0 : (z 0 : ℕ) = t.val % 2) (h1 : (z 1 : ℕ) = t.val / 2 * 512 + y 1) (h2 : (z 2 : ℕ) = y 2) :
    out0_5 (F := Ideal) (grid0.coords t) (iblk m c 0 t) (iblk m c 1 t) (iblk m c 2 t) (iblk m c 3 t) (iblk m c 4 t) y = arrG m c z := by
  rw [out_g, grad_eq m c t (y 1) (y 2) (z 0) (z 1) (z 2) h0 h1 h2]
  rfl

theorem final5 : (dats m 0 c).arrAt 5 cfg0.N = arrG m c := by
  refine (dats m 0 c).arrAt_eq_of_covers 5 _ (by decide +kernel) fun t hf y => ?_
  blk_simp
  rw [after0_5]
  refine eq_g m c t _ _ ?_ ?_ ?_
  · blk_simp [index5 t]
  · blk_simp [index5 t]
  · blk_simp [index5 t]

/-- The changes of the weights. -/
def arrD (z : S2x1024x1024.Idx) : EReal := delta (argW m c (ix3 (z 0) (z 1) (z 2))) (gAt (argA m c) (argB m c) (z 0) (z 1) (z 2)) (argM m c (ix3 (z 0) (z 1) (z 2))) (argV m c (ix3 (z 0) (z 1) (z 2)))

theorem eq_d (t : Fin cfg0.N) (y : S1x512x1024.Idx) (z : S2x1024x1024.Idx) (h0 : (z 0 : ℕ) = t.val % 2) (h1 : (z 1 : ℕ) = t.val / 2 * 512 + y 1) (h2 : (z 2 : ℕ) = y 2) :
    out0_6 (F := Ideal) (grid0.coords t) (iblk m c 0 t) (iblk m c 1 t) (iblk m c 2 t) (iblk m c 3 t) (iblk m c 4 t) y = arrD m c z := by
  rw [out_d, grad_eq m c t (y 1) (y 2) (z 0) (z 1) (z 2) h0 h1 h2, blk_w m c t (y 1) (y 2) (z 0) (z 1) (z 2) h0 h1 h2, blk_m m c t (y 1) (y 2) (z 0) (z 1) (z 2) h0 h1 h2, blk_v m c t (y 1) (y 2) (z 0) (z 1) (z 2) h0 h1 h2]
  rfl

theorem final6 : (dats m 0 c).arrAt 6 cfg0.N = arrD m c := by
  refine (dats m 0 c).arrAt_eq_of_covers 6 _ (by decide +kernel) fun t hf y => ?_
  blk_simp
  rw [after0_6]
  refine eq_d m c t _ _ ?_ ?_ ?_
  · blk_simp [index6 t]
  · blk_simp [index6 t]
  · blk_simp [index6 t]

/-- The first moments after the step. -/
def arrM (z : S2x1024x1024.Idx) : EReal := mom (gAt (argA m c) (argB m c) (z 0) (z 1) (z 2)) (argM m c (ix3 (z 0) (z 1) (z 2)))

theorem eq_m (t : Fin cfg0.N) (y : S1x512x1024.Idx) (z : S2x1024x1024.Idx) (h0 : (z 0 : ℕ) = t.val % 2) (h1 : (z 1 : ℕ) = t.val / 2 * 512 + y 1) (h2 : (z 2 : ℕ) = y 2) :
    out0_7 (F := Ideal) (grid0.coords t) (iblk m c 0 t) (iblk m c 1 t) (iblk m c 2 t) (iblk m c 3 t) (iblk m c 4 t) y = arrM m c z := by
  rw [out_m, grad_eq m c t (y 1) (y 2) (z 0) (z 1) (z 2) h0 h1 h2, blk_m m c t (y 1) (y 2) (z 0) (z 1) (z 2) h0 h1 h2]
  rfl

theorem final7 : (dats m 0 c).arrAt 7 cfg0.N = arrM m c := by
  refine (dats m 0 c).arrAt_eq_of_covers 7 _ (by decide +kernel) fun t hf y => ?_
  blk_simp
  rw [after0_7]
  refine eq_m m c t _ _ ?_ ?_ ?_
  · blk_simp [index7 t]
  · blk_simp [index7 t]
  · blk_simp [index7 t]

/-- The second moments after the step. -/
def arrV (z : S2x1024x1024.Idx) : EReal := var (gAt (argA m c) (argB m c) (z 0) (z 1) (z 2)) (argV m c (ix3 (z 0) (z 1) (z 2)))

theorem eq_v (t : Fin cfg0.N) (y : S1x512x1024.Idx) (z : S2x1024x1024.Idx) (h0 : (z 0 : ℕ) = t.val % 2) (h1 : (z 1 : ℕ) = t.val / 2 * 512 + y 1) (h2 : (z 2 : ℕ) = y 2) :
    out0_8 (F := Ideal) (grid0.coords t) (iblk m c 0 t) (iblk m c 1 t) (iblk m c 2 t) (iblk m c 3 t) (iblk m c 4 t) y = arrV m c z := by
  rw [out_v, grad_eq m c t (y 1) (y 2) (z 0) (z 1) (z 2) h0 h1 h2, blk_v m c t (y 1) (y 2) (z 0) (z 1) (z 2) h0 h1 h2]
  rfl

theorem final8 : (dats m 0 c).arrAt 8 cfg0.N = arrV m c := by
  refine (dats m 0 c).arrAt_eq_of_covers 8 _ (by decide +kernel) fun t hf y => ?_
  blk_simp
  rw [after0_8]
  refine eq_v m c t _ _ ?_ ?_ ?_
  · blk_simp [index8 t]
  · blk_simp [index8 t]
  · blk_simp [index8 t]

end Cert.KernelAdamIdeal.Blocks
-- ==== Proof.AdamClaim.lean ====
module

public import proofs.«01_k».proof.Defs
public import proofs.«01_k».proof.Proof.AdamBlock
public import proofs.«01_k».proof.Proof.Gen.KernelAdam.Frame
public import proofs.«01_k».proof.Proof.Gen.ReferenceAdamIdeal.Run
public import proofs.«01_k».proof.Proof.Gen.ReferenceAdamIdeal.Read

@[expose] public section
noncomputable section

open Idealize.ShloMosaic Idealize.ShloMosaic.TcCoe Idealize.SL.Sem

/-! The optimiser on the up and down weights: kernel and reference end with the same four arrays. -/

namespace Cert.ReferenceAdamIdeal.Grad

open Cert.ReferenceAdamIdeal Cert.ReferenceAdamIdeal.Gen Cert.ReferenceAdamIdeal.Read Cert.AdamMath Cert.KernelAdamIdeal.Blocks

variable (x0 : (⟨S2x1024x1024, .f32⟩ : BufTy).Contents (Elt Ideal)) (x1 x2 : (⟨S1024x1024, .f32⟩ : BufTy).Contents (Elt Ideal))
  (x3 x4 : (⟨S2x1024x1024, .f32⟩ : BufTy).Contents (Elt Ideal)) (l : Fin 2) (s : Fin 1024) (e : Fin 1024)

theorem g_ix : val_main_v2 (F := Ideal) x1 x2 (ix3 l s e) = gAt x1 x2 l s e := by
  fin_cases l
  · pointwise [val_main_v2, val_main_v0] <;> rfl
  · pointwise [val_main_v2, val_main_v1] <;> rfl

theorem m_ix : val_main_v7 (F := Ideal) x1 x2 x3 (ix3 l s e) = mom (gAt x1 x2 l s e) (x3 (ix3 l s e)) := by
  pointwise [val_main_v7, val_main_v6, val_main_v5, val_main_cst_0, val_main_v4, val_main_v3, val_main_cst]
  rw [g_ix]
  rfl

theorem v_ix : val_main_v13 (F := Ideal) x1 x2 x4 (ix3 l s e) = var (gAt x1 x2 l s e) (x4 (ix3 l s e)) := by
  pointwise [val_main_v13, val_main_v12, val_main_v11, val_main_cst_2, val_main_v10, val_main_v9, val_main_v8, val_main_cst_1]
  rw [g_ix]
  rfl

theorem r_ix : val_main_v21 (F := Ideal) x1 x2 x3 x4 (ix3 l s e) = ratio (gAt x1 x2 l s e) (x3 (ix3 l s e)) (x4 (ix3 l s e)) := by
  pointwise [val_main_v21, val_main_v20, val_main_v19, val_main_cst_5, val_main_v18, val_main_v17, val_main_v16, val_main_cst_4,
    val_main_v15, val_main_v14, val_main_cst_3]
  rw [m_ix, v_ix]
  rfl

theorem d_ix : val_main_v26 (F := Ideal) x0 x1 x2 x3 x4 (ix3 l s e)
    = delta (x0 (ix3 l s e)) (gAt x1 x2 l s e) (x3 (ix3 l s e)) (x4 (ix3 l s e)) := by
  pointwise [val_main_v26, val_main_v25, val_main_cst_7, val_main_v24, val_main_v23, val_main_v22, val_main_cst_6]
  rw [r_ix]
  rfl

/-- The reference's first result: the gradients. -/
theorem res0 (y : S2x1024x1024.Idx) : val_main_v2 (F := Ideal) x1 x2 y
    = gAt x1 x2 (y 0) (y 1) (y 2) :=
  (congrArg (fun z => val_main_v2 (F := Ideal) x1 x2 z) (ix3_eta y)).symm.trans (g_ix x1 x2 (y 0) (y 1) (y 2))

/-- The reference's second result: the changes. -/
theorem res1 (y : S2x1024x1024.Idx) : val_main_v26 (F := Ideal) x0 x1 x2 x3 x4 y
    = delta (x0 (ix3 (y 0) (y 1) (y 2))) (gAt x1 x2 (y 0) (y 1) (y 2)) (x3 (ix3 (y 0) (y 1) (y 2))) (x4 (ix3 (y 0) (y 1) (y 2))) :=
  (congrArg (fun z => val_main_v26 (F := Ideal) x0 x1 x2 x3 x4 z) (ix3_eta y)).symm.trans (d_ix x0 x1 x2 x3 x4 (y 0) (y 1) (y 2))

/-- The reference's third result: the first moments. -/
theorem res2 (y : S2x1024x1024.Idx) : val_main_v7 (F := Ideal) x1 x2 x3 y
    = mom (gAt x1 x2 (y 0) (y 1) (y 2)) (x3 (ix3 (y 0) (y 1) (y 2))) :=
  (congrArg (fun z => val_main_v7 (F := Ideal) x1 x2 x3 z) (ix3_eta y)).symm.trans (m_ix x1 x2 x3 (y 0) (y 1) (y 2))

/-- The reference's fourth result: the second moments. -/
theorem res3 (y : S2x1024x1024.Idx) : val_main_v13 (F := Ideal) x1 x2 x4 y
    = var (gAt x1 x2 (y 0) (y 1) (y 2)) (x4 (ix3 (y 0) (y 1) (y 2))) :=
  (congrArg (fun z => val_main_v13 (F := Ideal) x1 x2 x4 z) (ix3_eta y)).symm.trans (v_ix x1 x2 x4 (y 0) (y 1) (y 2))

end Cert.ReferenceAdamIdeal.Grad

namespace Cert.AdamClaim

/-- The kernel runs, and leaves its arguments and every counter as they were. -/
theorem frame_kernel (h : Cert.KernelAdam.Facts) : Cert.quiescent_KernelAdam (hKernelAdam := h) :=
  fun m ρ _ => Cert.KernelAdam.Gen.frame m ρ

/-- The same of its reading over the extended reals. -/
theorem frame_ideal (h : Cert.KernelAdamIdeal.Facts) : Cert.quiescent_KernelAdamIdeal (hKernelAdamIdeal := h) :=
  fun m ρ _ => Cert.KernelAdamIdeal.Gen.frame m ρ

/-- The reference's run leaves its arguments and every counter as they were. -/
theorem frame_ref (h : Cert.ReferenceAdamIdeal.Facts) : Cert.quiescent_ReferenceAdamIdeal (hReferenceAdamIdeal := h) :=
  fun m ρ _ => (θ_run _ _ _).mono (fun r h => ⟨fun c => (h c).2.2.2.2, sem_eq_zero_of_no_sems (by decide) r.2⟩)
    (Cert.ReferenceAdamIdeal.Value.run m ρ)

/-- The kernel's four results are the reference's. -/
theorem algebraic (h : Cert.KernelAdamIdeal.Facts) (h' : Cert.ReferenceAdamIdeal.Facts) :
    Cert.algebraic_KernelAdamIdeal_ReferenceAdamIdeal (hKernelAdamIdeal := h) (hReferenceAdamIdeal := h') := by
  intro m g m' g' hpre hargs
  refine ⟨fun c => Cert.KernelAdamIdeal.Blocks.arrG m c, fun c => Cert.KernelAdamIdeal.Blocks.arrD m c, fun c => Cert.KernelAdamIdeal.Blocks.arrM m c, fun c => Cert.KernelAdamIdeal.Blocks.arrV m c,
    (θ_run _ _ _).mono (fun r h c => ?_) (Cert.KernelAdamIdeal.Value.run_blocks m g),
    (θ_run _ _ _).mono (fun r h c => ?_) (Cert.ReferenceAdamIdeal.Value.run m' g')⟩
  · obtain ⟨h0, h1, h2, h3, hr⟩ := h c
    exact ⟨h0.trans (Cert.KernelAdamIdeal.Blocks.final5 m c), h1.trans (Cert.KernelAdamIdeal.Blocks.final6 m c), h2.trans (Cert.KernelAdamIdeal.Blocks.final7 m c),
      h3.trans (Cert.KernelAdamIdeal.Blocks.final8 m c), hr⟩
  · obtain ⟨h0, h1, h2, h3, hr⟩ := h c
    obtain ⟨a0, a1, a2, a3, a4⟩ := hargs c
    refine ⟨h0.trans ?_, h1.trans ?_, h2.trans ?_, h3.trans ?_, hr⟩
    · rw [Cert.ReferenceAdamIdeal.Read.val_main_v2_eq, a1, a2]
      exact funext fun y => Cert.ReferenceAdamIdeal.Grad.res0 _ _ y
    · rw [Cert.ReferenceAdamIdeal.Read.val_main_v26_eq, a0, a1, a2, a3, a4]
      exact funext fun y => Cert.ReferenceAdamIdeal.Grad.res1 _ _ _ _ _ y
    · rw [Cert.ReferenceAdamIdeal.Read.val_main_v7_eq, a1, a2, a3]
      exact funext fun y => Cert.ReferenceAdamIdeal.Grad.res2 _ _ _ y
    · rw [Cert.ReferenceAdamIdeal.Read.val_main_v13_eq, a1, a2, a4]
      exact funext fun y => Cert.ReferenceAdamIdeal.Grad.res3 _ _ _ y

end Cert.AdamClaim
-- ==== Proof.AdamInBlock.lean ====
module

public import proofs.«01_k».proof.Proof.Gen.KernelAdamInIdeal.Value
public import proofs.«01_k».proof.Proof.AdamMath
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The optimiser on the input weight: the four results of the kernel, at an index. -/

namespace Cert.KernelAdamInIdeal.Blocks

open Cert.KernelAdamInIdeal Cert.KernelAdamInIdeal.Gen Cert.AdamMath

section Body
variable (i : grid0.Coords) (x1 x2 : Vec Ideal S512x640 .f32) (x3 x4 : Vec Ideal S1x512x640 .f32) (r : Fin 512) (d : Fin 640)

/-- The gradient of the point's layer. -/
abbrev grad (r : Fin 512) (d : Fin 640) : EReal := k0_pay4 (F := Ideal) i x1 x2 (ix2 r d)

theorem pay5_ix : k0_pay5 (F := Ideal) i x1 x2 x3 (ix2 r d) = mom (grad i x1 x2 r d) (x3 (ix3 0 r d)) := by
  pointwise [k0_pay5] <;> rfl

theorem pay6_ix : k0_pay6 (F := Ideal) i x1 x2 x4 (ix2 r d) = var (grad i x1 x2 r d) (x4 (ix3 0 r d)) := by
  pointwise [k0_pay6] <;> rfl

theorem pay8_ix : k0_pay8 (F := Ideal) i x1 x2 x3 x4 (ix2 r d) = ratio (grad i x1 x2 r d) (x3 (ix3 0 r d)) (x4 (ix3 0 r d)) := by
  pointwise [k0_pay8]
  rw [pay5_ix, pay6_ix]
  rfl

theorem pay9_ix (x0 : Vec Ideal S1x512x640 .f32) : k0_pay9 (F := Ideal) x0 (ix2 r d) = x0 (ix3 0 r d) := by
  pointwise [k0_pay9] <;> rfl

theorem pay1_ix (u w : FVec Ideal S512x640 .f32) (z : EReal) :
    k0_pay1 (F := Ideal) u w z (ix3 0 r d) = Ideal.ofBits .f32 0xBA83126F#32 * (u (ix2 r d) + z * w (ix2 r d)) := by
  pointwise [k0_pay1] <;> rfl

theorem pay2_ix (u : FVec Ideal S512x640 .f32) : k0_pay2 (F := Ideal) u (ix3 0 r d) = u (ix2 r d) := by
  pointwise [k0_pay2] <;> rfl

theorem pay3_ix (u : FVec Ideal S512x640 .f32) : k0_pay3 (F := Ideal) u (ix3 0 r d) = u (ix2 r d) := by
  pointwise [k0_pay3] <;> rfl

theorem pay7_ix : k0_pay7 (F := Ideal) i x1 x2 (ix3 0 r d) = grad i x1 x2 r d := by
  pointwise [k0_pay7] <;> rfl

end Body

theorem ld_g (x : Vec Ideal S512x640 .f32)
    (inb : ∀ a : Fin 2, (![0, 0] : Fin 2 → ℕ) a + (![512, 640] : Fin 2 → ℕ) a ≤ S512x640.size a) :
    View.ld x (Rect.unit ![0, 0] ![512, 640] inb) = x := View.ld_unit_lit inb x (by decide)

theorem ld_w (x : Vec Ideal S1x512x640 .f32)
    (inb : ∀ a : Fin 3, (![0, 0, 0] : Fin 3 → ℕ) a + (![1, 512, 640] : Fin 3 → ℕ) a ≤ S1x512x640.size a) :
    View.ld x (Rect.unit ![0, 0, 0] ![1, 512, 640] inb) = x := View.ld_unit_lit inb x (by decide)

theorem same_ix (x : S1x512x640.Idx) (r : Fin 512) (d : Fin 640) (h1 : (r : ℕ) = x 1) (h2 : (d : ℕ) = x 2) : x = ix3 0 r d :=
  funext fun a => by
    match a with
    | ⟨0, _⟩ => exact Subsingleton.elim (α := Fin 1) _ _
    | ⟨1, _⟩ => exact Fin.ext h1.symm
    | ⟨2, _⟩ => exact Fin.ext h2.symm

section Points
variable (i : grid0.Coords) (x0 : Vec Ideal S1x512x640 .f32) (x1 x2 : Vec Ideal S512x640 .f32) (x3 x4 : Vec Ideal S1x512x640 .f32) (y : S1x512x640.Idx)

theorem out_g : out0_5 (F := Ideal) i x0 x1 x2 x3 x4 y = grad i x1 x2 (y 1) (y 2) := by
  unfold out0_5
  rw [ld_g, ld_g]
  canon_tiles x hx
  rw [same_ix x (y 1) (y 2) hx1 hx2]
  exact pay7_ix i x1 x2 (y 1) (y 2)

theorem out_m : out0_7 (F := Ideal) i x0 x1 x2 x3 x4 y = mom (grad i x1 x2 (y 1) (y 2)) (x3 (ix3 0 (y 1) (y 2))) := by
  unfold out0_7
  rw [ld_g, ld_g, ld_w]
  canon_tiles x hx
  rw [same_ix x (y 1) (y 2) hx1 hx2]
  exact (pay2_ix (y 1) (y 2) _).trans (pay5_ix i x1 x2 x3 (y 1) (y 2))

theorem out_v : out0_8 (F := Ideal) i x0 x1 x2 x3 x4 y = var (grad i x1 x2 (y 1) (y 2)) (x4 (ix3 0 (y 1) (y 2))) := by
  unfold out0_8
  rw [ld_g, ld_g, ld_w]
  canon_tiles x hx
  rw [same_ix x (y 1) (y 2) hx1 hx2]
  exact (pay3_ix (y 1) (y 2) _).trans (pay6_ix i x1 x2 x4 (y 1) (y 2))

theorem out_d : out0_6 (F := Ideal) i x0 x1 x2 x3 x4 y
    = delta (x0 (ix3 0 (y 1) (y 2))) (grad i x1 x2 (y 1) (y 2)) (x3 (ix3 0 (y 1) (y 2))) (x4 (ix3 0 (y 1) (y 2))) := by
  unfold out0_6
  rw [ld_g, ld_g, ld_w, ld_w, ld_w]
  canon_tiles x hx
  rw [same_ix x (y 1) (y 2) hx1 hx2]
  refine (pay1_ix (y 1) (y 2) _ _ _).trans ?_
  have h8 := pay8_ix i x1 x2 x3 x4 (y 1) (y 2)
  have h9 := pay9_ix (y 1) (y 2) x0
  unfold delta
  rw [← h8, ← h9]
  rfl

end Points

variable (m : (ℓ : Loc nD τ sig) → Buf (Elt Ideal) ℓ) (c : Dev nD)

/-- The weights. -/
abbrev argW : S2x1024x640.Idx → EReal := m ((c : Thread nD τ).loc main_arg0)
/-- The first layer's gradient. -/
abbrev argA : S1024x640.Idx → EReal := m ((c : Thread nD τ).loc main_arg1)
/-- The second layer's gradient. -/
abbrev argB : S1024x640.Idx → EReal := m ((c : Thread nD τ).loc main_arg2)
/-- The first moments. -/
abbrev argM : S2x1024x640.Idx → EReal := m ((c : Thread nD τ).loc main_arg3)
/-- The second moments. -/
abbrev argV : S2x1024x640.Idx → EReal := m ((c : Thread nD τ).loc main_arg4)

theorem picks : ∀ t : Fin cfg0.N, (Scalar.cmpi .eq (BitVec.ofNat 32 ((grid0.coords t) 1).val) 0#32 : BitVec 1) = if t.val % 2 = 0 then 1#1 else 0#1 :=
  (by decide +kernel : ∀ t : Fin grid0.N, _)
theorem index0 : ∀ t : Fin cfg0.N, win0_0.index t = ![t.val % 2, t.val / 2, 0] := (by decide +kernel : ∀ t : Fin grid0.N, _)
theorem index1 : ∀ t : Fin cfg0.N, win0_1.index t = ![t.val / 2, 0] := (by decide +kernel : ∀ t : Fin grid0.N, _)
theorem index2 : ∀ t : Fin cfg0.N, win0_2.index t = ![t.val / 2, 0] := (by decide +kernel : ∀ t : Fin grid0.N, _)
theorem index3 : ∀ t : Fin cfg0.N, win0_3.index t = ![t.val % 2, t.val / 2, 0] := (by decide +kernel : ∀ t : Fin grid0.N, _)
theorem index4 : ∀ t : Fin cfg0.N, win0_4.index t = ![t.val % 2, t.val / 2, 0] := (by decide +kernel : ∀ t : Fin grid0.N, _)
theorem index5 : ∀ t : Fin cfg0.N, win0_5.index t = ![t.val % 2, t.val / 2, 0] := (by decide +kernel : ∀ t : Fin grid0.N, _)
theorem index6 : ∀ t : Fin cfg0.N, win0_6.index t = ![t.val % 2, t.val / 2, 0] := (by decide +kernel : ∀ t : Fin grid0.N, _)
theorem index7 : ∀ t : Fin cfg0.N, win0_7.index t = ![t.val % 2, t.val / 2, 0] := (by decide +kernel : ∀ t : Fin grid0.N, _)
theorem index8 : ∀ t : Fin cfg0.N, win0_8.index t = ![t.val % 2, t.val / 2, 0] := (by decide +kernel : ∀ t : Fin grid0.N, _)

/-- The gradient of a layer. -/
def gAt (p q : S1024x640.Idx → EReal) (l : Fin 2) (s : Fin 1024) (e : Fin 640) : EReal := if (l : ℕ) = 0 then p (ix2 s e) else q (ix2 s e)

theorem grad_eq (t : Fin cfg0.N) (r : Fin 512) (d : Fin 640) (l : Fin 2) (s : Fin 1024) (e : Fin 640) (hl : (l : ℕ) = t.val % 2)
    (hs : (s : ℕ) = t.val / 2 * 512 + r) (he : (e : ℕ) = d) :
    grad (grid0.coords t) (iblk m c 1 t) (iblk m c 2 t) r d = gAt (argA m c) (argB m c) l s e := by
  have h := picks t
  unfold grad gAt k0_pay4
  dsimp only
  rw [h, hl]
  split_ifs with h0
  · show (iblk m c 1 t : Vec Ideal S512x640 .f32) (ix2 r d) = _
    blk_simp [iblk]
    show V m c main_arg1 _ = V m c main_arg1 _
    congr 1
    blk_ext [index1 t]
  · show (iblk m c 2 t : Vec Ideal S512x640 .f32) (ix2 r d) = _
    blk_simp [iblk]
    show V m c main_arg2 _ = V m c main_arg2 _
    congr 1
    blk_ext [index2 t]

theorem blk_w (t : Fin cfg0.N) (r : Fin 512) (d : Fin 640) (l : Fin 2) (s : Fin 1024) (e : Fin 640) (hl : (l : ℕ) = t.val % 2)
    (hs : (s : ℕ) = t.val / 2 * 512 + r) (he : (e : ℕ) = d) : (iblk m c 0 t : Vec Ideal S1x512x640 .f32) (ix3 0 r d) = argW m c (ix3 l s e) := by
  blk_simp [iblk]
  show V m c main_arg0 _ = V m c main_arg0 _
  congr 1
  blk_ext [index0 t]

theorem blk_m (t : Fin cfg0.N) (r : Fin 512) (d : Fin 640) (l : Fin 2) (s : Fin 1024) (e : Fin 640) (hl : (l : ℕ) = t.val % 2)
    (hs : (s : ℕ) = t.val / 2 * 512 + r) (he : (e : ℕ) = d) : (iblk m c 3 t : Vec Ideal S1x512x640 .f32) (ix3 0 r d) = argM m c (ix3 l s e) := by
  blk_simp [iblk]
  show V m c main_arg3 _ = V m c main_arg3 _
  congr 1
  blk_ext [index3 t]

theorem blk_v (t : Fin cfg0.N) (r : Fin 512) (d : Fin 640) (l : Fin 2) (s : Fin 1024) (e : Fin 640) (hl : (l : ℕ) = t.val % 2)
    (hs : (s : ℕ) = t.val / 2 * 512 + r) (he : (e : ℕ) = d) : (iblk m c 4 t : Vec Ideal S1x512x640 .f32) (ix3 0 r d) = argV m c (ix3 l s e) := by
  blk_simp [iblk]
  show V m c main_arg4 _ = V m c main_arg4 _
  congr 1
  blk_ext [index4 t]

/-- The gradients. -/
def arrG (z : S2x1024x640.Idx) : EReal := gAt (argA m c) (argB m c) (z 0) (z 1) (z 2)

theorem eq_g (t : Fin cfg0.N) (y : S1x512x640.Idx) (z : S2x1024x640.Idx) (h0 : (z 0 : ℕ) = t.val % 2) (h1 : (z 1 : ℕ) = t.val / 2 * 512 + y 1) (h2 : (z 2 : ℕ) = y 2) :
    out0_5 (F := Ideal) (grid0.coords t) (iblk m c 0 t) (iblk m c 1 t) (iblk m c 2 t) (iblk m c 3 t) (iblk m c 4 t) y = arrG m c z := by
  rw [out_g, grad_eq m c t (y 1) (y 2) (z 0) (z 1) (z 2) h0 h1 h2]
  rfl

theorem final5 : (dats m 0 c).arrAt 5 cfg0.N = arrG m c := by
  refine (dats m 0 c).arrAt_eq_of_covers 5 _ (by decide +kernel) fun t hf y => ?_
  blk_simp
  rw [after0_5]
  refine eq_g m c t _ _ ?_ ?_ ?_
  · blk_simp [index5 t]
  · blk_simp [index5 t]
  · blk_simp [index5 t]

/-- The changes of the weights. -/
def arrD (z : S2x1024x640.Idx) : EReal := delta (argW m c (ix3 (z 0) (z 1) (z 2))) (gAt (argA m c) (argB m c) (z 0) (z 1) (z 2)) (argM m c (ix3 (z 0) (z 1) (z 2))) (argV m c (ix3 (z 0) (z 1) (z 2)))

theorem eq_d (t : Fin cfg0.N) (y : S1x512x640.Idx) (z : S2x1024x640.Idx) (h0 : (z 0 : ℕ) = t.val % 2) (h1 : (z 1 : ℕ) = t.val / 2 * 512 + y 1) (h2 : (z 2 : ℕ) = y 2) :
    out0_6 (F := Ideal) (grid0.coords t) (iblk m c 0 t) (iblk m c 1 t) (iblk m c 2 t) (iblk m c 3 t) (iblk m c 4 t) y = arrD m c z := by
  rw [out_d, grad_eq m c t (y 1) (y 2) (z 0) (z 1) (z 2) h0 h1 h2, blk_w m c t (y 1) (y 2) (z 0) (z 1) (z 2) h0 h1 h2, blk_m m c t (y 1) (y 2) (z 0) (z 1) (z 2) h0 h1 h2, blk_v m c t (y 1) (y 2) (z 0) (z 1) (z 2) h0 h1 h2]
  rfl

theorem final6 : (dats m 0 c).arrAt 6 cfg0.N = arrD m c := by
  refine (dats m 0 c).arrAt_eq_of_covers 6 _ (by decide +kernel) fun t hf y => ?_
  blk_simp
  rw [after0_6]
  refine eq_d m c t _ _ ?_ ?_ ?_
  · blk_simp [index6 t]
  · blk_simp [index6 t]
  · blk_simp [index6 t]

/-- The first moments after the step. -/
def arrM (z : S2x1024x640.Idx) : EReal := mom (gAt (argA m c) (argB m c) (z 0) (z 1) (z 2)) (argM m c (ix3 (z 0) (z 1) (z 2)))

theorem eq_m (t : Fin cfg0.N) (y : S1x512x640.Idx) (z : S2x1024x640.Idx) (h0 : (z 0 : ℕ) = t.val % 2) (h1 : (z 1 : ℕ) = t.val / 2 * 512 + y 1) (h2 : (z 2 : ℕ) = y 2) :
    out0_7 (F := Ideal) (grid0.coords t) (iblk m c 0 t) (iblk m c 1 t) (iblk m c 2 t) (iblk m c 3 t) (iblk m c 4 t) y = arrM m c z := by
  rw [out_m, grad_eq m c t (y 1) (y 2) (z 0) (z 1) (z 2) h0 h1 h2, blk_m m c t (y 1) (y 2) (z 0) (z 1) (z 2) h0 h1 h2]
  rfl

theorem final7 : (dats m 0 c).arrAt 7 cfg0.N = arrM m c := by
  refine (dats m 0 c).arrAt_eq_of_covers 7 _ (by decide +kernel) fun t hf y => ?_
  blk_simp
  rw [after0_7]
  refine eq_m m c t _ _ ?_ ?_ ?_
  · blk_simp [index7 t]
  · blk_simp [index7 t]
  · blk_simp [index7 t]

/-- The second moments after the step. -/
def arrV (z : S2x1024x640.Idx) : EReal := var (gAt (argA m c) (argB m c) (z 0) (z 1) (z 2)) (argV m c (ix3 (z 0) (z 1) (z 2)))

theorem eq_v (t : Fin cfg0.N) (y : S1x512x640.Idx) (z : S2x1024x640.Idx) (h0 : (z 0 : ℕ) = t.val % 2) (h1 : (z 1 : ℕ) = t.val / 2 * 512 + y 1) (h2 : (z 2 : ℕ) = y 2) :
    out0_8 (F := Ideal) (grid0.coords t) (iblk m c 0 t) (iblk m c 1 t) (iblk m c 2 t) (iblk m c 3 t) (iblk m c 4 t) y = arrV m c z := by
  rw [out_v, grad_eq m c t (y 1) (y 2) (z 0) (z 1) (z 2) h0 h1 h2, blk_v m c t (y 1) (y 2) (z 0) (z 1) (z 2) h0 h1 h2]
  rfl

theorem final8 : (dats m 0 c).arrAt 8 cfg0.N = arrV m c := by
  refine (dats m 0 c).arrAt_eq_of_covers 8 _ (by decide +kernel) fun t hf y => ?_
  blk_simp
  rw [after0_8]
  refine eq_v m c t _ _ ?_ ?_ ?_
  · blk_simp [index8 t]
  · blk_simp [index8 t]
  · blk_simp [index8 t]

end Cert.KernelAdamInIdeal.Blocks
-- ==== Proof.AdamInClaim.lean ====
module

public import proofs.«01_k».proof.Defs
public import proofs.«01_k».proof.Proof.AdamInBlock
public import proofs.«01_k».proof.Proof.Gen.KernelAdamIn.Frame
public import proofs.«01_k».proof.Proof.Gen.ReferenceAdamInIdeal.Run
public import proofs.«01_k».proof.Proof.Gen.ReferenceAdamInIdeal.Read

@[expose] public section
noncomputable section

open Idealize.ShloMosaic Idealize.ShloMosaic.TcCoe Idealize.SL.Sem

/-! The optimiser on the input weight: kernel and reference end with the same four arrays. -/

namespace Cert.ReferenceAdamInIdeal.Grad

open Cert.ReferenceAdamInIdeal Cert.ReferenceAdamInIdeal.Gen Cert.ReferenceAdamInIdeal.Read Cert.AdamMath Cert.KernelAdamInIdeal.Blocks

variable (x0 : (⟨S2x1024x640, .f32⟩ : BufTy).Contents (Elt Ideal)) (x1 x2 : (⟨S1024x640, .f32⟩ : BufTy).Contents (Elt Ideal))
  (x3 x4 : (⟨S2x1024x640, .f32⟩ : BufTy).Contents (Elt Ideal)) (l : Fin 2) (s : Fin 1024) (e : Fin 640)

theorem g_ix : val_main_v2 (F := Ideal) x1 x2 (ix3 l s e) = gAt x1 x2 l s e := by
  fin_cases l
  · pointwise [val_main_v2, val_main_v0] <;> rfl
  · pointwise [val_main_v2, val_main_v1] <;> rfl

theorem m_ix : val_main_v7 (F := Ideal) x1 x2 x3 (ix3 l s e) = mom (gAt x1 x2 l s e) (x3 (ix3 l s e)) := by
  pointwise [val_main_v7, val_main_v6, val_main_v5, val_main_cst_0, val_main_v4, val_main_v3, val_main_cst]
  rw [g_ix]
  rfl

theorem v_ix : val_main_v13 (F := Ideal) x1 x2 x4 (ix3 l s e) = var (gAt x1 x2 l s e) (x4 (ix3 l s e)) := by
  pointwise [val_main_v13, val_main_v12, val_main_v11, val_main_cst_2, val_main_v10, val_main_v9, val_main_v8, val_main_cst_1]
  rw [g_ix]
  rfl

theorem r_ix : val_main_v21 (F := Ideal) x1 x2 x3 x4 (ix3 l s e) = ratio (gAt x1 x2 l s e) (x3 (ix3 l s e)) (x4 (ix3 l s e)) := by
  pointwise [val_main_v21, val_main_v20, val_main_v19, val_main_cst_5, val_main_v18, val_main_v17, val_main_v16, val_main_cst_4,
    val_main_v15, val_main_v14, val_main_cst_3]
  rw [m_ix, v_ix]
  rfl

theorem d_ix : val_main_v26 (F := Ideal) x0 x1 x2 x3 x4 (ix3 l s e)
    = delta (x0 (ix3 l s e)) (gAt x1 x2 l s e) (x3 (ix3 l s e)) (x4 (ix3 l s e)) := by
  pointwise [val_main_v26, val_main_v25, val_main_cst_7, val_main_v24, val_main_v23, val_main_v22, val_main_cst_6]
  rw [r_ix]
  rfl

/-- The reference's first result: the gradients. -/
theorem res0 (y : S2x1024x640.Idx) : val_main_v2 (F := Ideal) x1 x2 y
    = gAt x1 x2 (y 0) (y 1) (y 2) :=
  (congrArg (fun z => val_main_v2 (F := Ideal) x1 x2 z) (ix3_eta y)).symm.trans (g_ix x1 x2 (y 0) (y 1) (y 2))

/-- The reference's second result: the changes. -/
theorem res1 (y : S2x1024x640.Idx) : val_main_v26 (F := Ideal) x0 x1 x2 x3 x4 y
    = delta (x0 (ix3 (y 0) (y 1) (y 2))) (gAt x1 x2 (y 0) (y 1) (y 2)) (x3 (ix3 (y 0) (y 1) (y 2))) (x4 (ix3 (y 0) (y 1) (y 2))) :=
  (congrArg (fun z => val_main_v26 (F := Ideal) x0 x1 x2 x3 x4 z) (ix3_eta y)).symm.trans (d_ix x0 x1 x2 x3 x4 (y 0) (y 1) (y 2))

/-- The reference's third result: the first moments. -/
theorem res2 (y : S2x1024x640.Idx) : val_main_v7 (F := Ideal) x1 x2 x3 y
    = mom (gAt x1 x2 (y 0) (y 1) (y 2)) (x3 (ix3 (y 0) (y 1) (y 2))) :=
  (congrArg (fun z => val_main_v7 (F := Ideal) x1 x2 x3 z) (ix3_eta y)).symm.trans (m_ix x1 x2 x3 (y 0) (y 1) (y 2))

/-- The reference's fourth result: the second moments. -/
theorem res3 (y : S2x1024x640.Idx) : val_main_v13 (F := Ideal) x1 x2 x4 y
    = var (gAt x1 x2 (y 0) (y 1) (y 2)) (x4 (ix3 (y 0) (y 1) (y 2))) :=
  (congrArg (fun z => val_main_v13 (F := Ideal) x1 x2 x4 z) (ix3_eta y)).symm.trans (v_ix x1 x2 x4 (y 0) (y 1) (y 2))

end Cert.ReferenceAdamInIdeal.Grad

namespace Cert.AdamInClaim

/-- The kernel runs, and leaves its arguments and every counter as they were. -/
theorem frame_kernel (h : Cert.KernelAdamIn.Facts) : Cert.quiescent_KernelAdamIn (hKernelAdamIn := h) :=
  fun m ρ _ => Cert.KernelAdamIn.Gen.frame m ρ

/-- The same of its reading over the extended reals. -/
theorem frame_ideal (h : Cert.KernelAdamInIdeal.Facts) : Cert.quiescent_KernelAdamInIdeal (hKernelAdamInIdeal := h) :=
  fun m ρ _ => Cert.KernelAdamInIdeal.Gen.frame m ρ

/-- The reference's run leaves its arguments and every counter as they were. -/
theorem frame_ref (h : Cert.ReferenceAdamInIdeal.Facts) : Cert.quiescent_ReferenceAdamInIdeal (hReferenceAdamInIdeal := h) :=
  fun m ρ _ => (θ_run _ _ _).mono (fun r h => ⟨fun c => (h c).2.2.2.2, sem_eq_zero_of_no_sems (by decide) r.2⟩)
    (Cert.ReferenceAdamInIdeal.Value.run m ρ)

/-- The kernel's four results are the reference's. -/
theorem algebraic (h : Cert.KernelAdamInIdeal.Facts) (h' : Cert.ReferenceAdamInIdeal.Facts) :
    Cert.algebraic_KernelAdamInIdeal_ReferenceAdamInIdeal (hKernelAdamInIdeal := h) (hReferenceAdamInIdeal := h') := by
  intro m g m' g' hpre hargs
  refine ⟨fun c => Cert.KernelAdamInIdeal.Blocks.arrG m c, fun c => Cert.KernelAdamInIdeal.Blocks.arrD m c, fun c => Cert.KernelAdamInIdeal.Blocks.arrM m c, fun c => Cert.KernelAdamInIdeal.Blocks.arrV m c,
    (θ_run _ _ _).mono (fun r h c => ?_) (Cert.KernelAdamInIdeal.Value.run_blocks m g),
    (θ_run _ _ _).mono (fun r h c => ?_) (Cert.ReferenceAdamInIdeal.Value.run m' g')⟩
  · obtain ⟨h0, h1, h2, h3, hr⟩ := h c
    exact ⟨h0.trans (Cert.KernelAdamInIdeal.Blocks.final5 m c), h1.trans (Cert.KernelAdamInIdeal.Blocks.final6 m c), h2.trans (Cert.KernelAdamInIdeal.Blocks.final7 m c),
      h3.trans (Cert.KernelAdamInIdeal.Blocks.final8 m c), hr⟩
  · obtain ⟨h0, h1, h2, h3, hr⟩ := h c
    obtain ⟨a0, a1, a2, a3, a4⟩ := hargs c
    refine ⟨h0.trans ?_, h1.trans ?_, h2.trans ?_, h3.trans ?_, hr⟩
    · rw [Cert.ReferenceAdamInIdeal.Read.val_main_v2_eq, a1, a2]
      exact funext fun y => Cert.ReferenceAdamInIdeal.Grad.res0 _ _ y
    · rw [Cert.ReferenceAdamInIdeal.Read.val_main_v26_eq, a0, a1, a2, a3, a4]
      exact funext fun y => Cert.ReferenceAdamInIdeal.Grad.res1 _ _ _ _ _ y
    · rw [Cert.ReferenceAdamInIdeal.Read.val_main_v7_eq, a1, a2, a3]
      exact funext fun y => Cert.ReferenceAdamInIdeal.Grad.res2 _ _ _ y
    · rw [Cert.ReferenceAdamInIdeal.Read.val_main_v13_eq, a1, a2, a4]
      exact funext fun y => Cert.ReferenceAdamInIdeal.Grad.res3 _ _ _ y

end Cert.AdamInClaim
-- ==== Proof.AdamSqBlock.lean ====
module

public import proofs.«01_k».proof.Proof.Gen.KernelAdamSqIdeal.Value
public import proofs.«01_k».proof.Proof.AdamMath
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The optimiser on the square weights: the four results of the kernel, at an index. -/

namespace Cert.KernelAdamSqIdeal.Blocks

open Cert.KernelAdamSqIdeal Cert.KernelAdamSqIdeal.Gen Cert.AdamMath

section Body
variable (i : grid0.Coords) (x1 x2 : Vec Ideal S256x1024 .f32) (x3 x4 : Vec Ideal S1x256x1024 .f32) (r : Fin 256) (d : Fin 1024)

/-- The gradient of the point's layer. -/
abbrev grad (r : Fin 256) (d : Fin 1024) : EReal := k0_pay4 (F := Ideal) i x1 x2 (ix2 r d)

theorem pay5_ix : k0_pay5 (F := Ideal) i x1 x2 x3 (ix2 r d) = mom (grad i x1 x2 r d) (x3 (ix3 0 r d)) := by
  pointwise [k0_pay5] <;> rfl

theorem pay6_ix : k0_pay6 (F := Ideal) i x1 x2 x4 (ix2 r d) = var (grad i x1 x2 r d) (x4 (ix3 0 r d)) := by
  pointwise [k0_pay6] <;> rfl

theorem pay8_ix : k0_pay8 (F := Ideal) i x1 x2 x3 x4 (ix2 r d) = ratio (grad i x1 x2 r d) (x3 (ix3 0 r d)) (x4 (ix3 0 r d)) := by
  pointwise [k0_pay8]
  rw [pay5_ix, pay6_ix]
  rfl

theorem pay9_ix (x0 : Vec Ideal S1x256x1024 .f32) : k0_pay9 (F := Ideal) x0 (ix2 r d) = x0 (ix3 0 r d) := by
  pointwise [k0_pay9] <;> rfl

theorem pay1_ix (u w : FVec Ideal S256x1024 .f32) (z : EReal) :
    k0_pay1 (F := Ideal) u w z (ix3 0 r d) = Ideal.ofBits .f32 0xBA83126F#32 * (u (ix2 r d) + z * w (ix2 r d)) := by
  pointwise [k0_pay1] <;> rfl

theorem pay2_ix (u : FVec Ideal S256x1024 .f32) : k0_pay2 (F := Ideal) u (ix3 0 r d) = u (ix2 r d) := by
  pointwise [k0_pay2] <;> rfl

theorem pay3_ix (u : FVec Ideal S256x1024 .f32) : k0_pay3 (F := Ideal) u (ix3 0 r d) = u (ix2 r d) := by
  pointwise [k0_pay3] <;> rfl

theorem pay7_ix : k0_pay7 (F := Ideal) i x1 x2 (ix3 0 r d) = grad i x1 x2 r d := by
  pointwise [k0_pay7] <;> rfl

end Body

theorem ld_g (x : Vec Ideal S256x1024 .f32)
    (inb : ∀ a : Fin 2, (![0, 0] : Fin 2 → ℕ) a + (![256, 1024] : Fin 2 → ℕ) a ≤ S256x1024.size a) :
    View.ld x (Rect.unit ![0, 0] ![256, 1024] inb) = x := View.ld_unit_lit inb x (by decide)

theorem ld_w (x : Vec Ideal S1x256x1024 .f32)
    (inb : ∀ a : Fin 3, (![0, 0, 0] : Fin 3 → ℕ) a + (![1, 256, 1024] : Fin 3 → ℕ) a ≤ S1x256x1024.size a) :
    View.ld x (Rect.unit ![0, 0, 0] ![1, 256, 1024] inb) = x := View.ld_unit_lit inb x (by decide)

theorem same_ix (x : S1x256x1024.Idx) (r : Fin 256) (d : Fin 1024) (h1 : (r : ℕ) = x 1) (h2 : (d : ℕ) = x 2) : x = ix3 0 r d :=
  funext fun a => by
    match a with
    | ⟨0, _⟩ => exact Subsingleton.elim (α := Fin 1) _ _
    | ⟨1, _⟩ => exact Fin.ext h1.symm
    | ⟨2, _⟩ => exact Fin.ext h2.symm

section Points
variable (i : grid0.Coords) (x0 : Vec Ideal S1x256x1024 .f32) (x1 x2 : Vec Ideal S256x1024 .f32) (x3 x4 : Vec Ideal S1x256x1024 .f32) (y : S1x256x1024.Idx)

theorem out_g : out0_5 (F := Ideal) i x0 x1 x2 x3 x4 y = grad i x1 x2 (y 1) (y 2) := by
  unfold out0_5
  rw [ld_g, ld_g]
  canon_tiles x hx
  rw [same_ix x (y 1) (y 2) hx1 hx2]
  exact pay7_ix i x1 x2 (y 1) (y 2)

theorem out_m : out0_7 (F := Ideal) i x0 x1 x2 x3 x4 y = mom (grad i x1 x2 (y 1) (y 2)) (x3 (ix3 0 (y 1) (y 2))) := by
  unfold out0_7
  rw [ld_g, ld_g, ld_w]
  canon_tiles x hx
  rw [same_ix x (y 1) (y 2) hx1 hx2]
  exact (pay2_ix (y 1) (y 2) _).trans (pay5_ix i x1 x2 x3 (y 1) (y 2))

theorem out_v : out0_8 (F := Ideal) i x0 x1 x2 x3 x4 y = var (grad i x1 x2 (y 1) (y 2)) (x4 (ix3 0 (y 1) (y 2))) := by
  unfold out0_8
  rw [ld_g, ld_g, ld_w]
  canon_tiles x hx
  rw [same_ix x (y 1) (y 2) hx1 hx2]
  exact (pay3_ix (y 1) (y 2) _).trans (pay6_ix i x1 x2 x4 (y 1) (y 2))

theorem out_d : out0_6 (F := Ideal) i x0 x1 x2 x3 x4 y
    = delta (x0 (ix3 0 (y 1) (y 2))) (grad i x1 x2 (y 1) (y 2)) (x3 (ix3 0 (y 1) (y 2))) (x4 (ix3 0 (y 1) (y 2))) := by
  unfold out0_6
  rw [ld_g, ld_g, ld_w, ld_w, ld_w]
  canon_tiles x hx
  rw [same_ix x (y 1) (y 2) hx1 hx2]
  refine (pay1_ix (y 1) (y 2) _ _ _).trans ?_
  have h8 := pay8_ix i x1 x2 x3 x4 (y 1) (y 2)
  have h9 := pay9_ix (y 1) (y 2) x0
  unfold delta
  rw [← h8, ← h9]
  rfl

end Points

variable (m : (ℓ : Loc nD τ sig) → Buf (Elt Ideal) ℓ) (c : Dev nD)

/-- The weights. -/
abbrev argW : S2x256x1024.Idx → EReal := m ((c : Thread nD τ).loc main_arg0)
/-- The first layer's gradient. -/
abbrev argA : S256x1024.Idx → EReal := m ((c : Thread nD τ).loc main_arg1)
/-- The second layer's gradient. -/
abbrev argB : S256x1024.Idx → EReal := m ((c : Thread nD τ).loc main_arg2)
/-- The first moments. -/
abbrev argM : S2x256x1024.Idx → EReal := m ((c : Thread nD τ).loc main_arg3)
/-- The second moments. -/
abbrev argV : S2x256x1024.Idx → EReal := m ((c : Thread nD τ).loc main_arg4)

theorem picks : ∀ t : Fin cfg0.N, (Scalar.cmpi .eq (BitVec.ofNat 32 ((grid0.coords t) 1).val) 0#32 : BitVec 1) = if t.val % 2 = 0 then 1#1 else 0#1 :=
  (by decide +kernel : ∀ t : Fin grid0.N, _)
theorem index0 : ∀ t : Fin cfg0.N, win0_0.index t = ![t.val % 2, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val % 2, 0, 0] := (by decide +kernel : ∀ t : Fin grid0.N, _)
theorem index4 : ∀ t : Fin cfg0.N, win0_4.index t = ![t.val % 2, 0, 0] := (by decide +kernel : ∀ t : Fin grid0.N, _)
theorem index5 : ∀ t : Fin cfg0.N, win0_5.index t = ![t.val % 2, 0, 0] := (by decide +kernel : ∀ t : Fin grid0.N, _)
theorem index6 : ∀ t : Fin cfg0.N, win0_6.index t = ![t.val % 2, 0, 0] := (by decide +kernel : ∀ t : Fin grid0.N, _)
theorem index7 : ∀ t : Fin cfg0.N, win0_7.index t = ![t.val % 2, 0, 0] := (by decide +kernel : ∀ t : Fin grid0.N, _)
theorem index8 : ∀ t : Fin cfg0.N, win0_8.index t = ![t.val % 2, 0, 0] := (by decide +kernel : ∀ t : Fin grid0.N, _)

/-- The gradient of a layer. -/
def gAt (p q : S256x1024.Idx → EReal) (l : Fin 2) (s : Fin 256) (e : Fin 1024) : EReal := if (l : ℕ) = 0 then p (ix2 s e) else q (ix2 s e)

theorem grad_eq (t : Fin cfg0.N) (r : Fin 256) (d : Fin 1024) (l : Fin 2) (s : Fin 256) (e : Fin 1024) (hl : (l : ℕ) = t.val % 2)
    (hs : (s : ℕ) = r) (he : (e : ℕ) = d) :
    grad (grid0.coords t) (iblk m c 1 t) (iblk m c 2 t) r d = gAt (argA m c) (argB m c) l s e := by
  have h := picks t
  unfold grad gAt k0_pay4
  dsimp only
  rw [h, hl]
  split_ifs with h0
  · show (iblk m c 1 t : Vec Ideal S256x1024 .f32) (ix2 r d) = _
    blk_simp [iblk]
    show V m c main_arg1 _ = V m c main_arg1 _
    congr 1
    blk_ext [index1 t]
  · show (iblk m c 2 t : Vec Ideal S256x1024 .f32) (ix2 r d) = _
    blk_simp [iblk]
    show V m c main_arg2 _ = V m c main_arg2 _
    congr 1
    blk_ext [index2 t]

theorem blk_w (t : Fin cfg0.N) (r : Fin 256) (d : Fin 1024) (l : Fin 2) (s : Fin 256) (e : Fin 1024) (hl : (l : ℕ) = t.val % 2)
    (hs : (s : ℕ) = r) (he : (e : ℕ) = d) : (iblk m c 0 t : Vec Ideal S1x256x1024 .f32) (ix3 0 r d) = argW m c (ix3 l s e) := by
  blk_simp [iblk]
  show V m c main_arg0 _ = V m c main_arg0 _
  congr 1
  blk_ext [index0 t]

theorem blk_m (t : Fin cfg0.N) (r : Fin 256) (d : Fin 1024) (l : Fin 2) (s : Fin 256) (e : Fin 1024) (hl : (l : ℕ) = t.val % 2)
    (hs : (s : ℕ) = r) (he : (e : ℕ) = d) : (iblk m c 3 t : Vec Ideal S1x256x1024 .f32) (ix3 0 r d) = argM m c (ix3 l s e) := by
  blk_simp [iblk]
  show V m c main_arg3 _ = V m c main_arg3 _
  congr 1
  blk_ext [index3 t]

theorem blk_v (t : Fin cfg0.N) (r : Fin 256) (d : Fin 1024) (l : Fin 2) (s : Fin 256) (e : Fin 1024) (hl : (l : ℕ) = t.val % 2)
    (hs : (s : ℕ) = r) (he : (e : ℕ) = d) : (iblk m c 4 t : Vec Ideal S1x256x1024 .f32) (ix3 0 r d) = argV m c (ix3 l s e) := by
  blk_simp [iblk]
  show V m c main_arg4 _ = V m c main_arg4 _
  congr 1
  blk_ext [index4 t]

/-- The gradients. -/
def arrG (z : S2x256x1024.Idx) : EReal := gAt (argA m c) (argB m c) (z 0) (z 1) (z 2)

theorem eq_g (t : Fin cfg0.N) (y : S1x256x1024.Idx) (z : S2x256x1024.Idx) (h0 : (z 0 : ℕ) = t.val % 2) (h1 : (z 1 : ℕ) = y 1) (h2 : (z 2 : ℕ) = y 2) :
    out0_5 (F := Ideal) (grid0.coords t) (iblk m c 0 t) (iblk m c 1 t) (iblk m c 2 t) (iblk m c 3 t) (iblk m c 4 t) y = arrG m c z := by
  rw [out_g, grad_eq m c t (y 1) (y 2) (z 0) (z 1) (z 2) h0 h1 h2]
  rfl

theorem final5 : (dats m 0 c).arrAt 5 cfg0.N = arrG m c := by
  refine (dats m 0 c).arrAt_eq_of_covers 5 _ (by decide +kernel) fun t hf y => ?_
  blk_simp
  rw [after0_5]
  refine eq_g m c t _ _ ?_ ?_ ?_
  · blk_simp [index5 t]
  · blk_simp [index5 t]
  · blk_simp [index5 t]

/-- The changes of the weights. -/
def arrD (z : S2x256x1024.Idx) : EReal := delta (argW m c (ix3 (z 0) (z 1) (z 2))) (gAt (argA m c) (argB m c) (z 0) (z 1) (z 2)) (argM m c (ix3 (z 0) (z 1) (z 2))) (argV m c (ix3 (z 0) (z 1) (z 2)))

theorem eq_d (t : Fin cfg0.N) (y : S1x256x1024.Idx) (z : S2x256x1024.Idx) (h0 : (z 0 : ℕ) = t.val % 2) (h1 : (z 1 : ℕ) = y 1) (h2 : (z 2 : ℕ) = y 2) :
    out0_6 (F := Ideal) (grid0.coords t) (iblk m c 0 t) (iblk m c 1 t) (iblk m c 2 t) (iblk m c 3 t) (iblk m c 4 t) y = arrD m c z := by
  rw [out_d, grad_eq m c t (y 1) (y 2) (z 0) (z 1) (z 2) h0 h1 h2, blk_w m c t (y 1) (y 2) (z 0) (z 1) (z 2) h0 h1 h2, blk_m m c t (y 1) (y 2) (z 0) (z 1) (z 2) h0 h1 h2, blk_v m c t (y 1) (y 2) (z 0) (z 1) (z 2) h0 h1 h2]
  rfl

theorem final6 : (dats m 0 c).arrAt 6 cfg0.N = arrD m c := by
  refine (dats m 0 c).arrAt_eq_of_covers 6 _ (by decide +kernel) fun t hf y => ?_
  blk_simp
  rw [after0_6]
  refine eq_d m c t _ _ ?_ ?_ ?_
  · blk_simp [index6 t]
  · blk_simp [index6 t]
  · blk_simp [index6 t]

/-- The first moments after the step. -/
def arrM (z : S2x256x1024.Idx) : EReal := mom (gAt (argA m c) (argB m c) (z 0) (z 1) (z 2)) (argM m c (ix3 (z 0) (z 1) (z 2)))

theorem eq_m (t : Fin cfg0.N) (y : S1x256x1024.Idx) (z : S2x256x1024.Idx) (h0 : (z 0 : ℕ) = t.val % 2) (h1 : (z 1 : ℕ) = y 1) (h2 : (z 2 : ℕ) = y 2) :
    out0_7 (F := Ideal) (grid0.coords t) (iblk m c 0 t) (iblk m c 1 t) (iblk m c 2 t) (iblk m c 3 t) (iblk m c 4 t) y = arrM m c z := by
  rw [out_m, grad_eq m c t (y 1) (y 2) (z 0) (z 1) (z 2) h0 h1 h2, blk_m m c t (y 1) (y 2) (z 0) (z 1) (z 2) h0 h1 h2]
  rfl

theorem final7 : (dats m 0 c).arrAt 7 cfg0.N = arrM m c := by
  refine (dats m 0 c).arrAt_eq_of_covers 7 _ (by decide +kernel) fun t hf y => ?_
  blk_simp
  rw [after0_7]
  refine eq_m m c t _ _ ?_ ?_ ?_
  · blk_simp [index7 t]
  · blk_simp [index7 t]
  · blk_simp [index7 t]

/-- The second moments after the step. -/
def arrV (z : S2x256x1024.Idx) : EReal := var (gAt (argA m c) (argB m c) (z 0) (z 1) (z 2)) (argV m c (ix3 (z 0) (z 1) (z 2)))

theorem eq_v (t : Fin cfg0.N) (y : S1x256x1024.Idx) (z : S2x256x1024.Idx) (h0 : (z 0 : ℕ) = t.val % 2) (h1 : (z 1 : ℕ) = y 1) (h2 : (z 2 : ℕ) = y 2) :
    out0_8 (F := Ideal) (grid0.coords t) (iblk m c 0 t) (iblk m c 1 t) (iblk m c 2 t) (iblk m c 3 t) (iblk m c 4 t) y = arrV m c z := by
  rw [out_v, grad_eq m c t (y 1) (y 2) (z 0) (z 1) (z 2) h0 h1 h2, blk_v m c t (y 1) (y 2) (z 0) (z 1) (z 2) h0 h1 h2]
  rfl

theorem final8 : (dats m 0 c).arrAt 8 cfg0.N = arrV m c := by
  refine (dats m 0 c).arrAt_eq_of_covers 8 _ (by decide +kernel) fun t hf y => ?_
  blk_simp
  rw [after0_8]
  refine eq_v m c t _ _ ?_ ?_ ?_
  · blk_simp [index8 t]
  · blk_simp [index8 t]
  · blk_simp [index8 t]

end Cert.KernelAdamSqIdeal.Blocks
-- ==== Proof.AdamSqClaim.lean ====
module

public import proofs.«01_k».proof.Defs
public import proofs.«01_k».proof.Proof.AdamSqBlock
public import proofs.«01_k».proof.Proof.Gen.KernelAdamSq.Frame
public import proofs.«01_k».proof.Proof.Gen.ReferenceAdamSqIdeal.Run
public import proofs.«01_k».proof.Proof.Gen.ReferenceAdamSqIdeal.Read

@[expose] public section
noncomputable section

open Idealize.ShloMosaic Idealize.ShloMosaic.TcCoe Idealize.SL.Sem

/-! The optimiser on the square weights: kernel and reference end with the same four arrays. -/

namespace Cert.ReferenceAdamSqIdeal.Grad

open Cert.ReferenceAdamSqIdeal Cert.ReferenceAdamSqIdeal.Gen Cert.ReferenceAdamSqIdeal.Read Cert.AdamMath Cert.KernelAdamSqIdeal.Blocks

variable (x0 : (⟨S2x256x1024, .f32⟩ : BufTy).Contents (Elt Ideal)) (x1 x2 : (⟨S256x1024, .f32⟩ : BufTy).Contents (Elt Ideal))
  (x3 x4 : (⟨S2x256x1024, .f32⟩ : BufTy).Contents (Elt Ideal)) (l : Fin 2) (s : Fin 256) (e : Fin 1024)

theorem g_ix : val_main_v2 (F := Ideal) x1 x2 (ix3 l s e) = gAt x1 x2 l s e := by
  fin_cases l
  · pointwise [val_main_v2, val_main_v0] <;> rfl
  · pointwise [val_main_v2, val_main_v1] <;> rfl

theorem m_ix : val_main_v7 (F := Ideal) x1 x2 x3 (ix3 l s e) = mom (gAt x1 x2 l s e) (x3 (ix3 l s e)) := by
  pointwise [val_main_v7, val_main_v6, val_main_v5, val_main_cst_0, val_main_v4, val_main_v3, val_main_cst]
  rw [g_ix]
  rfl

theorem v_ix : val_main_v13 (F := Ideal) x1 x2 x4 (ix3 l s e) = var (gAt x1 x2 l s e) (x4 (ix3 l s e)) := by
  pointwise [val_main_v13, val_main_v12, val_main_v11, val_main_cst_2, val_main_v10, val_main_v9, val_main_v8, val_main_cst_1]
  rw [g_ix]
  rfl

theorem r_ix : val_main_v21 (F := Ideal) x1 x2 x3 x4 (ix3 l s e) = ratio (gAt x1 x2 l s e) (x3 (ix3 l s e)) (x4 (ix3 l s e)) := by
  pointwise [val_main_v21, val_main_v20, val_main_v19, val_main_cst_5, val_main_v18, val_main_v17, val_main_v16, val_main_cst_4,
    val_main_v15, val_main_v14, val_main_cst_3]
  rw [m_ix, v_ix]
  rfl

theorem d_ix : val_main_v26 (F := Ideal) x0 x1 x2 x3 x4 (ix3 l s e)
    = delta (x0 (ix3 l s e)) (gAt x1 x2 l s e) (x3 (ix3 l s e)) (x4 (ix3 l s e)) := by
  pointwise [val_main_v26, val_main_v25, val_main_cst_7, val_main_v24, val_main_v23, val_main_v22, val_main_cst_6]
  rw [r_ix]
  rfl

/-- The reference's first result: the gradients. -/
theorem res0 (y : S2x256x1024.Idx) : val_main_v2 (F := Ideal) x1 x2 y
    = gAt x1 x2 (y 0) (y 1) (y 2) :=
  (congrArg (fun z => val_main_v2 (F := Ideal) x1 x2 z) (ix3_eta y)).symm.trans (g_ix x1 x2 (y 0) (y 1) (y 2))

/-- The reference's second result: the changes. -/
theorem res1 (y : S2x256x1024.Idx) : val_main_v26 (F := Ideal) x0 x1 x2 x3 x4 y
    = delta (x0 (ix3 (y 0) (y 1) (y 2))) (gAt x1 x2 (y 0) (y 1) (y 2)) (x3 (ix3 (y 0) (y 1) (y 2))) (x4 (ix3 (y 0) (y 1) (y 2))) :=
  (congrArg (fun z => val_main_v26 (F := Ideal) x0 x1 x2 x3 x4 z) (ix3_eta y)).symm.trans (d_ix x0 x1 x2 x3 x4 (y 0) (y 1) (y 2))

/-- The reference's third result: the first moments. -/
theorem res2 (y : S2x256x1024.Idx) : val_main_v7 (F := Ideal) x1 x2 x3 y
    = mom (gAt x1 x2 (y 0) (y 1) (y 2)) (x3 (ix3 (y 0) (y 1) (y 2))) :=
  (congrArg (fun z => val_main_v7 (F := Ideal) x1 x2 x3 z) (ix3_eta y)).symm.trans (m_ix x1 x2 x3 (y 0) (y 1) (y 2))

/-- The reference's fourth result: the second moments. -/
theorem res3 (y : S2x256x1024.Idx) : val_main_v13 (F := Ideal) x1 x2 x4 y
    = var (gAt x1 x2 (y 0) (y 1) (y 2)) (x4 (ix3 (y 0) (y 1) (y 2))) :=
  (congrArg (fun z => val_main_v13 (F := Ideal) x1 x2 x4 z) (ix3_eta y)).symm.trans (v_ix x1 x2 x4 (y 0) (y 1) (y 2))

end Cert.ReferenceAdamSqIdeal.Grad

namespace Cert.AdamSqClaim

/-- The kernel runs, and leaves its arguments and every counter as they were. -/
theorem frame_kernel (h : Cert.KernelAdamSq.Facts) : Cert.quiescent_KernelAdamSq (hKernelAdamSq := h) :=
  fun m ρ _ => Cert.KernelAdamSq.Gen.frame m ρ

/-- The same of its reading over the extended reals. -/
theorem frame_ideal (h : Cert.KernelAdamSqIdeal.Facts) : Cert.quiescent_KernelAdamSqIdeal (hKernelAdamSqIdeal := h) :=
  fun m ρ _ => Cert.KernelAdamSqIdeal.Gen.frame m ρ

/-- The reference's run leaves its arguments and every counter as they were. -/
theorem frame_ref (h : Cert.ReferenceAdamSqIdeal.Facts) : Cert.quiescent_ReferenceAdamSqIdeal (hReferenceAdamSqIdeal := h) :=
  fun m ρ _ => (θ_run _ _ _).mono (fun r h => ⟨fun c => (h c).2.2.2.2, sem_eq_zero_of_no_sems (by decide) r.2⟩)
    (Cert.ReferenceAdamSqIdeal.Value.run m ρ)

/-- The kernel's four results are the reference's. -/
theorem algebraic (h : Cert.KernelAdamSqIdeal.Facts) (h' : Cert.ReferenceAdamSqIdeal.Facts) :
    Cert.algebraic_KernelAdamSqIdeal_ReferenceAdamSqIdeal (hKernelAdamSqIdeal := h) (hReferenceAdamSqIdeal := h') := by
  intro m g m' g' hpre hargs
  refine ⟨fun c => Cert.KernelAdamSqIdeal.Blocks.arrG m c, fun c => Cert.KernelAdamSqIdeal.Blocks.arrD m c, fun c => Cert.KernelAdamSqIdeal.Blocks.arrM m c, fun c => Cert.KernelAdamSqIdeal.Blocks.arrV m c,
    (θ_run _ _ _).mono (fun r h c => ?_) (Cert.KernelAdamSqIdeal.Value.run_blocks m g),
    (θ_run _ _ _).mono (fun r h c => ?_) (Cert.ReferenceAdamSqIdeal.Value.run m' g')⟩
  · obtain ⟨h0, h1, h2, h3, hr⟩ := h c
    exact ⟨h0.trans (Cert.KernelAdamSqIdeal.Blocks.final5 m c), h1.trans (Cert.KernelAdamSqIdeal.Blocks.final6 m c), h2.trans (Cert.KernelAdamSqIdeal.Blocks.final7 m c),
      h3.trans (Cert.KernelAdamSqIdeal.Blocks.final8 m c), hr⟩
  · obtain ⟨h0, h1, h2, h3, hr⟩ := h c
    obtain ⟨a0, a1, a2, a3, a4⟩ := hargs c
    refine ⟨h0.trans ?_, h1.trans ?_, h2.trans ?_, h3.trans ?_, hr⟩
    · rw [Cert.ReferenceAdamSqIdeal.Read.val_main_v2_eq, a1, a2]
      exact funext fun y => Cert.ReferenceAdamSqIdeal.Grad.res0 _ _ y
    · rw [Cert.ReferenceAdamSqIdeal.Read.val_main_v26_eq, a0, a1, a2, a3, a4]
      exact funext fun y => Cert.ReferenceAdamSqIdeal.Grad.res1 _ _ _ _ _ y
    · rw [Cert.ReferenceAdamSqIdeal.Read.val_main_v7_eq, a1, a2, a3]
      exact funext fun y => Cert.ReferenceAdamSqIdeal.Grad.res2 _ _ _ y
    · rw [Cert.ReferenceAdamSqIdeal.Read.val_main_v13_eq, a1, a2, a4]
      exact funext fun y => Cert.ReferenceAdamSqIdeal.Grad.res3 _ _ _ y

end Cert.AdamSqClaim
-- ==== Proof.AdamKvBlock.lean ====
module

public import proofs.«01_k».proof.Proof.Gen.KernelAdamKvIdeal.Value
public import proofs.«01_k».proof.Proof.AdamMath
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The optimiser on the key and value weight: the four results of the kernel, at an index. -/

namespace Cert.KernelAdamKvIdeal.Blocks

open Cert.KernelAdamKvIdeal Cert.KernelAdamKvIdeal.Gen Cert.AdamMath

section Body
variable (i : grid0.Coords) (x1 x2 : Vec Ideal S512x512 .f32) (x3 x4 : Vec Ideal S1x512x512 .f32) (r : Fin 512) (d : Fin 512)

/-- The gradient of the point's layer. -/
abbrev grad (r : Fin 512) (d : Fin 512) : EReal := k0_pay4 (F := Ideal) i x1 x2 (ix2 r d)

theorem pay5_ix : k0_pay5 (F := Ideal) i x1 x2 x3 (ix2 r d) = mom (grad i x1 x2 r d) (x3 (ix3 0 r d)) := by
  pointwise [k0_pay5] <;> rfl

theorem pay6_ix : k0_pay6 (F := Ideal) i x1 x2 x4 (ix2 r d) = var (grad i x1 x2 r d) (x4 (ix3 0 r d)) := by
  pointwise [k0_pay6] <;> rfl

theorem pay8_ix : k0_pay8 (F := Ideal) i x1 x2 x3 x4 (ix2 r d) = ratio (grad i x1 x2 r d) (x3 (ix3 0 r d)) (x4 (ix3 0 r d)) := by
  pointwise [k0_pay8]
  rw [pay5_ix, pay6_ix]
  rfl

theorem pay9_ix (x0 : Vec Ideal S1x512x512 .f32) : k0_pay9 (F := Ideal) x0 (ix2 r d) = x0 (ix3 0 r d) := by
  pointwise [k0_pay9] <;> rfl

theorem pay1_ix (u w : FVec Ideal S512x512 .f32) (z : EReal) :
    k0_pay1 (F := Ideal) u w z (ix3 0 r d) = Ideal.ofBits .f32 0xBA83126F#32 * (u (ix2 r d) + z * w (ix2 r d)) := by
  pointwise [k0_pay1] <;> rfl

theorem pay2_ix (u : FVec Ideal S512x512 .f32) : k0_pay2 (F := Ideal) u (ix3 0 r d) = u (ix2 r d) := by
  pointwise [k0_pay2] <;> rfl

theorem pay3_ix (u : FVec Ideal S512x512 .f32) : k0_pay3 (F := Ideal) u (ix3 0 r d) = u (ix2 r d) := by
  pointwise [k0_pay3] <;> rfl

theorem pay7_ix : k0_pay7 (F := Ideal) i x1 x2 (ix3 0 r d) = grad i x1 x2 r d := by
  pointwise [k0_pay7] <;> rfl

end Body

theorem ld_g (x : Vec Ideal S512x512 .f32)
    (inb : ∀ a : Fin 2, (![0, 0] : Fin 2 → ℕ) a + (![512, 512] : Fin 2 → ℕ) a ≤ S512x512.size a) :
    View.ld x (Rect.unit ![0, 0] ![512, 512] inb) = x := View.ld_unit_lit inb x (by decide)

theorem ld_w (x : Vec Ideal S1x512x512 .f32)
    (inb : ∀ a : Fin 3, (![0, 0, 0] : Fin 3 → ℕ) a + (![1, 512, 512] : Fin 3 → ℕ) a ≤ S1x512x512.size a) :
    View.ld x (Rect.unit ![0, 0, 0] ![1, 512, 512] inb) = x := View.ld_unit_lit inb x (by decide)

theorem same_ix (x : S1x512x512.Idx) (r : Fin 512) (d : Fin 512) (h1 : (r : ℕ) = x 1) (h2 : (d : ℕ) = x 2) : x = ix3 0 r d :=
  funext fun a => by
    match a with
    | ⟨0, _⟩ => exact Subsingleton.elim (α := Fin 1) _ _
    | ⟨1, _⟩ => exact Fin.ext h1.symm
    | ⟨2, _⟩ => exact Fin.ext h2.symm

section Points
variable (i : grid0.Coords) (x0 : Vec Ideal S1x512x512 .f32) (x1 x2 : Vec Ideal S512x512 .f32) (x3 x4 : Vec Ideal S1x512x512 .f32) (y : S1x512x512.Idx)

theorem out_g : out0_5 (F := Ideal) i x0 x1 x2 x3 x4 y = grad i x1 x2 (y 1) (y 2) := by
  unfold out0_5
  rw [ld_g, ld_g]
  canon_tiles x hx
  rw [same_ix x (y 1) (y 2) hx1 hx2]
  exact pay7_ix i x1 x2 (y 1) (y 2)

theorem out_m : out0_7 (F := Ideal) i x0 x1 x2 x3 x4 y = mom (grad i x1 x2 (y 1) (y 2)) (x3 (ix3 0 (y 1) (y 2))) := by
  unfold out0_7
  rw [ld_g, ld_g, ld_w]
  canon_tiles x hx
  rw [same_ix x (y 1) (y 2) hx1 hx2]
  exact (pay2_ix (y 1) (y 2) _).trans (pay5_ix i x1 x2 x3 (y 1) (y 2))

theorem out_v : out0_8 (F := Ideal) i x0 x1 x2 x3 x4 y = var (grad i x1 x2 (y 1) (y 2)) (x4 (ix3 0 (y 1) (y 2))) := by
  unfold out0_8
  rw [ld_g, ld_g, ld_w]
  canon_tiles x hx
  rw [same_ix x (y 1) (y 2) hx1 hx2]
  exact (pay3_ix (y 1) (y 2) _).trans (pay6_ix i x1 x2 x4 (y 1) (y 2))

theorem out_d : out0_6 (F := Ideal) i x0 x1 x2 x3 x4 y
    = delta (x0 (ix3 0 (y 1) (y 2))) (grad i x1 x2 (y 1) (y 2)) (x3 (ix3 0 (y 1) (y 2))) (x4 (ix3 0 (y 1) (y 2))) := by
  unfold out0_6
  rw [ld_g, ld_g, ld_w, ld_w, ld_w]
  canon_tiles x hx
  rw [same_ix x (y 1) (y 2) hx1 hx2]
  refine (pay1_ix (y 1) (y 2) _ _ _).trans ?_
  have h8 := pay8_ix i x1 x2 x3 x4 (y 1) (y 2)
  have h9 := pay9_ix (y 1) (y 2) x0
  unfold delta
  rw [← h8, ← h9]
  rfl

end Points

variable (m : (ℓ : Loc nD τ sig) → Buf (Elt Ideal) ℓ) (c : Dev nD)

/-- The weights. -/
abbrev argW : S2x1024x512.Idx → EReal := m ((c : Thread nD τ).loc main_arg0)
/-- The first layer's gradient. -/
abbrev argA : S1024x512.Idx → EReal := m ((c : Thread nD τ).loc main_arg1)
/-- The second layer's gradient. -/
abbrev argB : S1024x512.Idx → EReal := m ((c : Thread nD τ).loc main_arg2)
/-- The first moments. -/
abbrev argM : S2x1024x512.Idx → EReal := m ((c : Thread nD τ).loc main_arg3)
/-- The second moments. -/
abbrev argV : S2x1024x512.Idx → EReal := m ((c : Thread nD τ).loc main_arg4)

theorem picks : ∀ t : Fin cfg0.N, (Scalar.cmpi .eq (BitVec.ofNat 32 ((grid0.coords t) 1).val) 0#32 : BitVec 1) = if t.val % 2 = 0 then 1#1 else 0#1 :=
  (by decide +kernel : ∀ t : Fin grid0.N, _)
theorem index0 : ∀ t : Fin cfg0.N, win0_0.index t = ![t.val % 2, t.val / 2, 0] := (by decide +kernel : ∀ t : Fin grid0.N, _)
theorem index1 : ∀ t : Fin cfg0.N, win0_1.index t = ![t.val / 2, 0] := (by decide +kernel : ∀ t : Fin grid0.N, _)
theorem index2 : ∀ t : Fin cfg0.N, win0_2.index t = ![t.val / 2, 0] := (by decide +kernel : ∀ t : Fin grid0.N, _)
theorem index3 : ∀ t : Fin cfg0.N, win0_3.index t = ![t.val % 2, t.val / 2, 0] := (by decide +kernel : ∀ t : Fin grid0.N, _)
theorem index4 : ∀ t : Fin cfg0.N, win0_4.index t = ![t.val % 2, t.val / 2, 0] := (by decide +kernel : ∀ t : Fin grid0.N, _)
theorem index5 : ∀ t : Fin cfg0.N, win0_5.index t = ![t.val % 2, t.val / 2, 0] := (by decide +kernel : ∀ t : Fin grid0.N, _)
theorem index6 : ∀ t : Fin cfg0.N, win0_6.index t = ![t.val % 2, t.val / 2, 0] := (by decide +kernel : ∀ t : Fin grid0.N, _)
theorem index7 : ∀ t : Fin cfg0.N, win0_7.index t = ![t.val % 2, t.val / 2, 0] := (by decide +kernel : ∀ t : Fin grid0.N, _)
theorem index8 : ∀ t : Fin cfg0.N, win0_8.index t = ![t.val % 2, t.val / 2, 0] := (by decide +kernel : ∀ t : Fin grid0.N, _)

/-- The gradient of a layer. -/
def gAt (p q : S1024x512.Idx → EReal) (l : Fin 2) (s : Fin 1024) (e : Fin 512) : EReal := if (l : ℕ) = 0 then p (ix2 s e) else q (ix2 s e)

theorem grad_eq (t : Fin cfg0.N) (r : Fin 512) (d : Fin 512) (l : Fin 2) (s : Fin 1024) (e : Fin 512) (hl : (l : ℕ) = t.val % 2)
    (hs : (s : ℕ) = t.val / 2 * 512 + r) (he : (e : ℕ) = d) :
    grad (grid0.coords t) (iblk m c 1 t) (iblk m c 2 t) r d = gAt (argA m c) (argB m c) l s e := by
  have h := picks t
  unfold grad gAt k0_pay4
  dsimp only
  rw [h, hl]
  split_ifs with h0
  · show (iblk m c 1 t : Vec Ideal S512x512 .f32) (ix2 r d) = _
    blk_simp [iblk]
    show V m c main_arg1 _ = V m c main_arg1 _
    congr 1
    blk_ext [index1 t]
  · show (iblk m c 2 t : Vec Ideal S512x512 .f32) (ix2 r d) = _
    blk_simp [iblk]
    show V m c main_arg2 _ = V m c main_arg2 _
    congr 1
    blk_ext [index2 t]

theorem blk_w (t : Fin cfg0.N) (r : Fin 512) (d : Fin 512) (l : Fin 2) (s : Fin 1024) (e : Fin 512) (hl : (l : ℕ) = t.val % 2)
    (hs : (s : ℕ) = t.val / 2 * 512 + r) (he : (e : ℕ) = d) : (iblk m c 0 t : Vec Ideal S1x512x512 .f32) (ix3 0 r d) = argW m c (ix3 l s e) := by
  blk_simp [iblk]
  show V m c main_arg0 _ = V m c main_arg0 _
  congr 1
  blk_ext [index0 t]

theorem blk_m (t : Fin cfg0.N) (r : Fin 512) (d : Fin 512) (l : Fin 2) (s : Fin 1024) (e : Fin 512) (hl : (l : ℕ) = t.val % 2)
    (hs : (s : ℕ) = t.val / 2 * 512 + r) (he : (e : ℕ) = d) : (iblk m c 3 t : Vec Ideal S1x512x512 .f32) (ix3 0 r d) = argM m c (ix3 l s e) := by
  blk_simp [iblk]
  show V m c main_arg3 _ = V m c main_arg3 _
  congr 1
  blk_ext [index3 t]

theorem blk_v (t : Fin cfg0.N) (r : Fin 512) (d : Fin 512) (l : Fin 2) (s : Fin 1024) (e : Fin 512) (hl : (l : ℕ) = t.val % 2)
    (hs : (s : ℕ) = t.val / 2 * 512 + r) (he : (e : ℕ) = d) : (iblk m c 4 t : Vec Ideal S1x512x512 .f32) (ix3 0 r d) = argV m c (ix3 l s e) := by
  blk_simp [iblk]
  show V m c main_arg4 _ = V m c main_arg4 _
  congr 1
  blk_ext [index4 t]

/-- The gradients. -/
def arrG (z : S2x1024x512.Idx) : EReal := gAt (argA m c) (argB m c) (z 0) (z 1) (z 2)

theorem eq_g (t : Fin cfg0.N) (y : S1x512x512.Idx) (z : S2x1024x512.Idx) (h0 : (z 0 : ℕ) = t.val % 2) (h1 : (z 1 : ℕ) = t.val / 2 * 512 + y 1) (h2 : (z 2 : ℕ) = y 2) :
    out0_5 (F := Ideal) (grid0.coords t) (iblk m c 0 t) (iblk m c 1 t) (iblk m c 2 t) (iblk m c 3 t) (iblk m c 4 t) y = arrG m c z := by
  rw [out_g, grad_eq m c t (y 1) (y 2) (z 0) (z 1) (z 2) h0 h1 h2]
  rfl

theorem final5 : (dats m 0 c).arrAt 5 cfg0.N = arrG m c := by
  refine (dats m 0 c).arrAt_eq_of_covers 5 _ (by decide +kernel) fun t hf y => ?_
  blk_simp
  rw [after0_5]
  refine eq_g m c t _ _ ?_ ?_ ?_
  · blk_simp [index5 t]
  · blk_simp [index5 t]
  · blk_simp [index5 t]

/-- The changes of the weights. -/
def arrD (z : S2x1024x512.Idx) : EReal := delta (argW m c (ix3 (z 0) (z 1) (z 2))) (gAt (argA m c) (argB m c) (z 0) (z 1) (z 2)) (argM m c (ix3 (z 0) (z 1) (z 2))) (argV m c (ix3 (z 0) (z 1) (z 2)))

theorem eq_d (t : Fin cfg0.N) (y : S1x512x512.Idx) (z : S2x1024x512.Idx) (h0 : (z 0 : ℕ) = t.val % 2) (h1 : (z 1 : ℕ) = t.val / 2 * 512 + y 1) (h2 : (z 2 : ℕ) = y 2) :
    out0_6 (F := Ideal) (grid0.coords t) (iblk m c 0 t) (iblk m c 1 t) (iblk m c 2 t) (iblk m c 3 t) (iblk m c 4 t) y = arrD m c z := by
  rw [out_d, grad_eq m c t (y 1) (y 2) (z 0) (z 1) (z 2) h0 h1 h2, blk_w m c t (y 1) (y 2) (z 0) (z 1) (z 2) h0 h1 h2, blk_m m c t (y 1) (y 2) (z 0) (z 1) (z 2) h0 h1 h2, blk_v m c t (y 1) (y 2) (z 0) (z 1) (z 2) h0 h1 h2]
  rfl

theorem final6 : (dats m 0 c).arrAt 6 cfg0.N = arrD m c := by
  refine (dats m 0 c).arrAt_eq_of_covers 6 _ (by decide +kernel) fun t hf y => ?_
  blk_simp
  rw [after0_6]
  refine eq_d m c t _ _ ?_ ?_ ?_
  · blk_simp [index6 t]
  · blk_simp [index6 t]
  · blk_simp [index6 t]

/-- The first moments after the step. -/
def arrM (z : S2x1024x512.Idx) : EReal := mom (gAt (argA m c) (argB m c) (z 0) (z 1) (z 2)) (argM m c (ix3 (z 0) (z 1) (z 2)))

theorem eq_m (t : Fin cfg0.N) (y : S1x512x512.Idx) (z : S2x1024x512.Idx) (h0 : (z 0 : ℕ) = t.val % 2) (h1 : (z 1 : ℕ) = t.val / 2 * 512 + y 1) (h2 : (z 2 : ℕ) = y 2) :
    out0_7 (F := Ideal) (grid0.coords t) (iblk m c 0 t) (iblk m c 1 t) (iblk m c 2 t) (iblk m c 3 t) (iblk m c 4 t) y = arrM m c z := by
  rw [out_m, grad_eq m c t (y 1) (y 2) (z 0) (z 1) (z 2) h0 h1 h2, blk_m m c t (y 1) (y 2) (z 0) (z 1) (z 2) h0 h1 h2]
  rfl

theorem final7 : (dats m 0 c).arrAt 7 cfg0.N = arrM m c := by
  refine (dats m 0 c).arrAt_eq_of_covers 7 _ (by decide +kernel) fun t hf y => ?_
  blk_simp
  rw [after0_7]
  refine eq_m m c t _ _ ?_ ?_ ?_
  · blk_simp [index7 t]
  · blk_simp [index7 t]
  · blk_simp [index7 t]

/-- The second moments after the step. -/
def arrV (z : S2x1024x512.Idx) : EReal := var (gAt (argA m c) (argB m c) (z 0) (z 1) (z 2)) (argV m c (ix3 (z 0) (z 1) (z 2)))

theorem eq_v (t : Fin cfg0.N) (y : S1x512x512.Idx) (z : S2x1024x512.Idx) (h0 : (z 0 : ℕ) = t.val % 2) (h1 : (z 1 : ℕ) = t.val / 2 * 512 + y 1) (h2 : (z 2 : ℕ) = y 2) :
    out0_8 (F := Ideal) (grid0.coords t) (iblk m c 0 t) (iblk m c 1 t) (iblk m c 2 t) (iblk m c 3 t) (iblk m c 4 t) y = arrV m c z := by
  rw [out_v, grad_eq m c t (y 1) (y 2) (z 0) (z 1) (z 2) h0 h1 h2, blk_v m c t (y 1) (y 2) (z 0) (z 1) (z 2) h0 h1 h2]
  rfl

theorem final8 : (dats m 0 c).arrAt 8 cfg0.N = arrV m c := by
  refine (dats m 0 c).arrAt_eq_of_covers 8 _ (by decide +kernel) fun t hf y => ?_
  blk_simp
  rw [after0_8]
  refine eq_v m c t _ _ ?_ ?_ ?_
  · blk_simp [index8 t]
  · blk_simp [index8 t]
  · blk_simp [index8 t]

end Cert.KernelAdamKvIdeal.Blocks
-- ==== Proof.AdamKvClaim.lean ====
module

public import proofs.«01_k».proof.Defs
public import proofs.«01_k».proof.Proof.AdamKvBlock
public import proofs.«01_k».proof.Proof.Gen.KernelAdamKv.Frame
public import proofs.«01_k».proof.Proof.Gen.ReferenceAdamKvIdeal.Run
public import proofs.«01_k».proof.Proof.Gen.ReferenceAdamKvIdeal.Read

@[expose] public section
noncomputable section

open Idealize.ShloMosaic Idealize.ShloMosaic.TcCoe Idealize.SL.Sem

/-! The optimiser on the key and value weight: kernel and reference end with the same four arrays. -/

namespace Cert.ReferenceAdamKvIdeal.Grad

open Cert.ReferenceAdamKvIdeal Cert.ReferenceAdamKvIdeal.Gen Cert.ReferenceAdamKvIdeal.Read Cert.AdamMath Cert.KernelAdamKvIdeal.Blocks

variable (x0 : (⟨S2x1024x512, .f32⟩ : BufTy).Contents (Elt Ideal)) (x1 x2 : (⟨S1024x512, .f32⟩ : BufTy).Contents (Elt Ideal))
  (x3 x4 : (⟨S2x1024x512, .f32⟩ : BufTy).Contents (Elt Ideal)) (l : Fin 2) (s : Fin 1024) (e : Fin 512)

theorem g_ix : val_main_v2 (F := Ideal) x1 x2 (ix3 l s e) = gAt x1 x2 l s e := by
  fin_cases l
  · pointwise [val_main_v2, val_main_v0] <;> rfl
  · pointwise [val_main_v2, val_main_v1] <;> rfl

theorem m_ix : val_main_v7 (F := Ideal) x1 x2 x3 (ix3 l s e) = mom (gAt x1 x2 l s e) (x3 (ix3 l s e)) := by
  pointwise [val_main_v7, val_main_v6, val_main_v5, val_main_cst_0, val_main_v4, val_main_v3, val_main_cst]
  rw [g_ix]
  rfl

theorem v_ix : val_main_v13 (F := Ideal) x1 x2 x4 (ix3 l s e) = var (gAt x1 x2 l s e) (x4 (ix3 l s e)) := by
  pointwise [val_main_v13, val_main_v12, val_main_v11, val_main_cst_2, val_main_v10, val_main_v9, val_main_v8, val_main_cst_1]
  rw [g_ix]
  rfl

theorem r_ix : val_main_v21 (F := Ideal) x1 x2 x3 x4 (ix3 l s e) = ratio (gAt x1 x2 l s e) (x3 (ix3 l s e)) (x4 (ix3 l s e)) := by
  pointwise [val_main_v21, val_main_v20, val_main_v19, val_main_cst_5, val_main_v18, val_main_v17, val_main_v16, val_main_cst_4,
    val_main_v15, val_main_v14, val_main_cst_3]
  rw [m_ix, v_ix]
  rfl

theorem d_ix : val_main_v26 (F := Ideal) x0 x1 x2 x3 x4 (ix3 l s e)
    = delta (x0 (ix3 l s e)) (gAt x1 x2 l s e) (x3 (ix3 l s e)) (x4 (ix3 l s e)) := by
  pointwise [val_main_v26, val_main_v25, val_main_cst_7, val_main_v24, val_main_v23, val_main_v22, val_main_cst_6]
  rw [r_ix]
  rfl

/-- The reference's first result: the gradients. -/
theorem res0 (y : S2x1024x512.Idx) : val_main_v2 (F := Ideal) x1 x2 y
    = gAt x1 x2 (y 0) (y 1) (y 2) :=
  (congrArg (fun z => val_main_v2 (F := Ideal) x1 x2 z) (ix3_eta y)).symm.trans (g_ix x1 x2 (y 0) (y 1) (y 2))

/-- The reference's second result: the changes. -/
theorem res1 (y : S2x1024x512.Idx) : val_main_v26 (F := Ideal) x0 x1 x2 x3 x4 y
    = delta (x0 (ix3 (y 0) (y 1) (y 2))) (gAt x1 x2 (y 0) (y 1) (y 2)) (x3 (ix3 (y 0) (y 1) (y 2))) (x4 (ix3 (y 0) (y 1) (y 2))) :=
  (congrArg (fun z => val_main_v26 (F := Ideal) x0 x1 x2 x3 x4 z) (ix3_eta y)).symm.trans (d_ix x0 x1 x2 x3 x4 (y 0) (y 1) (y 2))

/-- The reference's third result: the first moments. -/
theorem res2 (y : S2x1024x512.Idx) : val_main_v7 (F := Ideal) x1 x2 x3 y
    = mom (gAt x1 x2 (y 0) (y 1) (y 2)) (x3 (ix3 (y 0) (y 1) (y 2))) :=
  (congrArg (fun z => val_main_v7 (F := Ideal) x1 x2 x3 z) (ix3_eta y)).symm.trans (m_ix x1 x2 x3 (y 0) (y 1) (y 2))

/-- The reference's fourth result: the second moments. -/
theorem res3 (y : S2x1024x512.Idx) : val_main_v13 (F := Ideal) x1 x2 x4 y
    = var (gAt x1 x2 (y 0) (y 1) (y 2)) (x4 (ix3 (y 0) (y 1) (y 2))) :=
  (congrArg (fun z => val_main_v13 (F := Ideal) x1 x2 x4 z) (ix3_eta y)).symm.trans (v_ix x1 x2 x4 (y 0) (y 1) (y 2))

end Cert.ReferenceAdamKvIdeal.Grad

namespace Cert.AdamKvClaim

/-- The kernel runs, and leaves its arguments and every counter as they were. -/
theorem frame_kernel (h : Cert.KernelAdamKv.Facts) : Cert.quiescent_KernelAdamKv (hKernelAdamKv := h) :=
  fun m ρ _ => Cert.KernelAdamKv.Gen.frame m ρ

/-- The same of its reading over the extended reals. -/
theorem frame_ideal (h : Cert.KernelAdamKvIdeal.Facts) : Cert.quiescent_KernelAdamKvIdeal (hKernelAdamKvIdeal := h) :=
  fun m ρ _ => Cert.KernelAdamKvIdeal.Gen.frame m ρ

/-- The reference's run leaves its arguments and every counter as they were. -/
theorem frame_ref (h : Cert.ReferenceAdamKvIdeal.Facts) : Cert.quiescent_ReferenceAdamKvIdeal (hReferenceAdamKvIdeal := h) :=
  fun m ρ _ => (θ_run _ _ _).mono (fun r h => ⟨fun c => (h c).2.2.2.2, sem_eq_zero_of_no_sems (by decide) r.2⟩)
    (Cert.ReferenceAdamKvIdeal.Value.run m ρ)

/-- The kernel's four results are the reference's. -/
theorem algebraic (h : Cert.KernelAdamKvIdeal.Facts) (h' : Cert.ReferenceAdamKvIdeal.Facts) :
    Cert.algebraic_KernelAdamKvIdeal_ReferenceAdamKvIdeal (hKernelAdamKvIdeal := h) (hReferenceAdamKvIdeal := h') := by
  intro m g m' g' hpre hargs
  refine ⟨fun c => Cert.KernelAdamKvIdeal.Blocks.arrG m c, fun c => Cert.KernelAdamKvIdeal.Blocks.arrD m c, fun c => Cert.KernelAdamKvIdeal.Blocks.arrM m c, fun c => Cert.KernelAdamKvIdeal.Blocks.arrV m c,
    (θ_run _ _ _).mono (fun r h c => ?_) (Cert.KernelAdamKvIdeal.Value.run_blocks m g),
    (θ_run _ _ _).mono (fun r h c => ?_) (Cert.ReferenceAdamKvIdeal.Value.run m' g')⟩
  · obtain ⟨h0, h1, h2, h3, hr⟩ := h c
    exact ⟨h0.trans (Cert.KernelAdamKvIdeal.Blocks.final5 m c), h1.trans (Cert.KernelAdamKvIdeal.Blocks.final6 m c), h2.trans (Cert.KernelAdamKvIdeal.Blocks.final7 m c),
      h3.trans (Cert.KernelAdamKvIdeal.Blocks.final8 m c), hr⟩
  · obtain ⟨h0, h1, h2, h3, hr⟩ := h c
    obtain ⟨a0, a1, a2, a3, a4⟩ := hargs c
    refine ⟨h0.trans ?_, h1.trans ?_, h2.trans ?_, h3.trans ?_, hr⟩
    · rw [Cert.ReferenceAdamKvIdeal.Read.val_main_v2_eq, a1, a2]
      exact funext fun y => Cert.ReferenceAdamKvIdeal.Grad.res0 _ _ y
    · rw [Cert.ReferenceAdamKvIdeal.Read.val_main_v26_eq, a0, a1, a2, a3, a4]
      exact funext fun y => Cert.ReferenceAdamKvIdeal.Grad.res1 _ _ _ _ _ y
    · rw [Cert.ReferenceAdamKvIdeal.Read.val_main_v7_eq, a1, a2, a3]
      exact funext fun y => Cert.ReferenceAdamKvIdeal.Grad.res2 _ _ _ y
    · rw [Cert.ReferenceAdamKvIdeal.Read.val_main_v13_eq, a1, a2, a4]
      exact funext fun y => Cert.ReferenceAdamKvIdeal.Grad.res3 _ _ _ y

end Cert.AdamKvClaim
-- ==== Proof.AdamSmallBlock.lean ====
module

public import proofs.«01_k».proof.Proof.Gen.KernelAdamSmallIdeal.Value
public import proofs.«01_k».proof.Proof.AdamMath
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The optimiser on the packed small weights: the three results of the kernel, at an index. -/

namespace Cert.KernelAdamSmallIdeal.Blocks

open Cert.KernelAdamSmallIdeal Cert.KernelAdamSmallIdeal.Gen Cert.AdamMath

section Body
variable (g mo va w : Vec Ideal S8x128 .f32) (r : Fin 8) (d : Fin 128)

theorem pay1_ix : k0_pay1 (F := Ideal) g mo (ix2 r d) = mom (g (ix2 r d)) (mo (ix2 r d)) := by
  pointwise [k0_pay1] <;> rfl

theorem pay2_ix : k0_pay2 (F := Ideal) g va (ix2 r d) = var (g (ix2 r d)) (va (ix2 r d)) := by
  pointwise [k0_pay2] <;> rfl

theorem pay3_ix : k0_pay3 (F := Ideal) g mo va w (ix2 r d) = delta (w (ix2 r d)) (g (ix2 r d)) (mo (ix2 r d)) (va (ix2 r d)) := by
  pointwise [k0_pay3]
  rw [pay1_ix, pay2_ix]
  rfl

end Body

theorem ld_x (x : Vec Ideal S8x128 .f32)
    (inb : ∀ a : Fin 2, (![0, 0] : Fin 2 → ℕ) a + (![8, 128] : Fin 2 → ℕ) a ≤ S8x128.size a) :
    View.ld x (Rect.unit ![0, 0] ![8, 128] inb) = x := View.ld_unit_lit inb x (by decide)

theorem same_ix (x : S8x128.Idx) (r : Fin 8) (d : Fin 128) (h0 : (r : ℕ) = x 0) (h1 : (d : ℕ) = x 1) : x = ix2 r d :=
  funext fun a => by
    match a with
    | ⟨0, _⟩ => exact Fin.ext h0.symm
    | ⟨1, _⟩ => exact Fin.ext h1.symm

section Points
variable (x0 x1 x2 x3 : Vec Ideal S8x128 .f32) (y : S8x128.Idx)

theorem out_d : out0_4 (F := Ideal) x0 x1 x2 x3 y = delta (x0 (ix2 (y 0) (y 1))) (x1 (ix2 (y 0) (y 1))) (x2 (ix2 (y 0) (y 1))) (x3 (ix2 (y 0) (y 1))) := by
  unfold out0_4
  rw [ld_x, ld_x, ld_x, ld_x]
  canon_tiles x hx
  rw [same_ix x (y 0) (y 1) hx0 hx1]
  exact pay3_ix x1 x2 x3 x0 (y 0) (y 1)

theorem out_m : out0_5 (F := Ideal) x0 x1 x2 x3 y = mom (x1 (ix2 (y 0) (y 1))) (x2 (ix2 (y 0) (y 1))) := by
  unfold out0_5
  rw [ld_x, ld_x]
  canon_tiles x hx
  rw [same_ix x (y 0) (y 1) hx0 hx1]
  exact pay1_ix x1 x2 (y 0) (y 1)

theorem out_v : out0_6 (F := Ideal) x0 x1 x2 x3 y = var (x1 (ix2 (y 0) (y 1))) (x3 (ix2 (y 0) (y 1))) := by
  unfold out0_6
  rw [ld_x, ld_x]
  canon_tiles x hx
  rw [same_ix x (y 0) (y 1) hx0 hx1]
  exact pay2_ix x1 x3 (y 0) (y 1)

end Points

variable (m : (ℓ : Loc nD τ sig) → Buf (Elt Ideal) ℓ) (c : Dev nD)

/-- The weights. -/
abbrev argW : S168x128.Idx → EReal := m ((c : Thread nD τ).loc main_arg0)
/-- The gradients. -/
abbrev argG : S168x128.Idx → EReal := m ((c : Thread nD τ).loc main_arg1)
/-- The first moments. -/
abbrev argM : S168x128.Idx → EReal := m ((c : Thread nD τ).loc main_arg2)
/-- The second moments. -/
abbrev argV : S168x128.Idx → EReal := m ((c : Thread nD τ).loc main_arg3)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)

theorem blk_w (t : Fin cfg0.N) (r : Fin 8) (d : Fin 128) (s : Fin 168) (e : Fin 128) (hs : (s : ℕ) = t.val * 8 + r) (he : (e : ℕ) = d) :
    (iblk m c 0 t : Vec Ideal S8x128 .f32) (ix2 r d) = argW m c (ix2 s e) := by
  blk_simp [iblk]
  show V m c main_arg0 _ = V m c main_arg0 _
  congr 1
  blk_ext [index0 t]

theorem blk_g (t : Fin cfg0.N) (r : Fin 8) (d : Fin 128) (s : Fin 168) (e : Fin 128) (hs : (s : ℕ) = t.val * 8 + r) (he : (e : ℕ) = d) :
    (iblk m c 1 t : Vec Ideal S8x128 .f32) (ix2 r d) = argG m c (ix2 s e) := by
  blk_simp [iblk]
  show V m c main_arg1 _ = V m c main_arg1 _
  congr 1
  blk_ext [index1 t]

theorem blk_m (t : Fin cfg0.N) (r : Fin 8) (d : Fin 128) (s : Fin 168) (e : Fin 128) (hs : (s : ℕ) = t.val * 8 + r) (he : (e : ℕ) = d) :
    (iblk m c 2 t : Vec Ideal S8x128 .f32) (ix2 r d) = argM m c (ix2 s e) := by
  blk_simp [iblk]
  show V m c main_arg2 _ = V m c main_arg2 _
  congr 1
  blk_ext [index2 t]

theorem blk_v (t : Fin cfg0.N) (r : Fin 8) (d : Fin 128) (s : Fin 168) (e : Fin 128) (hs : (s : ℕ) = t.val * 8 + r) (he : (e : ℕ) = d) :
    (iblk m c 3 t : Vec Ideal S8x128 .f32) (ix2 r d) = argV m c (ix2 s e) := by
  blk_simp [iblk]
  show V m c main_arg3 _ = V m c main_arg3 _
  congr 1
  blk_ext [index3 t]

/-- The changes of the weights. -/
def arrD (z : S168x128.Idx) : EReal := delta (argW m c (ix2 (z 0) (z 1))) (argG m c (ix2 (z 0) (z 1))) (argM m c (ix2 (z 0) (z 1))) (argV m c (ix2 (z 0) (z 1)))

theorem eq_d (t : Fin cfg0.N) (y : S8x128.Idx) (z : S168x128.Idx) (h0 : (z 0 : ℕ) = t.val * 8 + y 0) (h1 : (z 1 : ℕ) = y 1) :
    out0_4 (F := Ideal) (iblk m c 0 t) (iblk m c 1 t) (iblk m c 2 t) (iblk m c 3 t) y = arrD m c z := by
  rw [out_d, blk_w m c t (y 0) (y 1) (z 0) (z 1) h0 h1, blk_g m c t (y 0) (y 1) (z 0) (z 1) h0 h1, blk_m m c t (y 0) (y 1) (z 0) (z 1) h0 h1, blk_v m c t (y 0) (y 1) (z 0) (z 1) h0 h1]
  rfl

theorem final4 : (dats m 0 c).arrAt 4 cfg0.N = arrD m c := by
  refine (dats m 0 c).arrAt_eq_of_covers 4 _ (by decide +kernel) fun t hf y => ?_
  blk_simp
  rw [after0_4]
  refine eq_d m c t _ _ ?_ ?_
  · blk_simp [index4 t]
  · blk_simp [index4 t]

/-- The first moments after the step. -/
def arrM (z : S168x128.Idx) : EReal := mom (argG m c (ix2 (z 0) (z 1))) (argM m c (ix2 (z 0) (z 1)))

theorem eq_m (t : Fin cfg0.N) (y : S8x128.Idx) (z : S168x128.Idx) (h0 : (z 0 : ℕ) = t.val * 8 + y 0) (h1 : (z 1 : ℕ) = y 1) :
    out0_5 (F := Ideal) (iblk m c 0 t) (iblk m c 1 t) (iblk m c 2 t) (iblk m c 3 t) y = arrM m c z := by
  rw [out_m, blk_g m c t (y 0) (y 1) (z 0) (z 1) h0 h1, blk_m m c t (y 0) (y 1) (z 0) (z 1) h0 h1]
  rfl

theorem final5 : (dats m 0 c).arrAt 5 cfg0.N = arrM m c := by
  refine (dats m 0 c).arrAt_eq_of_covers 5 _ (by decide +kernel) fun t hf y => ?_
  blk_simp
  rw [after0_5]
  refine eq_m m c t _ _ ?_ ?_
  · blk_simp [index5 t]
  · blk_simp [index5 t]

/-- The second moments after the step. -/
def arrV (z : S168x128.Idx) : EReal := var (argG m c (ix2 (z 0) (z 1))) (argV m c (ix2 (z 0) (z 1)))

theorem eq_v (t : Fin cfg0.N) (y : S8x128.Idx) (z : S168x128.Idx) (h0 : (z 0 : ℕ) = t.val * 8 + y 0) (h1 : (z 1 : ℕ) = y 1) :
    out0_6 (F := Ideal) (iblk m c 0 t) (iblk m c 1 t) (iblk m c 2 t) (iblk m c 3 t) y = arrV m c z := by
  rw [out_v, blk_g m c t (y 0) (y 1) (z 0) (z 1) h0 h1, blk_v m c t (y 0) (y 1) (z 0) (z 1) h0 h1]
  rfl

theorem final6 : (dats m 0 c).arrAt 6 cfg0.N = arrV m c := by
  refine (dats m 0 c).arrAt_eq_of_covers 6 _ (by decide +kernel) fun t hf y => ?_
  blk_simp
  rw [after0_6]
  refine eq_v m c t _ _ ?_ ?_
  · blk_simp [index6 t]
  · blk_simp [index6 t]

end Cert.KernelAdamSmallIdeal.Blocks
-- ==== Proof.AdamSmallClaim.lean ====
module

public import proofs.«01_k».proof.Defs
public import proofs.«01_k».proof.Proof.AdamSmallBlock
public import proofs.«01_k».proof.Proof.Gen.KernelAdamSmall.Frame
public import proofs.«01_k».proof.Proof.Gen.ReferenceAdamSmallIdeal.Run
public import proofs.«01_k».proof.Proof.Gen.ReferenceAdamSmallIdeal.Read

@[expose] public section
noncomputable section

open Idealize.ShloMosaic Idealize.ShloMosaic.TcCoe Idealize.SL.Sem

/-! The optimiser on the packed small weights: kernel and reference end with the same three arrays. -/

namespace Cert.ReferenceAdamSmallIdeal.Grad

open Cert.ReferenceAdamSmallIdeal Cert.ReferenceAdamSmallIdeal.Gen Cert.ReferenceAdamSmallIdeal.Read Cert.AdamMath

variable (x0 x1 x2 x3 : (⟨S168x128, .f32⟩ : BufTy).Contents (Elt Ideal)) (s : Fin 168) (e : Fin 128)

theorem m_ix : val_main_v4 (F := Ideal) x1 x2 (ix2 s e) = mom (x1 (ix2 s e)) (x2 (ix2 s e)) := by
  pointwise [val_main_v4, val_main_v3, val_main_v2, val_main_cst_0, val_main_v1, val_main_v0, val_main_cst] <;> rfl

theorem v_ix : val_main_v10 (F := Ideal) x1 x3 (ix2 s e) = var (x1 (ix2 s e)) (x3 (ix2 s e)) := by
  pointwise [val_main_v10, val_main_v9, val_main_v8, val_main_cst_2, val_main_v7, val_main_v6, val_main_v5, val_main_cst_1] <;> rfl

theorem r_ix : val_main_v18 (F := Ideal) x1 x2 x3 (ix2 s e) = ratio (x1 (ix2 s e)) (x2 (ix2 s e)) (x3 (ix2 s e)) := by
  pointwise [val_main_v18, val_main_v17, val_main_v16, val_main_cst_5, val_main_v15, val_main_v14, val_main_v13, val_main_cst_4,
    val_main_v12, val_main_v11, val_main_cst_3]
  rw [m_ix, v_ix]
  rfl

theorem d_ix : val_main_v23 (F := Ideal) x0 x1 x2 x3 (ix2 s e)
    = delta (x0 (ix2 s e)) (x1 (ix2 s e)) (x2 (ix2 s e)) (x3 (ix2 s e)) := by
  pointwise [val_main_v23, val_main_v22, val_main_cst_7, val_main_v21, val_main_v20, val_main_v19, val_main_cst_6]
  rw [r_ix]
  rfl

/-- The reference's first result: the changes. -/
theorem res0 (y : S168x128.Idx) : val_main_v23 (F := Ideal) x0 x1 x2 x3 y
    = delta (x0 (ix2 (y 0) (y 1))) (x1 (ix2 (y 0) (y 1))) (x2 (ix2 (y 0) (y 1))) (x3 (ix2 (y 0) (y 1))) :=
  (congrArg (fun z => val_main_v23 (F := Ideal) x0 x1 x2 x3 z) (ix2_eta y)).symm.trans (d_ix x0 x1 x2 x3 (y 0) (y 1))

/-- The reference's second result: the first moments. -/
theorem res1 (y : S168x128.Idx) : val_main_v4 (F := Ideal) x1 x2 y = mom (x1 (ix2 (y 0) (y 1))) (x2 (ix2 (y 0) (y 1))) :=
  (congrArg (fun z => val_main_v4 (F := Ideal) x1 x2 z) (ix2_eta y)).symm.trans (m_ix x1 x2 (y 0) (y 1))

/-- The reference's third result: the second moments. -/
theorem res2 (y : S168x128.Idx) : val_main_v10 (F := Ideal) x1 x3 y = var (x1 (ix2 (y 0) (y 1))) (x3 (ix2 (y 0) (y 1))) :=
  (congrArg (fun z => val_main_v10 (F := Ideal) x1 x3 z) (ix2_eta y)).symm.trans (v_ix x1 x3 (y 0) (y 1))

end Cert.ReferenceAdamSmallIdeal.Grad

namespace Cert.AdamSmallClaim

/-- The kernel runs, and leaves its arguments and every counter as they were. -/
theorem frame_kernel (h : Cert.KernelAdamSmall.Facts) : Cert.quiescent_KernelAdamSmall (hKernelAdamSmall := h) :=
  fun m ρ _ => Cert.KernelAdamSmall.Gen.frame m ρ

/-- The same of its reading over the extended reals. -/
theorem frame_ideal (h : Cert.KernelAdamSmallIdeal.Facts) : Cert.quiescent_KernelAdamSmallIdeal (hKernelAdamSmallIdeal := h) :=
  fun m ρ _ => Cert.KernelAdamSmallIdeal.Gen.frame m ρ

/-- The reference's run leaves its arguments and every counter as they were. -/
theorem frame_ref (h : Cert.ReferenceAdamSmallIdeal.Facts) : Cert.quiescent_ReferenceAdamSmallIdeal (hReferenceAdamSmallIdeal := h) :=
  fun m ρ _ => (θ_run _ _ _).mono (fun r h => ⟨fun c => (h c).2.2.2, sem_eq_zero_of_no_sems (by decide) r.2⟩)
    (Cert.ReferenceAdamSmallIdeal.Value.run m ρ)

/-- The kernel's three results are the reference's. -/
theorem algebraic (h : Cert.KernelAdamSmallIdeal.Facts) (h' : Cert.ReferenceAdamSmallIdeal.Facts) :
    Cert.algebraic_KernelAdamSmallIdeal_ReferenceAdamSmallIdeal (hKernelAdamSmallIdeal := h) (hReferenceAdamSmallIdeal := h') := by
  intro m g m' g' hpre hargs
  refine ⟨fun c => Cert.KernelAdamSmallIdeal.Blocks.arrD m c, fun c => Cert.KernelAdamSmallIdeal.Blocks.arrM m c, fun c => Cert.KernelAdamSmallIdeal.Blocks.arrV m c,
    (θ_run _ _ _).mono (fun r h c => ?_) (Cert.KernelAdamSmallIdeal.Value.run_blocks m g),
    (θ_run _ _ _).mono (fun r h c => ?_) (Cert.ReferenceAdamSmallIdeal.Value.run m' g')⟩
  · obtain ⟨h0, h1, h2, hr⟩ := h c
    exact ⟨h0.trans (Cert.KernelAdamSmallIdeal.Blocks.final4 m c), h1.trans (Cert.KernelAdamSmallIdeal.Blocks.final5 m c), h2.trans (Cert.KernelAdamSmallIdeal.Blocks.final6 m c), hr⟩
  · obtain ⟨h0, h1, h2, hr⟩ := h c
    have ha := hargs c
    obtain ⟨a0, a1, a2, a3⟩ := ha
    refine ⟨h0.trans ?_, h1.trans ?_, h2.trans ?_, hr⟩
    · rw [Cert.ReferenceAdamSmallIdeal.Read.val_main_v23_eq, a0, a1, a2, a3]
      exact funext fun y => Cert.ReferenceAdamSmallIdeal.Grad.res0 _ _ _ _ y
    · rw [Cert.ReferenceAdamSmallIdeal.Read.val_main_v4_eq, a1, a2]
      exact funext fun y => Cert.ReferenceAdamSmallIdeal.Grad.res1 _ _ y
    · rw [Cert.ReferenceAdamSmallIdeal.Read.val_main_v10_eq, a1, a3]
      exact funext fun y => Cert.ReferenceAdamSmallIdeal.Grad.res2 _ _ y

end Cert.AdamSmallClaim
-- ==== Proof.SumBlock.lean ====
module

public import proofs.«01_k».proof.Proof.Gen.KernelSumIdeal.Value
public import Idealize.ShloMosaic.Lib.Pointwise
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! The sum of the devices' small gradients: the result of the kernel, at an index. -/

namespace Cert.KernelSumIdeal.Blocks

open Cert.KernelSumIdeal Cert.KernelSumIdeal.Gen

theorem pay1_ix (u0 u1 u2 u3 u4 u5 u6 u7 : Vec Ideal S1x16x1024 .f32) (r : Fin 16) (d : Fin 1024) :
    k0_pay1 (F := Ideal) u0 u1 u2 u3 u4 u5 u6 u7 (ix2 r d) = u0 (ix3 0 r d) + u1 (ix3 0 r d) + u2 (ix3 0 r d) + u3 (ix3 0 r d)
      + u4 (ix3 0 r d) + u5 (ix3 0 r d) + u6 (ix3 0 r d) + u7 (ix3 0 r d) := by
  pointwise [k0_pay1] <;> rfl

theorem same_ix (x : S16x1024.Idx) (r : Fin 16) (d : Fin 1024) (h0 : (r : ℕ) = x 0) (h1 : (d : ℕ) = x 1) : x = ix2 r d :=
  funext fun a => by
    match a with
    | ⟨0, _⟩ => exact Fin.ext h0.symm
    | ⟨1, _⟩ => exact Fin.ext h1.symm

/-- One device's slice of a block. -/
theorem ld_ix (x : Vec Ideal S8x16x1024 .f32) (k : Fin 8) (r : Fin 16) (d : Fin 1024)
    (inb : ∀ a : Fin 3, (![(k : ℕ), 0, 0] : Fin 3 → ℕ) a + (![1, 16, 1024] : Fin 3 → ℕ) a ≤ S8x16x1024.size a) :
    (View.ld x (Rect.unit ![(k : ℕ), 0, 0] ![1, 16, 1024] inb) : Vec Ideal S1x16x1024 .f32) (ix3 0 r d) = x (ix3 k r d) := by
  show x _ = x _
  congr 1
  funext a
  match a with
  | ⟨0, _⟩ => exact Fin.ext (by simp [Rect.unit, ix3])
  | ⟨1, _⟩ => exact Fin.ext (by simp [Rect.unit, ix3])
  | ⟨2, _⟩ => exact Fin.ext (by simp [Rect.unit, ix3])

/-- The sum over the devices of a block's entries. -/
def sum8 (x : Vec Ideal S8x16x1024 .f32) (r : Fin 16) (d : Fin 1024) : EReal := ∑ k : Fin 8, x (ix3 k r d)

/-- What a point leaves in the output block. -/
theorem out_apply (x0 : Vec Ideal S8x16x1024 .f32) (y : S16x1024.Idx) : out0_1 (F := Ideal) x0 y = sum8 x0 (y 0) (y 1) := by
  unfold out0_1
  canon_tiles x hx
  rw [same_ix x (y 0) (y 1) hx0 hx1]
  refine (pay1_ix _ _ _ _ _ _ _ _ (y 0) (y 1)).trans ?_
  unfold sum8
  rw [Fin.sum_univ_eight]
  rw [← ld_ix x0 0 (y 0) (y 1) inb_S8x16x1024_S1x16x1024_0_0_0, ← ld_ix x0 1 (y 0) (y 1) inb_S8x16x1024_S1x16x1024_1_0_0,
    ← ld_ix x0 2 (y 0) (y 1) inb_S8x16x1024_S1x16x1024_2_0_0, ← ld_ix x0 3 (y 0) (y 1) inb_S8x16x1024_S1x16x1024_3_0_0,
    ← ld_ix x0 4 (y 0) (y 1) inb_S8x16x1024_S1x16x1024_4_0_0, ← ld_ix x0 5 (y 0) (y 1) inb_S8x16x1024_S1x16x1024_5_0_0,
    ← ld_ix x0 6 (y 0) (y 1) inb_S8x16x1024_S1x16x1024_6_0_0, ← ld_ix x0 7 (y 0) (y 1) inb_S8x16x1024_S1x16x1024_7_0_0]
  rfl

variable (m : (ℓ : Loc nD τ sig) → Buf (Elt Ideal) ℓ) (c : Dev nD)

/-- The devices' arrays. -/
abbrev argX : S8x48x1024.Idx → EReal := m ((c : Thread nD τ).loc main_arg0)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)

/-- The sum over the devices. -/
def arr (z : S48x1024.Idx) : EReal := ∑ k : Fin 8, argX m c (ix3 k (z 0) (z 1))

theorem sum_eq (t : Fin cfg0.N) (r : Fin 16) (d : Fin 1024) (z : S48x1024.Idx) (h0 : (z 0 : ℕ) = t.val * 16 + r) (h1 : (z 1 : ℕ) = d) :
    sum8 (iblk m c 0 t) r d = arr m c z := by
  unfold sum8 arr
  refine Finset.sum_congr rfl fun k _ => ?_
  blk_simp [iblk]
  show V m c main_arg0 _ = V m c main_arg0 _
  congr 1
  blk_ext [index0 t]

theorem final1 : (dats m 0 c).arrAt 1 cfg0.N = arr m c := by
  refine (dats m 0 c).arrAt_eq_of_covers 1 _ (by decide +kernel) fun t hf y => ?_
  blk_simp
  rw [after0_1]
  refine (out_apply _ _).trans (sum_eq m c t _ _ _ ?_ ?_)
  · blk_simp [index1 t]
  · blk_simp [index1 t]

end Cert.KernelSumIdeal.Blocks
-- ==== Proof.SumClaim.lean ====
module

public import proofs.«01_k».proof.Defs
public import proofs.«01_k».proof.Proof.SumBlock
public import proofs.«01_k».proof.Proof.Gen.KernelSum.Frame
public import proofs.«01_k».proof.Proof.Gen.ReferenceSumIdeal.Run
public import proofs.«01_k».proof.Proof.Gen.ReferenceSumIdeal.Read

@[expose] public section
noncomputable section

open Idealize.ShloMosaic Idealize.ShloMosaic.TcCoe Idealize.SL.Sem

/-! The sum of the devices' small gradients: kernel and reference end with the same array. -/

namespace Cert.ReferenceSumIdeal.Grad

open Cert.ReferenceSumIdeal Cert.ReferenceSumIdeal.Gen Cert.ReferenceSumIdeal.Read

variable (x0 : (⟨S8x48x1024, .f32⟩ : BufTy).Contents (Elt Ideal))

theorem sum_ix (s : Fin 48) (d : Fin 1024) : val_main_v0 (F := Ideal) x0 (ix2 s d) = ∑ k : Fin 8, x0 (ix3 k s d) := by
  pointwise [val_main_v0, val_main_cst] <;> rfl

/-- The reference's result. -/
theorem res0 (y : S48x1024.Idx) : val_main_v0 (F := Ideal) x0 y = ∑ k : Fin 8, x0 (ix3 k (y 0) (y 1)) := by
  have h := sum_ix x0 (y 0) (y 1)
  rw [ix2_eta] at h
  exact h

end Cert.ReferenceSumIdeal.Grad

namespace Cert.SumClaim

/-- The kernel runs, and leaves its arguments and every counter as they were. -/
theorem frame_kernel (h : Cert.KernelSum.Facts) : Cert.quiescent_KernelSum (hKernelSum := h) :=
  fun m ρ _ => Cert.KernelSum.Gen.frame m ρ

/-- The same of its reading over the extended reals. -/
theorem frame_ideal (h : Cert.KernelSumIdeal.Facts) : Cert.quiescent_KernelSumIdeal (hKernelSumIdeal := h) :=
  fun m ρ _ => Cert.KernelSumIdeal.Gen.frame m ρ

/-- The reference's run leaves its arguments and every counter as they were. -/
theorem frame_ref (h : Cert.ReferenceSumIdeal.Facts) : Cert.quiescent_ReferenceSumIdeal (hReferenceSumIdeal := h) :=
  fun m ρ _ => (θ_run _ _ _).mono (fun r h => ⟨fun c => (h c).2, sem_eq_zero_of_no_sems (by decide) r.2⟩)
    (Cert.ReferenceSumIdeal.Value.run m ρ)

/-- The kernel's result is the reference's. -/
theorem algebraic (h : Cert.KernelSumIdeal.Facts) (h' : Cert.ReferenceSumIdeal.Facts) :
    Cert.algebraic_KernelSumIdeal_ReferenceSumIdeal (hKernelSumIdeal := h) (hReferenceSumIdeal := h') := by
  intro m g m' g' hpre hargs
  refine ⟨fun c => Cert.KernelSumIdeal.Blocks.arr m c,
    (θ_run _ _ _).mono (fun r h c => ?_) (Cert.KernelSumIdeal.Value.run_blocks m g),
    (θ_run _ _ _).mono (fun r h c => ?_) (Cert.ReferenceSumIdeal.Value.run m' g')⟩
  · obtain ⟨h0, hr⟩ := h c
    exact ⟨h0.trans (Cert.KernelSumIdeal.Blocks.final1 m c), hr⟩
  · obtain ⟨h0, hr⟩ := h c
    have ha := hargs c
    have a0 := ha
    refine ⟨h0.trans ?_, hr⟩
    · rw [Cert.ReferenceSumIdeal.Read.val_main_v0_eq, a0]
      exact funext fun y => Cert.ReferenceSumIdeal.Grad.res0 _ y

end Cert.SumClaim
-- ==== Proof.LnFBlock.lean ====
module

public import proofs.«01_k».proof.Proof.Gen.KernelLnFIdeal.Value
public import Idealize.ShloMosaic.Lib.Pointwise
public import Idealize.ShloMosaic.Lib.Pipeline.ValueKit
public import Idealize.ShloMosaic.Lib.Pipeline.ValueKit.Tiles

@[expose] public section
noncomputable section

open Idealize.ShloMosaic Idealize.ShloMosaic.TcCoe Idealize.SL.Sem

/-! Mixer B's channel norm and swish, forward: the result of the kernel, at an index. -/

namespace Cert.LnMath

/-- The number of a row's entries, as the constant that the programs divide by. -/
def cnt : EReal := Ideal.ofBits FTy.f32 0x44000000#32

/-- The mean of a row. -/
def mean (x : Fin 512 → EReal) : EReal := Ideal.div (∑ k, x k) cnt

/-- The mean square distance of a row from its mean. -/
def spread (x : Fin 512 → EReal) : EReal := Ideal.div (∑ k, (x k - mean x) * (x k - mean x)) cnt

/-- An entry of the normed row, scaled and shifted. -/
def normed (x g b : Fin 512 → EReal) (d : Fin 512) : EReal :=
  (x d - mean x) * Ideal.rsqrt (spread x + Ideal.ofBits FTy.f32 0x358637BD#32) * g d + b d

/-- A number times its logistic. -/
def swish (l : EReal) : EReal :=
  l * Ideal.div 1 (1 + Ideal.exp (-l))

end Cert.LnMath

namespace Cert.KernelLnFIdeal.Blocks

open Cert.KernelLnFIdeal Cert.KernelLnFIdeal.Gen Cert.LnMath

/-- A row of a block. -/
def row (x : Vec Ideal S512x512 .f32) (r k : Fin 512) : EReal := x (ix2 r k)
/-- The only row of a block. -/
def one (x : Vec Ideal S1x512 .f32) (k : Fin 512) : EReal := x (ix2 0 k)

theorem pay1_ix (x0 : Vec Ideal S512x512 .f32) (x1 x2 : Vec Ideal S1x512 .f32) (r d : Fin 512) :
    k0_pay1 (F := Ideal) x0 x1 x2 (ix2 r d) = swish (normed (row x0 r) (one x1) (one x2) d) := by
  pointwise [k0_pay1]
  simp only [zero_sub]
  rfl

theorem ld_x {e : EltTy} (x : Vec Ideal S512x512 e)
    (inb : ∀ a : Fin 2, (![0, 0] : Fin 2 → ℕ) a + (![512, 512] : Fin 2 → ℕ) a ≤ S512x512.size a) :
    View.ld x (Rect.unit ![0, 0] ![512, 512] inb) = x := View.ld_unit_lit inb x (by decide)

theorem ld_1 {e : EltTy} (x : Vec Ideal S1x512 e)
    (inb : ∀ a : Fin 2, (![0, 0] : Fin 2 → ℕ) a + (![1, 512] : Fin 2 → ℕ) a ≤ S1x512.size a) :
    View.ld x (Rect.unit ![0, 0] ![1, 512] inb) = x := View.ld_unit_lit inb x (by decide)

theorem same_ix (x : S512x512.Idx) (r d : Fin 512) (h0 : (r : ℕ) = x 0) (h1 : (d : ℕ) = x 1) : x = ix2 r d :=
  funext fun a => by
    match a with
    | ⟨0, _⟩ => exact Fin.ext h0.symm
    | ⟨1, _⟩ => exact Fin.ext h1.symm

section Body
variable (c : Dev nD) (i : grid0.Coords) (a1 : Memref sig .tc .vmem S512x512 .f32) (h1 : a1.IsWhole) (a2 : Memref sig .tc .vmem S1x512 .f32) (h2 : a2.IsWhole)
  (a3 : Memref sig .tc .vmem S1x512 .f32) (h3 : a3.IsWhole) (a5 : Memref sig .tc .vmem S512x512 .bf16) (h5 : a5.IsWhole)
  (x0 : Vec Ideal S512x512 .f32) (x1 x2 : Vec Ideal S1x512 .f32) (r d : Fin 512)

theorem out_A : out0_A_3 (F := Ideal) c i a1 h1 a2 h2 a3 h3 a5 h5 x0 x1 x2 (ix2 r d) = swish (normed (row x0 r) (one x1) (one x2) d) := by
  unfold out0_A_3
  rw [View.read_writes_eq_canon _ _ _ (cover0_A_3 c i a1 h1 a2 h2 a3 h3 a5 h5 x0 x1 x2)]
  unfold kernelRun0_A
  dsimp only
  sl_unfold_words
  simp only [View.readAt_eq_ld, h1.read_unread, h2.read_unread, h3.read_unread, ld_x, ld_1]
  canon_tiles x hx
  rw [same_ix x r d hx0 hx1, pay1_ix]

end Body

variable (m : (ℓ : Loc nD τ sig) → Buf (Elt Ideal) ℓ) (c : Dev nD)

/-- The norm's input. -/
abbrev argX : S4096x512.Idx → EReal := m ((c : Thread nD τ).loc main_arg0)
/-- The norm's scale. -/
abbrev argG : S1x512.Idx → EReal := m ((c : Thread nD τ).loc main_arg1)
/-- The norm's shift. -/
abbrev argB : S1x512.Idx → EReal := m ((c : Thread nD τ).loc main_arg2)
/-- The array whose second half the kernel writes. -/
abbrev argY : S4096x1024.Idx → EReal := m ((c : Thread nD τ).loc main_arg3)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 1] := (by decide +kernel : ∀ t : Fin grid0.N, _)

/-- A row of the norm's input. -/
def xrow (x : S4096x512.Idx → EReal) (s : Fin 4096) (k : Fin 512) : EReal := x (ix2 s k)
/-- A row that all tokens share. -/
def vec (x : S1x512.Idx → EReal) (k : Fin 512) : EReal := x (ix2 0 k)

/-- The result: the first half of the given array, and the second half computed. -/
def res (x : S4096x512.Idx → EReal) (g b : S1x512.Idx → EReal) (y : S4096x1024.Idx → EReal) (z : S4096x1024.Idx) : EReal :=
  if h : (z 1 : ℕ) < 512 then y z
  else swish (normed (xrow x (z 0)) (vec g) (vec b) ⟨(z 1 : ℕ) - 512, by have := (z 1).isLt; change (z 1 : ℕ) < 1024 at this; omega⟩)

/-- The result. -/
def arr : S4096x1024.Idx → EReal := res (argX m c) (argG m c) (argB m c) (argY m c)

theorem row_x (t : Fin cfg0.N) (r : Fin 512) (s : Fin 4096) (hs : (s : ℕ) = t.val * 512 + r) : row (iblk m c 0 t) r = xrow (argX m c) s := by
  funext k
  unfold row xrow
  blk_simp [iblk]
  refine (congrFun (V_main_arg0 m c) _).trans ?_
  show m _ _ = m _ _
  congr 1
  blk_ext [index0 t]

theorem one_g (t : Fin cfg0.N) : one (iblk m c 1 t) = vec (argG m c) := by
  funext k
  unfold one vec
  blk_simp [iblk]
  refine (congrFun (V_main_arg1 m c) _).trans ?_
  show m _ _ = m _ _
  congr 1
  blk_ext [index1 t]

theorem one_b (t : Fin cfg0.N) : one (iblk m c 2 t) = vec (argB m c) := by
  funext k
  unfold one vec
  blk_simp [iblk]
  refine (congrFun (V_main_arg2 m c) _).trans ?_
  show m _ _ = m _ _
  congr 1
  blk_ext [index2 t]

theorem eq3 (t : Fin cfg0.N) (y : S512x512.Idx) (z : S4096x1024.Idx) (h0 : (z 0 : ℕ) = t.val * 512 + y 0) (h1 : (z 1 : ℕ) = 512 + y 1) :
    outsAt0 m c t y = arr m c z := by
  have hn : ¬(z 1 : ℕ) < 512 := by omega
  have e : (⟨(z 1 : ℕ) - 512, by have := (z 1).isLt; change (z 1 : ℕ) < 1024 at this; omega⟩ : Fin 512) = y 1 := Fin.ext (by show (z 1 : ℕ) - 512 = _; omega)
  unfold arr res
  rw [dif_neg hn, e, ← row_x m c t (y 0) (z 0) h0, ← one_g m c t, ← one_b m c t]
  unfold outsAt0
  have h := out_A c (grid0.coords t) (ms0_0 t) (hs0_0 t) (ms0_1 t) (hs0_1 t) (ms0_2 t) (hs0_2 t) (ms0_3 t) (hs0_3 t) (iblk m c 0 t) (iblk m c 1 t) (iblk m c 2 t) (y 0) (y 1)
  rw [ix2_eta] at h
  exact h

/-- Before the kernel starts, the result's buffer holds a copy of the given array. -/
theorem start : V m c main_v0 = argY m c := by
  dsimp only [V, hostOps0]
  after_results_simp
  rfl

theorem final3 : (dats m 0 c).arrAt 3 cfg0.N = arr m c := by
  refine (dats m 0 c).arrAt_eq_of_coversWhere_of_agree 3 _ (fun β => 1 ≤ β (1 : Fin 2)) (by decide +kernel) (fun t hf y => ?_) (fun j hj => ?_)
  · blk_simp
    rw [after0_3]
    refine eq3 m c t _ _ ?_ ?_
    · blk_simp [index3 t]
    · blk_simp [index3 t]
  · blk_simp [Pipeline.Window.cell_apply] at hj
    refine (congrFun ((A_eq m c 3).trans (start m c)) _).trans ?_
    have h : (j 1 : ℕ) < 512 := by omega
    unfold arr res
    rw [dif_pos]
    · exact h

end Cert.KernelLnFIdeal.Blocks
-- ==== Proof.LnFClaim.lean ====
module

public import proofs.«01_k».proof.Defs
public import proofs.«01_k».proof.Proof.LnFBlock
public import proofs.«01_k».proof.Proof.Gen.KernelLnF.Frame
public import proofs.«01_k».proof.Proof.Gen.ReferenceLnFIdeal.Run
public import proofs.«01_k».proof.Proof.Gen.ReferenceLnFIdeal.Read

@[expose] public section
noncomputable section

open Idealize.ShloMosaic Idealize.ShloMosaic.TcCoe Idealize.SL.Sem

/-! Mixer B's channel norm and swish, forward: kernel and reference end with the same array. -/

namespace Cert.ReferenceLnFIdeal.Grad

open Cert.ReferenceLnFIdeal Cert.ReferenceLnFIdeal.Gen Cert.ReferenceLnFIdeal.Read Cert.LnMath Cert.KernelLnFIdeal.Blocks

variable (x0 : (⟨S4096x512, .f32⟩ : BufTy).Contents (Elt Ideal)) (x1 x2 : (⟨S1x512, .f32⟩ : BufTy).Contents (Elt Ideal))
  (x3 : (⟨S4096x1024, .bf16⟩ : BufTy).Contents (Elt Ideal))

theorem mean_ix (s : Fin 4096) : val_main_v3 (F := Ideal) x0 (ix2 s 0) = mean (xrow x0 s) := by
  pointwise [val_main_v3, val_main_v2, val_main_cst_0, val_main_v1, val_main_v0, val_main_cst] <;> rfl

theorem spread_ix (s : Fin 4096) : val_main_v10 (F := Ideal) x0 (ix2 s 0) = spread (xrow x0 s) := by
  pointwise [val_main_v10, val_main_v9, val_main_cst_2, val_main_v8, val_main_v7, val_main_cst_1, val_main_v6, val_main_v5, val_main_v4, mean_ix] <;> rfl

theorem normed_ix (s : Fin 4096) (d : Fin 512) : val_main_v21 (F := Ideal) x0 x1 x2 (ix2 s d) = normed (xrow x0 s) (vec x1) (vec x2) d := by
  pointwise [val_main_v21, val_main_v20, val_main_v19, val_main_v18, val_main_v17, val_main_v16, val_main_v15, val_main_v14, val_main_v13, val_main_cst_3,
    val_main_v12, val_main_v11, mean_ix, spread_ix] <;> rfl

theorem swish_ix (s : Fin 4096) (d : Fin 512) :
    val_main_v24 (F := Ideal) x0 x1 x2 (ix2 s d) = swish (normed (xrow x0 s) (vec x1) (vec x2) d) := by
  pointwise [val_main_v24, val_main_v23, val_main_call0_v5, val_main_call0_v4, val_main_call0_cst_0, val_main_call0_v3, val_main_call0_v2, val_main_call0_cst,
    val_main_call0_v1, val_main_call0_v0, normed_ix] <;> rfl

/-- The reference's result. -/
theorem res0 (y : S4096x1024.Idx) : val_main_v25 (F := Ideal) x0 x1 x2 x3 y = res x0 x1 x2 x3 y := by
  unfold val_main_v25 res
  by_cases h : (y 1 : ℕ) < 512
  · rw [dif_pos h]
    refine (concatenate_pair_apply_left 1 _ _ concatenates_S4096x512_S4096x512_S4096x1024_d1 y rfl (ix2 (y 0) ⟨y 1, h⟩)
      (fun b => by match b with | ⟨0, _⟩ => rfl | ⟨1, _⟩ => rfl)).trans ?_
    exact (val_main_v22_apply x3 _).trans (congrArg x3 (funext fun b => by match b with | ⟨0, _⟩ => rfl | ⟨1, _⟩ => rfl))
  · rw [dif_neg h]
    have hy : (y 1 : ℕ) < 1024 := (y 1).isLt
    refine (concatenate_pair_apply_right 1 _ _ concatenates_S4096x512_S4096x512_S4096x1024_d1 y rfl rfl (ix2 (y 0) ⟨(y 1 : ℕ) - 512, by omega⟩)
      (fun b hb => by match b with | ⟨0, _⟩ => rfl | ⟨1, _⟩ => exact absurd rfl hb)
      (by show (y 1 : ℕ) - 512 + 512 = (y 1 : ℕ); omega)).trans ?_
    exact swish_ix x0 x1 x2 (y 0) ⟨(y 1 : ℕ) - 512, by omega⟩

end Cert.ReferenceLnFIdeal.Grad

namespace Cert.LnFClaim

/-- The kernel runs, and leaves its arguments and every counter as they were. -/
theorem frame_kernel (h : Cert.KernelLnF.Facts) : Cert.quiescent_KernelLnF (hKernelLnF := h) :=
  fun m ρ _ => Cert.KernelLnF.Gen.frame m ρ

/-- The same of its reading over the extended reals. -/
theorem frame_ideal (h : Cert.KernelLnFIdeal.Facts) : Cert.quiescent_KernelLnFIdeal (hKernelLnFIdeal := h) :=
  fun m ρ _ => Cert.KernelLnFIdeal.Gen.frame m ρ

/-- The reference's run leaves its arguments and every counter as they were. -/
theorem frame_ref (h : Cert.ReferenceLnFIdeal.Facts) : Cert.quiescent_ReferenceLnFIdeal (hReferenceLnFIdeal := h) :=
  fun m ρ _ => (θ_run _ _ _).mono (fun r h => ⟨fun c => (h c).2, sem_eq_zero_of_no_sems (by decide) r.2⟩)
    (Cert.ReferenceLnFIdeal.Value.run m ρ)

/-- The kernel's result is the reference's. -/
theorem algebraic (h : Cert.KernelLnFIdeal.Facts) (h' : Cert.ReferenceLnFIdeal.Facts) :
    Cert.algebraic_KernelLnFIdeal_ReferenceLnFIdeal (hKernelLnFIdeal := h) (hReferenceLnFIdeal := h') := by
  intro m g m' g' hpre hargs
  refine ⟨fun c => Cert.KernelLnFIdeal.Blocks.arr m c,
    (θ_run _ _ _).mono (fun r h c => ?_) (Cert.KernelLnFIdeal.Value.run_blocks m g),
    (θ_run _ _ _).mono (fun r h c => ?_) (Cert.ReferenceLnFIdeal.Value.run m' g')⟩
  · obtain ⟨h0, hr⟩ := h c
    exact ⟨h0.trans (Cert.KernelLnFIdeal.Blocks.final3 m c), hr⟩
  · obtain ⟨h0, hr⟩ := h c
    have ha := hargs c
    obtain ⟨a0, a1, a2, a3⟩ := ha
    refine ⟨h0.trans ?_, hr⟩
    · rw [Cert.ReferenceLnFIdeal.Read.val_main_v25_eq, a0, a1, a2, a3]
      exact funext fun y => Cert.ReferenceLnFIdeal.Grad.res0 _ _ _ _ y

end Cert.LnFClaim
-- ==== Proof.MixBFBlock.lean ====
module

public import proofs.«01_k».proof.Proof.Gen.KernelMixBFIdeal.Value
public import Idealize.ShloMosaic.Lib.Pipeline.ReadBack
public import Idealize.ShloMosaic.Lib.Pipeline.ValueKit
public import Idealize.ShloMosaic.Lib.Pointwise
public import Idealize.ShloMosaic.Lib.KernelVsHost

@[expose] public section
noncomputable section

open Idealize.ShloMosaic Idealize.ShloMosaic.TcCoe Idealize.SL.Sem

/-! Mixer B's gate and convolution: what one grid point leaves in its block. -/

namespace Cert.MixMath

/-- An entry times the logistic of its gate. -/
def gate (v g : EReal) : EReal := v * Ideal.div 1 (1 + Ideal.exp (-g))

/-- A column with thirty-two zeros before it. -/
def padded (u : Fin 4096 → EReal) (n : ℕ) : EReal := if h : 32 ≤ n ∧ n < 4128 then u ⟨n - 32, by omega⟩ else 0

/-- Thirty-one weighted entries, latest first, and the bias. -/
def conv (x : ℕ → EReal) (w : Fin 31 → EReal) (b : EReal) : EReal :=
  x 0 * w 30 + x 1 * w 29 + x 2 * w 28 + x 3 * w 27 + x 4 * w 26 + x 5 * w 25 + x 6 * w 24 + x 7 * w 23 + x 8 * w 22 + x 9 * w 21 + x 10 * w 20 + x 11 * w 19 + x 12 * w 18 + x 13 * w 17 + x 14 * w 16 + x 15 * w 15 + x 16 * w 14 + x 17 * w 13 + x 18 * w 12 + x 19 * w 11 + x 20 * w 10 + x 21 * w 9 + x 22 * w 8 + x 23 * w 7 + x 24 * w 6 + x 25 * w 5 + x 26 * w 4 + x 27 * w 3 + x 28 * w 2 + x 29 * w 1 + x 30 * w 0 + b

theorem conv_congr (x x' : ℕ → EReal) (w w' : Fin 31 → EReal) (b b' : EReal) (hx : ∀ j, j ≤ 30 → x j = x' j) (hw : ∀ n, w n = w' n) (hb : b = b') :
    conv x w b = conv x' w' b' := by
  unfold conv
  rw [hx 0 (by decide), hx 1 (by decide), hx 2 (by decide), hx 3 (by decide), hx 4 (by decide), hx 5 (by decide), hx 6 (by decide), hx 7 (by decide), hx 8 (by decide), hx 9 (by decide), hx 10 (by decide), hx 11 (by decide), hx 12 (by decide), hx 13 (by decide), hx 14 (by decide), hx 15 (by decide), hx 16 (by decide), hx 17 (by decide), hx 18 (by decide), hx 19 (by decide), hx 20 (by decide), hx 21 (by decide), hx 22 (by decide), hx 23 (by decide), hx 24 (by decide), hx 25 (by decide), hx 26 (by decide), hx 27 (by decide), hx 28 (by decide), hx 29 (by decide), hx 30 (by decide), hb, show w = w' from funext hw]

end Cert.MixMath

namespace Cert.KernelMixBFIdeal.Blocks

open Cert.KernelMixBFIdeal Cert.KernelMixBFIdeal.Gen Cert.MixMath

/-- The rows of a slab, moved down by `j`, from its thirty-third row on. -/
def shifted (v : Vec Ideal S288x128 .f32) (j : ℕ) : FVec Ideal S256x128 .f32 :=
  extractStridedSlice S256x128 ![32, 0] (dynamicRotate 0 (BitVec.ofNat 32 j) none v rotates_S288x128_d0) slices_S288x128_o32_0_S256x128

theorem shifted_ix (v : Vec Ideal S288x128 .f32) (j : ℕ) (hj : j ≤ 30) (r : Fin 256) (d : Fin 128) :
    shifted v j (ix2 r d) = v (ix2 ⟨r + 32 - j, by omega⟩ d) := by
  unfold shifted
  refine (extractStridedSlice_apply ![32, 0] _ slices_S288x128_o32_0_S256x128 (ix2 r d) (ix2 (⟨32 + r, by omega⟩ : Fin 288) d) (fun a => match a with
    | ⟨0, _⟩ => rfl
    | ⟨1, _⟩ => by show (d : ℕ) = 0 + d; omega)).trans ?_
  refine dynamicRotate_apply 0 _ v rotates_S288x128_d0 _ _ (fun b => ?_)
  match b with
  | ⟨0, _⟩ =>
    show (r : ℕ) + 32 - j = if (0 : Fin 2) = 0 then (32 + (r : ℕ) + 288 - (j % 2 ^ 32) % 288) % 288 else _
    rw [if_pos rfl]
    have hr : (r : ℕ) < 256 := r.isLt
    omega
  | ⟨1, _⟩ => rfl

theorem first_ix (v : Vec Ideal S288x128 .f32) (r : Fin 256) (d : Fin 128) :
    extractStridedSlice S256x128 ![32, 0] v slices_S288x128_o32_0_S256x128 (ix2 r d) = v (ix2 ⟨r + 32 - 0, by omega⟩ d) :=
  extractStridedSlice_apply ![32, 0] v slices_S288x128_o32_0_S256x128 (ix2 r d) (ix2 (⟨r + 32 - 0, by omega⟩ : Fin 288) d) (fun a => match a with
    | ⟨0, _⟩ => by show (r : ℕ) + 32 - 0 = 32 + r; omega
    | ⟨1, _⟩ => by show (d : ℕ) = 0 + d; omega)

/-- A row of weights, at every row. -/
theorem spread_ix {α : Type} (w : S1x128.Idx → α) (r : Fin 256) (d : Fin 128) :
    broadcastTo S256x128 w broadcasts_S1x128_S256x128 (ix2 r d) = w (ix2 0 d) := by
  pointwise []

/-- What one trip stores, from its slab, the rows of weights and the bias. -/
def stored (v : Vec Ideal S288x128 .f32) (w : Fin 31 → Vec Ideal S1x128 .f32) (b : Vec Ideal S1x128 .f32) : FVec Ideal S256x128 .f32 :=
  k0_pay3 v (k0_pay10 v (k0_pay8 v (k0_pay6 v (k0_pay4 v (w 30) (w 29) (w 28) (w 27) (w 26) (w 25)) (k0_pay5 v)
      (w 24) (w 23) (w 22) (w 21) (w 20) (w 19)) (k0_pay7 v (w 18)) (w 17) (w 16) (w 15) (w 14) (w 13) (w 12)) (k0_pay9 v)
      (w 11) (w 10) (w 9) (w 8) (w 7) (w 6) (w 5)) (k0_pay11 v) (w 4) (w 3) (w 2) (w 1) (w 0) b

section Pays
variable (v : Vec Ideal S288x128 .f32) (r : Fin 256) (d : Fin 128)

theorem pay4_ix (x30 x29 x28 x27 x26 x25 : Vec Ideal S1x128 .f32) :
    k0_pay4 (F := Ideal) v  x30 x29 x28 x27 x26 x25 (ix2 r d)
      = v (ix2 ⟨r + 32 - 0, by omega⟩ d) * x30 (ix2 0 d) + v (ix2 ⟨r + 32 - 1, by omega⟩ d) * x29 (ix2 0 d) + v (ix2 ⟨r + 32 - 2, by omega⟩ d) * x28 (ix2 0 d) + v (ix2 ⟨r + 32 - 3, by omega⟩ d) * x27 (ix2 0 d) + v (ix2 ⟨r + 32 - 4, by omega⟩ d) * x26 (ix2 0 d) + v (ix2 ⟨r + 32 - 5, by omega⟩ d) * x25 (ix2 0 d) := by
  show extractStridedSlice S256x128 ![32, 0] v slices_S288x128_o32_0_S256x128 (ix2 r d) * broadcastTo S256x128 x30 broadcasts_S1x128_S256x128 (ix2 r d) + shifted v 1 (ix2 r d) * broadcastTo S256x128 x29 broadcasts_S1x128_S256x128 (ix2 r d) + shifted v 2 (ix2 r d) * broadcastTo S256x128 x28 broadcasts_S1x128_S256x128 (ix2 r d) + shifted v 3 (ix2 r d) * broadcastTo S256x128 x27 broadcasts_S1x128_S256x128 (ix2 r d) + shifted v 4 (ix2 r d) * broadcastTo S256x128 x26 broadcasts_S1x128_S256x128 (ix2 r d) + shifted v 5 (ix2 r d) * broadcastTo S256x128 x25 broadcasts_S1x128_S256x128 (ix2 r d) = _
  rw [first_ix, shifted_ix v 1 (by decide), shifted_ix v 2 (by decide), shifted_ix v 3 (by decide), shifted_ix v 4 (by decide), shifted_ix v 5 (by decide)]
  rw [spread_ix x30, spread_ix x29, spread_ix x28, spread_ix x27, spread_ix x26, spread_ix x25]

theorem pay6_ix (u : FVec Ideal S256x128 .f32) (x24 x23 x22 x21 x20 x19 : Vec Ideal S1x128 .f32) :
    k0_pay6 (F := Ideal) v u (k0_pay5 v) x24 x23 x22 x21 x20 x19 (ix2 r d)
      = u (ix2 r d) + v (ix2 ⟨r + 32 - 6, by omega⟩ d) * x24 (ix2 0 d) + v (ix2 ⟨r + 32 - 7, by omega⟩ d) * x23 (ix2 0 d) + v (ix2 ⟨r + 32 - 8, by omega⟩ d) * x22 (ix2 0 d) + v (ix2 ⟨r + 32 - 9, by omega⟩ d) * x21 (ix2 0 d) + v (ix2 ⟨r + 32 - 10, by omega⟩ d) * x20 (ix2 0 d) + v (ix2 ⟨r + 32 - 11, by omega⟩ d) * x19 (ix2 0 d) := by
  show u (ix2 r d) + shifted v 6 (ix2 r d) * broadcastTo S256x128 x24 broadcasts_S1x128_S256x128 (ix2 r d) + shifted v 7 (ix2 r d) * broadcastTo S256x128 x23 broadcasts_S1x128_S256x128 (ix2 r d) + shifted v 8 (ix2 r d) * broadcastTo S256x128 x22 broadcasts_S1x128_S256x128 (ix2 r d) + shifted v 9 (ix2 r d) * broadcastTo S256x128 x21 broadcasts_S1x128_S256x128 (ix2 r d) + shifted v 10 (ix2 r d) * broadcastTo S256x128 x20 broadcasts_S1x128_S256x128 (ix2 r d) + shifted v 11 (ix2 r d) * broadcastTo S256x128 x19 broadcasts_S1x128_S256x128 (ix2 r d) = _
  rw [shifted_ix v 6 (by decide), shifted_ix v 7 (by decide), shifted_ix v 8 (by decide), shifted_ix v 9 (by decide), shifted_ix v 10 (by decide), shifted_ix v 11 (by decide)]
  rw [spread_ix x24, spread_ix x23, spread_ix x22, spread_ix x21, spread_ix x20, spread_ix x19]

theorem pay7_ix (x18 : Vec Ideal S1x128 .f32) :
    k0_pay7 (F := Ideal) v  x18 (ix2 r d)
      = v (ix2 ⟨r + 32 - 12, by omega⟩ d) * x18 (ix2 0 d) := by
  show shifted v 12 (ix2 r d) * broadcastTo S256x128 x18 broadcasts_S1x128_S256x128 (ix2 r d) = _
  rw [shifted_ix v 12 (by decide)]
  rw [spread_ix x18]

theorem pay8_ix (u z : FVec Ideal S256x128 .f32) (x17 x16 x15 x14 x13 x12 : Vec Ideal S1x128 .f32) :
    k0_pay8 (F := Ideal) v u z x17 x16 x15 x14 x13 x12 (ix2 r d)
      = u (ix2 r d) + z (ix2 r d) + v (ix2 ⟨r + 32 - 13, by omega⟩ d) * x17 (ix2 0 d) + v (ix2 ⟨r + 32 - 14, by omega⟩ d) * x16 (ix2 0 d) + v (ix2 ⟨r + 32 - 15, by omega⟩ d) * x15 (ix2 0 d) + v (ix2 ⟨r + 32 - 16, by omega⟩ d) * x14 (ix2 0 d) + v (ix2 ⟨r + 32 - 17, by omega⟩ d) * x13 (ix2 0 d) + v (ix2 ⟨r + 32 - 18, by omega⟩ d) * x12 (ix2 0 d) := by
  show u (ix2 r d) + z (ix2 r d) + shifted v 13 (ix2 r d) * broadcastTo S256x128 x17 broadcasts_S1x128_S256x128 (ix2 r d) + shifted v 14 (ix2 r d) * broadcastTo S256x128 x16 broadcasts_S1x128_S256x128 (ix2 r d) + shifted v 15 (ix2 r d) * broadcastTo S256x128 x15 broadcasts_S1x128_S256x128 (ix2 r d) + shifted v 16 (ix2 r d) * broadcastTo S256x128 x14 broadcasts_S1x128_S256x128 (ix2 r d) + shifted v 17 (ix2 r d) * broadcastTo S256x128 x13 broadcasts_S1x128_S256x128 (ix2 r d) + shifted v 18 (ix2 r d) * broadcastTo S256x128 x12 broadcasts_S1x128_S256x128 (ix2 r d) = _
  rw [shifted_ix v 13 (by decide), shifted_ix v 14 (by decide), shifted_ix v 15 (by decide), shifted_ix v 16 (by decide), shifted_ix v 17 (by decide), shifted_ix v 18 (by decide)]
  rw [spread_ix x17, spread_ix x16, spread_ix x15, spread_ix x14, spread_ix x13, spread_ix x12]

theorem pay10_ix (u : FVec Ideal S256x128 .f32) (x11 x10 x9 x8 x7 x6 x5 : Vec Ideal S1x128 .f32) :
    k0_pay10 (F := Ideal) v u (k0_pay9 v) x11 x10 x9 x8 x7 x6 x5 (ix2 r d)
      = u (ix2 r d) + v (ix2 ⟨r + 32 - 19, by omega⟩ d) * x11 (ix2 0 d) + v (ix2 ⟨r + 32 - 20, by omega⟩ d) * x10 (ix2 0 d) + v (ix2 ⟨r + 32 - 21, by omega⟩ d) * x9 (ix2 0 d) + v (ix2 ⟨r + 32 - 22, by omega⟩ d) * x8 (ix2 0 d) + v (ix2 ⟨r + 32 - 23, by omega⟩ d) * x7 (ix2 0 d) + v (ix2 ⟨r + 32 - 24, by omega⟩ d) * x6 (ix2 0 d) + v (ix2 ⟨r + 32 - 25, by omega⟩ d) * x5 (ix2 0 d) := by
  show u (ix2 r d) + shifted v 19 (ix2 r d) * broadcastTo S256x128 x11 broadcasts_S1x128_S256x128 (ix2 r d) + shifted v 20 (ix2 r d) * broadcastTo S256x128 x10 broadcasts_S1x128_S256x128 (ix2 r d) + shifted v 21 (ix2 r d) * broadcastTo S256x128 x9 broadcasts_S1x128_S256x128 (ix2 r d) + shifted v 22 (ix2 r d) * broadcastTo S256x128 x8 broadcasts_S1x128_S256x128 (ix2 r d) + shifted v 23 (ix2 r d) * broadcastTo S256x128 x7 broadcasts_S1x128_S256x128 (ix2 r d) + shifted v 24 (ix2 r d) * broadcastTo S256x128 x6 broadcasts_S1x128_S256x128 (ix2 r d) + shifted v 25 (ix2 r d) * broadcastTo S256x128 x5 broadcasts_S1x128_S256x128 (ix2 r d) = _
  rw [shifted_ix v 19 (by decide), shifted_ix v 20 (by decide), shifted_ix v 21 (by decide), shifted_ix v 22 (by decide), shifted_ix v 23 (by decide), shifted_ix v 24 (by decide), shifted_ix v 25 (by decide)]
  rw [spread_ix x11, spread_ix x10, spread_ix x9, spread_ix x8, spread_ix x7, spread_ix x6, spread_ix x5]

theorem pay3_ix (u : FVec Ideal S256x128 .f32) (x4 x3 x2 x1 x0 b : Vec Ideal S1x128 .f32) :
    k0_pay3 (F := Ideal) v u (k0_pay11 v) x4 x3 x2 x1 x0 b (ix2 r d)
      = u (ix2 r d) + v (ix2 ⟨r + 32 - 26, by omega⟩ d) * x4 (ix2 0 d) + v (ix2 ⟨r + 32 - 27, by omega⟩ d) * x3 (ix2 0 d) + v (ix2 ⟨r + 32 - 28, by omega⟩ d) * x2 (ix2 0 d) + v (ix2 ⟨r + 32 - 29, by omega⟩ d) * x1 (ix2 0 d) + v (ix2 ⟨r + 32 - 30, by omega⟩ d) * x0 (ix2 0 d) + b (ix2 0 d) := by
  show u (ix2 r d) + shifted v 26 (ix2 r d) * broadcastTo S256x128 x4 broadcasts_S1x128_S256x128 (ix2 r d) + shifted v 27 (ix2 r d) * broadcastTo S256x128 x3 broadcasts_S1x128_S256x128 (ix2 r d) + shifted v 28 (ix2 r d) * broadcastTo S256x128 x2 broadcasts_S1x128_S256x128 (ix2 r d) + shifted v 29 (ix2 r d) * broadcastTo S256x128 x1 broadcasts_S1x128_S256x128 (ix2 r d) + shifted v 30 (ix2 r d) * broadcastTo S256x128 x0 broadcasts_S1x128_S256x128 (ix2 r d) + broadcastTo S256x128 b broadcasts_S1x128_S256x128 (ix2 r d) = _
  rw [shifted_ix v 26 (by decide), shifted_ix v 27 (by decide), shifted_ix v 28 (by decide), shifted_ix v 29 (by decide), shifted_ix v 30 (by decide)]
  rw [spread_ix x4, spread_ix x3, spread_ix x2, spread_ix x1, spread_ix x0, spread_ix b]

theorem stored_ix (w : Fin 31 → Vec Ideal S1x128 .f32) (b : Vec Ideal S1x128 .f32) :
    stored v w b (ix2 r d) = conv (fun j => if h : j ≤ 30 then v (ix2 ⟨r + 32 - j, by omega⟩ d) else 0) (fun n => w n (ix2 0 d)) (b (ix2 0 d)) := by
  unfold stored
  rw [pay3_ix, pay10_ix, pay8_ix, pay6_ix, pay4_ix, pay7_ix]
  rfl

end Pays

/-- What a grid point leaves, entry by entry. -/
def outAt (x0 x1 : Vec Ideal S4096x128 .f32) (x2 : Vec Ideal S31x128 .f32) (x3 : Vec Ideal S1x128 .f32) (s : Fin 4096) (d : Fin 128) : EReal :=
  conv (fun j => padded (fun s' => gate (x0 (ix2 s' d)) (x1 (ix2 s' d))) (s + 32 - j)) (fun n => x2 (ix2 n d)) (x3 (ix2 0 d))

theorem pay1_apply (y : S32x128.Idx) : k0_pay1 (F := Ideal) y = 0 := by
  pointwise [k0_pay1]

theorem pay2_ix (v g : Vec Ideal S4096x128 .f32) (s : Fin 4096) (d : Fin 128) : k0_pay2 (F := Ideal) v g (ix2 s d) = gate (v (ix2 s d)) (g (ix2 s d)) := by
  pointwise [k0_pay2]
  simp only [zero_sub]
  rfl

theorem ld_v (x : Vec Ideal S4096x128 .f32)
    (inb : ∀ a : Fin 2, (![0, 0] : Fin 2 → ℕ) a + (![4096, 128] : Fin 2 → ℕ) a ≤ S4096x128.size a) :
    View.ld x (Rect.unit ![0, 0] ![4096, 128] inb) = x := View.ld_unit_lit inb x (by decide)

/-- The scratch: thirty-two rows of zeros, then the gated column. -/
def scratch (x0 x1 : Vec Ideal S4096x128 .f32) : Vec Ideal S4128x128 .f32 :=
  fun y => padded (fun s => gate (x0 (ix2 s (y 1))) (x1 (ix2 s (y 1)))) (y 0)

theorem scratch_eq (x0 x1 : Vec Ideal S4096x128 .f32) (y : S4128x128.Idx) :
    View.canon (Val := Elt Ideal) (s := S4128x128) (e := .f32) [⟨Rect.unit ![32, 0] ![4096, 128] inb_S4128x128_S4096x128_32_0, k0_pay2 (F := Ideal) x0 x1⟩,
      ⟨Rect.unit ![0, 0] ![32, 128] inb_S4128x128_S32x128_0_0, k0_pay1 (F := Ideal)⟩] y = scratch x0 x1 y := by
  have hy : (y 0 : ℕ) < 4128 := (y 0).isLt
  have hc : ∃ p ∈ ([⟨Rect.unit ![32, 0] ![4096, 128] inb_S4128x128_S4096x128_32_0, k0_pay2 (F := Ideal) x0 x1⟩,
      ⟨Rect.unit ![0, 0] ![32, 128] inb_S4128x128_S32x128_0_0, k0_pay1 (F := Ideal)⟩] : List (View.Piece (Elt Ideal) S4128x128 .f32)), y ∈ p.1.set := by
    have hy1 : (y 1 : ℕ) < 128 := (y 1).isLt
    by_cases h : 32 ≤ (y 0 : ℕ)
    · refine ⟨_, List.mem_cons_self, (Rect.mem_set_unit (inb := inb_S4128x128_S4096x128_32_0)).mpr fun a => ?_⟩
      match a with
      | ⟨0, _⟩ => exact ⟨h, by show (y 0 : ℕ) < 32 + 4096; omega⟩
      | ⟨1, _⟩ => exact ⟨Nat.zero_le _, by show (y 1 : ℕ) < 0 + 128; omega⟩
    · refine ⟨_, List.mem_cons_of_mem _ List.mem_cons_self, (Rect.mem_set_unit (inb := inb_S4128x128_S32x128_0_0)).mpr fun a => ?_⟩
      match a with
      | ⟨0, _⟩ => exact ⟨Nat.zero_le _, by show (y 0 : ℕ) < 0 + 32; omega⟩
      | ⟨1, _⟩ => exact ⟨Nat.zero_le _, by show (y 1 : ℕ) < 0 + 128; omega⟩
  canon_tiles x hx using hc
  · have e := pay2_ix x0 x1 (x 0) (x 1)
    rw [ix2_eta] at e
    refine e.trans ?_
    unfold scratch padded
    rw [dif_pos ⟨by omega, hy⟩]
    have hx : x = ix2 (⟨(y 0 : ℕ) - 32, by omega⟩ : Fin 4096) (y 1 : Fin 128) := funext fun a => by
      match a with
      | ⟨0, _⟩ => exact Fin.ext (by show (x 0 : ℕ) = (y 0 : ℕ) - 32; omega)
      | ⟨1, _⟩ => exact Fin.ext hx1.symm
    exact congrArg (fun z => gate (x0 z) (x1 z)) hx
  · rw [pay1_apply]
    unfold scratch padded
    rw [dif_neg (by omega)]

theorem off1 : ∀ k : Fin k0_t1_loop.trips, k0_off1 k = ![k.val * 256, 0] := (by decide +kernel : ∀ k : Fin k0_t1_loop.trips, _)
theorem off2 : ∀ k : Fin k0_t1_loop.trips, k0_off2 k = ![k.val * 256, 0] := (by decide +kernel : ∀ k : Fin k0_t1_loop.trips, _)

section Trips
variable (c : Dev nD) (i : grid0.Coords) (a1 : Memref sig .tc .vmem S4096x128 .f32) (h1 : a1.IsWhole) (a2 : Memref sig .tc .vmem S4096x128 .f32) (h2 : a2.IsWhole)
  (a3 : Memref sig .tc .vmem S31x128 .f32) (h3 : a3.IsWhole) (a4 : Memref sig .tc .vmem S1x128 .f32) (h4 : a4.IsWhole)
  (a5 : Memref sig .tc .vmem S4096x128 .f32) (h5 : a5.IsWhole) (a6 : Memref sig .tc .vmem S4128x128 .f32) (h6 : a6.IsWhole)
  (x0 x1 : Vec Ideal S4096x128 .f32) (x2 : Vec Ideal S31x128 .f32) (x3 : Vec Ideal S1x128 .f32)

theorem row_inb (n : Fin 31) : ∀ a : Fin 2, (![(n : ℕ), 0] : Fin 2 → ℕ) a + S1x128.size a ≤ S31x128.size a := by
  revert n; decide

theorem trip_eq (𝒱 : Variants) (bd : Option 𝒱.V) (X3 : BufTy.Contents (Elt Ideal) a3.view.ty) (X4 : BufTy.Contents (Elt Ideal) a4.view.ty)
    (X6 : BufTy.Contents (Elt Ideal) a6.view.ty) (k : Fin k0_t1_loop.trips) :
    tripL_k0_t1 (F := Ideal) 𝒱 c bd i a1 h1 a2 h2 a3 h3 a4 h4 a5 h5 a6 h6 X3 X4 X6 k
      = [⟨Rect.unit (k0_off2 k) S256x128.size (k0_off2_inb k),
          stored (View.ld (a6.view.read (Elt Ideal) X6) (Rect.unit (k0_off1 k) S288x128.size (k0_off1_inb k)))
            (fun n => View.ld (a3.view.read (Elt Ideal) X3) (Rect.unit ![(n : ℕ), 0] S1x128.size (row_inb n)))
            (View.ld (a4.view.read (Elt Ideal) X4) (Rect.unit ![0, 0] S1x128.size inb_S1x128_S1x128_0_0))⟩] := by
  unfold tripL_k0_t1 trip_k0_t1
  rfl

theorem trip_ix (k : Fin k0_t1_loop.trips) (r : Fin 256) (d : Fin 128) (s : Fin 4096) (hs : (s : ℕ) = k.val * 256 + r) :
    stored (View.ld (scratch x0 x1) (Rect.unit (k0_off1 k) S288x128.size (k0_off1_inb k)))
        (fun n => View.ld x2 (Rect.unit ![(n : ℕ), 0] S1x128.size (row_inb n)))
        (View.ld x3 (Rect.unit ![0, 0] S1x128.size inb_S1x128_S1x128_0_0)) (ix2 r d) = outAt x0 x1 x2 x3 s d := by
  refine (stored_ix _ r d _ _).trans (conv_congr _ _ _ _ _ _ (fun j hj => ?_) (fun n => ?_) ?_)
  · have hr : (r : ℕ) < 256 := r.isLt
    have hs' : (s : ℕ) < 4096 := s.isLt
    rw [dif_pos hj]
    refine (View.ld_unit_apply_of (scratch x0 x1) (k0_off1 k) S288x128.size (k0_off1_inb k) _ (ix2 (⟨s + 32 - j, by omega⟩ : Fin 4128) d) (fun a => ?_)).trans rfl
    have ho := congrFun (off1 k) a
    match a with
    | ⟨0, _⟩ =>
      refine Eq.trans ?_ (congrArg (· + ((r : ℕ) + 32 - j)) ho.symm)
      show (s : ℕ) + 32 - j = k.val * 256 + (r + 32 - j); omega
    | ⟨1, _⟩ =>
      refine Eq.trans ?_ (congrArg (· + (d : ℕ)) ho.symm)
      show (d : ℕ) = 0 + d; omega
  · exact View.ld_unit_apply_of x2 ![(n : ℕ), 0] S1x128.size (row_inb n) _ (ix2 n d) (fun a => by
      match a with
      | ⟨0, _⟩ => rfl
      | ⟨1, _⟩ => show (d : ℕ) = 0 + d; omega)
  · exact View.ld_unit_apply_of x3 ![0, 0] S1x128.size inb_S1x128_S1x128_0_0 _ (ix2 0 d) (fun a => by
      match a with
      | ⟨0, _⟩ => rfl
      | ⟨1, _⟩ => show (d : ℕ) = 0 + d; omega)

theorem pieces (𝒱 : Variants) (bd : Option 𝒱.V) (X3 : BufTy.Contents (Elt Ideal) a3.view.ty) (X4 : BufTy.Contents (Elt Ideal) a4.view.ty)
    (X6 : BufTy.Contents (Elt Ideal) a6.view.ty) (e3 : a3.view.read (Elt Ideal) X3 = x2) (e4 : a4.view.read (Elt Ideal) X4 = x3)
    (e6 : a6.view.read (Elt Ideal) X6 = scratch x0 x1) :
    ∀ n, ∀ p ∈ pb_k0_t1 (F := Ideal) 𝒱 c bd i a1 h1 a2 h2 a3 h3 a4 h4 a5 h5 a6 h6 X3 X4 X6 n, ∀ x : p.1.shape.Idx,
      p.2 x = (fun y : S4096x128.Idx => outAt x0 x1 x2 x3 (y 0) (y 1)) (p.1.emb x)
  | 0, p, hp, _ => absurd hp List.not_mem_nil
  | n + 1, p, hp, x => by
    rw [pb_k0_t1.eq_2] at hp
    unfold pb_k0_t1Step at hp
    split at hp
    · rename_i h
      rw [trip_eq, e3, e4, e6] at hp
      rcases List.mem_append.mp hp with hp | hp
      · obtain rfl := List.mem_singleton.mp hp
        have hx : x = ix2 (x 0 : Fin 256) (x 1 : Fin 128) := (ix2_eta x).symm
        have h0 := ValueKit.rect_emb_unit_val (s := S4096x128) (k0_off2 ⟨n, h⟩) S256x128.size (k0_off2_inb ⟨n, h⟩) x 0
        have h1 := ValueKit.rect_emb_unit_val (s := S4096x128) (k0_off2 ⟨n, h⟩) S256x128.size (k0_off2_inb ⟨n, h⟩) x 1
        have e0 : k0_off2 ⟨n, h⟩ 0 = n * 256 := congrFun (off2 ⟨n, h⟩) 0
        have e1 : k0_off2 ⟨n, h⟩ 1 = 0 := congrFun (off2 ⟨n, h⟩) 1
        rw [e0] at h0
        rw [e1, Nat.zero_add] at h1
        refine Eq.trans (congrArg _ hx) ((trip_ix x0 x1 x2 x3 ⟨n, h⟩ (x 0) (x 1) _ h0).trans ?_)
        exact congrArg (outAt x0 x1 x2 x3 _) (Fin.ext h1.symm)
      · exact pieces 𝒱 bd X3 X4 X6 e3 e4 e6 n p hp x
    · exact pieces 𝒱 bd X3 X4 X6 e3 e4 e6 n p hp x

theorem out_A (y : S4096x128.Idx) : out0_A_4 (F := Ideal) c i a1 h1 a2 h2 a3 h3 a4 h4 a5 h5 a6 h6 x0 x1 x2 x3 y = outAt x0 x1 x2 x3 (y 0) (y 1) := by
  unfold out0_A_4
  rw [View.read_writes_eq_canon _ _ _ (cover0_A_4 c i a1 h1 a2 h2 a3 h3 a4 h4 a5 h5 a6 h6 x0 x1 x2 x3)]
  have hp : ∀ p ∈ (kernelRun0_A (F := Ideal) c i a1 h1 a2 h2 a3 h3 a4 h4 a5 h5 a6 h6 x0 x1 x2 x3).1, ∀ x : p.1.shape.Idx,
      p.2 x = (fun y : S4096x128.Idx => outAt x0 x1 x2 x3 (y 0) (y 1)) (p.1.emb x) := by
    unfold kernelRun0_A
    dsimp only
    sl_unfold_words
    simp only [View.readAt_eq_ld, h1.read_unread, h2.read_unread, ld_v]
    refine pieces c i a1 h1 a2 h2 a3 h3 a4 h4 a5 h5 a6 h6 x0 x1 x2 x3 _ _ _ _ _ (h3.read_unread x2) (h4.read_unread x3) (funext fun z => ?_) _
    exact (View.read_writes_junk_apply_eq_canon _ z _).trans (scratch_eq x0 x1 z)
  have h := View.canon_append_of_pieces (fun y : S4096x128.Idx => (outAt x0 x1 x2 x3 (y 0) (y 1) : Elt Ideal .f32)) [] _ hp y (cover0_A_4 c i a1 h1 a2 h2 a3 h3 a4 h4 a5 h5 a6 h6 x0 x1 x2 x3 y)
  rw [List.append_nil] at h
  exact h

end Trips

variable (m : (ℓ : Loc nD τ sig) → Buf (Elt Ideal) ℓ) (c : Dev nD)

/-- The projections. -/
abbrev argZ : S4096x2560.Idx → EReal := m ((c : Thread nD τ).loc main_arg0)
/-- The convolution's weights. -/
abbrev argW : S31x512.Idx → EReal := m ((c : Thread nD τ).loc main_arg1)
/-- The bias. -/
abbrev argB : S1x512.Idx → EReal := m ((c : Thread nD τ).loc main_arg2)

theorem index0 : ∀ t : Fin cfg0.N, win0_0.index t = ![0, 12 + t.val] := (by decide +kernel : ∀ t : Fin grid0.N, _)
theorem index1 : ∀ t : Fin cfg0.N, win0_1.index t = ![0, 16 + t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)

/-- A gated column of the projections. -/
def gated (z : S4096x2560.Idx → EReal) (d : Fin 512) (s : Fin 4096) : EReal :=
  gate (z (ix2 s ⟨1536 + d, by omega⟩)) (z (ix2 s ⟨2048 + d, by omega⟩))

/-- An entry of the result. -/
def res (z : S4096x2560.Idx → EReal) (w : S31x512.Idx → EReal) (b : S1x512.Idx → EReal) (s : Fin 4096) (d : Fin 512) : EReal :=
  conv (fun j => padded (gated z d) (s + 32 - j)) (fun n => w (ix2 n d)) (b (ix2 0 d))

/-- The result. -/
def arr : S4096x512.Idx → EReal := fun y => res (argZ m c) (argW m c) (argB m c) (y 0) (y 1)

theorem blk_v (t : Fin cfg0.N) (d : Fin 128) (e : Fin 512) (he : (e : ℕ) = t.val * 128 + d) (s : Fin 4096) :
    iblk m c 0 t (ix2 s d) = argZ m c (ix2 s ⟨1536 + e, by omega⟩) := by
  blk_simp [iblk]
  refine (congrFun (V_main_arg0 m c) _).trans ?_
  show m _ _ = m _ _
  congr 1
  blk_ext [index0 t]

theorem blk_g (t : Fin cfg0.N) (d : Fin 128) (e : Fin 512) (he : (e : ℕ) = t.val * 128 + d) (s : Fin 4096) :
    iblk m c 1 t (ix2 s d) = argZ m c (ix2 s ⟨2048 + e, by omega⟩) := by
  blk_simp [iblk]
  refine (congrFun (V_main_arg0 m c) _).trans ?_
  show m _ _ = m _ _
  congr 1
  blk_ext [index1 t]

theorem blk_w (t : Fin cfg0.N) (d : Fin 128) (e : Fin 512) (he : (e : ℕ) = t.val * 128 + d) (n : Fin 31) :
    iblk m c 2 t (ix2 n d) = argW m c (ix2 n e) := by
  blk_simp [iblk]
  refine (congrFun (V_main_arg1 m c) _).trans ?_
  show m _ _ = m _ _
  congr 1
  blk_ext [index2 t]

theorem blk_b (t : Fin cfg0.N) (d : Fin 128) (e : Fin 512) (he : (e : ℕ) = t.val * 128 + d) :
    iblk m c 3 t (ix2 0 d) = argB m c (ix2 0 e) := by
  blk_simp [iblk]
  refine (congrFun (V_main_arg2 m c) _).trans ?_
  show m _ _ = m _ _
  congr 1
  blk_ext [index3 t]

theorem eq4 (t : Fin cfg0.N) (y : S4096x128.Idx) (z : S4096x512.Idx) (h0 : (z 0 : ℕ) = y 0) (h1 : (z 1 : ℕ) = t.val * 128 + y 1) :
    outsAt0 m c t y = arr m c z := by
  unfold outsAt0
  refine (out_A c (grid0.coords t) (ms0_0 t) (hs0_0 t) (ms0_1 t) (hs0_1 t) (ms0_2 t) (hs0_2 t) (ms0_3 t) (hs0_3 t) (ms0_4 t) (hs0_4 t) scM0_0
    (Memref.isWhole_whole _) (iblk m c 0 t) (iblk m c 1 t) (iblk m c 2 t) (iblk m c 3 t) y).trans ?_
  unfold arr res outAt
  have e : (z 0 : Fin 4096) = y 0 := Fin.ext h0
  rw [e]
  refine conv_congr _ _ _ _ _ _ (fun j hj => ?_) (fun n => blk_w m c t (y 1) (z 1) h1 n) (blk_b m c t (y 1) (z 1) h1)
  refine congrArg (fun u => padded u _) (funext fun s => ?_)
  exact congrArg₂ gate (blk_v m c t (y 1) (z 1) h1 s) (blk_g m c t (y 1) (z 1) h1 s)

theorem final4 : (dats m 0 c).arrAt 4 cfg0.N = arr m c := by
  refine (dats m 0 c).arrAt_eq_of_covers 4 _ (by decide +kernel) fun t hf y => ?_
  blk_simp
  rw [after0_4]
  refine eq4 m c t _ _ ?_ ?_
  · blk_simp [index4 t]
  · blk_simp [index4 t]

end Cert.KernelMixBFIdeal.Blocks
-- ==== Proof.MixBFRef.lean ====
module

public import proofs.«01_k».proof.Proof.MixBFBlock
public import proofs.«01_k».proof.Proof.Gen.ReferenceMixBFIdeal.Read

@[expose] public section
noncomputable section

open Idealize.ShloMosaic Idealize.ShloMosaic.TcCoe Idealize.SL.Sem

/-! Mixer B's gate and convolution, forward: the reference's result, entry by entry. -/

namespace Cert.ReferenceMixBFIdeal.Grad

open Cert.ReferenceMixBFIdeal Cert.ReferenceMixBFIdeal.Gen Cert.ReferenceMixBFIdeal.Read Cert.MixMath Cert.KernelMixBFIdeal.Blocks

variable (x0 : (⟨S4096x2560, .f32⟩ : BufTy).Contents (Elt Ideal)) (x1 : (⟨S31x512, .f32⟩ : BufTy).Contents (Elt Ideal))
  (x2 : (⟨S1x512, .f32⟩ : BufTy).Contents (Elt Ideal))

/-- The gated columns. -/
theorem gated_ix (s : Fin 4096) (d : Fin 512) : val_main_v8 (F := Ideal) x0 (ix2 s d) = gated x0 d s := by
  pointwise [val_main_v8, val_main_v7, val_main_v6, val_main_cst_0, val_main_v5, val_main_v4, val_main_cst, val_main_v3, val_main_v2, val_main_v1, val_main_v0] <;> rfl

/-- The gated columns after thirty rows of zeros. -/
theorem padded_ix (i : S4126x512.Idx) (d : Fin 512) (n : ℕ) (h0 : (i 0 : ℕ) + 2 = n) (h1 : (i 1 : ℕ) = d) :
    val_main_v9 (F := Ideal) x0 i = padded (gated x0 d) n := by
  have hi : (i 0 : ℕ) < 4126 := (i 0).isLt
  unfold val_main_v9 padded
  by_cases h : 32 ≤ n
  · rw [dif_pos ⟨h, by omega⟩]
    refine (pad_apply_of_inside ![30, 0] ![0, 0] ![0, 0] (val_main_v8 (F := Ideal) x0) _ pads_S4096x512_S4126x512_3000_000 h_S_ i
      (ix2 (⟨n - 32, by omega⟩ : Fin 4096) d) (fun a => ?_)).trans (gated_ix x0 _ d)
    match a with
    | ⟨0, _⟩ => show (i 0 : ℕ) = 30 + (n - 32) * (0 + 1); omega
    | ⟨1, _⟩ => show (i 1 : ℕ) = 0 + (d : ℕ) * (0 + 1); omega
  · rw [dif_neg (by omega)]
    refine (pad_apply_of_not_inside ![30, 0] ![0, 0] ![0, 0] (val_main_v8 (F := Ideal) x0) _ pads_S4096x512_S4126x512_3000_000 h_S_ i 0 ?_).trans ?_
    · intro hh
      have := hh.1
      change 30 ≤ (i 0 : ℕ) at this
      omega
    · pointwise [val_main_call0_v0, val_main_c]
      show (((0#32 : BitVec 32).toInt : ℝ) : EReal) = 0
      simp

section Taps
variable (s : Fin 4096) (d : Fin 512)

theorem tap0 : val_main_v17 (F := Ideal) x0 x1 (ix2 s d)
    = val_main_v16 (F := Ideal) (ix2 s d) + padded (gated x0 d) (s + 32 - 0) * x1 (ix2 30 d) := by
  refine congrArg₂ (fun p q : EReal => val_main_v16 (F := Ideal) (ix2 s d) + p * q) ?_ ?_
  · exact (val_main_v10_apply x0 (ix2 s d)).trans (padded_ix x0 _ d _ (by show 30 + (s : ℕ) + 2 = (s : ℕ) + 32 - 0; omega) rfl)
  · rw [val_main_v14_apply, val_main_v13_apply, val_main_v12_apply, val_main_v11_apply]
    exact congrArg x1 (funext fun a => by match a with | ⟨0, _⟩ => rfl | ⟨1, _⟩ => exact Fin.ext (Nat.mod_eq_of_lt d.isLt))

theorem tap1 : val_main_v24 (F := Ideal) x0 x1 (ix2 s d)
    = val_main_v17 (F := Ideal) x0 x1 (ix2 s d) + padded (gated x0 d) (s + 32 - 1) * x1 (ix2 29 d) := by
  refine congrArg₂ (fun p q : EReal => val_main_v17 (F := Ideal) x0 x1 (ix2 s d) + p * q) ?_ ?_
  · exact (val_main_v18_apply x0 (ix2 s d)).trans (padded_ix x0 _ d _ (by show 29 + (s : ℕ) + 2 = (s : ℕ) + 32 - 1; omega) rfl)
  · rw [val_main_v22_apply, val_main_v21_apply, val_main_v20_apply, val_main_v19_apply]
    exact congrArg x1 (funext fun a => by match a with | ⟨0, _⟩ => rfl | ⟨1, _⟩ => exact Fin.ext (Nat.mod_eq_of_lt d.isLt))

theorem tap2 : val_main_v31 (F := Ideal) x0 x1 (ix2 s d)
    = val_main_v24 (F := Ideal) x0 x1 (ix2 s d) + padded (gated x0 d) (s + 32 - 2) * x1 (ix2 28 d) := by
  refine congrArg₂ (fun p q : EReal => val_main_v24 (F := Ideal) x0 x1 (ix2 s d) + p * q) ?_ ?_
  · exact (val_main_v25_apply x0 (ix2 s d)).trans (padded_ix x0 _ d _ (by show 28 + (s : ℕ) + 2 = (s : ℕ) + 32 - 2; omega) rfl)
  · rw [val_main_v29_apply, val_main_v28_apply, val_main_v27_apply, val_main_v26_apply]
    exact congrArg x1 (funext fun a => by match a with | ⟨0, _⟩ => rfl | ⟨1, _⟩ => exact Fin.ext (Nat.mod_eq_of_lt d.isLt))

theorem tap3 : val_main_v38 (F := Ideal) x0 x1 (ix2 s d)
    = val_main_v31 (F := Ideal) x0 x1 (ix2 s d) + padded (gated x0 d) (s + 32 - 3) * x1 (ix2 27 d) := by
  refine congrArg₂ (fun p q : EReal => val_main_v31 (F := Ideal) x0 x1 (ix2 s d) + p * q) ?_ ?_
  · exact (val_main_v32_apply x0 (ix2 s d)).trans (padded_ix x0 _ d _ (by show 27 + (s : ℕ) + 2 = (s : ℕ) + 32 - 3; omega) rfl)
  · rw [val_main_v36_apply, val_main_v35_apply, val_main_v34_apply, val_main_v33_apply]
    exact congrArg x1 (funext fun a => by match a with | ⟨0, _⟩ => rfl | ⟨1, _⟩ => exact Fin.ext (Nat.mod_eq_of_lt d.isLt))

theorem tap4 : val_main_v45 (F := Ideal) x0 x1 (ix2 s d)
    = val_main_v38 (F := Ideal) x0 x1 (ix2 s d) + padded (gated x0 d) (s + 32 - 4) * x1 (ix2 26 d) := by
  refine congrArg₂ (fun p q : EReal => val_main_v38 (F := Ideal) x0 x1 (ix2 s d) + p * q) ?_ ?_
  · exact (val_main_v39_apply x0 (ix2 s d)).trans (padded_ix x0 _ d _ (by show 26 + (s : ℕ) + 2 = (s : ℕ) + 32 - 4; omega) rfl)
  · rw [val_main_v43_apply, val_main_v42_apply, val_main_v41_apply, val_main_v40_apply]
    exact congrArg x1 (funext fun a => by match a with | ⟨0, _⟩ => rfl | ⟨1, _⟩ => exact Fin.ext (Nat.mod_eq_of_lt d.isLt))

theorem tap5 : val_main_v52 (F := Ideal) x0 x1 (ix2 s d)
    = val_main_v45 (F := Ideal) x0 x1 (ix2 s d) + padded (gated x0 d) (s + 32 - 5) * x1 (ix2 25 d) := by
  refine congrArg₂ (fun p q : EReal => val_main_v45 (F := Ideal) x0 x1 (ix2 s d) + p * q) ?_ ?_
  · exact (val_main_v46_apply x0 (ix2 s d)).trans (padded_ix x0 _ d _ (by show 25 + (s : ℕ) + 2 = (s : ℕ) + 32 - 5; omega) rfl)
  · rw [val_main_v50_apply, val_main_v49_apply, val_main_v48_apply, val_main_v47_apply]
    exact congrArg x1 (funext fun a => by match a with | ⟨0, _⟩ => rfl | ⟨1, _⟩ => exact Fin.ext (Nat.mod_eq_of_lt d.isLt))

theorem tap6 : val_main_v59 (F := Ideal) x0 x1 (ix2 s d)
    = val_main_v52 (F := Ideal) x0 x1 (ix2 s d) + padded (gated x0 d) (s + 32 - 6) * x1 (ix2 24 d) := by
  refine congrArg₂ (fun p q : EReal => val_main_v52 (F := Ideal) x0 x1 (ix2 s d) + p * q) ?_ ?_
  · exact (val_main_v53_apply x0 (ix2 s d)).trans (padded_ix x0 _ d _ (by show 24 + (s : ℕ) + 2 = (s : ℕ) + 32 - 6; omega) rfl)
  · rw [val_main_v57_apply, val_main_v56_apply, val_main_v55_apply, val_main_v54_apply]
    exact congrArg x1 (funext fun a => by match a with | ⟨0, _⟩ => rfl | ⟨1, _⟩ => exact Fin.ext (Nat.mod_eq_of_lt d.isLt))

theorem tap7 : val_main_v66 (F := Ideal) x0 x1 (ix2 s d)
    = val_main_v59 (F := Ideal) x0 x1 (ix2 s d) + padded (gated x0 d) (s + 32 - 7) * x1 (ix2 23 d) := by
  refine congrArg₂ (fun p q : EReal => val_main_v59 (F := Ideal) x0 x1 (ix2 s d) + p * q) ?_ ?_
  · exact (val_main_v60_apply x0 (ix2 s d)).trans (padded_ix x0 _ d _ (by show 23 + (s : ℕ) + 2 = (s : ℕ) + 32 - 7; omega) rfl)
  · rw [val_main_v64_apply, val_main_v63_apply, val_main_v62_apply, val_main_v61_apply]
    exact congrArg x1 (funext fun a => by match a with | ⟨0, _⟩ => rfl | ⟨1, _⟩ => exact Fin.ext (Nat.mod_eq_of_lt d.isLt))

theorem tap8 : val_main_v73 (F := Ideal) x0 x1 (ix2 s d)
    = val_main_v66 (F := Ideal) x0 x1 (ix2 s d) + padded (gated x0 d) (s + 32 - 8) * x1 (ix2 22 d) := by
  refine congrArg₂ (fun p q : EReal => val_main_v66 (F := Ideal) x0 x1 (ix2 s d) + p * q) ?_ ?_
  · exact (val_main_v67_apply x0 (ix2 s d)).trans (padded_ix x0 _ d _ (by show 22 + (s : ℕ) + 2 = (s : ℕ) + 32 - 8; omega) rfl)
  · rw [val_main_v71_apply, val_main_v70_apply, val_main_v69_apply, val_main_v68_apply]
    exact congrArg x1 (funext fun a => by match a with | ⟨0, _⟩ => rfl | ⟨1, _⟩ => exact Fin.ext (Nat.mod_eq_of_lt d.isLt))

theorem tap9 : val_main_v80 (F := Ideal) x0 x1 (ix2 s d)
    = val_main_v73 (F := Ideal) x0 x1 (ix2 s d) + padded (gated x0 d) (s + 32 - 9) * x1 (ix2 21 d) := by
  refine congrArg₂ (fun p q : EReal => val_main_v73 (F := Ideal) x0 x1 (ix2 s d) + p * q) ?_ ?_
  · exact (val_main_v74_apply x0 (ix2 s d)).trans (padded_ix x0 _ d _ (by show 21 + (s : ℕ) + 2 = (s : ℕ) + 32 - 9; omega) rfl)
  · rw [val_main_v78_apply, val_main_v77_apply, val_main_v76_apply, val_main_v75_apply]
    exact congrArg x1 (funext fun a => by match a with | ⟨0, _⟩ => rfl | ⟨1, _⟩ => exact Fin.ext (Nat.mod_eq_of_lt d.isLt))

theorem tap10 : val_main_v87 (F := Ideal) x0 x1 (ix2 s d)
    = val_main_v80 (F := Ideal) x0 x1 (ix2 s d) + padded (gated x0 d) (s + 32 - 10) * x1 (ix2 20 d) := by
  refine congrArg₂ (fun p q : EReal => val_main_v80 (F := Ideal) x0 x1 (ix2 s d) + p * q) ?_ ?_
  · exact (val_main_v81_apply x0 (ix2 s d)).trans (padded_ix x0 _ d _ (by show 20 + (s : ℕ) + 2 = (s : ℕ) + 32 - 10; omega) rfl)
  · rw [val_main_v85_apply, val_main_v84_apply, val_main_v83_apply, val_main_v82_apply]
    exact congrArg x1 (funext fun a => by match a with | ⟨0, _⟩ => rfl | ⟨1, _⟩ => exact Fin.ext (Nat.mod_eq_of_lt d.isLt))

theorem tap11 : val_main_v94 (F := Ideal) x0 x1 (ix2 s d)
    = val_main_v87 (F := Ideal) x0 x1 (ix2 s d) + padded (gated x0 d) (s + 32 - 11) * x1 (ix2 19 d) := by
  refine congrArg₂ (fun p q : EReal => val_main_v87 (F := Ideal) x0 x1 (ix2 s d) + p * q) ?_ ?_
  · exact (val_main_v88_apply x0 (ix2 s d)).trans (padded_ix x0 _ d _ (by show 19 + (s : ℕ) + 2 = (s : ℕ) + 32 - 11; omega) rfl)
  · rw [val_main_v92_apply, val_main_v91_apply, val_main_v90_apply, val_main_v89_apply]
    exact congrArg x1 (funext fun a => by match a with | ⟨0, _⟩ => rfl | ⟨1, _⟩ => exact Fin.ext (Nat.mod_eq_of_lt d.isLt))

theorem tap12 : val_main_v101 (F := Ideal) x0 x1 (ix2 s d)
    = val_main_v94 (F := Ideal) x0 x1 (ix2 s d) + padded (gated x0 d) (s + 32 - 12) * x1 (ix2 18 d) := by
  refine congrArg₂ (fun p q : EReal => val_main_v94 (F := Ideal) x0 x1 (ix2 s d) + p * q) ?_ ?_
  · exact (val_main_v95_apply x0 (ix2 s d)).trans (padded_ix x0 _ d _ (by show 18 + (s : ℕ) + 2 = (s : ℕ) + 32 - 12; omega) rfl)
  · rw [val_main_v99_apply, val_main_v98_apply, val_main_v97_apply, val_main_v96_apply]
    exact congrArg x1 (funext fun a => by match a with | ⟨0, _⟩ => rfl | ⟨1, _⟩ => exact Fin.ext (Nat.mod_eq_of_lt d.isLt))

theorem tap13 : val_main_v108 (F := Ideal) x0 x1 (ix2 s d)
    = val_main_v101 (F := Ideal) x0 x1 (ix2 s d) + padded (gated x0 d) (s + 32 - 13) * x1 (ix2 17 d) := by
  refine congrArg₂ (fun p q : EReal => val_main_v101 (F := Ideal) x0 x1 (ix2 s d) + p * q) ?_ ?_
  · exact (val_main_v102_apply x0 (ix2 s d)).trans (padded_ix x0 _ d _ (by show 17 + (s : ℕ) + 2 = (s : ℕ) + 32 - 13; omega) rfl)
  · rw [val_main_v106_apply, val_main_v105_apply, val_main_v104_apply, val_main_v103_apply]
    exact congrArg x1 (funext fun a => by match a with | ⟨0, _⟩ => rfl | ⟨1, _⟩ => exact Fin.ext (Nat.mod_eq_of_lt d.isLt))

theorem tap14 : val_main_v115 (F := Ideal) x0 x1 (ix2 s d)
    = val_main_v108 (F := Ideal) x0 x1 (ix2 s d) + padded (gated x0 d) (s + 32 - 14) * x1 (ix2 16 d) := by
  refine congrArg₂ (fun p q : EReal => val_main_v108 (F := Ideal) x0 x1 (ix2 s d) + p * q) ?_ ?_
  · exact (val_main_v109_apply x0 (ix2 s d)).trans (padded_ix x0 _ d _ (by show 16 + (s : ℕ) + 2 = (s : ℕ) + 32 - 14; omega) rfl)
  · rw [val_main_v113_apply, val_main_v112_apply, val_main_v111_apply, val_main_v110_apply]
    exact congrArg x1 (funext fun a => by match a with | ⟨0, _⟩ => rfl | ⟨1, _⟩ => exact Fin.ext (Nat.mod_eq_of_lt d.isLt))

theorem tap15 : val_main_v122 (F := Ideal) x0 x1 (ix2 s d)
    = val_main_v115 (F := Ideal) x0 x1 (ix2 s d) + padded (gated x0 d) (s + 32 - 15) * x1 (ix2 15 d) := by
  refine congrArg₂ (fun p q : EReal => val_main_v115 (F := Ideal) x0 x1 (ix2 s d) + p * q) ?_ ?_
  · exact (val_main_v116_apply x0 (ix2 s d)).trans (padded_ix x0 _ d _ (by show 15 + (s : ℕ) + 2 = (s : ℕ) + 32 - 15; omega) rfl)
  · rw [val_main_v120_apply, val_main_v119_apply, val_main_v118_apply, val_main_v117_apply]
    exact congrArg x1 (funext fun a => by match a with | ⟨0, _⟩ => rfl | ⟨1, _⟩ => exact Fin.ext (Nat.mod_eq_of_lt d.isLt))

theorem tap16 : val_main_v129 (F := Ideal) x0 x1 (ix2 s d)
    = val_main_v122 (F := Ideal) x0 x1 (ix2 s d) + padded (gated x0 d) (s + 32 - 16) * x1 (ix2 14 d) := by
  refine congrArg₂ (fun p q : EReal => val_main_v122 (F := Ideal) x0 x1 (ix2 s d) + p * q) ?_ ?_
  · exact (val_main_v123_apply x0 (ix2 s d)).trans (padded_ix x0 _ d _ (by show 14 + (s : ℕ) + 2 = (s : ℕ) + 32 - 16; omega) rfl)
  · rw [val_main_v127_apply, val_main_v126_apply, val_main_v125_apply, val_main_v124_apply]
    exact congrArg x1 (funext fun a => by match a with | ⟨0, _⟩ => rfl | ⟨1, _⟩ => exact Fin.ext (Nat.mod_eq_of_lt d.isLt))

theorem tap17 : val_main_v136 (F := Ideal) x0 x1 (ix2 s d)
    = val_main_v129 (F := Ideal) x0 x1 (ix2 s d) + padded (gated x0 d) (s + 32 - 17) * x1 (ix2 13 d) := by
  refine congrArg₂ (fun p q : EReal => val_main_v129 (F := Ideal) x0 x1 (ix2 s d) + p * q) ?_ ?_
  · exact (val_main_v130_apply x0 (ix2 s d)).trans (padded_ix x0 _ d _ (by show 13 + (s : ℕ) + 2 = (s : ℕ) + 32 - 17; omega) rfl)
  · rw [val_main_v134_apply, val_main_v133_apply, val_main_v132_apply, val_main_v131_apply]
    exact congrArg x1 (funext fun a => by match a with | ⟨0, _⟩ => rfl | ⟨1, _⟩ => exact Fin.ext (Nat.mod_eq_of_lt d.isLt))

theorem tap18 : val_main_v143 (F := Ideal) x0 x1 (ix2 s d)
    = val_main_v136 (F := Ideal) x0 x1 (ix2 s d) + padded (gated x0 d) (s + 32 - 18) * x1 (ix2 12 d) := by
  refine congrArg₂ (fun p q : EReal => val_main_v136 (F := Ideal) x0 x1 (ix2 s d) + p * q) ?_ ?_
  · exact (val_main_v137_apply x0 (ix2 s d)).trans (padded_ix x0 _ d _ (by show 12 + (s : ℕ) + 2 = (s : ℕ) + 32 - 18; omega) rfl)
  · rw [val_main_v141_apply, val_main_v140_apply, val_main_v139_apply, val_main_v138_apply]
    exact congrArg x1 (funext fun a => by match a with | ⟨0, _⟩ => rfl | ⟨1, _⟩ => exact Fin.ext (Nat.mod_eq_of_lt d.isLt))

theorem tap19 : val_main_v150 (F := Ideal) x0 x1 (ix2 s d)
    = val_main_v143 (F := Ideal) x0 x1 (ix2 s d) + padded (gated x0 d) (s + 32 - 19) * x1 (ix2 11 d) := by
  refine congrArg₂ (fun p q : EReal => val_main_v143 (F := Ideal) x0 x1 (ix2 s d) + p * q) ?_ ?_
  · exact (val_main_v144_apply x0 (ix2 s d)).trans (padded_ix x0 _ d _ (by show 11 + (s : ℕ) + 2 = (s : ℕ) + 32 - 19; omega) rfl)
  · rw [val_main_v148_apply, val_main_v147_apply, val_main_v146_apply, val_main_v145_apply]
    exact congrArg x1 (funext fun a => by match a with | ⟨0, _⟩ => rfl | ⟨1, _⟩ => exact Fin.ext (Nat.mod_eq_of_lt d.isLt))

theorem tap20 : val_main_v157 (F := Ideal) x0 x1 (ix2 s d)
    = val_main_v150 (F := Ideal) x0 x1 (ix2 s d) + padded (gated x0 d) (s + 32 - 20) * x1 (ix2 10 d) := by
  refine congrArg₂ (fun p q : EReal => val_main_v150 (F := Ideal) x0 x1 (ix2 s d) + p * q) ?_ ?_
  · exact (val_main_v151_apply x0 (ix2 s d)).trans (padded_ix x0 _ d _ (by show 10 + (s : ℕ) + 2 = (s : ℕ) + 32 - 20; omega) rfl)
  · rw [val_main_v155_apply, val_main_v154_apply, val_main_v153_apply, val_main_v152_apply]
    exact congrArg x1 (funext fun a => by match a with | ⟨0, _⟩ => rfl | ⟨1, _⟩ => exact Fin.ext (Nat.mod_eq_of_lt d.isLt))

theorem tap21 : val_main_v164 (F := Ideal) x0 x1 (ix2 s d)
    = val_main_v157 (F := Ideal) x0 x1 (ix2 s d) + padded (gated x0 d) (s + 32 - 21) * x1 (ix2 9 d) := by
  refine congrArg₂ (fun p q : EReal => val_main_v157 (F := Ideal) x0 x1 (ix2 s d) + p * q) ?_ ?_
  · exact (val_main_v158_apply x0 (ix2 s d)).trans (padded_ix x0 _ d _ (by show 9 + (s : ℕ) + 2 = (s : ℕ) + 32 - 21; omega) rfl)
  · rw [val_main_v162_apply, val_main_v161_apply, val_main_v160_apply, val_main_v159_apply]
    exact congrArg x1 (funext fun a => by match a with | ⟨0, _⟩ => rfl | ⟨1, _⟩ => exact Fin.ext (Nat.mod_eq_of_lt d.isLt))

theorem tap22 : val_main_v171 (F := Ideal) x0 x1 (ix2 s d)
    = val_main_v164 (F := Ideal) x0 x1 (ix2 s d) + padded (gated x0 d) (s + 32 - 22) * x1 (ix2 8 d) := by
  refine congrArg₂ (fun p q : EReal => val_main_v164 (F := Ideal) x0 x1 (ix2 s d) + p * q) ?_ ?_
  · exact (val_main_v165_apply x0 (ix2 s d)).trans (padded_ix x0 _ d _ (by show 8 + (s : ℕ) + 2 = (s : ℕ) + 32 - 22; omega) rfl)
  · rw [val_main_v169_apply, val_main_v168_apply, val_main_v167_apply, val_main_v166_apply]
    exact congrArg x1 (funext fun a => by match a with | ⟨0, _⟩ => rfl | ⟨1, _⟩ => exact Fin.ext (Nat.mod_eq_of_lt d.isLt))

theorem tap23 : val_main_v178 (F := Ideal) x0 x1 (ix2 s d)
    = val_main_v171 (F := Ideal) x0 x1 (ix2 s d) + padded (gated x0 d) (s + 32 - 23) * x1 (ix2 7 d) := by
  refine congrArg₂ (fun p q : EReal => val_main_v171 (F := Ideal) x0 x1 (ix2 s d) + p * q) ?_ ?_
  · exact (val_main_v172_apply x0 (ix2 s d)).trans (padded_ix x0 _ d _ (by show 7 + (s : ℕ) + 2 = (s : ℕ) + 32 - 23; omega) rfl)
  · rw [val_main_v176_apply, val_main_v175_apply, val_main_v174_apply, val_main_v173_apply]
    exact congrArg x1 (funext fun a => by match a with | ⟨0, _⟩ => rfl | ⟨1, _⟩ => exact Fin.ext (Nat.mod_eq_of_lt d.isLt))

theorem tap24 : val_main_v185 (F := Ideal) x0 x1 (ix2 s d)
    = val_main_v178 (F := Ideal) x0 x1 (ix2 s d) + padded (gated x0 d) (s + 32 - 24) * x1 (ix2 6 d) := by
  refine congrArg₂ (fun p q : EReal => val_main_v178 (F := Ideal) x0 x1 (ix2 s d) + p * q) ?_ ?_
  · exact (val_main_v179_apply x0 (ix2 s d)).trans (padded_ix x0 _ d _ (by show 6 + (s : ℕ) + 2 = (s : ℕ) + 32 - 24; omega) rfl)
  · rw [val_main_v183_apply, val_main_v182_apply, val_main_v181_apply, val_main_v180_apply]
    exact congrArg x1 (funext fun a => by match a with | ⟨0, _⟩ => rfl | ⟨1, _⟩ => exact Fin.ext (Nat.mod_eq_of_lt d.isLt))

theorem tap25 : val_main_v192 (F := Ideal) x0 x1 (ix2 s d)
    = val_main_v185 (F := Ideal) x0 x1 (ix2 s d) + padded (gated x0 d) (s + 32 - 25) * x1 (ix2 5 d) := by
  refine congrArg₂ (fun p q : EReal => val_main_v185 (F := Ideal) x0 x1 (ix2 s d) + p * q) ?_ ?_
  · exact (val_main_v186_apply x0 (ix2 s d)).trans (padded_ix x0 _ d _ (by show 5 + (s : ℕ) + 2 = (s : ℕ) + 32 - 25; omega) rfl)
  · rw [val_main_v190_apply, val_main_v189_apply, val_main_v188_apply, val_main_v187_apply]
    exact congrArg x1 (funext fun a => by match a with | ⟨0, _⟩ => rfl | ⟨1, _⟩ => exact Fin.ext (Nat.mod_eq_of_lt d.isLt))

theorem tap26 : val_main_v199 (F := Ideal) x0 x1 (ix2 s d)
    = val_main_v192 (F := Ideal) x0 x1 (ix2 s d) + padded (gated x0 d) (s + 32 - 26) * x1 (ix2 4 d) := by
  refine congrArg₂ (fun p q : EReal => val_main_v192 (F := Ideal) x0 x1 (ix2 s d) + p * q) ?_ ?_
  · exact (val_main_v193_apply x0 (ix2 s d)).trans (padded_ix x0 _ d _ (by show 4 + (s : ℕ) + 2 = (s : ℕ) + 32 - 26; omega) rfl)
  · rw [val_main_v197_apply, val_main_v196_apply, val_main_v195_apply, val_main_v194_apply]
    exact congrArg x1 (funext fun a => by match a with | ⟨0, _⟩ => rfl | ⟨1, _⟩ => exact Fin.ext (Nat.mod_eq_of_lt d.isLt))

theorem tap27 : val_main_v206 (F := Ideal) x0 x1 (ix2 s d)
    = val_main_v199 (F := Ideal) x0 x1 (ix2 s d) + padded (gated x0 d) (s + 32 - 27) * x1 (ix2 3 d) := by
  refine congrArg₂ (fun p q : EReal => val_main_v199 (F := Ideal) x0 x1 (ix2 s d) + p * q) ?_ ?_
  · exact (val_main_v200_apply x0 (ix2 s d)).trans (padded_ix x0 _ d _ (by show 3 + (s : ℕ) + 2 = (s : ℕ) + 32 - 27; omega) rfl)
  · rw [val_main_v204_apply, val_main_v203_apply, val_main_v202_apply, val_main_v201_apply]
    exact congrArg x1 (funext fun a => by match a with | ⟨0, _⟩ => rfl | ⟨1, _⟩ => exact Fin.ext (Nat.mod_eq_of_lt d.isLt))

theorem tap28 : val_main_v213 (F := Ideal) x0 x1 (ix2 s d)
    = val_main_v206 (F := Ideal) x0 x1 (ix2 s d) + padded (gated x0 d) (s + 32 - 28) * x1 (ix2 2 d) := by
  refine congrArg₂ (fun p q : EReal => val_main_v206 (F := Ideal) x0 x1 (ix2 s d) + p * q) ?_ ?_
  · exact (val_main_v207_apply x0 (ix2 s d)).trans (padded_ix x0 _ d _ (by show 2 + (s : ℕ) + 2 = (s : ℕ) + 32 - 28; omega) rfl)
  · rw [val_main_v211_apply, val_main_v210_apply, val_main_v209_apply, val_main_v208_apply]
    exact congrArg x1 (funext fun a => by match a with | ⟨0, _⟩ => rfl | ⟨1, _⟩ => exact Fin.ext (Nat.mod_eq_of_lt d.isLt))

theorem tap29 : val_main_v220 (F := Ideal) x0 x1 (ix2 s d)
    = val_main_v213 (F := Ideal) x0 x1 (ix2 s d) + padded (gated x0 d) (s + 32 - 29) * x1 (ix2 1 d) := by
  refine congrArg₂ (fun p q : EReal => val_main_v213 (F := Ideal) x0 x1 (ix2 s d) + p * q) ?_ ?_
  · exact (val_main_v214_apply x0 (ix2 s d)).trans (padded_ix x0 _ d _ (by show 1 + (s : ℕ) + 2 = (s : ℕ) + 32 - 29; omega) rfl)
  · rw [val_main_v218_apply, val_main_v217_apply, val_main_v216_apply, val_main_v215_apply]
    exact congrArg x1 (funext fun a => by match a with | ⟨0, _⟩ => rfl | ⟨1, _⟩ => exact Fin.ext (Nat.mod_eq_of_lt d.isLt))

theorem tap30 : val_main_v227 (F := Ideal) x0 x1 (ix2 s d)
    = val_main_v220 (F := Ideal) x0 x1 (ix2 s d) + padded (gated x0 d) (s + 32 - 30) * x1 (ix2 0 d) := by
  refine congrArg₂ (fun p q : EReal => val_main_v220 (F := Ideal) x0 x1 (ix2 s d) + p * q) ?_ ?_
  · exact (val_main_v221_apply x0 (ix2 s d)).trans (padded_ix x0 _ d _ (by show (s : ℕ) + 2 = (s : ℕ) + 32 - 30; omega) rfl)
  · rw [val_main_v225_apply, val_main_v224_apply, val_main_v223_apply, val_main_v222_apply]
    exact congrArg x1 (funext fun a => by match a with | ⟨0, _⟩ => rfl | ⟨1, _⟩ => exact Fin.ext (Nat.mod_eq_of_lt d.isLt))

/-- The sum's start. -/
theorem zero_ix : val_main_v16 (F := Ideal) (ix2 s d) = 0 := by
  pointwise [val_main_v16, val_main_cst_1]

theorem bias_ix : val_main_v228 (F := Ideal) x2 (ix2 s d) = x2 (ix2 0 d) := by
  rw [val_main_v228_apply]
  exact congrArg x2 (funext fun a => by match a with | ⟨0, _⟩ => rfl | ⟨1, _⟩ => rfl)

/-- The reference's result at a row and a column. -/
theorem res_ix : val_main_v229 (F := Ideal) x0 x1 x2 (ix2 s d) = res x0 x1 x2 s d := by
  unfold res conv
  refine (congrArg₂ (fun p q : EReal => p + q) ?_ (bias_ix x2 s d) : val_main_v227 (F := Ideal) x0 x1 (ix2 s d) + val_main_v228 (F := Ideal) x2 (ix2 s d) = _)
  rw [tap30 x0 x1 s d, tap29 x0 x1 s d, tap28 x0 x1 s d, tap27 x0 x1 s d, tap26 x0 x1 s d, tap25 x0 x1 s d, tap24 x0 x1 s d, tap23 x0 x1 s d, tap22 x0 x1 s d, tap21 x0 x1 s d, tap20 x0 x1 s d, tap19 x0 x1 s d, tap18 x0 x1 s d, tap17 x0 x1 s d, tap16 x0 x1 s d, tap15 x0 x1 s d, tap14 x0 x1 s d, tap13 x0 x1 s d, tap12 x0 x1 s d, tap11 x0 x1 s d, tap10 x0 x1 s d, tap9 x0 x1 s d, tap8 x0 x1 s d, tap7 x0 x1 s d, tap6 x0 x1 s d, tap5 x0 x1 s d, tap4 x0 x1 s d, tap3 x0 x1 s d, tap2 x0 x1 s d, tap1 x0 x1 s d, tap0 x0 x1 s d, zero_ix s d, zero_add]

end Taps

/-- The reference's result. -/
theorem res0 (y : S4096x512.Idx) : val_main_v229 (F := Ideal) x0 x1 x2 y = res x0 x1 x2 (y 0) (y 1) := by
  have h := res_ix x0 x1 x2 (y 0) (y 1)
  rw [ix2_eta] at h
  exact h

end Cert.ReferenceMixBFIdeal.Grad
-- ==== Proof.MixBFClaim.lean ====
module

public import proofs.«01_k».proof.Defs
public import proofs.«01_k».proof.Proof.MixBFRef
public import proofs.«01_k».proof.Proof.Gen.KernelMixBF.Frame
public import proofs.«01_k».proof.Proof.Gen.ReferenceMixBFIdeal.Run
public import proofs.«01_k».proof.Proof.Gen.ReferenceMixBFIdeal.Read

@[expose] public section
noncomputable section

open Idealize.ShloMosaic Idealize.ShloMosaic.TcCoe Idealize.SL.Sem

/-! Mixer B's gate and long convolution, forward: kernel and reference end with the same array. -/

namespace Cert.MixBFClaim

/-- The kernel runs, and leaves its arguments and every counter as they were. -/
theorem frame_kernel (h : Cert.KernelMixBF.Facts) : Cert.quiescent_KernelMixBF (hKernelMixBF := h) :=
  fun m ρ _ => Cert.KernelMixBF.Gen.frame m ρ

/-- The same of its reading over the extended reals. -/
theorem frame_ideal (h : Cert.KernelMixBFIdeal.Facts) : Cert.quiescent_KernelMixBFIdeal (hKernelMixBFIdeal := h) :=
  fun m ρ _ => Cert.KernelMixBFIdeal.Gen.frame m ρ

/-- The reference's run leaves its arguments and every counter as they were. -/
theorem frame_ref (h : Cert.ReferenceMixBFIdeal.Facts) : Cert.quiescent_ReferenceMixBFIdeal (hReferenceMixBFIdeal := h) :=
  fun m ρ _ => (θ_run _ _ _).mono (fun r h => ⟨fun c => (h c).2, sem_eq_zero_of_no_sems (by decide) r.2⟩)
    (Cert.ReferenceMixBFIdeal.Value.run m ρ)

/-- The kernel's result is the reference's. -/
theorem algebraic (h : Cert.KernelMixBFIdeal.Facts) (h' : Cert.ReferenceMixBFIdeal.Facts) :
    Cert.algebraic_KernelMixBFIdeal_ReferenceMixBFIdeal (hKernelMixBFIdeal := h) (hReferenceMixBFIdeal := h') := by
  intro m g m' g' hpre hargs
  refine ⟨fun c => Cert.KernelMixBFIdeal.Blocks.arr m c,
    (θ_run _ _ _).mono (fun r h c => ?_) (Cert.KernelMixBFIdeal.Value.run_blocks m g),
    (θ_run _ _ _).mono (fun r h c => ?_) (Cert.ReferenceMixBFIdeal.Value.run m' g')⟩
  · obtain ⟨h0, hr⟩ := h c
    exact ⟨h0.trans (Cert.KernelMixBFIdeal.Blocks.final4 m c), hr⟩
  · obtain ⟨h0, hr⟩ := h c
    have ha := hargs c
    obtain ⟨a0, a1, a2⟩ := ha
    refine ⟨h0.trans ((Cert.ReferenceMixBFIdeal.Read.val_main_v229_eq (StableHlo.launchContents m' c)).trans ?_), hr⟩
    · show Cert.ReferenceMixBFIdeal.Read.val_main_v229 (F := Ideal) (m' (c.tc.loc Cert.ReferenceMixBFIdeal.main_arg0))
        (m' (c.tc.loc Cert.ReferenceMixBFIdeal.main_arg1)) (m' (c.tc.loc Cert.ReferenceMixBFIdeal.main_arg2)) = _
      rw [a0, a1, a2]
      exact funext fun y => Cert.ReferenceMixBFIdeal.Grad.res0 _ _ _ y

end Cert.MixBFClaim
-- ==== Proof.lean ====
module

public import proofs.«01_k».proof.Defs
public import proofs.«01_k».proof.Proof.AttnClaim
public import proofs.«01_k».proof.Proof.HiddenClaim
public import proofs.«01_k».proof.Proof.DownClaim
public import proofs.«01_k».proof.Proof.UpClaim
public import proofs.«01_k».proof.Proof.NormClaim
public import proofs.«01_k».proof.Proof.ProjClaim
public import proofs.«01_k».proof.Proof.InClaim
public import proofs.«01_k».proof.Proof.DoutClaim
public import proofs.«01_k».proof.Proof.DyClaim
public import proofs.«01_k».proof.Proof.NormInClaim
public import proofs.«01_k».proof.Proof.FUpClaim
public import proofs.«01_k».proof.Proof.FDownClaim
public import proofs.«01_k».proof.Proof.FOutClaim
public import proofs.«01_k».proof.Proof.FInClaim
public import proofs.«01_k».proof.Proof.FQClaim
public import proofs.«01_k».proof.Proof.NormQClaim
public import proofs.«01_k».proof.Proof.FLastClaim
public import proofs.«01_k».proof.Proof.FAttnClaim
public import proofs.«01_k».proof.Proof.FKvClaim
public import proofs.«01_k».proof.Proof.KvClaim
public import proofs.«01_k».proof.Proof.MemClaim
public import proofs.«01_k».proof.Proof.NormMemClaim
public import proofs.«01_k».proof.Proof.FNormClaim
public import proofs.«01_k».proof.Proof.FNormMemClaim
public import proofs.«01_k».proof.Proof.LossClaim
public import proofs.«01_k».proof.Proof.AdamClaim
public import proofs.«01_k».proof.Proof.AdamInClaim
public import proofs.«01_k».proof.Proof.AdamSqClaim
public import proofs.«01_k».proof.Proof.AdamKvClaim
public import proofs.«01_k».proof.Proof.AdamSmallClaim
public import proofs.«01_k».proof.Proof.SumClaim
public import proofs.«01_k».proof.Proof.LnFClaim
public import proofs.«01_k».proof.Proof.MixBFClaim
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelHidden.Frame
public import proofs.«01_k».proof.Proof.Gen.KernelHiddenIdeal.Frame
public import proofs.«01_k».proof.Proof.Gen.KernelHiddenIdeal.Value
public import proofs.«01_k».proof.Proof.Gen.ReferenceHiddenIdeal.Run
public import proofs.«01_k».proof.Proof.Gen.ReferenceHiddenIdeal.Read
public import proofs.«01_k».proof.Proof.Gen.KernelDown.Frame
public import proofs.«01_k».proof.Proof.Gen.KernelDownIdeal.Frame
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Gen.KernelUp.Frame
public import proofs.«01_k».proof.Proof.Gen.KernelUpIdeal.Frame
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Gen.KernelNorm.Frame
public import proofs.«01_k».proof.Proof.Gen.KernelNormIdeal.Frame
public import proofs.«01_k».proof.Proof.Gen.KernelNormIdeal.Value
public import proofs.«01_k».proof.Proof.Gen.ReferenceNormIdeal.Run
public import proofs.«01_k».proof.Proof.Gen.ReferenceNormIdeal.Read
public import proofs.«01_k».proof.Proof.Gen.KernelProj.Frame
public import proofs.«01_k».proof.Proof.Gen.KernelProjIdeal.Frame
public import proofs.«01_k».proof.Proof.Gen.KernelProjIdeal.Value
public import proofs.«01_k».proof.Proof.Gen.ReferenceProjIdeal.Run
public import proofs.«01_k».proof.Proof.Gen.ReferenceProjIdeal.Read
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Gen.KernelDout.Frame
public import proofs.«01_k».proof.Proof.Gen.KernelDoutIdeal.Frame
public import proofs.«01_k».proof.Proof.Gen.KernelDoutIdeal.Value
public import proofs.«01_k».proof.Proof.Gen.ReferenceDoutIdeal.Run
public import proofs.«01_k».proof.Proof.Gen.ReferenceDoutIdeal.Read
public import proofs.«01_k».proof.Proof.Gen.KernelDy.Frame
public import proofs.«01_k».proof.Proof.Gen.KernelDyIdeal.Frame
public import proofs.«01_k».proof.Proof.Gen.KernelDyIdeal.Value
public import proofs.«01_k».proof.Proof.Gen.ReferenceDyIdeal.Run
public import proofs.«01_k».proof.Proof.Gen.ReferenceDyIdeal.Read
public import proofs.«01_k».proof.Proof.Gen.KernelNormIn.Frame
public import proofs.«01_k».proof.Proof.Gen.KernelNormInIdeal.Frame
public import proofs.«01_k».proof.Proof.Gen.KernelNormInIdeal.Value
public import proofs.«01_k».proof.Proof.Gen.ReferenceNormInIdeal.Run
public import proofs.«01_k».proof.Proof.Gen.ReferenceNormInIdeal.Read
public import proofs.«01_k».proof.Proof.Gen.KernelFUp.Frame
public import proofs.«01_k».proof.Proof.Gen.KernelFUpIdeal.Frame
public import proofs.«01_k».proof.Proof.Gen.KernelFUpIdeal.Value
public import proofs.«01_k».proof.Proof.Gen.ReferenceFUpIdeal.Run
public import proofs.«01_k».proof.Proof.Gen.ReferenceFUpIdeal.Read
public import proofs.«01_k».proof.Proof.Gen.KernelFDown.Frame
public import proofs.«01_k».proof.Proof.Gen.KernelFDownIdeal.Frame
public import proofs.«01_k».proof.Proof.Gen.KernelFDownIdeal.Value
public import proofs.«01_k».proof.Proof.Gen.ReferenceFDownIdeal.Run
public import proofs.«01_k».proof.Proof.Gen.ReferenceFDownIdeal.Read
public import proofs.«01_k».proof.Proof.Gen.KernelFOut.Frame
public import proofs.«01_k».proof.Proof.Gen.KernelFOutIdeal.Frame
public import proofs.«01_k».proof.Proof.Gen.KernelFOutIdeal.Value
public import proofs.«01_k».proof.Proof.Gen.ReferenceFOutIdeal.Run
public import proofs.«01_k».proof.Proof.Gen.ReferenceFOutIdeal.Read
public import proofs.«01_k».proof.Proof.Gen.KernelFIn.Frame
public import proofs.«01_k».proof.Proof.Gen.KernelFInIdeal.Frame
public import proofs.«01_k».proof.Proof.Gen.KernelFInIdeal.Value
public import proofs.«01_k».proof.Proof.Gen.ReferenceFInIdeal.Run
public import proofs.«01_k».proof.Proof.Gen.ReferenceFInIdeal.Read
public import proofs.«01_k».proof.Proof.Gen.KernelFQ.Frame
public import proofs.«01_k».proof.Proof.Gen.KernelFQIdeal.Frame
public import proofs.«01_k».proof.Proof.Gen.KernelFQIdeal.Value
public import proofs.«01_k».proof.Proof.Gen.ReferenceFQIdeal.Run
public import proofs.«01_k».proof.Proof.Gen.ReferenceFQIdeal.Read
public import proofs.«01_k».proof.Proof.Gen.KernelNormQ.Frame
public import proofs.«01_k».proof.Proof.Gen.KernelNormQIdeal.Frame
public import proofs.«01_k».proof.Proof.Gen.KernelNormQIdeal.Value
public import proofs.«01_k».proof.Proof.Gen.ReferenceNormQIdeal.Run
public import proofs.«01_k».proof.Proof.Gen.ReferenceNormQIdeal.Read
public import proofs.«01_k».proof.Proof.Gen.KernelFLast.Frame
public import proofs.«01_k».proof.Proof.Gen.KernelFLastIdeal.Frame
public import proofs.«01_k».proof.Proof.Gen.KernelFLastIdeal.Value
public import proofs.«01_k».proof.Proof.Gen.ReferenceFLastIdeal.Run
public import proofs.«01_k».proof.Proof.Gen.ReferenceFLastIdeal.Read
public import proofs.«01_k».proof.Proof.Gen.KernelFAttn.Frame
public import proofs.«01_k».proof.Proof.Gen.KernelFAttnIdeal.Frame
public import proofs.«01_k».proof.Proof.Gen.KernelFAttnIdeal.Value
public import proofs.«01_k».proof.Proof.Gen.ReferenceFAttnIdeal.Run
public import proofs.«01_k».proof.Proof.Gen.ReferenceFAttnIdeal.Read
public import proofs.«01_k».proof.Proof.Gen.KernelFKv.Frame
public import proofs.«01_k».proof.Proof.Gen.KernelFKvIdeal.Frame
public import proofs.«01_k».proof.Proof.Gen.KernelFKvIdeal.Value
public import proofs.«01_k».proof.Proof.Gen.ReferenceFKvIdeal.Run
public import proofs.«01_k».proof.Proof.Gen.ReferenceFKvIdeal.Read
public import proofs.«01_k».proof.Proof.Gen.KernelKv.Frame
public import proofs.«01_k».proof.Proof.Gen.KernelKvIdeal.Frame
public import proofs.«01_k».proof.Proof.Gen.KernelKvIdeal.Value
public import proofs.«01_k».proof.Proof.Gen.ReferenceKvIdeal.Run
public import proofs.«01_k».proof.Proof.Gen.ReferenceKvIdeal.Read
public import proofs.«01_k».proof.Proof.Gen.KernelMem.Frame
public import proofs.«01_k».proof.Proof.Gen.KernelMemIdeal.Frame
public import proofs.«01_k».proof.Proof.Gen.KernelMemIdeal.Value
public import proofs.«01_k».proof.Proof.Gen.ReferenceMemIdeal.Run
public import proofs.«01_k».proof.Proof.Gen.ReferenceMemIdeal.Read
public import proofs.«01_k».proof.Proof.Gen.KernelNormMem.Frame
public import proofs.«01_k».proof.Proof.Gen.KernelNormMemIdeal.Frame
public import proofs.«01_k».proof.Proof.Gen.KernelNormMemIdeal.Value
public import proofs.«01_k».proof.Proof.Gen.ReferenceNormMemIdeal.Run
public import proofs.«01_k».proof.Proof.Gen.ReferenceNormMemIdeal.Read
public import proofs.«01_k».proof.Proof.Gen.KernelFNorm.Frame
public import proofs.«01_k».proof.Proof.Gen.KernelFNormIdeal.Frame
public import proofs.«01_k».proof.Proof.Gen.KernelFNormIdeal.Value
public import proofs.«01_k».proof.Proof.Gen.ReferenceFNormIdeal.Run
public import proofs.«01_k».proof.Proof.Gen.ReferenceFNormIdeal.Read
public import proofs.«01_k».proof.Proof.Gen.KernelFNormMem.Frame
public import proofs.«01_k».proof.Proof.Gen.KernelFNormMemIdeal.Frame
public import proofs.«01_k».proof.Proof.Gen.KernelFNormMemIdeal.Value
public import proofs.«01_k».proof.Proof.Gen.ReferenceFNormMemIdeal.Run
public import proofs.«01_k».proof.Proof.Gen.ReferenceFNormMemIdeal.Read
public import proofs.«01_k».proof.Proof.Gen.KernelLoss.Frame
public import proofs.«01_k».proof.Proof.Gen.KernelLossIdeal.Frame
public import proofs.«01_k».proof.Proof.Gen.KernelLossIdeal.Value
public import proofs.«01_k».proof.Proof.Gen.ReferenceLossIdeal.Run
public import proofs.«01_k».proof.Proof.Gen.ReferenceLossIdeal.Read
public import proofs.«01_k».proof.Proof.Gen.KernelAdam.Frame
public import proofs.«01_k».proof.Proof.Gen.KernelAdamIdeal.Frame
public import proofs.«01_k».proof.Proof.Gen.KernelAdamIdeal.Value
public import proofs.«01_k».proof.Proof.Gen.ReferenceAdamIdeal.Run
public import proofs.«01_k».proof.Proof.Gen.ReferenceAdamIdeal.Read
public import proofs.«01_k».proof.Proof.Gen.KernelAdamIn.Frame
public import proofs.«01_k».proof.Proof.Gen.KernelAdamInIdeal.Frame
public import proofs.«01_k».proof.Proof.Gen.KernelAdamInIdeal.Value
public import proofs.«01_k».proof.Proof.Gen.ReferenceAdamInIdeal.Run
public import proofs.«01_k».proof.Proof.Gen.ReferenceAdamInIdeal.Read
public import proofs.«01_k».proof.Proof.Gen.KernelAdamSq.Frame
public import proofs.«01_k».proof.Proof.Gen.KernelAdamSqIdeal.Frame
public import proofs.«01_k».proof.Proof.Gen.KernelAdamSqIdeal.Value
public import proofs.«01_k».proof.Proof.Gen.ReferenceAdamSqIdeal.Run
public import proofs.«01_k».proof.Proof.Gen.ReferenceAdamSqIdeal.Read
public import proofs.«01_k».proof.Proof.Gen.KernelAdamKv.Frame
public import proofs.«01_k».proof.Proof.Gen.KernelAdamKvIdeal.Frame
public import proofs.«01_k».proof.Proof.Gen.KernelAdamKvIdeal.Value
public import proofs.«01_k».proof.Proof.Gen.ReferenceAdamKvIdeal.Run
public import proofs.«01_k».proof.Proof.Gen.ReferenceAdamKvIdeal.Read
public import proofs.«01_k».proof.Proof.Gen.KernelAdamSmall.Frame
public import proofs.«01_k».proof.Proof.Gen.KernelAdamSmallIdeal.Frame
public import proofs.«01_k».proof.Proof.Gen.KernelAdamSmallIdeal.Value
public import proofs.«01_k».proof.Proof.Gen.ReferenceAdamSmallIdeal.Run
public import proofs.«01_k».proof.Proof.Gen.ReferenceAdamSmallIdeal.Read
public import proofs.«01_k».proof.Proof.Gen.KernelSum.Frame
public import proofs.«01_k».proof.Proof.Gen.KernelSumIdeal.Frame
public import proofs.«01_k».proof.Proof.Gen.KernelSumIdeal.Value
public import proofs.«01_k».proof.Proof.Gen.ReferenceSumIdeal.Run
public import proofs.«01_k».proof.Proof.Gen.ReferenceSumIdeal.Read
public import proofs.«01_k».proof.Proof.Gen.KernelLnF.Frame
public import proofs.«01_k».proof.Proof.Gen.KernelLnFIdeal.Frame
public import proofs.«01_k».proof.Proof.Gen.KernelLnFIdeal.Value
public import proofs.«01_k».proof.Proof.Gen.ReferenceLnFIdeal.Run
public import proofs.«01_k».proof.Proof.Gen.ReferenceLnFIdeal.Read
public import proofs.«01_k».proof.Proof.Gen.KernelMixBF.Frame
public import proofs.«01_k».proof.Proof.Gen.KernelMixBFIdeal.Frame
public import proofs.«01_k».proof.Proof.Gen.KernelMixBFIdeal.Value
public import proofs.«01_k».proof.Proof.Gen.ReferenceMixBFIdeal.Run
public import proofs.«01_k».proof.Proof.Gen.ReferenceMixBFIdeal.Read
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts,
  Cert.KernelHidden.Gen.facts, Cert.KernelHiddenIdeal.Gen.facts, Cert.ReferenceHiddenIdeal.Gen.facts,
  Cert.KernelDown.Gen.facts, Cert.KernelDownIdeal.Gen.facts, Cert.ReferenceDownIdeal.Gen.facts,
  Cert.KernelUp.Gen.facts, Cert.KernelUpIdeal.Gen.facts, Cert.ReferenceUpIdeal.Gen.facts,
  Cert.KernelNorm.Gen.facts, Cert.KernelNormIdeal.Gen.facts, Cert.ReferenceNormIdeal.Gen.facts,
  Cert.KernelProj.Gen.facts, Cert.KernelProjIdeal.Gen.facts, Cert.ReferenceProjIdeal.Gen.facts,
  Cert.KernelIn.Gen.facts, Cert.KernelInIdeal.Gen.facts, Cert.ReferenceInIdeal.Gen.facts,
  Cert.KernelDout.Gen.facts, Cert.KernelDoutIdeal.Gen.facts, Cert.ReferenceDoutIdeal.Gen.facts,
  Cert.KernelDy.Gen.facts, Cert.KernelDyIdeal.Gen.facts, Cert.ReferenceDyIdeal.Gen.facts,
  Cert.KernelNormIn.Gen.facts, Cert.KernelNormInIdeal.Gen.facts, Cert.ReferenceNormInIdeal.Gen.facts,
  Cert.KernelFUp.Gen.facts, Cert.KernelFUpIdeal.Gen.facts, Cert.ReferenceFUpIdeal.Gen.facts,
  Cert.KernelFDown.Gen.facts, Cert.KernelFDownIdeal.Gen.facts, Cert.ReferenceFDownIdeal.Gen.facts,
  Cert.KernelFOut.Gen.facts, Cert.KernelFOutIdeal.Gen.facts, Cert.ReferenceFOutIdeal.Gen.facts,
  Cert.KernelFIn.Gen.facts, Cert.KernelFInIdeal.Gen.facts, Cert.ReferenceFInIdeal.Gen.facts,
  Cert.KernelFQ.Gen.facts, Cert.KernelFQIdeal.Gen.facts, Cert.ReferenceFQIdeal.Gen.facts,
  Cert.KernelNormQ.Gen.facts, Cert.KernelNormQIdeal.Gen.facts, Cert.ReferenceNormQIdeal.Gen.facts,
  Cert.KernelFLast.Gen.facts, Cert.KernelFLastIdeal.Gen.facts, Cert.ReferenceFLastIdeal.Gen.facts,
  Cert.KernelFAttn.Gen.facts, Cert.KernelFAttnIdeal.Gen.facts, Cert.ReferenceFAttnIdeal.Gen.facts,
  Cert.KernelFKv.Gen.facts, Cert.KernelFKvIdeal.Gen.facts, Cert.ReferenceFKvIdeal.Gen.facts,
  Cert.KernelKv.Gen.facts, Cert.KernelKvIdeal.Gen.facts, Cert.ReferenceKvIdeal.Gen.facts,
  Cert.KernelMem.Gen.facts, Cert.KernelMemIdeal.Gen.facts, Cert.ReferenceMemIdeal.Gen.facts,
  Cert.KernelNormMem.Gen.facts, Cert.KernelNormMemIdeal.Gen.facts, Cert.ReferenceNormMemIdeal.Gen.facts,
  Cert.KernelFNorm.Gen.facts, Cert.KernelFNormIdeal.Gen.facts, Cert.ReferenceFNormIdeal.Gen.facts,
  Cert.KernelFNormMem.Gen.facts, Cert.KernelFNormMemIdeal.Gen.facts, Cert.ReferenceFNormMemIdeal.Gen.facts,
  Cert.KernelLoss.Gen.facts, Cert.KernelLossIdeal.Gen.facts, Cert.ReferenceLossIdeal.Gen.facts,
  Cert.KernelAdam.Gen.facts, Cert.KernelAdamIdeal.Gen.facts, Cert.ReferenceAdamIdeal.Gen.facts,
  Cert.KernelAdamIn.Gen.facts, Cert.KernelAdamInIdeal.Gen.facts, Cert.ReferenceAdamInIdeal.Gen.facts,
  Cert.KernelAdamSq.Gen.facts, Cert.KernelAdamSqIdeal.Gen.facts, Cert.ReferenceAdamSqIdeal.Gen.facts,
  Cert.KernelAdamKv.Gen.facts, Cert.KernelAdamKvIdeal.Gen.facts, Cert.ReferenceAdamKvIdeal.Gen.facts,
  Cert.KernelAdamSmall.Gen.facts, Cert.KernelAdamSmallIdeal.Gen.facts, Cert.ReferenceAdamSmallIdeal.Gen.facts,
  Cert.KernelSum.Gen.facts, Cert.KernelSumIdeal.Gen.facts, Cert.ReferenceSumIdeal.Gen.facts,
  Cert.KernelLnF.Gen.facts, Cert.KernelLnFIdeal.Gen.facts, Cert.ReferenceLnFIdeal.Gen.facts,
  Cert.KernelMixBF.Gen.facts, Cert.KernelMixBFIdeal.Gen.facts, Cert.ReferenceMixBFIdeal.Gen.facts,
  Cert.Pre_finite_qk.facts,
  Cert.AttnClaim.frame_kernel, Cert.AttnClaim.frame_ideal, Cert.AttnClaim.frame_ideal_pre, Cert.AttnClaim.frame_ref, Cert.AttnClaim.frame_ref_pre,
  Cert.HiddenClaim.frame_kernel _, Cert.HiddenClaim.frame_ideal _, Cert.HiddenClaim.frame_ref _,
  Cert.DownClaim.frame_kernel _, Cert.DownClaim.frame_ideal _, Cert.DownClaim.frame_ref _,
  Cert.UpClaim.frame_kernel _, Cert.UpClaim.frame_ideal _, Cert.UpClaim.frame_ref _,
  Cert.NormClaim.frame_kernel _, Cert.NormClaim.frame_ideal _, Cert.NormClaim.frame_ref _,
  Cert.ProjClaim.frame_kernel _, Cert.ProjClaim.frame_ideal _, Cert.ProjClaim.frame_ref _,
  Cert.InClaim.frame_kernel _, Cert.InClaim.frame_ideal _, Cert.InClaim.frame_ref _,
  Cert.DoutClaim.frame_kernel _, Cert.DoutClaim.frame_ideal _, Cert.DoutClaim.frame_ref _,
  Cert.DyClaim.frame_kernel _, Cert.DyClaim.frame_ideal _, Cert.DyClaim.frame_ref _,
  Cert.NormInClaim.frame_kernel _, Cert.NormInClaim.frame_ideal _, Cert.NormInClaim.frame_ref _,
  Cert.FUpClaim.frame_kernel _, Cert.FUpClaim.frame_ideal _, Cert.FUpClaim.frame_ref _,
  Cert.FDownClaim.frame_kernel _, Cert.FDownClaim.frame_ideal _, Cert.FDownClaim.frame_ref _,
  Cert.FOutClaim.frame_kernel _, Cert.FOutClaim.frame_ideal _, Cert.FOutClaim.frame_ref _,
  Cert.FInClaim.frame_kernel _, Cert.FInClaim.frame_ideal _, Cert.FInClaim.frame_ref _,
  Cert.FQClaim.frame_kernel _, Cert.FQClaim.frame_ideal _, Cert.FQClaim.frame_ref _,
  Cert.NormQClaim.frame_kernel _, Cert.NormQClaim.frame_ideal _, Cert.NormQClaim.frame_ref _,
  Cert.FLastClaim.frame_kernel _, Cert.FLastClaim.frame_ideal _, Cert.FLastClaim.frame_ref _,
  Cert.FAttnClaim.frame_kernel _, Cert.FAttnClaim.frame_ideal _, Cert.FAttnClaim.frame_ref _,
  Cert.FKvClaim.frame_kernel _, Cert.FKvClaim.frame_ideal _, Cert.FKvClaim.frame_ref _,
  Cert.KvClaim.frame_kernel _, Cert.KvClaim.frame_ideal _, Cert.KvClaim.frame_ref _,
  Cert.MemClaim.frame_kernel _, Cert.MemClaim.frame_ideal _, Cert.MemClaim.frame_ref _,
  Cert.NormMemClaim.frame_kernel _, Cert.NormMemClaim.frame_ideal _, Cert.NormMemClaim.frame_ref _,
  Cert.FNormClaim.frame_kernel _, Cert.FNormClaim.frame_ideal _, Cert.FNormClaim.frame_ref _,
  Cert.FNormMemClaim.frame_kernel _, Cert.FNormMemClaim.frame_ideal _, Cert.FNormMemClaim.frame_ref _,
  Cert.LossClaim.frame_kernel _, Cert.LossClaim.frame_ideal _, Cert.LossClaim.frame_ref _,
  Cert.AdamClaim.frame_kernel _, Cert.AdamClaim.frame_ideal _, Cert.AdamClaim.frame_ref _,
  Cert.AdamInClaim.frame_kernel _, Cert.AdamInClaim.frame_ideal _, Cert.AdamInClaim.frame_ref _,
  Cert.AdamSqClaim.frame_kernel _, Cert.AdamSqClaim.frame_ideal _, Cert.AdamSqClaim.frame_ref _,
  Cert.AdamKvClaim.frame_kernel _, Cert.AdamKvClaim.frame_ideal _, Cert.AdamKvClaim.frame_ref _,
  Cert.AdamSmallClaim.frame_kernel _, Cert.AdamSmallClaim.frame_ideal _, Cert.AdamSmallClaim.frame_ref _,
  Cert.SumClaim.frame_kernel _, Cert.SumClaim.frame_ideal _, Cert.SumClaim.frame_ref _,
  Cert.LnFClaim.frame_kernel _, Cert.LnFClaim.frame_ideal _, Cert.LnFClaim.frame_ref _,
  Cert.MixBFClaim.frame_kernel _, Cert.MixBFClaim.frame_ideal _, Cert.MixBFClaim.frame_ref _,
  trivial, Cert.AttnClaim.algebraic,
  trivial, Cert.HiddenClaim.algebraic _ _,
  trivial, Cert.DownClaim.algebraic _ _,
  trivial, Cert.UpClaim.algebraic _ _,
  trivial, Cert.NormClaim.algebraic _ _,
  trivial, Cert.ProjClaim.algebraic _ _,
  trivial, Cert.InClaim.algebraic _ _,
  trivial, Cert.DoutClaim.algebraic _ _,
  trivial, Cert.DyClaim.algebraic _ _,
  trivial, Cert.NormInClaim.algebraic _ _,
  trivial, Cert.FUpClaim.algebraic _ _,
  trivial, Cert.FDownClaim.algebraic _ _,
  trivial, Cert.FOutClaim.algebraic _ _,
  trivial, Cert.FInClaim.algebraic _ _,
  trivial, Cert.FQClaim.algebraic _ _,
  trivial, Cert.NormQClaim.algebraic _ _,
  trivial, Cert.FLastClaim.algebraic _ _,
  trivial, Cert.FAttnClaim.algebraic _ _,
  trivial, Cert.FKvClaim.algebraic _ _,
  trivial, Cert.KvClaim.algebraic _ _,
  trivial, Cert.MemClaim.algebraic _ _,
  trivial, Cert.NormMemClaim.algebraic _ _,
  trivial, Cert.FNormClaim.algebraic _ _,
  trivial, Cert.FNormMemClaim.algebraic _ _,
  trivial, Cert.LossClaim.algebraic _ _,
  trivial, Cert.AdamClaim.algebraic _ _,
  trivial, Cert.AdamInClaim.algebraic _ _,
  trivial, Cert.AdamSqClaim.algebraic _ _,
  trivial, Cert.AdamKvClaim.algebraic _ _,
  trivial, Cert.AdamSmallClaim.algebraic _ _,
  trivial, Cert.SumClaim.algebraic _ _,
  trivial, Cert.LnFClaim.algebraic _ _,
  trivial, Cert.MixBFClaim.algebraic _ _⟩

end Cert.Proof

end
